-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_gates [hPre_finite_gates : Cert.Pre_finite_gates.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_gates.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_gates [hPre_finite_gates : Cert.Pre_finite_gates.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_gates.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite_gates [hKernel12Ideal : Cert.Kernel12Ideal.Facts] [hPre_finite_gates : Cert.Pre_finite_gates.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_gates m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite_gates [hReference12Ideal : Cert.Reference12Ideal.Facts] [hPre_finite_gates : Cert.Pre_finite_gates.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_gates m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v34) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite_gates [hKernel12Ideal : Cert.Kernel12Ideal.Facts] [hReference12Ideal : Cert.Reference12Ideal.Facts] [hPre_finite_gates : Cert.Pre_finite_gates.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_gates m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)) (v8 : (c : Dev Cert.Kernel12Ideal.nD) → Buf (Elt Ideal) ((c.tc : Thread Cert.Kernel12Ideal.nD Cert.Kernel12Ideal.τ).loc Cert.Kernel12Ideal.main_v0_8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_v0_8) = v8 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v101) = v0 c
          ∧ r.2.mem ((c.tc : Thread Cert.Reference12Ideal.nD Cert.Reference12Ideal.τ).loc Cert.Reference12Ideal.main_v102) = v1 c
          ∧ r.2.mem ((c.tc : Thread Cert.Reference12Ideal.nD Cert.Reference12Ideal.τ).loc Cert.Reference12Ideal.main_v103) = v2 c
          ∧ r.2.mem ((c.tc : Thread Cert.Reference12Ideal.nD Cert.Reference12Ideal.τ).loc Cert.Reference12Ideal.main_v104) = v3 c
          ∧ r.2.mem ((c.tc : Thread Cert.Reference12Ideal.nD Cert.Reference12Ideal.τ).loc Cert.Reference12Ideal.main_v100) = v4 c
          ∧ r.2.mem ((c.tc : Thread Cert.Reference12Ideal.nD Cert.Reference12Ideal.τ).loc Cert.Reference12Ideal.main_v105) = v5 c
          ∧ r.2.mem ((c.tc : Thread Cert.Reference12Ideal.nD Cert.Reference12Ideal.τ).loc Cert.Reference12Ideal.main_v71) = v6 c
          ∧ r.2.mem ((c.tc : Thread Cert.Reference12Ideal.nD Cert.Reference12Ideal.τ).loc Cert.Reference12Ideal.main_v85) = v7 c
          ∧ r.2.mem ((c.tc : Thread Cert.Reference12Ideal.nD Cert.Reference12Ideal.τ).loc Cert.Reference12Ideal.main_v74) = v8 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v47) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_v11) = v1 c
          ∧ r.2.mem ((c.tc : Thread Cert.Reference18Ideal.nD Cert.Reference18Ideal.τ).loc Cert.Reference18Ideal.main_v31) = v2 c
          ∧ r.2.mem ((c.tc : Thread Cert.Reference18Ideal.nD Cert.Reference18Ideal.τ).loc Cert.Reference18Ideal.main_v36) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v133) = v0 c
          ∧ r.2.mem ((c.tc : Thread Cert.Reference19Ideal.nD Cert.Reference19Ideal.τ).loc Cert.Reference19Ideal.main_v125) = v1 c
          ∧ r.2.mem ((c.tc : Thread Cert.Reference19Ideal.nD Cert.Reference19Ideal.τ).loc Cert.Reference19Ideal.main_v134) = v2 c
          ∧ r.2.mem ((c.tc : Thread Cert.Reference19Ideal.nD Cert.Reference19Ideal.τ).loc Cert.Reference19Ideal.main_v68) = v3 c
          ∧ r.2.mem ((c.tc : Thread Cert.Reference19Ideal.nD Cert.Reference19Ideal.τ).loc Cert.Reference19Ideal.main_v61) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite_gates : Cert.Pre_finite_gates.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_gates (hKernel12Ideal := hKernel12Ideal) (hPre_finite_gates := hPre_finite_gates)
    ∧ quiescent_Reference12Ideal (hReference12Ideal := hReference12Ideal)
    ∧ quiescent_Reference12Ideal_pre_finite_gates (hReference12Ideal := hReference12Ideal) (hPre_finite_gates := hPre_finite_gates)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_gates (hKernel12Ideal := hKernel12Ideal) (hReference12Ideal := hReference12Ideal) (hPre_finite_gates := hPre_finite_gates)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x1024 : Shape := ⟨2, ![4096, 1024]⟩
abbrev S8x64x64 : Shape := ⟨3, ![8, 64, 64]⟩
abbrev S8x64x128x128 : Shape := ⟨4, ![8, 64, 128, 128]⟩
abbrev S8x64x64x64 : Shape := ⟨4, ![8, 64, 64, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  bcast_S_S8x64x64x64 : S_.BroadcastsInDim S8x64x64x64 (![] : Fin 0 → Fin S8x64x64x64.rank)
  reducesTo_S8x64x64x64_S_d0_1_2_3 : S8x64x64x64.ReducesTo [0, 1, 2, 3] S_

variable [Facts]

def fn_part2 {F : FTy → Type} [FloatOps F] (main_arg7 : FVec F S4096x1024 .f32) (main_arg8 : FVec F S4096x1024 .f32) (main_arg9 : FVec F S4096x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  main_v48

def fn_part1 {F : FTy → Type} [FloatOps F] (main_arg4 : FVec F S8x64x64 .f32) (main_arg5 : FVec F S8x64x128x128 .f32) (main_arg6 : FVec F S8x64x64x64 .f32) (main_arg7 : FVec F S4096x1024 .f32) (main_arg8 : FVec F S4096x1024 .f32) (main_arg9 : FVec F S4096x1024 .f32) (main_v13 : IVec S_ 1) (main_v16 : IVec S8x64x64 1) : IVec S_ 1 :=
  let main_c_5 : IVec S_ 1 := constantI S_ 1 1#1
  let main_v17 : IVec S_ 1 := (fun x v => Host.reduce IntOp.andi x v reducesTo_S8x64x64_S_d0_1_2 h_S_) main_v16 main_c_5
  let main_v18 : IVec S_ 1 := andi main_v13 main_v17
  let main_v19 : FVec F S8x64x64 .f32 := Host.absf main_arg4
  let main_cst_6 : FVec F S_ .f32 := constant S_ .f32 0x7F800000#32
  let main_v20 : FVec F S8x64x64 .f32 := broadcastInDim S8x64x64 ![] bcast_S_S8x64x64 main_cst_6
  let main_v21 : IVec S8x64x64 1 := cmpf .olt main_v19 main_v20
  let main_c_7 : IVec S_ 1 := constantI S_ 1 1#1
  let main_v22 : IVec S_ 1 := (fun x v => Host.reduce IntOp.andi x v reducesTo_S8x64x64_S_d0_1_2 h_S_) main_v21 main_c_7
  let main_v23 : IVec S_ 1 := andi main_v18 main_v22
  let main_v24 : FVec F S8x64x128x128 .f32 := Host.absf main_arg5
  let main_cst_8 : FVec F S_ .f32 := constant S_ .f32 0x7F800000#32
  let main_v25 : FVec F S8x64x128x128 .f32 := broadcastInDim S8x64x128x128 ![] bcast_S_S8x64x128x128 main_cst_8
  let main_v26 : IVec S8x64x128x128 1 := cmpf .olt main_v24 main_v25
  let main_c_9 : IVec S_ 1 := constantI S_ 1 1#1
  let main_v27 : IVec S_ 1 := (fun x v => Host.reduce IntOp.andi x v reducesTo_S8x64x128x128_S_d0_1_2_3 h_S_) main_v26 main_c_9
  let main_v28 : IVec S_ 1 := andi main_v23 main_v27
  let main_v29 : FVec F S8x64x64x64 .f32 := Host.absf main_arg6
  let main_cst_10 : FVec F S_ .f32 := constant S_ .f32 0x7F800000#32
  let main_v30 : FVec F S8x64x64x64 .f32 := broadcastInDim S8x64x64x64 ![] bcast_S_S8x64x64x64 main_cst_10
  let main_v31 : IVec S8x64x64x64 1 := cmpf .olt main_v29 main_v30
  let main_c_11 : IVec S_ 1 := constantI S_ 1 1#1
  let main_v32 : IVec S_ 1 := (fun x v => Host.reduce IntOp.andi x v reducesTo_S8x64x64x64_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S4096x1024 .f32) (main_arg3 : FVec F S8x64x64 .f32) (main_arg4 : FVec F S8x64x64 .f32) (main_arg5 : FVec F S8x64x128x128 .f32) (main_arg6 : FVec F S8x64x64x64 .f32) (main_arg7 : FVec F S4096x1024 .f32) (main_arg8 : FVec F S4096x1024 .f32) (main_arg9 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S8x64x64 .f32 := Host.absf main_arg3
  let main_cst_4 : FVec F S_ .f32 := constant S_ .f32 0x7F800000#32
  let main_v15 : FVec F S8x64x64 .f32 := broadcastInDim S8x64x64 ![] bcast_S_S8x64x64 main_cst_4
  let main_v16 : IVec S8x64x64 1 := cmpf .olt main_v14 main_v15
  fn_part1 (F := F) main_arg4 main_arg5 main_arg6 main_arg7 main_arg8 main_arg9 main_v13 main_v16
-- ==== Pre_finite_gates.lean ====
abbrev S4096x8448 : Shape := ⟨2, ![4096, 8448]⟩
abbrev S4096x1024 : Shape := ⟨2, ![4096, 1024]⟩
abbrev S1x128 : Shape := ⟨2, ![1, 128]⟩
abbrev S1x1024 : Shape := ⟨2, ![1, 1024]⟩
abbrev S_ : Shape := ⟨0, ![]⟩

class Facts : Prop where
  bcast_S_S4096x8448 : S_.BroadcastsInDim S4096x8448 (![] : Fin 0 → Fin S4096x8448.rank)
  reducesTo_S4096x8448_S_d0_1 : S4096x8448.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x128 : S_.BroadcastsInDim S1x128 (![] : Fin 0 → Fin S1x128.rank)
  reducesTo_S1x128_S_d0_1 : S1x128.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x128 .f32) (main_arg5 : FVec F S1x1024 .f32) (main_arg6 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x8448 .f32) (main_arg1 : FVec F S4096x1024 .f32) (main_arg2 : FVec F S4096x1024 .f32) (main_arg3 : FVec F S4096x1024 .f32) (main_arg4 : FVec F S1x128 .f32) (main_arg5 : FVec F S1x1024 .f32) (main_arg6 : FVec F S4096x1024 .f32) : IVec S_ 1 :=
  let main_v0 : FVec F S4096x8448 .f32 := Host.absf main_arg0
  let main_cst : FVec F S_ .f32 := constant S_ .f32 0x7F800000#32
  let main_v1 : FVec F S4096x8448 .f32 := broadcastInDim S4096x8448 ![] bcast_S_S4096x8448 main_cst
  let main_v2 : IVec S4096x8448 1 := cmpf .olt main_v0 main_v1
  let main_c : IVec S_ 1 := constantI S_ 1 1#1
  let main_v3 : IVec S_ 1 := (fun x v => Host.reduce IntOp.andi x v reducesTo_S4096x8448_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S4096x1024 : Shape := ⟨2, ![4096, 1024]⟩
abbrev S8x64x64 : Shape := ⟨3, ![8, 64, 64]⟩
abbrev S8x64x128x128 : Shape := ⟨4, ![8, 64, 128, 128]⟩
abbrev S8x64x64x64 : Shape := ⟨4, ![8, 64, 64, 64]⟩
abbrev S64x1024 : Shape := ⟨2, ![64, 1024]⟩
abbrev S8x1x128x128 : Shape := ⟨4, ![8, 1, 128, 128]⟩
abbrev S8x1x64x64 : Shape := ⟨4, ![8, 1, 64, 64]⟩
abbrev S8x128x128 : Shape := ⟨3, ![8, 128, 128]⟩
abbrev S64x128 : Shape := ⟨2, ![64, 128]⟩
abbrev S1x64x128 : Shape := ⟨3, ![1, 64, 128]⟩
abbrev S8x64x128 : Shape := ⟨3, ![8, 64, 128]⟩
abbrev S8x1x64 : Shape := ⟨3, ![8, 1, 64]⟩
abbrev S64x64 : Shape := ⟨2, ![64, 64]⟩
abbrev S1x64x64 : Shape := ⟨3, ![1, 64, 64]⟩
abbrev S8x64 : Shape := ⟨2, ![8, 64]⟩
abbrev S8x64x1 : Shape := ⟨3, ![8, 64, 1]⟩
abbrev S8x1 : Shape := ⟨2, ![8, 1]⟩
abbrev S8x1x1 : Shape := ⟨3, ![8, 1, 1]⟩
abbrev S8x128 : Shape := ⟨2, ![8, 128]⟩
abbrev S8x128x1 : Shape := ⟨3, ![8, 128, 1]⟩
abbrev S8x64x256 : Shape := ⟨3, ![8, 64, 256]⟩
abbrev S1x1x64 : Shape := ⟨3, ![1, 1, 64]⟩

abbrev nBuf : Space → Nat
  | .hbm => 15
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x64x64, .f32⟩
  | .hbm, ⟨4, _⟩ => ⟨S8x64x64, .f32⟩
  | .hbm, ⟨5, _⟩ => ⟨S8x64x128x128, .f32⟩
  | .hbm, ⟨6, _⟩ => ⟨S8x64x64x64, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S8x64x64, .f32⟩
  | .hbm, ⟨14, _⟩ => ⟨S8x64x64, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S8x64x64, .f32⟩
  | .local _ .vmem, ⟨7, _⟩ => ⟨S8x64x64, .f32⟩
  | .local _ .vmem, ⟨8, _⟩ => ⟨S8x1x128x128, .f32⟩
  | .local _ .vmem, ⟨9, _⟩ => ⟨S8x1x128x128, .f32⟩
  | .local _ .vmem, ⟨10, _⟩ => ⟨S8x1x64x64, .f32⟩
  | .local _ .vmem, ⟨11, _⟩ => ⟨S8x1x64x64, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S8x64x64, .f32⟩
  | .local _ .vmem, ⟨25, _⟩ => ⟨S8x64x64, .f32⟩
  | .local _ .vmem, ⟨26, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨2, ![1, 64], ![false, false]⟩

def k0_off1 (i : grid0.Coords) : Fin 3 → Nat :=
  let c0_41 : Index := 0#32
  let c63_i32 : BitVec 32 := 63#32
  let arg1 : BitVec 32 := BitVec.ofNat 32 (i 1).val
  let v0 : BitVec 32 := Scalar.subi c63_i32 arg1
  let v55 : Index := Scalar.indexCast v0
  let c0_42 : Index := 0#32
  ![0, v55.toNat, 0]
def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  ![v0.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S8x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S8x64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== ReferenceIdeal.lean ====
abbrev S4096x1024 : Shape := ⟨2, ![4096, 1024]⟩
abbrev S8x64x64 : Shape := ⟨3, ![8, 64, 64]⟩
abbrev S8x64x128x128 : Shape := ⟨4, ![8, 64, 128, 128]⟩
abbrev S8x64x64x64 : Shape := ⟨4, ![8, 64, 64, 64]⟩
abbrev S64x64x8x128 : Shape := ⟨4, ![64, 64, 8, 128]⟩
abbrev S64x8x64x128 : Shape := ⟨4, ![64, 8, 64, 128]⟩
abbrev S64x8x64 : Shape := ⟨3, ![64, 8, 64]⟩
abbrev S64x8x128x128 : Shape := ⟨4, ![64, 8, 128, 128]⟩
abbrev S64x8x64x64 : Shape := ⟨4, ![64, 8, 64, 64]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x64 : Shape := ⟨3, ![1, 8, 64]⟩
abbrev S8x64 : Shape := ⟨2, ![8, 64]⟩
abbrev S1x8x128x128 : Shape := ⟨4, ![1, 8, 128, 128]⟩
abbrev S1x8x64x64 : Shape := ⟨4, ![1, 8, 64, 64]⟩
abbrev S8x64x256 : Shape := ⟨3, ![8, 64, 256]⟩
abbrev S8x64x1 : Shape := ⟨3, ![8, 64, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x64 : Shape := ⟨3, ![8, 1, 64]⟩
abbrev S8x1 : Shape := ⟨2, ![8, 1]⟩
abbrev S8 : Shape := ⟨1, ![8]⟩
abbrev S8x1x1 : Shape := ⟨3, ![8, 1, 1]⟩
abbrev S8x128x64 : Shape := ⟨3, ![8, 128, 64]⟩

abbrev nBuf : Space → Nat
  | .hbm => 347
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S8x64x64, .f32⟩
  | 4 => ⟨S8x64x64, .f32⟩
  | 5 => ⟨S8x64x128x128, .f32⟩
  | 6 => ⟨S8x64x64x64, .f32⟩
  | 7 => ⟨S4096x1024, .f32⟩
  | 8 => ⟨S4096x1024, .f32⟩
  | 9 => ⟨S4096x1024, .f32⟩
  | 10 => ⟨S64x64x8x128, .f32⟩
  | 11 => ⟨S64x8x64x128, .f32⟩
  | 12 => ⟨S64x64x8x128, .f32⟩
  | 13 => ⟨S64x8x64x128, .f32⟩
  | 14 => ⟨S64x64x8x128, .f32⟩
  | 15 => ⟨S64x8x64x128, .f32⟩
  | 16 => ⟨S64x8x64, .f32⟩
  | 17 => ⟨S64x8x64, .f32⟩
  | 18 => ⟨S64x8x128x128, .f32⟩
  | 19 => ⟨S64x8x64x64, .f32⟩
  | 20 => ⟨S64x64x8x128, .f32⟩
  | 21 => ⟨S64x8x64x128, .f32⟩
  | 22 => ⟨S64x64x8x128, .f32⟩
  | 23 => ⟨S64x8x64x128, .f32⟩
  | 24 => ⟨S64x64x8x128, .f32⟩
  | 25 => ⟨S64x8x64x128, .f32⟩
  | 26 => ⟨S_, .f32⟩
  | 27 => ⟨S8x128x128, .f32⟩
  | 28 => ⟨S_, .f32⟩
  | 29 => ⟨S64x8x64x128, .f32⟩
  | 30 => ⟨S_, .f32⟩
  | 31 => ⟨S64x8x64x128, .f32⟩
  | 32 => ⟨S_, .f32⟩
  | 33 => ⟨S64x8x64x128, .f32⟩
  | 34 => ⟨S_, .f32⟩
  | 35 => ⟨S64x8x64, .f32⟩
  | 36 => ⟨S_, .f32⟩
  | 37 => ⟨S64x8x64, .f32⟩
  | 38 => ⟨S_, .i32⟩
  | 39 => ⟨S64x8x64x128, .f32⟩
  | 40 => ⟨S64x8x64x128, .f32⟩
  | 41 => ⟨S64x8x64x128, .f32⟩
  | 42 => ⟨S64x8x64, .f32⟩
  | 43 => ⟨S64x8x64, .f32⟩
  | 44 => ⟨S64x8x128x128, .f32⟩
  | 45 => ⟨S64x8x64x64, .f32⟩
  | 46 => ⟨S64x8x64x128, .f32⟩
  | 47 => ⟨S64x8x64x128, .f32⟩
  | 48 => ⟨S64x8x64x128, .f32⟩
  | 49 => ⟨S_, .i32⟩
  | 50 => ⟨S8x128x128, .f32⟩
  | 51 => ⟨S64x8x64x128, .f32⟩
  | 52 => ⟨S64x8x64x128, .f32⟩
  | 53 => ⟨S64x8x64x128, .f32⟩
  | 54 => ⟨S64x8x64, .f32⟩
  | 55 => ⟨S64x8x64, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S1x8x64x128, .f32⟩
  | 66 => ⟨S8x64x128, .f32⟩
  | 67 => ⟨S_, .i32⟩
  | 68 => ⟨S_, .i32⟩
  | 69 => ⟨S_, .i32⟩
  | 70 => ⟨S1x8x64x128, .f32⟩
  | 71 => ⟨S8x64x128, .f32⟩
  | 72 => ⟨S_, .i32⟩
  | 73 => ⟨S_, .i32⟩
  | 74 => ⟨S_, .i32⟩
  | 75 => ⟨S1x8x64x128, .f32⟩
  | 76 => ⟨S8x64x128, .f32⟩
  | 77 => ⟨S_, .i32⟩
  | 78 => ⟨S_, .i32⟩
  | 79 => ⟨S1x8x64, .f32⟩
  | 80 => ⟨S8x64, .f32⟩
  | 81 => ⟨S_, .i32⟩
  | 82 => ⟨S_, .i32⟩
  | 83 => ⟨S1x8x64, .f32⟩
  | 84 => ⟨S8x64, .f32⟩
  | 85 => ⟨S_, .i32⟩
  | 86 => ⟨S_, .i32⟩
  | 87 => ⟨S_, .i32⟩
  | 88 => ⟨S1x8x128x128, .f32⟩
  | 89 => ⟨S8x128x128, .f32⟩
  | 90 => ⟨S_, .i32⟩
  | 91 => ⟨S_, .i32⟩
  | 92 => ⟨S_, .i32⟩
  | 93 => ⟨S1x8x64x64, .f32⟩
  | 94 => ⟨S8x64x64, .f32⟩
  | 95 => ⟨S_, .i32⟩
  | 96 => ⟨S_, .i32⟩
  | 97 => ⟨S_, .i32⟩
  | 98 => ⟨S1x8x64x128, .f32⟩
  | 99 => ⟨S8x64x128, .f32⟩
  | 100 => ⟨S_, .i32⟩
  | 101 => ⟨S_, .i32⟩
  | 102 => ⟨S_, .i32⟩
  | 103 => ⟨S1x8x64x128, .f32⟩
  | 104 => ⟨S8x64x128, .f32⟩
  | 105 => ⟨S_, .i32⟩
  | 106 => ⟨S_, .i32⟩
  | 107 => ⟨S_, .i32⟩
  | 108 => ⟨S1x8x64x128, .f32⟩
  | 109 => ⟨S8x64x128, .f32⟩
  | 110 => ⟨S8x64x256, .f32⟩
  | 111 => ⟨S_, .f32⟩
  | 112 => ⟨S_, .f32⟩
  | 113 => ⟨S8x64, .f32⟩
  | 114 => ⟨S8x64x1, .f32⟩
  | 115 => ⟨S64, .i32⟩
  | 116 => ⟨S64x1, .i32⟩
  | 117 => ⟨S1x64, .i32⟩
  | 118 => ⟨S64x64, .i32⟩
  | 119 => ⟨S64x64, .i32⟩
  | 120 => ⟨S64x64, .i1⟩
  | 121 => ⟨S64x1, .i32⟩
  | 122 => ⟨S1x64, .i32⟩
  | 123 => ⟨S64x64, .i32⟩
  | 124 => ⟨S64x64, .i32⟩
  | 125 => ⟨S64x64, .i1⟩
  | 126 => ⟨S8x64x1, .f32⟩
  | 127 => ⟨S8x1x64, .f32⟩
  | _ => ⟨S4096x1024, .f32⟩

abbrev hbmTy0_1 (i : Nat) : BufTy := match i % 128 with
  | 0 => ⟨S8x64x64, .f32⟩
  | 1 => ⟨S8x64x64, .f32⟩
  | 2 => ⟨S8x64x64, .f32⟩
  | 3 => ⟨S_, .f32⟩
  | 4 => ⟨S_, .f32⟩
  | 5 => ⟨S8x64x64, .i1⟩
  | 6 => ⟨S8x64x64, .f32⟩
  | 7 => ⟨S8x64x64, .f32⟩
  | 8 => ⟨S_, .f32⟩
  | 9 => ⟨S8x64x64, .f32⟩
  | 10 => ⟨S8x64x64, .f32⟩
  | 11 => ⟨S8x64x128, .f32⟩
  | 12 => ⟨S8x64x128, .f32⟩
  | 13 => ⟨S8x64x64, .f32⟩
  | 14 => ⟨S8x64x64, .f32⟩
  | 15 => ⟨S_, .f32⟩
  | 16 => ⟨S_, .f32⟩
  | 17 => ⟨S8x64x64, .i1⟩
  | 18 => ⟨S8x64x64, .f32⟩
  | 19 => ⟨S8x64x64, .f32⟩
  | 20 => ⟨S_, .f32⟩
  | 21 => ⟨S8x64x64, .f32⟩
  | 22 => ⟨S8x64x128, .f32⟩
  | 23 => ⟨S8x64x128, .f32⟩
  | 24 => ⟨S8x64, .f32⟩
  | 25 => ⟨S8x64x1, .f32⟩
  | 26 => ⟨S8x64x128, .f32⟩
  | 27 => ⟨S8x64x128, .f32⟩
  | 28 => ⟨S8x64x256, .f32⟩
  | 29 => ⟨S8x64x256, .f32⟩
  | 30 => ⟨S8x64x256, .f32⟩
  | 31 => ⟨S8x64x128, .f32⟩
  | 32 => ⟨S8x64x128, .f32⟩
  | 33 => ⟨S8x64x64, .f32⟩
  | 34 => ⟨S8x64x64, .f32⟩
  | 35 => ⟨S8x64, .f32⟩
  | 36 => ⟨S8x64x1, .f32⟩
  | 37 => ⟨S8x64x128, .f32⟩
  | 38 => ⟨S8x64x128, .f32⟩
  | 39 => ⟨S8x1, .f32⟩
  | 40 => ⟨S8, .f32⟩
  | 41 => ⟨S8x1, .f32⟩
  | 42 => ⟨S8x64, .f32⟩
  | 43 => ⟨S8x64, .f32⟩
  | 44 => ⟨S8x64, .f32⟩
  | 45 => ⟨S8x64x1, .f32⟩
  | 46 => ⟨S8x64x128, .f32⟩
  | 47 => ⟨S8x64x128, .f32⟩
  | 48 => ⟨S8x64x128, .f32⟩
  | 49 => ⟨S8x64x128, .f32⟩
  | 50 => ⟨S8x64x128, .f32⟩
  | 51 => ⟨S8x64x128, .f32⟩
  | 52 => ⟨S8x64x128, .f32⟩
  | 53 => ⟨S8, .f32⟩
  | 54 => ⟨S8x1x1, .f32⟩
  | 55 => ⟨S8x128x128, .f32⟩
  | 56 => ⟨S8x128x128, .f32⟩
  | 57 => ⟨S8x128x128, .f32⟩
  | 58 => ⟨S8x128x128, .f32⟩
  | 59 => ⟨S8x128x64, .f32⟩
  | 60 => ⟨S8x64x128, .f32⟩
  | 61 => ⟨S8x128x64, .f32⟩
  | 62 => ⟨S8x64x128, .f32⟩
  | 63 => ⟨S8x128x128, .f32⟩
  | 64 => ⟨S_, .f32⟩
  | 65 => ⟨S8, .f32⟩
  | 66 => ⟨S8x1x1, .f32⟩
  | 67 => ⟨S8x128x128, .f32⟩
  | 68 => ⟨S8x128x128, .f32⟩
  | 69 => ⟨S_, .f32⟩
  | 70 => ⟨S8, .f32⟩
  | 71 => ⟨S8, .f32⟩
  | 72 => ⟨S8x128x64, .f32⟩
  | 73 => ⟨S8x64x128, .f32⟩
  | 74 => ⟨S8x64x128, .f32⟩
  | 75 => ⟨S8x64x64, .f32⟩
  | 76 => ⟨S8x128x128, .f32⟩
  | 77 => ⟨S8x128x128, .f32⟩
  | 78 => ⟨S8x128x128, .f32⟩
  | 79 => ⟨S8x64x128, .f32⟩
  | 80 => ⟨S8x64x128, .f32⟩
  | 81 => ⟨S8x128x128, .f32⟩
  | 82 => ⟨S8x128x128, .f32⟩
  | 83 => ⟨S8x128x128, .f32⟩
  | 84 => ⟨S8x64x128, .f32⟩
  | 85 => ⟨S8x64x128, .f32⟩
  | 86 => ⟨S_, .f32⟩
  | 87 => ⟨S8x64, .f32⟩
  | 88 => ⟨S8x64x1, .f32⟩
  | 89 => ⟨S8x64x128, .f32⟩
  | 90 => ⟨S8x64x128, .f32⟩
  | 91 => ⟨S_, .f32⟩
  | 92 => ⟨S8x64, .f32⟩
  | 93 => ⟨S8x64, .f32⟩
  | 94 => ⟨S_, .f32⟩
  | 95 => ⟨S8, .f32⟩
  | 96 => ⟨S8x1, .f32⟩
  | 97 => ⟨S8x64, .f32⟩
  | 98 => ⟨S_, .f32⟩
  | 99 => ⟨S8, .f32⟩
  | 100 => ⟨S8, .f32⟩
  | 101 => ⟨S8x1, .f32⟩
  | 102 => ⟨S_, .f32⟩
  | 103 => ⟨S8x64, .f32⟩
  | 104 => ⟨S8x64, .f32⟩
  | 105 => ⟨S8x64x128, .f32⟩
  | 106 => ⟨S_, .f32⟩
  | 107 => ⟨S8x64, .f32⟩
  | 108 => ⟨S8x64x1, .f32⟩
  | 109 => ⟨S8x64x128, .f32⟩
  | 110 => ⟨S8x64x128, .f32⟩
  | 111 => ⟨S_, .f32⟩
  | 112 => ⟨S8x64, .f32⟩
  | 113 => ⟨S8x64, .f32⟩
  | 114 => ⟨S8x64, .f32⟩
  | 115 => ⟨S8x64x64, .f32⟩
  | 116 => ⟨S8x64x64, .f32⟩
  | 117 => ⟨S8x64x128, .f32⟩
  | 118 => ⟨S8x64x128, .f32⟩
  | 119 => ⟨S8x64x128, .f32⟩
  | 120 => ⟨S8x64x128, .f32⟩
  | 121 => ⟨S_, .f32⟩
  | 122 => ⟨S8x64x256, .f32⟩
  | 123 => ⟨S_, .f32⟩
  | 124 => ⟨S8x64x256, .f32⟩
  | 125 => ⟨S8x64x256, .f32⟩
  | 126 => ⟨S8x64x256, .f32⟩
  | 127 => ⟨S8x64x256, .f32⟩
  | _ => ⟨S4096x1024, .f32⟩

abbrev hbmTy0_2 (i : Nat) : BufTy := match i % 128 with
  | 0 => ⟨S8x64x64, .f32⟩
  | 1 => ⟨S8x64x128, .f32⟩
  | 2 => ⟨S8x64x128, .f32⟩
  | 3 => ⟨S8x64x128, .f32⟩
  | 4 => ⟨S_, .f32⟩
  | 5 => ⟨S8x64, .f32⟩
  | 6 => ⟨S8x64x1, .f32⟩
  | 7 => ⟨S8x64x128, .f32⟩
  | 8 => ⟨S8x64x128, .f32⟩
  | 9 => ⟨S_, .f32⟩
  | 10 => ⟨S8x64, .f32⟩
  | 11 => ⟨S8x64, .f32⟩
  | 12 => ⟨S8x64, .f32⟩
  | 13 => ⟨S8x64x128, .f32⟩
  | 14 => ⟨S_, .f32⟩
  | 15 => ⟨S8x64, .f32⟩
  | 16 => ⟨S8x64x1, .f32⟩
  | 17 => ⟨S8x64x128, .f32⟩
  | 18 => ⟨S8x64x128, .f32⟩
  | 19 => ⟨S_, .f32⟩
  | 20 => ⟨S8x64x64, .f32⟩
  | 21 => ⟨S8x64x64, .f32⟩
  | 22 => ⟨S8x64x64, .f32⟩
  | 23 => ⟨S8x64x64, .f32⟩
  | 24 => ⟨S8x64x64, .f32⟩
  | 25 => ⟨S8x64x128, .f32⟩
  | 26 => ⟨S8x64x128, .f32⟩
  | 27 => ⟨S8x64x128, .f32⟩
  | 28 => ⟨S8x64x128, .f32⟩
  | 29 => ⟨S8x64x128, .f32⟩
  | 30 => ⟨S_, .f32⟩
  | 31 => ⟨S8x64, .f32⟩
  | 32 => ⟨S8x64x1, .f32⟩
  | 33 => ⟨S8x64x1, .f32⟩
  | 34 => ⟨S8x64x128, .f32⟩
  | 35 => ⟨S8x64x128, .f32⟩
  | 36 => ⟨S8x64x128, .f32⟩
  | 37 => ⟨S8x64x64, .f32⟩
  | 38 => ⟨S_, .f32⟩
  | 39 => ⟨S8x64x64, .f32⟩
  | 40 => ⟨S8x64x64, .f32⟩
  | 41 => ⟨S_, .f32⟩
  | 42 => ⟨S8x64, .f32⟩
  | 43 => ⟨S8x64x1, .f32⟩
  | 44 => ⟨S8x64x64, .f32⟩
  | 45 => ⟨S_, .f32⟩
  | 46 => ⟨S8x64, .f32⟩
  | 47 => ⟨S8x1x64, .f32⟩
  | 48 => ⟨S_, .f32⟩
  | 49 => ⟨S8x64, .f32⟩
  | 50 => ⟨S8x64, .f32⟩
  | 51 => ⟨S_, .f32⟩
  | 52 => ⟨S8x64, .f32⟩
  | 53 => ⟨S8x64, .f32⟩
  | 54 => ⟨S8x64, .f32⟩
  | 55 => ⟨S_, .f32⟩
  | 56 => ⟨S_, .f32⟩
  | 57 => ⟨S8x64, .f32⟩
  | 58 => ⟨S1x8x64x128, .f32⟩
  | 59 => ⟨S_, .i32⟩
  | 60 => ⟨S_, .i32⟩
  | 61 => ⟨S_, .i32⟩
  | 62 => ⟨S64x8x64x128, .f32⟩
  | 63 => ⟨S1x8x64x128, .f32⟩
  | 64 => ⟨S_, .i32⟩
  | 65 => ⟨S_, .i32⟩
  | 66 => ⟨S_, .i32⟩
  | 67 => ⟨S64x8x64x128, .f32⟩
  | 68 => ⟨S1x8x64x128, .f32⟩
  | 69 => ⟨S_, .i32⟩
  | 70 => ⟨S_, .i32⟩
  | 71 => ⟨S_, .i32⟩
  | 72 => ⟨S64x8x64x128, .f32⟩
  | 73 => ⟨S1x8x64, .f32⟩
  | 74 => ⟨S_, .i32⟩
  | 75 => ⟨S_, .i32⟩
  | 76 => ⟨S64x8x64, .f32⟩
  | 77 => ⟨S1x8x64, .f32⟩
  | 78 => ⟨S_, .i32⟩
  | 79 => ⟨S_, .i32⟩
  | 80 => ⟨S64x8x64, .f32⟩
  | 81 => ⟨S_, .i32⟩
  | 82 => ⟨S_, .i32⟩
  | 83 => ⟨S64x64x8x128, .f32⟩
  | 84 => ⟨S4096x1024, .f32⟩
  | 85 => ⟨S64x64x8x128, .f32⟩
  | 86 => ⟨S4096x1024, .f32⟩
  | 87 => ⟨S64x64x8x128, .f32⟩
  | 88 => ⟨S4096x1024, .f32⟩
  | 89 => ⟨S8x64x64, .f32⟩
  | 90 => ⟨S8x64x64, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_c : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v22_3 : Ref sig .tc := ⟨.hbm, 42, rfl⟩
abbrev main_v22_4 : Ref sig .tc := ⟨.hbm, 43, rfl⟩
abbrev main_v22_5 : Ref sig .tc := ⟨.hbm, 44, rfl⟩
abbrev main_v22_6 : Ref sig .tc := ⟨.hbm, 45, rfl⟩
abbrev main_v22_7 : Ref sig .tc := ⟨.hbm, 46, rfl⟩
abbrev main_v22_8 : Ref sig .tc := ⟨.hbm, 47, rfl⟩
abbrev main_v22_9 : Ref sig .tc := ⟨.hbm, 48, rfl⟩
abbrev main_v22_10 : Ref sig .tc := ⟨.hbm, 49, rfl⟩
abbrev main_v22_11 : Ref sig .tc := ⟨.hbm, 50, rfl⟩
abbrev main_v22_12 : Ref sig .tc := ⟨.hbm, 51, rfl⟩
abbrev main_v22_13 : Ref sig .tc := ⟨.hbm, 52, rfl⟩
abbrev main_v22_14 : Ref sig .tc := ⟨.hbm, 53, rfl⟩
abbrev main_v22_15 : Ref sig .tc := ⟨.hbm, 54, rfl⟩
abbrev main_v22_16 : Ref sig .tc := ⟨.hbm, 55, rfl⟩
abbrev main_while0c_c_21 : Ref sig .tc := ⟨.hbm, 56, rfl⟩
abbrev main_while0c_v31 : Ref sig .tc := ⟨.hbm, 57, rfl⟩
abbrev main_while0b_c_21 : Ref sig .tc := ⟨.hbm, 58, rfl⟩
abbrev main_while0b_v31 : Ref sig .tc := ⟨.hbm, 59, rfl⟩
abbrev main_while0b_c_22 : Ref sig .tc := ⟨.hbm, 60, rfl⟩
abbrev main_while0b_v32 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_c_1 : Ref sig .tc := ⟨.hbm, 64, rfl⟩
abbrev main_while0b_call0_v0 : Ref sig .tc := ⟨.hbm, 65, rfl⟩
abbrev main_while0b_v33 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_call1_c_1 : Ref sig .tc := ⟨.hbm, 69, rfl⟩
abbrev main_while0b_call1_v0 : Ref sig .tc := ⟨.hbm, 70, rfl⟩
abbrev main_while0b_v34 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_v0 : Ref sig .tc := ⟨.hbm, 75, rfl⟩
abbrev main_while0b_v35 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_v0 : Ref sig .tc := ⟨.hbm, 79, rfl⟩
abbrev main_while0b_v36 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_v0 : Ref sig .tc := ⟨.hbm, 83, rfl⟩
abbrev main_while0b_v37 : Ref sig .tc := ⟨.hbm, 84, rfl⟩
abbrev main_while0b_call5_c : Ref sig .tc := ⟨.hbm, 85, rfl⟩
abbrev main_while0b_call5_c_0 : Ref sig .tc := ⟨.hbm, 86, rfl⟩
abbrev main_while0b_call5_c_1 : Ref sig .tc := ⟨.hbm, 87, rfl⟩
abbrev main_while0b_call5_v0 : Ref sig .tc := ⟨.hbm, 88, rfl⟩
abbrev main_while0b_v38 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_call6_v0 : Ref sig .tc := ⟨.hbm, 93, rfl⟩
abbrev main_while0b_v39 : Ref sig .tc := ⟨.hbm, 94, rfl⟩
abbrev main_while0b_call7_c : Ref sig .tc := ⟨.hbm, 95, rfl⟩
abbrev main_while0b_call7_c_0 : Ref sig .tc := ⟨.hbm, 96, rfl⟩
abbrev main_while0b_call7_c_1 : Ref sig .tc := ⟨.hbm, 97, rfl⟩
abbrev main_while0b_call7_v0 : Ref sig .tc := ⟨.hbm, 98, rfl⟩
abbrev main_while0b_v40 : Ref sig .tc := ⟨.hbm, 99, rfl⟩
abbrev main_while0b_call8_c : Ref sig .tc := ⟨.hbm, 100, rfl⟩
abbrev main_while0b_call8_c_0 : Ref sig .tc := ⟨.hbm, 101, rfl⟩
abbrev main_while0b_call8_c_1 : Ref sig .tc := ⟨.hbm, 102, rfl⟩
abbrev main_while0b_call8_v0 : Ref sig .tc := ⟨.hbm, 103, rfl⟩
abbrev main_while0b_v41 : Ref sig .tc := ⟨.hbm, 104, rfl⟩
abbrev main_while0b_call9_c : Ref sig .tc := ⟨.hbm, 105, rfl⟩
abbrev main_while0b_call9_c_0 : Ref sig .tc := ⟨.hbm, 106, rfl⟩
abbrev main_while0b_call9_c_1 : Ref sig .tc := ⟨.hbm, 107, rfl⟩
abbrev main_while0b_call9_v0 : Ref sig .tc := ⟨.hbm, 108, rfl⟩
abbrev main_while0b_v42 : Ref sig .tc := ⟨.hbm, 109, rfl⟩
abbrev main_while0b_v43 : Ref sig .tc := ⟨.hbm, 110, rfl⟩
abbrev main_while0b_call10_call0_cst : Ref sig .tc := ⟨.hbm, 111, rfl⟩
abbrev main_while0b_call10_call0_v0 : Ref sig .tc := ⟨.hbm, 112, rfl⟩
abbrev main_while0b_v44 : Ref sig .tc := ⟨.hbm, 113, rfl⟩
abbrev main_while0b_v45 : Ref sig .tc := ⟨.hbm, 114, rfl⟩
abbrev main_while0b_v46 : Ref sig .tc := ⟨.hbm, 115, rfl⟩
abbrev main_while0b_v47 : Ref sig .tc := ⟨.hbm, 116, rfl⟩
abbrev main_while0b_v48 : Ref sig .tc := ⟨.hbm, 117, rfl⟩
abbrev main_while0b_v49 : Ref sig .tc := ⟨.hbm, 118, rfl⟩
abbrev main_while0b_v50 : Ref sig .tc := ⟨.hbm, 119, rfl⟩
abbrev main_while0b_v51 : Ref sig .tc := ⟨.hbm, 120, rfl⟩
abbrev main_while0b_v52 : Ref sig .tc := ⟨.hbm, 121, rfl⟩
abbrev main_while0b_v53 : Ref sig .tc := ⟨.hbm, 122, rfl⟩
abbrev main_while0b_v54 : Ref sig .tc := ⟨.hbm, 123, rfl⟩
abbrev main_while0b_v55 : Ref sig .tc := ⟨.hbm, 124, rfl⟩
abbrev main_while0b_v56 : Ref sig .tc := ⟨.hbm, 125, rfl⟩
abbrev main_while0b_v57 : Ref sig .tc := ⟨.hbm, 126, rfl⟩
abbrev main_while0b_v58 : Ref sig .tc := ⟨.hbm, 127, rfl⟩
abbrev main_while0b_v59 : Ref sig .tc := ⟨.hbm, 128, rfl⟩
abbrev main_while0b_v60 : Ref sig .tc := ⟨.hbm, 129, rfl⟩
abbrev main_while0b_v61 : Ref sig .tc := ⟨.hbm, 130, rfl⟩
abbrev main_while0b_cst_23 : Ref sig .tc := ⟨.hbm, 131, rfl⟩
abbrev main_while0b_call11_v0 : Ref sig .tc := ⟨.hbm, 132, rfl⟩
abbrev main_while0b_v62_1 : Ref sig .tc := ⟨.hbm, 133, rfl⟩
abbrev main_while0b_call11_v2 : Ref sig .tc := ⟨.hbm, 134, rfl⟩
abbrev main_while0b_v62_0 : Ref sig .tc := ⟨.hbm, 135, rfl⟩
abbrev main_while0b_call11_cst : Ref sig .tc := ⟨.hbm, 136, rfl⟩
abbrev main_while0b_v62_2 : Ref sig .tc := ⟨.hbm, 137, rfl⟩
abbrev main_while0b_v63 : Ref sig .tc := ⟨.hbm, 138, rfl⟩
abbrev main_while0b_v64 : Ref sig .tc := ⟨.hbm, 139, rfl⟩
abbrev main_while0b_v65 : Ref sig .tc := ⟨.hbm, 140, rfl⟩
abbrev main_while0b_v66 : Ref sig .tc := ⟨.hbm, 141, rfl⟩
abbrev main_while0b_v67 : Ref sig .tc := ⟨.hbm, 142, rfl⟩
abbrev main_while0b_cst_24 : Ref sig .tc := ⟨.hbm, 143, rfl⟩
abbrev main_while0b_call12_v0 : Ref sig .tc := ⟨.hbm, 144, rfl⟩
abbrev main_while0b_v68_1 : Ref sig .tc := ⟨.hbm, 145, rfl⟩
abbrev main_while0b_call12_v2 : Ref sig .tc := ⟨.hbm, 146, rfl⟩
abbrev main_while0b_v68_0 : Ref sig .tc := ⟨.hbm, 147, rfl⟩
abbrev main_while0b_call12_cst : Ref sig .tc := ⟨.hbm, 148, rfl⟩
abbrev main_while0b_v68_2 : Ref sig .tc := ⟨.hbm, 149, rfl⟩
abbrev main_while0b_v69 : Ref sig .tc := ⟨.hbm, 150, rfl⟩
abbrev main_while0b_v70 : Ref sig .tc := ⟨.hbm, 151, rfl⟩
abbrev main_while0b_v71 : Ref sig .tc := ⟨.hbm, 152, rfl⟩
abbrev main_while0b_v72 : Ref sig .tc := ⟨.hbm, 153, rfl⟩
abbrev main_while0b_v73 : Ref sig .tc := ⟨.hbm, 154, rfl⟩
abbrev main_while0b_v74 : Ref sig .tc := ⟨.hbm, 155, rfl⟩
abbrev main_while0b_v75 : Ref sig .tc := ⟨.hbm, 156, rfl⟩
abbrev main_while0b_v76 : Ref sig .tc := ⟨.hbm, 157, rfl⟩
abbrev main_while0b_v77 : Ref sig .tc := ⟨.hbm, 158, rfl⟩
abbrev main_while0b_v78 : Ref sig .tc := ⟨.hbm, 159, rfl⟩
abbrev main_while0b_v79 : Ref sig .tc := ⟨.hbm, 160, rfl⟩
abbrev main_while0b_v80 : Ref sig .tc := ⟨.hbm, 161, rfl⟩
abbrev main_while0b_v81 : Ref sig .tc := ⟨.hbm, 162, rfl⟩
abbrev main_while0b_v82 : Ref sig .tc := ⟨.hbm, 163, rfl⟩
abbrev main_while0b_v83 : Ref sig .tc := ⟨.hbm, 164, rfl⟩
abbrev main_while0b_v84 : Ref sig .tc := ⟨.hbm, 165, rfl⟩
abbrev main_while0b_v85 : Ref sig .tc := ⟨.hbm, 166, rfl⟩
abbrev main_while0b_v86 : Ref sig .tc := ⟨.hbm, 167, rfl⟩
abbrev main_while0b_v87 : Ref sig .tc := ⟨.hbm, 168, rfl⟩
abbrev main_while0b_v88 : Ref sig .tc := ⟨.hbm, 169, rfl⟩
abbrev main_while0b_v89 : Ref sig .tc := ⟨.hbm, 170, rfl⟩
abbrev main_while0b_v90 : Ref sig .tc := ⟨.hbm, 171, rfl⟩
abbrev main_while0b_v91 : Ref sig .tc := ⟨.hbm, 172, rfl⟩
abbrev main_while0b_v92 : Ref sig .tc := ⟨.hbm, 173, rfl⟩
abbrev main_while0b_v93 : Ref sig .tc := ⟨.hbm, 174, rfl⟩
abbrev main_while0b_v94 : Ref sig .tc := ⟨.hbm, 175, rfl⟩
abbrev main_while0b_v95 : Ref sig .tc := ⟨.hbm, 176, rfl⟩
abbrev main_while0b_v96 : Ref sig .tc := ⟨.hbm, 177, rfl⟩
abbrev main_while0b_v97 : Ref sig .tc := ⟨.hbm, 178, rfl⟩
abbrev main_while0b_v98 : Ref sig .tc := ⟨.hbm, 179, rfl⟩
abbrev main_while0b_v99 : Ref sig .tc := ⟨.hbm, 180, rfl⟩
abbrev main_while0b_v100 : Ref sig .tc := ⟨.hbm, 181, rfl⟩
abbrev main_while0b_v101 : Ref sig .tc := ⟨.hbm, 182, rfl⟩
abbrev main_while0b_v102 : Ref sig .tc := ⟨.hbm, 183, rfl⟩
abbrev main_while0b_v103 : Ref sig .tc := ⟨.hbm, 184, rfl⟩
abbrev main_while0b_v104 : Ref sig .tc := ⟨.hbm, 185, rfl⟩
abbrev main_while0b_v105 : Ref sig .tc := ⟨.hbm, 186, rfl⟩
abbrev main_while0b_v106 : Ref sig .tc := ⟨.hbm, 187, rfl⟩
abbrev main_while0b_v107 : Ref sig .tc := ⟨.hbm, 188, rfl⟩
abbrev main_while0b_v108 : Ref sig .tc := ⟨.hbm, 189, rfl⟩
abbrev main_while0b_v109 : Ref sig .tc := ⟨.hbm, 190, rfl⟩
abbrev main_while0b_v110 : Ref sig .tc := ⟨.hbm, 191, rfl⟩
abbrev main_while0b_cst_25 : Ref sig .tc := ⟨.hbm, 192, rfl⟩
abbrev main_while0b_v111 : Ref sig .tc := ⟨.hbm, 193, rfl⟩
abbrev main_while0b_v112 : Ref sig .tc := ⟨.hbm, 194, rfl⟩
abbrev main_while0b_v113 : Ref sig .tc := ⟨.hbm, 195, rfl⟩
abbrev main_while0b_v114 : Ref sig .tc := ⟨.hbm, 196, rfl⟩
abbrev main_while0b_cst_26 : Ref sig .tc := ⟨.hbm, 197, rfl⟩
abbrev main_while0b_v115 : Ref sig .tc := ⟨.hbm, 198, rfl⟩
abbrev main_while0b_v116 : Ref sig .tc := ⟨.hbm, 199, rfl⟩
abbrev main_while0b_v117 : Ref sig .tc := ⟨.hbm, 200, rfl⟩
abbrev main_while0b_v118 : Ref sig .tc := ⟨.hbm, 201, rfl⟩
abbrev main_while0b_v119 : Ref sig .tc := ⟨.hbm, 202, rfl⟩
abbrev main_while0b_v120 : Ref sig .tc := ⟨.hbm, 203, rfl⟩
abbrev main_while0b_v121 : Ref sig .tc := ⟨.hbm, 204, rfl⟩
abbrev main_while0b_v122 : Ref sig .tc := ⟨.hbm, 205, rfl⟩
abbrev main_while0b_v123 : Ref sig .tc := ⟨.hbm, 206, rfl⟩
abbrev main_while0b_v124 : Ref sig .tc := ⟨.hbm, 207, rfl⟩
abbrev main_while0b_v125 : Ref sig .tc := ⟨.hbm, 208, rfl⟩
abbrev main_while0b_v126 : Ref sig .tc := ⟨.hbm, 209, rfl⟩
abbrev main_while0b_v127 : Ref sig .tc := ⟨.hbm, 210, rfl⟩
abbrev main_while0b_v128 : Ref sig .tc := ⟨.hbm, 211, rfl⟩
abbrev main_while0b_v129 : Ref sig .tc := ⟨.hbm, 212, rfl⟩
abbrev main_while0b_v130 : Ref sig .tc := ⟨.hbm, 213, rfl⟩
abbrev main_while0b_cst_27 : Ref sig .tc := ⟨.hbm, 214, rfl⟩
abbrev main_while0b_v131 : Ref sig .tc := ⟨.hbm, 215, rfl⟩
abbrev main_while0b_v132 : Ref sig .tc := ⟨.hbm, 216, rfl⟩
abbrev main_while0b_v133 : Ref sig .tc := ⟨.hbm, 217, rfl⟩
abbrev main_while0b_v134 : Ref sig .tc := ⟨.hbm, 218, rfl⟩
abbrev main_while0b_cst_28 : Ref sig .tc := ⟨.hbm, 219, rfl⟩
abbrev main_while0b_v135 : Ref sig .tc := ⟨.hbm, 220, rfl⟩
abbrev main_while0b_v136 : Ref sig .tc := ⟨.hbm, 221, rfl⟩
abbrev main_while0b_cst_29 : Ref sig .tc := ⟨.hbm, 222, rfl⟩
abbrev main_while0b_v137 : Ref sig .tc := ⟨.hbm, 223, rfl⟩
abbrev main_while0b_v138 : Ref sig .tc := ⟨.hbm, 224, rfl⟩
abbrev main_while0b_v139 : Ref sig .tc := ⟨.hbm, 225, rfl⟩
abbrev main_while0b_cst_30 : Ref sig .tc := ⟨.hbm, 226, rfl⟩
abbrev main_while0b_v140 : Ref sig .tc := ⟨.hbm, 227, rfl⟩
abbrev main_while0b_v141 : Ref sig .tc := ⟨.hbm, 228, rfl⟩
abbrev main_while0b_v142 : Ref sig .tc := ⟨.hbm, 229, rfl⟩
abbrev main_while0b_cst_31 : Ref sig .tc := ⟨.hbm, 230, rfl⟩
abbrev main_while0b_v143 : Ref sig .tc := ⟨.hbm, 231, rfl⟩
abbrev main_while0b_v144 : Ref sig .tc := ⟨.hbm, 232, rfl⟩
abbrev main_while0b_v145 : Ref sig .tc := ⟨.hbm, 233, rfl⟩
abbrev main_while0b_cst_32 : Ref sig .tc := ⟨.hbm, 234, rfl⟩
abbrev main_while0b_v146 : Ref sig .tc := ⟨.hbm, 235, rfl⟩
abbrev main_while0b_v147 : Ref sig .tc := ⟨.hbm, 236, rfl⟩
abbrev main_while0b_v148 : Ref sig .tc := ⟨.hbm, 237, rfl⟩
abbrev main_while0b_v149 : Ref sig .tc := ⟨.hbm, 238, rfl⟩
abbrev main_while0b_cst_33 : Ref sig .tc := ⟨.hbm, 239, rfl⟩
abbrev main_while0b_v150 : Ref sig .tc := ⟨.hbm, 240, rfl⟩
abbrev main_while0b_v151 : Ref sig .tc := ⟨.hbm, 241, rfl⟩
abbrev main_while0b_v152 : Ref sig .tc := ⟨.hbm, 242, rfl⟩
abbrev main_while0b_v153 : Ref sig .tc := ⟨.hbm, 243, rfl⟩
abbrev main_while0b_v154 : Ref sig .tc := ⟨.hbm, 244, rfl⟩
abbrev main_while0b_v155 : Ref sig .tc := ⟨.hbm, 245, rfl⟩
abbrev main_while0b_v156 : Ref sig .tc := ⟨.hbm, 246, rfl⟩
abbrev main_while0b_v157 : Ref sig .tc := ⟨.hbm, 247, rfl⟩
abbrev main_while0b_v158 : Ref sig .tc := ⟨.hbm, 248, rfl⟩
abbrev main_while0b_cst_34 : Ref sig .tc := ⟨.hbm, 249, rfl⟩
abbrev main_while0b_v159 : Ref sig .tc := ⟨.hbm, 250, rfl⟩
abbrev main_while0b_cst_35 : Ref sig .tc := ⟨.hbm, 251, rfl⟩
abbrev main_while0b_v160 : Ref sig .tc := ⟨.hbm, 252, rfl⟩
abbrev main_while0b_v161 : Ref sig .tc := ⟨.hbm, 253, rfl⟩
abbrev main_while0b_v162 : Ref sig .tc := ⟨.hbm, 254, rfl⟩
abbrev main_while0b_v163 : Ref sig .tc := ⟨.hbm, 255, rfl⟩
abbrev main_while0b_v164 : Ref sig .tc := ⟨.hbm, 256, rfl⟩
abbrev main_while0b_v165 : Ref sig .tc := ⟨.hbm, 257, rfl⟩
abbrev main_while0b_v166 : Ref sig .tc := ⟨.hbm, 258, rfl⟩
abbrev main_while0b_v167 : Ref sig .tc := ⟨.hbm, 259, rfl⟩
abbrev main_while0b_cst_36 : Ref sig .tc := ⟨.hbm, 260, rfl⟩
abbrev main_while0b_v168 : Ref sig .tc := ⟨.hbm, 261, rfl⟩
abbrev main_while0b_v169 : Ref sig .tc := ⟨.hbm, 262, rfl⟩
abbrev main_while0b_v170 : Ref sig .tc := ⟨.hbm, 263, rfl⟩
abbrev main_while0b_v171 : Ref sig .tc := ⟨.hbm, 264, rfl⟩
abbrev main_while0b_cst_37 : Ref sig .tc := ⟨.hbm, 265, rfl⟩
abbrev main_while0b_v172 : Ref sig .tc := ⟨.hbm, 266, rfl⟩
abbrev main_while0b_v173 : Ref sig .tc := ⟨.hbm, 267, rfl⟩
abbrev main_while0b_v174 : Ref sig .tc := ⟨.hbm, 268, rfl⟩
abbrev main_while0b_v175 : Ref sig .tc := ⟨.hbm, 269, rfl⟩
abbrev main_while0b_cst_38 : Ref sig .tc := ⟨.hbm, 270, rfl⟩
abbrev main_while0b_v176 : Ref sig .tc := ⟨.hbm, 271, rfl⟩
abbrev main_while0b_v177 : Ref sig .tc := ⟨.hbm, 272, rfl⟩
abbrev main_while0b_v178 : Ref sig .tc := ⟨.hbm, 273, rfl⟩
abbrev main_while0b_v179 : Ref sig .tc := ⟨.hbm, 274, rfl⟩
abbrev main_while0b_call13_cst : Ref sig .tc := ⟨.hbm, 275, rfl⟩
abbrev main_while0b_call13_v0 : Ref sig .tc := ⟨.hbm, 276, rfl⟩
abbrev main_while0b_v180 : Ref sig .tc := ⟨.hbm, 277, rfl⟩
abbrev main_while0b_v181 : Ref sig .tc := ⟨.hbm, 278, rfl⟩
abbrev main_while0b_v182 : Ref sig .tc := ⟨.hbm, 279, rfl⟩
abbrev main_while0b_v183 : Ref sig .tc := ⟨.hbm, 280, rfl⟩
abbrev main_while0b_v184 : Ref sig .tc := ⟨.hbm, 281, rfl⟩
abbrev main_while0b_v185 : Ref sig .tc := ⟨.hbm, 282, rfl⟩
abbrev main_while0b_v186 : Ref sig .tc := ⟨.hbm, 283, rfl⟩
abbrev main_while0b_v187 : Ref sig .tc := ⟨.hbm, 284, rfl⟩
abbrev main_while0b_v188 : Ref sig .tc := ⟨.hbm, 285, rfl⟩
abbrev main_while0b_cst_39 : Ref sig .tc := ⟨.hbm, 286, rfl⟩
abbrev main_while0b_v189 : Ref sig .tc := ⟨.hbm, 287, rfl⟩
abbrev main_while0b_v190 : Ref sig .tc := ⟨.hbm, 288, rfl⟩
abbrev main_while0b_v191 : Ref sig .tc := ⟨.hbm, 289, rfl⟩
abbrev main_while0b_v192 : Ref sig .tc := ⟨.hbm, 290, rfl⟩
abbrev main_while0b_v193 : Ref sig .tc := ⟨.hbm, 291, rfl⟩
abbrev main_while0b_v194 : Ref sig .tc := ⟨.hbm, 292, rfl⟩
abbrev main_while0b_v195 : Ref sig .tc := ⟨.hbm, 293, rfl⟩
abbrev main_while0b_call14_cst : Ref sig .tc := ⟨.hbm, 294, rfl⟩
abbrev main_while0b_call14_v0 : Ref sig .tc := ⟨.hbm, 295, rfl⟩
abbrev main_while0b_v196 : Ref sig .tc := ⟨.hbm, 296, rfl⟩
abbrev main_while0b_cst_40 : Ref sig .tc := ⟨.hbm, 297, rfl⟩
abbrev main_while0b_v197 : Ref sig .tc := ⟨.hbm, 298, rfl⟩
abbrev main_while0b_v198 : Ref sig .tc := ⟨.hbm, 299, rfl⟩
abbrev main_while0b_v199 : Ref sig .tc := ⟨.hbm, 300, rfl⟩
abbrev main_while0b_cst_41 : Ref sig .tc := ⟨.hbm, 301, rfl⟩
abbrev main_while0b_v200 : Ref sig .tc := ⟨.hbm, 302, rfl⟩
abbrev main_while0b_v201 : Ref sig .tc := ⟨.hbm, 303, rfl⟩
abbrev main_while0b_cst_42 : Ref sig .tc := ⟨.hbm, 304, rfl⟩
abbrev main_while0b_v202 : Ref sig .tc := ⟨.hbm, 305, rfl⟩
abbrev main_while0b_v203 : Ref sig .tc := ⟨.hbm, 306, rfl⟩
abbrev main_while0b_cst_43 : Ref sig .tc := ⟨.hbm, 307, rfl⟩
abbrev main_while0b_v204 : Ref sig .tc := ⟨.hbm, 308, rfl⟩
abbrev main_while0b_v205 : Ref sig .tc := ⟨.hbm, 309, rfl⟩
abbrev main_while0b_v206 : Ref sig .tc := ⟨.hbm, 310, rfl⟩
abbrev main_while0b_call15_call0_cst : Ref sig .tc := ⟨.hbm, 311, rfl⟩
abbrev main_while0b_call15_call0_v0 : Ref sig .tc := ⟨.hbm, 312, rfl⟩
abbrev main_while0b_v207 : Ref sig .tc := ⟨.hbm, 313, rfl⟩
abbrev main_while0b_call16_v0 : Ref sig .tc := ⟨.hbm, 314, rfl⟩
abbrev main_while0b_call16_c : Ref sig .tc := ⟨.hbm, 315, rfl⟩
abbrev main_while0b_call16_c_0 : Ref sig .tc := ⟨.hbm, 316, rfl⟩
abbrev main_while0b_call16_c_1 : Ref sig .tc := ⟨.hbm, 317, rfl⟩
abbrev main_while0b_v208 : Ref sig .tc := ⟨.hbm, 318, rfl⟩
abbrev main_while0b_call17_v0 : Ref sig .tc := ⟨.hbm, 319, rfl⟩
abbrev main_while0b_call17_c : Ref sig .tc := ⟨.hbm, 320, rfl⟩
abbrev main_while0b_call17_c_0 : Ref sig .tc := ⟨.hbm, 321, rfl⟩
abbrev main_while0b_call17_c_1 : Ref sig .tc := ⟨.hbm, 322, rfl⟩
abbrev main_while0b_v209 : Ref sig .tc := ⟨.hbm, 323, rfl⟩
abbrev main_while0b_call18_v0 : Ref sig .tc := ⟨.hbm, 324, rfl⟩
abbrev main_while0b_call18_c : Ref sig .tc := ⟨.hbm, 325, rfl⟩
abbrev main_while0b_call18_c_0 : Ref sig .tc := ⟨.hbm, 326, rfl⟩
abbrev main_while0b_call18_c_1 : Ref sig .tc := ⟨.hbm, 327, rfl⟩
abbrev main_while0b_v210 : Ref sig .tc := ⟨.hbm, 328, rfl⟩
abbrev main_while0b_call19_v0 : Ref sig .tc := ⟨.hbm, 329, rfl⟩
abbrev main_while0b_call19_c : Ref sig .tc := ⟨.hbm, 330, rfl⟩
abbrev main_while0b_call19_c_0 : Ref sig .tc := ⟨.hbm, 331, rfl⟩
abbrev main_while0b_v211 : Ref sig .tc := ⟨.hbm, 332, rfl⟩
abbrev main_while0b_call20_v0 : Ref sig .tc := ⟨.hbm, 333, rfl⟩
abbrev main_while0b_call20_c : Ref sig .tc := ⟨.hbm, 334, rfl⟩
abbrev main_while0b_call20_c_0 : Ref sig .tc := ⟨.hbm, 335, rfl⟩
abbrev main_while0b_v212 : Ref sig .tc := ⟨.hbm, 336, rfl⟩
abbrev main_while0b_c_44 : Ref sig .tc := ⟨.hbm, 337, rfl⟩
abbrev main_while0b_v213 : Ref sig .tc := ⟨.hbm, 338, rfl⟩
abbrev main_v23 : Ref sig .tc := ⟨.hbm, 339, rfl⟩
abbrev main_v24 : Ref sig .tc := ⟨.hbm, 340, rfl⟩
abbrev main_v25 : Ref sig .tc := ⟨.hbm, 341, rfl⟩
abbrev main_v26 : Ref sig .tc := ⟨.hbm, 342, rfl⟩
abbrev main_v27 : Ref sig .tc := ⟨.hbm, 343, rfl⟩
abbrev main_v28 : Ref sig .tc := ⟨.hbm, 344, rfl⟩
abbrev main_v29 : Ref sig .tc := ⟨.hbm, 345, rfl⟩
abbrev main_v30 : Ref sig .tc := ⟨.hbm, 346, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x8448 : Shape := ⟨2, ![4096, 8448]⟩
abbrev S1024x8448 : Shape := ⟨2, ![1024, 8448]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8448, .bf16⟩
  | .hbm, ⟨1, _⟩ => ⟨S1024x8448, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x8448 : Shape := ⟨2, ![4096, 8448]⟩
abbrev S1024x8448 : Shape := ⟨2, ![1024, 8448]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x8448, .bf16⟩
  | .hbm, ⟨1, _⟩ => ⟨S1024x8448, .bf16⟩
  | .hbm, ⟨2, _⟩ => ⟨S1024x8448, .f32⟩
  | .hbm, ⟨3, _⟩ => ⟨S_, .f32⟩
  | .hbm, ⟨4, _⟩ => ⟨S4096x1024, .f32⟩
  | .hbm, ⟨5, _⟩ => ⟨S4096x8448, .f32⟩
  | .hbm, ⟨6, _⟩ => ⟨S4096x8448, .f32⟩
  | .hbm, ⟨7, _⟩ => ⟨S4096x1024, .f32⟩
  | _, _ => ⟨S4096x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x1024 : Shape := ⟨2, ![4096, 1024]⟩
abbrev S4096x8448 : Shape := ⟨2, ![4096, 8448]⟩
abbrev S1024x4096 : Shape := ⟨2, ![1024, 4096]⟩
abbrev S1024x8448 : Shape := ⟨2, ![1024, 8448]⟩
abbrev S1024x1024 : Shape := ⟨2, ![1024, 1024]⟩
abbrev S1024x2816 : Shape := ⟨2, ![1024, 2816]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x8448, .bf16⟩
  | .hbm, ⟨2, _⟩ => ⟨S1024x4096, .bf16⟩
  | .hbm, ⟨3, _⟩ => ⟨S1024x8448, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x8448 : Shape := ⟨2, ![4096, 8448]⟩
abbrev S_ : Shape := ⟨0, ![]⟩
abbrev S1024x8448 : Shape := ⟨2, ![1024, 8448]⟩
abbrev S8448x1024 : Shape := ⟨2, ![8448, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8448, .bf16⟩
  | .hbm, ⟨2, _⟩ => ⟨S4096x1024, .f32⟩
  | .hbm, ⟨3, _⟩ => ⟨S_, .f32⟩
  | .hbm, ⟨4, _⟩ => ⟨S1024x8448, .f32⟩
  | .hbm, ⟨5, _⟩ => ⟨S4096x8448, .f32⟩
  | .hbm, ⟨6, _⟩ => ⟨S4096x8448, .f32⟩
  | .hbm, ⟨7, _⟩ => ⟨S8448x1024, .f32⟩
  | .hbm, ⟨8, _⟩ => ⟨S1024x8448, .f32⟩
  | .hbm, ⟨9, _⟩ => ⟨S1024x8448, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x8448 : Shape := ⟨2, ![1024, 8448]⟩
abbrev S4096x8448 : Shape := ⟨2, ![4096, 8448]⟩
abbrev S1024x1024 : Shape := ⟨2, ![1024, 1024]⟩
abbrev S1024x2816 : Shape := ⟨2, ![1024, 2816]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x8448, .bf16⟩
  | .hbm, ⟨2, _⟩ => ⟨S4096x8448, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x8448 : Shape := ⟨2, ![1024, 8448]⟩
abbrev S4096x8448 : Shape := ⟨2, ![4096, 8448]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8448, .bf16⟩
  | .hbm, ⟨2, _⟩ => ⟨S4096x1024, .f32⟩
  | .hbm, ⟨3, _⟩ => ⟨S1024x8448, .f32⟩
  | .hbm, ⟨4, _⟩ => ⟨S4096x8448, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference10Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference11Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel12.lean ====
abbrev S4096x8448 : Shape := ⟨2, ![4096, 8448]⟩
abbrev S4096x1024 : Shape := ⟨2, ![4096, 1024]⟩
abbrev S1x128 : Shape := ⟨2, ![1, 128]⟩
abbrev S1x1024 : Shape := ⟨2, ![1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S128 : Shape := ⟨1, ![128]⟩

abbrev nBuf : Space → Nat
  | .hbm => 16
  | .vmem => 34
  | .smem => 0
  | _ => 0

abbrev bufTy : (tb : Table) → Fin (tcTables nBuf tb) → BufTy
  | .hbm, ⟨0, _⟩ => ⟨S4096x8448, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x128, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S1x128, .f32⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x128, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | .local _ .vmem, ⟨30, _⟩ => ⟨S256x1024, .f32⟩
  | .local _ .vmem, ⟨31, _⟩ => ⟨S256x1024, .f32⟩
  | .local _ .vmem, ⟨32, _⟩ => ⟨S1x128, .f32⟩
  | .local _ .vmem, ⟨33, _⟩ => ⟨S1x1024, .f32⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg18_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem18_0 : DmaSem sig := 33

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32_114 : BitVec 32 := 0#32
  let v357 : BitVec 1 := Scalar.cmpi .eq arg0 c0_i32_114
  let v358 : BitVec 32 := Scalar.extui v357
  let c0_i32_115 : BitVec 32 := 0#32
  let v359 : BitVec 1 := Scalar.cmpi .ne v358 c0_i32_115
  v359

def k0_cond4 (i : grid0.Coords) : BitVec 1 :=
  let arg0 : BitVec 32 := BitVec.ofNat 32 (i 0).val
  let c0_i32_116 : BitVec 32 := 0#32
  let v360 : BitVec 1 := Scalar.cmpi .sgt arg0 c0_i32_116
  let v361 : BitVec 32 := Scalar.extui v360
  let c0_i32_117 : BitVec 32 := 0#32
  let v362 : BitVec 1 := Scalar.cmpi .ne v361 c0_i32_117
  v362

def k0_cond1 (i : grid0.Coords) : BitVec 1 :=
  let arg0 : BitVec 32 := BitVec.ofNat 32 (i 0).val
  let c0_i32 : BitVec 32 := 0#32
  let v206 : BitVec 1 := Scalar.cmpi .eq arg0 c0_i32
  let v207 : BitVec 32 := Scalar.extui v206
  let c0_i32_77 : BitVec 32 := 0#32
  let v208 : BitVec 1 := Scalar.cmpi .ne v207 c0_i32_77
  v208

def k0_cond2 (i : grid0.Coords) : BitVec 1 :=
  let arg0 : BitVec 32 := BitVec.ofNat 32 (i 0).val
  let c0_i32_78 : BitVec 32 := 0#32
  let v209 : BitVec 1 := Scalar.cmpi .sgt arg0 c0_i32_78
  let v210 : BitVec 32 := Scalar.extui v209
  let c0_i32_79 : BitVec 32 := 0#32
  let v211 : BitVec 1 := Scalar.cmpi .ne v210 c0_i32_79
  v211

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference12Ideal.lean ====
abbrev S4096x8448 : Shape := ⟨2, ![4096, 8448]⟩
abbrev S4096x1024 : Shape := ⟨2, ![4096, 1024]⟩
abbrev S1x128 : Shape := ⟨2, ![1, 128]⟩
abbrev S1x1024 : Shape := ⟨2, ![1, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S1024 : Shape := ⟨1, ![1024]⟩
abbrev S128 : Shape := ⟨1, ![128]⟩

abbrev nBuf : Space → Nat
  | .hbm => 162
  | .vmem => 0
  | .smem => 0
  | _ => 0

abbrev hbmTy0_0 (i : Nat) : BufTy := match i % 128 with
  | 0 => ⟨S4096x8448, .f32⟩
  | 1 => ⟨S4096x1024, .f32⟩
  | 2 => ⟨S4096x1024, .f32⟩
  | 3 => ⟨S4096x1024, .f32⟩
  | 4 => ⟨S1x128, .f32⟩
  | 5 => ⟨S1x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x8x128, .f32⟩
  | 12 => ⟨S4096x8x128, .f32⟩
  | 13 => ⟨S_, .f32⟩
  | 14 => ⟨S4096x8, .f32⟩
  | 15 => ⟨S4096x8x1, .f32⟩
  | 16 => ⟨S_, .f32⟩
  | 17 => ⟨S4096x8x1, .f32⟩
  | 18 => ⟨S4096x8x1, .f32⟩
  | 19 => ⟨S_, .f32⟩
  | 20 => ⟨S4096x8x1, .f32⟩
  | 21 => ⟨S4096x8x1, .f32⟩
  | 22 => ⟨S4096x8x1, .f32⟩
  | 23 => ⟨S4096x8x1, .f32⟩
  | 24 => ⟨S_, .f32⟩
  | 25 => ⟨S4096x8x1, .f32⟩
  | 26 => ⟨S4096x8x1, .f32⟩
  | 27 => ⟨S4096x8x128, .f32⟩
  | 28 => ⟨S4096x8x128, .f32⟩
  | 29 => ⟨S1x1x128, .f32⟩
  | 30 => ⟨S4096x8x128, .f32⟩
  | 31 => ⟨S4096x8x128, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x8448, .f32⟩

abbrev hbmTy0_1 (i : Nat) : BufTy := match i % 128 with
  | 0 => ⟨S4096x1024, .f32⟩
  | 1 => ⟨S4096x8x128, .f32⟩
  | 2 => ⟨S4096x8x128, .f32⟩
  | 3 => ⟨S_, .f32⟩
  | 4 => ⟨S128, .f32⟩
  | 5 => ⟨S1x1x128, .f32⟩
  | 6 => ⟨S4096x8x128, .f32⟩
  | 7 => ⟨S4096x8x128, .f32⟩
  | 8 => ⟨S_, .f32⟩
  | 9 => ⟨S128, .f32⟩
  | 10 => ⟨S1x128, .f32⟩
  | 11 => ⟨S4096x8x128, .f32⟩
  | 12 => ⟨S_, .f32⟩
  | 13 => ⟨S4096x8, .f32⟩
  | 14 => ⟨S4096x8x1, .f32⟩
  | 15 => ⟨S4096x8x128, .f32⟩
  | 16 => ⟨S4096x8x128, .f32⟩
  | 17 => ⟨S4096x8x1, .f32⟩
  | 18 => ⟨S_, .f32⟩
  | 19 => ⟨S4096x8x1, .f32⟩
  | 20 => ⟨S4096x8x1, .f32⟩
  | 21 => ⟨S_, .f32⟩
  | 22 => ⟨S4096x8, .f32⟩
  | 23 => ⟨S4096x8x128, .f32⟩
  | 24 => ⟨S4096x8x128, .f32⟩
  | 25 => ⟨S4096x8x128, .f32⟩
  | 26 => ⟨S4096x8x128, .f32⟩
  | 27 => ⟨S4096x8x128, .f32⟩
  | 28 => ⟨S4096x1024, .f32⟩
  | 29 => ⟨S4096x1024, .bf16⟩
  | 30 => ⟨S4096x1024, .bf16⟩
  | 31 => ⟨S4096x1024, .bf16⟩
  | 32 => ⟨S4096x1024, .bf16⟩
  | 33 => ⟨S4096x1024, .bf16⟩
  | _ => ⟨S4096x8448, .f32⟩

abbrev hbmTy (i : Nat) : BufTy := match i / 128 with
  | 0 => hbmTy0_0 i
  | 1 => hbmTy0_1 i
  | _ => ⟨S4096x8448, .f32⟩

abbrev bufTy : (tb : Table) → Fin (tcTables nBuf tb) → BufTy
  | .hbm, ⟨i, _⟩ => hbmTy i
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v22_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v22_1 : Ref sig .tc := ⟨.hbm, 44, rfl⟩
abbrev main_v22_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_v36_2 : Ref sig .tc := ⟨.hbm, 69, rfl⟩
abbrev main_call1_cst_1 : Ref sig .tc := ⟨.hbm, 70, rfl⟩
abbrev main_call1_v6 : Ref sig .tc := ⟨.hbm, 71, rfl⟩
abbrev main_call1_v7 : Ref sig .tc := ⟨.hbm, 72, rfl⟩
abbrev main_v36_1 : Ref sig .tc := ⟨.hbm, 73, rfl⟩
abbrev main_v36_0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_6 : Ref sig .tc := ⟨.hbm, 78, rfl⟩
abbrev main_v40 : Ref sig .tc := ⟨.hbm, 79, rfl⟩
abbrev main_v41 : Ref sig .tc := ⟨.hbm, 80, rfl⟩
abbrev main_cst_7 : Ref sig .tc := ⟨.hbm, 81, rfl⟩
abbrev main_v42 : Ref sig .tc := ⟨.hbm, 82, rfl⟩
abbrev main_v43 : Ref sig .tc := ⟨.hbm, 83, rfl⟩
abbrev main_cst_8 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_9 : Ref sig .tc := ⟨.hbm, 91, rfl⟩
abbrev main_v50 : Ref sig .tc := ⟨.hbm, 92, rfl⟩
abbrev main_v51 : Ref sig .tc := ⟨.hbm, 93, rfl⟩
abbrev main_cst_10 : Ref sig .tc := ⟨.hbm, 94, rfl⟩
abbrev main_v52 : Ref sig .tc := ⟨.hbm, 95, rfl⟩
abbrev main_v53 : Ref sig .tc := ⟨.hbm, 96, rfl⟩
abbrev main_cst_11 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_12 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_13 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_14 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_15 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_16 : Ref sig .tc := ⟨.hbm, 146, rfl⟩
abbrev main_v92 : Ref sig .tc := ⟨.hbm, 147, rfl⟩
abbrev main_v93 : Ref sig .tc := ⟨.hbm, 148, rfl⟩
abbrev main_cst_17 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel15.lean ====
abbrev S4096x8448 : Shape := ⟨2, ![4096, 8448]⟩
abbrev S4096x1024 : Shape := ⟨2, ![4096, 1024]⟩
abbrev S1x128 : Shape := ⟨2, ![1, 128]⟩
abbrev S1x1024 : Shape := ⟨2, ![1, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 18
  | .smem => 0
  | _ => 0

abbrev bufTy : (tb : Table) → Fin (tcTables nBuf tb) → BufTy
  | .hbm, ⟨0, _⟩ => ⟨S4096x8448, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x128, .f32⟩
  | .hbm, ⟨5, _⟩ => ⟨S1x1024, .f32⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x128, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | _, _ => ⟨S4096x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S4096x8448 : Shape := ⟨2, ![4096, 8448]⟩
abbrev S4096x1024 : Shape := ⟨2, ![4096, 1024]⟩
abbrev S1x128 : Shape := ⟨2, ![1, 128]⟩
abbrev S1x1024 : Shape := ⟨2, ![1, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x8448, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x128, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x8x128, .f32⟩
  | .hbm, ⟨11, _⟩ => ⟨S4096x8x128, .f32⟩
  | .hbm, ⟨12, _⟩ => ⟨S_, .f32⟩
  | .hbm, ⟨13, _⟩ => ⟨S4096x8, .f32⟩
  | .hbm, ⟨14, _⟩ => ⟨S4096x8x1, .f32⟩
  | .hbm, ⟨15, _⟩ => ⟨S_, .f32⟩
  | .hbm, ⟨16, _⟩ => ⟨S4096x8x1, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S4096x8x1, .f32⟩
  | .hbm, ⟨22, _⟩ => ⟨S4096x8x128, .f32⟩
  | .hbm, ⟨23, _⟩ => ⟨S4096x8x128, .f32⟩
  | .hbm, ⟨24, _⟩ => ⟨S1x1x128, .f32⟩
  | .hbm, ⟨25, _⟩ => ⟨S4096x8x128, .f32⟩
  | .hbm, ⟨26, _⟩ => ⟨S4096x8x128, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩

abbrev nD : Nat := 1
abbrev τ : Topo := Topo.v7x

variable {F : FTy → Type} [FloatOps F]
-- ==== Kernel16.lean ====
abbrev S4096x1024 : Shape := ⟨2, ![4096, 1024]⟩
abbrev S4096x8448 : Shape := ⟨2, ![4096, 8448]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x8448, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S4096x1024 : Shape := ⟨2, ![4096, 1024]⟩
abbrev S4096x8448 : Shape := ⟨2, ![4096, 8448]⟩
abbrev S1x1024 : Shape := ⟨2, ![1, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8448, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel17.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_8 : BitVec 32 := 0#32
  let v15 : BitVec 1 := Scalar.cmpi .ne v14 c0_i32_8
  v15

def k0_cond2 (i : grid0.Coords) : BitVec 1 :=
  let arg0 : BitVec 32 := BitVec.ofNat 32 (i 0).val
  let c0_i32_9 : BitVec 32 := 0#32
  let v16 : BitVec 1 := Scalar.cmpi .sgt arg0 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel18.lean ====
abbrev S64x1x64 : Shape := ⟨3, ![64, 1, 64]⟩
abbrev S64x1x1 : Shape := ⟨3, ![64, 1, 1]⟩
abbrev S64x16x64 : Shape := ⟨3, ![64, 16, 64]⟩

abbrev nBuf : Space → Nat
  | .hbm => 9
  | .vmem => 9
  | .smem => 0
  | _ => 0

abbrev bufTy : (tb : Table) → Fin (tcTables nBuf tb) → BufTy
  | .hbm, ⟨0, _⟩ => ⟨S64x1x64, .f32⟩
  | .hbm, ⟨1, _⟩ => ⟨S64x1x64, .f32⟩
  | .hbm, ⟨2, _⟩ => ⟨S64x1x1, .f32⟩
  | .hbm, ⟨3, _⟩ => ⟨S64x16x64, .f32⟩
  | .hbm, ⟨4, _⟩ => ⟨S64x16x64, .f32⟩
  | .hbm, ⟨5, _⟩ => ⟨S64x1x64, .f32⟩
  | .hbm, ⟨6, _⟩ => ⟨S64x1x64, .f32⟩
  | .hbm, ⟨7, _⟩ => ⟨S64x16x64, .f32⟩
  | .hbm, ⟨8, _⟩ => ⟨S64x16x64, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | _, _ => ⟨S64x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference18Ideal.lean ====
abbrev S64x1x64 : Shape := ⟨3, ![64, 1, 64]⟩
abbrev S64x1x1 : Shape := ⟨3, ![64, 1, 1]⟩
abbrev S64x16x64 : Shape := ⟨3, ![64, 16, 64]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S64x1x64, .f32⟩
  | .hbm, ⟨1, _⟩ => ⟨S64x1x64, .f32⟩
  | .hbm, ⟨2, _⟩ => ⟨S64x1x1, .f32⟩
  | .hbm, ⟨3, _⟩ => ⟨S64x16x64, .f32⟩
  | .hbm, ⟨4, _⟩ => ⟨S64x16x64, .f32⟩
  | .hbm, ⟨5, _⟩ => ⟨S64x1x1, .f32⟩
  | .hbm, ⟨6, _⟩ => ⟨S64x1x64, .f32⟩
  | .hbm, ⟨7, _⟩ => ⟨S64x1x64, .f32⟩
  | .hbm, ⟨8, _⟩ => ⟨S64x1x64, .f32⟩
  | .hbm, ⟨9, _⟩ => ⟨S64x1x64, .f32⟩
  | .hbm, ⟨10, _⟩ => ⟨S64x1x64, .f32⟩
  | .hbm, ⟨11, _⟩ => ⟨S64x1x64, .f32⟩
  | .hbm, ⟨12, _⟩ => ⟨S64x1x64, .f32⟩
  | .hbm, ⟨13, _⟩ => ⟨S64x1x64, .f32⟩
  | .hbm, ⟨14, _⟩ => ⟨S64x1x64, .f32⟩
  | .hbm, ⟨15, _⟩ => ⟨S64x1x64, .f32⟩
  | .hbm, ⟨16, _⟩ => ⟨S64x1x64, .f32⟩
  | .hbm, ⟨17, _⟩ => ⟨S64x1x64, .f32⟩
  | .hbm, ⟨18, _⟩ => ⟨S64x1x64, .f32⟩
  | .hbm, ⟨19, _⟩ => ⟨S64x1x64, .f32⟩
  | .hbm, ⟨20, _⟩ => ⟨S_, .f32⟩
  | .hbm, ⟨21, _⟩ => ⟨S64x1x64, .f32⟩
  | .hbm, ⟨22, _⟩ => ⟨S64x1x64, .f32⟩
  | .hbm, ⟨23, _⟩ => ⟨S64x1x64, .f32⟩
  | .hbm, ⟨24, _⟩ => ⟨S64x1x64, .f32⟩
  | .hbm, ⟨25, _⟩ => ⟨S64x1x64, .f32⟩
  | .hbm, ⟨26, _⟩ => ⟨S64x1x64, .f32⟩
  | .hbm, ⟨27, _⟩ => ⟨S64x1x64, .f32⟩
  | .hbm, ⟨28, _⟩ => ⟨S_, .f32⟩
  | .hbm, ⟨29, _⟩ => ⟨S64x1x64, .f32⟩
  | .hbm, ⟨30, _⟩ => ⟨S64x1x64, .f32⟩
  | .hbm, ⟨31, _⟩ => ⟨S64x1x64, .f32⟩
  | .hbm, ⟨32, _⟩ => ⟨S64x1x64, .f32⟩
  | .hbm, ⟨33, _⟩ => ⟨S64x1x64, .f32⟩
  | .hbm, ⟨34, _⟩ => ⟨S64x16x64, .f32⟩
  | .hbm, ⟨35, _⟩ => ⟨S64x16x64, .f32⟩
  | .hbm, ⟨36, _⟩ => ⟨S64x16x64, .f32⟩
  | .hbm, ⟨37, _⟩ => ⟨S64x16x64, .f32⟩
  | .hbm, ⟨38, _⟩ => ⟨S64x16x64, .f32⟩
  | .hbm, ⟨39, _⟩ => ⟨S64x16x64, .f32⟩
  | .hbm, ⟨40, _⟩ => ⟨S64x16x64, .f32⟩
  | .hbm, ⟨41, _⟩ => ⟨S64x16x64, .f32⟩
  | .hbm, ⟨42, _⟩ => ⟨S64x16x64, .f32⟩
  | .hbm, ⟨43, _⟩ => ⟨S64x16x64, .f32⟩
  | _, _ => ⟨S64x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Kernel19.lean ====
abbrev S64x1x64 : Shape := ⟨3, ![64, 1, 64]⟩
abbrev S64x1x1 : Shape := ⟨3, ![64, 1, 1]⟩
abbrev S64x16x64 : Shape := ⟨3, ![64, 16, 64]⟩
abbrev S64x64 : Shape := ⟨2, ![64, 64]⟩
abbrev S64x1 : Shape := ⟨2, ![64, 1]⟩

abbrev nBuf : Space → Nat
  | .hbm => 14
  | .vmem => 14
  | .smem => 0
  | _ => 0

abbrev bufTy : (tb : Table) → Fin (tcTables nBuf tb) → BufTy
  | .hbm, ⟨0, _⟩ => ⟨S64x1x64, .f32⟩
  | .hbm, ⟨1, _⟩ => ⟨S64x1x64, .f32⟩
  | .hbm, ⟨2, _⟩ => ⟨S64x1x1, .f32⟩
  | .hbm, ⟨3, _⟩ => ⟨S64x16x64, .f32⟩
  | .hbm, ⟨4, _⟩ => ⟨S64x16x64, .f32⟩
  | .hbm, ⟨5, _⟩ => ⟨S64x1x64, .f32⟩
  | .hbm, ⟨6, _⟩ => ⟨S64x1x64, .f32⟩
  | .hbm, ⟨7, _⟩ => ⟨S64x16x64, .f32⟩
  | .hbm, ⟨8, _⟩ => ⟨S64x16x64, .f32⟩
  | .hbm, ⟨9, _⟩ => ⟨S64x1x64, .f32⟩
  | .hbm, ⟨10, _⟩ => ⟨S64x1x64, .f32⟩
  | .hbm, ⟨11, _⟩ => ⟨S64x1x1, .f32⟩
  | .hbm, ⟨12, _⟩ => ⟨S64x16x64, .f32⟩
  | .hbm, ⟨13, _⟩ => ⟨S64x16x64, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | .local _ .vmem, ⟨9, _⟩ => ⟨S64x1x64, .f32⟩
  | .local _ .vmem, ⟨10, _⟩ => ⟨S64x1x64, .f32⟩
  | .local _ .vmem, ⟨11, _⟩ => ⟨S64x1x1, .f32⟩
  | .local _ .vmem, ⟨12, _⟩ => ⟨S64x16x64, .f32⟩
  | .local _ .vmem, ⟨13, _⟩ => ⟨S64x16x64, .f32⟩
  | _, _ => ⟨S64x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference19Ideal.lean ====
abbrev S64x1x64 : Shape := ⟨3, ![64, 1, 64]⟩
abbrev S64x1x1 : Shape := ⟨3, ![64, 1, 1]⟩
abbrev S64x16x64 : Shape := ⟨3, ![64, 16, 64]⟩
abbrev S_ : Shape := ⟨0, ![]⟩
abbrev S64x64 : Shape := ⟨2, ![64, 64]⟩
abbrev S64x1 : Shape := ⟨2, ![64, 1]⟩

abbrev nBuf : Space → Nat
  | .hbm => 155
  | .vmem => 0
  | .smem => 0
  | _ => 0

abbrev hbmTy0_0 (i : Nat) : BufTy := match i % 128 with
  | 0 => ⟨S64x1x64, .f32⟩
  | 1 => ⟨S64x1x64, .f32⟩
  | 2 => ⟨S64x1x1, .f32⟩
  | 3 => ⟨S64x16x64, .f32⟩
  | 4 => ⟨S64x16x64, .f32⟩
  | 5 => ⟨S64x1x64, .f32⟩
  | 6 => ⟨S64x1x64, .f32⟩
  | 7 => ⟨S64x16x64, .f32⟩
  | 8 => ⟨S64x16x64, .f32⟩
  | 9 => ⟨S64x1x1, .f32⟩
  | 10 => ⟨S64x1x64, .f32⟩
  | 11 => ⟨S64x1x64, .f32⟩
  | 12 => ⟨S64x1x64, .f32⟩
  | 13 => ⟨S64x1x64, .f32⟩
  | 14 => ⟨S64x1x64, .f32⟩
  | 15 => ⟨S64x1x64, .f32⟩
  | 16 => ⟨S64x1x64, .f32⟩
  | 17 => ⟨S64x1x64, .f32⟩
  | 18 => ⟨S64x1x64, .f32⟩
  | 19 => ⟨S64x1x64, .f32⟩
  | 20 => ⟨S64x1x64, .f32⟩
  | 21 => ⟨S64x1x64, .f32⟩
  | 22 => ⟨S64x1x64, .f32⟩
  | 23 => ⟨S64x1x64, .f32⟩
  | 24 => ⟨S64x1x64, .f32⟩
  | 25 => ⟨S64x1x64, .f32⟩
  | 26 => ⟨S_, .f32⟩
  | 27 => ⟨S64x1x64, .f32⟩
  | 28 => ⟨S64x1x64, .f32⟩
  | 29 => ⟨S64x1x64, .f32⟩
  | 30 => ⟨S64x1x64, .f32⟩
  | 31 => ⟨S64x1x64, .f32⟩
  | 32 => ⟨S64x1x64, .f32⟩
  | 33 => ⟨S64x1x64, .f32⟩
  | 34 => ⟨S_, .f32⟩
  | 35 => ⟨S64x1x64, .f32⟩
  | 36 => ⟨S64x1x64, .f32⟩
  | 37 => ⟨S64x1x64, .f32⟩
  | 38 => ⟨S_, .f32⟩
  | 39 => ⟨S64x1x64, .f32⟩
  | 40 => ⟨S64x1x64, .f32⟩
  | 41 => ⟨S64x1x64, .f32⟩
  | 42 => ⟨S64x1x64, .f32⟩
  | 43 => ⟨S64x1x64, .f32⟩
  | 44 => ⟨S64x1x64, .f32⟩
  | 45 => ⟨S_, .f32⟩
  | 46 => ⟨S64x1x64, .f32⟩
  | 47 => ⟨S64x1x64, .f32⟩
  | 48 => ⟨S64x16x64, .f32⟩
  | 49 => ⟨S64x16x64, .f32⟩
  | 50 => ⟨S64x16x64, .f32⟩
  | 51 => ⟨S64x16x64, .f32⟩
  | 52 => ⟨S64x16x64, .f32⟩
  | 53 => ⟨S64x16x64, .f32⟩
  | 54 => ⟨S64x16x64, .f32⟩
  | 55 => ⟨S64x16x64, .f32⟩
  | 56 => ⟨S64x16x64, .f32⟩
  | 57 => ⟨S64x16x64, .f32⟩
  | 58 => ⟨S64x16x64, .f32⟩
  | 59 => ⟨S64x16x64, .f32⟩
  | 60 => ⟨S64x16x64, .f32⟩
  | 61 => ⟨S64x16x64, .f32⟩
  | 62 => ⟨S64x16x64, .f32⟩
  | 63 => ⟨S_, .f32⟩
  | 64 => ⟨S64x64, .f32⟩
  | 65 => ⟨S64x1x64, .f32⟩
  | 66 => ⟨S64x16x64, .f32⟩
  | 67 => ⟨S64x16x64, .f32⟩
  | 68 => ⟨S64x16x64, .f32⟩
  | 69 => ⟨S_, .f32⟩
  | 70 => ⟨S64x64, .f32⟩
  | 71 => ⟨S64x1x64, .f32⟩
  | 72 => ⟨S64x16x64, .f32⟩
  | 73 => ⟨S64x16x64, .f32⟩
  | 74 => ⟨S64x16x64, .f32⟩
  | 75 => ⟨S64x16x64, .f32⟩
  | 76 => ⟨S64x16x64, .f32⟩
  | 77 => ⟨S64x16x64, .f32⟩
  | 78 => ⟨S_, .f32⟩
  | 79 => ⟨S64x64, .f32⟩
  | 80 => ⟨S64x1x64, .f32⟩
  | 81 => ⟨S64x1x64, .f32⟩
  | 82 => ⟨S64x16x64, .f32⟩
  | 83 => ⟨S64x16x64, .f32⟩
  | 84 => ⟨S64x16x64, .f32⟩
  | 85 => ⟨S64x16x64, .f32⟩
  | 86 => ⟨S_, .f32⟩
  | 87 => ⟨S64x64, .f32⟩
  | 88 => ⟨S64x1x64, .f32⟩
  | 89 => ⟨S64x1x64, .f32⟩
  | 90 => ⟨S64x1x64, .f32⟩
  | 91 => ⟨S64x1x64, .f32⟩
  | 92 => ⟨S64x1x64, .f32⟩
  | 93 => ⟨S64x1x64, .f32⟩
  | 94 => ⟨S64x1x64, .f32⟩
  | 95 => ⟨S64x1x64, .f32⟩
  | 96 => ⟨S64x1x64, .f32⟩
  | 97 => ⟨S64x1x64, .f32⟩
  | 98 => ⟨S64x1x64, .f32⟩
  | 99 => ⟨S64x1x64, .f32⟩
  | 100 => ⟨S64x1x64, .f32⟩
  | 101 => ⟨S64x1x64, .f32⟩
  | 102 => ⟨S64x1x64, .f32⟩
  | 103 => ⟨S64x1x64, .f32⟩
  | 104 => ⟨S64x1x64, .f32⟩
  | 105 => ⟨S64x1x64, .f32⟩
  | 106 => ⟨S64x1x64, .f32⟩
  | 107 => ⟨S64x1x64, .f32⟩
  | 108 => ⟨S64x1x64, .f32⟩
  | 109 => ⟨S64x1x64, .f32⟩
  | 110 => ⟨S64x1x64, .f32⟩
  | 111 => ⟨S64x1x64, .f32⟩
  | 112 => ⟨S64x1x64, .f32⟩
  | 113 => ⟨S64x1x64, .f32⟩
  | 114 => ⟨S64x1x64, .f32⟩
  | 115 => ⟨S64x1x64, .f32⟩
  | 116 => ⟨S64x1x64, .f32⟩
  | 117 => ⟨S64x1x64, .f32⟩
  | 118 => ⟨S64x1x64, .f32⟩
  | 119 => ⟨S64x1x64, .f32⟩
  | 120 => ⟨S64x1x64, .f32⟩
  | 121 => ⟨S64x1x64, .f32⟩
  | 122 => ⟨S64x1x64, .f32⟩
  | 123 => ⟨S64x1x64, .f32⟩
  | 124 => ⟨S64x1x64, .f32⟩
  | 125 => ⟨S64x1x64, .f32⟩
  | 126 => ⟨S_, .f32⟩
  | 127 => ⟨S64x1, .f32⟩
  | _ => ⟨S64x1x64, .f32⟩

abbrev hbmTy0_1 (i : Nat) : BufTy := match i % 128 with
  | 0 => ⟨S64x1x1, .f32⟩
  | 1 => ⟨S64x1x64, .f32⟩
  | 2 => ⟨S64x1x64, .f32⟩
  | 3 => ⟨S64x1x64, .f32⟩
  | 4 => ⟨S64x1x64, .f32⟩
  | 5 => ⟨S64x1x64, .f32⟩
  | 6 => ⟨S64x1x64, .f32⟩
  | 7 => ⟨S64x1x64, .f32⟩
  | 8 => ⟨S64x1x64, .f32⟩
  | 9 => ⟨S64x1x64, .f32⟩
  | 10 => ⟨S_, .f32⟩
  | 11 => ⟨S64x1, .f32⟩
  | 12 => ⟨S64x1x1, .f32⟩
  | 13 => ⟨S64x1x1, .f32⟩
  | 14 => ⟨S64x1x64, .f32⟩
  | 15 => ⟨S64x1x64, .f32⟩
  | 16 => ⟨S64x1x64, .f32⟩
  | 17 => ⟨S64x1x64, .f32⟩
  | 18 => ⟨S64x1x64, .f32⟩
  | 19 => ⟨S_, .f32⟩
  | 20 => ⟨S64x1, .f32⟩
  | 21 => ⟨S64x1x1, .f32⟩
  | 22 => ⟨S64x1x1, .f32⟩
  | 23 => ⟨S64x1x64, .f32⟩
  | 24 => ⟨S64x1x64, .f32⟩
  | 25 => ⟨S64x1x64, .f32⟩
  | 26 => ⟨S64x1x1, .f32⟩
  | _ => ⟨S64x1x64, .f32⟩

abbrev hbmTy (i : Nat) : BufTy := match i / 128 with
  | 0 => hbmTy0_0 i
  | 1 => hbmTy0_1 i
  | _ => ⟨S64x1x64, .f32⟩

abbrev bufTy : (tb : Table) → Fin (tcTables nBuf tb) → BufTy
  | .hbm, ⟨i, _⟩ => hbmTy i
  | _, _ => ⟨S64x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_5 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_7 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_cst_8 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_cst_9 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩

abbrev nD : Nat := 1
abbrev τ : Topo := Topo.v7x

variable {F : FTy → Type} [FloatOps F]
-- ==== Proof.Run.lean ====
/- A run of the kernel's body at one point of its grid: at the first point, where it clears the gradient that it keeps from
   chunk to chunk, and at a later one. Each ends with the inputs as they were and with the pieces that the stores wrote. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first: the body then clears the kept gradient. -/
abbrev cond0_0 (i : grid0.Coords) : Prop := (Scalar.cmpi .ne (Scalar.extui (Scalar.cmpi .eq (BitVec.ofNat 32 (i 1).val) 0#32)) 0#32) = 1#1

set_option maxHeartbeats 4000000 in
/-- The body at a later point, where the gradient kept by the point before is read: it ends with its inputs as they were and with the
    pieces of the point's values written into each output and into the kept gradient. -/
noncomputable def pointRunB (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S8x64x64 .f32) (harg5 : arg5.IsWhole) (arg6 : Memref sig .tc .vmem S8x64x64 .f32) (harg6 : arg6.IsWhole) (arg7 : Memref sig .tc .vmem S8x1x128x128 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S8x64x64 .f32) (harg15 : arg15.IsWhole) (arg16 : Memref sig .tc .vmem S8x64x64 .f32) (harg16 : arg16.IsWhole) (arg17 : Memref sig .tc .vmem S8x128x128 .f32) (harg17 : arg17.IsWhole) (hc0 : ¬cond0_0 i)
    (x0 : Vec F S64x1024 .f32) (x1 : Vec F S64x1024 .f32) (x2 : Vec F S64x1024 .f32) (x3 : Vec F S8x64x64 .f32) (x4 : Vec F S8x64x64 .f32) (x5 : Vec F S8x1x128x128 .f32) (x6 : Vec F S8x1x64x64 .f32) (x7 : Vec F S64x1024 .f32) (x8 : Vec F S64x1024 .f32) (x9 : Vec F S64x1024 .f32) (x13 x14 : Vec F S8x64x64 .f32) (xs0 : Vec F S8x128x128 .f32)
    :
    Σ' (L12 L13 L14 : List (View.Piece (Elt F) S64x1024 .f32)) (L15 L16 : List (View.Piece (Elt F) S8x64x64 .f32)), { L17 : List (View.Piece (Elt F) S8x128x128 .f32) //
   ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x13 ∗ owns (c : Thread nD τ) arg16 fullShare x14 ∗ owns (c : Thread nD τ) arg17 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, (arg12.view.loc (c : Thread nD τ) ↦[arg12.view.set]{fullShare} arg12.view.writes (Elt F) f L12)) ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (arg15.view.loc (c : Thread nD τ) ↦[arg15.view.set]{fullShare} arg15.view.writes (Elt F) (harg15.unread x13) L15) ∗ (arg16.view.loc (c : Thread nD τ) ↦[arg16.view.set]{fullShare} arg16.view.writes (Elt F) (harg16.unread x14) L16) ∗ (∃ f, (arg17.view.loc (c : Thread nD τ) ↦[arg17.view.set]{fullShare} arg17.view.writes (Elt F) f L17))) -∗ K ⟨⟩))
      ⊢ wp frame (wpE (defs₀ (F := F)) Variants.none c none) E (cc0_delta_b_l3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_delta_b_l3_eq_skeleton]; unfold cc0_delta_b_l3_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf13; obtain rfl := harg16.eq_unread hf14; obtain rfl := harg17.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    isplitl [H11]
    · iexists _; iexact H11
    isplitl [H12]
    · iexists _; iexact H12
    isplitl [H13]
    · iexact H13
    isplitl [H14]
    · iexact H14
    iexists _; iexact HS0

set_option maxHeartbeats 4000000 in
/-- The body at the first point, where the kept gradient starts from zero: it ends with its inputs as they were and with the
    pieces of the point's values written into each output and into the kept gradient. -/
noncomputable def pointRunA (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S8x64x64 .f32) (harg5 : arg5.IsWhole) (arg6 : Memref sig .tc .vmem S8x64x64 .f32) (harg6 : arg6.IsWhole) (arg7 : Memref sig .tc .vmem S8x1x128x128 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S8x64x64 .f32) (harg15 : arg15.IsWhole) (arg16 : Memref sig .tc .vmem S8x64x64 .f32) (harg16 : arg16.IsWhole) (arg17 : Memref sig .tc .vmem S8x128x128 .f32) (harg17 : arg17.IsWhole) (hc0 : cond0_0 i)
    (x0 : Vec F S64x1024 .f32) (x1 : Vec F S64x1024 .f32) (x2 : Vec F S64x1024 .f32) (x3 : Vec F S8x64x64 .f32) (x4 : Vec F S8x64x64 .f32) (x5 : Vec F S8x1x128x128 .f32) (x6 : Vec F S8x1x64x64 .f32) (x7 : Vec F S64x1024 .f32) (x8 : Vec F S64x1024 .f32) (x9 : Vec F S64x1024 .f32) (x13 x14 : Vec F S8x64x64 .f32)
    :
    Σ' (L12 L13 L14 : List (View.Piece (Elt F) S64x1024 .f32)) (L15 L16 : List (View.Piece (Elt F) S8x64x64 .f32)), { L17 : List (View.Piece (Elt F) S8x128x128 .f32) //
   ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x13 ∗ owns (c : Thread nD τ) arg16 fullShare x14 ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, (arg12.view.loc (c : Thread nD τ) ↦[arg12.view.set]{fullShare} arg12.view.writes (Elt F) f L12)) ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (arg15.view.loc (c : Thread nD τ) ↦[arg15.view.set]{fullShare} arg15.view.writes (Elt F) (harg15.unread x13) L15) ∗ (arg16.view.loc (c : Thread nD τ) ↦[arg16.view.set]{fullShare} arg16.view.writes (Elt F) (harg16.unread x14) L16) ∗ (∃ f, (arg17.view.loc (c : Thread nD τ) ↦[arg17.view.set]{fullShare} arg17.view.writes (Elt F) f L17))) -∗ K ⟨⟩))
      ⊢ wp frame (wpE (defs₀ (F := F)) Variants.none c none) E (cc0_delta_b_l3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_delta_b_l3_eq_skeleton]; unfold cc0_delta_b_l3_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf13; obtain rfl := harg16.eq_unread hf14
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; iexact H10
    isplitl [H11]
    · iexists _; iexact H11
    isplitl [H12]
    · iexists _; iexact H12
    isplitl [H13]
    · iexact H13
    isplitl [H14]
    · iexact H14
    iexists _; iexact HS0

end Cert.KernelIdeal.Gen

end
-- ==== Proof.Values.lean ====
/- What one point of the kernel's grid computes of the blocks it loads: the values of the body, one by one, as functions
   of the loads; the pieces that its stores write; and that a run of the body writes these pieces. -/
module

public import proofs.«01_k».proof.Proof.Run

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body loads at a point: eight heads' columns of the blocks of q, k, v, u, w and of the outputs' gradient,
    one row of the gates and betas, the state, the inverse and the gradient carried from the chunk after. -/
structure Ld (F : FTy → Type) where
  (q0 q1 q2 q3 q4 q5 q6 q7 : Vec F S64x128 .f32)
  (k0 k1 k2 k3 k4 k5 k6 k7 : Vec F S64x128 .f32)
  (v0 v1 v2 v3 v4 v5 v6 v7 : Vec F S64x128 .f32)
  (u0 u1 u2 u3 u4 u5 u6 u7 : Vec F S64x128 .f32)
  (w0 w1 w2 w3 w4 w5 w6 w7 : Vec F S64x128 .f32)
  (o0 o1 o2 o3 o4 o5 o6 o7 : Vec F S64x128 .f32)
  g : Vec F S8x1x64 .f32
  b : Vec F S8x1x64 .f32
  s : Vec F S8x1x128x128 .f32
  T : Vec F S8x1x64x64 .f32
  ds : Vec F S8x128x128 .f32

namespace Ld

/-- The zero accumulator of a product. -/
def zeros : Vec F S8x64x128 .f32 := constant S8x64x128 .f32 0x00000000#32

variable (I : Ld F)

/-- The queries, head by head. -/
def v20 : Vec F S8x64x128 .f32 := k0_pay2 I.q0 I.q1 I.q2 I.q3 I.q4 I.q5 I.q6 I.q7
/-- The keys. -/
def v37 : Vec F S8x64x128 .f32 := k0_pay3 I.k0 I.k1 I.k2 I.k3 I.k4 I.k5 I.k6 I.k7
/-- The values. -/
def v54 : Vec F S8x64x128 .f32 := k0_pay4 I.v0 I.v1 I.v2 I.v3 I.v4 I.v5 I.v6 I.v7
/-- The inverse. -/
def v60 : Vec F S8x64x64 .f32 := k0_pay5 I.T
/-- The solution's value half. -/
def v77 : Vec F S8x64x128 .f32 := k0_pay6 I.u0 I.u1 I.u2 I.u3 I.u4 I.u5 I.u6 I.u7
/-- The solution's key half. -/
def v94 : Vec F S8x64x128 .f32 := k0_pay7 I.w0 I.w1 I.w2 I.w3 I.w4 I.w5 I.w6 I.w7
/-- The summed gates. -/
def v107 : Vec F S8x64x1 .f32 := k0_pay11 I.g
/-- The betas. -/
def v123 : Vec F S8x64x1 .f32 := k0_pay12 I.b
/-- The last summed gate. -/
def v125 : Vec F S8x1x1 .f32 := k0_pay13 I.g
/-- The decay. -/
def v133 : Vec F S8x64x64 .f32 := k0_pay14 I.g
/-- K * beta. -/
def v135 : Vec F S8x64x128 .f32 := k0_pay15 I.v37 I.b
def v136 : Vec F S8x64x128 .bf16 := k0_pay16 I.v37 I.b
def v137 : Vec F S8x64x128 .bf16 := k0_pay17 I.v37
/-- (k * beta) kᵀ. -/
def v138 : Vec F S8x64x64 .f32 := k0_pay18 I.v136 I.v137
/-- Exp of the summed gates. -/
def v139 : Vec F S8x64x1 .f32 := k0_pay19 I.v107
/-- K * beta * exp g. -/
def v141 : Vec F S8x64x128 .f32 := k0_pay20 I.v107 I.v135
/-- Q kᵀ. -/
def v144 : Vec F S8x64x64 .f32 := k0_pay21 I.v20 I.v37
/-- Q kᵀ * decay. -/
def v149 : Vec F S8x64x64 .f32 := k0_pay22 I.v20 I.v37 k0_pay9 I.v133
/-- Q * exp g. -/
def v151 : Vec F S8x64x128 .f32 := k0_pay23 I.v20 I.v107
/-- Exp (last - g). -/
def v154 : Vec F S8x64x1 .f32 := k0_pay24 I.v107 I.v125
/-- K * exp (last - g). -/
def v156 : Vec F S8x64x128 .f32 := k0_pay25 I.v37 I.v107 I.v125
/-- The state before the chunk. -/
def v158 : Vec F S8x128x128 .f32 := k0_pay26 I.s
def v167 : Vec F S1x64x128 .f32 := k0_pay27 I.o0
def v168 : Vec F S1x64x128 .f32 := k0_pay28 I.o1
def v169 : Vec F S1x64x128 .f32 := k0_pay29 I.o2
def v170 : Vec F S1x64x128 .f32 := k0_pay30 I.o3
def v171 : Vec F S1x64x128 .f32 := k0_pay31 I.o4
def v172 : Vec F S1x64x128 .f32 := k0_pay32 I.o5
def v173 : Vec F S1x64x128 .f32 := k0_pay33 I.o6
def v174 : Vec F S1x64x128 .f32 := k0_pay34 I.o7
/-- Exp of the last gate. -/
def v177 : Vec F S8x1x1 .f32 := k0_pay36 I.v125
/-- The gradient at k * exp (last - g). -/
def v184 : Vec F S8x64x128 .f32 := k0_pay38 I.v77 I.v94 I.v158 I.ds
/-- The gradient at the new values. -/
def v191 : Vec F S8x64x128 .f32 := k0_pay39 I.v149 I.v156 I.v167 I.v168 I.v169 I.v170 I.v171 I.v172 I.v173 I.v174 I.ds
def v196 : Vec F S8x1x1 .f32 := k0_pay40 I.v158 I.ds
/-- The gradient at q * exp g. -/
def v199 : Vec F S8x64x128 .f32 := k0_pay41 I.v158 I.v167 I.v168 I.v169 I.v170 I.v171 I.v172 I.v173 I.v174
/-- The gradient at q kᵀ * decay. -/
def v202 : Vec F S8x64x64 .f32 := k0_pay42 I.v77 I.v94 I.v158 I.v167 I.v168 I.v169 I.v170 I.v171 I.v172 I.v173 I.v174
/-- The gradient at the solution's key half. -/
def v207 : Vec F S8x64x128 .f32 := k0_pay43 I.v149 I.v156 I.v158 I.v167 I.v168 I.v169 I.v170 I.v171 I.v172 I.v173 I.v174 I.ds
/-- The gradient at the state before the chunk. -/
def v217 : Vec F S8x128x128 .f32 := k0_pay44 I.v94 I.v125 I.v149 I.v151 I.v156 I.v167 I.v168 I.v169 I.v170 I.v171 I.v172 I.v173 I.v174 I.ds
/-- The same, as it is kept. -/
def next : Vec F S8x128x128 .f32 := k0_pay45 I.v217
def v225 : Vec F S8x64x64 .f32 := k0_pay46 k0_pay9 I.v133 I.v202
/-- The queries' gradient. -/
def v231 : Vec F S8x64x128 .f32 := k0_pay47 I.v37 k0_pay9 I.v133 I.v139 I.v199 I.v202
def v237 : Vec F S8x64x128 .f32 := k0_pay48 I.v20 k0_pay9 I.v133 I.v154 I.v184 I.v202
def v244 : Vec F S8x64x1 .f32 := k0_pay50 I.v151 I.v156 I.v184 I.v199
def v248 : Vec F S8x1x1 .f32 := k0_pay51 I.v156 I.v177 I.v184 I.v196
def v251 : Vec F S8x64x128 .f32 := k0_pay53 I.v60 I.v191 I.v207
def v252 : Vec F S8x64x128 .f32 := k0_pay54 I.v60 I.v191 I.v207
def v256 : Vec F S8x64x64 .f32 := k0_pay55 I.v60 I.v77 I.v94 I.v191 I.v207
/-- The values' gradient. -/
def v258 : Vec F S8x64x128 .f32 := k0_pay56 I.v60 I.v123 I.v191 I.v207
def v285 : Vec F S8x64x1 .f32 := k0_pay65 I.v54 I.v251
def v289 : Vec F S8x64x1 .f32 := k0_pay66 I.v141 I.v244 I.v252
def v294 : Vec F S8x64x64 .f32 := k0_pay67 k0_pay10 I.v133 I.v256
def v296 : Vec F S8x64x128 .f32 := k0_pay68 I.v139 I.v252
def v297 : Vec F S8x64x64 .bf16 := k0_pay69 k0_pay10 I.v133 I.v256
def v298 : Vec F S8x64x128 .bf16 := k0_pay70 I.v37
/-- The keys' gradient. -/
def v307 : Vec F S8x64x128 .f32 := k0_pay72 I.v123 I.v135 I.v237 I.v294 I.v296 I.v297 I.v298 zeros
/-- The betas' gradient, a column. -/
def v311 : Vec F S8x64x1 .f32 := k0_pay73 I.v37 I.v285 I.v296 I.v297 I.v298 zeros
/-- The summed gates' gradient, a column in every lane. -/
def v348 : Vec F S8x64x64 .f32 := k0_pay74 k0_pay8 I.v138 I.v144 I.v225 I.v248 I.v289 I.v294
/-- The gates' gradient. -/
def dg : Vec F S8x1x64 .f32 := k0_pay75 k0_pay9 I.v348
/-- The betas' gradient. -/
def db : Vec F S8x1x64 .f32 := k0_pay76 k0_pay8 I.v311

end Ld

/-- Eight heads' columns written side by side into a block of rows, the last head first. -/
def heads (d0 d1 d2 d3 d4 d5 d6 d7 : Vec F S64x128 .f32) : List (View.Piece (Elt F) S64x1024 .f32) :=
  [⟨(Rect.unit (s := S64x1024) ![0, 896] S64x128.size inb_S64x1024_S64x128_0_896), d7⟩,
   ⟨(Rect.unit (s := S64x1024) ![0, 768] S64x128.size inb_S64x1024_S64x128_0_768), d6⟩,
   ⟨(Rect.unit (s := S64x1024) ![0, 640] S64x128.size inb_S64x1024_S64x128_0_640), d5⟩,
   ⟨(Rect.unit (s := S64x1024) ![0, 512] S64x128.size inb_S64x1024_S64x128_0_512), d4⟩,
   ⟨(Rect.unit (s := S64x1024) ![0, 384] S64x128.size inb_S64x1024_S64x128_0_384), d3⟩,
   ⟨(Rect.unit (s := S64x1024) ![0, 256] S64x128.size inb_S64x1024_S64x128_0_256), d2⟩,
   ⟨(Rect.unit (s := S64x1024) ![0, 128] S64x128.size inb_S64x1024_S64x128_0_128), d1⟩,
   ⟨(Rect.unit (s := S64x1024) ![0, 0] S64x128.size inb_S64x1024_S64x128_0_0), d0⟩]

/-- The row of a whole gate array that a point reads and writes. -/
abbrev rowRect (i : grid0.Coords) : Rect S8x64x64 := Rect.unit (s := S8x64x64) (k0_off1 i) S8x1x64.size (k0_off1_inb i)

/-- The whole of the kept gradient. -/
abbrev allRect : Rect S8x128x128 := Rect.unit (s := S8x128x128) ![0, 0, 0] S8x128x128.size inb_S8x128x128_S8x128x128_0_0_0

/-- What the body loads, of the arrays its memrefs hold and the carried gradient. -/
def ldOf (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S8x64x64 .f32) (harg5 : arg5.IsWhole) (arg6 : Memref sig .tc .vmem S8x64x64 .f32) (harg6 : arg6.IsWhole) (arg7 : Memref sig .tc .vmem S8x1x128x128 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (x0 : Vec F S64x1024 .f32) (x1 : Vec F S64x1024 .f32) (x2 : Vec F S64x1024 .f32) (x3 : Vec F S8x64x64 .f32) (x4 : Vec F S8x64x64 .f32) (x5 : Vec F S8x1x128x128 .f32) (x6 : Vec F S8x1x64x64 .f32) (x7 : Vec F S64x1024 .f32) (x8 : Vec F S64x1024 .f32) (x9 : Vec F S64x1024 .f32) (d : Vec F S8x128x128 .f32) : Ld F where
  q0 := arg2.view.readAt (Elt F) (Rect.unit (s := S64x1024) ![0, 0] S64x128.size inb_S64x1024_S64x128_0_0).toLoadRect (harg2.unread x0)
  q1 := arg2.view.readAt (Elt F) (Rect.unit (s := S64x1024) ![0, 128] S64x128.size inb_S64x1024_S64x128_0_128).toLoadRect (harg2.unread x0)
  q2 := arg2.view.readAt (Elt F) (Rect.unit (s := S64x1024) ![0, 256] S64x128.size inb_S64x1024_S64x128_0_256).toLoadRect (harg2.unread x0)
  q3 := arg2.view.readAt (Elt F) (Rect.unit (s := S64x1024) ![0, 384] S64x128.size inb_S64x1024_S64x128_0_384).toLoadRect (harg2.unread x0)
  q4 := arg2.view.readAt (Elt F) (Rect.unit (s := S64x1024) ![0, 512] S64x128.size inb_S64x1024_S64x128_0_512).toLoadRect (harg2.unread x0)
  q5 := arg2.view.readAt (Elt F) (Rect.unit (s := S64x1024) ![0, 640] S64x128.size inb_S64x1024_S64x128_0_640).toLoadRect (harg2.unread x0)
  q6 := arg2.view.readAt (Elt F) (Rect.unit (s := S64x1024) ![0, 768] S64x128.size inb_S64x1024_S64x128_0_768).toLoadRect (harg2.unread x0)
  q7 := arg2.view.readAt (Elt F) (Rect.unit (s := S64x1024) ![0, 896] S64x128.size inb_S64x1024_S64x128_0_896).toLoadRect (harg2.unread x0)
  k0 := arg3.view.readAt (Elt F) (Rect.unit (s := S64x1024) ![0, 0] S64x128.size inb_S64x1024_S64x128_0_0).toLoadRect (harg3.unread x1)
  k1 := arg3.view.readAt (Elt F) (Rect.unit (s := S64x1024) ![0, 128] S64x128.size inb_S64x1024_S64x128_0_128).toLoadRect (harg3.unread x1)
  k2 := arg3.view.readAt (Elt F) (Rect.unit (s := S64x1024) ![0, 256] S64x128.size inb_S64x1024_S64x128_0_256).toLoadRect (harg3.unread x1)
  k3 := arg3.view.readAt (Elt F) (Rect.unit (s := S64x1024) ![0, 384] S64x128.size inb_S64x1024_S64x128_0_384).toLoadRect (harg3.unread x1)
  k4 := arg3.view.readAt (Elt F) (Rect.unit (s := S64x1024) ![0, 512] S64x128.size inb_S64x1024_S64x128_0_512).toLoadRect (harg3.unread x1)
  k5 := arg3.view.readAt (Elt F) (Rect.unit (s := S64x1024) ![0, 640] S64x128.size inb_S64x1024_S64x128_0_640).toLoadRect (harg3.unread x1)
  k6 := arg3.view.readAt (Elt F) (Rect.unit (s := S64x1024) ![0, 768] S64x128.size inb_S64x1024_S64x128_0_768).toLoadRect (harg3.unread x1)
  k7 := arg3.view.readAt (Elt F) (Rect.unit (s := S64x1024) ![0, 896] S64x128.size inb_S64x1024_S64x128_0_896).toLoadRect (harg3.unread x1)
  v0 := arg4.view.readAt (Elt F) (Rect.unit (s := S64x1024) ![0, 0] S64x128.size inb_S64x1024_S64x128_0_0).toLoadRect (harg4.unread x2)
  v1 := arg4.view.readAt (Elt F) (Rect.unit (s := S64x1024) ![0, 128] S64x128.size inb_S64x1024_S64x128_0_128).toLoadRect (harg4.unread x2)
  v2 := arg4.view.readAt (Elt F) (Rect.unit (s := S64x1024) ![0, 256] S64x128.size inb_S64x1024_S64x128_0_256).toLoadRect (harg4.unread x2)
  v3 := arg4.view.readAt (Elt F) (Rect.unit (s := S64x1024) ![0, 384] S64x128.size inb_S64x1024_S64x128_0_384).toLoadRect (harg4.unread x2)
  v4 := arg4.view.readAt (Elt F) (Rect.unit (s := S64x1024) ![0, 512] S64x128.size inb_S64x1024_S64x128_0_512).toLoadRect (harg4.unread x2)
  v5 := arg4.view.readAt (Elt F) (Rect.unit (s := S64x1024) ![0, 640] S64x128.size inb_S64x1024_S64x128_0_640).toLoadRect (harg4.unread x2)
  v6 := arg4.view.readAt (Elt F) (Rect.unit (s := S64x1024) ![0, 768] S64x128.size inb_S64x1024_S64x128_0_768).toLoadRect (harg4.unread x2)
  v7 := arg4.view.readAt (Elt F) (Rect.unit (s := S64x1024) ![0, 896] S64x128.size inb_S64x1024_S64x128_0_896).toLoadRect (harg4.unread x2)
  g := arg5.view.readAt (Elt F) (rowRect i).toLoadRect (harg5.unread x3)
  b := arg6.view.readAt (Elt F) (rowRect i).toLoadRect (harg6.unread x4)
  s := arg7.view.readAt (Elt F) (Rect.unit (s := S8x1x128x128) ![0, 0, 0, 0] S8x1x128x128.size inb_S8x1x128x128_S8x1x128x128_0_0_0_0).toLoadRect (harg7.unread x5)
  T := arg8.view.readAt (Elt F) (Rect.unit (s := S8x1x64x64) ![0, 0, 0, 0] S8x1x64x64.size inb_S8x1x64x64_S8x1x64x64_0_0_0_0).toLoadRect (harg8.unread x6)
  u0 := arg9.view.readAt (Elt F) (Rect.unit (s := S64x1024) ![0, 0] S64x128.size inb_S64x1024_S64x128_0_0).toLoadRect (harg9.unread x7)
  u1 := arg9.view.readAt (Elt F) (Rect.unit (s := S64x1024) ![0, 128] S64x128.size inb_S64x1024_S64x128_0_128).toLoadRect (harg9.unread x7)
  u2 := arg9.view.readAt (Elt F) (Rect.unit (s := S64x1024) ![0, 256] S64x128.size inb_S64x1024_S64x128_0_256).toLoadRect (harg9.unread x7)
  u3 := arg9.view.readAt (Elt F) (Rect.unit (s := S64x1024) ![0, 384] S64x128.size inb_S64x1024_S64x128_0_384).toLoadRect (harg9.unread x7)
  u4 := arg9.view.readAt (Elt F) (Rect.unit (s := S64x1024) ![0, 512] S64x128.size inb_S64x1024_S64x128_0_512).toLoadRect (harg9.unread x7)
  u5 := arg9.view.readAt (Elt F) (Rect.unit (s := S64x1024) ![0, 640] S64x128.size inb_S64x1024_S64x128_0_640).toLoadRect (harg9.unread x7)
  u6 := arg9.view.readAt (Elt F) (Rect.unit (s := S64x1024) ![0, 768] S64x128.size inb_S64x1024_S64x128_0_768).toLoadRect (harg9.unread x7)
  u7 := arg9.view.readAt (Elt F) (Rect.unit (s := S64x1024) ![0, 896] S64x128.size inb_S64x1024_S64x128_0_896).toLoadRect (harg9.unread x7)
  w0 := arg10.view.readAt (Elt F) (Rect.unit (s := S64x1024) ![0, 0] S64x128.size inb_S64x1024_S64x128_0_0).toLoadRect (harg10.unread x8)
  w1 := arg10.view.readAt (Elt F) (Rect.unit (s := S64x1024) ![0, 128] S64x128.size inb_S64x1024_S64x128_0_128).toLoadRect (harg10.unread x8)
  w2 := arg10.view.readAt (Elt F) (Rect.unit (s := S64x1024) ![0, 256] S64x128.size inb_S64x1024_S64x128_0_256).toLoadRect (harg10.unread x8)
  w3 := arg10.view.readAt (Elt F) (Rect.unit (s := S64x1024) ![0, 384] S64x128.size inb_S64x1024_S64x128_0_384).toLoadRect (harg10.unread x8)
  w4 := arg10.view.readAt (Elt F) (Rect.unit (s := S64x1024) ![0, 512] S64x128.size inb_S64x1024_S64x128_0_512).toLoadRect (harg10.unread x8)
  w5 := arg10.view.readAt (Elt F) (Rect.unit (s := S64x1024) ![0, 640] S64x128.size inb_S64x1024_S64x128_0_640).toLoadRect (harg10.unread x8)
  w6 := arg10.view.readAt (Elt F) (Rect.unit (s := S64x1024) ![0, 768] S64x128.size inb_S64x1024_S64x128_0_768).toLoadRect (harg10.unread x8)
  w7 := arg10.view.readAt (Elt F) (Rect.unit (s := S64x1024) ![0, 896] S64x128.size inb_S64x1024_S64x128_0_896).toLoadRect (harg10.unread x8)
  o0 := arg11.view.readAt (Elt F) (Rect.unit (s := S64x1024) ![0, 0] S64x128.size inb_S64x1024_S64x128_0_0).toLoadRect (harg11.unread x9)
  o1 := arg11.view.readAt (Elt F) (Rect.unit (s := S64x1024) ![0, 128] S64x128.size inb_S64x1024_S64x128_0_128).toLoadRect (harg11.unread x9)
  o2 := arg11.view.readAt (Elt F) (Rect.unit (s := S64x1024) ![0, 256] S64x128.size inb_S64x1024_S64x128_0_256).toLoadRect (harg11.unread x9)
  o3 := arg11.view.readAt (Elt F) (Rect.unit (s := S64x1024) ![0, 384] S64x128.size inb_S64x1024_S64x128_0_384).toLoadRect (harg11.unread x9)
  o4 := arg11.view.readAt (Elt F) (Rect.unit (s := S64x1024) ![0, 512] S64x128.size inb_S64x1024_S64x128_0_512).toLoadRect (harg11.unread x9)
  o5 := arg11.view.readAt (Elt F) (Rect.unit (s := S64x1024) ![0, 640] S64x128.size inb_S64x1024_S64x128_0_640).toLoadRect (harg11.unread x9)
  o6 := arg11.view.readAt (Elt F) (Rect.unit (s := S64x1024) ![0, 768] S64x128.size inb_S64x1024_S64x128_0_768).toLoadRect (harg11.unread x9)
  o7 := arg11.view.readAt (Elt F) (Rect.unit (s := S64x1024) ![0, 896] S64x128.size inb_S64x1024_S64x128_0_896).toLoadRect (harg11.unread x9)
  ds := d

/-- What a point writes back of the gradient of q. -/
abbrev Ld.dqOut (I : Ld F) := heads (k0_pay77 I.v231) (k0_pay78 I.v231) (k0_pay79 I.v231) (k0_pay80 I.v231) (k0_pay81 I.v231) (k0_pay82 I.v231) (k0_pay83 I.v231) (k0_pay84 I.v231)
/-- What a point writes back of the gradient of k. -/
abbrev Ld.dkOut (I : Ld F) := heads (k0_pay85 I.v307) (k0_pay86 I.v307) (k0_pay87 I.v307) (k0_pay88 I.v307) (k0_pay89 I.v307) (k0_pay90 I.v307) (k0_pay91 I.v307) (k0_pay92 I.v307)
/-- What a point writes back of the gradient of v. -/
abbrev Ld.dvOut (I : Ld F) := heads (k0_pay57 I.v60 I.v123 I.v191 I.v207) (k0_pay58 I.v60 I.v123 I.v191 I.v207) (k0_pay59 I.v258) (k0_pay60 I.v258) (k0_pay61 I.v258) (k0_pay62 I.v258) (k0_pay63 I.v258) (k0_pay64 I.v258)

section PointA

variable (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S8x64x64 .f32) (harg5 : arg5.IsWhole) (arg6 : Memref sig .tc .vmem S8x64x64 .f32) (harg6 : arg6.IsWhole) (arg7 : Memref sig .tc .vmem S8x1x128x128 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S8x64x64 .f32) (harg15 : arg15.IsWhole) (arg16 : Memref sig .tc .vmem S8x64x64 .f32) (harg16 : arg16.IsWhole) (arg17 : Memref sig .tc .vmem S8x128x128 .f32) (harg17 : arg17.IsWhole)
  (x0 : Vec F S64x1024 .f32) (x1 : Vec F S64x1024 .f32) (x2 : Vec F S64x1024 .f32) (x3 : Vec F S8x64x64 .f32) (x4 : Vec F S8x64x64 .f32) (x5 : Vec F S8x1x128x128 .f32) (x6 : Vec F S8x1x64x64 .f32) (x7 : Vec F S64x1024 .f32) (x8 : Vec F S64x1024 .f32) (x9 : Vec F S64x1024 .f32) (x13 x14 : Vec F S8x64x64 .f32)

/-- What the body loads at the first point. -/
abbrev loadsA : Ld F := ldOf i arg2 harg2 arg3 harg3 arg4 harg4 arg5 harg5 arg6 harg6 arg7 harg7 arg8 harg8 arg9 harg9 arg10 harg10 arg11 harg11 x0 x1 x2 x3 x4 x5 x6 x7 x8 x9 (arg17.view.readCov [⟨allRect, k0_pay1⟩] allRect.toLoadRect)

section

variable {c} {i} {arg2} {harg2} {arg3} {harg3} {arg4} {harg4} {arg5} {harg5} {arg6} {harg6} {arg7} {harg7} {arg8} {harg8} {arg9} {harg9} {arg10} {harg10} {arg11} {harg11} {arg17} {x0} {x1} {x2} {x3} {x4} {x5} {x6} {x7} {x8} {x9}
  {I : Ld F} (hI : I = loadsA i arg2 harg2 arg3 harg3 arg4 harg4 arg5 harg5 arg6 harg6 arg7 harg7 arg8 harg8 arg9 harg9 arg10 harg10 arg11 harg11 arg17 x0 x1 x2 x3 x4 x5 x6 x7 x8 x9)
include hI

theorem pointRunA_v20 : pointRunA.sl.r (F := F) c arg2 harg2 x0 = I.v20 := by
  simp only [pointRunA.sl.r, Ld.v20] <;> subst hI <;> rfl
theorem pointRunA_v37 : pointRunA.sl.r_6 (F := F) c arg3 harg3 x1 = I.v37 := by
  simp only [pointRunA.sl.r_6, Ld.v37, pointRunA.sl.r_1, pointRunA.sl.r_2, pointRunA.sl.r_3, pointRunA.sl.r_4, pointRunA.sl.r_5] <;> subst hI <;> rfl
theorem pointRunA_v54 : pointRunA.sl.r_7 (F := F) c arg4 harg4 x2 = I.v54 := by
  simp only [pointRunA.sl.r_7, Ld.v54] <;> subst hI <;> rfl
theorem pointRunA_v60 : pointRunA.sl.r_10 (F := F) c arg8 harg8 x6 = I.v60 := by
  simp only [pointRunA.sl.r_10, Ld.v60] <;> subst hI <;> rfl
theorem pointRunA_v77 : pointRunA.sl.r_11 (F := F) c arg9 harg9 x7 = I.v77 := by
  simp only [pointRunA.sl.r_11, Ld.v77] <;> subst hI <;> rfl
theorem pointRunA_v94 : pointRunA.sl.r_20 (F := F) c arg10 harg10 x8 = I.v94 := by
  simp only [pointRunA.sl.r_20, Ld.v94, pointRunA.sl.r_12, pointRunA.sl.r_13, pointRunA.sl.r_14, pointRunA.sl.r_15, pointRunA.sl.r_16, pointRunA.sl.r_17, pointRunA.sl.r_18, pointRunA.sl.r_19] <;> subst hI <;> rfl
theorem pointRunA_v107 : pointRunA.sl.r_21 (F := F) c i arg5 harg5 x3 = I.v107 := by
  simp only [pointRunA.sl.r_21, Ld.v107, pointRunA.sl.r_8] <;> subst hI <;> rfl
theorem pointRunA_v123 : pointRunA.sl.r_22 (F := F) c i arg6 harg6 x4 = I.v123 := by
  simp only [pointRunA.sl.r_22, Ld.v123, pointRunA.sl.r_9] <;> subst hI <;> rfl
theorem pointRunA_v125 : pointRunA.sl.r_23 (F := F) c i arg5 harg5 x3 = I.v125 := by
  simp only [pointRunA.sl.r_23, Ld.v125, pointRunA.sl.r_8] <;> subst hI <;> rfl
theorem pointRunA_v133 : pointRunA.sl.r_24 (F := F) c i arg5 harg5 x3 = I.v133 := by
  simp only [pointRunA.sl.r_24, Ld.v133, pointRunA.sl.r_8] <;> subst hI <;> rfl
theorem pointRunA_v135 : pointRunA.sl.r_25 (F := F) c i arg3 harg3 arg6 harg6 x1 x4 = I.v135 := by
  simp only [pointRunA.sl.r_25, Ld.v135, pointRunA_v37 hI, pointRunA.sl.r_9] <;> subst hI <;> rfl
theorem pointRunA_v136 : pointRunA.sl.r_26 (F := F) c i arg3 harg3 arg6 harg6 x1 x4 = I.v136 := by
  simp only [pointRunA.sl.r_26, Ld.v136, pointRunA_v37 hI, pointRunA.sl.r_9] <;> subst hI <;> rfl
theorem pointRunA_v137 : pointRunA.sl.r_27 (F := F) c arg3 harg3 x1 = I.v137 := by
  simp only [pointRunA.sl.r_27, Ld.v137, pointRunA_v37 hI] <;> subst hI <;> rfl
theorem pointRunA_v138 : pointRunA.sl.r_28 (F := F) c i arg3 harg3 arg6 harg6 x1 x4 = I.v138 := by
  simp only [pointRunA.sl.r_28, Ld.v138, pointRunA_v136 hI, pointRunA_v137 hI] <;> subst hI <;> rfl
theorem pointRunA_v139 : pointRunA.sl.r_29 (F := F) c i arg5 harg5 x3 = I.v139 := by
  simp only [pointRunA.sl.r_29, Ld.v139, pointRunA_v107 hI] <;> subst hI <;> rfl
theorem pointRunA_v141 : pointRunA.sl.r_30 (F := F) c i arg3 harg3 arg5 harg5 arg6 harg6 x1 x3 x4 = I.v141 := by
  simp only [pointRunA.sl.r_30, Ld.v141, pointRunA_v107 hI, pointRunA_v135 hI] <;> subst hI <;> rfl
theorem pointRunA_v144 : pointRunA.sl.r_31 (F := F) c arg2 harg2 arg3 harg3 x0 x1 = I.v144 := by
  simp only [pointRunA.sl.r_31, Ld.v144, pointRunA_v20 hI, pointRunA_v37 hI] <;> subst hI <;> rfl
theorem pointRunA_v149 : pointRunA.sl.r_32 (F := F) c i arg2 harg2 arg3 harg3 arg5 harg5 x0 x1 x3 = I.v149 := by
  simp only [pointRunA.sl.r_32, Ld.v149, pointRunA_v20 hI, pointRunA_v133 hI, pointRunA_v37 hI] <;> subst hI <;> rfl
theorem pointRunA_v151 : pointRunA.sl.r_33 (F := F) c i arg2 harg2 arg5 harg5 x0 x3 = I.v151 := by
  simp only [pointRunA.sl.r_33, Ld.v151, pointRunA_v20 hI, pointRunA_v107 hI] <;> subst hI <;> rfl
theorem pointRunA_v154 : pointRunA.sl.r_34 (F := F) c i arg5 harg5 x3 = I.v154 := by
  simp only [pointRunA.sl.r_34, Ld.v154, pointRunA_v107 hI, pointRunA_v125 hI] <;> subst hI <;> rfl
theorem pointRunA_v156 : pointRunA.sl.r_35 (F := F) c i arg3 harg3 arg5 harg5 x1 x3 = I.v156 := by
  simp only [pointRunA.sl.r_35, Ld.v156, pointRunA_v107 hI, pointRunA_v125 hI, pointRunA_v37 hI] <;> subst hI <;> rfl
theorem pointRunA_v158 : pointRunA.sl.r_36 (F := F) c arg7 harg7 x5 = I.v158 := by
  simp only [pointRunA.sl.r_36, Ld.v158] <;> subst hI <;> rfl
theorem pointRunA_v167 : pointRunA.sl.r_37 (F := F) c arg11 harg11 x9 = I.v167 := by
  simp only [pointRunA.sl.r_37, Ld.v167] <;> subst hI <;> rfl
theorem pointRunA_v168 : pointRunA.sl.r_38 (F := F) c arg11 harg11 x9 = I.v168 := by
  simp only [pointRunA.sl.r_38, Ld.v168] <;> subst hI <;> rfl
theorem pointRunA_v169 : pointRunA.sl.r_39 (F := F) c arg11 harg11 x9 = I.v169 := by
  simp only [pointRunA.sl.r_39, Ld.v169] <;> subst hI <;> rfl
theorem pointRunA_v170 : pointRunA.sl.r_40 (F := F) c arg11 harg11 x9 = I.v170 := by
  simp only [pointRunA.sl.r_40, Ld.v170] <;> subst hI <;> rfl
theorem pointRunA_v171 : pointRunA.sl.r_41 (F := F) c arg11 harg11 x9 = I.v171 := by
  simp only [pointRunA.sl.r_41, Ld.v171] <;> subst hI <;> rfl
theorem pointRunA_v172 : pointRunA.sl.r_42 (F := F) c arg11 harg11 x9 = I.v172 := by
  simp only [pointRunA.sl.r_42, Ld.v172] <;> subst hI <;> rfl
theorem pointRunA_v173 : pointRunA.sl.r_43 (F := F) c arg11 harg11 x9 = I.v173 := by
  simp only [pointRunA.sl.r_43, Ld.v173] <;> subst hI <;> rfl
theorem pointRunA_v174 : pointRunA.sl.r_44 (F := F) c arg11 harg11 x9 = I.v174 := by
  simp only [pointRunA.sl.r_44, Ld.v174] <;> subst hI <;> rfl
theorem pointRunA_v177 : pointRunA.sl.r_45 (F := F) c i arg5 harg5 x3 = I.v177 := by
  simp only [pointRunA.sl.r_45, Ld.v177, pointRunA_v125 hI] <;> subst hI <;> rfl
theorem pointRunA_v184 : pointRunA.sl.r_46 (F := F) c arg7 harg7 arg9 harg9 arg10 harg10 arg17 x5 x7 x8 = I.v184 := by
  simp only [pointRunA.sl.r_46, Ld.v184, pointRunA_v77 hI, pointRunA_v94 hI, pointRunA_v158 hI, pointRunA.sl.v176] <;> subst hI <;> rfl
theorem pointRunA_v191 : pointRunA.sl.r_47 (F := F) c i arg2 harg2 arg3 harg3 arg5 harg5 arg11 harg11 arg17 x0 x1 x3 x9 = I.v191 := by
  simp only [pointRunA.sl.r_47, Ld.v191, pointRunA_v149 hI, pointRunA_v156 hI, pointRunA_v167 hI, pointRunA_v168 hI, pointRunA_v169 hI, pointRunA_v170 hI, pointRunA_v171 hI, pointRunA_v172 hI, pointRunA_v173 hI, pointRunA_v174 hI, pointRunA.sl.v176] <;> subst hI <;> rfl
theorem pointRunA_v196 : pointRunA.sl.r_48 (F := F) c arg7 harg7 arg17 x5 = I.v196 := by
  simp only [pointRunA.sl.r_48, Ld.v196, pointRunA_v158 hI, pointRunA.sl.v176] <;> subst hI <;> rfl
theorem pointRunA_v199 : pointRunA.sl.r_49 (F := F) c arg7 harg7 arg11 harg11 x5 x9 = I.v199 := by
  simp only [pointRunA.sl.r_49, Ld.v199, pointRunA_v158 hI, pointRunA_v167 hI, pointRunA_v168 hI, pointRunA_v169 hI, pointRunA_v170 hI, pointRunA_v171 hI, pointRunA_v172 hI, pointRunA_v173 hI, pointRunA_v174 hI] <;> subst hI <;> rfl
theorem pointRunA_v202 : pointRunA.sl.r_50 (F := F) c arg7 harg7 arg9 harg9 arg10 harg10 arg11 harg11 x5 x7 x8 x9 = I.v202 := by
  simp only [pointRunA.sl.r_50, Ld.v202, pointRunA_v77 hI, pointRunA_v94 hI, pointRunA_v158 hI, pointRunA_v167 hI, pointRunA_v168 hI, pointRunA_v169 hI, pointRunA_v170 hI, pointRunA_v171 hI, pointRunA_v172 hI, pointRunA_v173 hI, pointRunA_v174 hI] <;> subst hI <;> rfl
theorem pointRunA_v207 : pointRunA.sl.r_51 (F := F) c i arg2 harg2 arg3 harg3 arg5 harg5 arg7 harg7 arg11 harg11 arg17 x0 x1 x3 x5 x9 = I.v207 := by
  simp only [pointRunA.sl.r_51, Ld.v207, pointRunA_v149 hI, pointRunA_v156 hI, pointRunA_v158 hI, pointRunA_v167 hI, pointRunA_v168 hI, pointRunA_v169 hI, pointRunA_v170 hI, pointRunA_v171 hI, pointRunA_v172 hI, pointRunA_v173 hI, pointRunA_v174 hI, pointRunA.sl.v176] <;> subst hI <;> rfl
theorem pointRunA_v217 : pointRunA.sl.r_52 (F := F) c i arg2 harg2 arg3 harg3 arg5 harg5 arg10 harg10 arg11 harg11 arg17 x0 x1 x3 x8 x9 = I.v217 := by
  simp only [pointRunA.sl.r_52, Ld.v217, pointRunA_v94 hI, pointRunA_v125 hI, pointRunA_v149 hI, pointRunA_v151 hI, pointRunA_v156 hI, pointRunA_v167 hI, pointRunA_v168 hI, pointRunA_v169 hI, pointRunA_v170 hI, pointRunA_v171 hI, pointRunA_v172 hI, pointRunA_v173 hI, pointRunA_v174 hI, pointRunA.sl.v176] <;> subst hI <;> rfl
theorem pointRunA_v225 : pointRunA.sl.r_53 (F := F) c i arg5 harg5 arg7 harg7 arg9 harg9 arg10 harg10 arg11 harg11 x3 x5 x7 x8 x9 = I.v225 := by
  simp only [pointRunA.sl.r_53, Ld.v225, pointRunA_v133 hI, pointRunA_v202 hI] <;> subst hI <;> rfl
theorem pointRunA_v231 : pointRunA.sl.r_54 (F := F) c i arg3 harg3 arg5 harg5 arg7 harg7 arg9 harg9 arg10 harg10 arg11 harg11 x1 x3 x5 x7 x8 x9 = I.v231 := by
  simp only [pointRunA.sl.r_54, Ld.v231, pointRunA_v133 hI, pointRunA_v139 hI, pointRunA_v199 hI, pointRunA_v202 hI, pointRunA_v37 hI] <;> subst hI <;> rfl
theorem pointRunA_v237 : pointRunA.sl.r_55 (F := F) c i arg2 harg2 arg5 harg5 arg7 harg7 arg9 harg9 arg10 harg10 arg11 harg11 arg17 x0 x3 x5 x7 x8 x9 = I.v237 := by
  simp only [pointRunA.sl.r_55, Ld.v237, pointRunA_v20 hI, pointRunA_v133 hI, pointRunA_v154 hI, pointRunA_v184 hI, pointRunA_v202 hI] <;> subst hI <;> rfl
theorem pointRunA_v244 : pointRunA.sl.r_56 (F := F) c i arg2 harg2 arg3 harg3 arg5 harg5 arg7 harg7 arg9 harg9 arg10 harg10 arg11 harg11 arg17 x0 x1 x3 x5 x7 x8 x9 = I.v244 := by
  simp only [pointRunA.sl.r_56, Ld.v244, pointRunA_v151 hI, pointRunA_v156 hI, pointRunA_v184 hI, pointRunA_v199 hI] <;> subst hI <;> rfl
theorem pointRunA_v248 : pointRunA.sl.r_57 (F := F) c i arg3 harg3 arg5 harg5 arg7 harg7 arg9 harg9 arg10 harg10 arg17 x1 x3 x5 x7 x8 = I.v248 := by
  simp only [pointRunA.sl.r_57, Ld.v248, pointRunA_v156 hI, pointRunA_v177 hI, pointRunA_v184 hI, pointRunA_v196 hI] <;> subst hI <;> rfl
theorem pointRunA_v251 : pointRunA.sl.r_58 (F := F) c i arg2 harg2 arg3 harg3 arg5 harg5 arg7 harg7 arg8 harg8 arg11 harg11 arg17 x0 x1 x3 x5 x6 x9 = I.v251 := by
  simp only [pointRunA.sl.r_58, Ld.v251, pointRunA_v60 hI, pointRunA_v191 hI, pointRunA_v207 hI] <;> subst hI <;> rfl
theorem pointRunA_v252 : pointRunA.sl.r_59 (F := F) c i arg2 harg2 arg3 harg3 arg5 harg5 arg7 harg7 arg8 harg8 arg11 harg11 arg17 x0 x1 x3 x5 x6 x9 = I.v252 := by
  simp only [pointRunA.sl.r_59, Ld.v252, pointRunA_v60 hI, pointRunA_v191 hI, pointRunA_v207 hI] <;> subst hI <;> rfl
theorem pointRunA_v256 : pointRunA.sl.r_60 (F := F) c i arg2 harg2 arg3 harg3 arg5 harg5 arg7 harg7 arg8 harg8 arg9 harg9 arg10 harg10 arg11 harg11 arg17 x0 x1 x3 x5 x6 x7 x8 x9 = I.v256 := by
  simp only [pointRunA.sl.r_60, Ld.v256, pointRunA_v60 hI, pointRunA_v77 hI, pointRunA_v94 hI, pointRunA_v191 hI, pointRunA_v207 hI] <;> subst hI <;> rfl
theorem pointRunA_v258 : pointRunA.sl.r_61 (F := F) c i arg2 harg2 arg3 harg3 arg5 harg5 arg6 harg6 arg7 harg7 arg8 harg8 arg11 harg11 arg17 x0 x1 x3 x4 x5 x6 x9 = I.v258 := by
  simp only [pointRunA.sl.r_61, Ld.v258, pointRunA_v60 hI, pointRunA_v123 hI, pointRunA_v191 hI, pointRunA_v207 hI] <;> subst hI <;> rfl
theorem pointRunA_v285 : pointRunA.sl.r_63 (F := F) c i arg2 harg2 arg3 harg3 arg4 harg4 arg5 harg5 arg7 harg7 arg8 harg8 arg11 harg11 arg17 x0 x1 x2 x3 x5 x6 x9 = I.v285 := by
  simp only [pointRunA.sl.r_63, Ld.v285, pointRunA_v251 hI, pointRunA_v54 hI] <;> subst hI <;> rfl
theorem pointRunA_v289 : pointRunA.sl.r_64 (F := F) c i arg2 harg2 arg3 harg3 arg5 harg5 arg6 harg6 arg7 harg7 arg8 harg8 arg9 harg9 arg10 harg10 arg11 harg11 arg17 x0 x1 x3 x4 x5 x6 x7 x8 x9 = I.v289 := by
  simp only [pointRunA.sl.r_64, Ld.v289, pointRunA_v141 hI, pointRunA_v244 hI, pointRunA_v252 hI] <;> subst hI <;> rfl
theorem pointRunA_v294 : pointRunA.sl.r_65 (F := F) c i arg2 harg2 arg3 harg3 arg5 harg5 arg7 harg7 arg8 harg8 arg9 harg9 arg10 harg10 arg11 harg11 arg17 x0 x1 x3 x5 x6 x7 x8 x9 = I.v294 := by
  simp only [pointRunA.sl.r_65, Ld.v294, pointRunA_v133 hI, pointRunA_v256 hI] <;> subst hI <;> rfl
theorem pointRunA_v296 : pointRunA.sl.r_66 (F := F) c i arg2 harg2 arg3 harg3 arg5 harg5 arg7 harg7 arg8 harg8 arg11 harg11 arg17 x0 x1 x3 x5 x6 x9 = I.v296 := by
  simp only [pointRunA.sl.r_66, Ld.v296, pointRunA_v139 hI, pointRunA_v252 hI] <;> subst hI <;> rfl
theorem pointRunA_v297 : pointRunA.sl.r_67 (F := F) c i arg2 harg2 arg3 harg3 arg5 harg5 arg7 harg7 arg8 harg8 arg9 harg9 arg10 harg10 arg11 harg11 arg17 x0 x1 x3 x5 x6 x7 x8 x9 = I.v297 := by
  simp only [pointRunA.sl.r_67, Ld.v297, pointRunA_v133 hI, pointRunA_v256 hI] <;> subst hI <;> rfl
theorem pointRunA_v298 : pointRunA.sl.r_68 (F := F) c arg3 harg3 x1 = I.v298 := by
  simp only [pointRunA.sl.r_68, Ld.v298, pointRunA_v37 hI] <;> subst hI <;> rfl
theorem pointRunA_v307 : pointRunA.sl.r_69 (F := F) c i arg2 harg2 arg3 harg3 arg5 harg5 arg6 harg6 arg7 harg7 arg8 harg8 arg9 harg9 arg10 harg10 arg11 harg11 arg17 x0 x1 x3 x4 x5 x6 x7 x8 x9 = I.v307 := by
  simp only [pointRunA.sl.r_69, Ld.v307, pointRunA.sl.cst_157, pointRunA_v123 hI, pointRunA_v135 hI, pointRunA_v237 hI, pointRunA_v294 hI, pointRunA_v296 hI, pointRunA_v297 hI, pointRunA_v298 hI] <;> subst hI <;> rfl
theorem pointRunA_v311 : pointRunA.sl.r_70 (F := F) c i arg2 harg2 arg3 harg3 arg4 harg4 arg5 harg5 arg7 harg7 arg8 harg8 arg9 harg9 arg10 harg10 arg11 harg11 arg17 x0 x1 x2 x3 x5 x6 x7 x8 x9 = I.v311 := by
  simp only [pointRunA.sl.r_70, Ld.v311, pointRunA.sl.cst_157, pointRunA_v37 hI, pointRunA_v285 hI, pointRunA_v296 hI, pointRunA_v297 hI, pointRunA_v298 hI] <;> subst hI <;> rfl
theorem pointRunA_v348 : pointRunA.sl.r_71 (F := F) c i arg2 harg2 arg3 harg3 arg5 harg5 arg6 harg6 arg7 harg7 arg8 harg8 arg9 harg9 arg10 harg10 arg11 harg11 arg17 x0 x1 x3 x4 x5 x6 x7 x8 x9 = I.v348 := by
  simp only [pointRunA.sl.r_71, Ld.v348, pointRunA_v138 hI, pointRunA_v144 hI, pointRunA_v225 hI, pointRunA_v248 hI, pointRunA_v289 hI, pointRunA_v294 hI] <;> subst hI <;> rfl

end

variable (hc0 : cond0_0 i)
theorem pointRunA_12 : (pointRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14).1 = (loadsA i arg2 harg2 arg3 harg3 arg4 harg4 arg5 harg5 arg6 harg6 arg7 harg7 arg8 harg8 arg9 harg9 arg10 harg10 arg11 harg11 arg17 x0 x1 x2 x3 x4 x5 x6 x7 x8 x9).dqOut := by
  show ([⟨Rect.unit ![0, 896] S64x128.size inb_S64x1024_S64x128_0_896, k0_pay84 (pointRunA.sl.r_54 c i arg3 harg3 arg5 harg5 arg7 harg7 arg9 harg9 arg10 harg10 arg11 harg11 x1 x3 x5 x7 x8 x9)⟩, ⟨Rect.unit ![0, 768] S64x128.size inb_S64x1024_S64x128_0_768, k0_pay83 (pointRunA.sl.r_54 c i arg3 harg3 arg5 harg5 arg7 harg7 arg9 harg9 arg10 harg10 arg11 harg11 x1 x3 x5 x7 x8 x9)⟩, ⟨Rect.unit ![0, 640] S64x128.size inb_S64x1024_S64x128_0_640, pointRunA.sl.r_72 c i arg3 harg3 arg5 harg5 arg7 harg7 arg9 harg9 arg10 harg10 arg11 harg11 x1 x3 x5 x7 x8 x9⟩, ⟨Rect.unit ![0, 512] S64x128.size inb_S64x1024_S64x128_0_512, k0_pay81 (pointRunA.sl.r_54 c i arg3 harg3 arg5 harg5 arg7 harg7 arg9 harg9 arg10 harg10 arg11 harg11 x1 x3 x5 x7 x8 x9)⟩, ⟨Rect.unit ![0, 384] S64x128.size inb_S64x1024_S64x128_0_384, k0_pay80 (pointRunA.sl.r_54 c i arg3 harg3 arg5 harg5 arg7 harg7 arg9 harg9 arg10 harg10 arg11 harg11 x1 x3 x5 x7 x8 x9)⟩, ⟨Rect.unit ![0, 256] S64x128.size inb_S64x1024_S64x128_0_256, k0_pay79 (pointRunA.sl.r_54 c i arg3 harg3 arg5 harg5 arg7 harg7 arg9 harg9 arg10 harg10 arg11 harg11 x1 x3 x5 x7 x8 x9)⟩, ⟨Rect.unit ![0, 128] S64x128.size inb_S64x1024_S64x128_0_128, k0_pay78 (pointRunA.sl.r_54 c i arg3 harg3 arg5 harg5 arg7 harg7 arg9 harg9 arg10 harg10 arg11 harg11 x1 x3 x5 x7 x8 x9)⟩, ⟨Rect.unit ![0, 0] S64x128.size inb_S64x1024_S64x128_0_0, k0_pay77 (pointRunA.sl.r_54 c i arg3 harg3 arg5 harg5 arg7 harg7 arg9 harg9 arg10 harg10 arg11 harg11 x1 x3 x5 x7 x8 x9)⟩] : List (View.Piece (Elt F) S64x1024 .f32)) = _
  have hI := Eq.refl (loadsA i arg2 harg2 arg3 harg3 arg4 harg4 arg5 harg5 arg6 harg6 arg7 harg7 arg8 harg8 arg9 harg9 arg10 harg10 arg11 harg11 arg17 x0 x1 x2 x3 x4 x5 x6 x7 x8 x9)
  simp only [pointRunA_v231 hI, pointRunA.sl.r_72, Ld.dqOut, heads, rowRect, allRect, Ld.dg, Ld.db, Ld.next]

theorem pointRunA_13 : (pointRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14).2.1 = (loadsA i arg2 harg2 arg3 harg3 arg4 harg4 arg5 harg5 arg6 harg6 arg7 harg7 arg8 harg8 arg9 harg9 arg10 harg10 arg11 harg11 arg17 x0 x1 x2 x3 x4 x5 x6 x7 x8 x9).dkOut := by
  show ([⟨Rect.unit ![0, 896] S64x128.size inb_S64x1024_S64x128_0_896, pointRunA.sl.r_73 c i arg2 harg2 arg3 harg3 arg5 harg5 arg6 harg6 arg7 harg7 arg8 harg8 arg9 harg9 arg10 harg10 arg11 harg11 arg17 x0 x1 x3 x4 x5 x6 x7 x8 x9⟩, ⟨Rect.unit ![0, 768] S64x128.size inb_S64x1024_S64x128_0_768, k0_pay91 (pointRunA.sl.r_69 c i arg2 harg2 arg3 harg3 arg5 harg5 arg6 harg6 arg7 harg7 arg8 harg8 arg9 harg9 arg10 harg10 arg11 harg11 arg17 x0 x1 x3 x4 x5 x6 x7 x8 x9)⟩, ⟨Rect.unit ![0, 640] S64x128.size inb_S64x1024_S64x128_0_640, k0_pay90 (pointRunA.sl.r_69 c i arg2 harg2 arg3 harg3 arg5 harg5 arg6 harg6 arg7 harg7 arg8 harg8 arg9 harg9 arg10 harg10 arg11 harg11 arg17 x0 x1 x3 x4 x5 x6 x7 x8 x9)⟩, ⟨Rect.unit ![0, 512] S64x128.size inb_S64x1024_S64x128_0_512, k0_pay89 (pointRunA.sl.r_69 c i arg2 harg2 arg3 harg3 arg5 harg5 arg6 harg6 arg7 harg7 arg8 harg8 arg9 harg9 arg10 harg10 arg11 harg11 arg17 x0 x1 x3 x4 x5 x6 x7 x8 x9)⟩, ⟨Rect.unit ![0, 384] S64x128.size inb_S64x1024_S64x128_0_384, k0_pay88 (pointRunA.sl.r_69 c i arg2 harg2 arg3 harg3 arg5 harg5 arg6 harg6 arg7 harg7 arg8 harg8 arg9 harg9 arg10 harg10 arg11 harg11 arg17 x0 x1 x3 x4 x5 x6 x7 x8 x9)⟩, ⟨Rect.unit ![0, 256] S64x128.size inb_S64x1024_S64x128_0_256, k0_pay87 (pointRunA.sl.r_69 c i arg2 harg2 arg3 harg3 arg5 harg5 arg6 harg6 arg7 harg7 arg8 harg8 arg9 harg9 arg10 harg10 arg11 harg11 arg17 x0 x1 x3 x4 x5 x6 x7 x8 x9)⟩, ⟨Rect.unit ![0, 128] S64x128.size inb_S64x1024_S64x128_0_128, k0_pay86 (pointRunA.sl.r_69 c i arg2 harg2 arg3 harg3 arg5 harg5 arg6 harg6 arg7 harg7 arg8 harg8 arg9 harg9 arg10 harg10 arg11 harg11 arg17 x0 x1 x3 x4 x5 x6 x7 x8 x9)⟩, ⟨Rect.unit ![0, 0] S64x128.size inb_S64x1024_S64x128_0_0, k0_pay85 (pointRunA.sl.r_69 c i arg2 harg2 arg3 harg3 arg5 harg5 arg6 harg6 arg7 harg7 arg8 harg8 arg9 harg9 arg10 harg10 arg11 harg11 arg17 x0 x1 x3 x4 x5 x6 x7 x8 x9)⟩] : List (View.Piece (Elt F) S64x1024 .f32)) = _
  have hI := Eq.refl (loadsA i arg2 harg2 arg3 harg3 arg4 harg4 arg5 harg5 arg6 harg6 arg7 harg7 arg8 harg8 arg9 harg9 arg10 harg10 arg11 harg11 arg17 x0 x1 x2 x3 x4 x5 x6 x7 x8 x9)
  simp only [pointRunA_v307 hI, pointRunA.sl.r_73, Ld.dkOut, heads, rowRect, allRect, Ld.dg, Ld.db, Ld.next]

theorem pointRunA_14 : (pointRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14).2.2.1 = (loadsA i arg2 harg2 arg3 harg3 arg4 harg4 arg5 harg5 arg6 harg6 arg7 harg7 arg8 harg8 arg9 harg9 arg10 harg10 arg11 harg11 arg17 x0 x1 x2 x3 x4 x5 x6 x7 x8 x9).dvOut := by
  show ([⟨Rect.unit ![0, 896] S64x128.size inb_S64x1024_S64x128_0_896, k0_pay64 (pointRunA.sl.r_61 c i arg2 harg2 arg3 harg3 arg5 harg5 arg6 harg6 arg7 harg7 arg8 harg8 arg11 harg11 arg17 x0 x1 x3 x4 x5 x6 x9)⟩, ⟨Rect.unit ![0, 768] S64x128.size inb_S64x1024_S64x128_0_768, k0_pay63 (pointRunA.sl.r_61 c i arg2 harg2 arg3 harg3 arg5 harg5 arg6 harg6 arg7 harg7 arg8 harg8 arg11 harg11 arg17 x0 x1 x3 x4 x5 x6 x9)⟩, ⟨Rect.unit ![0, 640] S64x128.size inb_S64x1024_S64x128_0_640, k0_pay62 (pointRunA.sl.r_61 c i arg2 harg2 arg3 harg3 arg5 harg5 arg6 harg6 arg7 harg7 arg8 harg8 arg11 harg11 arg17 x0 x1 x3 x4 x5 x6 x9)⟩, ⟨Rect.unit ![0, 512] S64x128.size inb_S64x1024_S64x128_0_512, k0_pay61 (pointRunA.sl.r_61 c i arg2 harg2 arg3 harg3 arg5 harg5 arg6 harg6 arg7 harg7 arg8 harg8 arg11 harg11 arg17 x0 x1 x3 x4 x5 x6 x9)⟩, ⟨Rect.unit ![0, 384] S64x128.size inb_S64x1024_S64x128_0_384, k0_pay60 (pointRunA.sl.r_61 c i arg2 harg2 arg3 harg3 arg5 harg5 arg6 harg6 arg7 harg7 arg8 harg8 arg11 harg11 arg17 x0 x1 x3 x4 x5 x6 x9)⟩, ⟨Rect.unit ![0, 256] S64x128.size inb_S64x1024_S64x128_0_256, k0_pay59 (pointRunA.sl.r_61 c i arg2 harg2 arg3 harg3 arg5 harg5 arg6 harg6 arg7 harg7 arg8 harg8 arg11 harg11 arg17 x0 x1 x3 x4 x5 x6 x9)⟩, ⟨Rect.unit ![0, 128] S64x128.size inb_S64x1024_S64x128_0_128, pointRunA.sl.r_62 c i arg2 harg2 arg3 harg3 arg5 harg5 arg6 harg6 arg7 harg7 arg8 harg8 arg11 harg11 arg17 x0 x1 x3 x4 x5 x6 x9⟩, ⟨Rect.unit ![0, 0] S64x128.size inb_S64x1024_S64x128_0_0, k0_pay57 (pointRunA.sl.r_10 c arg8 harg8 x6) (pointRunA.sl.r_22 c i arg6 harg6 x4) (pointRunA.sl.r_47 c i arg2 harg2 arg3 harg3 arg5 harg5 arg11 harg11 arg17 x0 x1 x3 x9) (pointRunA.sl.r_51 c i arg2 harg2 arg3 harg3 arg5 harg5 arg7 harg7 arg11 harg11 arg17 x0 x1 x3 x5 x9)⟩] : List (View.Piece (Elt F) S64x1024 .f32)) = _
  have hI := Eq.refl (loadsA i arg2 harg2 arg3 harg3 arg4 harg4 arg5 harg5 arg6 harg6 arg7 harg7 arg8 harg8 arg9 harg9 arg10 harg10 arg11 harg11 arg17 x0 x1 x2 x3 x4 x5 x6 x7 x8 x9)
  simp only [pointRunA_v60 hI, pointRunA_v123 hI, pointRunA_v191 hI, pointRunA_v207 hI, pointRunA_v258 hI, pointRunA.sl.r_62, Ld.dvOut, heads, rowRect, allRect, Ld.dg, Ld.db, Ld.next]

theorem pointRunA_15 : (pointRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14).2.2.2.1 = [⟨rowRect i, (loadsA i arg2 harg2 arg3 harg3 arg4 harg4 arg5 harg5 arg6 harg6 arg7 harg7 arg8 harg8 arg9 harg9 arg10 harg10 arg11 harg11 arg17 x0 x1 x2 x3 x4 x5 x6 x7 x8 x9).dg⟩] := by
  show ([⟨rowRect i, k0_pay75 k0_pay9 (pointRunA.sl.r_71 c i arg2 harg2 arg3 harg3 arg5 harg5 arg6 harg6 arg7 harg7 arg8 harg8 arg9 harg9 arg10 harg10 arg11 harg11 arg17 x0 x1 x3 x4 x5 x6 x7 x8 x9)⟩] : List (View.Piece (Elt F) S8x64x64 .f32)) = _
  have hI := Eq.refl (loadsA i arg2 harg2 arg3 harg3 arg4 harg4 arg5 harg5 arg6 harg6 arg7 harg7 arg8 harg8 arg9 harg9 arg10 harg10 arg11 harg11 arg17 x0 x1 x2 x3 x4 x5 x6 x7 x8 x9)
  simp only [pointRunA_v348 hI, heads, rowRect, allRect, Ld.dg, Ld.db, Ld.next]

theorem pointRunA_16 : (pointRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14).2.2.2.2.1 = [⟨rowRect i, (loadsA i arg2 harg2 arg3 harg3 arg4 harg4 arg5 harg5 arg6 harg6 arg7 harg7 arg8 harg8 arg9 harg9 arg10 harg10 arg11 harg11 arg17 x0 x1 x2 x3 x4 x5 x6 x7 x8 x9).db⟩] := by
  show ([⟨rowRect i, k0_pay76 k0_pay8 (pointRunA.sl.r_70 c i arg2 harg2 arg3 harg3 arg4 harg4 arg5 harg5 arg7 harg7 arg8 harg8 arg9 harg9 arg10 harg10 arg11 harg11 arg17 x0 x1 x2 x3 x5 x6 x7 x8 x9)⟩] : List (View.Piece (Elt F) S8x64x64 .f32)) = _
  have hI := Eq.refl (loadsA i arg2 harg2 arg3 harg3 arg4 harg4 arg5 harg5 arg6 harg6 arg7 harg7 arg8 harg8 arg9 harg9 arg10 harg10 arg11 harg11 arg17 x0 x1 x2 x3 x4 x5 x6 x7 x8 x9)
  simp only [pointRunA_v311 hI, heads, rowRect, allRect, Ld.dg, Ld.db, Ld.next]

theorem pointRunA_17 : (pointRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14).2.2.2.2.2.1 = [⟨allRect, (loadsA i arg2 harg2 arg3 harg3 arg4 harg4 arg5 harg5 arg6 harg6 arg7 harg7 arg8 harg8 arg9 harg9 arg10 harg10 arg11 harg11 arg17 x0 x1 x2 x3 x4 x5 x6 x7 x8 x9).next⟩, ⟨allRect, k0_pay1⟩] := by
  show (⟨Rect.unit ![0, 0, 0] S8x128x128.size inb_S8x128x128_S8x128x128_0_0_0, k0_pay45 (pointRunA.sl.r_52 c i arg2 harg2 arg3 harg3 arg5 harg5 arg10 harg10 arg11 harg11 arg17 x0 x1 x3 x8 x9)⟩ :: pointRunA.sl.HS0_1 : List (View.Piece (Elt F) S8x128x128 .f32)) = _
  have hI := Eq.refl (loadsA i arg2 harg2 arg3 harg3 arg4 harg4 arg5 harg5 arg6 harg6 arg7 harg7 arg8 harg8 arg9 harg9 arg10 harg10 arg11 harg11 arg17 x0 x1 x2 x3 x4 x5 x6 x7 x8 x9)
  simp only [pointRunA.sl.HS0_1, pointRunA_v217 hI, heads, rowRect, allRect, Ld.dg, Ld.db, Ld.next]

end PointA

section PointB

variable (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S8x64x64 .f32) (harg5 : arg5.IsWhole) (arg6 : Memref sig .tc .vmem S8x64x64 .f32) (harg6 : arg6.IsWhole) (arg7 : Memref sig .tc .vmem S8x1x128x128 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S8x64x64 .f32) (harg15 : arg15.IsWhole) (arg16 : Memref sig .tc .vmem S8x64x64 .f32) (harg16 : arg16.IsWhole) (arg17 : Memref sig .tc .vmem S8x128x128 .f32) (harg17 : arg17.IsWhole)
  (x0 : Vec F S64x1024 .f32) (x1 : Vec F S64x1024 .f32) (x2 : Vec F S64x1024 .f32) (x3 : Vec F S8x64x64 .f32) (x4 : Vec F S8x64x64 .f32) (x5 : Vec F S8x1x128x128 .f32) (x6 : Vec F S8x1x64x64 .f32) (x7 : Vec F S64x1024 .f32) (x8 : Vec F S64x1024 .f32) (x9 : Vec F S64x1024 .f32) (x13 x14 : Vec F S8x64x64 .f32) (xs0 : Vec F S8x128x128 .f32)

/-- What the body loads at a later point. -/
abbrev loadsB : Ld F := ldOf i arg2 harg2 arg3 harg3 arg4 harg4 arg5 harg5 arg6 harg6 arg7 harg7 arg8 harg8 arg9 harg9 arg10 harg10 arg11 harg11 x0 x1 x2 x3 x4 x5 x6 x7 x8 x9 (arg17.view.readAt (Elt F) allRect.toLoadRect (harg17.unread xs0))

section

variable {c} {i} {arg2} {harg2} {arg3} {harg3} {arg4} {harg4} {arg5} {harg5} {arg6} {harg6} {arg7} {harg7} {arg8} {harg8} {arg9} {harg9} {arg10} {harg10} {arg11} {harg11} {arg17} {harg17} {x0} {x1} {x2} {x3} {x4} {x5} {x6} {x7} {x8} {x9} {xs0}
  {I : Ld F} (hI : I = loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0)
include hI

theorem pointRunB_v20 : pointRunB.sl.r (F := F) c arg2 harg2 x0 = I.v20 := by
  simp only [pointRunB.sl.r, Ld.v20] <;> subst hI <;> rfl
theorem pointRunB_v37 : pointRunB.sl.r_6 (F := F) c arg3 harg3 x1 = I.v37 := by
  simp only [pointRunB.sl.r_6, Ld.v37, pointRunB.sl.r_1, pointRunB.sl.r_2, pointRunB.sl.r_3, pointRunB.sl.r_4, pointRunB.sl.r_5] <;> subst hI <;> rfl
theorem pointRunB_v54 : pointRunB.sl.r_7 (F := F) c arg4 harg4 x2 = I.v54 := by
  simp only [pointRunB.sl.r_7, Ld.v54] <;> subst hI <;> rfl
theorem pointRunB_v60 : pointRunB.sl.r_10 (F := F) c arg8 harg8 x6 = I.v60 := by
  simp only [pointRunB.sl.r_10, Ld.v60] <;> subst hI <;> rfl
theorem pointRunB_v77 : pointRunB.sl.r_11 (F := F) c arg9 harg9 x7 = I.v77 := by
  simp only [pointRunB.sl.r_11, Ld.v77] <;> subst hI <;> rfl
theorem pointRunB_v94 : pointRunB.sl.r_20 (F := F) c arg10 harg10 x8 = I.v94 := by
  simp only [pointRunB.sl.r_20, Ld.v94, pointRunB.sl.r_12, pointRunB.sl.r_13, pointRunB.sl.r_14, pointRunB.sl.r_15, pointRunB.sl.r_16, pointRunB.sl.r_17, pointRunB.sl.r_18, pointRunB.sl.r_19] <;> subst hI <;> rfl
theorem pointRunB_v107 : pointRunB.sl.r_21 (F := F) c i arg5 harg5 x3 = I.v107 := by
  simp only [pointRunB.sl.r_21, Ld.v107, pointRunB.sl.r_8] <;> subst hI <;> rfl
theorem pointRunB_v123 : pointRunB.sl.r_22 (F := F) c i arg6 harg6 x4 = I.v123 := by
  simp only [pointRunB.sl.r_22, Ld.v123, pointRunB.sl.r_9] <;> subst hI <;> rfl
theorem pointRunB_v125 : pointRunB.sl.r_23 (F := F) c i arg5 harg5 x3 = I.v125 := by
  simp only [pointRunB.sl.r_23, Ld.v125, pointRunB.sl.r_8] <;> subst hI <;> rfl
theorem pointRunB_v133 : pointRunB.sl.r_24 (F := F) c i arg5 harg5 x3 = I.v133 := by
  simp only [pointRunB.sl.r_24, Ld.v133, pointRunB.sl.r_8] <;> subst hI <;> rfl
theorem pointRunB_v135 : pointRunB.sl.r_25 (F := F) c i arg3 harg3 arg6 harg6 x1 x4 = I.v135 := by
  simp only [pointRunB.sl.r_25, Ld.v135, pointRunB_v37 hI, pointRunB.sl.r_9] <;> subst hI <;> rfl
theorem pointRunB_v136 : pointRunB.sl.r_26 (F := F) c i arg3 harg3 arg6 harg6 x1 x4 = I.v136 := by
  simp only [pointRunB.sl.r_26, Ld.v136, pointRunB_v37 hI, pointRunB.sl.r_9] <;> subst hI <;> rfl
theorem pointRunB_v137 : pointRunB.sl.r_27 (F := F) c arg3 harg3 x1 = I.v137 := by
  simp only [pointRunB.sl.r_27, Ld.v137, pointRunB_v37 hI] <;> subst hI <;> rfl
theorem pointRunB_v138 : pointRunB.sl.r_28 (F := F) c i arg3 harg3 arg6 harg6 x1 x4 = I.v138 := by
  simp only [pointRunB.sl.r_28, Ld.v138, pointRunB_v136 hI, pointRunB_v137 hI] <;> subst hI <;> rfl
theorem pointRunB_v139 : pointRunB.sl.r_29 (F := F) c i arg5 harg5 x3 = I.v139 := by
  simp only [pointRunB.sl.r_29, Ld.v139, pointRunB_v107 hI] <;> subst hI <;> rfl
theorem pointRunB_v141 : pointRunB.sl.r_30 (F := F) c i arg3 harg3 arg5 harg5 arg6 harg6 x1 x3 x4 = I.v141 := by
  simp only [pointRunB.sl.r_30, Ld.v141, pointRunB_v107 hI, pointRunB_v135 hI] <;> subst hI <;> rfl
theorem pointRunB_v144 : pointRunB.sl.r_31 (F := F) c arg2 harg2 arg3 harg3 x0 x1 = I.v144 := by
  simp only [pointRunB.sl.r_31, Ld.v144, pointRunB_v20 hI, pointRunB_v37 hI] <;> subst hI <;> rfl
theorem pointRunB_v149 : pointRunB.sl.r_32 (F := F) c i arg2 harg2 arg3 harg3 arg5 harg5 x0 x1 x3 = I.v149 := by
  simp only [pointRunB.sl.r_32, Ld.v149, pointRunB_v20 hI, pointRunB_v133 hI, pointRunB_v37 hI] <;> subst hI <;> rfl
theorem pointRunB_v151 : pointRunB.sl.r_33 (F := F) c i arg2 harg2 arg5 harg5 x0 x3 = I.v151 := by
  simp only [pointRunB.sl.r_33, Ld.v151, pointRunB_v20 hI, pointRunB_v107 hI] <;> subst hI <;> rfl
theorem pointRunB_v154 : pointRunB.sl.r_34 (F := F) c i arg5 harg5 x3 = I.v154 := by
  simp only [pointRunB.sl.r_34, Ld.v154, pointRunB_v107 hI, pointRunB_v125 hI] <;> subst hI <;> rfl
theorem pointRunB_v156 : pointRunB.sl.r_35 (F := F) c i arg3 harg3 arg5 harg5 x1 x3 = I.v156 := by
  simp only [pointRunB.sl.r_35, Ld.v156, pointRunB_v107 hI, pointRunB_v125 hI, pointRunB_v37 hI] <;> subst hI <;> rfl
theorem pointRunB_v158 : pointRunB.sl.r_36 (F := F) c arg7 harg7 x5 = I.v158 := by
  simp only [pointRunB.sl.r_36, Ld.v158] <;> subst hI <;> rfl
theorem pointRunB_v167 : pointRunB.sl.r_37 (F := F) c arg11 harg11 x9 = I.v167 := by
  simp only [pointRunB.sl.r_37, Ld.v167] <;> subst hI <;> rfl
theorem pointRunB_v168 : pointRunB.sl.r_38 (F := F) c arg11 harg11 x9 = I.v168 := by
  simp only [pointRunB.sl.r_38, Ld.v168] <;> subst hI <;> rfl
theorem pointRunB_v169 : pointRunB.sl.r_39 (F := F) c arg11 harg11 x9 = I.v169 := by
  simp only [pointRunB.sl.r_39, Ld.v169] <;> subst hI <;> rfl
theorem pointRunB_v170 : pointRunB.sl.r_40 (F := F) c arg11 harg11 x9 = I.v170 := by
  simp only [pointRunB.sl.r_40, Ld.v170] <;> subst hI <;> rfl
theorem pointRunB_v171 : pointRunB.sl.r_41 (F := F) c arg11 harg11 x9 = I.v171 := by
  simp only [pointRunB.sl.r_41, Ld.v171] <;> subst hI <;> rfl
theorem pointRunB_v172 : pointRunB.sl.r_42 (F := F) c arg11 harg11 x9 = I.v172 := by
  simp only [pointRunB.sl.r_42, Ld.v172] <;> subst hI <;> rfl
theorem pointRunB_v173 : pointRunB.sl.r_43 (F := F) c arg11 harg11 x9 = I.v173 := by
  simp only [pointRunB.sl.r_43, Ld.v173] <;> subst hI <;> rfl
theorem pointRunB_v174 : pointRunB.sl.r_44 (F := F) c arg11 harg11 x9 = I.v174 := by
  simp only [pointRunB.sl.r_44, Ld.v174] <;> subst hI <;> rfl
theorem pointRunB_v177 : pointRunB.sl.r_45 (F := F) c i arg5 harg5 x3 = I.v177 := by
  simp only [pointRunB.sl.r_45, Ld.v177, pointRunB_v125 hI] <;> subst hI <;> rfl
theorem pointRunB_v184 : pointRunB.sl.r_46 (F := F) c arg7 harg7 arg9 harg9 arg10 harg10 arg17 harg17 x5 x7 x8 xs0 = I.v184 := by
  simp only [pointRunB.sl.r_46, Ld.v184, pointRunB_v77 hI, pointRunB_v94 hI, pointRunB_v158 hI] <;> subst hI <;> rfl
theorem pointRunB_v191 : pointRunB.sl.r_47 (F := F) c i arg2 harg2 arg3 harg3 arg5 harg5 arg11 harg11 arg17 harg17 x0 x1 x3 x9 xs0 = I.v191 := by
  simp only [pointRunB.sl.r_47, Ld.v191, pointRunB_v149 hI, pointRunB_v156 hI, pointRunB_v167 hI, pointRunB_v168 hI, pointRunB_v169 hI, pointRunB_v170 hI, pointRunB_v171 hI, pointRunB_v172 hI, pointRunB_v173 hI, pointRunB_v174 hI] <;> subst hI <;> rfl
theorem pointRunB_v196 : pointRunB.sl.r_48 (F := F) c arg7 harg7 arg17 harg17 x5 xs0 = I.v196 := by
  simp only [pointRunB.sl.r_48, Ld.v196, pointRunB_v158 hI] <;> subst hI <;> rfl
theorem pointRunB_v199 : pointRunB.sl.r_49 (F := F) c arg7 harg7 arg11 harg11 x5 x9 = I.v199 := by
  simp only [pointRunB.sl.r_49, Ld.v199, pointRunB_v158 hI, pointRunB_v167 hI, pointRunB_v168 hI, pointRunB_v169 hI, pointRunB_v170 hI, pointRunB_v171 hI, pointRunB_v172 hI, pointRunB_v173 hI, pointRunB_v174 hI] <;> subst hI <;> rfl
theorem pointRunB_v202 : pointRunB.sl.r_50 (F := F) c arg7 harg7 arg9 harg9 arg10 harg10 arg11 harg11 x5 x7 x8 x9 = I.v202 := by
  simp only [pointRunB.sl.r_50, Ld.v202, pointRunB_v77 hI, pointRunB_v94 hI, pointRunB_v158 hI, pointRunB_v167 hI, pointRunB_v168 hI, pointRunB_v169 hI, pointRunB_v170 hI, pointRunB_v171 hI, pointRunB_v172 hI, pointRunB_v173 hI, pointRunB_v174 hI] <;> subst hI <;> rfl
theorem pointRunB_v207 : pointRunB.sl.r_51 (F := F) c i arg2 harg2 arg3 harg3 arg5 harg5 arg7 harg7 arg11 harg11 arg17 harg17 x0 x1 x3 x5 x9 xs0 = I.v207 := by
  simp only [pointRunB.sl.r_51, Ld.v207, pointRunB_v149 hI, pointRunB_v156 hI, pointRunB_v158 hI, pointRunB_v167 hI, pointRunB_v168 hI, pointRunB_v169 hI, pointRunB_v170 hI, pointRunB_v171 hI, pointRunB_v172 hI, pointRunB_v173 hI, pointRunB_v174 hI] <;> subst hI <;> rfl
theorem pointRunB_v217 : pointRunB.sl.r_52 (F := F) c i arg2 harg2 arg3 harg3 arg5 harg5 arg10 harg10 arg11 harg11 arg17 harg17 x0 x1 x3 x8 x9 xs0 = I.v217 := by
  simp only [pointRunB.sl.r_52, Ld.v217, pointRunB_v94 hI, pointRunB_v125 hI, pointRunB_v149 hI, pointRunB_v151 hI, pointRunB_v156 hI, pointRunB_v167 hI, pointRunB_v168 hI, pointRunB_v169 hI, pointRunB_v170 hI, pointRunB_v171 hI, pointRunB_v172 hI, pointRunB_v173 hI, pointRunB_v174 hI] <;> subst hI <;> rfl
theorem pointRunB_v225 : pointRunB.sl.r_53 (F := F) c i arg5 harg5 arg7 harg7 arg9 harg9 arg10 harg10 arg11 harg11 x3 x5 x7 x8 x9 = I.v225 := by
  simp only [pointRunB.sl.r_53, Ld.v225, pointRunB_v133 hI, pointRunB_v202 hI] <;> subst hI <;> rfl
theorem pointRunB_v231 : pointRunB.sl.r_54 (F := F) c i arg3 harg3 arg5 harg5 arg7 harg7 arg9 harg9 arg10 harg10 arg11 harg11 x1 x3 x5 x7 x8 x9 = I.v231 := by
  simp only [pointRunB.sl.r_54, Ld.v231, pointRunB_v133 hI, pointRunB_v139 hI, pointRunB_v199 hI, pointRunB_v202 hI, pointRunB_v37 hI] <;> subst hI <;> rfl
theorem pointRunB_v237 : pointRunB.sl.r_55 (F := F) c i arg2 harg2 arg5 harg5 arg7 harg7 arg9 harg9 arg10 harg10 arg11 harg11 arg17 harg17 x0 x3 x5 x7 x8 x9 xs0 = I.v237 := by
  simp only [pointRunB.sl.r_55, Ld.v237, pointRunB_v20 hI, pointRunB_v133 hI, pointRunB_v154 hI, pointRunB_v184 hI, pointRunB_v202 hI] <;> subst hI <;> rfl
theorem pointRunB_v244 : pointRunB.sl.r_56 (F := F) c i arg2 harg2 arg3 harg3 arg5 harg5 arg7 harg7 arg9 harg9 arg10 harg10 arg11 harg11 arg17 harg17 x0 x1 x3 x5 x7 x8 x9 xs0 = I.v244 := by
  simp only [pointRunB.sl.r_56, Ld.v244, pointRunB_v151 hI, pointRunB_v156 hI, pointRunB_v184 hI, pointRunB_v199 hI] <;> subst hI <;> rfl
theorem pointRunB_v248 : pointRunB.sl.r_57 (F := F) c i arg3 harg3 arg5 harg5 arg7 harg7 arg9 harg9 arg10 harg10 arg17 harg17 x1 x3 x5 x7 x8 xs0 = I.v248 := by
  simp only [pointRunB.sl.r_57, Ld.v248, pointRunB_v156 hI, pointRunB_v177 hI, pointRunB_v184 hI, pointRunB_v196 hI] <;> subst hI <;> rfl
theorem pointRunB_v251 : pointRunB.sl.r_58 (F := F) c i arg2 harg2 arg3 harg3 arg5 harg5 arg7 harg7 arg8 harg8 arg11 harg11 arg17 harg17 x0 x1 x3 x5 x6 x9 xs0 = I.v251 := by
  simp only [pointRunB.sl.r_58, Ld.v251, pointRunB_v60 hI, pointRunB_v191 hI, pointRunB_v207 hI] <;> subst hI <;> rfl
theorem pointRunB_v252 : pointRunB.sl.r_59 (F := F) c i arg2 harg2 arg3 harg3 arg5 harg5 arg7 harg7 arg8 harg8 arg11 harg11 arg17 harg17 x0 x1 x3 x5 x6 x9 xs0 = I.v252 := by
  simp only [pointRunB.sl.r_59, Ld.v252, pointRunB_v60 hI, pointRunB_v191 hI, pointRunB_v207 hI] <;> subst hI <;> rfl
theorem pointRunB_v256 : pointRunB.sl.r_60 (F := F) c i arg2 harg2 arg3 harg3 arg5 harg5 arg7 harg7 arg8 harg8 arg9 harg9 arg10 harg10 arg11 harg11 arg17 harg17 x0 x1 x3 x5 x6 x7 x8 x9 xs0 = I.v256 := by
  simp only [pointRunB.sl.r_60, Ld.v256, pointRunB_v60 hI, pointRunB_v77 hI, pointRunB_v94 hI, pointRunB_v191 hI, pointRunB_v207 hI] <;> subst hI <;> rfl
theorem pointRunB_v258 : pointRunB.sl.r_61 (F := F) c i arg2 harg2 arg3 harg3 arg5 harg5 arg6 harg6 arg7 harg7 arg8 harg8 arg11 harg11 arg17 harg17 x0 x1 x3 x4 x5 x6 x9 xs0 = I.v258 := by
  simp only [pointRunB.sl.r_61, Ld.v258, pointRunB_v60 hI, pointRunB_v123 hI, pointRunB_v191 hI, pointRunB_v207 hI] <;> subst hI <;> rfl
theorem pointRunB_v285 : pointRunB.sl.r_63 (F := F) c i arg2 harg2 arg3 harg3 arg4 harg4 arg5 harg5 arg7 harg7 arg8 harg8 arg11 harg11 arg17 harg17 x0 x1 x2 x3 x5 x6 x9 xs0 = I.v285 := by
  simp only [pointRunB.sl.r_63, Ld.v285, pointRunB_v251 hI, pointRunB_v54 hI] <;> subst hI <;> rfl
theorem pointRunB_v289 : pointRunB.sl.r_64 (F := F) c i arg2 harg2 arg3 harg3 arg5 harg5 arg6 harg6 arg7 harg7 arg8 harg8 arg9 harg9 arg10 harg10 arg11 harg11 arg17 harg17 x0 x1 x3 x4 x5 x6 x7 x8 x9 xs0 = I.v289 := by
  simp only [pointRunB.sl.r_64, Ld.v289, pointRunB_v141 hI, pointRunB_v244 hI, pointRunB_v252 hI] <;> subst hI <;> rfl
theorem pointRunB_v294 : pointRunB.sl.r_65 (F := F) c i arg2 harg2 arg3 harg3 arg5 harg5 arg7 harg7 arg8 harg8 arg9 harg9 arg10 harg10 arg11 harg11 arg17 harg17 x0 x1 x3 x5 x6 x7 x8 x9 xs0 = I.v294 := by
  simp only [pointRunB.sl.r_65, Ld.v294, pointRunB_v133 hI, pointRunB_v256 hI] <;> subst hI <;> rfl
theorem pointRunB_v296 : pointRunB.sl.r_66 (F := F) c i arg2 harg2 arg3 harg3 arg5 harg5 arg7 harg7 arg8 harg8 arg11 harg11 arg17 harg17 x0 x1 x3 x5 x6 x9 xs0 = I.v296 := by
  simp only [pointRunB.sl.r_66, Ld.v296, pointRunB_v139 hI, pointRunB_v252 hI] <;> subst hI <;> rfl
theorem pointRunB_v297 : pointRunB.sl.r_67 (F := F) c i arg2 harg2 arg3 harg3 arg5 harg5 arg7 harg7 arg8 harg8 arg9 harg9 arg10 harg10 arg11 harg11 arg17 harg17 x0 x1 x3 x5 x6 x7 x8 x9 xs0 = I.v297 := by
  simp only [pointRunB.sl.r_67, Ld.v297, pointRunB_v133 hI, pointRunB_v256 hI] <;> subst hI <;> rfl
theorem pointRunB_v298 : pointRunB.sl.r_68 (F := F) c arg3 harg3 x1 = I.v298 := by
  simp only [pointRunB.sl.r_68, Ld.v298, pointRunB_v37 hI] <;> subst hI <;> rfl
theorem pointRunB_v307 : pointRunB.sl.r_69 (F := F) c i arg2 harg2 arg3 harg3 arg5 harg5 arg6 harg6 arg7 harg7 arg8 harg8 arg9 harg9 arg10 harg10 arg11 harg11 arg17 harg17 x0 x1 x3 x4 x5 x6 x7 x8 x9 xs0 = I.v307 := by
  simp only [pointRunB.sl.r_69, Ld.v307, pointRunB.sl.cst_157, pointRunB_v123 hI, pointRunB_v135 hI, pointRunB_v237 hI, pointRunB_v294 hI, pointRunB_v296 hI, pointRunB_v297 hI, pointRunB_v298 hI] <;> subst hI <;> rfl
theorem pointRunB_v311 : pointRunB.sl.r_70 (F := F) c i arg2 harg2 arg3 harg3 arg4 harg4 arg5 harg5 arg7 harg7 arg8 harg8 arg9 harg9 arg10 harg10 arg11 harg11 arg17 harg17 x0 x1 x2 x3 x5 x6 x7 x8 x9 xs0 = I.v311 := by
  simp only [pointRunB.sl.r_70, Ld.v311, pointRunB.sl.cst_157, pointRunB_v37 hI, pointRunB_v285 hI, pointRunB_v296 hI, pointRunB_v297 hI, pointRunB_v298 hI] <;> subst hI <;> rfl
theorem pointRunB_v348 : pointRunB.sl.r_71 (F := F) c i arg2 harg2 arg3 harg3 arg5 harg5 arg6 harg6 arg7 harg7 arg8 harg8 arg9 harg9 arg10 harg10 arg11 harg11 arg17 harg17 x0 x1 x3 x4 x5 x6 x7 x8 x9 xs0 = I.v348 := by
  simp only [pointRunB.sl.r_71, Ld.v348, pointRunB_v138 hI, pointRunB_v144 hI, pointRunB_v225 hI, pointRunB_v248 hI, pointRunB_v289 hI, pointRunB_v294 hI] <;> subst hI <;> rfl

end

variable (hc0 : ¬cond0_0 i)
theorem pointRunB_12 : (pointRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14 xs0).1 = (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0).dqOut := by
  show ([⟨Rect.unit ![0, 896] S64x128.size inb_S64x1024_S64x128_0_896, k0_pay84 (pointRunB.sl.r_54 c i arg3 harg3 arg5 harg5 arg7 harg7 arg9 harg9 arg10 harg10 arg11 harg11 x1 x3 x5 x7 x8 x9)⟩, ⟨Rect.unit ![0, 768] S64x128.size inb_S64x1024_S64x128_0_768, k0_pay83 (pointRunB.sl.r_54 c i arg3 harg3 arg5 harg5 arg7 harg7 arg9 harg9 arg10 harg10 arg11 harg11 x1 x3 x5 x7 x8 x9)⟩, ⟨Rect.unit ![0, 640] S64x128.size inb_S64x1024_S64x128_0_640, pointRunB.sl.r_72 c i arg3 harg3 arg5 harg5 arg7 harg7 arg9 harg9 arg10 harg10 arg11 harg11 x1 x3 x5 x7 x8 x9⟩, ⟨Rect.unit ![0, 512] S64x128.size inb_S64x1024_S64x128_0_512, k0_pay81 (pointRunB.sl.r_54 c i arg3 harg3 arg5 harg5 arg7 harg7 arg9 harg9 arg10 harg10 arg11 harg11 x1 x3 x5 x7 x8 x9)⟩, ⟨Rect.unit ![0, 384] S64x128.size inb_S64x1024_S64x128_0_384, k0_pay80 (pointRunB.sl.r_54 c i arg3 harg3 arg5 harg5 arg7 harg7 arg9 harg9 arg10 harg10 arg11 harg11 x1 x3 x5 x7 x8 x9)⟩, ⟨Rect.unit ![0, 256] S64x128.size inb_S64x1024_S64x128_0_256, k0_pay79 (pointRunB.sl.r_54 c i arg3 harg3 arg5 harg5 arg7 harg7 arg9 harg9 arg10 harg10 arg11 harg11 x1 x3 x5 x7 x8 x9)⟩, ⟨Rect.unit ![0, 128] S64x128.size inb_S64x1024_S64x128_0_128, k0_pay78 (pointRunB.sl.r_54 c i arg3 harg3 arg5 harg5 arg7 harg7 arg9 harg9 arg10 harg10 arg11 harg11 x1 x3 x5 x7 x8 x9)⟩, ⟨Rect.unit ![0, 0] S64x128.size inb_S64x1024_S64x128_0_0, k0_pay77 (pointRunB.sl.r_54 c i arg3 harg3 arg5 harg5 arg7 harg7 arg9 harg9 arg10 harg10 arg11 harg11 x1 x3 x5 x7 x8 x9)⟩] : List (View.Piece (Elt F) S64x1024 .f32)) = _
  have hI := Eq.refl (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0)
  simp only [pointRunB_v231 hI, pointRunB.sl.r_72, Ld.dqOut, heads, rowRect, allRect, Ld.dg, Ld.db, Ld.next]

theorem pointRunB_13 : (pointRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14 xs0).2.1 = (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0).dkOut := by
  show ([⟨Rect.unit ![0, 896] S64x128.size inb_S64x1024_S64x128_0_896, pointRunB.sl.r_73 c i arg2 harg2 arg3 harg3 arg5 harg5 arg6 harg6 arg7 harg7 arg8 harg8 arg9 harg9 arg10 harg10 arg11 harg11 arg17 harg17 x0 x1 x3 x4 x5 x6 x7 x8 x9 xs0⟩, ⟨Rect.unit ![0, 768] S64x128.size inb_S64x1024_S64x128_0_768, k0_pay91 (pointRunB.sl.r_69 c i arg2 harg2 arg3 harg3 arg5 harg5 arg6 harg6 arg7 harg7 arg8 harg8 arg9 harg9 arg10 harg10 arg11 harg11 arg17 harg17 x0 x1 x3 x4 x5 x6 x7 x8 x9 xs0)⟩, ⟨Rect.unit ![0, 640] S64x128.size inb_S64x1024_S64x128_0_640, k0_pay90 (pointRunB.sl.r_69 c i arg2 harg2 arg3 harg3 arg5 harg5 arg6 harg6 arg7 harg7 arg8 harg8 arg9 harg9 arg10 harg10 arg11 harg11 arg17 harg17 x0 x1 x3 x4 x5 x6 x7 x8 x9 xs0)⟩, ⟨Rect.unit ![0, 512] S64x128.size inb_S64x1024_S64x128_0_512, k0_pay89 (pointRunB.sl.r_69 c i arg2 harg2 arg3 harg3 arg5 harg5 arg6 harg6 arg7 harg7 arg8 harg8 arg9 harg9 arg10 harg10 arg11 harg11 arg17 harg17 x0 x1 x3 x4 x5 x6 x7 x8 x9 xs0)⟩, ⟨Rect.unit ![0, 384] S64x128.size inb_S64x1024_S64x128_0_384, k0_pay88 (pointRunB.sl.r_69 c i arg2 harg2 arg3 harg3 arg5 harg5 arg6 harg6 arg7 harg7 arg8 harg8 arg9 harg9 arg10 harg10 arg11 harg11 arg17 harg17 x0 x1 x3 x4 x5 x6 x7 x8 x9 xs0)⟩, ⟨Rect.unit ![0, 256] S64x128.size inb_S64x1024_S64x128_0_256, k0_pay87 (pointRunB.sl.r_69 c i arg2 harg2 arg3 harg3 arg5 harg5 arg6 harg6 arg7 harg7 arg8 harg8 arg9 harg9 arg10 harg10 arg11 harg11 arg17 harg17 x0 x1 x3 x4 x5 x6 x7 x8 x9 xs0)⟩, ⟨Rect.unit ![0, 128] S64x128.size inb_S64x1024_S64x128_0_128, k0_pay86 (pointRunB.sl.r_69 c i arg2 harg2 arg3 harg3 arg5 harg5 arg6 harg6 arg7 harg7 arg8 harg8 arg9 harg9 arg10 harg10 arg11 harg11 arg17 harg17 x0 x1 x3 x4 x5 x6 x7 x8 x9 xs0)⟩, ⟨Rect.unit ![0, 0] S64x128.size inb_S64x1024_S64x128_0_0, k0_pay85 (pointRunB.sl.r_69 c i arg2 harg2 arg3 harg3 arg5 harg5 arg6 harg6 arg7 harg7 arg8 harg8 arg9 harg9 arg10 harg10 arg11 harg11 arg17 harg17 x0 x1 x3 x4 x5 x6 x7 x8 x9 xs0)⟩] : List (View.Piece (Elt F) S64x1024 .f32)) = _
  have hI := Eq.refl (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0)
  simp only [pointRunB_v307 hI, pointRunB.sl.r_73, Ld.dkOut, heads, rowRect, allRect, Ld.dg, Ld.db, Ld.next]

theorem pointRunB_14 : (pointRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14 xs0).2.2.1 = (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0).dvOut := by
  show ([⟨Rect.unit ![0, 896] S64x128.size inb_S64x1024_S64x128_0_896, k0_pay64 (pointRunB.sl.r_61 c i arg2 harg2 arg3 harg3 arg5 harg5 arg6 harg6 arg7 harg7 arg8 harg8 arg11 harg11 arg17 harg17 x0 x1 x3 x4 x5 x6 x9 xs0)⟩, ⟨Rect.unit ![0, 768] S64x128.size inb_S64x1024_S64x128_0_768, k0_pay63 (pointRunB.sl.r_61 c i arg2 harg2 arg3 harg3 arg5 harg5 arg6 harg6 arg7 harg7 arg8 harg8 arg11 harg11 arg17 harg17 x0 x1 x3 x4 x5 x6 x9 xs0)⟩, ⟨Rect.unit ![0, 640] S64x128.size inb_S64x1024_S64x128_0_640, k0_pay62 (pointRunB.sl.r_61 c i arg2 harg2 arg3 harg3 arg5 harg5 arg6 harg6 arg7 harg7 arg8 harg8 arg11 harg11 arg17 harg17 x0 x1 x3 x4 x5 x6 x9 xs0)⟩, ⟨Rect.unit ![0, 512] S64x128.size inb_S64x1024_S64x128_0_512, k0_pay61 (pointRunB.sl.r_61 c i arg2 harg2 arg3 harg3 arg5 harg5 arg6 harg6 arg7 harg7 arg8 harg8 arg11 harg11 arg17 harg17 x0 x1 x3 x4 x5 x6 x9 xs0)⟩, ⟨Rect.unit ![0, 384] S64x128.size inb_S64x1024_S64x128_0_384, k0_pay60 (pointRunB.sl.r_61 c i arg2 harg2 arg3 harg3 arg5 harg5 arg6 harg6 arg7 harg7 arg8 harg8 arg11 harg11 arg17 harg17 x0 x1 x3 x4 x5 x6 x9 xs0)⟩, ⟨Rect.unit ![0, 256] S64x128.size inb_S64x1024_S64x128_0_256, k0_pay59 (pointRunB.sl.r_61 c i arg2 harg2 arg3 harg3 arg5 harg5 arg6 harg6 arg7 harg7 arg8 harg8 arg11 harg11 arg17 harg17 x0 x1 x3 x4 x5 x6 x9 xs0)⟩, ⟨Rect.unit ![0, 128] S64x128.size inb_S64x1024_S64x128_0_128, pointRunB.sl.r_62 c i arg2 harg2 arg3 harg3 arg5 harg5 arg6 harg6 arg7 harg7 arg8 harg8 arg11 harg11 arg17 harg17 x0 x1 x3 x4 x5 x6 x9 xs0⟩, ⟨Rect.unit ![0, 0] S64x128.size inb_S64x1024_S64x128_0_0, k0_pay57 (pointRunB.sl.r_10 c arg8 harg8 x6) (pointRunB.sl.r_22 c i arg6 harg6 x4) (pointRunB.sl.r_47 c i arg2 harg2 arg3 harg3 arg5 harg5 arg11 harg11 arg17 harg17 x0 x1 x3 x9 xs0) (pointRunB.sl.r_51 c i arg2 harg2 arg3 harg3 arg5 harg5 arg7 harg7 arg11 harg11 arg17 harg17 x0 x1 x3 x5 x9 xs0)⟩] : List (View.Piece (Elt F) S64x1024 .f32)) = _
  have hI := Eq.refl (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0)
  simp only [pointRunB_v60 hI, pointRunB_v123 hI, pointRunB_v191 hI, pointRunB_v207 hI, pointRunB_v258 hI, pointRunB.sl.r_62, Ld.dvOut, heads, rowRect, allRect, Ld.dg, Ld.db, Ld.next]

theorem pointRunB_15 : (pointRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14 xs0).2.2.2.1 = [⟨rowRect i, (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0).dg⟩] := by
  show ([⟨rowRect i, k0_pay75 k0_pay9 (pointRunB.sl.r_71 c i arg2 harg2 arg3 harg3 arg5 harg5 arg6 harg6 arg7 harg7 arg8 harg8 arg9 harg9 arg10 harg10 arg11 harg11 arg17 harg17 x0 x1 x3 x4 x5 x6 x7 x8 x9 xs0)⟩] : List (View.Piece (Elt F) S8x64x64 .f32)) = _
  have hI := Eq.refl (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0)
  simp only [pointRunB_v348 hI, heads, rowRect, allRect, Ld.dg, Ld.db, Ld.next]

theorem pointRunB_16 : (pointRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14 xs0).2.2.2.2.1 = [⟨rowRect i, (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0).db⟩] := by
  show ([⟨rowRect i, k0_pay76 k0_pay8 (pointRunB.sl.r_70 c i arg2 harg2 arg3 harg3 arg4 harg4 arg5 harg5 arg7 harg7 arg8 harg8 arg9 harg9 arg10 harg10 arg11 harg11 arg17 harg17 x0 x1 x2 x3 x5 x6 x7 x8 x9 xs0)⟩] : List (View.Piece (Elt F) S8x64x64 .f32)) = _
  have hI := Eq.refl (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0)
  simp only [pointRunB_v311 hI, heads, rowRect, allRect, Ld.dg, Ld.db, Ld.next]

theorem pointRunB_17 : (pointRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x13 x14 xs0).2.2.2.2.2.1 = [⟨allRect, (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0).next⟩] := by
  show ([⟨Rect.unit ![0, 0, 0] S8x128x128.size inb_S8x128x128_S8x128x128_0_0_0, k0_pay45 (pointRunB.sl.r_52 c i arg2 harg2 arg3 harg3 arg5 harg5 arg10 harg10 arg11 harg11 arg17 harg17 x0 x1 x3 x8 x9 xs0)⟩] : List (View.Piece (Elt F) S8x128x128 .f32)) = _
  have hI := Eq.refl (loadsB i arg2 harg2 arg3 harg3 arg4 harg4 arg5 harg5 arg6 harg6 arg7 harg7 arg8 harg8 arg9 harg9 arg10 harg10 arg11 harg11 arg17 harg17 x0 x1 x2 x3 x4 x5 x6 x7 x8 x9 xs0)
  simp only [pointRunB_v217 hI, heads, rowRect, allRect, Ld.dg, Ld.db, Ld.next]

end PointB

end Cert.KernelIdeal.Gen

end
-- ==== Proof.Loads.lean ====
/- What the kernel's body loads at a point of its grid, as entries of the argument arrays: point `t` handles chunk `63 - t`,
   and head `h` is columns `128 h … 128 h + 127` of a chunk's 64 rows. -/
module

public import proofs.«01_k».proof.Proof.Values
public import proofs.«01_k».proof.Proof.Gen.KernelIdeal.Frame
public import Idealize.ShloMosaic.Lib.Pipeline.ValueKit
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI

variable {F : FTy → Type} [FloatOps F]

/-- Row `i` of chunk `n`. -/
def row (n i : Fin 64) : Fin 4096 := ⟨64 * n.val + i.val, by omega⟩
/-- Column `j` of head `h`. -/
def col (h : Fin 8) (j : Fin 128) : Fin 1024 := ⟨128 * h.val + j.val, by omega⟩

/-- The ten argument arrays: q, k, v, the gates, the betas, the saved states, inverses and solutions, and the outputs'
    gradient. -/
structure Args (F : FTy → Type) where
  (Q K V : Vec F S4096x1024 .f32)
  (G B : Vec F S8x64x64 .f32)
  S : Vec F S8x64x128x128 .f32
  T : Vec F S8x64x64x64 .f32
  (U W O : Vec F S4096x1024 .f32)

/-- Head `h` of chunk `n` of an array of 4096 rows. -/
def headOf (X : Vec F S4096x1024 .f32) (n : Fin 64) (h : Fin 8) : Vec F S64x128 .f32 :=
  fun y => X (ix2 (row n (y 0)) (col h (y 1)))

/-- What the body loads for chunk `n`, with the gradient `d` kept from the chunk after it. -/
def Args.ld (A : Args F) (n : Fin 64) (d : Vec F S8x128x128 .f32) : Ld F where
  q0 := headOf A.Q n 0
  q1 := headOf A.Q n 1
  q2 := headOf A.Q n 2
  q3 := headOf A.Q n 3
  q4 := headOf A.Q n 4
  q5 := headOf A.Q n 5
  q6 := headOf A.Q n 6
  q7 := headOf A.Q n 7
  k0 := headOf A.K n 0
  k1 := headOf A.K n 1
  k2 := headOf A.K n 2
  k3 := headOf A.K n 3
  k4 := headOf A.K n 4
  k5 := headOf A.K n 5
  k6 := headOf A.K n 6
  k7 := headOf A.K n 7
  v0 := headOf A.V n 0
  v1 := headOf A.V n 1
  v2 := headOf A.V n 2
  v3 := headOf A.V n 3
  v4 := headOf A.V n 4
  v5 := headOf A.V n 5
  v6 := headOf A.V n 6
  v7 := headOf A.V n 7
  u0 := headOf A.U n 0
  u1 := headOf A.U n 1
  u2 := headOf A.U n 2
  u3 := headOf A.U n 3
  u4 := headOf A.U n 4
  u5 := headOf A.U n 5
  u6 := headOf A.U n 6
  u7 := headOf A.U n 7
  w0 := headOf A.W n 0
  w1 := headOf A.W n 1
  w2 := headOf A.W n 2
  w3 := headOf A.W n 3
  w4 := headOf A.W n 4
  w5 := headOf A.W n 5
  w6 := headOf A.W n 6
  w7 := headOf A.W n 7
  o0 := headOf A.O n 0
  o1 := headOf A.O n 1
  o2 := headOf A.O n 2
  o3 := headOf A.O n 3
  o4 := headOf A.O n 4
  o5 := headOf A.O n 5
  o6 := headOf A.O n 6
  o7 := headOf A.O n 7
  g := fun y => A.G (ix3 (y 0) n (y 2))
  b := fun y => A.B (ix3 (y 0) n (y 2))
  s := fun y => A.S (ix4 (y 0) n (y 2) (y 3))
  T := fun y => A.T (ix4 (y 0) n (y 2) (y 3))
  ds := d

variable (m : (ℓ : Loc nD τ sig) → Buf (Elt F) ℓ)

/-- The arguments as a core's memory holds them. -/
def argsOf (c : Dev nD) : Args F where
  Q := m ((c : Thread nD τ).loc main_arg0)
  K := m ((c : Thread nD τ).loc main_arg1)
  V := m ((c : Thread nD τ).loc main_arg2)
  G := m ((c : Thread nD τ).loc main_arg3)
  B := m ((c : Thread nD τ).loc main_arg4)
  S := m ((c : Thread nD τ).loc main_arg5)
  T := m ((c : Thread nD τ).loc main_arg6)
  U := m ((c : Thread nD τ).loc main_arg7)
  W := m ((c : Thread nD τ).loc main_arg8)
  O := m ((c : Thread nD τ).loc main_arg9)

/-- The chunk that point `t` handles. -/
def chunkAt (t : Fin cfg0.N) : Fin 64 := ⟨63 - t.val, by omega⟩

theorem index0 : ∀ t : Fin cfg0.N, win0_0.index t 0 = 63 - t.val ∧ win0_0.index t 1 = 0 := (by decide +kernel : ∀ t : Fin grid0.N, win0_0.index t 0 = 63 - t.val ∧ win0_0.index t 1 = 0)
theorem index1 : ∀ t : Fin cfg0.N, win0_1.index t 0 = 63 - t.val ∧ win0_1.index t 1 = 0 := (by decide +kernel : ∀ t : Fin grid0.N, win0_1.index t 0 = 63 - t.val ∧ win0_1.index t 1 = 0)
theorem index2 : ∀ t : Fin cfg0.N, win0_2.index t 0 = 63 - t.val ∧ win0_2.index t 1 = 0 := (by decide +kernel : ∀ t : Fin grid0.N, win0_2.index t 0 = 63 - t.val ∧ win0_2.index t 1 = 0)
theorem index5 : ∀ t : Fin cfg0.N, win0_5.index t 0 = 0 ∧ win0_5.index t 1 = 63 - t.val ∧ win0_5.index t 2 = 0 ∧ win0_5.index t 3 = 0 := (by decide +kernel : ∀ t : Fin grid0.N, win0_5.index t 0 = 0 ∧ win0_5.index t 1 = 63 - t.val ∧ win0_5.index t 2 = 0 ∧ win0_5.index t 3 = 0)
theorem index6 : ∀ t : Fin cfg0.N, win0_6.index t 0 = 0 ∧ win0_6.index t 1 = 63 - t.val ∧ win0_6.index t 2 = 0 ∧ win0_6.index t 3 = 0 := (by decide +kernel : ∀ t : Fin grid0.N, win0_6.index t 0 = 0 ∧ win0_6.index t 1 = 63 - t.val ∧ win0_6.index t 2 = 0 ∧ win0_6.index t 3 = 0)
theorem index7 : ∀ t : Fin cfg0.N, win0_7.index t 0 = 63 - t.val ∧ win0_7.index t 1 = 0 := (by decide +kernel : ∀ t : Fin grid0.N, win0_7.index t 0 = 63 - t.val ∧ win0_7.index t 1 = 0)
theorem index8 : ∀ t : Fin cfg0.N, win0_8.index t 0 = 63 - t.val ∧ win0_8.index t 1 = 0 := (by decide +kernel : ∀ t : Fin grid0.N, win0_8.index t 0 = 63 - t.val ∧ win0_8.index t 1 = 0)
theorem index9 : ∀ t : Fin cfg0.N, win0_9.index t 0 = 63 - t.val ∧ win0_9.index t 1 = 0 := (by decide +kernel : ∀ t : Fin grid0.N, win0_9.index t 0 = 63 - t.val ∧ win0_9.index t 1 = 0)
theorem index10 : ∀ t : Fin cfg0.N, win0_10.index t 0 = 63 - t.val ∧ win0_10.index t 1 = 0 := (by decide +kernel : ∀ t : Fin grid0.N, win0_10.index t 0 = 63 - t.val ∧ win0_10.index t 1 = 0)
theorem index11 : ∀ t : Fin cfg0.N, win0_11.index t 0 = 63 - t.val ∧ win0_11.index t 1 = 0 := (by decide +kernel : ∀ t : Fin grid0.N, win0_11.index t 0 = 63 - t.val ∧ win0_11.index t 1 = 0)
theorem index12 : ∀ t : Fin cfg0.N, win0_12.index t 0 = 63 - t.val ∧ win0_12.index t 1 = 0 := (by decide +kernel : ∀ t : Fin grid0.N, win0_12.index t 0 = 63 - t.val ∧ win0_12.index t 1 = 0)
theorem index3 : ∀ t : Fin cfg0.N, win0_3.index t 0 = 0 ∧ win0_3.index t 1 = 0 ∧ win0_3.index t 2 = 0 := (by decide +kernel : ∀ t : Fin grid0.N, win0_3.index t 0 = 0 ∧ win0_3.index t 1 = 0 ∧ win0_3.index t 2 = 0)
theorem index4 : ∀ t : Fin cfg0.N, win0_4.index t 0 = 0 ∧ win0_4.index t 1 = 0 ∧ win0_4.index t 2 = 0 := (by decide +kernel : ∀ t : Fin grid0.N, win0_4.index t 0 = 0 ∧ win0_4.index t 1 = 0 ∧ win0_4.index t 2 = 0)
theorem index13 : ∀ t : Fin cfg0.N, win0_13.index t 0 = 0 ∧ win0_13.index t 1 = 0 ∧ win0_13.index t 2 = 0 := (by decide +kernel : ∀ t : Fin grid0.N, win0_13.index t 0 = 0 ∧ win0_13.index t 1 = 0 ∧ win0_13.index t 2 = 0)
theorem index14 : ∀ t : Fin cfg0.N, win0_14.index t 0 = 0 ∧ win0_14.index t 1 = 0 ∧ win0_14.index t 2 = 0 := (by decide +kernel : ∀ t : Fin grid0.N, win0_14.index t 0 = 0 ∧ win0_14.index t 1 = 0 ∧ win0_14.index t 2 = 0)
theorem off1_at : ∀ t : Fin cfg0.N, k0_off1 (grid0.coords t) 0 = 0 ∧ k0_off1 (grid0.coords t) 1 = 63 - t.val ∧ k0_off1 (grid0.coords t) 2 = 0 :=
  (by decide +kernel : ∀ t : Fin grid0.N, k0_off1 (grid0.coords t) 0 = 0 ∧ k0_off1 (grid0.coords t) 1 = 63 - t.val ∧ k0_off1 (grid0.coords t) 2 = 0)

theorem iblk_0 (c : Dev nD) (t : Fin cfg0.N) (y : S64x1024.Idx) : iblk m c 0 t y = (argsOf m c).Q (ix2 (row (chunkAt t) (y 0)) (y 1)) := by
  have h := index0 t
  blk_ext [iblk, V, argsOf, row, chunkAt, h.1, h.2]
theorem iblk_1 (c : Dev nD) (t : Fin cfg0.N) (y : S64x1024.Idx) : iblk m c 1 t y = (argsOf m c).K (ix2 (row (chunkAt t) (y 0)) (y 1)) := by
  have h := index1 t
  blk_ext [iblk, V, argsOf, row, chunkAt, h.1, h.2]
theorem iblk_2 (c : Dev nD) (t : Fin cfg0.N) (y : S64x1024.Idx) : iblk m c 2 t y = (argsOf m c).V (ix2 (row (chunkAt t) (y 0)) (y 1)) := by
  have h := index2 t
  blk_ext [iblk, V, argsOf, row, chunkAt, h.1, h.2]
theorem iblk_7 (c : Dev nD) (t : Fin cfg0.N) (y : S64x1024.Idx) : iblk m c 7 t y = (argsOf m c).U (ix2 (row (chunkAt t) (y 0)) (y 1)) := by
  have h := index7 t
  blk_ext [iblk, V, argsOf, row, chunkAt, h.1, h.2]
theorem iblk_8 (c : Dev nD) (t : Fin cfg0.N) (y : S64x1024.Idx) : iblk m c 8 t y = (argsOf m c).W (ix2 (row (chunkAt t) (y 0)) (y 1)) := by
  have h := index8 t
  blk_ext [iblk, V, argsOf, row, chunkAt, h.1, h.2]
theorem iblk_9 (c : Dev nD) (t : Fin cfg0.N) (y : S64x1024.Idx) : iblk m c 9 t y = (argsOf m c).O (ix2 (row (chunkAt t) (y 0)) (y 1)) := by
  have h := index9 t
  blk_ext [iblk, V, argsOf, row, chunkAt, h.1, h.2]
theorem iblk_3 (c : Dev nD) (t : Fin cfg0.N) (y : S8x64x64.Idx) : iblk m c 3 t y = (argsOf m c).G y := by
  have h := index3 t
  blk_ext [iblk, V, argsOf, h.1, h.2.1, h.2.2]
theorem iblk_4 (c : Dev nD) (t : Fin cfg0.N) (y : S8x64x64.Idx) : iblk m c 4 t y = (argsOf m c).B y := by
  have h := index4 t
  blk_ext [iblk, V, argsOf, h.1, h.2.1, h.2.2]
theorem iblk_5 (c : Dev nD) (t : Fin cfg0.N) (y : S8x1x128x128.Idx) : iblk m c 5 t y = (argsOf m c).S (ix4 (y 0) (chunkAt t) (y 2) (y 3)) := by
  have h := index5 t
  have hy := (y 1).isLt
  blk_ext [iblk, V, argsOf, row, chunkAt, h.1, h.2.1, h.2.2.1, h.2.2.2]
theorem iblk_6 (c : Dev nD) (t : Fin cfg0.N) (y : S8x1x64x64.Idx) : iblk m c 6 t y = (argsOf m c).T (ix4 (y 0) (chunkAt t) (y 2) (y 3)) := by
  have h := index6 t
  have hy := (y 1).isLt
  blk_ext [iblk, V, argsOf, row, chunkAt, h.1, h.2.1, h.2.2.1, h.2.2.2]

/-- What the body loads at point `t`, in terms of the arguments. -/
theorem readAt_head (arg : Memref sig .tc .vmem S64x1024 .f32) (harg : arg.IsWhole) (x : Vec F S64x1024 .f32) (X : Vec F S4096x1024 .f32) (n : Fin 64)
    (hx : ∀ y : S64x1024.Idx, x y = X (ix2 (row n (y 0)) (y 1))) (o : ℕ) (h : Fin 8) (ho : o = 128 * h.val)
    (inb : ∀ a, ![0, o] a + S64x128.size a ≤ S64x1024.size a) :
    arg.view.readAt (Elt F) (Rect.unit (s := S64x1024) ![0, o] S64x128.size inb).toLoadRect (harg.unread x) = headOf X n h := by
  funext y
  rw [View.readAt_eq_ld, Memref.IsWhole.read_unread]
  show x ((Rect.unit (s := S64x1024) ![0, o] S64x128.size inb).emb y) = _
  rw [hx]
  unfold headOf
  subst ho
  congr 1
  funext a
  fin_cases a
  · apply Fin.ext; show 64 * n.val + (0 + 1 * (y 0).val) = 64 * n.val + (y 0).val; omega
  · apply Fin.ext; show 128 * h.val + 1 * (y 1).val = 128 * h.val + (y 1).val; omega

theorem readAt_row (arg : Memref sig .tc .vmem S8x64x64 .f32) (harg : arg.IsWhole) (x : Vec F S8x64x64 .f32) (t : Fin cfg0.N) :
    arg.view.readAt (Elt F) (rowRect (grid0.coords t)).toLoadRect (harg.unread x) = fun y => x (ix3 (y 0) (chunkAt t) (y 2)) := by
  funext y
  rw [View.readAt_eq_ld, Memref.IsWhole.read_unread]
  show x ((rowRect (grid0.coords t)).emb y) = _
  have h := off1_at t
  have hy : (y 1).val < 1 := (y 1).isLt
  congr 1
  funext a
  fin_cases a
  · apply Fin.ext; show k0_off1 (grid0.coords t) 0 + 1 * (y 0).val = (y 0).val; rw [h.1]; omega
  · apply Fin.ext; show k0_off1 (grid0.coords t) 1 + 1 * (y 1).val = 63 - t.val; rw [h.2.1]; omega
  · apply Fin.ext; show k0_off1 (grid0.coords t) 2 + 1 * (y 2).val = (y 2).val; rw [h.2.2]; omega

theorem readAt_all3 (arg : Memref sig .tc .vmem S8x128x128 .f32) (harg : arg.IsWhole) (x : Vec F S8x128x128 .f32) :
    arg.view.readAt (Elt F) allRect.toLoadRect (harg.unread x) = x := by
  rw [View.readAt_eq_ld, Memref.IsWhole.read_unread]
  funext y
  exact congrArg x (Rect.emb_unit_full _ y)

theorem readAt_all4 {s : Shape} (arg : Memref sig .tc .vmem s .f32) (harg : arg.IsWhole) (x : Vec F s .f32) (off : Fin s.rank → ℕ) (inb : ∀ a, off a + s.size a ≤ s.size a) :
    arg.view.readAt (Elt F) (Rect.unit (s := s) off s.size inb).toLoadRect (harg.unread x) = x := by
  rw [View.readAt_eq_ld, Memref.IsWhole.read_unread]
  funext y
  exact congrArg x (Rect.emb_unit_full _ y)

theorem ldOf_blk (c : Dev nD) (t : Fin cfg0.N) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S8x64x64 .f32) (harg5 : arg5.IsWhole) (arg6 : Memref sig .tc .vmem S8x64x64 .f32) (harg6 : arg6.IsWhole) (arg7 : Memref sig .tc .vmem S8x1x128x128 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (d : Vec F S8x128x128 .f32) :
    ldOf (grid0.coords t) arg2 harg2 arg3 harg3 arg4 harg4 arg5 harg5 arg6 harg6 arg7 harg7 arg8 harg8 arg9 harg9 arg10 harg10 arg11 harg11 (iblk m c 0 t) (iblk m c 1 t) (iblk m c 2 t) (iblk m c 3 t) (iblk m c 4 t) (iblk m c 5 t) (iblk m c 6 t) (iblk m c 7 t) (iblk m c 8 t) (iblk m c 9 t) d = (argsOf m c).ld (chunkAt t) d := by
  unfold ldOf Args.ld
  congr 1
  iterate 8 exact readAt_head _ _ _ _ _ (iblk_0 m c t) _ _ (by rfl) _
  iterate 8 exact readAt_head _ _ _ _ _ (iblk_1 m c t) _ _ (by rfl) _
  iterate 8 exact readAt_head _ _ _ _ _ (iblk_2 m c t) _ _ (by rfl) _
  iterate 8 exact readAt_head _ _ _ _ _ (iblk_7 m c t) _ _ (by rfl) _
  iterate 8 exact readAt_head _ _ _ _ _ (iblk_8 m c t) _ _ (by rfl) _
  iterate 8 exact readAt_head _ _ _ _ _ (iblk_9 m c t) _ _ (by rfl) _
  · rw [readAt_row]; funext y; exact iblk_3 m c t _
  · rw [readAt_row]; funext y; exact iblk_4 m c t _
  · rw [readAt_all4]; funext y; exact iblk_5 m c t y
  · rw [readAt_all4]; funext y; exact iblk_6 m c t y

end Cert.KernelIdeal.Gen

end
-- ==== Proof.Point.lean ====
/- The kernel's frame, with what each output holds after each point of the grid: the gradient kept from chunk to chunk is named
   point by point, each block of rows of dq, dk, dv by its chunk's values, and the gates' and betas' gradients row by row. -/
module

public import proofs.«01_k».proof.Proof.Loads
public import Idealize.ShloMosaic.Lib.Pipeline.DatRel
public import Idealize.ShloMosaic.Lib.Writes
public import Idealize.ShloMosaic.Lib.WritesUnit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf RDat)

variable {F : FTy → Type} [FloatOps F]

local notation "𝕄" => MT nD τ sig Unit (Elt F) ℕ (UR sig nD τ) ℕ

/-! ## What a point leaves -/

/-- The chunk of the `n`-th point. -/
def chunk (n : ℕ) : Fin 64 := ⟨63 - n, by omega⟩

/-- The gradient of the state kept before the `n`-th point. -/
def dsAt (A : Args F) : ℕ → Vec F S8x128x128 .f32
  | 0 => k0_pay1
  | n + 1 => (A.ld (chunk n) (dsAt A n)).next

/-- What the body loads at the `n`-th point. -/
def Args.at (A : Args F) (n : ℕ) : Ld F := A.ld (chunk n) (dsAt A n)

/-- A block's queries', keys' and values' gradients, head by head. -/
def Ld.dqs (I : Ld F) : Fin 8 → Vec F S64x128 .f32 := ![k0_pay77 I.v231, k0_pay78 I.v231, k0_pay79 I.v231, k0_pay80 I.v231, k0_pay81 I.v231, k0_pay82 I.v231, k0_pay83 I.v231, k0_pay84 I.v231]
def Ld.dks (I : Ld F) : Fin 8 → Vec F S64x128 .f32 := ![k0_pay85 I.v307, k0_pay86 I.v307, k0_pay87 I.v307, k0_pay88 I.v307, k0_pay89 I.v307, k0_pay90 I.v307, k0_pay91 I.v307, k0_pay92 I.v307]
def Ld.dvs (I : Ld F) : Fin 8 → Vec F S64x128 .f32 := ![k0_pay57 I.v60 I.v123 I.v191 I.v207, k0_pay58 I.v60 I.v123 I.v191 I.v207, k0_pay59 I.v258, k0_pay60 I.v258, k0_pay61 I.v258, k0_pay62 I.v258, k0_pay63 I.v258, k0_pay64 I.v258]

/-- A block of rows holds `f h` in head `h`'s columns. -/
def HeadsAre (f : Fin 8 → Vec F S64x128 .f32) (X : Vec F S64x1024 .f32) : Prop :=
  ∀ (h : Fin 8) (i : Fin 64) (j : Fin 128), X (ix2 i (col h j)) = f h (ix2 i j)

/-- The rows of the chunks handled up to the `n`-th point hold `f`. -/
def RowsAre (f : ℕ → Vec F S8x1x64 .f32) (n : ℕ) (X : Vec F S8x64x64 .f32) : Prop :=
  ∀ k, k ≤ n → ∀ (h : Fin 8) (j : Fin 64), X (ix3 h (chunk k) j) = f k (ix3 h 0 j)

/-- Eight heads side by side. -/
def sideBySide (f : Fin 8 → Vec F S64x128 .f32) : Vec F S64x1024 .f32 :=
  fun y => f (⟨(y 1).val / 128, by have := (y 1).isLt; change _ < 1024 at this; omega⟩ : Fin 8) (ix2 (y 0) (⟨(y 1).val % 128, by omega⟩ : Fin 128))

/-- One head's piece, in head `h`'s columns. -/
theorem piece_at (h : Fin 8) (b : ℕ) (hb : b = 128 * h.val) (inb) (f : Fin 8 → Vec F S64x128 .f32) (d : Vec F S64x128 .f32) (hd : d = f h)
    (x : S64x128.Idx) : d x = sideBySide f ((Rect.unit (s := S64x1024) ![0, b] S64x128.size inb).emb x) := by
  have hx : (x 1).val < 128 := (x 1).isLt
  have eh (p) : (⟨(b + 1 * (x 1).val) / 128, p⟩ : Fin 8) = h := Fin.ext (by show (b + 1 * (x 1).val) / 128 = h.val; omega)
  have ex (y : Fin 64) (p) (hy : y.val = 0 + 1 * (x 0).val) : (ix2 y (⟨(b + 1 * (x 1).val) % 128, p⟩ : Fin 128) : S64x128.Idx) = x := by
    funext a
    fin_cases a
    · exact Fin.ext (by show y.val = (x 0).val; omega)
    · exact Fin.ext (by show (b + 1 * (x 1).val) % 128 = (x 1).val; omega)
  subst hd
  exact (congrArg₂ (fun k z => f k z) (eh _) (ex _ _ rfl)).symm

theorem piece_mem (h : Fin 8) (b : ℕ) (hb : b = 128 * h.val) (inb) (i : Fin 64) (j : Fin 128) :
    (ix2 i (col h j) : S64x1024.Idx) ∈ (Rect.unit (s := S64x1024) ![0, b] S64x128.size inb).set := by
  refine (Rect.unit (s := S64x1024) ![0, b] S64x128.size inb).mem_set.mpr fun a => ?_
  fin_cases a
  · exact ⟨i.val, i.isLt, by show i.val = 0 + 1 * i.val; omega⟩
  · exact ⟨j.val, j.isLt, by show 128 * h.val + j.val = b + 1 * j.val; omega⟩

theorem HeadsAre.of_writes (v : View sig .tc .vmem S64x1024 .f32) (f : v.ty.Contents (Elt F)) (d0 d1 d2 d3 d4 d5 d6 d7 : Vec F S64x128 .f32) :
    HeadsAre ![d0, d1, d2, d3, d4, d5, d6, d7] (v.read (Elt F) (v.writes (Elt F) f (heads d0 d1 d2 d3 d4 d5 d6 d7))) := by
  intro h i j
  have key : ∀ p ∈ heads d0 d1 d2 d3 d4 d5 d6 d7, ∀ x : p.1.shape.Idx,
      p.2 x = sideBySide ![d0, d1, d2, d3, d4, d5, d6, d7] (p.1.emb x) := by
    intro p hp
    simp only [heads, List.mem_cons, List.not_mem_nil, or_false] at hp
    rcases hp with rfl | rfl | rfl | rfl | rfl | rfl | rfl | rfl
    · exact piece_at 7 896 rfl inb_S64x1024_S64x128_0_896 _ _ rfl
    · exact piece_at 6 768 rfl inb_S64x1024_S64x128_0_768 _ _ rfl
    · exact piece_at 5 640 rfl inb_S64x1024_S64x128_0_640 _ _ rfl
    · exact piece_at 4 512 rfl inb_S64x1024_S64x128_0_512 _ _ rfl
    · exact piece_at 3 384 rfl inb_S64x1024_S64x128_0_384 _ _ rfl
    · exact piece_at 2 256 rfl inb_S64x1024_S64x128_0_256 _ _ rfl
    · exact piece_at 1 128 rfl inb_S64x1024_S64x128_0_128 _ _ rfl
    · exact piece_at 0 0 rfl inb_S64x1024_S64x128_0_0 _ _ rfl
  have hc : ∃ p ∈ heads d0 d1 d2 d3 d4 d5 d6 d7, (ix2 i (col h j) : S64x1024.Idx) ∈ p.1.set := by
    fin_cases h
    · exact ⟨⟨Rect.unit (s := S64x1024) ![0, 0] S64x128.size inb_S64x1024_S64x128_0_0, d0⟩, by simp [heads], piece_mem 0 0 rfl inb_S64x1024_S64x128_0_0 i j⟩
    · exact ⟨⟨Rect.unit (s := S64x1024) ![0, 128] S64x128.size inb_S64x1024_S64x128_0_128, d1⟩, by simp [heads], piece_mem 1 128 rfl inb_S64x1024_S64x128_0_128 i j⟩
    · exact ⟨⟨Rect.unit (s := S64x1024) ![0, 256] S64x128.size inb_S64x1024_S64x128_0_256, d2⟩, by simp [heads], piece_mem 2 256 rfl inb_S64x1024_S64x128_0_256 i j⟩
    · exact ⟨⟨Rect.unit (s := S64x1024) ![0, 384] S64x128.size inb_S64x1024_S64x128_0_384, d3⟩, by simp [heads], piece_mem 3 384 rfl inb_S64x1024_S64x128_0_384 i j⟩
    · exact ⟨⟨Rect.unit (s := S64x1024) ![0, 512] S64x128.size inb_S64x1024_S64x128_0_512, d4⟩, by simp [heads], piece_mem 4 512 rfl inb_S64x1024_S64x128_0_512 i j⟩
    · exact ⟨⟨Rect.unit (s := S64x1024) ![0, 640] S64x128.size inb_S64x1024_S64x128_0_640, d5⟩, by simp [heads], piece_mem 5 640 rfl inb_S64x1024_S64x128_0_640 i j⟩
    · exact ⟨⟨Rect.unit (s := S64x1024) ![0, 768] S64x128.size inb_S64x1024_S64x128_0_768, d6⟩, by simp [heads], piece_mem 6 768 rfl inb_S64x1024_S64x128_0_768 i j⟩
    · exact ⟨⟨Rect.unit (s := S64x1024) ![0, 896] S64x128.size inb_S64x1024_S64x128_0_896, d7⟩, by simp [heads], piece_mem 7 896 rfl inb_S64x1024_S64x128_0_896 i j⟩
  rw [View.read_writes_apply_of_pieces v f (sideBySide ![d0, d1, d2, d3, d4, d5, d6, d7]) _ key _ hc]
  have hj := j.isLt
  have e : (⟨((ix2 i (col h j) : S64x1024.Idx) 1).val / 128, by show (128 * h.val + j.val) / 128 < 8; have := h.isLt; omega⟩ : Fin 8) = h :=
    Fin.ext (by show (128 * h.val + j.val) / 128 = h.val; omega)
  have e' : (⟨((ix2 i (col h j) : S64x1024.Idx) 1).val % 128, by omega⟩ : Fin 128) = j :=
    Fin.ext (by show (128 * h.val + j.val) % 128 = j.val; omega)
  show (![d0, d1, d2, d3, d4, d5, d6, d7] _) (ix2 i _) = _
  rw [e, e']

theorem RowsAre.of_writes (arg : Memref sig .tc .vmem S8x64x64 .f32) (harg : arg.IsWhole) (x : Vec F S8x64x64 .f32) (t : Fin cfg0.N)
    (f : ℕ → Vec F S8x1x64 .f32) (hx : ∀ k, k < t.val → ∀ (h : Fin 8) (j : Fin 64), x (ix3 h (chunk k) j) = f k (ix3 h 0 j)) :
    RowsAre f t.val (arg.view.read (Elt F) (arg.view.writes (Elt F) (harg.unread x) [⟨rowRect (grid0.coords t), f t.val⟩])) := by
  have hN : t.val < 64 := Nat.lt_of_lt_of_eq t.isLt N_0
  have ho := off1_at t
  intro k hk h j
  rcases Nat.eq_or_lt_of_le hk with rfl | hk
  · refine View.read_writes_cons_hit_of_coords _ _ (rowRect (grid0.coords t)) (f t.val) [] (ix3 h 0 j) _ fun a => ?_
    fin_cases a
    · show h.val = k0_off1 (grid0.coords t) 0 + 1 * h.val; rw [ho.1]; omega
    · show 63 - t.val = k0_off1 (grid0.coords t) 1 + 1 * 0; rw [ho.2.1]; omega
    · show j.val = k0_off1 (grid0.coords t) 2 + 1 * j.val; rw [ho.2.2]; omega
  · rw [View.read_writes_cons_miss_of_axis _ _ _ _ _ 1 (63 - t.val) 1 ho.2.1 rfl rfl (Or.inr (by show 63 - t.val + 1 ≤ 63 - k; omega))]
    show arg.view.read (Elt F) (harg.unread x) _ = _
    rw [harg.read_unread]
    exact hx k hk h j

theorem read_all (v : View sig .tc .vmem S8x128x128 .f32) (f : v.ty.Contents (Elt F)) (d : Vec F S8x128x128 .f32) (L : List (View.Piece (Elt F) S8x128x128 .f32)) :
    v.read (Elt F) (v.writes (Elt F) f (⟨allRect, d⟩ :: L)) = d := View.read_writes_full _ _ _ _ _

variable (m : (ℓ : Loc nD τ sig) → Buf (Elt F) ℓ) (ρ : Dev nD → PrngReg)

section PointA

variable (c : Dev nD) (t : Fin cfg0.N) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S8x64x64 .f32) (harg5 : arg5.IsWhole) (arg6 : Memref sig .tc .vmem S8x64x64 .f32) (harg6 : arg6.IsWhole) (arg7 : Memref sig .tc .vmem S8x1x128x128 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S8x64x64 .f32) (harg15 : arg15.IsWhole) (arg16 : Memref sig .tc .vmem S8x64x64 .f32) (harg16 : arg16.IsWhole) (arg17 : Memref sig .tc .vmem S8x128x128 .f32) (harg17 : arg17.IsWhole) (x13 x14 : Vec F S8x64x64 .f32)
  (hc0 : cond0_0 (grid0.coords t)) (h0 : t.val = 0)

include h0 in
theorem loadsA_at : loadsA (grid0.coords t) arg2 harg2 arg3 harg3 arg4 harg4 arg5 harg5 arg6 harg6 arg7 harg7 arg8 harg8 arg9 harg9 arg10 harg10 arg11 harg11 arg17 (iblk m c 0 t) (iblk m c 1 t) (iblk m c 2 t) (iblk m c 3 t) (iblk m c 4 t) (iblk m c 5 t) (iblk m c 6 t) (iblk m c 7 t) (iblk m c 8 t) (iblk m c 9 t) = (argsOf m c).at t.val := by
  unfold loadsA
  rw [View.readCov_full, ldOf_blk m c t]
  unfold Args.at
  rw [h0]
  unfold chunkAt chunk
  simp only [h0]
  rfl

variable {arg2} {harg2} {arg3} {harg3} {arg4} {harg4} {arg5} {harg5} {arg6} {harg6} {arg7} {harg7} {arg8} {harg8} {arg9} {harg9} {arg10} {harg10} {arg11} {harg11} {arg12} {harg12} {arg13} {harg13} {arg14} {harg14} {arg15} {harg15} {arg16} {harg16} {arg17} {harg17} {x13 x14}

include h0 in
theorem pointA_12 (f : arg12.view.ty.Contents (Elt F)) : HeadsAre ((argsOf m c).at t.val).dqs (arg12.view.read (Elt F) (arg12.view.writes (Elt F) f (pointRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14).1)) := by
  rw [pointRunA_12, loadsA_at (h0 := h0)]
  exact HeadsAre.of_writes _ _ _ _ _ _ _ _ _ _

include h0 in
theorem pointA_13 (f : arg13.view.ty.Contents (Elt F)) : HeadsAre ((argsOf m c).at t.val).dks (arg13.view.read (Elt F) (arg13.view.writes (Elt F) f (pointRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14).2.1)) := by
  rw [pointRunA_13, loadsA_at (h0 := h0)]
  exact HeadsAre.of_writes _ _ _ _ _ _ _ _ _ _

include h0 in
theorem pointA_14 (f : arg14.view.ty.Contents (Elt F)) : HeadsAre ((argsOf m c).at t.val).dvs (arg14.view.read (Elt F) (arg14.view.writes (Elt F) f (pointRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14).2.2.1)) := by
  rw [pointRunA_14, loadsA_at (h0 := h0)]
  exact HeadsAre.of_writes _ _ _ _ _ _ _ _ _ _

include h0 in
theorem pointA_15 (hx : ∀ k, k < t.val → ∀ (h : Fin 8) (j : Fin 64), x13 (ix3 h (chunk k) j) = ((argsOf m c).at k).dg (ix3 h 0 j)) :
    RowsAre (fun k => ((argsOf m c).at k).dg) t.val (arg15.view.read (Elt F) (arg15.view.writes (Elt F) (harg15.unread x13) (pointRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14).2.2.2.1)) := by
  rw [pointRunA_15, loadsA_at (h0 := h0)]
  exact RowsAre.of_writes _ _ _ t (fun k => ((argsOf m c).at k).dg) hx

include h0 in
theorem pointA_16 (hx : ∀ k, k < t.val → ∀ (h : Fin 8) (j : Fin 64), x14 (ix3 h (chunk k) j) = ((argsOf m c).at k).db (ix3 h 0 j)) :
    RowsAre (fun k => ((argsOf m c).at k).db) t.val (arg16.view.read (Elt F) (arg16.view.writes (Elt F) (harg16.unread x14) (pointRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14).2.2.2.2.1)) := by
  rw [pointRunA_16, loadsA_at (h0 := h0)]
  exact RowsAre.of_writes _ _ _ t (fun k => ((argsOf m c).at k).db) hx

include h0 in
theorem pointA_17 (f : arg17.view.ty.Contents (Elt F)) : arg17.view.read (Elt F) (arg17.view.writes (Elt F) f (pointRunA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14).2.2.2.2.2.1) = dsAt (argsOf m c) (t.val + 1) := by
  rw [pointRunA_17, loadsA_at (h0 := h0), read_all]
  rfl

end PointA

section PointB

variable (c : Dev nD) (t : Fin cfg0.N) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S8x64x64 .f32) (harg5 : arg5.IsWhole) (arg6 : Memref sig .tc .vmem S8x64x64 .f32) (harg6 : arg6.IsWhole) (arg7 : Memref sig .tc .vmem S8x1x128x128 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x1024 .f32) (harg14 : arg14.IsWhole) (arg15 : Memref sig .tc .vmem S8x64x64 .f32) (harg15 : arg15.IsWhole) (arg16 : Memref sig .tc .vmem S8x64x64 .f32) (harg16 : arg16.IsWhole) (arg17 : Memref sig .tc .vmem S8x128x128 .f32) (harg17 : arg17.IsWhole) (x13 x14 : Vec F S8x64x64 .f32)
  (hc0 : ¬cond0_0 (grid0.coords t))

theorem loadsB_at : loadsB (grid0.coords t) arg2 harg2 arg3 harg3 arg4 harg4 arg5 harg5 arg6 harg6 arg7 harg7 arg8 harg8 arg9 harg9 arg10 harg10 arg11 harg11 arg17 harg17 (iblk m c 0 t) (iblk m c 1 t) (iblk m c 2 t) (iblk m c 3 t) (iblk m c 4 t) (iblk m c 5 t) (iblk m c 6 t) (iblk m c 7 t) (iblk m c 8 t) (iblk m c 9 t) (dsAt (argsOf m c) t.val) = (argsOf m c).at t.val := by
  unfold loadsB
  rw [readAt_all3, ldOf_blk m c t]
  rfl

variable {arg2} {harg2} {arg3} {harg3} {arg4} {harg4} {arg5} {harg5} {arg6} {harg6} {arg7} {harg7} {arg8} {harg8} {arg9} {harg9} {arg10} {harg10} {arg11} {harg11} {arg12} {harg12} {arg13} {harg13} {arg14} {harg14} {arg15} {harg15} {arg16} {harg16} {arg17} {harg17} {x13 x14}

include hc0 in
theorem pointB_12 (f : arg12.view.ty.Contents (Elt F)) : HeadsAre ((argsOf m c).at t.val).dqs (arg12.view.read (Elt F) (arg12.view.writes (Elt F) f (pointRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14 (dsAt (argsOf m c) t.val)).1)) := by
  rw [pointRunB_12, loadsB_at]
  exact HeadsAre.of_writes _ _ _ _ _ _ _ _ _ _

include hc0 in
theorem pointB_13 (f : arg13.view.ty.Contents (Elt F)) : HeadsAre ((argsOf m c).at t.val).dks (arg13.view.read (Elt F) (arg13.view.writes (Elt F) f (pointRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14 (dsAt (argsOf m c) t.val)).2.1)) := by
  rw [pointRunB_13, loadsB_at]
  exact HeadsAre.of_writes _ _ _ _ _ _ _ _ _ _

include hc0 in
theorem pointB_14 (f : arg14.view.ty.Contents (Elt F)) : HeadsAre ((argsOf m c).at t.val).dvs (arg14.view.read (Elt F) (arg14.view.writes (Elt F) f (pointRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14 (dsAt (argsOf m c) t.val)).2.2.1)) := by
  rw [pointRunB_14, loadsB_at]
  exact HeadsAre.of_writes _ _ _ _ _ _ _ _ _ _

include hc0 in
theorem pointB_15 (hx : ∀ k, k < t.val → ∀ (h : Fin 8) (j : Fin 64), x13 (ix3 h (chunk k) j) = ((argsOf m c).at k).dg (ix3 h 0 j)) :
    RowsAre (fun k => ((argsOf m c).at k).dg) t.val (arg15.view.read (Elt F) (arg15.view.writes (Elt F) (harg15.unread x13) (pointRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14 (dsAt (argsOf m c) t.val)).2.2.2.1)) := by
  rw [pointRunB_15, loadsB_at]
  exact RowsAre.of_writes _ _ _ t (fun k => ((argsOf m c).at k).dg) hx

include hc0 in
theorem pointB_16 (hx : ∀ k, k < t.val → ∀ (h : Fin 8) (j : Fin 64), x14 (ix3 h (chunk k) j) = ((argsOf m c).at k).db (ix3 h 0 j)) :
    RowsAre (fun k => ((argsOf m c).at k).db) t.val (arg16.view.read (Elt F) (arg16.view.writes (Elt F) (harg16.unread x14) (pointRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14 (dsAt (argsOf m c) t.val)).2.2.2.2.1)) := by
  rw [pointRunB_16, loadsB_at]
  exact RowsAre.of_writes _ _ _ t (fun k => ((argsOf m c).at k).db) hx

include hc0 in
theorem pointB_17 (f : arg17.view.ty.Contents (Elt F)) : arg17.view.read (Elt F) (arg17.view.writes (Elt F) f (pointRunB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (iblk m c 0 t) (iblk m c 1 t) (iblk m c 2 t) (iblk m c 3 t) (iblk m c 4 t) (iblk m c 5 t) (iblk m c 6 t) (iblk m c 7 t) (iblk m c 8 t) (iblk m c 9 t) x13 x14 (dsAt (argsOf m c) t.val)).2.2.2.2.2.1) = dsAt (argsOf m c) (t.val + 1) := by
  rw [pointRunB_17, loadsB_at, read_all]
  rfl

end PointB

end Cert.KernelIdeal.Gen

end
-- ==== Proof.Track.lean ====
/- The kernel's run over its whole grid, with the points' contents named (`Point.lean`). -/
module

public import proofs.«01_k».proof.Proof.Point
public import Idealize.ShloMosaic.Lib.Pipeline.DatRel
public import Idealize.ShloMosaic.Lib.Writes
public import Idealize.ShloMosaic.Lib.WritesUnit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 64 % 1 := Pipeline.Grid.coords_val t 0 (by decide) rfl
    have e1 : (grid0.coords t 1).val = t.val / 1 % 64 := Pipeline.Grid.coords_val t 1 (by decide) rfl
    simp only [cond0_0, e0, e1]
    word_cmp
   : ∀ t : Fin grid0.N, cond0_0 (grid0.coords t) ↔ t.val % 64 = 0)

abbrev ms0_0 (t : Fin cfg0.N) : Memref sig .tc .vmem S64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1x64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x64x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x64x64 .f32 := win0_14.stage (cfg0.slots t 14)
abbrev hs0_14 (t : Fin cfg0.N) : (ms0_14 t).IsWhole := hstage0_14 ((cfg0.slots t 14).cast nbuf0_14)

/-- The buffer of the kept gradient. -/
abbrev scM0_0 : Memref sig .tc .vmem S8x128x128 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Between points: the kept gradient, named from the first point on. -/
def PhiS (c : Dev nD) : (n : ℕ) → n ≤ cfg0.N → sProp 𝕄
  | 0, _ => Pipeline.ΦA spec0 c
  | n + 1, _ => iprop(iprop(owns (c : Thread nD τ) scM0_0 fullShare (dsAt (argsOf m c) (n + 1))) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (dsAt (argsOf m c) n)) ∗ (∃ r, prngReg c r)) := by
  cases n with
  | zero => exact absurd rfl hz
  | succ n => rfl

/-- The windows of the outputs. -/
def isOut0 : Fin 15 → Bool := fun w => w.val == 10 || w.val == 11 || w.val == 12 || w.val == 13 || w.val == 14

/-- What each output's window holds after point `t`. -/
def Left (c : Dev nD) (w : Fin cfg0.W) (t : Fin cfg0.N) (X : (cfg0.win w).block.Idx → Elt F (cfg0.win w).elt) : Prop :=
  match w with
  | ⟨10, _⟩ => HeadsAre ((argsOf m c).at t.val).dqs X
  | ⟨11, _⟩ => HeadsAre ((argsOf m c).at t.val).dks X
  | ⟨12, _⟩ => HeadsAre ((argsOf m c).at t.val).dvs X
  | ⟨13, _⟩ => RowsAre (fun k => ((argsOf m c).at k).dg) t.val X
  | ⟨14, _⟩ => RowsAre (fun k => ((argsOf m c).at k).db) t.val X
  | _ => True

/-- The pipeline's data: the arrays as launched, each input's window at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ t := PhiS m c t.val (Nat.le_of_lt_succ t.isLt)
  q _ := fullShare
  owed _ := 0

/-- The same, each output's window held to `Left`. -/
abbrev rdats (c : Dev nD) : RDat τ (Elt F) Unit ℕ (UR sig nD τ) ℕ cfg0 c := (dats m 0 c).toRRel isOut0 (Left m c)

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem fetch0_13_no : ∀ t : Fin cfg0.N, (cfg0.win 13).fetch t = false := (by decide +kernel : ∀ t : Fin grid0.N, win0_13.fetch t = false)

theorem finds_13 (c : Dev nD) (t : Fin cfg0.N) (x : Vec F S8x64x64 .f32) (h : (rdats m c).Finds 13 t x) :
    ∀ k, k < t.val → ∀ (h : Fin 8) (j : Fin 64), x (ix3 h (chunk k) j) = ((argsOf m c).at k).dg (ix3 h 0 j) := by
  intro k hk
  have hN : t.val < 64 := Nat.lt_of_lt_of_eq t.isLt N_0
  rcases ((rdats m c).finds_of_pos (fetch0_13_no t) (by omega) x).mp h with h | h
  · have h' := (flush0_13 ⟨t.val - 1, Nat.lt_of_le_of_lt (Nat.sub_le _ _) t.isLt⟩).mp h
    simp only at h'
    omega
  · have h' : RowsAre (fun k => ((argsOf m c).at k).dg) (t.val - 1) x := Dat.toRRel_leaves (dats m 0 c) (fgt := isOut0) (Rl := Left m c) (w := 13) rfl h
    exact fun h j => h' k (by omega) h j

theorem fetch0_14_no : ∀ t : Fin cfg0.N, (cfg0.win 14).fetch t = false := (by decide +kernel : ∀ t : Fin grid0.N, win0_14.fetch t = false)

theorem finds_14 (c : Dev nD) (t : Fin cfg0.N) (x : Vec F S8x64x64 .f32) (h : (rdats m c).Finds 14 t x) :
    ∀ k, k < t.val → ∀ (h : Fin 8) (j : Fin 64), x (ix3 h (chunk k) j) = ((argsOf m c).at k).db (ix3 h 0 j) := by
  intro k hk
  have hN : t.val < 64 := Nat.lt_of_lt_of_eq t.isLt N_0
  rcases ((rdats m c).finds_of_pos (fetch0_14_no t) (by omega) x).mp h with h | h
  · have h' := (flush0_14 ⟨t.val - 1, Nat.lt_of_le_of_lt (Nat.sub_le _ _) t.isLt⟩).mp h
    simp only at h'
    omega
  · have h' : RowsAre (fun k => ((argsOf m c).at k).db) (t.val - 1) x := Dat.toRRel_leaves (dats m 0 c) (fgt := isOut0) (Rl := Left m c) (w := 14) rfl h
    exact fun h j => h' k (by omega) h j

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ Y, ⌜(rdats m c).Finds 10 t Y⌝ ∗ owns (c : Thread nD τ) (ms0_10 t) fullShare Y)
    ∗ (∃ Y, ⌜(rdats m c).Finds 11 t Y⌝ ∗ owns (c : Thread nD τ) (ms0_11 t) fullShare Y)
    ∗ (∃ Y, ⌜(rdats m c).Finds 12 t Y⌝ ∗ owns (c : Thread nD τ) (ms0_12 t) fullShare Y)
    ∗ (∃ Y, ⌜(rdats m c).Finds 13 t Y⌝ ∗ owns (c : Thread nD τ) (ms0_13 t) fullShare Y)
    ∗ (∃ Y, ⌜(rdats m c).Finds 14 t Y⌝ ∗ owns (c : Thread nD τ) (ms0_14 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ X, ⌜Left m c 10 t X⌝ ∗ owns (c : Thread nD τ) (ms0_10 t) fullShare X)
    ∗ (∃ X, ⌜Left m c 11 t X⌝ ∗ owns (c : Thread nD τ) (ms0_11 t) fullShare X)
    ∗ (∃ X, ⌜Left m c 12 t X⌝ ∗ owns (c : Thread nD τ) (ms0_12 t) fullShare X)
    ∗ (∃ X, ⌜Left m c 13 t X⌝ ∗ owns (c : Thread nD τ) (ms0_13 t) fullShare X)
    ∗ (∃ X, ⌜Left m c 14 t X⌝ ∗ owns (c : Thread nD τ) (ms0_14 t) fullShare X))

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_pos m c (t.val + 1) _ (Nat.succ_ne_zero _)]
  have hN : t.val < 64 := lt_of_lt_of_eq t.isLt (show cfg0.N = 64 from N_0)
  by_cases hz : t.val = 0
  · rw [PhiS_castSucc m c t, PhiS_zero m c _ _ hz, PhiA0_eq]
    have hc0 : cond0_0 (grid0.coords t) := ((hcond0_0 t).mpr (by rw [hz]))
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, -, H10⟩, ⟨%d11, -, H11⟩, ⟨%d12, -, H12⟩, ⟨%x13, %hx13, H13⟩, ⟨%x14, %hx14, H14⟩⟩
    have hf13 := finds_13 m c t x13 hx13
    have hf14 := finds_14 m c t x14 hx14
    iapply ((pointRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) hc0 (iblk m c 0 t) (iblk m c 1 t) (iblk m c 2 t) (iblk m c 3 t) (iblk m c 4 t) (iblk m c 5 t) (iblk m c 6 t) (iblk m c 7 t) (iblk m c 8 t) (iblk m c 9 t) x13 x14).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [HS0]; · iexact HS0
    iintro ⟨H0, H1, H2, H3, H4, H5, H6, H7, H8, H9, ⟨%f10, H10⟩, ⟨%f11, H11⟩, ⟨%f12, H12⟩, H13, H14, ⟨%es0, HS0⟩⟩
    isplitl [HS0 Hg]
    · isplitl [HS0]
      · unfold owns; iexists _; isplitr
        swap; · iexact HS0
        ipureintro; exact pointA_17 m c t hc0 hz es0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr
      swap
      · unfold owns; iexists _; isplitr
        swap; · iexact H10
        ipureintro; rfl
      ipureintro; exact pointA_12 m c t hc0 hz f10
    isplitl [H11]
    · iexists _; isplitr
      swap
      · unfold owns; iexists _; isplitr
        swap; · iexact H11
        ipureintro; rfl
      ipureintro; exact pointA_13 m c t hc0 hz f11
    isplitl [H12]
    · iexists _; isplitr
      swap
      · unfold owns; iexists _; isplitr
        swap; · iexact H12
        ipureintro; rfl
      ipureintro; exact pointA_14 m c t hc0 hz f12
    isplitl [H13]
    · iexists _; isplitr
      swap
      · unfold owns; iexists _; isplitr
        swap; · iexact H13
        ipureintro; rfl
      ipureintro; exact pointA_15 m c t hc0 hz hf13
    iexists _; isplitr
    swap
    · unfold owns; iexists _; isplitr
      swap; · iexact H14
      ipureintro; rfl
    ipureintro; exact pointA_16 m c t hc0 hz hf14
  · rw [PhiS_castSucc m c t, PhiS_pos m c _ _ hz]
    have hc0 : ¬cond0_0 (grid0.coords t) := (fun h => hz (by have := (hcond0_0 t).mp h; omega))
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, -, H10⟩, ⟨%d11, -, H11⟩, ⟨%d12, -, H12⟩, ⟨%x13, %hx13, H13⟩, ⟨%x14, %hx14, H14⟩⟩
    have hf13 := finds_13 m c t x13 hx13
    have hf14 := finds_14 m c t x14 hx14
    iapply ((pointRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) hc0 (iblk m c 0 t) (iblk m c 1 t) (iblk m c 2 t) (iblk m c 3 t) (iblk m c 4 t) (iblk m c 5 t) (iblk m c 6 t) (iblk m c 7 t) (iblk m c 8 t) (iblk m c 9 t) x13 x14 (dsAt (argsOf m c) t.val)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [HS0]; · iexact HS0
    iintro ⟨H0, H1, H2, H3, H4, H5, H6, H7, H8, H9, ⟨%f10, H10⟩, ⟨%f11, H11⟩, ⟨%f12, H12⟩, H13, H14, ⟨%es0, HS0⟩⟩
    isplitl [HS0 Hg]
    · isplitl [HS0]
      · unfold owns; iexists _; isplitr
        swap; · iexact HS0
        ipureintro; exact pointB_17 m c t hc0 es0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr
      swap
      · unfold owns; iexists _; isplitr
        swap; · iexact H10
        ipureintro; rfl
      ipureintro; exact pointB_12 m c t hc0 f10
    isplitl [H11]
    · iexists _; isplitr
      swap
      · unfold owns; iexists _; isplitr
        swap; · iexact H11
        ipureintro; rfl
      ipureintro; exact pointB_13 m c t hc0 f11
    isplitl [H12]
    · iexists _; isplitr
      swap
      · unfold owns; iexists _; isplitr
        swap; · iexact H12
        ipureintro; rfl
      ipureintro; exact pointB_14 m c t hc0 f12
    isplitl [H13]
    · iexists _; isplitr
      swap
      · unfold owns; iexists _; isplitr
        swap; · iexact H13
        ipureintro; rfl
      ipureintro; exact pointB_15 m c t hc0 hf13
    iexists _; isplitr
    swap
    · unfold owns; iexists _; isplitr
      swap; · iexact H14
      ipureintro; rfl
    ipureintro; exact pointB_16 m c t hc0 hf14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ isOut0 (Left m c) := fun t => by
  rw [bigSep_W0, bigSep_W0, defs₀_row]
  exact triple_restated (sound_body m c t) rfl .rfl fun _ => .rfl

theorem hin (c : Dev nD) : Pipeline.ΦA spec0 c ⊢ (rdats m c).Φ 0 := by
  rw [show (rdats m c).Φ 0 = PhiS m c 0 (Nat.zero_le _) from rfl, PhiS_zero m c 0 _ rfl]

theorem hout (c : Dev nD) : (rdats m c).Φ (Fin.last cfg0.N) ⊢ Pipeline.ΦA spec0 c := by
  have hN : cfg0.N = 64 := N_0
  rw [show (rdats m c).Φ (Fin.last cfg0.N) = PhiS m c cfg0.N (Nat.le_refl _) from rfl, PhiS_pos m c _ _ (by omega), PhiA0_eq]
  iintro ⟨HS0, Hg⟩
  isplitl [HS0]
  · iexists _; iexact HS0
  iexact Hg

set_option backward.isDefEq.respectTransparency.types false in
theorem run_main : θ_run defs (onTc (τ := τ) (main (F := F))) (s₀ m ρ) (fun r => (RDat.FramePost (cfgs 0) (fun c => rdats m c) (V m)) r ∧ r.2.sem = fun _ => 0) :=
  RDat.θ_run_frame_track (Q' := _) cfgs (0 : Fin 1) launch0 defs₀ Variants.none (fun c => rdats m c) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

end Cert.KernelIdeal.Gen

end
-- ==== Proof.Result.lean ====
/- What the kernel's run ends with: the arguments unchanged, each result's entries those of its chunk's point. -/
module

public import proofs.«01_k».proof.Proof.Track
public import Idealize.ShloMosaic.Lib.Pipeline.ArrRel
public import Idealize.ShloMosaic.Lib.Pipeline.DatRel
public import Idealize.ShloMosaic.Lib.Writes
public import Idealize.ShloMosaic.Lib.WritesUnit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf RDat)

variable {F : FTy → Type} [FloatOps F]

local notation "𝕄" => MT nD τ sig Unit (Elt F) ℕ (UR sig nD τ) ℕ

/-- The five results' entries, chunk by chunk and head by head. -/
structure Results (A : Args F) (dq dk dv : Vec F S4096x1024 .f32) (dg db : Vec F S8x64x64 .f32) : Prop where
  dq : ∀ k, k < 64 → ∀ (h : Fin 8) (i : Fin 64) (j : Fin 128), dq (ix2 (row (chunk k) i) (col h j)) = (A.at k).dqs h (ix2 i j)
  dk : ∀ k, k < 64 → ∀ (h : Fin 8) (i : Fin 64) (j : Fin 128), dk (ix2 (row (chunk k) i) (col h j)) = (A.at k).dks h (ix2 i j)
  dv : ∀ k, k < 64 → ∀ (h : Fin 8) (i : Fin 64) (j : Fin 128), dv (ix2 (row (chunk k) i) (col h j)) = (A.at k).dvs h (ix2 i j)
  dg : ∀ k, k < 64 → ∀ (h : Fin 8) (j : Fin 64), dg (ix3 h (chunk k) j) = (A.at k).dg (ix3 h 0 j)
  db : ∀ k, k < 64 → ∀ (h : Fin 8) (j : Fin 64), db (ix3 h (chunk k) j) = (A.at k).db (ix3 h 0 j)

variable (m : (ℓ : Loc nD τ sig) → Buf (Elt F) ℓ) (ρ : Dev nD → PrngReg)

theorem disjoint10 : ∀ t t' : Fin cfg0.N, (cfg0.win 10).flush t = true → (cfg0.win 10).flush t' = true → t ≠ t' →
    Disjoint ((cfg0.win 10).blk t).view.set ((cfg0.win 10).blk t').view.set :=
  (cfg0.win 10).hdisj_of_index_inj fun t t' _ _ e => by
    have h := (index10 t).1
    have h' := (index10 t').1
    have ht : t.val < 64 := Nat.lt_of_lt_of_eq t.isLt N_0
    have ht' : t'.val < 64 := Nat.lt_of_lt_of_eq t'.isLt N_0
    have e' : win0_10.index t 0 = win0_10.index t' 0 := congrFun e 0
    exact Fin.ext (by omega)

theorem read_blk_10 (c : Dev nD) (X : Buf (Elt F) ((c : Thread nD τ).loc main_v0_0)) (t : Fin cfg0.N) (y : S64x1024.Idx) :
    ((cfg0.win 10).blk t).view.read (Elt F) X y = X (ix2 (row (chunkAt t) (y 0)) (y 1)) := by
  have h := index10 t
  blk_ext [row, chunkAt, h.1, h.2]

theorem result_10 (c : Dev nD) (after : (w' : Fin cfg0.W) → Fin cfg0.N → (cfg0.win w').block.Idx → Elt F (cfg0.win w').elt)
    (hL : ∀ u : Fin cfg0.N, (cfg0.win 10).flush u = true → (rdats m c).Leaves 10 u (after 10 u))
    (X : Vec F S4096x1024 .f32) (hX : X = ((rdats m c).withAfter after).arrAt 10 cfg0.N) (k : ℕ) (hk : k < 64) (h : Fin 8) (i : Fin 64) (j : Fin 128) :
    X (ix2 (row (chunk k) i) (col h j)) = ((argsOf m c).at k).dqs h (ix2 i j) := by
  have hN : cfg0.N = 64 := N_0
  obtain ⟨t, rfl⟩ : ∃ t : Fin cfg0.N, t.val = k := ⟨⟨k, by omega⟩, rfl⟩
  have hf : (cfg0.win 10).flush t = true := flush0_10 t
  have hl₀ : Left m c 10 t (after 10 t) := Dat.toRRel_leaves (dats m 0 c) (fgt := isOut0) (Rl := Left m c) (w := 10) rfl (hL t hf)
  have hl : HeadsAre ((argsOf m c).at t.val).dqs (after 10 t) := hl₀
  have hr := congrFun (((rdats m c).withAfter after).read_blk_arrAt_eq_flushed 10 disjoint10 cfg0.N t t.isLt hf) (ix2 i (col h j) : S64x1024.Idx)
  rw [← hX] at hr
  exact (read_blk_10 c X t (ix2 i (col h j))).symm.trans (hr.trans (hl h i j))

theorem disjoint11 : ∀ t t' : Fin cfg0.N, (cfg0.win 11).flush t = true → (cfg0.win 11).flush t' = true → t ≠ t' →
    Disjoint ((cfg0.win 11).blk t).view.set ((cfg0.win 11).blk t').view.set :=
  (cfg0.win 11).hdisj_of_index_inj fun t t' _ _ e => by
    have h := (index11 t).1
    have h' := (index11 t').1
    have ht : t.val < 64 := Nat.lt_of_lt_of_eq t.isLt N_0
    have ht' : t'.val < 64 := Nat.lt_of_lt_of_eq t'.isLt N_0
    have e' : win0_11.index t 0 = win0_11.index t' 0 := congrFun e 0
    exact Fin.ext (by omega)

theorem read_blk_11 (c : Dev nD) (X : Buf (Elt F) ((c : Thread nD τ).loc main_v0_1)) (t : Fin cfg0.N) (y : S64x1024.Idx) :
    ((cfg0.win 11).blk t).view.read (Elt F) X y = X (ix2 (row (chunkAt t) (y 0)) (y 1)) := by
  have h := index11 t
  blk_ext [row, chunkAt, h.1, h.2]

theorem result_11 (c : Dev nD) (after : (w' : Fin cfg0.W) → Fin cfg0.N → (cfg0.win w').block.Idx → Elt F (cfg0.win w').elt)
    (hL : ∀ u : Fin cfg0.N, (cfg0.win 11).flush u = true → (rdats m c).Leaves 11 u (after 11 u))
    (X : Vec F S4096x1024 .f32) (hX : X = ((rdats m c).withAfter after).arrAt 11 cfg0.N) (k : ℕ) (hk : k < 64) (h : Fin 8) (i : Fin 64) (j : Fin 128) :
    X (ix2 (row (chunk k) i) (col h j)) = ((argsOf m c).at k).dks h (ix2 i j) := by
  have hN : cfg0.N = 64 := N_0
  obtain ⟨t, rfl⟩ : ∃ t : Fin cfg0.N, t.val = k := ⟨⟨k, by omega⟩, rfl⟩
  have hf : (cfg0.win 11).flush t = true := flush0_11 t
  have hl₀ : Left m c 11 t (after 11 t) := Dat.toRRel_leaves (dats m 0 c) (fgt := isOut0) (Rl := Left m c) (w := 11) rfl (hL t hf)
  have hl : HeadsAre ((argsOf m c).at t.val).dks (after 11 t) := hl₀
  have hr := congrFun (((rdats m c).withAfter after).read_blk_arrAt_eq_flushed 11 disjoint11 cfg0.N t t.isLt hf) (ix2 i (col h j) : S64x1024.Idx)
  rw [← hX] at hr
  exact (read_blk_11 c X t (ix2 i (col h j))).symm.trans (hr.trans (hl h i j))

theorem disjoint12 : ∀ t t' : Fin cfg0.N, (cfg0.win 12).flush t = true → (cfg0.win 12).flush t' = true → t ≠ t' →
    Disjoint ((cfg0.win 12).blk t).view.set ((cfg0.win 12).blk t').view.set :=
  (cfg0.win 12).hdisj_of_index_inj fun t t' _ _ e => by
    have h := (index12 t).1
    have h' := (index12 t').1
    have ht : t.val < 64 := Nat.lt_of_lt_of_eq t.isLt N_0
    have ht' : t'.val < 64 := Nat.lt_of_lt_of_eq t'.isLt N_0
    have e' : win0_12.index t 0 = win0_12.index t' 0 := congrFun e 0
    exact Fin.ext (by omega)

theorem read_blk_12 (c : Dev nD) (X : Buf (Elt F) ((c : Thread nD τ).loc main_v0_2)) (t : Fin cfg0.N) (y : S64x1024.Idx) :
    ((cfg0.win 12).blk t).view.read (Elt F) X y = X (ix2 (row (chunkAt t) (y 0)) (y 1)) := by
  have h := index12 t
  blk_ext [row, chunkAt, h.1, h.2]

theorem result_12 (c : Dev nD) (after : (w' : Fin cfg0.W) → Fin cfg0.N → (cfg0.win w').block.Idx → Elt F (cfg0.win w').elt)
    (hL : ∀ u : Fin cfg0.N, (cfg0.win 12).flush u = true → (rdats m c).Leaves 12 u (after 12 u))
    (X : Vec F S4096x1024 .f32) (hX : X = ((rdats m c).withAfter after).arrAt 12 cfg0.N) (k : ℕ) (hk : k < 64) (h : Fin 8) (i : Fin 64) (j : Fin 128) :
    X (ix2 (row (chunk k) i) (col h j)) = ((argsOf m c).at k).dvs h (ix2 i j) := by
  have hN : cfg0.N = 64 := N_0
  obtain ⟨t, rfl⟩ : ∃ t : Fin cfg0.N, t.val = k := ⟨⟨k, by omega⟩, rfl⟩
  have hf : (cfg0.win 12).flush t = true := flush0_12 t
  have hl₀ : Left m c 12 t (after 12 t) := Dat.toRRel_leaves (dats m 0 c) (fgt := isOut0) (Rl := Left m c) (w := 12) rfl (hL t hf)
  have hl : HeadsAre ((argsOf m c).at t.val).dvs (after 12 t) := hl₀
  have hr := congrFun (((rdats m c).withAfter after).read_blk_arrAt_eq_flushed 12 disjoint12 cfg0.N t t.isLt hf) (ix2 i (col h j) : S64x1024.Idx)
  rw [← hX] at hr
  exact (read_blk_12 c X t (ix2 i (col h j))).symm.trans (hr.trans (hl h i j))

theorem whole13 : (cfg0.win 13).WholeAt (⟨63, by rw [show cfg0.N = 64 from N_0]; omega⟩ : Fin cfg0.N) :=
  ⟨(by decide +kernel : win0_13.flush (⟨63, by decide⟩ : Fin grid0.N) = true), (by decide +kernel : ∀ t : Fin grid0.N, win0_13.flush t = true → t = ⟨63, by decide⟩), (by decide +kernel)⟩

theorem result_13 (c : Dev nD) (X : Vec F S8x64x64 .f32) (hX : (rdats m c).ArrAt 13 cfg0.N X) (k : ℕ) (hk : k < 64) (h : Fin 8) (j : Fin 64) :
    X (ix3 h (chunk k) j) = ((argsOf m c).at k).dg (ix3 h 0 j) := by
  obtain ⟨Y, hY, hA⟩ := RDat.ArrAt.emb_eq_of_wholeAt (rd := rdats m c) hX whole13
  have hl : RowsAre (fun k => ((argsOf m c).at k).dg) 63 Y :=
    Dat.toRRel_leaves (dats m 0 c) (fgt := isOut0) (Rl := Left m c) (w := 13) rfl hY
  exact (hA (ix3 h (chunk k) j : S8x64x64.Idx)).trans (hl k (by omega) h j)

theorem whole14 : (cfg0.win 14).WholeAt (⟨63, by rw [show cfg0.N = 64 from N_0]; omega⟩ : Fin cfg0.N) :=
  ⟨(by decide +kernel : win0_14.flush (⟨63, by decide⟩ : Fin grid0.N) = true), (by decide +kernel : ∀ t : Fin grid0.N, win0_14.flush t = true → t = ⟨63, by decide⟩), (by decide +kernel)⟩

theorem result_14 (c : Dev nD) (X : Vec F S8x64x64 .f32) (hX : (rdats m c).ArrAt 14 cfg0.N X) (k : ℕ) (hk : k < 64) (h : Fin 8) (j : Fin 64) :
    X (ix3 h (chunk k) j) = ((argsOf m c).at k).db (ix3 h 0 j) := by
  obtain ⟨Y, hY, hA⟩ := RDat.ArrAt.emb_eq_of_wholeAt (rd := rdats m c) hX whole14
  have hl : RowsAre (fun k => ((argsOf m c).at k).db) 63 Y :=
    Dat.toRRel_leaves (dats m 0 c) (fgt := isOut0) (Rl := Left m c) (w := 14) rfl hY
  exact (hA (ix3 h (chunk k) j : S8x64x64.Idx)).trans (hl k (by omega) h j)

/-- The run: the arguments as they were, the results' entries, every counter at zero. -/
theorem run_results : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ Results (argsOf m c) (r.2.mem ((c.tc : Thread nD τ).loc main_v0_0)) (r.2.mem ((c.tc : Thread nD τ).loc main_v0_1)) (r.2.mem ((c.tc : Thread nD τ).loc main_v0_2))
          (r.2.mem ((c.tc : Thread nD τ).loc main_v0_3)) (r.2.mem ((c.tc : Thread nD τ).loc main_v0_4)))
      ∧ r.2.sem = fun _ => 0) := by
  refine (θ_run defs _ _).mono (fun r h => ⟨fun c => ?_, h.2⟩) (run_main m ρ)
  obtain ⟨after, hL, hA⟩ := h.1.exists_exact c
  refine ⟨(h.1.arr_in c 0 rfl).trans ((A_eq m c 0).trans (V_main_arg0 m c)), (h.1.arr_in c 1 rfl).trans ((A_eq m c 1).trans (V_main_arg1 m c)), (h.1.arr_in c 2 rfl).trans ((A_eq m c 2).trans (V_main_arg2 m c)), (h.1.arr_in c 3 rfl).trans ((A_eq m c 3).trans (V_main_arg3 m c)), (h.1.arr_in c 4 rfl).trans ((A_eq m c 4).trans (V_main_arg4 m c)), (h.1.arr_in c 5 rfl).trans ((A_eq m c 5).trans (V_main_arg5 m c)), (h.1.arr_in c 6 rfl).trans ((A_eq m c 6).trans (V_main_arg6 m c)), (h.1.arr_in c 7 rfl).trans ((A_eq m c 7).trans (V_main_arg7 m c)), (h.1.arr_in c 8 rfl).trans ((A_eq m c 8).trans (V_main_arg8 m c)), (h.1.arr_in c 9 rfl).trans ((A_eq m c 9).trans (V_main_arg9 m c)), ?_⟩
  exact {
    dq := result_10 m c after (hL 10) _ (hA 10)
    dk := result_11 m c after (hL 11) _ (hA 11)
    dv := result_12 m c after (hL 12) _ (hA 12)
    dg := result_13 m c _ ((h.1 c).1 13)
    db := result_14 m c _ ((h.1 c).1 14) }

/-- The frame alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono (fun r h => ⟨fun c => ?_, h.2⟩) (run_results m ρ)
  obtain ⟨h0, h1, h2, h3, h4, h5, h6, h7, h8, h9, -⟩ := h.1 c
  exact ⟨h0, h1, h2, h3, h4, h5, h6, h7, h8, h9⟩

end Cert.KernelIdeal.Gen

end
-- ==== Proof.RefRun.lean ====
/- The reference's run, stated over the step of Gen/ReferenceIdeal/Step.lean. At a valuation that holds a state (the
   state at the carried buffers, the trip's number at the counter) every shared value of one trip is that module's, so
   one trip of the loop steps the state; what the program leaves before its loop holds the first state; and the results
   are read off state number 64. -/
module

public import proofs.«01_k».proof.Proof.Gen.ReferenceIdeal.Run
public import proofs.«01_k».proof.Proof.Gen.ReferenceIdeal.Step

@[expose] public section

set_option maxRecDepth 8192

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state and the trip's number. -/
structure At : Prop where
  f_11 : V0 (Proc.devRef .tc main_v22_11) = s.main_v22_11
  f_12 : V0 (Proc.devRef .tc main_v22_12) = s.main_v22_12
  f_13 : V0 (Proc.devRef .tc main_v22_13) = s.main_v22_13
  f_14 : V0 (Proc.devRef .tc main_v22_14) = s.main_v22_14
  f_15 : V0 (Proc.devRef .tc main_v22_15) = s.main_v22_15
  f_16 : V0 (Proc.devRef .tc main_v22_16) = s.main_v22_16
  f_0 : V0 (Proc.devRef .tc main_v22_0) = s.main_v22_0
  f_1 : V0 (Proc.devRef .tc main_v22_1) = s.main_v22_1
  f_2 : V0 (Proc.devRef .tc main_v22_2) = s.main_v22_2
  f_3 : V0 (Proc.devRef .tc main_v22_3) = s.main_v22_3
  f_4 : V0 (Proc.devRef .tc main_v22_4) = s.main_v22_4
  f_5 : V0 (Proc.devRef .tc main_v22_5) = s.main_v22_5
  f_6 : V0 (Proc.devRef .tc main_v22_6) = s.main_v22_6
  f_7 : V0 (Proc.devRef .tc main_v22_7) = s.main_v22_7
  f_8 : V0 (Proc.devRef .tc main_v22_8) = s.main_v22_8
  f_9 : V0 (Proc.devRef .tc main_v22_9) = s.main_v22_9
  num : V0 (Proc.devRef .tc main_v22_10) = constantI S_ 32 (BitVec.ofNat 32 j)

variable {V0 s j}

/-! The values that a trip uses more than once. -/

theorem At.v32 (h : At V0 s j) : res_main_while0b_v32 V0 = Step.b3 j s := by
  unfold res_main_while0b_v32
  rw [h.num]
  rfl
theorem At.v33 (h : At V0 s j) : res_main_while0b_v33 V0 = Step.b8 j s := by
  unfold res_main_while0b_v33
  rw [h.v32, h.f_0]
  rfl
theorem At.v34 (h : At V0 s j) : res_main_while0b_v34 V0 = Step.b13 j s := by
  unfold res_main_while0b_v34
  rw [h.v32, h.f_1]
  rfl
theorem At.v35 (h : At V0 s j) : res_main_while0b_v35 V0 = Step.b18 j s := by
  unfold res_main_while0b_v35
  rw [h.v32, h.f_2]
  rfl
theorem At.v38 (h : At V0 s j) : res_main_while0b_v38 V0 = Step.b31 j s := by
  unfold res_main_while0b_v38
  rw [h.v32, h.f_5]
  rfl
theorem At.v42 (h : At V0 s j) : res_main_while0b_v42 V0 = Step.b51 j s := by
  unfold res_main_while0b_v42
  rw [h.v32, h.f_9]
  rfl
theorem At.v43 (h : At V0 s j) : res_main_while0b_v43 V0 = Step.b52 j s := by
  unfold res_main_while0b_v43
  rw [h.v32, h.f_7, h.f_8]
  rfl
theorem At.v44 (h : At V0 s j) : res_main_while0b_v44 V0 = Step.b55 j s := by
  unfold res_main_while0b_v44
  rw [h.v32, h.f_3]
  rfl
theorem At.v45 (h : At V0 s j) : res_main_while0b_v45 V0 = Step.b56 j s := by
  unfold res_main_while0b_v45
  rw [h.v32, h.f_4]
  rfl
theorem At.v46 (h : At V0 s j) : res_main_while0b_v46 V0 = Step.b57 j s := by
  unfold res_main_while0b_v46
  rfl
theorem At.v62_1 (h : At V0 s j) : res_main_while0b_v62_1 V0 = Step.b75 j s := by
  unfold res_main_while0b_v62_1
  rw [h.v46]
  rfl
theorem At.v63 (h : At V0 s j) : res_main_while0b_v63 V0 = Step.b80 j s := by
  unfold res_main_while0b_v63
  rw [h.v62_1, h.v44]
  rfl
theorem At.v65 (h : At V0 s j) : res_main_while0b_v65 V0 = Step.b82 j s := by
  unfold res_main_while0b_v65
  rw [h.v34, h.v45]
  rfl
theorem At.v66 (h : At V0 s j) : res_main_while0b_v66 V0 = Step.b83 j s := by
  unfold res_main_while0b_v66
  rw [h.v65, h.v34]
  rfl
theorem At.v68_1 (h : At V0 s j) : res_main_while0b_v68_1 V0 = Step.b87 j s := by
  unfold res_main_while0b_v68_1
  rw [h.v46]
  rfl
theorem At.v71 (h : At V0 s j) : res_main_while0b_v71 V0 = Step.b94 j s := by
  unfold res_main_while0b_v71
  rw [h.v44]
  rfl
theorem At.v72 (h : At V0 s j) : res_main_while0b_v72 V0 = Step.b95 j s := by
  unfold res_main_while0b_v72
  rw [h.v71]
  rfl
theorem At.v79 (h : At V0 s j) : res_main_while0b_v79 V0 = Step.b102 j s := by
  unfold res_main_while0b_v79
  rw [h.v43]
  rfl
theorem At.v80 (h : At V0 s j) : res_main_while0b_v80 V0 = Step.b103 j s := by
  unfold res_main_while0b_v80
  rw [h.v33, h.v34]
  rfl
theorem At.v81 (h : At V0 s j) : res_main_while0b_v81 V0 = Step.b104 j s := by
  unfold res_main_while0b_v81
  rw [h.v80, h.v63]
  rfl
theorem At.v82 (h : At V0 s j) : res_main_while0b_v82 V0 = Step.b105 j s := by
  unfold res_main_while0b_v82
  rw [h.v44]
  rfl
theorem At.v83 (h : At V0 s j) : res_main_while0b_v83 V0 = Step.b106 j s := by
  unfold res_main_while0b_v83
  rw [h.v82]
  rfl
theorem At.v85 (h : At V0 s j) : res_main_while0b_v85 V0 = Step.b108 j s := by
  unfold res_main_while0b_v85
  rw [h.v33, h.v83]
  rfl
theorem At.v87 (h : At V0 s j) : res_main_while0b_v87 V0 = Step.b110 j s := by
  unfold res_main_while0b_v87
  rw [h.v44]
  rfl
theorem At.v91 (h : At V0 s j) : res_main_while0b_v91 V0 = Step.b114 j s := by
  unfold res_main_while0b_v91
  rw [h.v87, h.v44]
  rfl
theorem At.v92 (h : At V0 s j) : res_main_while0b_v92 V0 = Step.b115 j s := by
  unfold res_main_while0b_v92
  rw [h.v91]
  rfl
theorem At.v94 (h : At V0 s j) : res_main_while0b_v94 V0 = Step.b117 j s := by
  unfold res_main_while0b_v94
  rw [h.v34, h.v92]
  rfl
theorem At.v96 (h : At V0 s j) : res_main_while0b_v96 V0 = Step.b119 j s := by
  unfold res_main_while0b_v96
  rw [h.v43, h.v79, h.v38]
  rfl
theorem At.v100 (h : At V0 s j) : res_main_while0b_v100 V0 = Step.b123 j s := by
  unfold res_main_while0b_v100
  rw [h.v87]
  rfl
theorem At.v101 (h : At V0 s j) : res_main_while0b_v101 V0 = Step.b124 j s := by
  unfold res_main_while0b_v101
  rw [h.v100]
  rfl
theorem At.v109 (h : At V0 s j) : res_main_while0b_v109 V0 = Step.b132 j s := by
  unfold res_main_while0b_v109
  rw [h.v96, h.f_11]
  rfl
theorem At.v119 (h : At V0 s j) : res_main_while0b_v119 V0 = Step.b144 j s := by
  unfold res_main_while0b_v119
  rw [h.v94, h.v42, h.v81, h.f_11]
  rfl
theorem At.v120 (h : At V0 s j) : res_main_while0b_v120 V0 = Step.b145 j s := by
  unfold res_main_while0b_v120
  rw [h.v42, h.v96]
  rfl
theorem At.v124 (h : At V0 s j) : res_main_while0b_v124 V0 = Step.b149 j s := by
  unfold res_main_while0b_v124
  rw [h.v42, h.v38]
  rfl
theorem At.v125 (h : At V0 s j) : res_main_while0b_v125 V0 = Step.b150 j s := by
  unfold res_main_while0b_v125
  rw [h.v119]
  rfl
theorem At.v136 (h : At V0 s j) : res_main_while0b_v136 V0 = Step.b163 j s := by
  unfold res_main_while0b_v136
  rw [h.v34, h.v109, h.v91]
  rfl
theorem At.v154 (h : At V0 s j) : res_main_while0b_v154 V0 = Step.b186 j s := by
  unfold res_main_while0b_v154
  rw [h.v120, h.v63]
  rfl
theorem At.v162 (h : At V0 s j) : res_main_while0b_v162 V0 = Step.b196 j s := by
  unfold res_main_while0b_v162
  rw [h.v32, h.v125, h.v38, h.v119, h.f_6]
  rfl
theorem At.v165 (h : At V0 s j) : res_main_while0b_v165 V0 = Step.b199 j s := by
  unfold res_main_while0b_v165
  rw [h.v162]
  rfl
theorem At.v166 (h : At V0 s j) : res_main_while0b_v166 V0 = Step.b200 j s := by
  unfold res_main_while0b_v166
  rw [h.v162]
  rfl
theorem At.v180 (h : At V0 s j) : res_main_while0b_v180 V0 = Step.b219 j s := by
  unfold res_main_while0b_v180
  rw [h.v68_1, h.v162, h.v43]
  rfl
theorem At.v183 (h : At V0 s j) : res_main_while0b_v183 V0 = Step.b222 j s := by
  unfold res_main_while0b_v183
  rw [h.v180, h.v63]
  rfl
theorem At.v187 (h : At V0 s j) : res_main_while0b_v187 V0 = Step.b226 j s := by
  unfold res_main_while0b_v187
  rw [h.v166, h.v72, h.v183, h.v34]
  rfl
theorem At.v196 (h : At V0 s j) : res_main_while0b_v196 V0 = Step.b238 j s := by
  unfold res_main_while0b_v196
  rw [h.v62_1, h.v80, h.v120, h.v66, h.v180, h.v63]
  rfl

/-! One trip. -/

theorem At.next_10 (h : At V0 s j) : step_main_v22_10 V0 = constantI S_ 32 (BitVec.ofNat 32 (j + 1)) := by
  unfold step_main_v22_10
  rw [h.num]
  funext i
  show BitVec.ofNat 32 j + 1#32 = BitVec.ofNat 32 (j + 1)
  rw [BitVec.ofNat_add]
theorem At.next_11 (h : At V0 s j) : step_main_v22_11 V0 = (step j s).main_v22_11 := by
  unfold step_main_v22_11
  rw [h.v101, h.v42, h.v85, h.v125, h.v79, h.f_11]
  rfl
theorem At.next_12 (h : At V0 s j) : step_main_v22_12 V0 = (step j s).main_v22_12 := by
  unfold step_main_v22_12
  rw [h.v124, h.v83, h.v154, h.v34, h.v32, h.f_12]
  rfl
theorem At.next_13 (h : At V0 s j) : step_main_v22_13 V0 = (step j s).main_v22_13 := by
  unfold step_main_v22_13
  rw [h.v109, h.v92, h.v154, h.v33, h.v183, h.v65, h.v187, h.v45, h.v32, h.f_13]
  rfl
theorem At.next_14 (h : At V0 s j) : step_main_v22_14 V0 = (step j s).main_v22_14 := by
  unfold step_main_v22_14
  rw [h.v165, h.v45, h.v32, h.f_14]
  rfl
theorem At.next_15 (h : At V0 s j) : step_main_v22_15 V0 = (step j s).main_v22_15 := by
  unfold step_main_v22_15
  rw [h.v136, h.v38, h.v100, h.v33, h.v124, h.v82, h.v65, h.v166, h.v71, h.v196, h.v32, h.f_15, h.f_11]
  rfl
theorem At.next_16 (h : At V0 s j) : step_main_v22_16 V0 = (step j s).main_v22_16 := by
  unfold step_main_v22_16
  rw [h.v35, h.v165, h.v34, h.v187, h.v32, h.f_16]
  rfl

/-- One trip of the loop steps the state and its number. -/
theorem At.next (h : At V0 s j) : At (STEP V0) (step j s) (j + 1) where
  f_11 := (STEP_main_v22_11 V0).trans h.next_11
  f_12 := (STEP_main_v22_12 V0).trans h.next_12
  f_13 := (STEP_main_v22_13 V0).trans h.next_13
  f_14 := (STEP_main_v22_14 V0).trans h.next_14
  f_15 := (STEP_main_v22_15 V0).trans h.next_15
  f_16 := (STEP_main_v22_16 V0).trans h.next_16
  f_0 := (STEP_main_v22_0 V0).trans h.f_0
  f_1 := (STEP_main_v22_1 V0).trans h.f_1
  f_2 := (STEP_main_v22_2 V0).trans h.f_2
  f_3 := (STEP_main_v22_3 V0).trans h.f_3
  f_4 := (STEP_main_v22_4 V0).trans h.f_4
  f_5 := (STEP_main_v22_5 V0).trans h.f_5
  f_6 := (STEP_main_v22_6 V0).trans h.f_6
  f_7 := (STEP_main_v22_7 V0).trans h.f_7
  f_8 := (STEP_main_v22_8 V0).trans h.f_8
  f_9 := (STEP_main_v22_9 V0).trans h.f_9
  num := (STEP_main_v22_10 V0).trans h.next_10

/-- The state before the first trip. -/
abbrev start (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The state before trip number `n`. -/
def stateAt (m : (ℓ : Loc nD τ sig) → Buf (Elt F) ℓ) (c : Dev nD) : ℕ → State F
  | 0 => start m c
  | n + 1 => step n (stateAt m c n)

variable (m : (ℓ : Loc nD τ sig) → Buf (Elt F) ℓ) (c : Dev nD)

set_option maxRecDepth 65536 in
set_option maxHeartbeats 700000 in
/-- What the program leaves before its loop holds the first state. -/
theorem at_start : At (entryContents preI m c) (start m c) 0 := by
  constructor <;> (simp only [entryContents, afterL_cons, afterL_nil]; after_reads_simp) <;> rfl

theorem at_trip : ∀ k, At (STEP^[k] (entryContents preI m c)) (stateAt m c k) k
  | 0 => at_start m c
  | k + 1 => by
    rw [Function.iterate_succ_apply']
    exact (at_trip k).next

theorem At.main_v24 (h : At V0 s j) : out_main_v24 V0 = Step.R_main_v24 s := by
  unfold out_main_v24
  rw [h.f_12]
  rfl
theorem At.main_v26 (h : At V0 s j) : out_main_v26 V0 = Step.R_main_v26 s := by
  unfold out_main_v26
  rw [h.f_13]
  rfl
theorem At.main_v28 (h : At V0 s j) : out_main_v28 V0 = Step.R_main_v28 s := by
  unfold out_main_v28
  rw [h.f_14]
  rfl
theorem At.main_v29 (h : At V0 s j) : out_main_v29 V0 = Step.R_main_v29 s := by
  unfold out_main_v29
  rw [h.f_15]
  rfl
theorem At.main_v30 (h : At V0 s j) : out_main_v30 V0 = Step.R_main_v30 s := by
  unfold out_main_v30
  rw [h.f_16]
  rfl

/-- Every run of the reference ends with each result read off state number 64, and every argument unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v24) = Step.R_main_v24 (stateAt m c 64)
      ∧ r.2.mem ((c.tc : Thread nD τ).loc main_v26) = Step.R_main_v26 (stateAt m c 64)
      ∧ r.2.mem ((c.tc : Thread nD τ).loc main_v28) = Step.R_main_v28 (stateAt m c 64)
      ∧ r.2.mem ((c.tc : Thread nD τ).loc main_v29) = Step.R_main_v29 (stateAt m c 64)
      ∧ r.2.mem ((c.tc : Thread nD τ).loc main_v30) = Step.R_main_v30 (stateAt m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := at_trip m c 64
    ⟨(h c).1.trans hk.main_v24, (h c).2.1.trans hk.main_v26, (h c).2.2.1.trans hk.main_v28, (h c).2.2.2.1.trans hk.main_v29, (h c).2.2.2.2.1.trans hk.main_v30, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.RefRun

end
-- ==== Proof.Frames.lean ====
/- The frames: of the kernel in floating point and among the extended reals, and of the reference. -/
module

public import proofs.«01_k».proof.Defs
public import proofs.«01_k».proof.Proof.Gen.Kernel
public import proofs.«01_k».proof.Proof.Result
public import proofs.«01_k».proof.Proof.RefRun
public import Idealize.ShloMosaic.Lib.Quiescent

@[expose] public section

set_option maxRecDepth 65536

noncomputable section

namespace Cert.Proof

open Idealize.ShloMosaic Idealize.SL.Sem

set_option smartUnfolding false in
/-- The frame of the kernel in floating point: it is the same program text as the one of the ideal kernel, whose frame
    was proved for every float model. -/
theorem kernel_frame : Cert.quiescent_Kernel := fun m ρ _ => Cert.KernelIdeal.Gen.frame (F := Bits) m ρ

theorem kernelIdeal_frame : Cert.quiescent_KernelIdeal := fun m ρ _ => Cert.KernelIdeal.Gen.frame m ρ

theorem reference_frame : Cert.quiescent_ReferenceIdeal := fun m ρ _ =>
  (θ_run (Cert.ReferenceIdeal.defs (F := Ideal)) _ _).mono
    (fun r h => ⟨fun c => (h c).2.2.2.2.2, sem_eq_zero_of_no_sems rfl r.2⟩) (Cert.RefRun.run m ρ)

end Cert.Proof

end
-- ==== Proof.Spec.lean ====
/- The backward pass of one chunk and one head of the gated delta rule in real numbers: what both programs compute. -/
module

public import Idealize.ShloMosaic.Lib.Pointwise

@[expose] public section

noncomputable section

namespace Cert.Spec

/-- What the backward pass of one chunk reads for one head. -/
structure Chunk where
  (q k v u w o : Fin 64 → Fin 128 → ℝ)
  (g b : Fin 64 → ℝ)
  (s ds : Fin 128 → Fin 128 → ℝ)
  T : Fin 64 → Fin 64 → ℝ

namespace Chunk

variable (c : Chunk)

/-- The gates summed up to a row. -/
def gc (i : Fin 64) : ℝ := ∑ j, if j ≤ i then c.g j else 0
/-- The chunk's summed gates. -/
def gl : ℝ := ∑ j, c.g j
/-- The decay from row `j` to row `i`, meant for `j ≤ i`. -/
def dec (i j : Fin 64) : ℝ := Real.exp (c.gc i - c.gc j)
def kb (i : Fin 64) (d : Fin 128) : ℝ := c.k i d * c.b i
def kk (i j : Fin 64) : ℝ := ∑ d, c.kb i d * c.k j d
def egc (i : Fin 64) : ℝ := Real.exp (c.gc i)
def rhsw (i : Fin 64) (d : Fin 128) : ℝ := c.kb i d * c.egc i
def qk (i j : Fin 64) : ℝ := ∑ d, c.q i d * c.k j d
def amat (i j : Fin 64) : ℝ := if j ≤ i then c.qk i j * c.dec i j else 0
def qdec (i : Fin 64) (d : Fin 128) : ℝ := c.q i d * c.egc i
def kdf (i : Fin 64) : ℝ := Real.exp (c.gl - c.gc i)
def kdec (i : Fin 64) (d : Fin 128) : ℝ := c.k i d * c.kdf i
def vnew (i : Fin 64) (e : Fin 128) : ℝ := c.u i e - ∑ d, c.w i d * c.s d e
def eg : ℝ := Real.exp c.gl
def dkdec (i : Fin 64) (d : Fin 128) : ℝ := ∑ e, c.vnew i e * c.ds d e
def dvnew (i : Fin 64) (e : Fin 128) : ℝ := (∑ d, c.kdec i d * c.ds d e) + ∑ m, c.amat m i * c.o m e
def deg : ℝ := ∑ d, ∑ e, c.ds d e * c.s d e
def dqdec (i : Fin 64) (d : Fin 128) : ℝ := ∑ e, c.o i e * c.s d e
def da (i j : Fin 64) : ℝ := ∑ e, c.o i e * c.vnew j e
def dw (i : Fin 64) (d : Fin 128) : ℝ := -∑ e, c.dvnew i e * c.s d e
/-- The gradient of the state before the chunk. -/
def next (d e : Fin 128) : ℝ := c.ds d e * c.eg + (∑ i, c.qdec i d * c.o i e) - ∑ i, c.w i d * c.dvnew i e
def dam (i j : Fin 64) : ℝ := if j ≤ i then c.da i j * c.dec i j else 0
/-- The gradient of the queries. -/
def dq (i : Fin 64) (d : Fin 128) : ℝ := (∑ j, c.dam i j * c.k j d) + c.dqdec i d * c.egc i
def dk0 (i : Fin 64) (d : Fin 128) : ℝ := (∑ m, c.dam m i * c.q m d) + c.dkdec i d * c.kdf i
def ecol (i : Fin 64) : ℝ := ∑ d, c.dkdec i d * c.kdec i d
def dgca (i : Fin 64) : ℝ := (∑ d, c.dqdec i d * c.qdec i d) - c.ecol i
def dgl : ℝ := (∑ i, c.ecol i) + c.deg * c.eg
def dru (i : Fin 64) (e : Fin 128) : ℝ := ∑ m, c.T m i * c.dvnew m e
def drw (i : Fin 64) (d : Fin 128) : ℝ := ∑ m, c.T m i * c.dw m d
def dl (i j : Fin 64) : ℝ := -((∑ e, c.dru i e * c.u j e) + ∑ d, c.drw i d * c.w j d)
/-- The gradient of the values. -/
def dv (i : Fin 64) (e : Fin 128) : ℝ := c.dru i e * c.b i
def dbu (i : Fin 64) : ℝ := ∑ e, c.dru i e * c.v i e
def dgcb (i : Fin 64) : ℝ := c.dgca i + ∑ d, c.drw i d * c.rhsw i d
def dlm (i j : Fin 64) : ℝ := if j < i then c.dl i j * c.dec i j else 0
def drwe (i : Fin 64) (d : Fin 128) : ℝ := c.drw i d * c.egc i
def dkb (i : Fin 64) (d : Fin 128) : ℝ := c.drwe i d + ∑ j, c.dlm i j * c.k j d
/-- The gradient of the keys. -/
def dk (i : Fin 64) (d : Fin 128) : ℝ := c.dk0 i d + (∑ m, c.dlm m i * c.kb m d) + c.dkb i d * c.b i
/-- The gradient of the betas. -/
def db (i : Fin 64) : ℝ := c.dbu i + ∑ d, c.dkb i d * c.k i d
def mm (i j : Fin 64) : ℝ := c.dam i j * c.qk i j + c.dlm i j * c.kk i j
/-- The gradient of the summed gates. -/
def dgt (i : Fin 64) : ℝ := c.dgcb i + (∑ j, c.mm i j) - (∑ m, c.mm m i) + if i = 63 then c.dgl else 0
/-- The gradient of the gates. -/
def dg (j : Fin 64) : ℝ := ∑ i, if j ≤ i then c.dgt i else 0

end Chunk

end Cert.Spec
-- ==== Proof.Data.lean ====
/- The arguments as real numbers, and the loop over the chunks: from the last chunk to the first, handing the gradient of the
   state on. -/
module

public import proofs.«01_k».proof.Proof.Spec

@[expose] public section

noncomputable section

namespace Cert.Spec

/-- The ten arguments, by chunk, head, and the place within the chunk. -/
structure Data where
  (q k v u w o : Fin 64 → Fin 8 → Fin 64 → Fin 128 → ℝ)
  (g b : Fin 64 → Fin 8 → Fin 64 → ℝ)
  s : Fin 64 → Fin 8 → Fin 128 → Fin 128 → ℝ
  T : Fin 64 → Fin 8 → Fin 64 → Fin 64 → ℝ

namespace Data

variable (D : Data)

/-- The chunk that step `n` works on. -/
def nth (n : ℕ) : Fin 64 := ⟨63 - n, by omega⟩

/-- What the backward pass of chunk `n` reads for head `h`, when the gradient of the state after the chunk is `ds`. -/
def chunk (n : Fin 64) (h : Fin 8) (ds : Fin 128 → Fin 128 → ℝ) : Chunk where
  q := D.q n h
  k := D.k n h
  v := D.v n h
  u := D.u n h
  w := D.w n h
  o := D.o n h
  g := D.g n h
  b := D.b n h
  s := D.s n h
  T := D.T n h
  ds := ds

/-- The gradient of the state that step `n` receives: nothing at first, and then what the step before hands on. -/
def ds : ℕ → Fin 8 → Fin 128 → Fin 128 → ℝ
  | 0 => fun _ _ _ => 0
  | n + 1 => fun h => (D.chunk (nth n) h (ds n h)).next

/-- What step `n` reads. -/
def stepAt (n : ℕ) (h : Fin 8) : Chunk := D.chunk (nth n) h (D.ds n h)

/-- The gradients of the five arguments of a row of chunk `n`. -/
def dq (n : Fin 64) (h : Fin 8) : Fin 64 → Fin 128 → ℝ := (D.stepAt (63 - n.val) h).dq
def dk (n : Fin 64) (h : Fin 8) : Fin 64 → Fin 128 → ℝ := (D.stepAt (63 - n.val) h).dk
def dv (n : Fin 64) (h : Fin 8) : Fin 64 → Fin 128 → ℝ := (D.stepAt (63 - n.val) h).dv
def dg (n : Fin 64) (h : Fin 8) : Fin 64 → ℝ := (D.stepAt (63 - n.val) h).dg
def db (n : Fin 64) (h : Fin 8) : Fin 64 → ℝ := (D.stepAt (63 - n.val) h).db

end Data

/-- Row `i` of chunk `n`, of 4096 rows. -/
def rowOf (n i : Fin 64) : Fin 4096 := ⟨64 * n.val + i.val, by omega⟩
/-- Column `j` of head `h`, of 1024 columns. -/
def colOf (h : Fin 8) (j : Fin 128) : Fin 1024 := ⟨128 * h.val + j.val, by omega⟩

theorem exists_row (r : Fin 4096) : ∃ n i, r = rowOf n i :=
  ⟨⟨r.val / 64, by omega⟩, ⟨r.val % 64, by omega⟩, Fin.ext (by show r.val = 64 * (r.val / 64) + r.val % 64; omega)⟩

theorem exists_col (r : Fin 1024) : ∃ h j, r = colOf h j :=
  ⟨⟨r.val / 128, by omega⟩, ⟨r.val % 128, by omega⟩, Fin.ext (by show r.val = 128 * (r.val / 128) + r.val % 128; omega)⟩

end Cert.Spec

end
-- ==== Proof.Finite.lean ====
/- The precondition in words: an argument whose every element is finite holds real numbers. -/
module

public import proofs.«01_k».proof.Pre_finite
public import proofs.«01_k».proof.Proof.Data
public import Idealize.ShloMosaic.Lib.Pointwise
public import Idealize.ShloMosaic.Lib.ReduceAll
public import Idealize.ShloMosaic.Lib.WordCmp

@[expose] public section

set_option maxRecDepth 16384

noncomputable section

namespace Cert.Finite

open Idealize.ShloMosaic Idealize.ShloMosaic.Tactic
open Cert.Pre_finite Cert.Spec

/-- The shape relations that the precondition's operations take. -/
instance facts : Cert.Pre_finite.Facts where
  bcast_S_S4096x1024 := by decide
  reducesTo_S4096x1024_S_d0_1 := by decide
  h_S_ := by decide
  bcast_S_S8x64x64 := by decide
  reducesTo_S8x64x64_S_d0_1_2 := by decide
  bcast_S_S8x64x128x128 := by decide
  reducesTo_S8x64x128x128_S_d0_1_2_3 := by decide
  bcast_S_S8x64x64x64 := by decide
  reducesTo_S8x64x64x64_S_d0_1_2_3 := by decide

theorem ofBits_top : Ideal.ofBits .f32 0x7F800000#32 = ⊤ := by simp [Ideal.ofBits, Ideal.ieee]

/-- An extended real whose absolute value is less than infinity is a real number. -/
theorem real_of_lt (x : EReal) (h : max x (-x) < ⊤) : x = ((x.toReal : ℝ) : EReal) := by
  have h1 : x ≠ ⊤ := fun e => by subst e; simp at h
  have h2 : x ≠ ⊥ := fun e => by subst e; simp at h
  exact (EReal.coe_toReal h1 h2).symm

instance : Subsingleton S_.Idx := ⟨fun a b => funext fun i => i.elim0⟩

theorem of_and {a b : BitVec 1} (h : IntOp.andi a b = 1#1) : a = 1#1 ∧ b = 1#1 := by
  revert a b; decide

/-- One conjunct of the precondition. -/
theorem entry {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : x i = (((x i : EReal).toReal : ℝ) : EReal) := by
  have h := Host.reduce_andi_all _ _ hr hu j e i
  refine real_of_lt _ ?_
  have h' : Ideal.cmp .olt (max (x i : EReal) (-(x i : EReal))) (Ideal.ofBits .f32 0x7F800000#32) = 1#1 := h
  rw [ofBits_top] at h'
  by_contra hn
  simp [Ideal.cmp, hn] at h'

variable (x0 x1 x2 : FVec Ideal S4096x1024 .f32) (x3 x4 : FVec Ideal S8x64x64 .f32) (x5 : FVec Ideal S8x64x128x128 .f32)
  (x6 : FVec Ideal S8x64x64x64 .f32) (x7 x8 x9 : FVec Ideal S4096x1024 .f32)

/-- The real numbers of the arguments. -/
def data : Data where
  q := fun n h i d => (x0 (ix2 (rowOf n i) (colOf h d)) : EReal).toReal
  k := fun n h i d => (x1 (ix2 (rowOf n i) (colOf h d)) : EReal).toReal
  v := fun n h i d => (x2 (ix2 (rowOf n i) (colOf h d)) : EReal).toReal
  u := fun n h i d => (x7 (ix2 (rowOf n i) (colOf h d)) : EReal).toReal
  w := fun n h i d => (x8 (ix2 (rowOf n i) (colOf h d)) : EReal).toReal
  o := fun n h i d => (x9 (ix2 (rowOf n i) (colOf h d)) : EReal).toReal
  g := fun n h i => (x3 (ix3 h n i) : EReal).toReal
  b := fun n h i => (x4 (ix3 h n i) : EReal).toReal
  s := fun n h d e => (x5 (ix4 h n d e) : EReal).toReal
  T := fun n h i j => (x6 (ix4 h n i j) : EReal).toReal

/-- Every element of the ten arguments is a real number. -/
structure All : Prop where
  a0 : ∀ i, x0 i = (((x0 i : EReal).toReal : ℝ) : EReal)
  a1 : ∀ i, x1 i = (((x1 i : EReal).toReal : ℝ) : EReal)
  a2 : ∀ i, x2 i = (((x2 i : EReal).toReal : ℝ) : EReal)
  a3 : ∀ i, x3 i = (((x3 i : EReal).toReal : ℝ) : EReal)
  a4 : ∀ i, x4 i = (((x4 i : EReal).toReal : ℝ) : EReal)
  a5 : ∀ i, x5 i = (((x5 i : EReal).toReal : ℝ) : EReal)
  a6 : ∀ i, x6 i = (((x6 i : EReal).toReal : ℝ) : EReal)
  a7 : ∀ i, x7 i = (((x7 i : EReal).toReal : ℝ) : EReal)
  a8 : ∀ i, x8 i = (((x8 i : EReal).toReal : ℝ) : EReal)
  a9 : ∀ i, x9 i = (((x9 i : EReal).toReal : ℝ) : EReal)

theorem all (h : fn (F := Ideal) x0 x1 x2 x3 x4 x5 x6 x7 x8 x9 = fun _ => 1#1) : All x0 x1 x2 x3 x4 x5 x6 x7 x8 x9 := by
  have e : fn (F := Ideal) x0 x1 x2 x3 x4 x5 x6 x7 x8 x9 (fun i => i.elim0) = 1#1 := by rw [h]
  unfold fn fn_part1 fn_part2 at e
  obtain ⟨e, h9⟩ := of_and e
  obtain ⟨e, h8⟩ := of_and e
  obtain ⟨e, h7⟩ := of_and e
  obtain ⟨e, h6⟩ := of_and e
  obtain ⟨e, h5⟩ := of_and e
  obtain ⟨e, h4⟩ := of_and e
  obtain ⟨e, h3⟩ := of_and e
  obtain ⟨e, h2⟩ := of_and e
  obtain ⟨h0, h1⟩ := of_and e
  exact ⟨entry x0 _ _ _ _ h0, entry x1 _ _ _ _ h1, entry x2 _ _ _ _ h2, entry x3 _ _ _ _ h3, entry x4 _ _ _ _ h4,
    entry x5 _ _ _ _ h5, entry x6 _ _ _ _ h6, entry x7 _ _ _ _ h7, entry x8 _ _ _ _ h8, entry x9 _ _ _ _ h9⟩

end Cert.Finite

end
-- ==== Proof.Real.lean ====
/- Real numbers among the extended reals: an operation on real numbers gives the real number, and the masks of a square of
   64 rows and columns are comparisons of the row and the column. -/
module

public import proofs.«01_k».proof.Proof.Spec
public import Idealize.ShloMosaic.Lib.Pointwise

@[expose] public section

noncomputable section

namespace Cert.Real

open Idealize.ShloMosaic

theorem add (a b : ℝ) : (a : EReal) + (b : EReal) = ((a + b : ℝ) : EReal) := (EReal.coe_add a b).symm
theorem sub (a b : ℝ) : (a : EReal) - (b : EReal) = ((a - b : ℝ) : EReal) := (EReal.coe_sub a b).symm
theorem mul (a b : ℝ) : (a : EReal) * (b : EReal) = ((a * b : ℝ) : EReal) := (EReal.coe_mul a b).symm
theorem neg (a : ℝ) : -(a : EReal) = ((-a : ℝ) : EReal) := (EReal.coe_neg a).symm
theorem zero_sub (a : ℝ) : 0 - (a : EReal) = ((-a : ℝ) : EReal) := by
  rw [← EReal.coe_zero, sub, _root_.zero_sub]
theorem zero_add (a : ℝ) : 0 + (a : EReal) = (a : EReal) := _root_.zero_add _
theorem sum {n : ℕ} (f : Fin n → ℝ) : ∑ i, (f i : EReal) = ((∑ i, f i : ℝ) : EReal) := by
  exact (map_sum (⟨⟨Real.toEReal, EReal.coe_zero⟩, EReal.coe_add⟩ : ℝ →+ EReal) f Finset.univ).symm
theorem exp (a : ℝ) : Ideal.exp (a : EReal) = ((Real.exp a : ℝ) : EReal) := rfl
theorem exp_bot : Ideal.exp ⊥ = 0 := rfl
theorem ofBits_bot : Ideal.ofBits .f32 0xFF800000#32 = ⊥ := by simp [Ideal.ofBits, Ideal.ieee]
theorem exp_ite (p : Prop) [Decidable p] (a : EReal) : Ideal.exp (if p then a else ⊥) = if p then Ideal.exp a else 0 := by
  split_ifs <;> rfl
theorem ite_zero (p : Prop) [Decidable p] (a : ℝ) :
    (if p then (a : EReal) else 0) = ((if p then a else 0 : ℝ) : EReal) := by
  split_ifs <;> rfl

theorem select_ge {α : Type} (i j : Fin 64) (a b : α) :
    Scalar.select (IntOp.cmpi .sge (BitVec.ofNat 32 i.val) (BitVec.ofNat 32 j.val)) a b = if j ≤ i then a else b := by
  have e : IntOp.cmpi .sge (BitVec.ofNat 32 i.val) (BitVec.ofNat 32 j.val) = BitVec.ofBool (decide (j ≤ i)) := by
    revert i j; decide
  rw [e]; by_cases h : j ≤ i <;> simp [h, Scalar.select]
theorem select_gt {α : Type} (i j : Fin 64) (a b : α) :
    Scalar.select (IntOp.cmpi .sgt (BitVec.ofNat 32 i.val) (BitVec.ofNat 32 j.val)) a b = if j < i then a else b := by
  have e : IntOp.cmpi .sgt (BitVec.ofNat 32 i.val) (BitVec.ofNat 32 j.val) = BitVec.ofBool (decide (j < i)) := by
    revert i j; decide
  rw [e]; by_cases h : j < i <;> simp [h, Scalar.select]
theorem select_eq {α : Type} (i j : Fin 64) (a b : α) :
    Scalar.select (IntOp.cmpi .eq (BitVec.ofNat 32 i.val) (BitVec.ofNat 32 j.val)) a b = if i = j then a else b := by
  have e : IntOp.cmpi .eq (BitVec.ofNat 32 i.val) (BitVec.ofNat 32 j.val) = BitVec.ofBool (decide (i = j)) := by
    revert i j; decide
  rw [e]; by_cases h : i = j <;> simp [h, Scalar.select]
theorem select_last {α : Type} (i : Fin 64) (a b : α) :
    Scalar.select (IntOp.cmpi .eq (BitVec.ofNat 32 i.val) 63#32) a b = if i = 63 then a else b := by
  have e : IntOp.cmpi .eq (BitVec.ofNat 32 i.val) 63#32 = BitVec.ofBool (decide (i = 63)) := by
    revert i; decide
  rw [e]; by_cases h : i = 63 <;> simp [h, Scalar.select]

end Cert.Real

end
-- ==== Proof.Ker.lean ====
/- What the kernel's body computes of real blocks: every value of the body is the real number that Spec.lean names. -/
module

public import proofs.«01_k».proof.Proof.Values
public import proofs.«01_k».proof.Proof.Real

@[expose] public section

set_option maxRecDepth 16384

noncomputable section

namespace Cert.KernelIdeal.Gen

open Idealize.ShloMosaic Idealize.ShloMosaic.TcCoe Idealize.ShloMosaic.Tactic
open Cert.Spec

/-- The loads of a point hold, head by head, the real numbers of `c`. -/
structure Ld.Is (I : Ld Ideal) (c : Fin 8 → Chunk) : Prop where
  q : ∀ (h : Fin 8) (i : Fin 64) (d : Fin 128), I.v20 (ix3 h i d) = (((c h).q i d : ℝ) : EReal)
  k : ∀ (h : Fin 8) (i : Fin 64) (d : Fin 128), I.v37 (ix3 h i d) = (((c h).k i d : ℝ) : EReal)
  v : ∀ (h : Fin 8) (i : Fin 64) (d : Fin 128), I.v54 (ix3 h i d) = (((c h).v i d : ℝ) : EReal)
  u : ∀ (h : Fin 8) (i : Fin 64) (d : Fin 128), I.v77 (ix3 h i d) = (((c h).u i d : ℝ) : EReal)
  w : ∀ (h : Fin 8) (i : Fin 64) (d : Fin 128), I.v94 (ix3 h i d) = (((c h).w i d : ℝ) : EReal)
  o : ∀ (h : Fin 8) (i : Fin 64) (d : Fin 128),
    k0_pay35 (F := Ideal) I.v167 I.v168 I.v169 I.v170 I.v171 I.v172 I.v173 I.v174 (ix3 h i d) = (((c h).o i d : ℝ) : EReal)
  g : ∀ (h : Fin 8) (i : Fin 64), I.g (ix3 h 0 i) = (((c h).g i : ℝ) : EReal)
  b : ∀ (h : Fin 8) (i : Fin 64), I.b (ix3 h 0 i) = (((c h).b i : ℝ) : EReal)
  s : ∀ (h : Fin 8) (d e : Fin 128), I.v158 (ix3 h d e) = (((c h).s d e : ℝ) : EReal)
  ds : ∀ (h : Fin 8) (d e : Fin 128), I.ds (ix3 h d e) = (((c h).ds d e : ℝ) : EReal)
  T : ∀ (h : Fin 8) (i j : Fin 64), I.v60 (ix3 h i j) = (((c h).T i j : ℝ) : EReal)

namespace Ld.Is

variable {I : Ld Ideal} {c : Fin 8 → Chunk} (H : I.Is c)
include H

theorem v107 (h : Fin 8) (i : Fin 64) : I.v107 (ix3 h i 0) = (((c h).gc i : ℝ) : EReal) := by
  unfold Ld.v107
  pointwise [k0_pay11, k0_pay9]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.g]
  rfl

theorem v123 (h : Fin 8) (i : Fin 64) : I.v123 (ix3 h i 0) = (((c h).b i : ℝ) : EReal) := by
  unfold Ld.v123
  pointwise [k0_pay12, k0_pay8]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.b]
  simp only [Finset.sum_ite_eq, Finset.sum_ite_eq', Finset.mem_univ, if_true]

theorem v125 (h : Fin 8) : I.v125 (ix3 h 0 0) = (((c h).gl : ℝ) : EReal) := by
  unfold Ld.v125
  pointwise [k0_pay13]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.g]
  rfl

theorem v133 (h : Fin 8) (i j : Fin 64) (hji : j ≤ i) : I.v133 (ix3 h i j) = (((c h).dec i j : ℝ) : EReal) := by
  have e : ∀ i : Fin 64, k0_pay11 (F := Ideal) I.g (ix3 h i 0) = (((c h).gc i : ℝ) : EReal) := H.v107 h
  unfold Ld.v133
  pointwise [k0_pay14, k0_pay9, k0_pay8]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, e, hji, if_true]
  simp only [Finset.sum_ite_eq, Finset.sum_ite_eq', Finset.mem_univ, if_true]
  rfl

theorem v135 (h : Fin 8) (i : Fin 64) (d : Fin 128) : I.v135 (ix3 h i d) = (((c h).kb i d : ℝ) : EReal) := by
  unfold Ld.v135
  pointwise [k0_pay15]
  have e : k0_pay12 (F := Ideal) I.b (ix3 h i 0) = (((c h).b i : ℝ) : EReal) := H.v123 h i
  rw [e]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.k]
  rfl

theorem v136 (h : Fin 8) (i : Fin 64) (d : Fin 128) : I.v136 (ix3 h i d) = (((c h).kb i d : ℝ) : EReal) := by
  unfold Ld.v136
  pointwise [k0_pay16]
  have e : k0_pay15 (F := Ideal) I.v37 I.b (ix3 h i d) = (((c h).kb i d : ℝ) : EReal) := H.v135 h i d
  exact e

theorem v137 (h : Fin 8) (i : Fin 64) (d : Fin 128) : I.v137 (ix3 h i d) = (((c h).k i d : ℝ) : EReal) := by
  unfold Ld.v137
  pointwise [k0_pay17]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.k]

theorem v138 (h : Fin 8) (i j : Fin 64) : I.v138 (ix3 h i j) = (((c h).kk i j : ℝ) : EReal) := by
  unfold Ld.v138
  pointwise [k0_pay18]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v136, H.v137]
  rfl

theorem v139 (h : Fin 8) (i : Fin 64) : I.v139 (ix3 h i 0) = (((c h).egc i : ℝ) : EReal) := by
  unfold Ld.v139
  pointwise [k0_pay19]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v107]
  rfl

theorem v141 (h : Fin 8) (i : Fin 64) (d : Fin 128) : I.v141 (ix3 h i d) = (((c h).rhsw i d : ℝ) : EReal) := by
  unfold Ld.v141
  pointwise [k0_pay20, k0_pay19]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v107, H.v135]
  rfl

theorem v144 (h : Fin 8) (i j : Fin 64) : I.v144 (ix3 h i j) = (((c h).qk i j : ℝ) : EReal) := by
  unfold Ld.v144
  pointwise [k0_pay21]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.q, H.k]
  rfl

theorem v149 (h : Fin 8) (i j : Fin 64) : I.v149 (ix3 h i j) = (((c h).amat i j : ℝ) : EReal) := by
  unfold Ld.v149
  pointwise [k0_pay22, k0_pay21, k0_pay9]
  rw [Cert.Real.select_ge]
  unfold Chunk.amat
  split_ifs with hji
  · have e := H.v133 h i j hji
    simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.q, H.k, e]
    rfl
  · rfl

theorem v151 (h : Fin 8) (i : Fin 64) (d : Fin 128) : I.v151 (ix3 h i d) = (((c h).qdec i d : ℝ) : EReal) := by
  unfold Ld.v151
  pointwise [k0_pay23, k0_pay19]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.q, H.v107]
  rfl

theorem v154 (h : Fin 8) (i : Fin 64) : I.v154 (ix3 h i 0) = (((c h).kdf i : ℝ) : EReal) := by
  unfold Ld.v154
  pointwise [k0_pay24]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v107, H.v125]
  rfl

theorem v156 (h : Fin 8) (i : Fin 64) (d : Fin 128) : I.v156 (ix3 h i d) = (((c h).kdec i d : ℝ) : EReal) := by
  unfold Ld.v156
  pointwise [k0_pay25, k0_pay24]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.k, H.v107, H.v125]
  rfl

theorem v177 (h : Fin 8) : I.v177 (ix3 h 0 0) = (((c h).eg : ℝ) : EReal) := by
  unfold Ld.v177
  pointwise [k0_pay36]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v125]
  rfl

theorem vnew (h : Fin 8) (i : Fin 64) (d : Fin 128) : k0_pay37 (F := Ideal) I.v77 I.v94 I.v158 (ix3 h i d) = (((c h).vnew i d : ℝ) : EReal) := by
  pointwise [k0_pay37]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.u, H.w, H.s]
  rfl

theorem v184 (h : Fin 8) (i : Fin 64) (d : Fin 128) : I.v184 (ix3 h i d) = (((c h).dkdec i d : ℝ) : EReal) := by
  unfold Ld.v184
  pointwise [k0_pay38]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.vnew, H.ds]
  rfl

theorem v191 (h : Fin 8) (i : Fin 64) (d : Fin 128) : I.v191 (ix3 h i d) = (((c h).dvnew i d : ℝ) : EReal) := by
  unfold Ld.v191
  pointwise [k0_pay39]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v149, H.v156, H.o, H.ds]
  rfl

theorem v196 (h : Fin 8) : I.v196 (ix3 h 0 0) = (((c h).deg : ℝ) : EReal) := by
  unfold Ld.v196
  pointwise [k0_pay40]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.s, H.ds]
  rfl

theorem v199 (h : Fin 8) (i : Fin 64) (d : Fin 128) : I.v199 (ix3 h i d) = (((c h).dqdec i d : ℝ) : EReal) := by
  unfold Ld.v199
  pointwise [k0_pay41]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.o, H.s]
  rfl

theorem v202 (h : Fin 8) (i j : Fin 64) : I.v202 (ix3 h i j) = (((c h).da i j : ℝ) : EReal) := by
  unfold Ld.v202
  pointwise [k0_pay42]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.o, H.vnew]
  rfl

theorem v207 (h : Fin 8) (i : Fin 64) (d : Fin 128) : I.v207 (ix3 h i d) = (((c h).dw i d : ℝ) : EReal) := by
  unfold Ld.v207
  pointwise [k0_pay43]
  have e : ∀ (i : Fin 64) (d : Fin 128), k0_pay39 (F := Ideal) I.v149 I.v156 I.v167 I.v168 I.v169 I.v170 I.v171 I.v172 I.v173 I.v174 I.ds (ix3 h i d) = (((c h).dvnew i d : ℝ) : EReal) := H.v191 h
  simp only [e]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.s]
  rfl

theorem v217 (h : Fin 8) (d e : Fin 128) : I.v217 (ix3 h d e) = (((c h).next d e : ℝ) : EReal) := by
  unfold Ld.v217
  pointwise [k0_pay44, k0_pay36]
  have e : ∀ (i : Fin 64) (d : Fin 128), k0_pay39 (F := Ideal) I.v149 I.v156 I.v167 I.v168 I.v169 I.v170 I.v171 I.v172 I.v173 I.v174 I.ds (ix3 h i d) = (((c h).dvnew i d : ℝ) : EReal) := H.v191 h
  simp only [e]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v125, H.v151, H.o, H.w, H.ds]
  rfl

theorem next (h : Fin 8) (d e : Fin 128) : I.next (ix3 h d e) = (((c h).next d e : ℝ) : EReal) := by
  unfold Ld.next
  pointwise [k0_pay45]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v217]

theorem v225 (h : Fin 8) (i j : Fin 64) : I.v225 (ix3 h i j) = (((c h).dam i j : ℝ) : EReal) := by
  unfold Ld.v225
  pointwise [k0_pay46, k0_pay9]
  rw [Cert.Real.select_ge]
  unfold Chunk.dam
  split_ifs with hji
  · have e := H.v133 h i j hji
    simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v202, e]
  · rfl

theorem v231 (h : Fin 8) (i : Fin 64) (d : Fin 128) : I.v231 (ix3 h i d) = (((c h).dq i d : ℝ) : EReal) := by
  unfold Ld.v231
  pointwise [k0_pay47]
  have e : ∀ i j : Fin 64, k0_pay46 (F := Ideal) k0_pay9 I.v133 I.v202 (ix3 h i j) = (((c h).dam i j : ℝ) : EReal) := H.v225 h
  simp only [e]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.k, H.v199, H.v139]
  rfl

theorem v237 (h : Fin 8) (i : Fin 64) (d : Fin 128) : I.v237 (ix3 h i d) = (((c h).dk0 i d : ℝ) : EReal) := by
  unfold Ld.v237
  pointwise [k0_pay48]
  have e : ∀ i j : Fin 64, k0_pay46 (F := Ideal) k0_pay9 I.v133 I.v202 (ix3 h i j) = (((c h).dam i j : ℝ) : EReal) := H.v225 h
  simp only [e]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.q, H.v184, H.v154]
  rfl

theorem ecol (h : Fin 8) (i : Fin 64) : k0_pay49 (F := Ideal) I.v156 I.v184 (ix3 h i 0) = (((c h).ecol i : ℝ) : EReal) := by
  pointwise [k0_pay49]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v184, H.v156]
  rfl

theorem v244 (h : Fin 8) (i : Fin 64) : I.v244 (ix3 h i 0) = (((c h).dgca i : ℝ) : EReal) := by
  unfold Ld.v244
  pointwise [k0_pay50]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v199, H.v151, H.ecol]
  rfl

theorem v248 (h : Fin 8) : I.v248 (ix3 h 0 0) = (((c h).dgl : ℝ) : EReal) := by
  unfold Ld.v248
  pointwise [k0_pay51]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.ecol, H.v196, H.v177]
  rfl

theorem v251 (h : Fin 8) (i : Fin 64) (d : Fin 128) : I.v251 (ix3 h i d) = (((c h).dru i d : ℝ) : EReal) := by
  unfold Ld.v251
  pointwise [k0_pay53, k0_pay52]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.T, H.v191, H.v207]
  rfl

theorem v252 (h : Fin 8) (i : Fin 64) (d : Fin 128) : I.v252 (ix3 h i d) = (((c h).drw i d : ℝ) : EReal) := by
  unfold Ld.v252
  pointwise [k0_pay54, k0_pay52]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.T, H.v191, H.v207]
  rfl

theorem v256 (h : Fin 8) (i j : Fin 64) : I.v256 (ix3 h i j) = (((c h).dl i j : ℝ) : EReal) := by
  unfold Ld.v256
  pointwise [k0_pay55, k0_pay52]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.T, H.v191, H.v207, H.u, H.w]
  rfl

theorem v258 (h : Fin 8) (i : Fin 64) (d : Fin 128) : I.v258 (ix3 h i d) = (((c h).dv i d : ℝ) : EReal) := by
  unfold Ld.v258
  pointwise [k0_pay56, k0_pay53, k0_pay52]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.T, H.v191, H.v123]
  rfl

theorem v285 (h : Fin 8) (i : Fin 64) : I.v285 (ix3 h i 0) = (((c h).dbu i : ℝ) : EReal) := by
  unfold Ld.v285
  pointwise [k0_pay65]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v251, H.v]
  rfl

theorem v289 (h : Fin 8) (i : Fin 64) : I.v289 (ix3 h i 0) = (((c h).dgcb i : ℝ) : EReal) := by
  unfold Ld.v289
  pointwise [k0_pay66]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v252, H.v141, H.v244]
  rfl

theorem v294 (h : Fin 8) (i j : Fin 64) : I.v294 (ix3 h i j) = (((c h).dlm i j : ℝ) : EReal) := by
  unfold Ld.v294
  pointwise [k0_pay67, k0_pay10]
  rw [Cert.Real.select_gt]
  unfold Chunk.dlm
  split_ifs with hji
  · have e := H.v133 h i j hji.le
    simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v256, e]
  · rfl

theorem v296 (h : Fin 8) (i : Fin 64) (d : Fin 128) : I.v296 (ix3 h i d) = (((c h).drwe i d : ℝ) : EReal) := by
  unfold Ld.v296
  pointwise [k0_pay68]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v252, H.v139]
  rfl

theorem v297 (h : Fin 8) (i j : Fin 64) : I.v297 (ix3 h i j) = (((c h).dlm i j : ℝ) : EReal) := by
  unfold Ld.v297
  pointwise [k0_pay69]
  have e : k0_pay67 (F := Ideal) k0_pay10 I.v133 I.v256 (ix3 h i j) = (((c h).dlm i j : ℝ) : EReal) := H.v294 h i j
  exact e

theorem v298 (h : Fin 8) (i : Fin 64) (d : Fin 128) : I.v298 (ix3 h i d) = (((c h).k i d : ℝ) : EReal) := by
  unfold Ld.v298
  pointwise [k0_pay70]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.k]

theorem dkb (h : Fin 8) (i : Fin 64) (d : Fin 128) : k0_pay71 (F := Ideal) I.v296 I.v297 I.v298 (Ld.zeros (F := Ideal)) (ix3 h i d) = (((c h).dkb i d : ℝ) : EReal) := by
  pointwise [k0_pay71, Ld.zeros]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v296, H.v297, H.v298]
  rfl

theorem v307 (h : Fin 8) (i : Fin 64) (d : Fin 128) : I.v307 (ix3 h i d) = (((c h).dk i d : ℝ) : EReal) := by
  unfold Ld.v307
  pointwise [k0_pay72]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v237, H.v294, H.v135, H.dkb, H.v123]
  rfl

theorem v311 (h : Fin 8) (i : Fin 64) : I.v311 (ix3 h i 0) = (((c h).db i : ℝ) : EReal) := by
  unfold Ld.v311
  pointwise [k0_pay73]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v285, H.dkb, H.k]
  rfl

theorem v348 (h : Fin 8) (i j : Fin 64) : I.v348 (ix3 h i j) = (((c h).dgt i : ℝ) : EReal) := by
  unfold Ld.v348
  pointwise [k0_pay74, k0_pay8]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v289, H.v225, H.v144, H.v294, H.v138, H.v248]
  simp only [Finset.sum_ite_eq, Finset.sum_ite_eq', Finset.mem_univ, if_true]
  unfold Chunk.dgt
  rfl

theorem dg (h : Fin 8) (i : Fin 64) : I.dg (ix3 h 0 i) = (((c h).dg i : ℝ) : EReal) := by
  unfold Ld.dg
  pointwise [k0_pay75, k0_pay9]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v348]
  rfl

theorem db (h : Fin 8) (i : Fin 64) : I.db (ix3 h 0 i) = (((c h).db i : ℝ) : EReal) := by
  unfold Ld.db
  pointwise [k0_pay76, k0_pay8]
  simp only [Cert.Real.add, Cert.Real.sub, Cert.Real.mul, Cert.Real.zero_sub, Cert.Real.sum, Cert.Real.exp, Cert.Real.select_ge, Cert.Real.select_gt, Cert.Real.select_eq, Cert.Real.select_last, Cert.Real.ite_zero, H.v311]
  simp only [Finset.sum_ite_eq, Finset.sum_ite_eq', Finset.mem_univ, if_true]

end Ld.Is

end Cert.KernelIdeal.Gen

end
-- ==== Proof.KerRun.lean ====
/- The kernel's loop in real numbers: what every point loads and what the five results hold at the end. -/
module

public import proofs.«01_k».proof.Proof.Ker
public import proofs.«01_k».proof.Proof.Result
public import proofs.«01_k».proof.Proof.Data

@[expose] public section

set_option maxRecDepth 16384

noncomputable section

namespace Cert.KernelIdeal.Gen

open Idealize.ShloMosaic Idealize.ShloMosaic.TcCoe Idealize.ShloMosaic.Tactic
open Cert.Spec

/-- The argument arrays hold the real numbers of `D`. -/
structure Args.Are (A : Args Ideal) (D : Data) : Prop where
  q : ∀ (n : Fin 64) (h : Fin 8) (i : Fin 64) (d : Fin 128), A.Q (ix2 (row n i) (col h d)) = ((D.q n h i d : ℝ) : EReal)
  k : ∀ (n : Fin 64) (h : Fin 8) (i : Fin 64) (d : Fin 128), A.K (ix2 (row n i) (col h d)) = ((D.k n h i d : ℝ) : EReal)
  v : ∀ (n : Fin 64) (h : Fin 8) (i : Fin 64) (d : Fin 128), A.V (ix2 (row n i) (col h d)) = ((D.v n h i d : ℝ) : EReal)
  u : ∀ (n : Fin 64) (h : Fin 8) (i : Fin 64) (d : Fin 128), A.U (ix2 (row n i) (col h d)) = ((D.u n h i d : ℝ) : EReal)
  w : ∀ (n : Fin 64) (h : Fin 8) (i : Fin 64) (d : Fin 128), A.W (ix2 (row n i) (col h d)) = ((D.w n h i d : ℝ) : EReal)
  o : ∀ (n : Fin 64) (h : Fin 8) (i : Fin 64) (d : Fin 128), A.O (ix2 (row n i) (col h d)) = ((D.o n h i d : ℝ) : EReal)
  g : ∀ (n : Fin 64) (h : Fin 8) (i : Fin 64), A.G (ix3 h n i) = ((D.g n h i : ℝ) : EReal)
  b : ∀ (n : Fin 64) (h : Fin 8) (i : Fin 64), A.B (ix3 h n i) = ((D.b n h i : ℝ) : EReal)
  s : ∀ (n : Fin 64) (h : Fin 8) (d e : Fin 128), A.S (ix4 h n d e) = ((D.s n h d e : ℝ) : EReal)
  T : ∀ (n : Fin 64) (h : Fin 8) (i j : Fin 64), A.T (ix4 h n i j) = ((D.T n h i j : ℝ) : EReal)

section
variable (f : Fin 8 → Vec Ideal S64x128 .f32) (h : Fin 8) (i : Fin 64) (d : Fin 128)

/-- Eight heads put one on top of the other. -/
theorem stack_q : k0_pay2 (F := Ideal) (f 0) (f 1) (f 2) (f 3) (f 4) (f 5) (f 6) (f 7) (ix3 h i d) = f h (ix2 i d) := by
  fin_cases h <;> pointwise [k0_pay2]
theorem stack_k : k0_pay3 (F := Ideal) (f 0) (f 1) (f 2) (f 3) (f 4) (f 5) (f 6) (f 7) (ix3 h i d) = f h (ix2 i d) := by
  fin_cases h <;> pointwise [k0_pay3]
theorem stack_v : k0_pay4 (F := Ideal) (f 0) (f 1) (f 2) (f 3) (f 4) (f 5) (f 6) (f 7) (ix3 h i d) = f h (ix2 i d) := by
  fin_cases h <;> pointwise [k0_pay4]
theorem stack_u : k0_pay6 (F := Ideal) (f 0) (f 1) (f 2) (f 3) (f 4) (f 5) (f 6) (f 7) (ix3 h i d) = f h (ix2 i d) := by
  fin_cases h <;> pointwise [k0_pay6]
theorem stack_w : k0_pay7 (F := Ideal) (f 0) (f 1) (f 2) (f 3) (f 4) (f 5) (f 6) (f 7) (ix3 h i d) = f h (ix2 i d) := by
  fin_cases h <;> pointwise [k0_pay7]
theorem stack_o : k0_pay35 (F := Ideal) (k0_pay27 (f 0)) (k0_pay28 (f 1)) (k0_pay29 (f 2)) (k0_pay30 (f 3)) (k0_pay31 (f 4)) (k0_pay32 (f 5)) (k0_pay33 (f 6)) (k0_pay34 (f 7)) (ix3 h i d) = f h (ix2 i d) := by
  fin_cases h <;> pointwise [k0_pay35, k0_pay27, k0_pay28, k0_pay29, k0_pay30, k0_pay31, k0_pay32, k0_pay33, k0_pay34]

end

variable {A : Args Ideal} {D : Data}

theorem Args.Are.ld (H : A.Are D) (n : Fin 64) (x : Vec Ideal S8x128x128 .f32) (ds : Fin 8 → Fin 128 → Fin 128 → ℝ)
    (hx : ∀ (h : Fin 8) (d e : Fin 128), x (ix3 h d e) = ((ds h d e : ℝ) : EReal)) : (A.ld n x).Is fun h => D.chunk n h (ds h) where
  q := fun h i d => (stack_q (headOf A.Q n) h i d).trans (H.q n h i d)
  k := fun h i d => (stack_k (headOf A.K n) h i d).trans (H.k n h i d)
  v := fun h i d => (stack_v (headOf A.V n) h i d).trans (H.v n h i d)
  u := fun h i d => (stack_u (headOf A.U n) h i d).trans (H.u n h i d)
  w := fun h i d => (stack_w (headOf A.W n) h i d).trans (H.w n h i d)
  o := fun h i d => (stack_o (headOf A.O n) h i d).trans (H.o n h i d)
  g := fun h i => H.g n h i
  b := fun h i => H.b n h i
  s := fun h d e => by
    pointwise [Ld.v158, k0_pay26]
    exact H.s n h d e
  T := fun h i j => by
    pointwise [Ld.v60, k0_pay5]
    exact H.T n h i j
  ds := hx

theorem Args.Are.ds (H : A.Are D) : ∀ (n : ℕ) (h : Fin 8) (d e : Fin 128), dsAt A n (ix3 h d e) = ((D.ds n h d e : ℝ) : EReal)
  | 0, h, d, e => by
    show k0_pay1 (F := Ideal) (ix3 h d e) = _
    pointwise [k0_pay1]
    rfl
  | n + 1, h, d, e => (H.ld (chunk n) (dsAt A n) (D.ds n) (H.ds n)).next h d e

theorem Args.Are.at (H : A.Are D) (n : ℕ) : (A.at n).Is (D.stepAt n) := H.ld (chunk n) (dsAt A n) (D.ds n) (H.ds n)

section
variable {I : Ld Ideal} {c : Fin 8 → Chunk} (H : I.Is c) (h : Fin 8) (i : Fin 64) (d : Fin 128)
include H

theorem Ld.Is.dqs : I.dqs h (ix2 i d) = (((c h).dq i d : ℝ) : EReal) := by
  refine Eq.trans ?_ (H.v231 h i d)
  unfold Ld.dqs
  fin_cases h <;> pointwise [k0_pay77, k0_pay78, k0_pay79, k0_pay80, k0_pay81, k0_pay82, k0_pay83, k0_pay84]

theorem Ld.Is.dks : I.dks h (ix2 i d) = (((c h).dk i d : ℝ) : EReal) := by
  refine Eq.trans ?_ (H.v307 h i d)
  unfold Ld.dks
  fin_cases h <;> pointwise [k0_pay85, k0_pay86, k0_pay87, k0_pay88, k0_pay89, k0_pay90, k0_pay91, k0_pay92]

theorem Ld.Is.dvs : I.dvs h (ix2 i d) = (((c h).dv i d : ℝ) : EReal) := by
  refine Eq.trans ?_ (H.v258 h i d)
  have e : I.v258 = k0_pay56 (F := Ideal) I.v60 I.v123 I.v191 I.v207 := by unfold Ld.v258; rfl
  unfold Ld.dvs
  rw [e]
  generalize I.v60 = x0, I.v123 = x1, I.v191 = x2, I.v207 = x3
  fin_cases h <;> simp only [k0_pay57, k0_pay58, k0_pay59, k0_pay60, k0_pay61, k0_pay62, k0_pay63, k0_pay64] <;> generalize k0_pay56 (F := Ideal) x0 x1 x2 x3 = y <;> pointwise []

end

/-- The kernel's five results in real numbers. -/
structure Hold (D : Data) (dq dk dv : Vec Ideal S4096x1024 .f32) (dg db : Vec Ideal S8x64x64 .f32) : Prop where
  dq : ∀ (n : Fin 64) (h : Fin 8) (i : Fin 64) (d : Fin 128), dq (ix2 (rowOf n i) (colOf h d)) = ((D.dq n h i d : ℝ) : EReal)
  dk : ∀ (n : Fin 64) (h : Fin 8) (i : Fin 64) (d : Fin 128), dk (ix2 (rowOf n i) (colOf h d)) = ((D.dk n h i d : ℝ) : EReal)
  dv : ∀ (n : Fin 64) (h : Fin 8) (i : Fin 64) (d : Fin 128), dv (ix2 (rowOf n i) (colOf h d)) = ((D.dv n h i d : ℝ) : EReal)
  dg : ∀ (n : Fin 64) (h : Fin 8) (i : Fin 64), dg (ix3 h n i) = ((D.dg n h i : ℝ) : EReal)
  db : ∀ (n : Fin 64) (h : Fin 8) (i : Fin 64), db (ix3 h n i) = ((D.db n h i : ℝ) : EReal)

theorem chunk_back (n : Fin 64) : chunk (63 - n.val) = n := Fin.ext (by show 63 - (63 - n.val) = n.val; omega)

theorem Results.hold (H : A.Are D) {dq dk dv : Vec Ideal S4096x1024 .f32} {dg db : Vec Ideal S8x64x64 .f32}
    (R : Results A dq dk dv dg db) : Hold D dq dk dv dg db where
  dq := fun n h i d => by
    have e := R.dq (63 - n.val) (by omega) h i d
    rw [chunk_back] at e
    exact e.trans ((H.at (63 - n.val)).dqs h i d)
  dk := fun n h i d => by
    have e := R.dk (63 - n.val) (by omega) h i d
    rw [chunk_back] at e
    exact e.trans ((H.at (63 - n.val)).dks h i d)
  dv := fun n h i d => by
    have e := R.dv (63 - n.val) (by omega) h i d
    rw [chunk_back] at e
    exact e.trans ((H.at (63 - n.val)).dvs h i d)
  dg := fun n h i => by
    have e := R.dg (63 - n.val) (by omega) h i
    rw [chunk_back] at e
    exact e.trans ((H.at (63 - n.val)).dg h i)
  db := fun n h i => by
    have e := R.db (63 - n.val) (by omega) h i
    rw [chunk_back] at e
    exact e.trans ((H.at (63 - n.val)).db h i)

end Cert.KernelIdeal.Gen

end
-- ==== Proof.Window.lean ====
/- A running sum as the reference prints it (a window of 64 entries along the rows of an `[8, 64]` array, padded with 63
   zeros before or after), read at an entry: the sum of the entries up to it, or from it on. -/
module

public import proofs.«01_k».proof.Proof.Real

@[expose] public section

noncomputable section

namespace Cert.Real

open Idealize.ShloMosaic

theorem foldl_add {n : ℕ} (v : Fin n → EReal) (z : EReal) :
    (List.finRange n).foldl (fun r k => r + v k) z = z + ∑ k, v k := by
  rw [Fin.sum_univ_def]
  generalize List.finRange n = l
  induction l generalizing z with
  | nil => simp
  | cons a l ih => rw [List.foldl_cons, ih, List.map_cons, List.sum_cons, add_assoc]

/-- The window's entries that lie in the array, when the padding stands before it. -/
theorem sum_before (f : Fin 64 → EReal) (i : Fin 64) :
    (∑ w : Fin 64, if h : 63 ≤ i.val + w.val ∧ i.val + w.val - 63 < 64 then f ⟨i.val + w.val - 63, h.2⟩ else 0)
      = ∑ j, if j ≤ i then f j else 0 := by
  rw [← Finset.sum_filter]
  rw [← Finset.sum_subset (Finset.subset_univ (Finset.univ.filter fun w : Fin 64 => 63 ≤ i.val + w.val))]
  · refine Finset.sum_bij' (fun w _ => ⟨i.val + w.val - 63, by omega⟩) (fun j _ => ⟨(j.val + 63 - i.val) % 64, by omega⟩) ?_ ?_ ?_ ?_ ?_
    · intro w hw
      simp only [Finset.mem_filter, Finset.mem_univ, true_and, Fin.le_def] at hw ⊢
      omega
    · intro j hj
      simp only [Finset.mem_filter, Finset.mem_univ, true_and, Fin.le_def] at hj ⊢
      omega
    · intro w hw
      simp only [Finset.mem_filter, Finset.mem_univ, true_and] at hw
      exact Fin.ext (by show (i.val + w.val - 63 + 63 - i.val) % 64 = w.val; omega)
    · intro j hj
      simp only [Finset.mem_filter, Finset.mem_univ, true_and, Fin.le_def] at hj
      exact Fin.ext (by show i.val + (j.val + 63 - i.val) % 64 - 63 = j.val; omega)
    · intro w hw
      simp only [Finset.mem_filter, Finset.mem_univ, true_and] at hw
      rw [dif_pos ⟨hw, by omega⟩]
  · intro w _ hw
    simp only [Finset.mem_filter, Finset.mem_univ, true_and] at hw
    rw [dif_neg (by omega)]

/-- The same with the padding after it. -/
theorem sum_after (f : Fin 64 → EReal) (i : Fin 64) :
    (∑ w : Fin 64, if h : 0 ≤ i.val + w.val ∧ i.val + w.val - 0 < 64 then f ⟨i.val + w.val - 0, h.2⟩ else 0)
      = ∑ j, if i ≤ j then f j else 0 := by
  rw [← Finset.sum_filter]
  rw [← Finset.sum_subset (Finset.subset_univ (Finset.univ.filter fun w : Fin 64 => i.val + w.val < 64))]
  · refine Finset.sum_bij' (fun w _ => ⟨(i.val + w.val) % 64, by omega⟩) (fun j _ => ⟨j.val - i.val, by omega⟩) ?_ ?_ ?_ ?_ ?_
    · intro w hw
      simp only [Finset.mem_filter, Finset.mem_univ, true_and, Fin.le_def] at hw ⊢
      omega
    · intro j hj
      simp only [Finset.mem_filter, Finset.mem_univ, true_and, Fin.le_def] at hj ⊢
      omega
    · intro w hw
      simp only [Finset.mem_filter, Finset.mem_univ, true_and] at hw
      exact Fin.ext (by show (i.val + w.val) % 64 - i.val = w.val; omega)
    · intro j hj
      simp only [Finset.mem_filter, Finset.mem_univ, true_and, Fin.le_def] at hj
      exact Fin.ext (by show (i.val + (j.val - i.val)) % 64 = j.val; omega)
    · intro w hw
      simp only [Finset.mem_filter, Finset.mem_univ, true_and] at hw
      rw [dif_pos ⟨Nat.zero_le _, by omega⟩]
      exact congrArg f (Fin.ext (by show i.val + w.val - 0 = (i.val + w.val) % 64; omega))
  · intro w _ hw
    simp only [Finset.mem_filter, Finset.mem_univ, true_and] at hw
    rw [dif_neg (by omega)]

abbrev T8x64 : Shape := ⟨2, ![8, 64]⟩

theorem window_sum {lo hi : Fin 2 → Nat} (x : FVec Ideal T8x64 .f32) (init : (⟨0, ![]⟩ : Shape).Idx → Ideal .f32)
    (h : T8x64.ReduceWindows ![1, 64] ![1, 1] lo hi T8x64) (hu : 0 < (⟨0, ![]⟩ : Shape).numel)
    (hz : init (Shape.Idx.first hu) = (0 : EReal)) (hd : Fin 8) (i : Fin 64) (h0 : lo 0 = 0) :
    (Host.reduceWindowAdd ![1, 64] ![1, 1] lo hi x init h hu (ix2 hd i) : EReal)
      = ∑ w : Fin 64, if h : lo 1 ≤ i.val + w.val ∧ i.val + w.val - lo 1 < 64 then x (ix2 hd ⟨i.val + w.val - lo 1, h.2⟩) else 0 := by
  have e : (Host.reduceWindowAdd ![1, 64] ![1, 1] lo hi x init h hu (ix2 hd i) : EReal)
      = Host.reduceWindow (· + ·) ![1, 64] ![1, 1] lo hi x (fun _ : (⟨0, ![]⟩ : Shape).Idx => (0 : EReal)) h (by decide) (ix2 hd i) := by
    rw [← hz]; rfl
  rw [e]
  unfold Host.reduceWindow
  dsimp only
  rw [foldl_add, _root_.zero_add]
  refine (Fintype.sum_equiv (Shape.rowMajor (⟨2, ![1, 64]⟩ : Shape)).symm _
    (fun w : (⟨2, ![1, 64]⟩ : Shape).Idx => if hin : ∀ a : Fin 2, lo a ≤ ((ix2 hd i : T8x64.Idx) a).val * (![1, 1] : Fin 2 → Nat) a + (w a).val
        ∧ ((ix2 hd i : T8x64.Idx) a).val * (![1, 1] : Fin 2 → Nat) a + (w a).val - lo a < T8x64.size a
      then x (fun a => ⟨((ix2 hd i : T8x64.Idx) a).val * (![1, 1] : Fin 2 → Nat) a + (w a).val - lo a, (hin a).2⟩) else (0 : EReal))
    (fun _ => dite_congr rfl (fun _ => rfl) (fun _ => rfl))).trans ?_
  rw [sum_idx2, Fin.sum_univ_one]
  refine Finset.sum_congr rfl fun w _ => ?_
  by_cases hw : lo 1 ≤ i.val + w.val ∧ i.val + w.val - lo 1 < 64
  · rw [dif_pos hw, dif_pos]
    · refine congrArg x (funext fun a => Fin.ext ?_)
      fin_cases a
      · show hd.val * 1 + 0 - lo 0 = hd.val
        omega
      · show i.val * 1 + w.val - lo 1 = i.val + w.val - lo 1
        omega
    · intro a
      fin_cases a
      · show lo 0 ≤ hd.val * 1 + 0 ∧ hd.val * 1 + 0 - lo 0 < 8
        omega
      · show lo 1 ≤ i.val * 1 + w.val ∧ i.val * 1 + w.val - lo 1 < 64
        omega
  · rw [dif_neg hw, dif_neg]
    intro ha
    apply hw
    have h1 : lo 1 ≤ i.val * 1 + w.val ∧ i.val * 1 + w.val - lo 1 < 64 := ha 1
    omega

/-- The running sum of a row. -/
theorem cumsum (x : FVec Ideal T8x64 .f32) (init : (⟨0, ![]⟩ : Shape).Idx → Ideal .f32)
    (h : T8x64.ReduceWindows ![1, 64] ![1, 1] ![0, 63] ![0, 0] T8x64) (hu : 0 < (⟨0, ![]⟩ : Shape).numel)
    (hz : init (Shape.Idx.first hu) = (0 : EReal)) (hd : Fin 8) (i : Fin 64) :
    (Host.reduceWindowAdd ![1, 64] ![1, 1] ![0, 63] ![0, 0] x init h hu (ix2 hd i) : EReal)
      = ∑ j : Fin 64, if j ≤ i then x (ix2 hd j) else (0 : EReal) :=
  (window_sum x init h hu hz hd i rfl).trans (sum_before (fun j => x (ix2 hd j)) i)

/-- The running sum of a row from its end. -/
theorem cumsumRev (x : FVec Ideal T8x64 .f32) (init : (⟨0, ![]⟩ : Shape).Idx → Ideal .f32)
    (h : T8x64.ReduceWindows ![1, 64] ![1, 1] ![0, 0] ![0, 63] T8x64) (hu : 0 < (⟨0, ![]⟩ : Shape).numel)
    (hz : init (Shape.Idx.first hu) = (0 : EReal)) (hd : Fin 8) (i : Fin 64) :
    (Host.reduceWindowAdd ![1, 64] ![1, 1] ![0, 0] ![0, 63] x init h hu (ix2 hd i) : EReal)
      = ∑ j : Fin 64, if i ≤ j then x (ix2 hd j) else (0 : EReal) :=
  (window_sum x init h hu hz hd i rfl).trans (sum_after (fun j => x (ix2 hd j)) i)

end Cert.Real

end
-- ==== Proof.Ref.lean ====
/- What one trip of the reference computes of real numbers: every value that the gradients are made of is the real number
   that Spec.lean names. -/
module

public import proofs.«01_k».proof.Proof.Gen.ReferenceIdeal.Step
public import proofs.«01_k».proof.Proof.Window

@[expose] public section

set_option maxRecDepth 16384

noncomputable section

namespace Cert.RefValue

open Idealize.ShloMosaic Idealize.ShloMosaic.TcCoe Idealize.ShloMosaic.StableHlo
open Cert.ReferenceIdeal Cert.ReferenceIdeal.Gen Cert.Spec
open Cert.ReferenceIdeal.Step (State step init)

/-- Trip `j` from the state `s` reads, head by head, the real numbers of `c`. -/
structure Is (j : ℕ) (s : State Ideal) (c : Fin 8 → Chunk) : Prop where
  b8 : ∀ (h : Fin 8) (i : Fin 64) (d : Fin 128), Step.b8 j s (ix3 h i d) = (((c h).q i d : ℝ) : EReal)
  b13 : ∀ (h : Fin 8) (i : Fin 64) (d : Fin 128), Step.b13 j s (ix3 h i d) = (((c h).k i d : ℝ) : EReal)
  b18 : ∀ (h : Fin 8) (i : Fin 64) (d : Fin 128), Step.b18 j s (ix3 h i d) = (((c h).v i d : ℝ) : EReal)
  b22 : ∀ (h : Fin 8) (i : Fin 64), Step.b22 j s (ix2 h i) = (((c h).g i : ℝ) : EReal)
  b26 : ∀ (h : Fin 8) (i : Fin 64), Step.b26 j s (ix2 h i) = (((c h).b i : ℝ) : EReal)
  b31 : ∀ (h : Fin 8) (d e : Fin 128), Step.b31 j s (ix3 h d e) = (((c h).s d e : ℝ) : EReal)
  b36 : ∀ (h : Fin 8) (i k : Fin 64), Step.b36 j s (ix3 h i k) = (((c h).T i k : ℝ) : EReal)
  b41 : ∀ (h : Fin 8) (i : Fin 64) (d : Fin 128), Step.b41 j s (ix3 h i d) = (((c h).u i d : ℝ) : EReal)
  b46 : ∀ (h : Fin 8) (i : Fin 64) (d : Fin 128), Step.b46 j s (ix3 h i d) = (((c h).w i d : ℝ) : EReal)
  b51 : ∀ (h : Fin 8) (i : Fin 64) (d : Fin 128), Step.b51 j s (ix3 h i d) = (((c h).o i d : ℝ) : EReal)
  ds : ∀ (h : Fin 8) (d e : Fin 128), s.main_v22_11 (ix3 h d e) = (((c h).ds d e : ℝ) : EReal)

theorem gc_last (c : Chunk) : c.gc 63 = c.gl := by
  refine Finset.sum_congr rfl fun j _ => ?_
  rw [if_pos (Fin.le_def.mpr (by show j.val ≤ 63; omega))]

namespace Is

variable {j : ℕ} {s : State Ideal} {c : Fin 8 → Chunk} (H : Is j s c)
include H

theorem b55 (h : Fin 8) (i : Fin 64) : Step.b55 j s (ix2 h i) = (((c h).gc i : ℝ) : EReal) := by
  unfold Step.b55
  rw [Cert.Real.cumsum _ _ _ _ (by pointwise [Step.b54, Step.b53]; done)]
  simp only [Cert.Real.sum, Cert.Real.ite_zero, H.b22]
  rfl

theorem b56 (h : Fin 8) (i : Fin 64) : Step.b56 j s (ix3 h i 0) = (((c h).b i : ℝ) : EReal) := by
  pointwise [Step.b56]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b26, H.ds]

theorem b80 (h : Fin 8) (i k : Fin 64) : Step.b80 j s (ix3 h i k) = ((if k ≤ i then (c h).dec i k else 0 : ℝ) : EReal) := by
  pointwise [Step.b80, Step.b77, Step.b76, Step.b74, Step.b73, Step.b75, Step.b62, Step.b61, Step.b59, Step.b57, Step.b60, Step.b58, Step.b72, Step.b71, Step.b69, Step.b70, Step.b68]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b55, H.ds]
  rfl

theorem b82 (h : Fin 8) (i : Fin 64) (d : Fin 128) : Step.b82 j s (ix3 h i d) = (((c h).kb i d : ℝ) : EReal) := by
  pointwise [Step.b82, Step.b81]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b56, H.b13, H.ds]
  rfl

theorem b83 (h : Fin 8) (i k : Fin 64) : Step.b83 j s (ix3 h i k) = (((c h).kk i k : ℝ) : EReal) := by
  pointwise [Step.b83]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b82, H.b13, H.ds]
  rfl

theorem b94 (h : Fin 8) (i : Fin 64) : Step.b94 j s (ix2 h i) = (((c h).egc i : ℝ) : EReal) := by
  pointwise [Step.b94]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b55, H.ds]
  rfl

theorem b101 (h : Fin 8) (i : Fin 64) (d : Fin 128) : Step.b101 j s (ix3 h i d) = (((c h).u i d : ℝ) : EReal) := by
  pointwise [Step.b101, Step.b52]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b46, H.b41, H.ds]

theorem b102 (h : Fin 8) (i : Fin 64) (d : Fin 128) : Step.b102 j s (ix3 h i d) = (((c h).w i d : ℝ) : EReal) := by
  pointwise [Step.b102, Step.b52]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b46, H.b41, H.ds]

theorem b103 (h : Fin 8) (i k : Fin 64) : Step.b103 j s (ix3 h i k) = (((c h).qk i k : ℝ) : EReal) := by
  pointwise [Step.b103]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b8, H.b13, H.ds]
  rfl

theorem b104 (h : Fin 8) (i k : Fin 64) : Step.b104 j s (ix3 h i k) = (((c h).amat i k : ℝ) : EReal) := by
  pointwise [Step.b104]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b80, H.b103, H.ds]
  rw [mul_ite, mul_zero]
  rfl

theorem b105 (h : Fin 8) (i : Fin 64) : Step.b105 j s (ix2 h i) = (((c h).egc i : ℝ) : EReal) := by
  pointwise [Step.b105]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b55, H.ds]
  rfl

theorem b108 (h : Fin 8) (i : Fin 64) (d : Fin 128) : Step.b108 j s (ix3 h i d) = (((c h).qdec i d : ℝ) : EReal) := by
  pointwise [Step.b108, Step.b107, Step.b106]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b8, H.b105, H.ds]
  rfl

theorem b110 (h : Fin 8) : Step.b110 j s (ix1 h) = (((c h).gl : ℝ) : EReal) := by
  pointwise [Step.b110, Step.b109]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b55, H.ds]
  exact congrArg _ (gc_last (c h))

theorem b114 (h : Fin 8) (i : Fin 64) : Step.b114 j s (ix2 h i) = (((c h).kdf i : ℝ) : EReal) := by
  pointwise [Step.b114, Step.b113, Step.b112, Step.b111]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b55, H.b110, H.ds]
  rfl

theorem b117 (h : Fin 8) (i : Fin 64) (d : Fin 128) : Step.b117 j s (ix3 h i d) = (((c h).kdec i d : ℝ) : EReal) := by
  pointwise [Step.b117, Step.b116, Step.b115]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b13, H.b114, H.ds]
  rfl

theorem b119 (h : Fin 8) (i : Fin 64) (d : Fin 128) : Step.b119 j s (ix3 h i d) = (((c h).vnew i d : ℝ) : EReal) := by
  pointwise [Step.b119, Step.b118]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b31, H.b102, H.b101, H.ds]
  rfl

theorem b123 (h : Fin 8) : Step.b123 j s (ix1 h) = (((c h).eg : ℝ) : EReal) := by
  pointwise [Step.b123]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b110, H.ds]
  rfl

theorem b132 (h : Fin 8) (i : Fin 64) (d : Fin 128) : Step.b132 j s (ix3 h i d) = (((c h).dkdec i d : ℝ) : EReal) := by
  pointwise [Step.b132, Step.b131]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b119, H.ds]
  refine congrArg Real.toEReal ?_
  exact Finset.sum_congr rfl fun _ _ => mul_comm _ _

theorem b141 (h : Fin 8) : Step.b141 j s (ix1 h) = (((c h).deg * (c h).eg : ℝ) : EReal) := by
  pointwise [Step.b141, Step.b140, Step.b139, Step.b136, Step.b135, Step.b134, Step.b133]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b31, H.b123, H.ds]
  refine congrArg Real.toEReal ?_
  refine congrArg (· * _) ?_
  exact Finset.sum_congr rfl fun _ _ => Finset.sum_congr rfl fun _ _ => mul_comm _ _

theorem b144 (h : Fin 8) (i : Fin 64) (d : Fin 128) : Step.b144 j s (ix3 h i d) = (((c h).dvnew i d : ℝ) : EReal) := by
  pointwise [Step.b144, Step.b143, Step.b142, Step.b130, Step.b129]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b51, H.b104, H.b117, H.ds]
  refine congrArg Real.toEReal ?_
  exact congrArg₂ (· + ·) (Finset.sum_congr rfl fun _ _ => mul_comm _ _) (Finset.sum_congr rfl fun _ _ => mul_comm _ _)

theorem b145 (h : Fin 8) (i k : Fin 64) : Step.b145 j s (ix3 h i k) = (((c h).da i k : ℝ) : EReal) := by
  pointwise [Step.b145]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b51, H.b119, H.ds]
  rfl

theorem b149 (h : Fin 8) (i : Fin 64) (d : Fin 128) : Step.b149 j s (ix3 h i d) = (((c h).dqdec i d : ℝ) : EReal) := by
  pointwise [Step.b149]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b51, H.b31, H.ds]
  rfl

theorem b150 (h : Fin 8) (i : Fin 64) (d : Fin 128) : Step.b150 j s (ix3 h i d) = ((-(c h).dvnew i d : ℝ) : EReal) := by
  pointwise [Step.b150]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b144, H.ds]

theorem b153 (h : Fin 8) (d e : Fin 128) : Step.b153 j s (ix3 h d e) = (((c h).next d e : ℝ) : EReal) := by
  pointwise [Step.b153, Step.b152, Step.b151, Step.b148, Step.b147, Step.b146, Step.b138, Step.b137, Step.b124]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b150, H.b102, H.b51, H.b108, H.b123, H.ds]
  refine congrArg Real.toEReal ?_
  unfold Chunk.next
  rw [sub_eq_add_neg, ← Finset.sum_neg_distrib]
  refine congrArg₂ (· + ·) (congrArg (HAdd.hAdd _) (Finset.sum_congr rfl fun _ _ => mul_comm _ _)) (Finset.sum_congr rfl fun _ _ => ?_)
  ring

theorem b154 (h : Fin 8) (i : Fin 64) (d : Fin 128) : Step.b154 j s (ix3 h i d) = (((c h).dw i d : ℝ) : EReal) := by
  pointwise [Step.b154]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b31, H.b150, H.ds]
  refine congrArg Real.toEReal ?_
  unfold Chunk.dw
  rw [← Finset.sum_neg_distrib]
  exact Finset.sum_congr rfl fun _ _ => neg_mul _ _

theorem b163 (h : Fin 8) (i : Fin 64) : Step.b163 j s (ix2 h i) = (((c h).ecol i : ℝ) : EReal) := by
  pointwise [Step.b163, Step.b162, Step.b161, Step.b158, Step.b157, Step.b156, Step.b155]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b132, H.b13, H.b114, H.ds]
  refine congrArg Real.toEReal ?_
  unfold Chunk.ecol Chunk.kdec
  rw [Finset.sum_mul]
  exact Finset.sum_congr rfl fun _ _ => by ring

theorem b174 (h : Fin 8) (i : Fin 64) : Step.b174 j s (ix2 h i) = ((-(c h).ecol i + if i = 63 then (c h).dgl else 0 : ℝ) : EReal) := by
  pointwise [Step.b174, Step.b173, Step.b172, Step.b171, Step.b170, Step.b169, Step.b168, Step.b166, Step.b165, Step.b164, Step.b167]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b163, H.b141, H.ds]
  have hi : (63 ≤ i.val ∧ i.val - 63 < 1) ↔ i = 63 := by
    rw [Fin.ext_iff]
    show _ ↔ i.val = 63
    omega
  simp only [hi, dite_eq_ite, Cert.Real.ite_zero, Cert.Real.add]
  refine congrArg Real.toEReal (congrArg (HAdd.hAdd _) ?_)
  unfold Chunk.dgl
  rw [add_comm]

theorem b184 (h : Fin 8) (i : Fin 64) : Step.b184 j s (ix2 h i) = (((c h).dgca i + if i = 63 then (c h).dgl else 0 : ℝ) : EReal) := by
  pointwise [Step.b184, Step.b183, Step.b182, Step.b181, Step.b178, Step.b177, Step.b176, Step.b175]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b8, H.b149, H.b105, H.b174, H.ds]
  refine congrArg Real.toEReal ?_
  unfold Chunk.dgca Chunk.qdec
  rw [Finset.sum_mul, Finset.sum_congr rfl fun d _ => (by ring : (c h).q i d * (c h).dqdec i d * (c h).egc i = (c h).dqdec i d * ((c h).q i d * (c h).egc i))]
  ring

theorem b186 (h : Fin 8) (i k : Fin 64) : Step.b186 j s (ix3 h i k) = (((c h).dam i k : ℝ) : EReal) := by
  pointwise [Step.b186]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b80, H.b145, H.ds]
  rw [mul_ite, mul_zero]
  rfl

theorem b188 (h : Fin 8) (i : Fin 64) (d : Fin 128) : Step.b188 j s (ix3 h i d) = (((c h).dk0 i d : ℝ) : EReal) := by
  pointwise [Step.b188, Step.b187, Step.b160, Step.b159, Step.b115]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b8, H.b186, H.b114, H.b132, H.ds]
  refine congrArg Real.toEReal ?_
  exact add_comm _ _

theorem b190 (h : Fin 8) (i : Fin 64) (d : Fin 128) : Step.b190 j s (ix3 h i d) = (((c h).dq i d : ℝ) : EReal) := by
  pointwise [Step.b190, Step.b189, Step.b180, Step.b179, Step.b106]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b186, H.b13, H.b105, H.b149, H.ds]
  refine congrArg Real.toEReal ?_
  exact add_comm _ _

theorem b196u (h : Fin 8) (i : Fin 64) (d : Fin 128) :
    Step.b196 j s (ix3 h i ⟨d.val, by omega⟩) = (((c h).dru i d : ℝ) : EReal) := by
  have hd : ¬ (128 ≤ d.val ∧ d.val - 128 < 128) := by omega
  pointwise [Step.b196, Step.b195, Step.b194, Step.b193, Step.b192, Step.b191]
  simp only [hd, d.isLt, dif_neg, dif_pos, not_false_eq_true, false_and, zero_add, Cert.Real.mul, Cert.Real.sum, H.b144, H.b36]
  rfl
theorem b196w (h : Fin 8) (i : Fin 64) (d : Fin 128) :
    Step.b196 j s (ix3 h i ⟨128 + d.val, by omega⟩) = (((c h).drw i d : ℝ) : EReal) := by
  have hd : 128 ≤ 128 + d.val ∧ 128 + d.val - 128 < 128 := by omega
  have hd' : ¬ 128 + d.val < 128 := by omega
  pointwise [Step.b196, Step.b195, Step.b194, Step.b193, Step.b192, Step.b191]
  simp only [hd, hd', dif_neg, dif_pos, not_false_eq_true, and_self, add_zero, Nat.add_sub_cancel_left, Cert.Real.mul, Cert.Real.sum, H.b154, H.b36]
  rfl

theorem b199 (h : Fin 8) (i : Fin 64) (d : Fin 128) : Step.b199 j s (ix3 h i d) = (((c h).dru i d : ℝ) : EReal) := by
  pointwise [Step.b199]
  exact H.b196u h i d

theorem b200 (h : Fin 8) (i : Fin 64) (d : Fin 128) : Step.b200 j s (ix3 h i d) = (((c h).drw i d : ℝ) : EReal) := by
  pointwise [Step.b200]
  exact H.b196w h i d

theorem b198 (h : Fin 8) (i k : Fin 64) : Step.b198 j s (ix3 h i k) = (((c h).dl i k : ℝ) : EReal) := by
  pointwise [Step.b198, Step.b197, Step.b52]
  have hd : ∀ d : Fin 128, ¬ 128 + d.val < 128 := fun d => by omega
  simp only [Fin.is_lt, hd, dif_neg, dif_pos, not_false_eq_true, Nat.add_sub_cancel_left, H.b196u, H.b196w, H.b41, H.b46,
    Cert.Real.neg, Cert.Real.mul, Cert.Real.add, Cert.Real.sum]
  refine congrArg Real.toEReal ?_
  unfold Chunk.dl
  rw [neg_add, ← Finset.sum_neg_distrib, ← Finset.sum_neg_distrib]
  exact congrArg₂ (· + ·) (Finset.sum_congr rfl fun _ _ => neg_mul _ _) (Finset.sum_congr rfl fun _ _ => neg_mul _ _)

theorem b206 (h : Fin 8) (i : Fin 64) (d : Fin 128) : Step.b206 j s (ix3 h i d) = (((c h).drwe i d : ℝ) : EReal) := by
  pointwise [Step.b206, Step.b205, Step.b95]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b94, H.b200, H.ds]
  rfl

theorem b210 (h : Fin 8) (i : Fin 64) : Step.b210 j s (ix2 h i) = (((c h).dgcb i + if i = 63 then (c h).dgl else 0 : ℝ) : EReal) := by
  pointwise [Step.b210, Step.b209, Step.b208, Step.b207, Step.b204, Step.b203, Step.b202, Step.b201]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b94, H.b82, H.b200, H.b184, H.ds]
  refine congrArg Real.toEReal ?_
  unfold Chunk.dgcb Chunk.rhsw
  rw [Finset.sum_mul, Finset.sum_congr rfl fun d _ => (by ring : (c h).kb i d * (c h).drw i d * (c h).egc i = (c h).drw i d * ((c h).kb i d * (c h).egc i))]
  ring

theorem b214 (h : Fin 8) (i : Fin 64) : Step.b214 j s (ix3 h i 0) = (((c h).dbu i : ℝ) : EReal) := by
  pointwise [Step.b214, Step.b213, Step.b212, Step.b211]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b199, H.b18, H.ds]
  refine congrArg Real.toEReal ?_
  exact Finset.sum_congr rfl fun _ _ => mul_comm _ _

theorem b216 (h : Fin 8) (i : Fin 64) (d : Fin 128) : Step.b216 j s (ix3 h i d) = (((c h).dv i d : ℝ) : EReal) := by
  pointwise [Step.b216, Step.b215]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b56, H.b199, H.ds]
  rfl

theorem b219 (h : Fin 8) (i k : Fin 64) : Step.b219 j s (ix3 h i k) = ((if k < i then (c h).dl i k else 0 : ℝ) : EReal) := by
  pointwise [Step.b219, Step.b87, Step.b67, Step.b66, Step.b64, Step.b57, Step.b65, Step.b63, Step.b218, Step.b217]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b198, H.ds]

theorem b222 (h : Fin 8) (i k : Fin 64) : Step.b222 j s (ix3 h i k) = (((c h).dlm i k : ℝ) : EReal) := by
  pointwise [Step.b222]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b80, H.b219, H.ds]
  refine congrArg Real.toEReal ?_
  unfold Chunk.dlm
  by_cases hk : k < i
  · simp only [hk, hk.le, if_true]
  · simp only [hk, if_false, zero_mul]

theorem b224 (h : Fin 8) (i : Fin 64) (d : Fin 128) : Step.b224 j s (ix3 h i d) = (((c h).dk0 i d + ∑ m, (c h).dlm m i * (c h).kb m d : ℝ) : EReal) := by
  pointwise [Step.b224, Step.b223]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b82, H.b222, H.b188, H.ds]

theorem b226 (h : Fin 8) (i : Fin 64) (d : Fin 128) : Step.b226 j s (ix3 h i d) = (((c h).dkb i d : ℝ) : EReal) := by
  pointwise [Step.b226, Step.b225]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b222, H.b13, H.b206, H.ds]
  rfl

theorem b231 (h : Fin 8) (i : Fin 64) : Step.b231 j s (ix3 h i 0) = (((c h).db i : ℝ) : EReal) := by
  pointwise [Step.b231, Step.b230, Step.b229, Step.b228, Step.b227]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b226, H.b13, H.b214, H.ds]
  refine congrArg Real.toEReal ?_
  exact congrArg (HAdd.hAdd _) (Finset.sum_congr rfl fun _ _ => mul_comm _ _)

theorem b234 (h : Fin 8) (i : Fin 64) (d : Fin 128) : Step.b234 j s (ix3 h i d) = (((c h).dk i d : ℝ) : EReal) := by
  pointwise [Step.b234, Step.b233, Step.b232]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b56, H.b226, H.b224, H.ds]
  rfl

theorem b252 (h : Fin 8) (i : Fin 64) : Step.b252 j s (ix2 h i) = (((c h).db i : ℝ) : EReal) := by
  pointwise [Step.b252]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b231, H.ds]

theorem b238 (h : Fin 8) (i k : Fin 64) : Step.b238 j s (ix3 h i k) = (((c h).mm i k : ℝ) : EReal) := by
  pointwise [Step.b238, Step.b75, Step.b62, Step.b61, Step.b59, Step.b57, Step.b60, Step.b58, Step.b237, Step.b236, Step.b235, Step.b221, Step.b220, Step.b185]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b80, H.b83, H.b219, H.b145, H.b103, H.ds]
  refine congrArg Real.toEReal ?_
  unfold Chunk.mm Chunk.dam Chunk.dlm
  by_cases hk : k ≤ i
  · by_cases hk' : k < i
    · simp only [hk, hk', if_true]
      ring
    · simp only [hk, hk', if_true, if_false]
      ring
  · have hk' : ¬ k < i := fun e => hk e.le
    simp only [hk, hk', if_false]
    ring

theorem b251 (h : Fin 8) (i : Fin 64) : Step.b251 j s (ix2 h i) = (((c h).dgt i : ℝ) : EReal) := by
  pointwise [Step.b251, Step.b250, Step.b249, Step.b241, Step.b240, Step.b239, Step.b248, Step.b247, Step.b246, Step.b245, Step.b244, Step.b243, Step.b242]
  simp only [Cert.Real.add, Cert.Real.sub, Cert.Real.mul, Cert.Real.neg, Cert.Real.sum, Cert.Real.exp, Cert.Real.ofBits_bot, Cert.Real.select_ge, Cert.Real.select_gt, Cert.Real.exp_ite, Cert.Real.ite_zero, Fin.sum_univ_one, H.b238, H.b210, H.ds]
  refine congrArg Real.toEReal ?_
  unfold Chunk.dgt
  rw [Finset.sum_neg_distrib]
  ring

theorem b255 (h : Fin 8) (i : Fin 64) : Step.b255 j s (ix2 h i) = (((c h).dg i : ℝ) : EReal) := by
  unfold Step.b255
  rw [Cert.Real.cumsumRev _ _ _ _ (by pointwise [Step.b254, Step.b253]; done)]
  simp only [Cert.Real.sum, Cert.Real.ite_zero, H.b251]
  rfl

end Is

end Cert.RefValue

end
-- ==== Proof.Slices.lean ====
/- Reading one chunk of a stack of 64, and writing one chunk back: the slices of the reference's loop. -/
module

public import proofs.«01_k».proof.Proof.Ref

@[expose] public section

set_option maxRecDepth 16384

noncomputable section

namespace Cert.RefValue

open Idealize.ShloMosaic Idealize.ShloMosaic.TcCoe Idealize.ShloMosaic.StableHlo
open Cert.ReferenceIdeal Cert.ReferenceIdeal.Gen
open Cert.ReferenceIdeal.Step (State step init)

/-- The chunk that trip `k` of the loop works on: the loop goes from the last chunk to the first. -/
def chunk (k : ℕ) : Fin 64 := ⟨63 - k, by omega⟩

theorem first_chunk (j : ℕ) (hj : j < 64) (s : State Ideal) :
    (Step.b3 j s (Shape.Idx.first h_S_)).toInt = ((chunk j).val : ℤ) := by
  have key : ∀ k : Fin 64, ((64#32 - BitVec.ofNat 32 k.val) - 1#32 : BitVec 32).toInt = ((63 - k.val : ℕ) : ℤ) := by decide
  exact key ⟨j, hj⟩

section
variable {α : Type} {a b : ℕ}

theorem slice4 (x : (⟨4, ![64, 8, a, b]⟩ : Shape).Idx → α) (start : Fin 4 → ℤ)
    (hs : (⟨4, ![64, 8, a, b]⟩ : Shape).Slices (fun _ => 0) ⟨4, ![1, 8, a, b]⟩) (n : Fin 64) (h0 : start 0 = (n.val : ℤ))
    (h1 : start 1 = 0) (h2 : start 2 = 0) (h3 : start 3 = 0) (h : Fin 8) (i : Fin a) (d : Fin b) :
    Host.dynamicSlice ⟨4, ![1, 8, a, b]⟩ x start hs (ix4 0 h i d) = x (ix4 n h i d) := by
  rw [Host.dynamicSlice_apply]
  have e0 := Host.clampedStart_of_le (s := ⟨4, ![64, 8, a, b]⟩) (t := ⟨4, ![1, 8, a, b]⟩) hs.1 start 0 n.val h0 (by show n.val + 1 ≤ 64; omega)
  have e1 := Host.clampedStart_of_le (s := ⟨4, ![64, 8, a, b]⟩) (t := ⟨4, ![1, 8, a, b]⟩) hs.1 start 1 0 h1 (by show 0 + 8 ≤ 8; omega)
  have e2 := Host.clampedStart_of_le (s := ⟨4, ![64, 8, a, b]⟩) (t := ⟨4, ![1, 8, a, b]⟩) hs.1 start 2 0 h2 (by show 0 + a ≤ a; omega)
  have e3 := Host.clampedStart_of_le (s := ⟨4, ![64, 8, a, b]⟩) (t := ⟨4, ![1, 8, a, b]⟩) hs.1 start 3 0 h3 (by show 0 + b ≤ b; omega)
  refine congrArg x (funext fun c => ?_)
  match c with
  | 0 => exact Fin.ext (show Host.clampedStart _ _ hs.1 start 0 + 0 = n.val by rw [e0, Nat.add_zero])
  | 1 => exact Fin.ext (show Host.clampedStart _ _ hs.1 start 1 + h.val = h.val by rw [e1, Nat.zero_add])
  | 2 => exact Fin.ext (show Host.clampedStart _ _ hs.1 start 2 + i.val = i.val by rw [e2, Nat.zero_add])
  | 3 => exact Fin.ext (show Host.clampedStart _ _ hs.1 start 3 + d.val = d.val by rw [e3, Nat.zero_add])

theorem slice3 (x : (⟨3, ![64, 8, a]⟩ : Shape).Idx → α) (start : Fin 3 → ℤ)
    (hs : (⟨3, ![64, 8, a]⟩ : Shape).Slices (fun _ => 0) ⟨3, ![1, 8, a]⟩) (n : Fin 64) (h0 : start 0 = (n.val : ℤ))
    (h1 : start 1 = 0) (h2 : start 2 = 0) (h : Fin 8) (i : Fin a) :
    Host.dynamicSlice ⟨3, ![1, 8, a]⟩ x start hs (ix3 0 h i) = x (ix3 n h i) := by
  rw [Host.dynamicSlice_apply]
  have e0 := Host.clampedStart_of_le (s := ⟨3, ![64, 8, a]⟩) (t := ⟨3, ![1, 8, a]⟩) hs.1 start 0 n.val h0 (by show n.val + 1 ≤ 64; omega)
  have e1 := Host.clampedStart_of_le (s := ⟨3, ![64, 8, a]⟩) (t := ⟨3, ![1, 8, a]⟩) hs.1 start 1 0 h1 (by show 0 + 8 ≤ 8; omega)
  have e2 := Host.clampedStart_of_le (s := ⟨3, ![64, 8, a]⟩) (t := ⟨3, ![1, 8, a]⟩) hs.1 start 2 0 h2 (by show 0 + a ≤ a; omega)
  refine congrArg x (funext fun c => ?_)
  match c with
  | 0 => exact Fin.ext (show Host.clampedStart _ _ hs.1 start 0 + 0 = n.val by rw [e0, Nat.add_zero])
  | 1 => exact Fin.ext (show Host.clampedStart _ _ hs.1 start 1 + h.val = h.val by rw [e1, Nat.zero_add])
  | 2 => exact Fin.ext (show Host.clampedStart _ _ hs.1 start 2 + i.val = i.val by rw [e2, Nat.zero_add])

theorem update4 (x : (⟨4, ![64, 8, a, b]⟩ : Shape).Idx → α) (y : (⟨4, ![1, 8, a, b]⟩ : Shape).Idx → α) (start : Fin 4 → ℤ)
    (hs : (⟨4, ![64, 8, a, b]⟩ : Shape).Slices (fun _ => 0) ⟨4, ![1, 8, a, b]⟩) (n : Fin 64) (h0 : start 0 = (n.val : ℤ))
    (h1 : start 1 = 0) (h2 : start 2 = 0) (h3 : start 3 = 0) (l : Fin 64) (h : Fin 8) (i : Fin a) (d : Fin b) :
    Host.dynamicUpdateSlice x y start hs (ix4 l h i d) = if l = n then y (ix4 0 h i d) else x (ix4 l h i d) := by
  rw [Host.dynamicUpdateSlice_apply]
  have e0 := Host.clampedStart_of_le (s := ⟨4, ![64, 8, a, b]⟩) (t := ⟨4, ![1, 8, a, b]⟩) hs.1 start 0 n.val h0 (by show n.val + 1 ≤ 64; omega)
  have e1 := Host.clampedStart_of_le (s := ⟨4, ![64, 8, a, b]⟩) (t := ⟨4, ![1, 8, a, b]⟩) hs.1 start 1 0 h1 (by show 0 + 8 ≤ 8; omega)
  have e2 := Host.clampedStart_of_le (s := ⟨4, ![64, 8, a, b]⟩) (t := ⟨4, ![1, 8, a, b]⟩) hs.1 start 2 0 h2 (by show 0 + a ≤ a; omega)
  have e3 := Host.clampedStart_of_le (s := ⟨4, ![64, 8, a, b]⟩) (t := ⟨4, ![1, 8, a, b]⟩) hs.1 start 3 0 h3 (by show 0 + b ≤ b; omega)
  by_cases hl : l = n
  · subst hl
    rw [dif_pos, if_pos rfl]
    · refine congrArg y (funext fun c => ?_)
      match c with
      | 0 => exact Fin.ext (show l.val - Host.clampedStart _ _ hs.1 start 0 = 0 by rw [e0, Nat.sub_self])
      | 1 => exact Fin.ext (show h.val - Host.clampedStart _ _ hs.1 start 1 = h.val by rw [e1, Nat.sub_zero])
      | 2 => exact Fin.ext (show i.val - Host.clampedStart _ _ hs.1 start 2 = i.val by rw [e2, Nat.sub_zero])
      | 3 => exact Fin.ext (show d.val - Host.clampedStart _ _ hs.1 start 3 = d.val by rw [e3, Nat.sub_zero])
    · intro c
      match c with
      | 0 => exact (show Host.clampedStart _ _ hs.1 start 0 ≤ l.val ∧ l.val < Host.clampedStart _ _ hs.1 start 0 + 1 by rw [e0]; omega)
      | 1 => exact (show Host.clampedStart _ _ hs.1 start 1 ≤ h.val ∧ h.val < Host.clampedStart _ _ hs.1 start 1 + 8 by rw [e1]; omega)
      | 2 => exact (show Host.clampedStart _ _ hs.1 start 2 ≤ i.val ∧ i.val < Host.clampedStart _ _ hs.1 start 2 + a by rw [e2]; omega)
      | 3 => exact (show Host.clampedStart _ _ hs.1 start 3 ≤ d.val ∧ d.val < Host.clampedStart _ _ hs.1 start 3 + b by rw [e3]; omega)
  · rw [dif_neg, if_neg hl]
    intro hin
    have t : Host.clampedStart _ _ hs.1 start 0 ≤ l.val ∧ l.val < Host.clampedStart _ _ hs.1 start 0 + 1 := hin 0
    rw [e0] at t
    exact hl (Fin.ext (by omega))

theorem update3 (x : (⟨3, ![64, 8, a]⟩ : Shape).Idx → α) (y : (⟨3, ![1, 8, a]⟩ : Shape).Idx → α) (start : Fin 3 → ℤ)
    (hs : (⟨3, ![64, 8, a]⟩ : Shape).Slices (fun _ => 0) ⟨3, ![1, 8, a]⟩) (n : Fin 64) (h0 : start 0 = (n.val : ℤ))
    (h1 : start 1 = 0) (h2 : start 2 = 0) (l : Fin 64) (h : Fin 8) (i : Fin a) :
    Host.dynamicUpdateSlice x y start hs (ix3 l h i) = if l = n then y (ix3 0 h i) else x (ix3 l h i) := by
  rw [Host.dynamicUpdateSlice_apply]
  have e0 := Host.clampedStart_of_le (s := ⟨3, ![64, 8, a]⟩) (t := ⟨3, ![1, 8, a]⟩) hs.1 start 0 n.val h0 (by show n.val + 1 ≤ 64; omega)
  have e1 := Host.clampedStart_of_le (s := ⟨3, ![64, 8, a]⟩) (t := ⟨3, ![1, 8, a]⟩) hs.1 start 1 0 h1 (by show 0 + 8 ≤ 8; omega)
  have e2 := Host.clampedStart_of_le (s := ⟨3, ![64, 8, a]⟩) (t := ⟨3, ![1, 8, a]⟩) hs.1 start 2 0 h2 (by show 0 + a ≤ a; omega)
  by_cases hl : l = n
  · subst hl
    rw [dif_pos, if_pos rfl]
    · refine congrArg y (funext fun c => ?_)
      match c with
      | 0 => exact Fin.ext (show l.val - Host.clampedStart _ _ hs.1 start 0 = 0 by rw [e0, Nat.sub_self])
      | 1 => exact Fin.ext (show h.val - Host.clampedStart _ _ hs.1 start 1 = h.val by rw [e1, Nat.sub_zero])
      | 2 => exact Fin.ext (show i.val - Host.clampedStart _ _ hs.1 start 2 = i.val by rw [e2, Nat.sub_zero])
    · intro c
      match c with
      | 0 => exact (show Host.clampedStart _ _ hs.1 start 0 ≤ l.val ∧ l.val < Host.clampedStart _ _ hs.1 start 0 + 1 by rw [e0]; omega)
      | 1 => exact (show Host.clampedStart _ _ hs.1 start 1 ≤ h.val ∧ h.val < Host.clampedStart _ _ hs.1 start 1 + 8 by rw [e1]; omega)
      | 2 => exact (show Host.clampedStart _ _ hs.1 start 2 ≤ i.val ∧ i.val < Host.clampedStart _ _ hs.1 start 2 + a by rw [e2]; omega)
  · rw [dif_neg, if_neg hl]
    intro hin
    have t : Host.clampedStart _ _ hs.1 start 0 ≤ l.val ∧ l.val < Host.clampedStart _ _ hs.1 start 0 + 1 := hin 0
    rw [e0] at t
    exact hl (Fin.ext (by omega))

end

variable {j : ℕ} (hj : j < 64) (s : State Ideal)
include hj

theorem b8 (h : Fin 8) (i : Fin 64) (d : Fin 128) : Step.b8 j s (ix3 h i d) = s.main_v22_0 (ix4 (chunk j) h i d) := by
  pointwise [Step.b8]
  exact slice4 s.main_v22_0 _ _ (chunk j) (first_chunk j hj s) rfl rfl rfl h i d

theorem b13 (h : Fin 8) (i : Fin 64) (d : Fin 128) : Step.b13 j s (ix3 h i d) = s.main_v22_1 (ix4 (chunk j) h i d) := by
  pointwise [Step.b13]
  exact slice4 s.main_v22_1 _ _ (chunk j) (first_chunk j hj s) rfl rfl rfl h i d

theorem b18 (h : Fin 8) (i : Fin 64) (d : Fin 128) : Step.b18 j s (ix3 h i d) = s.main_v22_2 (ix4 (chunk j) h i d) := by
  pointwise [Step.b18]
  exact slice4 s.main_v22_2 _ _ (chunk j) (first_chunk j hj s) rfl rfl rfl h i d

theorem b41 (h : Fin 8) (i : Fin 64) (d : Fin 128) : Step.b41 j s (ix3 h i d) = s.main_v22_7 (ix4 (chunk j) h i d) := by
  pointwise [Step.b41]
  exact slice4 s.main_v22_7 _ _ (chunk j) (first_chunk j hj s) rfl rfl rfl h i d

theorem b46 (h : Fin 8) (i : Fin 64) (d : Fin 128) : Step.b46 j s (ix3 h i d) = s.main_v22_8 (ix4 (chunk j) h i d) := by
  pointwise [Step.b46]
  exact slice4 s.main_v22_8 _ _ (chunk j) (first_chunk j hj s) rfl rfl rfl h i d

theorem b51 (h : Fin 8) (i : Fin 64) (d : Fin 128) : Step.b51 j s (ix3 h i d) = s.main_v22_9 (ix4 (chunk j) h i d) := by
  pointwise [Step.b51]
  exact slice4 s.main_v22_9 _ _ (chunk j) (first_chunk j hj s) rfl rfl rfl h i d

theorem b31 (h : Fin 8) (i d : Fin 128) : Step.b31 j s (ix3 h i d) = s.main_v22_5 (ix4 (chunk j) h i d) := by
  pointwise [Step.b31]
  exact slice4 s.main_v22_5 _ _ (chunk j) (first_chunk j hj s) rfl rfl rfl h i d

theorem b36 (h : Fin 8) (i d : Fin 64) : Step.b36 j s (ix3 h i d) = s.main_v22_6 (ix4 (chunk j) h i d) := by
  pointwise [Step.b36]
  exact slice4 s.main_v22_6 _ _ (chunk j) (first_chunk j hj s) rfl rfl rfl h i d

theorem b22 (h : Fin 8) (i : Fin 64) : Step.b22 j s (ix2 h i) = s.main_v22_3 (ix3 (chunk j) h i) := by
  pointwise [Step.b22]
  exact slice3 s.main_v22_3 _ _ (chunk j) (first_chunk j hj s) rfl rfl h i

theorem b26 (h : Fin 8) (i : Fin 64) : Step.b26 j s (ix2 h i) = s.main_v22_4 (ix3 (chunk j) h i) := by
  pointwise [Step.b26]
  exact slice3 s.main_v22_4 _ _ (chunk j) (first_chunk j hj s) rfl rfl h i

theorem b260 (l : Fin 64) (h : Fin 8) (i : Fin 64) (d : Fin 128) :
    Step.b260 j s (ix4 l h i d) = if l = chunk j then Step.b190 j s (ix3 h i d) else s.main_v22_12 (ix4 l h i d) := by
  refine (update4 s.main_v22_12 (Step.b256 j s) _ _ (chunk j) (first_chunk j hj s) rfl rfl rfl l h i d).trans ?_
  pointwise [Step.b256]

theorem b265 (l : Fin 64) (h : Fin 8) (i : Fin 64) (d : Fin 128) :
    Step.b265 j s (ix4 l h i d) = if l = chunk j then Step.b234 j s (ix3 h i d) else s.main_v22_13 (ix4 l h i d) := by
  refine (update4 s.main_v22_13 (Step.b261 j s) _ _ (chunk j) (first_chunk j hj s) rfl rfl rfl l h i d).trans ?_
  pointwise [Step.b261]

theorem b270 (l : Fin 64) (h : Fin 8) (i : Fin 64) (d : Fin 128) :
    Step.b270 j s (ix4 l h i d) = if l = chunk j then Step.b216 j s (ix3 h i d) else s.main_v22_14 (ix4 l h i d) := by
  refine (update4 s.main_v22_14 (Step.b266 j s) _ _ (chunk j) (first_chunk j hj s) rfl rfl rfl l h i d).trans ?_
  pointwise [Step.b266]

theorem b274 (l : Fin 64) (h : Fin 8) (i : Fin 64) :
    Step.b274 j s (ix3 l h i) = if l = chunk j then Step.b255 j s (ix2 h i) else s.main_v22_15 (ix3 l h i) := by
  refine (update3 s.main_v22_15 (Step.b271 j s) _ _ (chunk j) (first_chunk j hj s) rfl rfl l h i).trans ?_
  pointwise [Step.b271]

theorem b278 (l : Fin 64) (h : Fin 8) (i : Fin 64) :
    Step.b278 j s (ix3 l h i) = if l = chunk j then Step.b252 j s (ix2 h i) else s.main_v22_16 (ix3 l h i) := by
  refine (update3 s.main_v22_16 (Step.b275 j s) _ _ (chunk j) (first_chunk j hj s) rfl rfl l h i).trans ?_
  pointwise [Step.b275]

end Cert.RefValue

end
-- ==== Proof.RefData.lean ====
/- The reference's loop in real numbers: what every trip reads and what the five results hold at the end. -/
module

public import proofs.«01_k».proof.Proof.Slices
public import proofs.«01_k».proof.Proof.RefRun
public import proofs.«01_k».proof.Proof.Data

@[expose] public section

set_option maxRecDepth 16384

noncomputable section

namespace Cert.RefValue

open Idealize.ShloMosaic Idealize.ShloMosaic.TcCoe Idealize.ShloMosaic.StableHlo
open Cert.ReferenceIdeal Cert.ReferenceIdeal.Gen Cert.Spec
open Cert.ReferenceIdeal.Step (State step init)

/-- The stacks that the loop only reads hold the real numbers of `D`. -/
structure Stacks (x : State Ideal) (D : Data) : Prop where
  q : ∀ (n : Fin 64) (h : Fin 8) (i : Fin 64) (d : Fin 128), x.main_v22_0 (ix4 n h i d) = ((D.q n h i d : ℝ) : EReal)
  k : ∀ (n : Fin 64) (h : Fin 8) (i : Fin 64) (d : Fin 128), x.main_v22_1 (ix4 n h i d) = ((D.k n h i d : ℝ) : EReal)
  v : ∀ (n : Fin 64) (h : Fin 8) (i : Fin 64) (d : Fin 128), x.main_v22_2 (ix4 n h i d) = ((D.v n h i d : ℝ) : EReal)
  u : ∀ (n : Fin 64) (h : Fin 8) (i : Fin 64) (d : Fin 128), x.main_v22_7 (ix4 n h i d) = ((D.u n h i d : ℝ) : EReal)
  w : ∀ (n : Fin 64) (h : Fin 8) (i : Fin 64) (d : Fin 128), x.main_v22_8 (ix4 n h i d) = ((D.w n h i d : ℝ) : EReal)
  o : ∀ (n : Fin 64) (h : Fin 8) (i : Fin 64) (d : Fin 128), x.main_v22_9 (ix4 n h i d) = ((D.o n h i d : ℝ) : EReal)
  g : ∀ (n : Fin 64) (h : Fin 8) (i : Fin 64), x.main_v22_3 (ix3 n h i) = ((D.g n h i : ℝ) : EReal)
  b : ∀ (n : Fin 64) (h : Fin 8) (i : Fin 64), x.main_v22_4 (ix3 n h i) = ((D.b n h i : ℝ) : EReal)
  s : ∀ (n : Fin 64) (h : Fin 8) (d e : Fin 128), x.main_v22_5 (ix4 n h d e) = ((D.s n h d e : ℝ) : EReal)
  T : ∀ (n : Fin 64) (h : Fin 8) (i k : Fin 64), x.main_v22_6 (ix4 n h i k) = ((D.T n h i k : ℝ) : EReal)

/-- The state before trip `j`: the stacks, the gradient of the state handed on, and the rows written so far. -/
structure Reached (j : ℕ) (s : State Ideal) (D : Data) : Prop where
  held : Stacks s D
  ds : ∀ (h : Fin 8) (d e : Fin 128), s.main_v22_11 (ix3 h d e) = ((D.ds j h d e : ℝ) : EReal)
  dq : ∀ k, k < j → ∀ (h : Fin 8) (i : Fin 64) (d : Fin 128), s.main_v22_12 (ix4 (chunk k) h i d) = (((D.stepAt k h).dq i d : ℝ) : EReal)
  dk : ∀ k, k < j → ∀ (h : Fin 8) (i : Fin 64) (d : Fin 128), s.main_v22_13 (ix4 (chunk k) h i d) = (((D.stepAt k h).dk i d : ℝ) : EReal)
  dv : ∀ k, k < j → ∀ (h : Fin 8) (i : Fin 64) (d : Fin 128), s.main_v22_14 (ix4 (chunk k) h i d) = (((D.stepAt k h).dv i d : ℝ) : EReal)
  dg : ∀ k, k < j → ∀ (h : Fin 8) (i : Fin 64), s.main_v22_15 (ix3 (chunk k) h i) = (((D.stepAt k h).dg i : ℝ) : EReal)
  db : ∀ k, k < j → ∀ (h : Fin 8) (i : Fin 64), s.main_v22_16 (ix3 (chunk k) h i) = (((D.stepAt k h).db i : ℝ) : EReal)

variable {j : ℕ} {s : State Ideal} {D : Data}

theorem Reached.reads (R : Reached j s D) (hj : j < 64) : Is j s (D.stepAt j) where
  b8 := fun h i d => (b8 hj s h i d).trans (R.held.q (chunk j) h i d)
  b13 := fun h i d => (b13 hj s h i d).trans (R.held.k (chunk j) h i d)
  b18 := fun h i d => (b18 hj s h i d).trans (R.held.v (chunk j) h i d)
  b41 := fun h i d => (b41 hj s h i d).trans (R.held.u (chunk j) h i d)
  b46 := fun h i d => (b46 hj s h i d).trans (R.held.w (chunk j) h i d)
  b51 := fun h i d => (b51 hj s h i d).trans (R.held.o (chunk j) h i d)
  b22 := fun h i => (b22 hj s h i).trans (R.held.g (chunk j) h i)
  b26 := fun h i => (b26 hj s h i).trans (R.held.b (chunk j) h i)
  b31 := fun h d e => (b31 hj s h d e).trans (R.held.s (chunk j) h d e)
  b36 := fun h i k => (b36 hj s h i k).trans (R.held.T (chunk j) h i k)
  ds := R.ds

theorem chunk_eq_iff {k j : ℕ} (hk : k < 64) (hj : j < 64) : chunk k = chunk j ↔ k = j :=
  ⟨fun e => by have := congrArg Fin.val e; change 63 - k = 63 - j at this; omega, fun e => e ▸ rfl⟩

theorem Reached.next (R : Reached j s D) (hj : j < 64) : Reached (j + 1) (step j s) D where
  held := ⟨R.held.q, R.held.k, R.held.v, R.held.u, R.held.w, R.held.o, R.held.g, R.held.b, R.held.s, R.held.T⟩
  ds := fun h d e => (R.reads hj).b153 h d e
  dq := fun k hk h i d => (b260 hj s (chunk k) h i d).trans (by
    split
    next e =>
      obtain rfl := (chunk_eq_iff (by omega) hj).mp e
      exact (R.reads hj).b190 h i d
    next e => exact R.dq k (by have : k ≠ j := fun e' => e (by rw [e']); omega) h i d)
  dk := fun k hk h i d => (b265 hj s (chunk k) h i d).trans (by
    split
    next e =>
      obtain rfl := (chunk_eq_iff (by omega) hj).mp e
      exact (R.reads hj).b234 h i d
    next e => exact R.dk k (by have : k ≠ j := fun e' => e (by rw [e']); omega) h i d)
  dv := fun k hk h i d => (b270 hj s (chunk k) h i d).trans (by
    split
    next e =>
      obtain rfl := (chunk_eq_iff (by omega) hj).mp e
      exact (R.reads hj).b216 h i d
    next e => exact R.dv k (by have : k ≠ j := fun e' => e (by rw [e']); omega) h i d)
  dg := fun k hk h i => (b274 hj s (chunk k) h i).trans (by
    split
    next e =>
      obtain rfl := (chunk_eq_iff (by omega) hj).mp e
      exact (R.reads hj).b255 h i
    next e => exact R.dg k (by have : k ≠ j := fun e' => e (by rw [e']); omega) h i)
  db := fun k hk h i => (b278 hj s (chunk k) h i).trans (by
    split
    next e =>
      obtain rfl := (chunk_eq_iff (by omega) hj).mp e
      exact (R.reads hj).b252 h i
    next e => exact R.db k (by have : k ≠ j := fun e' => e (by rw [e']); omega) h i)

/-- The ten argument arrays hold the real numbers of `D`. -/
structure Args (x0 x1 x2 : Vec Ideal S4096x1024 .f32) (x3 x4 : Vec Ideal S8x64x64 .f32) (x5 : Vec Ideal S8x64x128x128 .f32)
    (x6 : Vec Ideal S8x64x64x64 .f32) (x7 x8 x9 : Vec Ideal S4096x1024 .f32) (D : Data) : Prop where
  q : ∀ (n : Fin 64) (h : Fin 8) (i : Fin 64) (d : Fin 128), x0 (ix2 (rowOf n i) (colOf h d)) = ((D.q n h i d : ℝ) : EReal)
  k : ∀ (n : Fin 64) (h : Fin 8) (i : Fin 64) (d : Fin 128), x1 (ix2 (rowOf n i) (colOf h d)) = ((D.k n h i d : ℝ) : EReal)
  v : ∀ (n : Fin 64) (h : Fin 8) (i : Fin 64) (d : Fin 128), x2 (ix2 (rowOf n i) (colOf h d)) = ((D.v n h i d : ℝ) : EReal)
  u : ∀ (n : Fin 64) (h : Fin 8) (i : Fin 64) (d : Fin 128), x7 (ix2 (rowOf n i) (colOf h d)) = ((D.u n h i d : ℝ) : EReal)
  w : ∀ (n : Fin 64) (h : Fin 8) (i : Fin 64) (d : Fin 128), x8 (ix2 (rowOf n i) (colOf h d)) = ((D.w n h i d : ℝ) : EReal)
  o : ∀ (n : Fin 64) (h : Fin 8) (i : Fin 64) (d : Fin 128), x9 (ix2 (rowOf n i) (colOf h d)) = ((D.o n h i d : ℝ) : EReal)
  g : ∀ (n : Fin 64) (h : Fin 8) (i : Fin 64), x3 (ix3 h n i) = ((D.g n h i : ℝ) : EReal)
  b : ∀ (n : Fin 64) (h : Fin 8) (i : Fin 64), x4 (ix3 h n i) = ((D.b n h i : ℝ) : EReal)
  s : ∀ (n : Fin 64) (h : Fin 8) (d e : Fin 128), x5 (ix4 h n d e) = ((D.s n h d e : ℝ) : EReal)
  T : ∀ (n : Fin 64) (h : Fin 8) (i k : Fin 64), x6 (ix4 h n i k) = ((D.T n h i k : ℝ) : EReal)

section
variable {x0 x1 x2 : Vec Ideal S4096x1024 .f32} {x3 x4 : Vec Ideal S8x64x64 .f32} {x5 : Vec Ideal S8x64x128x128 .f32}
  {x6 : Vec Ideal S8x64x64x64 .f32} {x7 x8 x9 : Vec Ideal S4096x1024 .f32}

theorem rows (x : Vec Ideal S4096x1024 .f32) (n : Fin 64) (h : Fin 8) (i : Fin 64) (d : Fin 128) :
    transpose S64x8x64x128 [0, 2, 1, 3] (shapeCast S64x64x8x128 x shapeCasts_S4096x1024_S64x64x8x128) transposes_S64x64x8x128_S64x8x64x128_0_2_1_3 (ix4 n h i d)
      = x (ix2 (rowOf n i) (colOf h d)) := by
  pointwise []
  exact congrArg x (congrArg₂ ix2 (Fin.ext (by show n.val * 64 + i.val = 64 * n.val + i.val; omega))
    (Fin.ext (by show h.val * 128 + d.val = 128 * h.val + d.val; omega)))

theorem rows_back (x : Vec Ideal S64x8x64x128 .f32) (n : Fin 64) (h : Fin 8) (i : Fin 64) (d : Fin 128) :
    shapeCast S4096x1024 (transpose S64x64x8x128 [0, 2, 1, 3] x transposes_S64x8x64x128_S64x64x8x128_0_2_1_3) shapeCasts_S64x64x8x128_S4096x1024
      (ix2 (rowOf n i) (colOf h d)) = x (ix4 n h i d) := by
  pointwise []
  have e1 : (⟨(rowOf n i).val / 64, by omega⟩ : Fin 64) = n := Fin.ext (by show (64 * n.val + i.val) / 64 = n.val; omega)
  have e2 : (⟨(colOf h d).val / 128, by omega⟩ : Fin 8) = h := Fin.ext (by show (128 * h.val + d.val) / 128 = h.val; omega)
  have e3 : (⟨(rowOf n i).val % 64, by omega⟩ : Fin 64) = i := Fin.ext (by show (64 * n.val + i.val) % 64 = i.val; omega)
  have e4 : (⟨(colOf h d).val % 128, by omega⟩ : Fin 128) = d := Fin.ext (by show (128 * h.val + d.val) % 128 = d.val; omega)
  rw [e1, e2, e3, e4]

theorem Args.start (H : Args x0 x1 x2 x3 x4 x5 x6 x7 x8 x9 D) : Reached 0 (init x0 x1 x2 x3 x4 x5 x6 x7 x8 x9) D where
  held := {
    q := fun n h i d => (rows x0 n h i d).trans (H.q n h i d)
    k := fun n h i d => (rows x1 n h i d).trans (H.k n h i d)
    v := fun n h i d => (rows x2 n h i d).trans (H.v n h i d)
    u := fun n h i d => (rows x7 n h i d).trans (H.u n h i d)
    w := fun n h i d => (rows x8 n h i d).trans (H.w n h i d)
    o := fun n h i d => (rows x9 n h i d).trans (H.o n h i d)
    g := fun n h i => by
      show Step.A_main_v6 x0 x1 x2 x3 x4 x5 x6 x7 x8 x9 _ = _
      pointwise [Step.A_main_v6]
      exact H.g n h i
    b := fun n h i => by
      show Step.A_main_v7 x0 x1 x2 x3 x4 x5 x6 x7 x8 x9 _ = _
      pointwise [Step.A_main_v7]
      exact H.b n h i
    s := fun n h d e => by
      show Step.A_main_v8 x0 x1 x2 x3 x4 x5 x6 x7 x8 x9 _ = _
      pointwise [Step.A_main_v8]
      exact H.s n h d e
    T := fun n h i k => by
      show Step.A_main_v9 x0 x1 x2 x3 x4 x5 x6 x7 x8 x9 _ = _
      pointwise [Step.A_main_v9]
      exact H.T n h i k }
  ds := fun h d e => by
    show Step.K_main_v16 (F := Ideal) (ix3 h d e) = _
    pointwise [Step.K_main_v16, Step.K_main_cst]
    rfl
  dq := fun _ hk => absurd hk (Nat.not_lt_zero _)
  dk := fun _ hk => absurd hk (Nat.not_lt_zero _)
  dv := fun _ hk => absurd hk (Nat.not_lt_zero _)
  dg := fun _ hk => absurd hk (Nat.not_lt_zero _)
  db := fun _ hk => absurd hk (Nat.not_lt_zero _)

end

theorem chunk_back (n : Fin 64) : chunk (63 - n.val) = n := Fin.ext (by show 63 - (63 - n.val) = n.val; omega)

/-- The reference's five results in real numbers. -/
structure Hold (D : Data) (dq dk dv : Vec Ideal S4096x1024 .f32) (dg db : Vec Ideal S8x64x64 .f32) : Prop where
  dq : ∀ (n : Fin 64) (h : Fin 8) (i : Fin 64) (d : Fin 128), dq (ix2 (rowOf n i) (colOf h d)) = ((D.dq n h i d : ℝ) : EReal)
  dk : ∀ (n : Fin 64) (h : Fin 8) (i : Fin 64) (d : Fin 128), dk (ix2 (rowOf n i) (colOf h d)) = ((D.dk n h i d : ℝ) : EReal)
  dv : ∀ (n : Fin 64) (h : Fin 8) (i : Fin 64) (d : Fin 128), dv (ix2 (rowOf n i) (colOf h d)) = ((D.dv n h i d : ℝ) : EReal)
  dg : ∀ (n : Fin 64) (h : Fin 8) (i : Fin 64), dg (ix3 h n i) = ((D.dg n h i : ℝ) : EReal)
  db : ∀ (n : Fin 64) (h : Fin 8) (i : Fin 64), db (ix3 h n i) = ((D.db n h i : ℝ) : EReal)

theorem Reached.hold (R : Reached 64 s D) :
    Hold D (Step.R_main_v24 s) (Step.R_main_v26 s) (Step.R_main_v28 s) (Step.R_main_v29 s) (Step.R_main_v30 s) where
  dq := fun n h i d => (rows_back s.main_v22_12 n h i d).trans (by
    have e := R.dq (63 - n.val) (by omega) h i d
    rw [chunk_back] at e
    exact e)
  dk := fun n h i d => (rows_back s.main_v22_13 n h i d).trans (by
    have e := R.dk (63 - n.val) (by omega) h i d
    rw [chunk_back] at e
    exact e)
  dv := fun n h i d => (rows_back s.main_v22_14 n h i d).trans (by
    have e := R.dv (63 - n.val) (by omega) h i d
    rw [chunk_back] at e
    exact e)
  dg := fun n h i => by
    have e := R.dg (63 - n.val) (by omega) h i
    rw [chunk_back] at e
    pointwise [Step.R_main_v29]
    exact e
  db := fun n h i => by
    have e := R.db (63 - n.val) (by omega) h i
    rw [chunk_back] at e
    pointwise [Step.R_main_v30]
    exact e

variable (m : (ℓ : Loc nD τ sig) → Buf (Elt Ideal) ℓ) (c : Dev nD)

theorem Args.reached (H : Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) D) : ∀ j, j ≤ 64 → Reached j (Cert.RefRun.stateAt m c j) D
  | 0, _ => H.start
  | j + 1, hj => (H.reached j (by omega)).next (by omega)

end Cert.RefValue

end
-- ==== Proof.Prod.lean ====
/- Products of matrices over the extended reals, read at natural numbers: a product summed tile by tile along the contracted
   axis is the whole product. -/
module

public import Idealize.ShloMosaic.Lib.ValueIdx
public import Idealize.ShloMosaic.Lib.Pipeline.Value
public import proofs.«01_k».proof.Proof.KerRun
public import proofs.«01_k».proof.Proof.RefData

@[expose] public section

noncomputable section

namespace Cert.Prod

open Idealize.ShloMosaic Idealize.ShloMosaic.Tactic

/-- A matrix over the extended reals. -/
abbrev Mat (M N : ℕ) : Type := (⟨2, ![M, N]⟩ : Shape).Idx → EReal

/-- A matrix's element at row `r` and column `c`; zero outside the matrix. -/
def at2 {M N : ℕ} (x : (⟨2, ![M, N]⟩ : Shape).Idx → EReal) (r c : ℕ) : EReal :=
  if h : r < M ∧ c < N then x (ix2 ⟨r, h.1⟩ ⟨c, h.2⟩) else 0

theorem at2_of {M N : ℕ} (x : (⟨2, ![M, N]⟩ : Shape).Idx → EReal) (r c : ℕ) (hr : r < M) (hc : c < N) :
    at2 x r c = x (ix2 ⟨r, hr⟩ ⟨c, hc⟩) := dif_pos ⟨hr, hc⟩

theorem at2_fin {M N : ℕ} (x : (⟨2, ![M, N]⟩ : Shape).Idx → EReal) (r : Fin M) (c : Fin N) : at2 x r.val c.val = x (ix2 r c) :=
  at2_of x _ _ r.isLt c.isLt

/-- Any index of a matrix is that of its two coordinates. -/
theorem at2_idx {M N : ℕ} (x : (⟨2, ![M, N]⟩ : Shape).Idx → EReal) (i : (⟨2, ![M, N]⟩ : Shape).Idx) (r c : ℕ)
    (hr : (i 0).val = r) (hc : (i 1).val = c) : x i = at2 x r c := by
  subst hr; subst hc
  rw [at2_of x _ _ (i 0).isLt (i 1).isLt]
  congr 1
  exact (ix2_eta (n0 := M) (n1 := N) i).symm

/-- A sum over `n * m` terms is the sum over `n` runs of `m` terms. -/
theorem sum_runs (f : ℕ → EReal) {N : ℕ} (n m : ℕ) (h : N = n * m) :
    ∑ k ∈ Finset.range N, f k = ∑ l ∈ Finset.range n, ∑ j ∈ Finset.range m, f (l * m + j) := by
  subst h
  induction n with
  | zero => simp
  | succ n ih => rw [Nat.succ_mul, Finset.sum_range_add, ih, Finset.sum_range_succ]

end Cert.Prod

end
-- ==== Proof.ProjB.lean ====
/- The product `proj_b`: the gradient of the projection's input, its contracted axis in three runs of 2816. -/
module

public import proofs.«01_k».proof.Defs
public import proofs.«01_k».proof.Proof.Prod
public import proofs.«01_k».proof.Proof.Gen.Kernel2
public import proofs.«01_k».proof.Proof.Gen.Kernel2Ideal.Value
public import proofs.«01_k».proof.Proof.Gen.Reference2Ideal.Run
public import Idealize.ShloMosaic.Lib.Tactic
public import Idealize.ShloMosaic.Lib.Pointwise
public import Idealize.ShloMosaic.Lib.Quiescent

@[expose] public section

noncomputable section

namespace Cert.Kernel2Ideal.Value

open Cert.Kernel2Ideal Cert.Kernel2Ideal.Gen Cert.Prod Idealize.ShloMosaic Idealize.ShloMosaic.TcCoe Idealize.SL.Sem
open Idealize.ShloMosaic.Tactic

theorem hz : (![0, 0] : Fin 2 → Nat) = fun _ => 0 := funext fun a => by fin_cases a <;> rfl

/-- The product as a function of the two arguments. -/
def P (x : Mat 4096 8448) (w : Mat 1024 8448) : Mat 4096 1024 := fun i =>
  ∑ k ∈ Finset.range 8448, at2 x (i 0).val k * at2 w (i 1).val k

section
variable {F : FTy → Type} [FloatOps F] (c : Dev nD) (i : grid0.Coords) (a3 : Memref sig .tc .vmem S1024x2816 .bf16) (h3 : a3.IsWhole)
  (a4 : Memref sig .tc .vmem S1024x2816 .bf16) (h4 : a4.IsWhole) (a5 : Memref sig .tc .vmem S1024x1024 .f32) (h5 : a5.IsWhole)
  (a6 : Memref sig .tc .vmem S1024x1024 .f32) (h6 : a6.IsWhole)
  (x0 : Vec F S1024x2816 .bf16) (x1 : Vec F S1024x2816 .bf16)

theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1024x2816) hz]

theorem sout_B (hc0 : ¬cond0_0 i) (hc1 : cond0_1 i) (hc2 : ¬cond0_2 i) (xs : Vec F S1024x1024 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S1024x2816) hz, View.ld_unit_zero (S := S1024x1024) hz]

theorem out_C (hc0 : ¬cond0_0 i) (hc1 : cond0_1 i) (hc2 : cond0_2 i) (xs : Vec F S1024x1024 .f32) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2816) hz, View.ld_unit_zero (S := S1024x1024) hz]

end

/-- A tile's product at an index. -/
theorem pay1_at (x0 : Vec Ideal S1024x2816 .bf16) (x1 : Vec Ideal S1024x2816 .bf16) (p : Fin 1024) (q : Fin 1024) :
    k0_pay1 x0 x1 (ix2 p q) = (∑ k : Fin 2816, x0 (ix2 p k) * x1 (ix2 q k) : EReal) := by
  pointwise [k0_pay1]

theorem pay2_at (x0 : Vec Ideal S1024x2816 .bf16) (x1 : Vec Ideal S1024x2816 .bf16) (p : Fin 1024) (q : Fin 1024) :
    k0_pay2 x0 x1 (ix2 p q) = (∑ k : Fin 2816, x0 (ix2 p k) * x1 (ix2 q k) : EReal) := by
  unfold k0_pay2
  rw [shapeCast_self]
  exact pay1_at x0 x1 p q

theorem pay3_at (x0 : Vec Ideal S1024x2816 .bf16) (x1 : Vec Ideal S1024x2816 .bf16) (a : Vec Ideal S1024x1024 .f32) (p : Fin 1024) (q : Fin 1024) :
    k0_pay3 x0 x1 a (ix2 p q) = (a (ix2 p q) + ∑ k : Fin 2816, x0 (ix2 p k) * x1 (ix2 q k) : EReal) := by
  unfold k0_pay3
  rw [shapeCast_self]
  show (_ + _ : EReal) = _
  rw [pay1_at x0 x1 p q]

variable (m : (ℓ : Loc nD τ sig) → Buf (Elt Ideal) ℓ) (ρ : Dev nD → PrngReg)

/-- The two factors. -/
abbrev lhs (c : Dev nD) : S4096x8448.Idx → EReal := m ((c : Thread nD τ).loc main_arg0)
abbrev rhs (c : Dev nD) : S1024x8448.Idx → EReal := m ((c : Thread nD τ).loc main_arg1)

/-- Where the windows stand at a grid point. -/
theorem index_0 : ∀ t : Fin grid0.N, win0_0.index t 0 = t.val / 3 ∧ win0_0.index t 1 = t.val % 3 := by decide +kernel
theorem index_1 : ∀ t : Fin grid0.N, win0_1.index t 0 = 0 ∧ win0_1.index t 1 = t.val % 3 := by decide +kernel
theorem index_2 : ∀ t : Fin grid0.N, win0_2.index t 0 = t.val / 3 ∧ win0_2.index t 1 = 0 := by decide +kernel

theorem iblk_0 (c : Dev nD) (t : Fin cfg0.N) (p : Fin 1024) (k : Fin 2816) :
    (iblk m c 0 t : Vec Ideal S1024x2816 .bf16) (ix2 p k) = at2 (lhs m c) (t.val / 3 * 1024 + p.val) (t.val % 3 * 2816 + k.val) := by
  obtain ⟨e0, e1⟩ := index_0 t
  unfold iblk
  rw [View.read_apply]
  refine at2_idx (lhs m c) _ _ _ ?_ ?_
  · show win0_0.index t 0 * 1024 + 1 * p.val = _; rw [e0, one_mul]
  · show win0_0.index t 1 * 2816 + 1 * k.val = _; rw [e1, one_mul]

theorem iblk_1 (c : Dev nD) (t : Fin cfg0.N) (q : Fin 1024) (k : Fin 2816) :
    (iblk m c 1 t : Vec Ideal S1024x2816 .bf16) (ix2 q k) = at2 (rhs m c) (0 * 1024 + q.val) (t.val % 3 * 2816 + k.val) := by
  obtain ⟨e0, e1⟩ := index_1 t
  unfold iblk
  rw [View.read_apply]
  refine at2_idx (rhs m c) _ _ _ ?_ ?_
  · show win0_1.index t 0 * 1024 + 1 * q.val = _; rw [e0, one_mul]
  · show win0_1.index t 1 * 2816 + 1 * k.val = _; rw [e1, one_mul]

/-- One run of the contracted axis. -/
def term (c : Dev nD) (r s l : ℕ) : EReal :=
  ∑ j ∈ Finset.range 2816, at2 (lhs m c) r (l * 2816 + j) * at2 (rhs m c) s (l * 2816 + j)

theorem tile (c : Dev nD) (t : Fin cfg0.N) (p : Fin 1024) (q : Fin 1024) (x0 : S1024x2816.Idx → EReal) (x1 : S1024x2816.Idx → EReal)
    (h0 : x0 = iblk m c 0 t) (h1 : x1 = iblk m c 1 t) :
    (∑ k : Fin 2816, x0 (ix2 p k) * x1 (ix2 q k)) = term m c (t.val / 3 * 1024 + p.val) (0 * 1024 + q.val) (t.val % 3) := by
  unfold term
  rw [Finset.sum_range]
  exact Finset.sum_congr rfl fun k _ =>
    congrArg₂ (· * ·) ((congrFun h0 _).trans (iblk_0 m c t p k)) ((congrFun h1 _).trans (iblk_1 m c t q k))

/-- The whole product, from the two factors. -/
def prod (c : Dev nD) : S4096x1024.Idx → EReal := fun i =>
  ∑ k ∈ Finset.range 8448, at2 (lhs m c) (i 0).val k * at2 (rhs m c) (i 1).val k

theorem prod_runs (c : Dev nD) (i : S4096x1024.Idx) : prod m c i = ∑ l ∈ Finset.range 3, term m c (i 0).val (i 1).val l := by
  unfold prod term
  exact sum_runs _ 3 2816 (by norm_num)

theorem prod_eq (c : Dev nD) : prod m c = P (m ((c : Thread nD τ).loc main_arg0)) (m ((c : Thread nD τ).loc main_arg1)) := rfl

theorem pay2_tile (c : Dev nD) (t : Fin cfg0.N) (p : Fin 1024) (q : Fin 1024) :
    k0_pay2 (iblk m c 0 t) (iblk m c 1 t) (ix2 p q) = term m c (t.val / 3 * 1024 + p.val) (0 * 1024 + q.val) (t.val % 3) :=
  (pay2_at _ _ p q).trans (tile m c t p q _ _ rfl rfl)

theorem pay3_tile (c : Dev nD) (t : Fin cfg0.N) (a : Vec Ideal S1024x1024 .f32) (p : Fin 1024) (q : Fin 1024) :
    k0_pay3 (iblk m c 0 t) (iblk m c 1 t) a (ix2 p q)
      = (a (ix2 p q) + term m c (t.val / 3 * 1024 + p.val) (0 * 1024 + q.val) (t.val % 3) : EReal) :=
  (pay3_at _ _ a p q).trans (congrArg (fun z : EReal => (a (ix2 p q) + z : EReal)) (tile m c t p q _ _ rfl rfl))

/-- What the scratch holds after a point: the sum of the runs so far. -/
theorem acc_at (c : Dev nD) : ∀ (n : ℕ) (h : n < cfg0.N), n % 3 < 2 → ∀ (p : Fin 1024) (q : Fin 1024),
    (outsAt0 m c n h).2 (ix2 p q)
      = (∑ l ∈ Finset.range (n % 3 + 1), term m c (n / 3 * 1024 + p.val) (0 * 1024 + q.val) l : EReal) := by
  intro n
  induction n with
  | zero =>
    intro h _ p q
    rw [outsAt0_A m c ⟨0, h⟩ rfl (by dsimp only; omega) (by dsimp only; omega)]
    dsimp only
    rw [sout_A, pay2_tile]
    simp
  | succ n ih =>
    intro h h2 p q
    by_cases h0 : (n + 1) % 3 = 0
    · rw [outsAt0_A m c ⟨n + 1, h⟩ h0 (by dsimp only; omega) (by dsimp only; omega)]
      dsimp only
      rw [sout_A, pay2_tile]
      simp [h0]
    · rw [outsAt0_B m c ⟨n + 1, h⟩ h0 (by dsimp only; omega) (by dsimp only; omega)]
      dsimp only
      rw [sout_B, pay3_tile]
      show ((outsAt0 m c n _).2 (ix2 p q) + _ : EReal) = _
      rw [ih _ (by omega) p q, show n / 3 = (n + 1) / 3 by omega, show (n + 1) % 3 = n % 3 + 1 by omega,
        Finset.sum_range_succ _ (n % 3 + 1)]

theorem flushed_prod (c : Dev nD) (t : Fin cfg0.N) (hf : (cfg0.win 2).flush t = true) :
    (dats m 0 c).flushed 2 t = ((cfg0.win 2).blk t).view.read (Elt Ideal) (prod m c) := by
  have hm : t.val % 3 = 2 := (flush0_2 t).mp hf
  rw [flushed2_C m c t (by omega) (by omega) hm, out_C]
  obtain ⟨e0, e1⟩ := index_2 t
  funext y
  obtain ⟨p, q, hy⟩ : ∃ (p : Fin 1024) (q : Fin 1024), (cfg0.win 2).xinj (grid0.coords t) y = ix2 p q :=
    ⟨_, _, (ix2_eta (n0 := 1024) (n1 := 1024) _).symm⟩
  rw [View.read_apply]
  show k0_pay3 _ _ _ ((cfg0.win 2).xinj (grid0.coords t) y) = _
  have h0 : (((cfg0.win 2).blk t).view.emb y 0).val = t.val / 3 * 1024 + p.val := by
    have : (y 0).val = p.val := congrArg (fun j : S1024x1024.Idx => (j 0).val) hy
    show win0_2.index t 0 * 1024 + 1 * (y 0).val = _; rw [e0, this, one_mul]
  have h1 : (((cfg0.win 2).blk t).view.emb y 1).val = 0 * 1024 + q.val := by
    have : (y 1).val = q.val := congrArg (fun j : S1024x1024.Idx => (j 1).val) hy
    show win0_2.index t 1 * 1024 + 1 * (y 1).val = _; rw [e1, this, one_mul]
  rw [hy, pay3_tile, acc_at m c _ _ (by omega)]
  rw [prod_runs, h0, h1, show (t.val - 1) / 3 = t.val / 3 by omega, show (t.val - 1) % 3 + 1 = 2 by omega, hm]
  exact (Finset.sum_range_succ (term m c (t.val / 3 * 1024 + p.val) (0 * 1024 + q.val)) 2).symm

theorem final_prod (c : Dev nD) : (dats m 0 c).arrAt 2 cfg0.N = prod m c :=
  (dats m 0 c).arrAt_eq_of_cover 2 _ (flushed_prod m c) fun i => (covered_iff2 i).2 (by
    have h0 : (i 0).val < 4096 := (i 0).isLt; have h1 : (i 1).val < 1024 := (i 1).isLt; omega)

/-- The kernel's result is the product. -/
theorem run_prod : θ_run defs (onTc (τ := τ) (main (F := Ideal))) ⟨m, fun _ => 0, ρ⟩ fun r => ∀ c : Dev nD,
      r.2.mem ((c : Thread nD τ).loc main_v0) = P (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_prod m c).trans (prod_eq m c)), (h c).2⟩) (run_blocks m ρ)

end Cert.Kernel2Ideal.Value

namespace Cert.Reference2Ideal.Value

open Cert.Reference2Ideal Cert.Reference2Ideal.Gen Cert.Prod Idealize.ShloMosaic Idealize.ShloMosaic.TcCoe
open Idealize.ShloMosaic.Tactic

/-- So is the reference's. -/
theorem dot_at (x : FVec Ideal S4096x8448 .bf16) (w : FVec Ideal S1024x8448 .bf16) (i : S4096x1024.Idx) :
    (Host.dotGeneral dot_S4096x8448_S1024x8448_S4096x1024_1_1_0_0_n_n none
      (extf .f32 (x : FVec Ideal S4096x8448 .bf16) bitsLt_bf16_f32 : FVec Ideal S4096x8448 .f32)
      (extf .f32 (w : FVec Ideal S1024x8448 .bf16) bitsLt_bf16_f32 : FVec Ideal S1024x8448 .f32)) i
      = (∑ k : Fin 8448, x (ix2 (i 0) k) * w (ix2 (i 1) k) : EReal) := by
  pointwise

theorem dot_prod (x : S4096x8448.Idx → EReal) (w : S1024x8448.Idx → EReal) :
    Host.dotGeneral dot_S4096x8448_S1024x8448_S4096x1024_1_1_0_0_n_n none
      (extf .f32 (x : FVec Ideal S4096x8448 .bf16) bitsLt_bf16_f32 : FVec Ideal S4096x8448 .f32)
      (extf .f32 (w : FVec Ideal S1024x8448 .bf16) bitsLt_bf16_f32 : FVec Ideal S1024x8448 .f32)
      = Cert.Kernel2Ideal.Value.P x w := by
  funext i
  refine (dot_at x w i).trans ?_
  unfold Cert.Kernel2Ideal.Value.P
  rw [Finset.sum_range]
  exact Finset.sum_congr rfl fun k _ => congrArg₂ (· * ·) (at2_fin x (i 0) k).symm (at2_fin w (i 1) k).symm

end Cert.Reference2Ideal.Value

namespace Cert.Proof

open Idealize.ShloMosaic Idealize.SL.Sem

set_option smartUnfolding false in
/-- The frames of kernel and reference; the kernel's in floating point is that of its ideal text, proved for every float model. -/
theorem kernel2_frame : Cert.quiescent_Kernel2 := fun m ρ _ => Cert.Kernel2Ideal.Gen.frame (F := Bits) m ρ

theorem kernel2Ideal_frame : Cert.quiescent_Kernel2Ideal := fun m ρ _ => Cert.Kernel2Ideal.Gen.frame m ρ

theorem reference2_frame : Cert.quiescent_Reference2Ideal := fun m ρ _ =>
  (θ_run (Cert.Reference2Ideal.defs (F := Ideal)) _ _).mono
    (fun r h => ⟨fun c => (h c).2, sem_eq_zero_of_no_sems rfl r.2⟩) (Cert.Reference2Ideal.Value.run m ρ)

/-- Kernel and reference give the same product. -/
theorem algebraic2 : Cert.algebraic_Kernel2Ideal_Reference2Ideal := by
  intro m g m' g' _ hargs
  refine ⟨_, Cert.Kernel2Ideal.Value.run_prod m g, ?_⟩
  refine (θ_run (Cert.Reference2Ideal.defs (F := Ideal)) _ _).mono (fun r h c => ⟨?_, (h c).2⟩) (Cert.Reference2Ideal.Value.run m' g')
  obtain ⟨e0, e1⟩ := hargs c
  exact (h c).1.trans ((Cert.Reference2Ideal.Value.dot_prod _ _).trans (congrArg₂ Cert.Kernel2Ideal.Value.P e0 e1))

end Cert.Proof

end
-- ==== Proof.ProjW.lean ====
/- The product `proj_w`: the gradient of the projection's weights, its contracted axis in four runs of 1024. -/
module

public import proofs.«01_k».proof.Defs
public import proofs.«01_k».proof.Proof.ProjB
public import proofs.«01_k».proof.Proof.Gen.Kernel3
public import proofs.«01_k».proof.Proof.Gen.Kernel3Ideal.Value
public import proofs.«01_k».proof.Proof.Gen.Reference3Ideal.Run
public import Idealize.ShloMosaic.Lib.Tactic
public import Idealize.ShloMosaic.Lib.Pointwise
public import Idealize.ShloMosaic.Lib.Quiescent

@[expose] public section

noncomputable section

namespace Cert.Kernel3Ideal.Value

open Cert.Kernel3Ideal Cert.Kernel3Ideal.Gen Cert.Prod Idealize.ShloMosaic Idealize.ShloMosaic.TcCoe Idealize.SL.Sem
open Idealize.ShloMosaic.Tactic

theorem hz : (![0, 0] : Fin 2 → Nat) = fun _ => 0 := funext fun a => by fin_cases a <;> rfl

/-- The product as a function of the two arguments. -/
def P (x : Mat 4096 1024) (w : Mat 4096 8448) : Mat 1024 8448 := fun i =>
  ∑ k ∈ Finset.range 4096, at2 x k (i 0).val * at2 w k (i 1).val

section
variable {F : FTy → Type} [FloatOps F] (c : Dev nD) (i : grid0.Coords) (a3 : Memref sig .tc .vmem S1024x1024 .bf16) (h3 : a3.IsWhole)
  (a4 : Memref sig .tc .vmem S1024x2816 .bf16) (h4 : a4.IsWhole) (a5 : Memref sig .tc .vmem S1024x2816 .bf16) (h5 : a5.IsWhole)
  (a6 : Memref sig .tc .vmem S1024x2816 .f32) (h6 : a6.IsWhole)
  (x0 : Vec F S1024x1024 .bf16) (x1 : Vec F S1024x2816 .bf16)

theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1024x1024) hz, View.ld_unit_zero (S := S1024x2816) hz]

theorem sout_B (hc0 : ¬cond0_0 i) (hc1 : cond0_1 i) (hc2 : ¬cond0_2 i) (xs : Vec F S1024x2816 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S1024x1024) hz, View.ld_unit_zero (S := S1024x2816) hz]

theorem out_C (hc0 : ¬cond0_0 i) (hc1 : cond0_1 i) (hc2 : cond0_2 i) (xs : Vec F S1024x2816 .f32) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1024x2816) _ hz]
  simp only [View.readAt_eq_ld, h3.read_unread, h4.read_unread, h6.read_unread, View.ld_unit_zero (S := S1024x1024) hz, View.ld_unit_zero (S := S1024x2816) hz]

end

/-- A tile's product at an index. -/
theorem pay1_at (x0 : Vec Ideal S1024x1024 .bf16) (x1 : Vec Ideal S1024x2816 .bf16) (p : Fin 1024) (q : Fin 2816) :
    k0_pay1 x0 x1 (ix2 p q) = (∑ k : Fin 1024, x0 (ix2 p k) * x1 (ix2 k q) : EReal) := by
  unfold k0_pay1
  rw [shapeCast_self]
  pointwise

theorem pay2_at (x0 : Vec Ideal S1024x1024 .bf16) (x1 : Vec Ideal S1024x2816 .bf16) (p : Fin 1024) (q : Fin 2816) :
    k0_pay2 x0 x1 (ix2 p q) = (∑ k : Fin 1024, x0 (ix2 p k) * x1 (ix2 k q) : EReal) := by
  unfold k0_pay2
  rw [shapeCast_self]
  exact pay1_at x0 x1 p q

theorem pay3_at (x0 : Vec Ideal S1024x1024 .bf16) (x1 : Vec Ideal S1024x2816 .bf16) (a : Vec Ideal S1024x2816 .f32) (p : Fin 1024) (q : Fin 2816) :
    k0_pay3 x0 x1 a (ix2 p q) = (a (ix2 p q) + ∑ k : Fin 1024, x0 (ix2 p k) * x1 (ix2 k q) : EReal) := by
  unfold k0_pay3
  rw [shapeCast_self]
  show (_ + _ : EReal) = _
  rw [pay1_at x0 x1 p q]

theorem pay4_at (a : Vec Ideal S1024x2816 .f32) (y : S1024x2816.Idx) : k0_pay4 a y = (a y : EReal) := rfl

variable (m : (ℓ : Loc nD τ sig) → Buf (Elt Ideal) ℓ) (ρ : Dev nD → PrngReg)

/-- The two factors. -/
abbrev lhs (c : Dev nD) : S1024x4096.Idx → EReal := V m c main_v0
abbrev rhs (c : Dev nD) : S4096x8448.Idx → EReal := m ((c : Thread nD τ).loc main_arg1)

/-- The left factor is the first argument, transposed. -/
theorem lhs_eq (c : Dev nD) : (V m c main_v0 : Vec Ideal S1024x4096 .bf16)
    = transpose S1024x4096 [1, 0] (m ((c : Thread nD τ).loc main_arg0) : Vec Ideal S4096x1024 .bf16) transposes_S4096x1024_S1024x4096_1_0 := by
  show StableHlo.after hostOps0 _ _ = _
  after_results

theorem transpose_at (x : Vec Ideal S4096x1024 .bf16) (i : Fin 1024) (k : Fin 4096) :
    transpose S1024x4096 [1, 0] x transposes_S4096x1024_S1024x4096_1_0 (ix2 i k) = (x (ix2 k i) : EReal) := by
  pointwise

theorem lhs_at (c : Dev nD) (i : Fin 1024) (k : Fin 4096) :
    at2 (lhs m c) i.val k.val = at2 (m ((c : Thread nD τ).loc main_arg0) : S4096x1024.Idx → EReal) k.val i.val :=
  (at2_fin (lhs m c) i k).trans (((congrFun (lhs_eq m c) _).trans (transpose_at _ i k)).trans (at2_fin _ k i).symm)

/-- Where the windows stand at a grid point. -/
theorem index_0 : ∀ t : Fin grid0.N, win0_0.index t 0 = 0 ∧ win0_0.index t 1 = t.val % 4 := by decide +kernel
theorem index_1 : ∀ t : Fin grid0.N, win0_1.index t 0 = t.val % 4 ∧ win0_1.index t 1 = t.val / 4 := by decide +kernel
theorem index_2 : ∀ t : Fin grid0.N, win0_2.index t 0 = 0 ∧ win0_2.index t 1 = t.val / 4 := by decide +kernel

theorem iblk_0 (c : Dev nD) (t : Fin cfg0.N) (p : Fin 1024) (k : Fin 1024) :
    (iblk m c 0 t : Vec Ideal S1024x1024 .bf16) (ix2 p k) = at2 (lhs m c) (0 * 1024 + p.val) (t.val % 4 * 1024 + k.val) := by
  obtain ⟨e0, e1⟩ := index_0 t
  unfold iblk
  rw [View.read_apply]
  refine at2_idx (lhs m c) _ _ _ ?_ ?_
  · show win0_0.index t 0 * 1024 + 1 * p.val = _; rw [e0, one_mul]
  · show win0_0.index t 1 * 1024 + 1 * k.val = _; rw [e1, one_mul]

theorem iblk_1 (c : Dev nD) (t : Fin cfg0.N) (q : Fin 2816) (k : Fin 1024) :
    (iblk m c 1 t : Vec Ideal S1024x2816 .bf16) (ix2 k q) = at2 (rhs m c) (t.val % 4 * 1024 + k.val) (t.val / 4 * 2816 + q.val) := by
  obtain ⟨e0, e1⟩ := index_1 t
  unfold iblk
  rw [View.read_apply]
  refine at2_idx (rhs m c) _ _ _ ?_ ?_
  · show win0_1.index t 0 * 1024 + 1 * k.val = _; rw [e0, one_mul]
  · show win0_1.index t 1 * 2816 + 1 * q.val = _; rw [e1, one_mul]

/-- One run of the contracted axis. -/
def term (c : Dev nD) (r s l : ℕ) : EReal :=
  ∑ j ∈ Finset.range 1024, at2 (lhs m c) r (l * 1024 + j) * at2 (rhs m c) (l * 1024 + j) s

theorem tile (c : Dev nD) (t : Fin cfg0.N) (p : Fin 1024) (q : Fin 2816) (x0 : S1024x1024.Idx → EReal) (x1 : S1024x2816.Idx → EReal)
    (h0 : x0 = iblk m c 0 t) (h1 : x1 = iblk m c 1 t) :
    (∑ k : Fin 1024, x0 (ix2 p k) * x1 (ix2 k q)) = term m c (0 * 1024 + p.val) (t.val / 4 * 2816 + q.val) (t.val % 4) := by
  unfold term
  rw [Finset.sum_range]
  exact Finset.sum_congr rfl fun k _ =>
    congrArg₂ (· * ·) ((congrFun h0 _).trans (iblk_0 m c t p k)) ((congrFun h1 _).trans (iblk_1 m c t q k))

/-- The whole product, from the two factors. -/
def prod (c : Dev nD) : S1024x8448.Idx → EReal := fun i =>
  ∑ k ∈ Finset.range 4096, at2 (lhs m c) (i 0).val k * at2 (rhs m c) k (i 1).val

theorem prod_runs (c : Dev nD) (i : S1024x8448.Idx) : prod m c i = ∑ l ∈ Finset.range 4, term m c (i 0).val (i 1).val l := by
  unfold prod term
  exact sum_runs _ 4 1024 (by norm_num)

theorem prod_eq (c : Dev nD) : prod m c = P (m ((c : Thread nD τ).loc main_arg0)) (m ((c : Thread nD τ).loc main_arg1)) := by
  funext i
  unfold prod P
  refine Finset.sum_congr rfl fun k hk => congrArg (fun z : EReal => (z * at2 (rhs m c) k (i 1).val : EReal)) ?_
  exact lhs_at m c (i 0) ⟨k, Finset.mem_range.1 hk⟩

theorem pay2_tile (c : Dev nD) (t : Fin cfg0.N) (p : Fin 1024) (q : Fin 2816) :
    k0_pay2 (iblk m c 0 t) (iblk m c 1 t) (ix2 p q) = term m c (0 * 1024 + p.val) (t.val / 4 * 2816 + q.val) (t.val % 4) :=
  (pay2_at _ _ p q).trans (tile m c t p q _ _ rfl rfl)

theorem pay3_tile (c : Dev nD) (t : Fin cfg0.N) (a : Vec Ideal S1024x2816 .f32) (p : Fin 1024) (q : Fin 2816) :
    k0_pay3 (iblk m c 0 t) (iblk m c 1 t) a (ix2 p q)
      = (a (ix2 p q) + term m c (0 * 1024 + p.val) (t.val / 4 * 2816 + q.val) (t.val % 4) : EReal) :=
  (pay3_at _ _ a p q).trans (congrArg (fun z : EReal => (a (ix2 p q) + z : EReal)) (tile m c t p q _ _ rfl rfl))

/-- What the scratch holds after a point: the sum of the runs so far. -/
theorem acc_at (c : Dev nD) : ∀ (n : ℕ) (h : n < cfg0.N), n % 4 < 3 → ∀ (p : Fin 1024) (q : Fin 2816),
    (outsAt0 m c n h).2 (ix2 p q)
      = (∑ l ∈ Finset.range (n % 4 + 1), term m c (0 * 1024 + p.val) (n / 4 * 2816 + q.val) l : EReal) := by
  intro n
  induction n with
  | zero =>
    intro h _ p q
    rw [outsAt0_A m c ⟨0, h⟩ rfl (by dsimp only; omega) (by dsimp only; omega)]
    dsimp only
    rw [sout_A, pay2_tile]
    simp
  | succ n ih =>
    intro h h2 p q
    by_cases h0 : (n + 1) % 4 = 0
    · rw [outsAt0_A m c ⟨n + 1, h⟩ h0 (by dsimp only; omega) (by dsimp only; omega)]
      dsimp only
      rw [sout_A, pay2_tile]
      simp [h0]
    · rw [outsAt0_B m c ⟨n + 1, h⟩ h0 (by dsimp only; omega) (by dsimp only; omega)]
      dsimp only
      rw [sout_B, pay3_tile]
      show ((outsAt0 m c n _).2 (ix2 p q) + _ : EReal) = _
      rw [ih _ (by omega) p q, show n / 4 = (n + 1) / 4 by omega, show (n + 1) % 4 = n % 4 + 1 by omega,
        Finset.sum_range_succ _ (n % 4 + 1)]

theorem flushed_prod (c : Dev nD) (t : Fin cfg0.N) (hf : (cfg0.win 2).flush t = true) :
    (dats m 0 c).flushed 2 t = ((cfg0.win 2).blk t).view.read (Elt Ideal) (prod m c) := by
  have hm : t.val % 4 = 3 := (flush0_2 t).mp hf
  rw [flushed2_C m c t (by omega) (by omega) hm, out_C]
  obtain ⟨e0, e1⟩ := index_2 t
  funext y
  obtain ⟨p, q, hy⟩ : ∃ (p : Fin 1024) (q : Fin 2816), (cfg0.win 2).xinj (grid0.coords t) y = ix2 p q :=
    ⟨_, _, (ix2_eta (n0 := 1024) (n1 := 2816) _).symm⟩
  rw [View.read_apply]
  show k0_pay4 _ ((cfg0.win 2).xinj (grid0.coords t) y) = _
  have h0 : (((cfg0.win 2).blk t).view.emb y 0).val = 0 * 1024 + p.val := by
    have : (y 0).val = p.val := congrArg (fun j : S1024x2816.Idx => (j 0).val) hy
    show win0_2.index t 0 * 1024 + 1 * (y 0).val = _; rw [e0, this, one_mul]
  have h1 : (((cfg0.win 2).blk t).view.emb y 1).val = t.val / 4 * 2816 + q.val := by
    have : (y 1).val = q.val := congrArg (fun j : S1024x2816.Idx => (j 1).val) hy
    show win0_2.index t 1 * 2816 + 1 * (y 1).val = _; rw [e1, this, one_mul]
  rw [hy, pay4_at, pay3_tile, acc_at m c _ _ (by omega)]
  rw [prod_runs, h0, h1, show (t.val - 1) / 4 = t.val / 4 by omega, show (t.val - 1) % 4 + 1 = 3 by omega, hm]
  exact (Finset.sum_range_succ (term m c (0 * 1024 + p.val) (t.val / 4 * 2816 + q.val)) 3).symm

theorem final_prod (c : Dev nD) : (dats m 0 c).arrAt 2 cfg0.N = prod m c :=
  (dats m 0 c).arrAt_eq_of_cover 2 _ (flushed_prod m c) fun i => (covered_iff2 i).2 (by
    have h0 : (i 0).val < 1024 := (i 0).isLt; have h1 : (i 1).val < 8448 := (i 1).isLt; omega)

/-- The kernel's result is the product. -/
theorem run_prod : θ_run defs (onTc (τ := τ) (main (F := Ideal))) ⟨m, fun _ => 0, ρ⟩ fun r => ∀ c : Dev nD,
      r.2.mem ((c : Thread nD τ).loc main_v1) = P (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_prod m c).trans (prod_eq m c)), (h c).2⟩) (run_blocks m ρ)

end Cert.Kernel3Ideal.Value

namespace Cert.Reference3Ideal.Value

open Cert.Reference3Ideal Cert.Reference3Ideal.Gen Cert.Prod Idealize.ShloMosaic Idealize.ShloMosaic.TcCoe
open Idealize.ShloMosaic.Tactic

/-- So is the reference's. -/
theorem dot_at (x : FVec Ideal S4096x1024 .bf16) (w : FVec Ideal S4096x8448 .bf16) (i : S1024x8448.Idx) :
    (truncf .bf16 (transpose S1024x8448 [1, 0]
      (Host.dotGeneral dot_S4096x8448_S4096x1024_S8448x1024_0_0_1_1_n_n none
        (extf .f32 (w : FVec Ideal S4096x8448 .bf16) bitsLt_bf16_f32 : FVec Ideal S4096x8448 .f32)
        (extf .f32 (x : FVec Ideal S4096x1024 .bf16) bitsLt_bf16_f32 : FVec Ideal S4096x1024 .f32) : FVec Ideal S8448x1024 .f32)
      transposes_S8448x1024_S1024x8448_1_0 : FVec Ideal S1024x8448 .f32) bitsLt_bf16_f32) i
      = (∑ k : Fin 4096, w (ix2 k (i 1)) * x (ix2 k (i 0)) : EReal) := by
  pointwise

theorem dot_prod (x : S4096x1024.Idx → EReal) (w : S4096x8448.Idx → EReal) :
    truncf .bf16 (transpose S1024x8448 [1, 0]
      (Host.dotGeneral dot_S4096x8448_S4096x1024_S8448x1024_0_0_1_1_n_n none
        (extf .f32 (w : FVec Ideal S4096x8448 .bf16) bitsLt_bf16_f32 : FVec Ideal S4096x8448 .f32)
        (extf .f32 (x : FVec Ideal S4096x1024 .bf16) bitsLt_bf16_f32 : FVec Ideal S4096x1024 .f32) : FVec Ideal S8448x1024 .f32)
      transposes_S8448x1024_S1024x8448_1_0 : FVec Ideal S1024x8448 .f32) bitsLt_bf16_f32
      = Cert.Kernel3Ideal.Value.P x w := by
  funext i
  refine (dot_at x w i).trans ?_
  unfold Cert.Kernel3Ideal.Value.P
  rw [Finset.sum_range]
  exact Finset.sum_congr rfl fun k _ =>
    (mul_comm (w (ix2 k (i 1)) : EReal) (x (ix2 k (i 0)))).trans (congrArg₂ (· * ·) (at2_fin x k (i 0)).symm (at2_fin w k (i 1)).symm)

end Cert.Reference3Ideal.Value

namespace Cert.Proof

open Idealize.ShloMosaic Idealize.SL.Sem

set_option smartUnfolding false in
/-- The frames of kernel and reference; the kernel's in floating point is that of its ideal text, proved for every float model. -/
theorem kernel3_frame : Cert.quiescent_Kernel3 := fun m ρ _ => Cert.Kernel3Ideal.Gen.frame (F := Bits) m ρ

theorem kernel3Ideal_frame : Cert.quiescent_Kernel3Ideal := fun m ρ _ => Cert.Kernel3Ideal.Gen.frame m ρ

theorem reference3_frame : Cert.quiescent_Reference3Ideal := fun m ρ _ =>
  (θ_run (Cert.Reference3Ideal.defs (F := Ideal)) _ _).mono
    (fun r h => ⟨fun c => (h c).2, sem_eq_zero_of_no_sems rfl r.2⟩) (Cert.Reference3Ideal.Value.run m ρ)

/-- Kernel and reference give the same product. -/
theorem algebraic3 : Cert.algebraic_Kernel3Ideal_Reference3Ideal := by
  intro m g m' g' _ hargs
  refine ⟨_, Cert.Kernel3Ideal.Value.run_prod m g, ?_⟩
  refine (θ_run (Cert.Reference3Ideal.defs (F := Ideal)) _ _).mono (fun r h c => ⟨?_, (h c).2⟩) (Cert.Reference3Ideal.Value.run m' g')
  obtain ⟨e0, e1⟩ := hargs c
  exact (h c).1.trans ((Cert.Reference3Ideal.Value.dot_prod _ _).trans (congrArg₂ Cert.Kernel3Ideal.Value.P e0 e1))

end Cert.Proof

end
-- ==== Proof.OutB.lean ====
/- The product `out_b`: the gradient of the input of the output projection, one tile of the contracted axis. -/
module

public import proofs.«01_k».proof.Defs
public import proofs.«01_k».proof.Proof.ProjW
public import proofs.«01_k».proof.Proof.Gen.Kernel4
public import proofs.«01_k».proof.Proof.Gen.Kernel4Ideal.Value
public import proofs.«01_k».proof.Proof.Gen.Reference4Ideal.Run
public import Idealize.ShloMosaic.Lib.Tactic
public import Idealize.ShloMosaic.Lib.Pointwise
public import Idealize.ShloMosaic.Lib.Quiescent

@[expose] public section

noncomputable section

namespace Cert.Kernel4Ideal.Value

open Cert.Kernel4Ideal Cert.Kernel4Ideal.Gen Cert.Prod Idealize.ShloMosaic Idealize.ShloMosaic.TcCoe Idealize.SL.Sem
open Idealize.ShloMosaic.Tactic

theorem hz : (![0, 0] : Fin 2 → Nat) = fun _ => 0 := funext fun a => by fin_cases a <;> rfl

/-- The product as a function of the two arguments. -/
def P (x : Mat 4096 1024) (w : Mat 1024 1024) : Mat 4096 1024 := fun i =>
  ∑ k ∈ Finset.range 1024, at2 x (i 0).val k * at2 w (i 1).val k

section
variable {F : FTy → Type} [FloatOps F]

theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S8x128 .f32) (h6 : a6.IsWhole)
    (x0 : Vec F S1024x1024 .bf16) (x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz]

end

/-- A tile's product at an index. -/
theorem pay1_at (x0 : Vec Ideal S1024x1024 .bf16) (x1 : Vec Ideal S1024x1024 .bf16) (p : Fin 1024) (q : Fin 1024) :
    k0_pay1 x0 x1 (ix2 p q) = (∑ k : Fin 1024, x0 (ix2 p k) * x1 (ix2 q k) : EReal) := by
  pointwise [k0_pay1]

variable (m : (ℓ : Loc nD τ sig) → Buf (Elt Ideal) ℓ) (ρ : Dev nD → PrngReg)

/-- The two factors. -/
abbrev lhs (c : Dev nD) : S4096x1024.Idx → EReal := m ((c : Thread nD τ).loc main_arg0)
abbrev rhs (c : Dev nD) : S1024x1024.Idx → EReal := m ((c : Thread nD τ).loc main_arg1)

/-- Where the windows stand at a grid point. -/
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem iblk_0 (c : Dev nD) (t : Fin cfg0.N) (p : Fin 1024) (k : Fin 1024) :
    (iblk m c 0 t : Vec Ideal S1024x1024 .bf16) (ix2 p k) = at2 (lhs m c) (t.val * 1024 + p.val) (0 * 1024 + k.val) := by
  obtain ⟨e0, e1⟩ := index_0 t
  unfold iblk
  rw [View.read_apply]
  refine at2_idx (lhs m c) _ _ _ ?_ ?_
  · show win0_0.index t 0 * 1024 + 1 * p.val = _; rw [e0, one_mul]
  · show win0_0.index t 1 * 1024 + 1 * k.val = _; rw [e1, one_mul]

theorem iblk_1 (c : Dev nD) (t : Fin cfg0.N) (q : Fin 1024) (k : Fin 1024) :
    (iblk m c 1 t : Vec Ideal S1024x1024 .bf16) (ix2 q k) = at2 (rhs m c) (0 * 1024 + q.val) (0 * 1024 + k.val) := by
  obtain ⟨e0, e1⟩ := index_1 t
  unfold iblk
  rw [View.read_apply]
  refine at2_idx (rhs m c) _ _ _ ?_ ?_
  · show win0_1.index t 0 * 1024 + 1 * q.val = _; rw [e0, one_mul]
  · show win0_1.index t 1 * 1024 + 1 * k.val = _; rw [e1, one_mul]

/-- One run of the contracted axis. -/
def term (c : Dev nD) (r s l : ℕ) : EReal :=
  ∑ j ∈ Finset.range 1024, at2 (lhs m c) r (l * 1024 + j) * at2 (rhs m c) s (l * 1024 + j)

theorem tile (c : Dev nD) (t : Fin cfg0.N) (p : Fin 1024) (q : Fin 1024) (x0 : S1024x1024.Idx → EReal) (x1 : S1024x1024.Idx → EReal)
    (h0 : x0 = iblk m c 0 t) (h1 : x1 = iblk m c 1 t) :
    (∑ k : Fin 1024, x0 (ix2 p k) * x1 (ix2 q k)) = term m c (t.val * 1024 + p.val) (0 * 1024 + q.val) (0) := by
  unfold term
  rw [Finset.sum_range]
  exact Finset.sum_congr rfl fun k _ =>
    congrArg₂ (· * ·) ((congrFun h0 _).trans (iblk_0 m c t p k)) ((congrFun h1 _).trans (iblk_1 m c t q k))

/-- The whole product, from the two factors. -/
def prod (c : Dev nD) : S4096x1024.Idx → EReal := fun i =>
  ∑ k ∈ Finset.range 1024, at2 (lhs m c) (i 0).val k * at2 (rhs m c) (i 1).val k

theorem prod_runs (c : Dev nD) (i : S4096x1024.Idx) : prod m c i = ∑ l ∈ Finset.range 1, term m c (i 0).val (i 1).val l := by
  unfold prod term
  exact sum_runs _ 1 1024 (by norm_num)

theorem prod_eq (c : Dev nD) : prod m c = P (m ((c : Thread nD τ).loc main_arg0)) (m ((c : Thread nD τ).loc main_arg1)) := rfl

theorem flushed_prod (c : Dev nD) (t : Fin cfg0.N) (hf : (cfg0.win 2).flush t = true) :
    (dats m 0 c).flushed 2 t = ((cfg0.win 2).blk t).view.read (Elt Ideal) (prod m c) := by
  rw [flushed2_A m c t, out_A]
  obtain ⟨e0, e1⟩ := index_2 t
  funext y
  obtain ⟨p, q, hy⟩ : ∃ (p : Fin 1024) (q : Fin 1024), (cfg0.win 2).xinj (grid0.coords t) y = ix2 p q :=
    ⟨_, _, (ix2_eta (n0 := 1024) (n1 := 1024) _).symm⟩
  rw [View.read_apply]
  show k0_pay1 _ _ ((cfg0.win 2).xinj (grid0.coords t) y) = _
  have h0 : (((cfg0.win 2).blk t).view.emb y 0).val = t.val * 1024 + p.val := by
    have : (y 0).val = p.val := congrArg (fun j : S1024x1024.Idx => (j 0).val) hy
    show win0_2.index t 0 * 1024 + 1 * (y 0).val = _; rw [e0, this, one_mul]
  have h1 : (((cfg0.win 2).blk t).view.emb y 1).val = 0 * 1024 + q.val := by
    have : (y 1).val = q.val := congrArg (fun j : S1024x1024.Idx => (j 1).val) hy
    show win0_2.index t 1 * 1024 + 1 * (y 1).val = _; rw [e1, this, one_mul]
  rw [hy, prod_runs, h0, h1, Finset.sum_range_one]
  exact (pay1_at _ _ p q).trans (tile m c t p q _ _ rfl rfl)

/-- The point that writes an index of the result back. -/
def pointOf (i : S4096x1024.Idx) : Fin cfg0.N := ⟨(i 0).val / 1024, lt_of_lt_of_eq (by
  have h0 : (i 0).val < 4096 := (i 0).isLt
  have h1 : (i 1).val < 1024 := (i 1).isLt
  omega) N_0.symm⟩

theorem covered (i : S4096x1024.Idx) : i ∈ ((cfg0.win 2).blk (pointOf i)).view.set := by
  show i ∈ ((View.whole main_v0).slice (win0_2.rect (pointOf i))).set
  rw [View.set_slice_whole, Rect.mem_set_unit]
  obtain ⟨e0, e1⟩ := index_2 (pointOf i)
  have h0 : (i 0).val < 4096 := (i 0).isLt
  have h1 : (i 1).val < 1024 := (i 1).isLt
  have hv : (pointOf i).val = (i 0).val / 1024 := rfl
  intro a
  match a with
  | ⟨0, _⟩ =>
    show win0_2.index (pointOf i) 0 * 1024 ≤ (i 0).val ∧ (i 0).val < win0_2.index (pointOf i) 0 * 1024 + 1024
    rw [e0, hv]; omega
  | ⟨1, _⟩ =>
    show win0_2.index (pointOf i) 1 * 1024 ≤ (i 1).val ∧ (i 1).val < win0_2.index (pointOf i) 1 * 1024 + 1024
    rw [e1]; omega

theorem final_prod (c : Dev nD) : (dats m 0 c).arrAt 2 cfg0.N = prod m c :=
  (dats m 0 c).arrAt_eq_of_cover 2 _ (flushed_prod m c) fun i => ⟨pointOf i, flush0_2 _, covered i⟩

/-- The kernel's result is the product. -/
theorem run_prod : θ_run defs (onTc (τ := τ) (main (F := Ideal))) ⟨m, fun _ => 0, ρ⟩ fun r => ∀ c : Dev nD,
      r.2.mem ((c : Thread nD τ).loc main_v0) = P (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_prod m c).trans (prod_eq m c)), (h c).2⟩) (run_blocks m ρ)

end Cert.Kernel4Ideal.Value

namespace Cert.Reference4Ideal.Value

open Cert.Reference4Ideal Cert.Reference4Ideal.Gen Cert.Prod Idealize.ShloMosaic Idealize.ShloMosaic.TcCoe
open Idealize.ShloMosaic.Tactic

/-- So is the reference's. -/
theorem dot_at (x : FVec Ideal S4096x1024 .bf16) (w : FVec Ideal S1024x1024 .bf16) (i : S4096x1024.Idx) :
    (Host.dotGeneral dot_S4096x1024_S1024x1024_S4096x1024_1_1_0_0_n_n none
      (extf .f32 (x : FVec Ideal S4096x1024 .bf16) bitsLt_bf16_f32 : FVec Ideal S4096x1024 .f32)
      (extf .f32 (w : FVec Ideal S1024x1024 .bf16) bitsLt_bf16_f32 : FVec Ideal S1024x1024 .f32)) i
      = (∑ k : Fin 1024, x (ix2 (i 0) k) * w (ix2 (i 1) k) : EReal) := by
  pointwise

theorem dot_prod (x : S4096x1024.Idx → EReal) (w : S1024x1024.Idx → EReal) :
    Host.dotGeneral dot_S4096x1024_S1024x1024_S4096x1024_1_1_0_0_n_n none
      (extf .f32 (x : FVec Ideal S4096x1024 .bf16) bitsLt_bf16_f32 : FVec Ideal S4096x1024 .f32)
      (extf .f32 (w : FVec Ideal S1024x1024 .bf16) bitsLt_bf16_f32 : FVec Ideal S1024x1024 .f32)
      = Cert.Kernel4Ideal.Value.P x w := by
  funext i
  refine (dot_at x w i).trans ?_
  unfold Cert.Kernel4Ideal.Value.P
  rw [Finset.sum_range]
  exact Finset.sum_congr rfl fun k _ => congrArg₂ (· * ·) (at2_fin x (i 0) k).symm (at2_fin w (i 1) k).symm

end Cert.Reference4Ideal.Value

namespace Cert.Proof

open Idealize.ShloMosaic Idealize.SL.Sem

set_option smartUnfolding false in
/-- The frames of kernel and reference; the kernel's in floating point is that of its ideal text, proved for every float model. -/
theorem kernel4_frame : Cert.quiescent_Kernel4 := fun m ρ _ => Cert.Kernel4Ideal.Gen.frame (F := Bits) m ρ

theorem kernel4Ideal_frame : Cert.quiescent_Kernel4Ideal := fun m ρ _ => Cert.Kernel4Ideal.Gen.frame m ρ

theorem reference4_frame : Cert.quiescent_Reference4Ideal := fun m ρ _ =>
  (θ_run (Cert.Reference4Ideal.defs (F := Ideal)) _ _).mono
    (fun r h => ⟨fun c => (h c).2, sem_eq_zero_of_no_sems rfl r.2⟩) (Cert.Reference4Ideal.Value.run m ρ)

/-- Kernel and reference give the same product. -/
theorem algebraic4 : Cert.algebraic_Kernel4Ideal_Reference4Ideal := by
  intro m g m' g' _ hargs
  refine ⟨_, Cert.Kernel4Ideal.Value.run_prod m g, ?_⟩
  refine (θ_run (Cert.Reference4Ideal.defs (F := Ideal)) _ _).mono (fun r h c => ⟨?_, (h c).2⟩) (Cert.Reference4Ideal.Value.run m' g')
  obtain ⟨e0, e1⟩ := hargs c
  exact (h c).1.trans ((Cert.Reference4Ideal.Value.dot_prod _ _).trans (congrArg₂ Cert.Kernel4Ideal.Value.P e0 e1))

end Cert.Proof

end
-- ==== Proof.OutW.lean ====
/- The product `out_w`: the gradient of the output projection's weights, its contracted axis in eight runs of 512. -/
module

public import proofs.«01_k».proof.Defs
public import proofs.«01_k».proof.Proof.OutB
public import proofs.«01_k».proof.Proof.Gen.Kernel5
public import proofs.«01_k».proof.Proof.Gen.Kernel5Ideal.Value
public import proofs.«01_k».proof.Proof.Gen.Reference5Ideal.Run
public import Idealize.ShloMosaic.Lib.Tactic
public import Idealize.ShloMosaic.Lib.Pointwise
public import Idealize.ShloMosaic.Lib.Quiescent

@[expose] public section

noncomputable section

namespace Cert.Kernel5Ideal.Value

open Cert.Kernel5Ideal Cert.Kernel5Ideal.Gen Cert.Prod Idealize.ShloMosaic Idealize.ShloMosaic.TcCoe Idealize.SL.Sem
open Idealize.ShloMosaic.Tactic

theorem hz : (![0, 0] : Fin 2 → Nat) = fun _ => 0 := funext fun a => by fin_cases a <;> rfl

/-- The product as a function of the two arguments. -/
def P (x : Mat 4096 1024) (w : Mat 4096 1024) : Mat 1024 1024 := fun i =>
  ∑ k ∈ Finset.range 4096, at2 x k (i 0).val * at2 w k (i 1).val

section
variable {F : FTy → Type} [FloatOps F] (c : Dev nD) (i : grid0.Coords) (a3 : Memref sig .tc .vmem S512x512 .bf16) (h3 : a3.IsWhole)
  (a4 : Memref sig .tc .vmem S512x1024 .bf16) (h4 : a4.IsWhole) (a5 : Memref sig .tc .vmem S512x1024 .bf16) (h5 : a5.IsWhole)
  (a6 : Memref sig .tc .vmem S512x1024 .f32) (h6 : a6.IsWhole)
  (x0 : Vec F S512x512 .bf16) (x1 : Vec F S512x1024 .bf16)

theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S512x512) hz, View.ld_unit_zero (S := S512x1024) hz]

theorem sout_B (hc0 : ¬cond0_0 i) (hc1 : cond0_1 i) (hc2 : ¬cond0_2 i) (xs : Vec F S512x1024 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S512x512) hz, View.ld_unit_zero (S := S512x1024) hz]

theorem out_C (hc0 : ¬cond0_0 i) (hc1 : cond0_1 i) (hc2 : cond0_2 i) (xs : Vec F S512x1024 .f32) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S512x512) hz, View.ld_unit_zero (S := S512x1024) hz]

end

/-- A tile's product at an index. -/
theorem pay1_at (x0 : Vec Ideal S512x512 .bf16) (x1 : Vec Ideal S512x1024 .bf16) (p : Fin 512) (q : Fin 1024) :
    k0_pay1 x0 x1 (ix2 p q) = (∑ k : Fin 512, x0 (ix2 k p) * x1 (ix2 k q) : EReal) := by
  pointwise [k0_pay1]

theorem pay2_at (x0 : Vec Ideal S512x512 .bf16) (x1 : Vec Ideal S512x1024 .bf16) (p : Fin 512) (q : Fin 1024) :
    k0_pay2 x0 x1 (ix2 p q) = (∑ k : Fin 512, x0 (ix2 k p) * x1 (ix2 k q) : EReal) := by
  unfold k0_pay2
  rw [shapeCast_self]
  exact pay1_at x0 x1 p q

theorem pay3_at (x0 : Vec Ideal S512x512 .bf16) (x1 : Vec Ideal S512x1024 .bf16) (a : Vec Ideal S512x1024 .f32) (p : Fin 512) (q : Fin 1024) :
    k0_pay3 x0 x1 a (ix2 p q) = (a (ix2 p q) + ∑ k : Fin 512, x0 (ix2 k p) * x1 (ix2 k q) : EReal) := by
  unfold k0_pay3
  rw [shapeCast_self]
  show (_ + _ : EReal) = _
  rw [pay1_at x0 x1 p q]

theorem pay4_at (a : Vec Ideal S512x1024 .f32) (y : S512x1024.Idx) : k0_pay4 a y = (a y : EReal) := rfl

variable (m : (ℓ : Loc nD τ sig) → Buf (Elt Ideal) ℓ) (ρ : Dev nD → PrngReg)

/-- The two factors. -/
abbrev lhs (c : Dev nD) : S4096x1024.Idx → EReal := m ((c : Thread nD τ).loc main_arg0)
abbrev rhs (c : Dev nD) : S4096x1024.Idx → EReal := m ((c : Thread nD τ).loc main_arg1)

/-- Where the windows stand at a grid point. -/
theorem index_0 : ∀ t : Fin grid0.N, win0_0.index t 0 = t.val % 8 ∧ win0_0.index t 1 = t.val / 8 := by decide +kernel
theorem index_1 : ∀ t : Fin grid0.N, win0_1.index t 0 = t.val % 8 ∧ win0_1.index t 1 = 0 := by decide +kernel
theorem index_2 : ∀ t : Fin grid0.N, win0_2.index t 0 = t.val / 8 ∧ win0_2.index t 1 = 0 := by decide +kernel

theorem iblk_0 (c : Dev nD) (t : Fin cfg0.N) (p : Fin 512) (k : Fin 512) :
    (iblk m c 0 t : Vec Ideal S512x512 .bf16) (ix2 k p) = at2 (lhs m c) (t.val % 8 * 512 + k.val) (t.val / 8 * 512 + p.val) := by
  obtain ⟨e0, e1⟩ := index_0 t
  unfold iblk
  rw [View.read_apply]
  refine at2_idx (lhs m c) _ _ _ ?_ ?_
  · show win0_0.index t 0 * 512 + 1 * k.val = _; rw [e0, one_mul]
  · show win0_0.index t 1 * 512 + 1 * p.val = _; rw [e1, one_mul]

theorem iblk_1 (c : Dev nD) (t : Fin cfg0.N) (q : Fin 1024) (k : Fin 512) :
    (iblk m c 1 t : Vec Ideal S512x1024 .bf16) (ix2 k q) = at2 (rhs m c) (t.val % 8 * 512 + k.val) (0 * 1024 + q.val) := by
  obtain ⟨e0, e1⟩ := index_1 t
  unfold iblk
  rw [View.read_apply]
  refine at2_idx (rhs m c) _ _ _ ?_ ?_
  · show win0_1.index t 0 * 512 + 1 * k.val = _; rw [e0, one_mul]
  · show win0_1.index t 1 * 1024 + 1 * q.val = _; rw [e1, one_mul]

/-- One run of the contracted axis. -/
def term (c : Dev nD) (r s l : ℕ) : EReal :=
  ∑ j ∈ Finset.range 512, at2 (lhs m c) (l * 512 + j) r * at2 (rhs m c) (l * 512 + j) s

theorem tile (c : Dev nD) (t : Fin cfg0.N) (p : Fin 512) (q : Fin 1024) (x0 : S512x512.Idx → EReal) (x1 : S512x1024.Idx → EReal)
    (h0 : x0 = iblk m c 0 t) (h1 : x1 = iblk m c 1 t) :
    (∑ k : Fin 512, x0 (ix2 k p) * x1 (ix2 k q)) = term m c (t.val / 8 * 512 + p.val) (0 * 1024 + q.val) (t.val % 8) := by
  unfold term
  rw [Finset.sum_range]
  exact Finset.sum_congr rfl fun k _ =>
    congrArg₂ (· * ·) ((congrFun h0 _).trans (iblk_0 m c t p k)) ((congrFun h1 _).trans (iblk_1 m c t q k))

/-- The whole product, from the two factors. -/
def prod (c : Dev nD) : S1024x1024.Idx → EReal := fun i =>
  ∑ k ∈ Finset.range 4096, at2 (lhs m c) k (i 0).val * at2 (rhs m c) k (i 1).val

theorem prod_runs (c : Dev nD) (i : S1024x1024.Idx) : prod m c i = ∑ l ∈ Finset.range 8, term m c (i 0).val (i 1).val l := by
  unfold prod term
  exact sum_runs _ 8 512 (by norm_num)

theorem prod_eq (c : Dev nD) : prod m c = P (m ((c : Thread nD τ).loc main_arg0)) (m ((c : Thread nD τ).loc main_arg1)) := rfl

theorem pay2_tile (c : Dev nD) (t : Fin cfg0.N) (p : Fin 512) (q : Fin 1024) :
    k0_pay2 (iblk m c 0 t) (iblk m c 1 t) (ix2 p q) = term m c (t.val / 8 * 512 + p.val) (0 * 1024 + q.val) (t.val % 8) :=
  (pay2_at _ _ p q).trans (tile m c t p q _ _ rfl rfl)

theorem pay3_tile (c : Dev nD) (t : Fin cfg0.N) (a : Vec Ideal S512x1024 .f32) (p : Fin 512) (q : Fin 1024) :
    k0_pay3 (iblk m c 0 t) (iblk m c 1 t) a (ix2 p q)
      = (a (ix2 p q) + term m c (t.val / 8 * 512 + p.val) (0 * 1024 + q.val) (t.val % 8) : EReal) :=
  (pay3_at _ _ a p q).trans (congrArg (fun z : EReal => (a (ix2 p q) + z : EReal)) (tile m c t p q _ _ rfl rfl))

/-- What the scratch holds after a point: the sum of the runs so far. -/
theorem acc_at (c : Dev nD) : ∀ (n : ℕ) (h : n < cfg0.N), n % 8 < 7 → ∀ (p : Fin 512) (q : Fin 1024),
    (outsAt0 m c n h).2 (ix2 p q)
      = (∑ l ∈ Finset.range (n % 8 + 1), term m c (n / 8 * 512 + p.val) (0 * 1024 + q.val) l : EReal) := by
  intro n
  induction n with
  | zero =>
    intro h _ p q
    rw [outsAt0_A m c ⟨0, h⟩ rfl (by dsimp only; omega) (by dsimp only; omega)]
    dsimp only
    rw [sout_A, pay2_tile]
    simp
  | succ n ih =>
    intro h h2 p q
    by_cases h0 : (n + 1) % 8 = 0
    · rw [outsAt0_A m c ⟨n + 1, h⟩ h0 (by dsimp only; omega) (by dsimp only; omega)]
      dsimp only
      rw [sout_A, pay2_tile]
      simp [h0]
    · rw [outsAt0_B m c ⟨n + 1, h⟩ h0 (by dsimp only; omega) (by dsimp only; omega)]
      dsimp only
      rw [sout_B, pay3_tile]
      show ((outsAt0 m c n _).2 (ix2 p q) + _ : EReal) = _
      rw [ih _ (by omega) p q, show n / 8 = (n + 1) / 8 by omega, show (n + 1) % 8 = n % 8 + 1 by omega,
        Finset.sum_range_succ _ (n % 8 + 1)]

theorem flushed_prod (c : Dev nD) (t : Fin cfg0.N) (hf : (cfg0.win 2).flush t = true) :
    (dats m 0 c).flushed 2 t = ((cfg0.win 2).blk t).view.read (Elt Ideal) (prod m c) := by
  have hm : t.val % 8 = 7 := (flush0_2 t).mp hf
  rw [flushed2_C m c t (by omega) (by omega) hm, out_C]
  obtain ⟨e0, e1⟩ := index_2 t
  funext y
  obtain ⟨p, q, hy⟩ : ∃ (p : Fin 512) (q : Fin 1024), (cfg0.win 2).xinj (grid0.coords t) y = ix2 p q :=
    ⟨_, _, (ix2_eta (n0 := 512) (n1 := 1024) _).symm⟩
  rw [View.read_apply]
  show k0_pay4 _ ((cfg0.win 2).xinj (grid0.coords t) y) = _
  have h0 : (((cfg0.win 2).blk t).view.emb y 0).val = t.val / 8 * 512 + p.val := by
    have : (y 0).val = p.val := congrArg (fun j : S512x1024.Idx => (j 0).val) hy
    show win0_2.index t 0 * 512 + 1 * (y 0).val = _; rw [e0, this, one_mul]
  have h1 : (((cfg0.win 2).blk t).view.emb y 1).val = 0 * 1024 + q.val := by
    have : (y 1).val = q.val := congrArg (fun j : S512x1024.Idx => (j 1).val) hy
    show win0_2.index t 1 * 1024 + 1 * (y 1).val = _; rw [e1, this, one_mul]
  rw [hy, pay4_at, pay3_tile, acc_at m c _ _ (by omega)]
  rw [prod_runs, h0, h1, show (t.val - 1) / 8 = t.val / 8 by omega, show (t.val - 1) % 8 + 1 = 7 by omega, hm]
  exact (Finset.sum_range_succ (term m c (t.val / 8 * 512 + p.val) (0 * 1024 + q.val)) 7).symm

theorem final_prod (c : Dev nD) : (dats m 0 c).arrAt 2 cfg0.N = prod m c :=
  (dats m 0 c).arrAt_eq_of_cover 2 _ (flushed_prod m c) fun i => (covered_iff2 i).2 (by
    have h0 : (i 0).val < 1024 := (i 0).isLt; have h1 : (i 1).val < 1024 := (i 1).isLt; omega)

/-- The kernel's result is the product. -/
theorem run_prod : θ_run defs (onTc (τ := τ) (main (F := Ideal))) ⟨m, fun _ => 0, ρ⟩ fun r => ∀ c : Dev nD,
      r.2.mem ((c : Thread nD τ).loc main_v0) = P (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_prod m c).trans (prod_eq m c)), (h c).2⟩) (run_blocks m ρ)

end Cert.Kernel5Ideal.Value

namespace Cert.Reference5Ideal.Value

open Cert.Reference5Ideal Cert.Reference5Ideal.Gen Cert.Prod Idealize.ShloMosaic Idealize.ShloMosaic.TcCoe
open Idealize.ShloMosaic.Tactic

/-- So is the reference's. -/
theorem dot_at (x : FVec Ideal S4096x1024 .bf16) (w : FVec Ideal S4096x1024 .bf16) (i : S1024x1024.Idx) :
    (truncf .bf16 (transpose S1024x1024 [1, 0]
      (Host.dotGeneral dot_S4096x1024_S4096x1024_S1024x1024_0_0_1_1_n_n none
        (extf .f32 (w : FVec Ideal S4096x1024 .bf16) bitsLt_bf16_f32 : FVec Ideal S4096x1024 .f32)
        (extf .f32 (x : FVec Ideal S4096x1024 .bf16) bitsLt_bf16_f32 : FVec Ideal S4096x1024 .f32) : FVec Ideal S1024x1024 .f32)
      transposes_S1024x1024_S1024x1024_1_0 : FVec Ideal S1024x1024 .f32) bitsLt_bf16_f32) i
      = (∑ k : Fin 4096, w (ix2 k (i 1)) * x (ix2 k (i 0)) : EReal) := by
  pointwise

theorem dot_prod (x : S4096x1024.Idx → EReal) (w : S4096x1024.Idx → EReal) :
    truncf .bf16 (transpose S1024x1024 [1, 0]
      (Host.dotGeneral dot_S4096x1024_S4096x1024_S1024x1024_0_0_1_1_n_n none
        (extf .f32 (w : FVec Ideal S4096x1024 .bf16) bitsLt_bf16_f32 : FVec Ideal S4096x1024 .f32)
        (extf .f32 (x : FVec Ideal S4096x1024 .bf16) bitsLt_bf16_f32 : FVec Ideal S4096x1024 .f32) : FVec Ideal S1024x1024 .f32)
      transposes_S1024x1024_S1024x1024_1_0 : FVec Ideal S1024x1024 .f32) bitsLt_bf16_f32
      = Cert.Kernel5Ideal.Value.P x w := by
  funext i
  refine (dot_at x w i).trans ?_
  unfold Cert.Kernel5Ideal.Value.P
  rw [Finset.sum_range]
  exact Finset.sum_congr rfl fun k _ =>
    (mul_comm (w (ix2 k (i 1)) : EReal) (x (ix2 k (i 0)))).trans (congrArg₂ (· * ·) (at2_fin x k (i 0)).symm (at2_fin w k (i 1)).symm)

end Cert.Reference5Ideal.Value

namespace Cert.Proof

open Idealize.ShloMosaic Idealize.SL.Sem

set_option smartUnfolding false in
/-- The frames of kernel and reference; the kernel's in floating point is that of its ideal text, proved for every float model. -/
theorem kernel5_frame : Cert.quiescent_Kernel5 := fun m ρ _ => Cert.Kernel5Ideal.Gen.frame (F := Bits) m ρ

theorem kernel5Ideal_frame : Cert.quiescent_Kernel5Ideal := fun m ρ _ => Cert.Kernel5Ideal.Gen.frame m ρ

theorem reference5_frame : Cert.quiescent_Reference5Ideal := fun m ρ _ =>
  (θ_run (Cert.Reference5Ideal.defs (F := Ideal)) _ _).mono
    (fun r h => ⟨fun c => (h c).2, sem_eq_zero_of_no_sems rfl r.2⟩) (Cert.Reference5Ideal.Value.run m ρ)

/-- Kernel and reference give the same product. -/
theorem algebraic5 : Cert.algebraic_Kernel5Ideal_Reference5Ideal := by
  intro m g m' g' _ hargs
  refine ⟨_, Cert.Kernel5Ideal.Value.run_prod m g, ?_⟩
  refine (θ_run (Cert.Reference5Ideal.defs (F := Ideal)) _ _).mono (fun r h c => ⟨?_, (h c).2⟩) (Cert.Reference5Ideal.Value.run m' g')
  obtain ⟨e0, e1⟩ := hargs c
  exact (h c).1.trans ((Cert.Reference5Ideal.Value.dot_prod _ _).trans (congrArg₂ Cert.Kernel5Ideal.Value.P e0 e1))

end Cert.Proof

end
-- ==== Proof.GluW.lean ====
/- The product `glu_w`: the gradient of the gate's weights, its contracted axis in eight runs of 512. -/
module

public import proofs.«01_k».proof.Defs
public import proofs.«01_k».proof.Proof.OutW
public import proofs.«01_k».proof.Proof.Gen.Kernel6
public import proofs.«01_k».proof.Proof.Gen.Kernel6Ideal.Value
public import proofs.«01_k».proof.Proof.Gen.Reference6Ideal.Run
public import Idealize.ShloMosaic.Lib.Tactic
public import Idealize.ShloMosaic.Lib.Pointwise
public import Idealize.ShloMosaic.Lib.Quiescent

@[expose] public section

noncomputable section

namespace Cert.Kernel6Ideal.Value

open Cert.Kernel6Ideal Cert.Kernel6Ideal.Gen Cert.Prod Idealize.ShloMosaic Idealize.ShloMosaic.TcCoe Idealize.SL.Sem
open Idealize.ShloMosaic.Tactic

theorem hz : (![0, 0] : Fin 2 → Nat) = fun _ => 0 := funext fun a => by fin_cases a <;> rfl

/-- The product as a function of the two arguments. -/
def P (x : Mat 4096 1024) (w : Mat 4096 1024) : Mat 1024 1024 := fun i =>
  ∑ k ∈ Finset.range 4096, at2 x k (i 0).val * at2 w k (i 1).val

section
variable {F : FTy → Type} [FloatOps F] (c : Dev nD) (i : grid0.Coords) (a3 : Memref sig .tc .vmem S512x512 .f32) (h3 : a3.IsWhole)
  (a4 : Memref sig .tc .vmem S512x1024 .bf16) (h4 : a4.IsWhole) (a5 : Memref sig .tc .vmem S512x1024 .bf16) (h5 : a5.IsWhole)
  (a6 : Memref sig .tc .vmem S512x1024 .f32) (h6 : a6.IsWhole)
  (x0 : Vec F S512x512 .f32) (x1 : Vec F S512x1024 .bf16)

theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S512x512) hz, View.ld_unit_zero (S := S512x1024) hz]

theorem sout_B (hc0 : ¬cond0_0 i) (hc1 : cond0_1 i) (hc2 : ¬cond0_2 i) (xs : Vec F S512x1024 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  simp only [View.readAt_eq_ld, h3.read_unread, h4.read_unread, h6.read_unread, View.ld_unit_zero (S := S512x512) hz, View.ld_unit_zero (S := S512x1024) hz]

theorem out_C (hc0 : ¬cond0_0 i) (hc1 : cond0_1 i) (hc2 : cond0_2 i) (xs : Vec F S512x1024 .f32) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S512x1024) _ hz]
  simp only [View.readAt_eq_ld, h3.read_unread, h4.read_unread, h6.read_unread, View.ld_unit_zero (S := S512x512) hz, View.ld_unit_zero (S := S512x1024) hz]

end

/-- A tile's product at an index. -/
theorem pay1_at (x0 : Vec Ideal S512x512 .f32) (x1 : Vec Ideal S512x1024 .bf16) (p : Fin 512) (q : Fin 1024) :
    k0_pay1 x0 x1 (ix2 p q) = (∑ k : Fin 512, x0 (ix2 k p) * x1 (ix2 k q) : EReal) := by
  pointwise [k0_pay1]

theorem pay2_at (x0 : Vec Ideal S512x512 .f32) (x1 : Vec Ideal S512x1024 .bf16) (p : Fin 512) (q : Fin 1024) :
    k0_pay2 x0 x1 (ix2 p q) = (∑ k : Fin 512, x0 (ix2 k p) * x1 (ix2 k q) : EReal) := by
  unfold k0_pay2
  rw [shapeCast_self]
  exact pay1_at x0 x1 p q

theorem pay3_at (x0 : Vec Ideal S512x512 .f32) (x1 : Vec Ideal S512x1024 .bf16) (a : Vec Ideal S512x1024 .f32) (p : Fin 512) (q : Fin 1024) :
    k0_pay3 x0 x1 a (ix2 p q) = (a (ix2 p q) + ∑ k : Fin 512, x0 (ix2 k p) * x1 (ix2 k q) : EReal) := by
  unfold k0_pay3
  rw [shapeCast_self]
  show (_ + _ : EReal) = _
  rw [pay1_at x0 x1 p q]

theorem pay4_at (a : Vec Ideal S512x1024 .f32) (y : S512x1024.Idx) : k0_pay4 a y = (a y : EReal) := rfl

variable (m : (ℓ : Loc nD τ sig) → Buf (Elt Ideal) ℓ) (ρ : Dev nD → PrngReg)

/-- The two factors. -/
abbrev lhs (c : Dev nD) : S4096x1024.Idx → EReal := m ((c : Thread nD τ).loc main_arg0)
abbrev rhs (c : Dev nD) : S4096x1024.Idx → EReal := m ((c : Thread nD τ).loc main_arg1)

/-- Where the windows stand at a grid point. -/
theorem index_0 : ∀ t : Fin grid0.N, win0_0.index t 0 = t.val % 8 ∧ win0_0.index t 1 = t.val / 8 := by decide +kernel
theorem index_1 : ∀ t : Fin grid0.N, win0_1.index t 0 = t.val % 8 ∧ win0_1.index t 1 = 0 := by decide +kernel
theorem index_2 : ∀ t : Fin grid0.N, win0_2.index t 0 = t.val / 8 ∧ win0_2.index t 1 = 0 := by decide +kernel

theorem iblk_0 (c : Dev nD) (t : Fin cfg0.N) (p : Fin 512) (k : Fin 512) :
    (iblk m c 0 t : Vec Ideal S512x512 .f32) (ix2 k p) = at2 (lhs m c) (t.val % 8 * 512 + k.val) (t.val / 8 * 512 + p.val) := by
  obtain ⟨e0, e1⟩ := index_0 t
  unfold iblk
  rw [View.read_apply]
  refine at2_idx (lhs m c) _ _ _ ?_ ?_
  · show win0_0.index t 0 * 512 + 1 * k.val = _; rw [e0, one_mul]
  · show win0_0.index t 1 * 512 + 1 * p.val = _; rw [e1, one_mul]

theorem iblk_1 (c : Dev nD) (t : Fin cfg0.N) (q : Fin 1024) (k : Fin 512) :
    (iblk m c 1 t : Vec Ideal S512x1024 .bf16) (ix2 k q) = at2 (rhs m c) (t.val % 8 * 512 + k.val) (0 * 1024 + q.val) := by
  obtain ⟨e0, e1⟩ := index_1 t
  unfold iblk
  rw [View.read_apply]
  refine at2_idx (rhs m c) _ _ _ ?_ ?_
  · show win0_1.index t 0 * 512 + 1 * k.val = _; rw [e0, one_mul]
  · show win0_1.index t 1 * 1024 + 1 * q.val = _; rw [e1, one_mul]

/-- One run of the contracted axis. -/
def term (c : Dev nD) (r s l : ℕ) : EReal :=
  ∑ j ∈ Finset.range 512, at2 (lhs m c) (l * 512 + j) r * at2 (rhs m c) (l * 512 + j) s

theorem tile (c : Dev nD) (t : Fin cfg0.N) (p : Fin 512) (q : Fin 1024) (x0 : S512x512.Idx → EReal) (x1 : S512x1024.Idx → EReal)
    (h0 : x0 = iblk m c 0 t) (h1 : x1 = iblk m c 1 t) :
    (∑ k : Fin 512, x0 (ix2 k p) * x1 (ix2 k q)) = term m c (t.val / 8 * 512 + p.val) (0 * 1024 + q.val) (t.val % 8) := by
  unfold term
  rw [Finset.sum_range]
  exact Finset.sum_congr rfl fun k _ =>
    congrArg₂ (· * ·) ((congrFun h0 _).trans (iblk_0 m c t p k)) ((congrFun h1 _).trans (iblk_1 m c t q k))

/-- The whole product, from the two factors. -/
def prod (c : Dev nD) : S1024x1024.Idx → EReal := fun i =>
  ∑ k ∈ Finset.range 4096, at2 (lhs m c) k (i 0).val * at2 (rhs m c) k (i 1).val

theorem prod_runs (c : Dev nD) (i : S1024x1024.Idx) : prod m c i = ∑ l ∈ Finset.range 8, term m c (i 0).val (i 1).val l := by
  unfold prod term
  exact sum_runs _ 8 512 (by norm_num)

theorem prod_eq (c : Dev nD) : prod m c = P (m ((c : Thread nD τ).loc main_arg0)) (m ((c : Thread nD τ).loc main_arg1)) := rfl

theorem pay2_tile (c : Dev nD) (t : Fin cfg0.N) (p : Fin 512) (q : Fin 1024) :
    k0_pay2 (iblk m c 0 t) (iblk m c 1 t) (ix2 p q) = term m c (t.val / 8 * 512 + p.val) (0 * 1024 + q.val) (t.val % 8) :=
  (pay2_at _ _ p q).trans (tile m c t p q _ _ rfl rfl)

theorem pay3_tile (c : Dev nD) (t : Fin cfg0.N) (a : Vec Ideal S512x1024 .f32) (p : Fin 512) (q : Fin 1024) :
    k0_pay3 (iblk m c 0 t) (iblk m c 1 t) a (ix2 p q)
      = (a (ix2 p q) + term m c (t.val / 8 * 512 + p.val) (0 * 1024 + q.val) (t.val % 8) : EReal) :=
  (pay3_at _ _ a p q).trans (congrArg (fun z : EReal => (a (ix2 p q) + z : EReal)) (tile m c t p q _ _ rfl rfl))

/-- What the scratch holds after a point: the sum of the runs so far. -/
theorem acc_at (c : Dev nD) : ∀ (n : ℕ) (h : n < cfg0.N), n % 8 < 7 → ∀ (p : Fin 512) (q : Fin 1024),
    (outsAt0 m c n h).2 (ix2 p q)
      = (∑ l ∈ Finset.range (n % 8 + 1), term m c (n / 8 * 512 + p.val) (0 * 1024 + q.val) l : EReal) := by
  intro n
  induction n with
  | zero =>
    intro h _ p q
    rw [outsAt0_A m c ⟨0, h⟩ rfl (by dsimp only; omega) (by dsimp only; omega)]
    dsimp only
    rw [sout_A, pay2_tile]
    simp
  | succ n ih =>
    intro h h2 p q
    by_cases h0 : (n + 1) % 8 = 0
    · rw [outsAt0_A m c ⟨n + 1, h⟩ h0 (by dsimp only; omega) (by dsimp only; omega)]
      dsimp only
      rw [sout_A, pay2_tile]
      simp [h0]
    · rw [outsAt0_B m c ⟨n + 1, h⟩ h0 (by dsimp only; omega) (by dsimp only; omega)]
      dsimp only
      rw [sout_B, pay3_tile]
      show ((outsAt0 m c n _).2 (ix2 p q) + _ : EReal) = _
      rw [ih _ (by omega) p q, show n / 8 = (n + 1) / 8 by omega, show (n + 1) % 8 = n % 8 + 1 by omega,
        Finset.sum_range_succ _ (n % 8 + 1)]

theorem flushed_prod (c : Dev nD) (t : Fin cfg0.N) (hf : (cfg0.win 2).flush t = true) :
    (dats m 0 c).flushed 2 t = ((cfg0.win 2).blk t).view.read (Elt Ideal) (prod m c) := by
  have hm : t.val % 8 = 7 := (flush0_2 t).mp hf
  rw [flushed2_C m c t (by omega) (by omega) hm, out_C]
  obtain ⟨e0, e1⟩ := index_2 t
  funext y
  obtain ⟨p, q, hy⟩ : ∃ (p : Fin 512) (q : Fin 1024), (cfg0.win 2).xinj (grid0.coords t) y = ix2 p q :=
    ⟨_, _, (ix2_eta (n0 := 512) (n1 := 1024) _).symm⟩
  rw [View.read_apply]
  show k0_pay4 _ ((cfg0.win 2).xinj (grid0.coords t) y) = _
  have h0 : (((cfg0.win 2).blk t).view.emb y 0).val = t.val / 8 * 512 + p.val := by
    have : (y 0).val = p.val := congrArg (fun j : S512x1024.Idx => (j 0).val) hy
    show win0_2.index t 0 * 512 + 1 * (y 0).val = _; rw [e0, this, one_mul]
  have h1 : (((cfg0.win 2).blk t).view.emb y 1).val = 0 * 1024 + q.val := by
    have : (y 1).val = q.val := congrArg (fun j : S512x1024.Idx => (j 1).val) hy
    show win0_2.index t 1 * 1024 + 1 * (y 1).val = _; rw [e1, this, one_mul]
  rw [hy, pay4_at, pay3_tile, acc_at m c _ _ (by omega)]
  rw [prod_runs, h0, h1, show (t.val - 1) / 8 = t.val / 8 by omega, show (t.val - 1) % 8 + 1 = 7 by omega, hm]
  exact (Finset.sum_range_succ (term m c (t.val / 8 * 512 + p.val) (0 * 1024 + q.val)) 7).symm

theorem final_prod (c : Dev nD) : (dats m 0 c).arrAt 2 cfg0.N = prod m c :=
  (dats m 0 c).arrAt_eq_of_cover 2 _ (flushed_prod m c) fun i => (covered_iff2 i).2 (by
    have h0 : (i 0).val < 1024 := (i 0).isLt; have h1 : (i 1).val < 1024 := (i 1).isLt; omega)

/-- The kernel's result is the product. -/
theorem run_prod : θ_run defs (onTc (τ := τ) (main (F := Ideal))) ⟨m, fun _ => 0, ρ⟩ fun r => ∀ c : Dev nD,
      r.2.mem ((c : Thread nD τ).loc main_v0) = P (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_prod m c).trans (prod_eq m c)), (h c).2⟩) (run_blocks m ρ)

end Cert.Kernel6Ideal.Value

namespace Cert.Reference6Ideal.Value

open Cert.Reference6Ideal Cert.Reference6Ideal.Gen Cert.Prod Idealize.ShloMosaic Idealize.ShloMosaic.TcCoe
open Idealize.ShloMosaic.Tactic

/-- So is the reference's. -/
theorem dot_at (x : FVec Ideal S4096x1024 .f32) (w : FVec Ideal S4096x1024 .bf16) (i : S1024x1024.Idx) :
    (truncf .bf16 (transpose S1024x1024 [1, 0]
      (Host.dotGeneral (φ₂ := .f32) dot_S4096x1024_S4096x1024_S1024x1024_0_0_1_1_n_n none
        (extf .f32 (w : FVec Ideal S4096x1024 .bf16) bitsLt_bf16_f32 : FVec Ideal S4096x1024 .f32)
        (x : FVec Ideal S4096x1024 .f32) : FVec Ideal S1024x1024 .f32)
      transposes_S1024x1024_S1024x1024_1_0 : FVec Ideal S1024x1024 .f32) bitsLt_bf16_f32) i
      = (∑ k : Fin 4096, w (ix2 k (i 1)) * x (ix2 k (i 0)) : EReal) := by
  pointwise

theorem dot_prod (x : S4096x1024.Idx → EReal) (w : S4096x1024.Idx → EReal) :
    truncf .bf16 (transpose S1024x1024 [1, 0]
      (Host.dotGeneral (φ₂ := .f32) dot_S4096x1024_S4096x1024_S1024x1024_0_0_1_1_n_n none
        (extf .f32 (w : FVec Ideal S4096x1024 .bf16) bitsLt_bf16_f32 : FVec Ideal S4096x1024 .f32)
        (x : FVec Ideal S4096x1024 .f32) : FVec Ideal S1024x1024 .f32)
      transposes_S1024x1024_S1024x1024_1_0 : FVec Ideal S1024x1024 .f32) bitsLt_bf16_f32
      = Cert.Kernel6Ideal.Value.P x w := by
  funext i
  refine (dot_at x w i).trans ?_
  unfold Cert.Kernel6Ideal.Value.P
  rw [Finset.sum_range]
  exact Finset.sum_congr rfl fun k _ =>
    (mul_comm (w (ix2 k (i 1)) : EReal) (x (ix2 k (i 0)))).trans (congrArg₂ (· * ·) (at2_fin x k (i 0)).symm (at2_fin w k (i 1)).symm)

end Cert.Reference6Ideal.Value

namespace Cert.Proof

open Idealize.ShloMosaic Idealize.SL.Sem

set_option smartUnfolding false in
/-- The frames of kernel and reference; the kernel's in floating point is that of its ideal text, proved for every float model. -/
theorem kernel6_frame : Cert.quiescent_Kernel6 := fun m ρ _ => Cert.Kernel6Ideal.Gen.frame (F := Bits) m ρ

theorem kernel6Ideal_frame : Cert.quiescent_Kernel6Ideal := fun m ρ _ => Cert.Kernel6Ideal.Gen.frame m ρ

theorem reference6_frame : Cert.quiescent_Reference6Ideal := fun m ρ _ =>
  (θ_run (Cert.Reference6Ideal.defs (F := Ideal)) _ _).mono
    (fun r h => ⟨fun c => (h c).2, sem_eq_zero_of_no_sems rfl r.2⟩) (Cert.Reference6Ideal.Value.run m ρ)

/-- Kernel and reference give the same product. -/
theorem algebraic6 : Cert.algebraic_Kernel6Ideal_Reference6Ideal := by
  intro m g m' g' _ hargs
  refine ⟨_, Cert.Kernel6Ideal.Value.run_prod m g, ?_⟩
  refine (θ_run (Cert.Reference6Ideal.defs (F := Ideal)) _ _).mono (fun r h c => ⟨?_, (h c).2⟩) (Cert.Reference6Ideal.Value.run m' g')
  obtain ⟨e0, e1⟩ := hargs c
  exact (h c).1.trans ((Cert.Reference6Ideal.Value.dot_prod _ _).trans (congrArg₂ Cert.Kernel6Ideal.Value.P e0 e1))

end Cert.Proof

end
-- ==== Proof.ProjF.lean ====
/- The product `proj`: the forward projection, one tile of the contracted axis. -/
module

public import proofs.«01_k».proof.Defs
public import proofs.«01_k».proof.Proof.GluW
public import proofs.«01_k».proof.Proof.Gen.Kernel7
public import proofs.«01_k».proof.Proof.Gen.Kernel7Ideal.Value
public import proofs.«01_k».proof.Proof.Gen.Reference7Ideal.Run
public import Idealize.ShloMosaic.Lib.Tactic
public import Idealize.ShloMosaic.Lib.Pointwise
public import Idealize.ShloMosaic.Lib.Quiescent

@[expose] public section

noncomputable section

namespace Cert.Kernel7Ideal.Value

open Cert.Kernel7Ideal Cert.Kernel7Ideal.Gen Cert.Prod Idealize.ShloMosaic Idealize.ShloMosaic.TcCoe Idealize.SL.Sem
open Idealize.ShloMosaic.Tactic

theorem hz : (![0, 0] : Fin 2 → Nat) = fun _ => 0 := funext fun a => by fin_cases a <;> rfl

/-- The product as a function of the two arguments. -/
def P (x : Mat 4096 1024) (w : Mat 1024 8448) : Mat 4096 8448 := fun i =>
  ∑ k ∈ Finset.range 1024, at2 x (i 0).val k * at2 w k (i 1).val

section
variable {F : FTy → Type} [FloatOps F]

theorem out_A (c : Dev nD) (i : grid0.Coords) (a3 : Memref sig .tc .vmem S1024x1024 .bf16) (h3 : a3.IsWhole)
    (a4 : Memref sig .tc .vmem S1024x2816 .bf16) (h4 : a4.IsWhole) (a5 : Memref sig .tc .vmem S1024x2816 .f32) (h5 : a5.IsWhole)
    (a6 : Memref sig .tc .vmem S8x128 .f32) (h6 : a6.IsWhole)
    (x0 : Vec F S1024x1024 .bf16) (x1 : Vec F S1024x2816 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz, View.ld_unit_zero (S := S1024x2816) hz]

end

/-- A tile's product at an index. -/
theorem pay1_at (x0 : Vec Ideal S1024x1024 .bf16) (x1 : Vec Ideal S1024x2816 .bf16) (p : Fin 1024) (q : Fin 2816) :
    k0_pay1 x0 x1 (ix2 p q) = (∑ k : Fin 1024, x0 (ix2 p k) * x1 (ix2 k q) : EReal) := by
  pointwise [k0_pay1]

variable (m : (ℓ : Loc nD τ sig) → Buf (Elt Ideal) ℓ) (ρ : Dev nD → PrngReg)

/-- The two factors. -/
abbrev lhs (c : Dev nD) : S4096x1024.Idx → EReal := m ((c : Thread nD τ).loc main_arg0)
abbrev rhs (c : Dev nD) : S1024x8448.Idx → EReal := m ((c : Thread nD τ).loc main_arg1)

/-- Where the windows stand at a grid point. -/
theorem index_0 : ∀ t : Fin grid0.N, win0_0.index t 0 = t.val / 3 ∧ win0_0.index t 1 = 0 := by decide +kernel
theorem index_1 : ∀ t : Fin grid0.N, win0_1.index t 0 = 0 ∧ win0_1.index t 1 = t.val % 3 := by decide +kernel
theorem index_2 : ∀ t : Fin grid0.N, win0_2.index t 0 = t.val / 3 ∧ win0_2.index t 1 = t.val % 3 := by decide +kernel

theorem iblk_0 (c : Dev nD) (t : Fin cfg0.N) (p : Fin 1024) (k : Fin 1024) :
    (iblk m c 0 t : Vec Ideal S1024x1024 .bf16) (ix2 p k) = at2 (lhs m c) (t.val / 3 * 1024 + p.val) (0 * 1024 + k.val) := by
  obtain ⟨e0, e1⟩ := index_0 t
  unfold iblk
  rw [View.read_apply]
  refine at2_idx (lhs m c) _ _ _ ?_ ?_
  · show win0_0.index t 0 * 1024 + 1 * p.val = _; rw [e0, one_mul]
  · show win0_0.index t 1 * 1024 + 1 * k.val = _; rw [e1, one_mul]

theorem iblk_1 (c : Dev nD) (t : Fin cfg0.N) (q : Fin 2816) (k : Fin 1024) :
    (iblk m c 1 t : Vec Ideal S1024x2816 .bf16) (ix2 k q) = at2 (rhs m c) (0 * 1024 + k.val) (t.val % 3 * 2816 + q.val) := by
  obtain ⟨e0, e1⟩ := index_1 t
  unfold iblk
  rw [View.read_apply]
  refine at2_idx (rhs m c) _ _ _ ?_ ?_
  · show win0_1.index t 0 * 1024 + 1 * k.val = _; rw [e0, one_mul]
  · show win0_1.index t 1 * 2816 + 1 * q.val = _; rw [e1, one_mul]

/-- One run of the contracted axis. -/
def term (c : Dev nD) (r s l : ℕ) : EReal :=
  ∑ j ∈ Finset.range 1024, at2 (lhs m c) r (l * 1024 + j) * at2 (rhs m c) (l * 1024 + j) s

theorem tile (c : Dev nD) (t : Fin cfg0.N) (p : Fin 1024) (q : Fin 2816) (x0 : S1024x1024.Idx → EReal) (x1 : S1024x2816.Idx → EReal)
    (h0 : x0 = iblk m c 0 t) (h1 : x1 = iblk m c 1 t) :
    (∑ k : Fin 1024, x0 (ix2 p k) * x1 (ix2 k q)) = term m c (t.val / 3 * 1024 + p.val) (t.val % 3 * 2816 + q.val) (0) := by
  unfold term
  rw [Finset.sum_range]
  exact Finset.sum_congr rfl fun k _ =>
    congrArg₂ (· * ·) ((congrFun h0 _).trans (iblk_0 m c t p k)) ((congrFun h1 _).trans (iblk_1 m c t q k))

/-- The whole product, from the two factors. -/
def prod (c : Dev nD) : S4096x8448.Idx → EReal := fun i =>
  ∑ k ∈ Finset.range 1024, at2 (lhs m c) (i 0).val k * at2 (rhs m c) k (i 1).val

theorem prod_runs (c : Dev nD) (i : S4096x8448.Idx) : prod m c i = ∑ l ∈ Finset.range 1, term m c (i 0).val (i 1).val l := by
  unfold prod term
  exact sum_runs _ 1 1024 (by norm_num)

theorem prod_eq (c : Dev nD) : prod m c = P (m ((c : Thread nD τ).loc main_arg0)) (m ((c : Thread nD τ).loc main_arg1)) := rfl

theorem flushed_prod (c : Dev nD) (t : Fin cfg0.N) (hf : (cfg0.win 2).flush t = true) :
    (dats m 0 c).flushed 2 t = ((cfg0.win 2).blk t).view.read (Elt Ideal) (prod m c) := by
  rw [flushed2_A m c t, out_A]
  obtain ⟨e0, e1⟩ := index_2 t
  funext y
  obtain ⟨p, q, hy⟩ : ∃ (p : Fin 1024) (q : Fin 2816), (cfg0.win 2).xinj (grid0.coords t) y = ix2 p q :=
    ⟨_, _, (ix2_eta (n0 := 1024) (n1 := 2816) _).symm⟩
  rw [View.read_apply]
  show k0_pay1 _ _ ((cfg0.win 2).xinj (grid0.coords t) y) = _
  have h0 : (((cfg0.win 2).blk t).view.emb y 0).val = t.val / 3 * 1024 + p.val := by
    have : (y 0).val = p.val := congrArg (fun j : S1024x2816.Idx => (j 0).val) hy
    show win0_2.index t 0 * 1024 + 1 * (y 0).val = _; rw [e0, this, one_mul]
  have h1 : (((cfg0.win 2).blk t).view.emb y 1).val = t.val % 3 * 2816 + q.val := by
    have : (y 1).val = q.val := congrArg (fun j : S1024x2816.Idx => (j 1).val) hy
    show win0_2.index t 1 * 2816 + 1 * (y 1).val = _; rw [e1, this, one_mul]
  rw [hy, prod_runs, h0, h1, Finset.sum_range_one]
  exact (pay1_at _ _ p q).trans (tile m c t p q _ _ rfl rfl)

/-- The point that writes an index of the result back. -/
def pointOf (i : S4096x8448.Idx) : Fin cfg0.N := ⟨(i 0).val / 1024 * 3 + (i 1).val / 2816, lt_of_lt_of_eq (by
  have h0 : (i 0).val < 4096 := (i 0).isLt
  have h1 : (i 1).val < 8448 := (i 1).isLt
  omega) N_0.symm⟩

theorem covered (i : S4096x8448.Idx) : i ∈ ((cfg0.win 2).blk (pointOf i)).view.set := by
  show i ∈ ((View.whole main_v0).slice (win0_2.rect (pointOf i))).set
  rw [View.set_slice_whole, Rect.mem_set_unit]
  obtain ⟨e0, e1⟩ := index_2 (pointOf i)
  have h0 : (i 0).val < 4096 := (i 0).isLt
  have h1 : (i 1).val < 8448 := (i 1).isLt
  have hv : (pointOf i).val = (i 0).val / 1024 * 3 + (i 1).val / 2816 := rfl
  intro a
  match a with
  | ⟨0, _⟩ =>
    show win0_2.index (pointOf i) 0 * 1024 ≤ (i 0).val ∧ (i 0).val < win0_2.index (pointOf i) 0 * 1024 + 1024
    rw [e0, hv]; omega
  | ⟨1, _⟩ =>
    show win0_2.index (pointOf i) 1 * 2816 ≤ (i 1).val ∧ (i 1).val < win0_2.index (pointOf i) 1 * 2816 + 2816
    rw [e1, hv]; omega

theorem final_prod (c : Dev nD) : (dats m 0 c).arrAt 2 cfg0.N = prod m c :=
  (dats m 0 c).arrAt_eq_of_cover 2 _ (flushed_prod m c) fun i => ⟨pointOf i, flush0_2 _, covered i⟩

/-- The kernel's result is the product. -/
theorem run_prod : θ_run defs (onTc (τ := τ) (main (F := Ideal))) ⟨m, fun _ => 0, ρ⟩ fun r => ∀ c : Dev nD,
      r.2.mem ((c : Thread nD τ).loc main_v0) = P (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_prod m c).trans (prod_eq m c)), (h c).2⟩) (run_blocks m ρ)

end Cert.Kernel7Ideal.Value

namespace Cert.Reference7Ideal.Value

open Cert.Reference7Ideal Cert.Reference7Ideal.Gen Cert.Prod Idealize.ShloMosaic Idealize.ShloMosaic.TcCoe
open Idealize.ShloMosaic.Tactic

/-- So is the reference's. -/
theorem dot_at (x : FVec Ideal S4096x1024 .bf16) (w : FVec Ideal S1024x8448 .bf16) (i : S4096x8448.Idx) :
    (Host.dotGeneral dot_S4096x1024_S1024x8448_S4096x8448_1_0_0_1_n_n none
      (extf .f32 (x : FVec Ideal S4096x1024 .bf16) bitsLt_bf16_f32 : FVec Ideal S4096x1024 .f32)
      (extf .f32 (w : FVec Ideal S1024x8448 .bf16) bitsLt_bf16_f32 : FVec Ideal S1024x8448 .f32)) i
      = (∑ k : Fin 1024, x (ix2 (i 0) k) * w (ix2 k (i 1)) : EReal) := by
  pointwise

theorem dot_prod (x : S4096x1024.Idx → EReal) (w : S1024x8448.Idx → EReal) :
    Host.dotGeneral dot_S4096x1024_S1024x8448_S4096x8448_1_0_0_1_n_n none
      (extf .f32 (x : FVec Ideal S4096x1024 .bf16) bitsLt_bf16_f32 : FVec Ideal S4096x1024 .f32)
      (extf .f32 (w : FVec Ideal S1024x8448 .bf16) bitsLt_bf16_f32 : FVec Ideal S1024x8448 .f32)
      = Cert.Kernel7Ideal.Value.P x w := by
  funext i
  refine (dot_at x w i).trans ?_
  unfold Cert.Kernel7Ideal.Value.P
  rw [Finset.sum_range]
  exact Finset.sum_congr rfl fun k _ => congrArg₂ (· * ·) (at2_fin x (i 0) k).symm (at2_fin w k (i 1)).symm

end Cert.Reference7Ideal.Value

namespace Cert.Proof

open Idealize.ShloMosaic Idealize.SL.Sem

set_option smartUnfolding false in
/-- The frames of kernel and reference; the kernel's in floating point is that of its ideal text, proved for every float model. -/
theorem kernel7_frame : Cert.quiescent_Kernel7 := fun m ρ _ => Cert.Kernel7Ideal.Gen.frame (F := Bits) m ρ

theorem kernel7Ideal_frame : Cert.quiescent_Kernel7Ideal := fun m ρ _ => Cert.Kernel7Ideal.Gen.frame m ρ

theorem reference7_frame : Cert.quiescent_Reference7Ideal := fun m ρ _ =>
  (θ_run (Cert.Reference7Ideal.defs (F := Ideal)) _ _).mono
    (fun r h => ⟨fun c => (h c).2, sem_eq_zero_of_no_sems rfl r.2⟩) (Cert.Reference7Ideal.Value.run m ρ)

/-- Kernel and reference give the same product. -/
theorem algebraic7 : Cert.algebraic_Kernel7Ideal_Reference7Ideal := by
  intro m g m' g' _ hargs
  refine ⟨_, Cert.Kernel7Ideal.Value.run_prod m g, ?_⟩
  refine (θ_run (Cert.Reference7Ideal.defs (F := Ideal)) _ _).mono (fun r h c => ⟨?_, (h c).2⟩) (Cert.Reference7Ideal.Value.run m' g')
  obtain ⟨e0, e1⟩ := hargs c
  exact (h c).1.trans ((Cert.Reference7Ideal.Value.dot_prod _ _).trans (congrArg₂ Cert.Kernel7Ideal.Value.P e0 e1))

end Cert.Proof

end
-- ==== Proof.GluF.lean ====
/- The product `glu`: the forward gate, one tile of the contracted axis. -/
module

public import proofs.«01_k».proof.Defs
public import proofs.«01_k».proof.Proof.ProjF
public import proofs.«01_k».proof.Proof.Gen.Kernel8
public import proofs.«01_k».proof.Proof.Gen.Kernel8Ideal.Value
public import proofs.«01_k».proof.Proof.Gen.Reference8Ideal.Run
public import Idealize.ShloMosaic.Lib.Tactic
public import Idealize.ShloMosaic.Lib.Pointwise
public import Idealize.ShloMosaic.Lib.Quiescent

@[expose] public section

noncomputable section

namespace Cert.Kernel8Ideal.Value

open Cert.Kernel8Ideal Cert.Kernel8Ideal.Gen Cert.Prod Idealize.ShloMosaic Idealize.ShloMosaic.TcCoe Idealize.SL.Sem
open Idealize.ShloMosaic.Tactic

theorem hz : (![0, 0] : Fin 2 → Nat) = fun _ => 0 := funext fun a => by fin_cases a <;> rfl

/-- The product as a function of the two arguments. -/
def P (x : Mat 4096 1024) (w : Mat 1024 1024) : Mat 4096 1024 := fun i =>
  ∑ k ∈ Finset.range 1024, at2 x (i 0).val k * at2 w k (i 1).val

section
variable {F : FTy → Type} [FloatOps F]

theorem out_A (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (a6 : Memref sig .tc .vmem S8x128 .f32) (h6 : a6.IsWhole)
    (x0 : Vec F S1024x1024 .f32) (x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz]

end

/-- A tile's product at an index. -/
theorem pay1_at (x0 : Vec Ideal S1024x1024 .f32) (x1 : Vec Ideal S1024x1024 .bf16) (p : Fin 1024) (q : Fin 1024) :
    k0_pay1 x0 x1 (ix2 p q) = (∑ k : Fin 1024, x0 (ix2 p k) * x1 (ix2 k q) : EReal) := by
  pointwise [k0_pay1]

variable (m : (ℓ : Loc nD τ sig) → Buf (Elt Ideal) ℓ) (ρ : Dev nD → PrngReg)

/-- The two factors. -/
abbrev lhs (c : Dev nD) : S4096x1024.Idx → EReal := m ((c : Thread nD τ).loc main_arg0)
abbrev rhs (c : Dev nD) : S1024x1024.Idx → EReal := m ((c : Thread nD τ).loc main_arg1)

/-- Where the windows stand at a grid point. -/
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem iblk_0 (c : Dev nD) (t : Fin cfg0.N) (p : Fin 1024) (k : Fin 1024) :
    (iblk m c 0 t : Vec Ideal S1024x1024 .f32) (ix2 p k) = at2 (lhs m c) (t.val * 1024 + p.val) (0 * 1024 + k.val) := by
  obtain ⟨e0, e1⟩ := index_0 t
  unfold iblk
  rw [View.read_apply]
  refine at2_idx (lhs m c) _ _ _ ?_ ?_
  · show win0_0.index t 0 * 1024 + 1 * p.val = _; rw [e0, one_mul]
  · show win0_0.index t 1 * 1024 + 1 * k.val = _; rw [e1, one_mul]

theorem iblk_1 (c : Dev nD) (t : Fin cfg0.N) (q : Fin 1024) (k : Fin 1024) :
    (iblk m c 1 t : Vec Ideal S1024x1024 .bf16) (ix2 k q) = at2 (rhs m c) (0 * 1024 + k.val) (0 * 1024 + q.val) := by
  obtain ⟨e0, e1⟩ := index_1 t
  unfold iblk
  rw [View.read_apply]
  refine at2_idx (rhs m c) _ _ _ ?_ ?_
  · show win0_1.index t 0 * 1024 + 1 * k.val = _; rw [e0, one_mul]
  · show win0_1.index t 1 * 1024 + 1 * q.val = _; rw [e1, one_mul]

/-- One run of the contracted axis. -/
def term (c : Dev nD) (r s l : ℕ) : EReal :=
  ∑ j ∈ Finset.range 1024, at2 (lhs m c) r (l * 1024 + j) * at2 (rhs m c) (l * 1024 + j) s

theorem tile (c : Dev nD) (t : Fin cfg0.N) (p : Fin 1024) (q : Fin 1024) (x0 : S1024x1024.Idx → EReal) (x1 : S1024x1024.Idx → EReal)
    (h0 : x0 = iblk m c 0 t) (h1 : x1 = iblk m c 1 t) :
    (∑ k : Fin 1024, x0 (ix2 p k) * x1 (ix2 k q)) = term m c (t.val * 1024 + p.val) (0 * 1024 + q.val) (0) := by
  unfold term
  rw [Finset.sum_range]
  exact Finset.sum_congr rfl fun k _ =>
    congrArg₂ (· * ·) ((congrFun h0 _).trans (iblk_0 m c t p k)) ((congrFun h1 _).trans (iblk_1 m c t q k))

/-- The whole product, from the two factors. -/
def prod (c : Dev nD) : S4096x1024.Idx → EReal := fun i =>
  ∑ k ∈ Finset.range 1024, at2 (lhs m c) (i 0).val k * at2 (rhs m c) k (i 1).val

theorem prod_runs (c : Dev nD) (i : S4096x1024.Idx) : prod m c i = ∑ l ∈ Finset.range 1, term m c (i 0).val (i 1).val l := by
  unfold prod term
  exact sum_runs _ 1 1024 (by norm_num)

theorem prod_eq (c : Dev nD) : prod m c = P (m ((c : Thread nD τ).loc main_arg0)) (m ((c : Thread nD τ).loc main_arg1)) := rfl

theorem flushed_prod (c : Dev nD) (t : Fin cfg0.N) (hf : (cfg0.win 2).flush t = true) :
    (dats m 0 c).flushed 2 t = ((cfg0.win 2).blk t).view.read (Elt Ideal) (prod m c) := by
  rw [flushed2_A m c t, out_A]
  obtain ⟨e0, e1⟩ := index_2 t
  funext y
  obtain ⟨p, q, hy⟩ : ∃ (p : Fin 1024) (q : Fin 1024), (cfg0.win 2).xinj (grid0.coords t) y = ix2 p q :=
    ⟨_, _, (ix2_eta (n0 := 1024) (n1 := 1024) _).symm⟩
  rw [View.read_apply]
  show k0_pay1 _ _ ((cfg0.win 2).xinj (grid0.coords t) y) = _
  have h0 : (((cfg0.win 2).blk t).view.emb y 0).val = t.val * 1024 + p.val := by
    have : (y 0).val = p.val := congrArg (fun j : S1024x1024.Idx => (j 0).val) hy
    show win0_2.index t 0 * 1024 + 1 * (y 0).val = _; rw [e0, this, one_mul]
  have h1 : (((cfg0.win 2).blk t).view.emb y 1).val = 0 * 1024 + q.val := by
    have : (y 1).val = q.val := congrArg (fun j : S1024x1024.Idx => (j 1).val) hy
    show win0_2.index t 1 * 1024 + 1 * (y 1).val = _; rw [e1, this, one_mul]
  rw [hy, prod_runs, h0, h1, Finset.sum_range_one]
  exact (pay1_at _ _ p q).trans (tile m c t p q _ _ rfl rfl)

/-- The point that writes an index of the result back. -/
def pointOf (i : S4096x1024.Idx) : Fin cfg0.N := ⟨(i 0).val / 1024, lt_of_lt_of_eq (by
  have h0 : (i 0).val < 4096 := (i 0).isLt
  have h1 : (i 1).val < 1024 := (i 1).isLt
  omega) N_0.symm⟩

theorem covered (i : S4096x1024.Idx) : i ∈ ((cfg0.win 2).blk (pointOf i)).view.set := by
  show i ∈ ((View.whole main_v0).slice (win0_2.rect (pointOf i))).set
  rw [View.set_slice_whole, Rect.mem_set_unit]
  obtain ⟨e0, e1⟩ := index_2 (pointOf i)
  have h0 : (i 0).val < 4096 := (i 0).isLt
  have h1 : (i 1).val < 1024 := (i 1).isLt
  have hv : (pointOf i).val = (i 0).val / 1024 := rfl
  intro a
  match a with
  | ⟨0, _⟩ =>
    show win0_2.index (pointOf i) 0 * 1024 ≤ (i 0).val ∧ (i 0).val < win0_2.index (pointOf i) 0 * 1024 + 1024
    rw [e0, hv]; omega
  | ⟨1, _⟩ =>
    show win0_2.index (pointOf i) 1 * 1024 ≤ (i 1).val ∧ (i 1).val < win0_2.index (pointOf i) 1 * 1024 + 1024
    rw [e1]; omega

theorem final_prod (c : Dev nD) : (dats m 0 c).arrAt 2 cfg0.N = prod m c :=
  (dats m 0 c).arrAt_eq_of_cover 2 _ (flushed_prod m c) fun i => ⟨pointOf i, flush0_2 _, covered i⟩

/-- The kernel's result is the product. -/
theorem run_prod : θ_run defs (onTc (τ := τ) (main (F := Ideal))) ⟨m, fun _ => 0, ρ⟩ fun r => ∀ c : Dev nD,
      r.2.mem ((c : Thread nD τ).loc main_v0) = P (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_prod m c).trans (prod_eq m c)), (h c).2⟩) (run_blocks m ρ)

end Cert.Kernel8Ideal.Value

namespace Cert.Reference8Ideal.Value

open Cert.Reference8Ideal Cert.Reference8Ideal.Gen Cert.Prod Idealize.ShloMosaic Idealize.ShloMosaic.TcCoe
open Idealize.ShloMosaic.Tactic

/-- So is the reference's. -/
theorem dot_at (x : FVec Ideal S4096x1024 .f32) (w : FVec Ideal S1024x1024 .bf16) (i : S4096x1024.Idx) :
    (Host.dotGeneral (φ₁ := .f32) dot_S4096x1024_S1024x1024_S4096x1024_1_0_0_1_n_n none
      (x : FVec Ideal S4096x1024 .f32)
      (extf .f32 (w : FVec Ideal S1024x1024 .bf16) bitsLt_bf16_f32 : FVec Ideal S1024x1024 .f32)) i
      = (∑ k : Fin 1024, x (ix2 (i 0) k) * w (ix2 k (i 1)) : EReal) := by
  pointwise

theorem dot_prod (x : S4096x1024.Idx → EReal) (w : S1024x1024.Idx → EReal) :
    Host.dotGeneral (φ₁ := .f32) dot_S4096x1024_S1024x1024_S4096x1024_1_0_0_1_n_n none
      (x : FVec Ideal S4096x1024 .f32)
      (extf .f32 (w : FVec Ideal S1024x1024 .bf16) bitsLt_bf16_f32 : FVec Ideal S1024x1024 .f32)
      = Cert.Kernel8Ideal.Value.P x w := by
  funext i
  refine (dot_at x w i).trans ?_
  unfold Cert.Kernel8Ideal.Value.P
  rw [Finset.sum_range]
  exact Finset.sum_congr rfl fun k _ => congrArg₂ (· * ·) (at2_fin x (i 0) k).symm (at2_fin w k (i 1)).symm

end Cert.Reference8Ideal.Value

namespace Cert.Proof

open Idealize.ShloMosaic Idealize.SL.Sem

set_option smartUnfolding false in
/-- The frames of kernel and reference; the kernel's in floating point is that of its ideal text, proved for every float model. -/
theorem kernel8_frame : Cert.quiescent_Kernel8 := fun m ρ _ => Cert.Kernel8Ideal.Gen.frame (F := Bits) m ρ

theorem kernel8Ideal_frame : Cert.quiescent_Kernel8Ideal := fun m ρ _ => Cert.Kernel8Ideal.Gen.frame m ρ

theorem reference8_frame : Cert.quiescent_Reference8Ideal := fun m ρ _ =>
  (θ_run (Cert.Reference8Ideal.defs (F := Ideal)) _ _).mono
    (fun r h => ⟨fun c => (h c).2, sem_eq_zero_of_no_sems rfl r.2⟩) (Cert.Reference8Ideal.Value.run m ρ)

/-- Kernel and reference give the same product. -/
theorem algebraic8 : Cert.algebraic_Kernel8Ideal_Reference8Ideal := by
  intro m g m' g' _ hargs
  refine ⟨_, Cert.Kernel8Ideal.Value.run_prod m g, ?_⟩
  refine (θ_run (Cert.Reference8Ideal.defs (F := Ideal)) _ _).mono (fun r h c => ⟨?_, (h c).2⟩) (Cert.Reference8Ideal.Value.run m' g')
  obtain ⟨e0, e1⟩ := hargs c
  exact (h c).1.trans ((Cert.Reference8Ideal.Value.dot_prod _ _).trans (congrArg₂ Cert.Kernel8Ideal.Value.P e0 e1))

end Cert.Proof

end
-- ==== Proof.OutF.lean ====
/- The product `out`: the forward output projection, one tile of the contracted axis. -/
module

public import proofs.«01_k».proof.Defs
public import proofs.«01_k».proof.Proof.GluF
public import proofs.«01_k».proof.Proof.Gen.Kernel9
public import proofs.«01_k».proof.Proof.Gen.Kernel9Ideal.Value
public import proofs.«01_k».proof.Proof.Gen.Reference9Ideal.Run
public import Idealize.ShloMosaic.Lib.Tactic
public import Idealize.ShloMosaic.Lib.Pointwise
public import Idealize.ShloMosaic.Lib.Quiescent

@[expose] public section

noncomputable section

namespace Cert.Kernel9Ideal.Value

open Cert.Kernel9Ideal Cert.Kernel9Ideal.Gen Cert.Prod Idealize.ShloMosaic Idealize.ShloMosaic.TcCoe Idealize.SL.Sem
open Idealize.ShloMosaic.Tactic

theorem hz : (![0, 0] : Fin 2 → Nat) = fun _ => 0 := funext fun a => by fin_cases a <;> rfl

/-- The product as a function of the two arguments. -/
def P (x : Mat 4096 1024) (w : Mat 1024 1024) : Mat 4096 1024 := fun i =>
  ∑ k ∈ Finset.range 1024, at2 x (i 0).val k * at2 w k (i 1).val

section
variable {F : FTy → Type} [FloatOps F]

theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S8x128 .f32) (h6 : a6.IsWhole)
    (x0 : Vec F S1024x1024 .bf16) (x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz]

end

/-- A tile's product at an index. -/
theorem pay1_at (x0 : Vec Ideal S1024x1024 .bf16) (x1 : Vec Ideal S1024x1024 .bf16) (p : Fin 1024) (q : Fin 1024) :
    k0_pay1 x0 x1 (ix2 p q) = (∑ k : Fin 1024, x0 (ix2 p k) * x1 (ix2 k q) : EReal) := by
  pointwise [k0_pay1]

variable (m : (ℓ : Loc nD τ sig) → Buf (Elt Ideal) ℓ) (ρ : Dev nD → PrngReg)

/-- The two factors. -/
abbrev lhs (c : Dev nD) : S4096x1024.Idx → EReal := m ((c : Thread nD τ).loc main_arg0)
abbrev rhs (c : Dev nD) : S1024x1024.Idx → EReal := m ((c : Thread nD τ).loc main_arg1)

/-- Where the windows stand at a grid point. -/
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem iblk_0 (c : Dev nD) (t : Fin cfg0.N) (p : Fin 1024) (k : Fin 1024) :
    (iblk m c 0 t : Vec Ideal S1024x1024 .bf16) (ix2 p k) = at2 (lhs m c) (t.val * 1024 + p.val) (0 * 1024 + k.val) := by
  obtain ⟨e0, e1⟩ := index_0 t
  unfold iblk
  rw [View.read_apply]
  refine at2_idx (lhs m c) _ _ _ ?_ ?_
  · show win0_0.index t 0 * 1024 + 1 * p.val = _; rw [e0, one_mul]
  · show win0_0.index t 1 * 1024 + 1 * k.val = _; rw [e1, one_mul]

theorem iblk_1 (c : Dev nD) (t : Fin cfg0.N) (q : Fin 1024) (k : Fin 1024) :
    (iblk m c 1 t : Vec Ideal S1024x1024 .bf16) (ix2 k q) = at2 (rhs m c) (0 * 1024 + k.val) (0 * 1024 + q.val) := by
  obtain ⟨e0, e1⟩ := index_1 t
  unfold iblk
  rw [View.read_apply]
  refine at2_idx (rhs m c) _ _ _ ?_ ?_
  · show win0_1.index t 0 * 1024 + 1 * k.val = _; rw [e0, one_mul]
  · show win0_1.index t 1 * 1024 + 1 * q.val = _; rw [e1, one_mul]

/-- One run of the contracted axis. -/
def term (c : Dev nD) (r s l : ℕ) : EReal :=
  ∑ j ∈ Finset.range 1024, at2 (lhs m c) r (l * 1024 + j) * at2 (rhs m c) (l * 1024 + j) s

theorem tile (c : Dev nD) (t : Fin cfg0.N) (p : Fin 1024) (q : Fin 1024) (x0 : S1024x1024.Idx → EReal) (x1 : S1024x1024.Idx → EReal)
    (h0 : x0 = iblk m c 0 t) (h1 : x1 = iblk m c 1 t) :
    (∑ k : Fin 1024, x0 (ix2 p k) * x1 (ix2 k q)) = term m c (t.val * 1024 + p.val) (0 * 1024 + q.val) (0) := by
  unfold term
  rw [Finset.sum_range]
  exact Finset.sum_congr rfl fun k _ =>
    congrArg₂ (· * ·) ((congrFun h0 _).trans (iblk_0 m c t p k)) ((congrFun h1 _).trans (iblk_1 m c t q k))

/-- The whole product, from the two factors. -/
def prod (c : Dev nD) : S4096x1024.Idx → EReal := fun i =>
  ∑ k ∈ Finset.range 1024, at2 (lhs m c) (i 0).val k * at2 (rhs m c) k (i 1).val

theorem prod_runs (c : Dev nD) (i : S4096x1024.Idx) : prod m c i = ∑ l ∈ Finset.range 1, term m c (i 0).val (i 1).val l := by
  unfold prod term
  exact sum_runs _ 1 1024 (by norm_num)

theorem prod_eq (c : Dev nD) : prod m c = P (m ((c : Thread nD τ).loc main_arg0)) (m ((c : Thread nD τ).loc main_arg1)) := rfl

theorem flushed_prod (c : Dev nD) (t : Fin cfg0.N) (hf : (cfg0.win 2).flush t = true) :
    (dats m 0 c).flushed 2 t = ((cfg0.win 2).blk t).view.read (Elt Ideal) (prod m c) := by
  rw [flushed2_A m c t, out_A]
  obtain ⟨e0, e1⟩ := index_2 t
  funext y
  obtain ⟨p, q, hy⟩ : ∃ (p : Fin 1024) (q : Fin 1024), (cfg0.win 2).xinj (grid0.coords t) y = ix2 p q :=
    ⟨_, _, (ix2_eta (n0 := 1024) (n1 := 1024) _).symm⟩
  rw [View.read_apply]
  show k0_pay1 _ _ ((cfg0.win 2).xinj (grid0.coords t) y) = _
  have h0 : (((cfg0.win 2).blk t).view.emb y 0).val = t.val * 1024 + p.val := by
    have : (y 0).val = p.val := congrArg (fun j : S1024x1024.Idx => (j 0).val) hy
    show win0_2.index t 0 * 1024 + 1 * (y 0).val = _; rw [e0, this, one_mul]
  have h1 : (((cfg0.win 2).blk t).view.emb y 1).val = 0 * 1024 + q.val := by
    have : (y 1).val = q.val := congrArg (fun j : S1024x1024.Idx => (j 1).val) hy
    show win0_2.index t 1 * 1024 + 1 * (y 1).val = _; rw [e1, this, one_mul]
  rw [hy, prod_runs, h0, h1, Finset.sum_range_one]
  exact (pay1_at _ _ p q).trans (tile m c t p q _ _ rfl rfl)

/-- The point that writes an index of the result back. -/
def pointOf (i : S4096x1024.Idx) : Fin cfg0.N := ⟨(i 0).val / 1024, lt_of_lt_of_eq (by
  have h0 : (i 0).val < 4096 := (i 0).isLt
  have h1 : (i 1).val < 1024 := (i 1).isLt
  omega) N_0.symm⟩

theorem covered (i : S4096x1024.Idx) : i ∈ ((cfg0.win 2).blk (pointOf i)).view.set := by
  show i ∈ ((View.whole main_v0).slice (win0_2.rect (pointOf i))).set
  rw [View.set_slice_whole, Rect.mem_set_unit]
  obtain ⟨e0, e1⟩ := index_2 (pointOf i)
  have h0 : (i 0).val < 4096 := (i 0).isLt
  have h1 : (i 1).val < 1024 := (i 1).isLt
  have hv : (pointOf i).val = (i 0).val / 1024 := rfl
  intro a
  match a with
  | ⟨0, _⟩ =>
    show win0_2.index (pointOf i) 0 * 1024 ≤ (i 0).val ∧ (i 0).val < win0_2.index (pointOf i) 0 * 1024 + 1024
    rw [e0, hv]; omega
  | ⟨1, _⟩ =>
    show win0_2.index (pointOf i) 1 * 1024 ≤ (i 1).val ∧ (i 1).val < win0_2.index (pointOf i) 1 * 1024 + 1024
    rw [e1]; omega

theorem final_prod (c : Dev nD) : (dats m 0 c).arrAt 2 cfg0.N = prod m c :=
  (dats m 0 c).arrAt_eq_of_cover 2 _ (flushed_prod m c) fun i => ⟨pointOf i, flush0_2 _, covered i⟩

/-- The kernel's result is the product. -/
theorem run_prod : θ_run defs (onTc (τ := τ) (main (F := Ideal))) ⟨m, fun _ => 0, ρ⟩ fun r => ∀ c : Dev nD,
      r.2.mem ((c : Thread nD τ).loc main_v0) = P (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_prod m c).trans (prod_eq m c)), (h c).2⟩) (run_blocks m ρ)

end Cert.Kernel9Ideal.Value

namespace Cert.Reference9Ideal.Value

open Cert.Reference9Ideal Cert.Reference9Ideal.Gen Cert.Prod Idealize.ShloMosaic Idealize.ShloMosaic.TcCoe
open Idealize.ShloMosaic.Tactic

/-- So is the reference's. -/
theorem dot_at (x : FVec Ideal S4096x1024 .bf16) (w : FVec Ideal S1024x1024 .bf16) (i : S4096x1024.Idx) :
    (Host.dotGeneral dot_S4096x1024_S1024x1024_S4096x1024_1_0_0_1_n_n none
      (extf .f32 (x : FVec Ideal S4096x1024 .bf16) bitsLt_bf16_f32 : FVec Ideal S4096x1024 .f32)
      (extf .f32 (w : FVec Ideal S1024x1024 .bf16) bitsLt_bf16_f32 : FVec Ideal S1024x1024 .f32)) i
      = (∑ k : Fin 1024, x (ix2 (i 0) k) * w (ix2 k (i 1)) : EReal) := by
  pointwise

theorem dot_prod (x : S4096x1024.Idx → EReal) (w : S1024x1024.Idx → EReal) :
    Host.dotGeneral dot_S4096x1024_S1024x1024_S4096x1024_1_0_0_1_n_n none
      (extf .f32 (x : FVec Ideal S4096x1024 .bf16) bitsLt_bf16_f32 : FVec Ideal S4096x1024 .f32)
      (extf .f32 (w : FVec Ideal S1024x1024 .bf16) bitsLt_bf16_f32 : FVec Ideal S1024x1024 .f32)
      = Cert.Kernel9Ideal.Value.P x w := by
  funext i
  refine (dot_at x w i).trans ?_
  unfold Cert.Kernel9Ideal.Value.P
  rw [Finset.sum_range]
  exact Finset.sum_congr rfl fun k _ => congrArg₂ (· * ·) (at2_fin x (i 0) k).symm (at2_fin w k (i 1)).symm

end Cert.Reference9Ideal.Value

namespace Cert.Proof

open Idealize.ShloMosaic Idealize.SL.Sem

set_option smartUnfolding false in
/-- The frames of kernel and reference; the kernel's in floating point is that of its ideal text, proved for every float model. -/
theorem kernel9_frame : Cert.quiescent_Kernel9 := fun m ρ _ => Cert.Kernel9Ideal.Gen.frame (F := Bits) m ρ

theorem kernel9Ideal_frame : Cert.quiescent_Kernel9Ideal := fun m ρ _ => Cert.Kernel9Ideal.Gen.frame m ρ

theorem reference9_frame : Cert.quiescent_Reference9Ideal := fun m ρ _ =>
  (θ_run (Cert.Reference9Ideal.defs (F := Ideal)) _ _).mono
    (fun r h => ⟨fun c => (h c).2, sem_eq_zero_of_no_sems rfl r.2⟩) (Cert.Reference9Ideal.Value.run m ρ)

/-- Kernel and reference give the same product. -/
theorem algebraic9 : Cert.algebraic_Kernel9Ideal_Reference9Ideal := by
  intro m g m' g' _ hargs
  refine ⟨_, Cert.Kernel9Ideal.Value.run_prod m g, ?_⟩
  refine (θ_run (Cert.Reference9Ideal.defs (F := Ideal)) _ _).mono (fun r h c => ⟨?_, (h c).2⟩) (Cert.Reference9Ideal.Value.run m' g')
  obtain ⟨e0, e1⟩ := hargs c
  exact (h c).1.trans ((Cert.Reference9Ideal.Value.dot_prod _ _).trans (congrArg₂ Cert.Kernel9Ideal.Value.P e0 e1))

end Cert.Proof

end
-- ==== Proof.Norm.lean ====
/- The gradient of a norm of rows, over the extended reals: the kernel's formula and the derivative's are the same for every row,
   infinities among its elements included, as the reciprocal root is a nonnegative real number for every row. -/
module

public import Idealize.ShloMosaic.Lib.Pointwise
public import proofs.«01_k».proof.Proof.OutF

@[expose] public section

noncomputable section

namespace Cert.Norm

open Idealize.ShloMosaic Idealize.ShloMosaic.Tactic Cert.Prod

/-- The constants that the programs hold: the number of columns, the epsilon of the root, and the minus a half of the root's
    derivative. -/
abbrev width : EReal := Ideal.ofBits .f32 0x44800000#32
abbrev eps : EReal := Ideal.ofBits .f32 0x358637BD#32
abbrev negHalf : EReal := Ideal.ofBits .f32 0xBF000000#32

theorem width_eq : width = ((1024 : ℝ) : EReal) := by
  simp [width, Ideal.ofBits, Ideal.ieee]
  rw [← EReal.coe_mul]; norm_num

theorem negHalf_eq : negHalf = ((-(1 / 2) : ℝ) : EReal) := by
  simp [negHalf, Ideal.ofBits, Ideal.ieee]
  rw [← EReal.coe_mul]; norm_num

theorem eps_pos : (0 : EReal) < eps := by
  have h : ∃ e : ℝ, 0 < e ∧ eps = (e : EReal) := by
    simp [eps, Ideal.ofBits, Ideal.ieee]
    exact ⟨8796093 * (2 ^ 43)⁻¹, by positivity, (EReal.coe_mul _ _).symm⟩
  obtain ⟨e, he, h⟩ := h
  rw [h]; exact_mod_cast he

variable {n : ℕ}

/-- The mean square of a row, and the reciprocal root of it. -/
def ms (d : EReal) (x : Fin n → EReal) : EReal := Ideal.div (∑ k, x k * x k) d + eps
def rs (d : EReal) (x : Fin n → EReal) : EReal := Ideal.rsqrt (ms d x)

/-- The gradient of a row, as the kernel writes it, from the row and the incoming gradient times the gain. -/
def grad (d : EReal) (x g : Fin n → EReal) (i : Fin n) : EReal :=
  rs d x * (g i - x i * rs d x * Ideal.div (∑ k, g k * (x k * rs d x)) d)

/-- The reciprocal root is a nonnegative real, and divided by the mean square it is its own third power. -/
theorem root {y : EReal} (hy : 0 < y) : ∃ r : ℝ, 0 ≤ r ∧ Ideal.rsqrt y = r ∧ Ideal.div (Ideal.rsqrt y) y = ((r * r * r : ℝ) : EReal) := by
  induction y using EReal.rec with
  | bot => exact absurd hy (by simp)
  | top => exact ⟨0, le_refl _, rfl, by rw [Ideal.rsqrt_top, Ideal.div, if_neg (by simp)]; simp⟩
  | coe a =>
    have ha : 0 < a := by exact_mod_cast hy
    refine ⟨(Real.sqrt a)⁻¹, by positivity, ?_, ?_⟩
    · rw [Ideal.rsqrt_coe, if_neg (by linarith), if_neg ha.ne']
    · rw [Ideal.rsqrt_coe, if_neg (by linarith), if_neg ha.ne', Ideal.div_coe ha.ne', ← EReal.coe_mul]
      congr 1
      have h := Real.mul_self_sqrt ha.le
      have hs : Real.sqrt a ≠ 0 := (Real.sqrt_pos.mpr ha).ne'
      rw [mul_assoc, ← mul_inv, h, one_div]

theorem ms_pos {d : ℝ} (hd : 0 < d) (x : Fin n → EReal) : 0 < ms d x := by
  unfold ms
  rw [Ideal.div_coe hd.ne']
  refine lt_of_lt_of_le eps_pos (le_add_of_nonneg_left (mul_nonneg (Finset.sum_nonneg fun k _ => ?_) ?_))
  · rcases le_total 0 (x k) with h | h
    · exact mul_nonneg h h
    · exact EReal.mul_nonneg_iff.mpr (Or.inr ⟨h, h⟩)
  · exact_mod_cast (by positivity : (0 : ℝ) ≤ 1 / d)

theorem real_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The derivative of a row's norm, as the chain rule gives it: through the factor, and through the reciprocal root twice. -/
theorem grad_eq {d : ℝ} (hd : 0 < d) (x g : Fin n → EReal) (i : Fin n) :
    grad d x g i
      = g i * rs d x
          + x i * Ideal.div ((∑ k, x k * g k) * (negHalf * Ideal.div (rs d x) (ms d x))) d
          + Ideal.div ((∑ k, x k * g k) * (negHalf * Ideal.div (rs d x) (ms d x))) d * x i := by
  obtain ⟨r, hr, e1, e2⟩ := root (ms_pos hd x)
  unfold grad
  rw [show rs d x = r from e1, show Ideal.div (r : EReal) (ms d x) = ((r * r * r : ℝ) : EReal) from by rw [← e1]; exact e2]
  simp only [Ideal.div_coe hd.ne', negHalf_eq]
  have hs : ∑ k, g k * (x k * (r : EReal)) = (r : EReal) * ∑ k, x k * g k := by
    rw [real_mul_sum _ r hr]
    exact Finset.sum_congr rfl fun k _ => by rw [mul_comm (g k), mul_comm (x k) (r : EReal), mul_assoc]
  rw [hs]
  generalize ∑ k, x k * g k = S
  have h1 : (r : EReal) * (g i - x i * r * (r * S * ((1 / d : ℝ) : EReal)))
      = r * g i + -(x i * S * ((r * r * r * (1 / d) : ℝ) : EReal)) := by
    rw [sub_eq_add_neg, EReal.left_distrib_of_nonneg_of_ne_top (by exact_mod_cast hr) (EReal.coe_ne_top r), mul_neg]
    simp only [EReal.coe_mul]
    congr 2
    ac_rfl
  have h2 : S * (((-(1 / 2) : ℝ) : EReal) * ((r * r * r : ℝ) : EReal)) * ((1 / d : ℝ) : EReal)
      = ((1 / 2 : ℝ) : EReal) * -(S * ((r * r * r * (1 / d) : ℝ) : EReal)) := by
    rw [EReal.coe_neg, EReal.neg_mul, mul_neg, EReal.neg_mul, mul_neg, EReal.coe_mul _ (1 / d)]
    congr 1
    ac_rfl
  have h3 : ∀ z : EReal, ((1 / 2 : ℝ) : EReal) * z + ((1 / 2 : ℝ) : EReal) * z = z := fun z => by
    rw [← EReal.right_distrib_of_nonneg (by exact_mod_cast (by norm_num : (0 : ℝ) ≤ 1 / 2)) (by exact_mod_cast (by norm_num : (0 : ℝ) ≤ 1 / 2)),
      ← EReal.coe_add]
    norm_num
  rw [h1, h2, mul_comm (_ * -_) (x i), mul_left_comm (x i), add_assoc, h3, mul_neg, mul_comm (g i), mul_assoc (x i)]

/-- Two matrices are equal when they agree at every row and column. -/
theorem mat_ext {M N : ℕ} {x y : Mat M N} (h : ∀ (p : Fin M) (q : Fin N), x (ix2 p q) = y (ix2 p q)) : x = y :=
  funext fun i => by
    rw [← ix2_eta (n0 := M) (n1 := N) i]
    exact h _ _

/-- A row of a matrix. -/
def row {M N : ℕ} (x : Mat M N) (r : ℕ) : Fin N → EReal := fun k => at2 x r k.val

/-- The gradients of a norm's argument and of its gain, from the argument, the gain and the incoming gradient. -/
def dArg {M N : ℕ} (d : EReal) (x : Mat M N) (g : Mat 1 N) (y : Mat M N) : Mat M N := fun i =>
  grad d (row x (i 0).val) (fun k => at2 y (i 0).val k.val * at2 g 0 k.val) (i 1)

/-- The argument's gradient, where the argument also skips the layer: its own incoming gradient `r` is added. -/
def dArgSkip {M N : ℕ} (d : EReal) (r x : Mat M N) (g : Mat 1 N) (y : Mat M N) : Mat M N := fun i =>
  at2 r (i 0).val (i 1).val + dArg d x g y i

def dGain {M N : ℕ} (d : EReal) (x y : Mat M N) : Mat 1 N := fun i =>
  ∑ r ∈ Finset.range M, at2 y r (i 1).val * (at2 x r (i 1).val * rs d (row x r))

end Cert.Norm

end
-- ==== Proof.NormPost.lean ====
/- The call `norm_post_b`: the gradients of the norm of the layer's output and of its gain, eight runs of 512 rows. -/
module

public import proofs.«01_k».proof.Defs
public import proofs.«01_k».proof.Proof.Norm
public import proofs.«01_k».proof.Proof.Gen.Kernel10
public import proofs.«01_k».proof.Proof.Gen.Kernel10Ideal.Value
public import proofs.«01_k».proof.Proof.Gen.Reference10Ideal.Run
public import Idealize.ShloMosaic.Lib.Tactic
public import Idealize.ShloMosaic.Lib.Pointwise
public import Idealize.ShloMosaic.Lib.Quiescent

@[expose] public section

noncomputable section

namespace Cert.Kernel10Ideal.Value

open Cert.Kernel10Ideal Cert.Kernel10Ideal.Gen Cert.Prod Cert.Norm Idealize.ShloMosaic Idealize.ShloMosaic.TcCoe Idealize.SL.Sem
open Idealize.ShloMosaic.Tactic

theorem hz : (![0, 0] : Fin 2 → Nat) = fun _ => 0 := funext fun a => by fin_cases a <;> rfl

section
variable {F : FTy → Type} [FloatOps F] (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S512x1024 .bf16) (h4 : a4.IsWhole) (a5 : Memref sig .tc .vmem S1x1024 .f32) (h5 : a5.IsWhole)
  (x0 : Vec F S512x1024 .f32) (x1 : Vec F S1x1024 .f32) (x2 : Vec F S512x1024 .f32)

theorem out_A_3 (hc0 : cond0_0 i) (hc1 : ¬cond0_1 i) :
    out0_A_3 c i a1 h1 a2 h2 a3 h3 a4 h4 a5 h5 hc0 hc1 x0 x1 x2 = k0_pay5 x0 x2 x1 := by
  unfold out0_A_3
  rw [View.read_writes_eq_canon _ _ _ (cover0_A_3 c i a1 h1 a2 h2 a3 h3 a4 h4 a5 h5 hc0 hc1 x0 x1 x2)]
  unfold kernelRun0_A
  dsimp only
  rw [View.canon_unit_zero hz]
  simp only [View.readAt_eq_ld, h1.read_unread, h2.read_unread, h3.read_unread, View.ld_unit_zero (S := S512x1024) hz, View.ld_unit_zero (S := S1x1024) hz]

theorem out_B_3 (hc0 : ¬cond0_0 i) (hc1 : cond0_1 i) (xo : Vec F S1x1024 .f32) :
    out0_B_3 c i a1 h1 a2 h2 a3 h3 a4 h4 a5 h5 hc0 hc1 x0 x1 x2 xo = k0_pay5 x0 x2 x1 := by
  unfold out0_B_3
  rw [View.read_writes_eq_canon _ _ _ (cover0_B_3 c i a1 h1 a2 h2 a3 h3 a4 h4 a5 h5 hc0 hc1 x0 x1 x2 xo)]
  unfold kernelRun0_B
  dsimp only
  rw [View.canon_unit_zero hz]
  simp only [View.readAt_eq_ld, h1.read_unread, h2.read_unread, h3.read_unread, View.ld_unit_zero (S := S512x1024) hz, View.ld_unit_zero (S := S1x1024) hz]

theorem out_A_4 (hc0 : cond0_0 i) (hc1 : ¬cond0_1 i) :
    out0_A_4 c i a1 h1 a2 h2 a3 h3 a4 h4 a5 h5 hc0 hc1 x0 x1 x2 = k0_pay3 x0 x2 := by
  unfold out0_A_4
  rw [View.read_writes_eq_canon _ _ _ (cover0_A_4 c i a1 h1 a2 h2 a3 h3 a4 h4 a5 h5 hc0 hc1 x0 x1 x2)]
  unfold kernelRun0_A
  dsimp only
  rw [View.canon_unit_zero hz]
  simp only [View.readAt_eq_ld, h1.read_unread, h3.read_unread, View.ld_unit_zero (S := S512x1024) hz]

theorem out_B_4 (hc0 : ¬cond0_0 i) (hc1 : cond0_1 i) (xo : Vec F S1x1024 .f32) :
    out0_B_4 c i a1 h1 a2 h2 a3 h3 a4 h4 a5 h5 hc0 hc1 x0 x1 x2 xo = k0_pay4 x0 x2 xo := by
  unfold out0_B_4
  rw [View.read_writes_eq_canon _ _ _ (cover0_B_4 c i a1 h1 a2 h2 a3 h3 a4 h4 a5 h5 hc0 hc1 x0 x1 x2 xo)]
  unfold kernelRun0_B
  dsimp only
  rw [View.canon_unit_zero hz]
  simp only [View.readAt_eq_ld, h1.read_unread, h3.read_unread, h5.read_unread, View.ld_unit_zero (S := S512x1024) hz, View.ld_unit_zero (S := S1x1024) hz]

end

theorem pay1_at (x0 : Vec Ideal S512x1024 .f32) (p : Fin 512) :
    k0_pay1 x0 (ix2 p 0) = rs width (fun k : Fin 1024 => x0 (ix2 p k)) := by
  unfold rs ms
  pointwise [k0_pay1]

theorem pay2_at (x0 : Vec Ideal S512x1024 .f32) (p : Fin 512) (q : Fin 1024) :
    k0_pay2 x0 (ix2 p q) = (x0 (ix2 p q) * rs width (fun k : Fin 1024 => x0 (ix2 p k)) : EReal) := by
  rw [← pay1_at x0 p]
  pointwise [k0_pay2]

theorem pay3_at (x0 x2 : Vec Ideal S512x1024 .f32) (q : Fin 1024) :
    k0_pay3 x0 x2 (ix2 0 q) = (∑ p : Fin 512, x2 (ix2 p q) * (x0 (ix2 p q) * rs width (fun k : Fin 1024 => x0 (ix2 p k))) : EReal) := by
  simp only [← pay2_at x0]
  pointwise [k0_pay3]

theorem pay4_at (x0 x2 : Vec Ideal S512x1024 .f32) (a : Vec Ideal S1x1024 .f32) (q : Fin 1024) :
    k0_pay4 x0 x2 a (ix2 0 q) = (a (ix2 0 q) + k0_pay3 x0 x2 (ix2 0 q) : EReal) := by
  pointwise [k0_pay4]

theorem pay5_at (x0 x2 : Vec Ideal S512x1024 .f32) (x1 : Vec Ideal S1x1024 .f32) (p : Fin 512) (q : Fin 1024) :
    k0_pay5 x0 x2 x1 (ix2 p q)
      = (grad width (fun k : Fin 1024 => x0 (ix2 p k)) (fun k => (x2 (ix2 p k) * x1 (ix2 0 k) : EReal)) q : EReal) := by
  unfold grad
  pointwise [k0_pay5]
  simp only [pay2_at, pay1_at]

variable (m : (ℓ : Loc nD τ sig) → Buf (Elt Ideal) ℓ) (ρ : Dev nD → PrngReg)

/-- The layer's output, the gain and the incoming gradient. -/
abbrev argX (c : Dev nD) : S4096x1024.Idx → EReal := m ((c : Thread nD τ).loc main_arg0)
abbrev argG (c : Dev nD) : S1x1024.Idx → EReal := m ((c : Thread nD τ).loc main_arg1)
abbrev argY (c : Dev nD) : S4096x1024.Idx → EReal := m ((c : Thread nD τ).loc main_arg2)

/-- Where the windows stand at a grid point. -/
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = 0 ∧ win0_4.index t 1 = 0 := by decide +kernel

theorem iblk_0 (c : Dev nD) (t : Fin cfg0.N) (p : Fin 512) (k : Fin 1024) :
    (iblk m c 0 t : Vec Ideal S512x1024 .f32) (ix2 p k) = at2 (argX m c) (t.val * 512 + p.val) k.val := by
  obtain ⟨e0, e1⟩ := index_0 t
  unfold iblk
  rw [View.read_apply]
  refine at2_idx (argX m c) _ _ _ ?_ ?_
  · show win0_0.index t 0 * 512 + 1 * p.val = _; rw [e0, one_mul]
  · show win0_0.index t 1 * 1024 + 1 * k.val = _; rw [e1, one_mul, zero_mul, zero_add]

theorem iblk_1 (c : Dev nD) (t : Fin cfg0.N) (k : Fin 1024) :
    (iblk m c 1 t : Vec Ideal S1x1024 .f32) (ix2 0 k) = at2 (argG m c) 0 k.val := by
  obtain ⟨e0, e1⟩ := index_1 t
  unfold iblk
  rw [View.read_apply]
  refine at2_idx (argG m c) _ _ _ ?_ ?_
  · show win0_1.index t 0 * 1 + 1 * 0 = _; rw [e0]
  · show win0_1.index t 1 * 1024 + 1 * k.val = _; rw [e1, one_mul, zero_mul, zero_add]

theorem iblk_2 (c : Dev nD) (t : Fin cfg0.N) (p : Fin 512) (k : Fin 1024) :
    (iblk m c 2 t : Vec Ideal S512x1024 .f32) (ix2 p k) = at2 (argY m c) (t.val * 512 + p.val) k.val := by
  obtain ⟨e0, e1⟩ := index_2 t
  unfold iblk
  rw [View.read_apply]
  refine at2_idx (argY m c) _ _ _ ?_ ?_
  · show win0_2.index t 0 * 512 + 1 * p.val = _; rw [e0, one_mul]
  · show win0_2.index t 1 * 1024 + 1 * k.val = _; rw [e1, one_mul, zero_mul, zero_add]

/-- What a point computes, from the whole arrays: 512 rows of the argument's gradient, and the gain's from these rows. -/
theorem pay5_blk (c : Dev nD) (t : Fin cfg0.N) (p : Fin 512) (q : Fin 1024) :
    k0_pay5 (iblk m c 0 t) (iblk m c 2 t) (iblk m c 1 t) (ix2 p q)
      = (grad width (row (argX m c) (t.val * 512 + p.val)) (fun k => at2 (argY m c) (t.val * 512 + p.val) k.val * at2 (argG m c) 0 k.val) q : EReal) := by
  refine (pay5_at _ _ _ p q).trans ?_
  congr 1
  · exact funext fun k => iblk_0 m c t p k
  · exact funext fun k => congrArg₂ (· * · : EReal → EReal → EReal) (iblk_2 m c t p k) (iblk_1 m c t k)

def term (c : Dev nD) (s l : ℕ) : EReal := ∑ j ∈ Finset.range 512,
  at2 (argY m c) (l * 512 + j) s * (at2 (argX m c) (l * 512 + j) s * rs width (row (argX m c) (l * 512 + j)))

theorem pay3_blk (c : Dev nD) (t : Fin cfg0.N) (q : Fin 1024) :
    k0_pay3 (iblk m c 0 t) (iblk m c 2 t) (ix2 0 q) = term m c q.val t.val := by
  refine (pay3_at _ _ q).trans ?_
  unfold term
  rw [Finset.sum_range]
  refine Finset.sum_congr rfl fun p _ => congrArg₂ (· * · : EReal → EReal → EReal) (iblk_2 m c t p q)
    (congrArg₂ (· * · : EReal → EReal → EReal) (iblk_0 m c t p q) (congrArg (rs width) (funext fun k => iblk_0 m c t p k)))

/-- What the gain's block holds after a point: the sum over the rows so far. -/
theorem acc_at (c : Dev nD) : ∀ (n : ℕ) (h : n < cfg0.N) (q : Fin 1024),
    (outsAt0 m c n h).2 (ix2 0 q) = (∑ l ∈ Finset.range (n + 1), term m c q.val l : EReal) := by
  intro n
  induction n with
  | zero =>
    intro h q
    rw [outsAt0_A m c ⟨0, h⟩ rfl (by dsimp only; omega)]
    dsimp only
    rw [out_A_4, pay3_blk]
    simp
  | succ n ih =>
    intro h q
    have hN : n + 1 < 8 := lt_of_lt_of_eq h (show cfg0.N = 8 from N_0)
    rw [outsAt0_B m c ⟨n + 1, h⟩ (by dsimp only; omega) (by dsimp only; omega)]
    dsimp only
    rw [out_B_4, pay4_at, pay3_blk]
    show ((outsAt0 m c n _).2 (ix2 0 q) + _ : EReal) = _
    rw [ih, Finset.sum_range_succ _ (n + 1)]

theorem flushed_3 (c : Dev nD) (t : Fin cfg0.N) (hf : (cfg0.win 3).flush t = true) :
    (dats m 0 c).flushed 3 t = ((cfg0.win 3).blk t).view.read (Elt Ideal) (dArg width (argX m c) (argG m c) (argY m c)) := by
  have e : (dats m 0 c).flushed 3 t = (cfg0.win 3).cut (grid0.coords t) (k0_pay5 (iblk m c 0 t) (iblk m c 2 t) (iblk m c 1 t)) := by
    by_cases h : t.val = 0
    · rw [flushed3_A m c t (by omega) (by omega), out_A_3]
    · have hN : t.val < 8 := lt_of_lt_of_eq t.isLt (show cfg0.N = 8 from N_0)
      rw [flushed3_B m c t (by omega) (by omega), out_B_3]
  rw [e]
  obtain ⟨e0, e1⟩ := index_3 t
  funext y
  obtain ⟨p, q, hy⟩ : ∃ (p : Fin 512) (q : Fin 1024), (cfg0.win 3).xinj (grid0.coords t) y = ix2 p q :=
    ⟨_, _, (ix2_eta (n0 := 512) (n1 := 1024) _).symm⟩
  rw [View.read_apply]
  show k0_pay5 _ _ _ ((cfg0.win 3).xinj (grid0.coords t) y) = _
  have h0 : (((cfg0.win 3).blk t).view.emb y 0).val = t.val * 512 + p.val := by
    have : (y 0).val = p.val := congrArg (fun j : S512x1024.Idx => (j 0).val) hy
    show win0_3.index t 0 * 512 + 1 * (y 0).val = _; rw [e0, this, one_mul]
  have h1 : ((cfg0.win 3).blk t).view.emb y 1 = q := by
    have : (y 1).val = q.val := congrArg (fun j : S512x1024.Idx => (j 1).val) hy
    refine Fin.ext ?_
    show win0_3.index t 1 * 1024 + 1 * (y 1).val = _; rw [e1, this, one_mul, zero_mul, zero_add]
  rw [hy, pay5_blk]
  unfold dArg
  rw [h0, h1]
  rfl

/-- The point that writes an index of the argument's gradient back. -/
def pointOf (i : S4096x1024.Idx) : Fin cfg0.N := ⟨(i 0).val / 512, lt_of_lt_of_eq (by
  have h0 : (i 0).val < 4096 := (i 0).isLt
  omega) N_0.symm⟩

theorem covered_3 (i : S4096x1024.Idx) : i ∈ ((cfg0.win 3).blk (pointOf i)).view.set := by
  show i ∈ ((View.whole main_v0_0).slice (win0_3.rect (pointOf i))).set
  rw [View.set_slice_whole, Rect.mem_set_unit]
  obtain ⟨e0, e1⟩ := index_3 (pointOf i)
  have h0 : (i 0).val < 4096 := (i 0).isLt
  have h1 : (i 1).val < 1024 := (i 1).isLt
  have hv : (pointOf i).val = (i 0).val / 512 := rfl
  intro a
  match a with
  | ⟨0, _⟩ =>
    show win0_3.index (pointOf i) 0 * 512 ≤ (i 0).val ∧ (i 0).val < win0_3.index (pointOf i) 0 * 512 + 512
    rw [e0, hv]; omega
  | ⟨1, _⟩ =>
    show win0_3.index (pointOf i) 1 * 1024 ≤ (i 1).val ∧ (i 1).val < win0_3.index (pointOf i) 1 * 1024 + 1024
    rw [e1]; omega

theorem final_3 (c : Dev nD) : (dats m 0 c).arrAt 3 cfg0.N = dArg width (argX m c) (argG m c) (argY m c) :=
  (dats m 0 c).arrAt_eq_of_cover 3 _ (flushed_3 m c) fun i => ⟨pointOf i, flush0_3 _, covered_3 i⟩

theorem flushed_4 (c : Dev nD) (t : Fin cfg0.N) (hf : (cfg0.win 4).flush t = true) :
    (dats m 0 c).flushed 4 t = ((cfg0.win 4).blk t).view.read (Elt Ideal) (dGain width (argX m c) (argY m c)) := by
  have hN : t.val < 8 := lt_of_lt_of_eq t.isLt (show cfg0.N = 8 from N_0)
  have hm : t.val % 8 = 7 := (flush0_4 t).mp hf
  rw [flushed4]
  obtain ⟨e0, e1⟩ := index_4 t
  funext y
  obtain ⟨q, hy⟩ : ∃ q : Fin 1024, (cfg0.win 4).xinj (grid0.coords t) y = ix2 0 q :=
    ⟨_, (ix2_eta (n0 := 1) (n1 := 1024) _).symm.trans (congrArg (fun p : Fin 1 => ix2 p _) (Subsingleton.elim _ _))⟩
  rw [View.read_apply]
  show (outsAt0 m c t.val t.isLt).2 ((cfg0.win 4).xinj (grid0.coords t) y) = _
  have h1 : (((cfg0.win 4).blk t).view.emb y 1).val = q.val := by
    have : (y 1).val = q.val := congrArg (fun j : S1x1024.Idx => (j 1).val) hy
    show win0_4.index t 1 * 1024 + 1 * (y 1).val = _; rw [e1, this, one_mul, zero_mul, zero_add]
  rw [hy, acc_at, show t.val + 1 = 8 by omega]
  refine Eq.trans ?_ (Eq.symm (b := dGain width (argX m c) (argY m c) _) rfl)
  unfold dGain
  rw [h1]
  exact (sum_runs (fun r => at2 (argY m c) r q.val * (at2 (argX m c) r q.val * rs width (row (argX m c) r))) 8 512 (by norm_num)).symm

/-- The point that writes the gain's gradient back. -/
def lastPt : Fin cfg0.N := ⟨7, lt_of_lt_of_eq (by norm_num) N_0.symm⟩

theorem covered_4 (i : S1x1024.Idx) : i ∈ ((cfg0.win 4).blk lastPt).view.set := by
  show i ∈ ((View.whole main_v0_1).slice (win0_4.rect lastPt)).set
  rw [View.set_slice_whole, Rect.mem_set_unit]
  obtain ⟨e0, e1⟩ := index_4 lastPt
  have h0 : (i 0).val < 1 := (i 0).isLt
  have h1 : (i 1).val < 1024 := (i 1).isLt
  intro a
  match a with
  | ⟨0, _⟩ =>
    show win0_4.index lastPt 0 * 1 ≤ (i 0).val ∧ (i 0).val < win0_4.index lastPt 0 * 1 + 1
    rw [e0]; omega
  | ⟨1, _⟩ =>
    show win0_4.index lastPt 1 * 1024 ≤ (i 1).val ∧ (i 1).val < win0_4.index lastPt 1 * 1024 + 1024
    rw [e1]; omega

theorem final_4 (c : Dev nD) : (dats m 0 c).arrAt 4 cfg0.N = dGain width (argX m c) (argY m c) :=
  (dats m 0 c).arrAt_eq_of_cover 4 _ (flushed_4 m c) fun i => ⟨lastPt, (flush0_4 lastPt).mpr rfl, covered_4 i⟩

/-- The kernel's results are the two gradients. -/
theorem run_grads : θ_run defs (onTc (τ := τ) (main (F := Ideal))) ⟨m, fun _ => 0, ρ⟩ fun r => ∀ c : Dev nD,
      r.2.mem ((c : Thread nD τ).loc main_v0_0) = dArg width (argX m c) (argG m c) (argY m c)
      ∧ r.2.mem ((c : Thread nD τ).loc main_v0_1) = dGain width (argX m c) (argY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_3 m c), (h c).2.1.trans (final_4 m c), (h c).2.2⟩) (run_blocks m ρ)

end Cert.Kernel10Ideal.Value

namespace Cert.Reference10Ideal.Value

open Cert.Reference10Ideal Cert.Reference10Ideal.Gen Cert.Prod Cert.Norm Idealize.ShloMosaic Idealize.ShloMosaic.TcCoe
open Idealize.ShloMosaic.Tactic

/-- The reference's values, named: the mean square, its reciprocal root, the gradient that reaches the normed rows, the gradient
    of the mean square, and the two results. -/
def meanSq (x : FVec Ideal S4096x1024 .f32) : FVec Ideal S4096x1 .f32 :=
  addf (Host.divf (broadcastInDim S4096x1 ![0] bcast_S4096_S4096x1_0 (Host.reduceAdd (mulf x x) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

def root (x : FVec Ideal S4096x1024 .f32) : FVec Ideal S4096x1 .f32 := Host.rsqrt (meanSq x)

def inc (g : FVec Ideal S1x1024 .f32) (y : FVec Ideal S4096x1024 .f32) : FVec Ideal S4096x1024 .f32 :=
  mulf y (broadcastInDim S4096x1024 ![0, 1] bcast_S1x1024_S4096x1024_0_1 g)

def dMean (x : FVec Ideal S4096x1024 .f32) (g : FVec Ideal S1x1024 .f32) (y : FVec Ideal S4096x1024 .f32) : FVec Ideal S4096 .f32 :=
  Host.reduceAdd (Host.divf (mulf (shapeCast _ (Host.reduceAdd (mulf x (inc g y)) (constant S_ .f32 0x00000000#32)
      reducesTo_S4096x1024_S4096_d1 h_S_) shapeCasts_S4096_S4096x1)
    (mulf (broadcastInDim S4096x1 ![] bcast_S_S4096x1 (constant S_ .f32 0xBF000000#32)) (Host.divf (root x) (meanSq x))))
    (broadcastInDim S4096x1 ![] bcast_S_S4096x1 (constant S_ .f32 0x44800000#32))) (constant S_ .f32 0x00000000#32)
    reducesTo_S4096x1_S4096_d1 h_S_

def dX (x : FVec Ideal S4096x1024 .f32) (g : FVec Ideal S1x1024 .f32) (y : FVec Ideal S4096x1024 .f32) : FVec Ideal S4096x1024 .f32 :=
  addf (addf (mulf (inc g y) (broadcastInDim S4096x1024 ![0, 1] bcast_S4096x1_S4096x1024_0_1 (root x)))
      (mulf x (broadcastInDim S4096x1024 ![0] bcast_S4096_S4096x1024_0 (dMean x g y))))
    (mulf (broadcastInDim S4096x1024 ![0] bcast_S4096_S4096x1024_0 (dMean x g y)) x)

def dG (x y : FVec Ideal S4096x1024 .f32) : FVec Ideal S1x1024 .f32 :=
  shapeCast _ (Host.reduceAdd (mulf (mulf x (broadcastInDim S4096x1024 ![0, 1] bcast_S4096x1_S4096x1024_0_1 (root x))) y)
    (constant S_ .f32 0x00000000#32) reducesTo_S4096x1024_S1024_d0 h_S_) shapeCasts_S1024_S1x1024

variable (x : FVec Ideal S4096x1024 .f32) (g : FVec Ideal S1x1024 .f32) (y : FVec Ideal S4096x1024 .f32)

theorem meanSq_at (p : Fin 4096) : meanSq x (ix2 p 0) = ms width (fun k : Fin 1024 => x (ix2 p k)) := by
  unfold ms
  pointwise [meanSq]

theorem root_at (p : Fin 4096) : root x (ix2 p 0) = rs width (fun k : Fin 1024 => x (ix2 p k)) := by
  unfold rs
  rw [← meanSq_at]
  pointwise [root]

theorem inc_at (p : Fin 4096) (q : Fin 1024) : inc g y (ix2 p q) = (y (ix2 p q) * g (ix2 0 q) : EReal) := by
  pointwise [inc]

theorem dMean_at (p : Fin 4096) : dMean x g y (ix1 p)
    = Ideal.div ((∑ k : Fin 1024, x (ix2 p k) * inc g y (ix2 p k)) * (negHalf * Ideal.div (root x (ix2 p 0)) (meanSq x (ix2 p 0)))) width := by
  pointwise [dMean]
  exact Fin.sum_univ_one _

theorem dX_at (p : Fin 4096) (q : Fin 1024) : dX x g y (ix2 p q)
    = (inc g y (ix2 p q) * root x (ix2 p 0) + x (ix2 p q) * dMean x g y (ix1 p) + dMean x g y (ix1 p) * x (ix2 p q) : EReal) := by
  pointwise [dX]

theorem dG_at (q : Fin 1024) : dG x y (ix2 0 q)
    = (∑ p : Fin 4096, x (ix2 p q) * root x (ix2 p 0) * y (ix2 p q) : EReal) := by
  pointwise [dG]

/-- So are the reference's. -/
theorem dX_eq : dX x g y = dArg width x g y := by
  refine mat_ext fun p q => ?_
  refine (dX_at x g y p q).trans ?_
  rw [dMean_at, meanSq_at, root_at]
  simp only [inc_at]
  rw [width_eq]
  refine (grad_eq (by norm_num) (fun k : Fin 1024 => x (ix2 p k)) (fun k => (y (ix2 p k) * g (ix2 0 k) : EReal)) q).symm.trans ?_
  rw [← width_eq]
  unfold dArg row
  refine congrArg₂ (fun a b => grad width a b q) (funext fun k => (at2_fin x p k).symm) (funext fun k => ?_)
  exact congrArg₂ (· * · : EReal → EReal → EReal) (at2_fin y p k).symm (at2_fin g 0 k).symm

theorem dG_eq : dG x y = dGain width x y := by
  refine mat_ext fun z q => ?_
  rw [Subsingleton.elim z 0]
  refine (dG_at x y q).trans ?_
  unfold dGain row
  rw [Finset.sum_range]
  refine Finset.sum_congr rfl fun p _ => ?_
  rw [root_at, mul_comm]
  refine congrArg₂ (· * · : EReal → EReal → EReal) (at2_fin y p q).symm (congrArg₂ (· * · : EReal → EReal → EReal) (at2_fin x p q).symm ?_)
  exact congrArg (rs width) (funext fun k => (at2_fin x p k).symm)

end Cert.Reference10Ideal.Value

namespace Cert.Proof

open Idealize.ShloMosaic Idealize.SL.Sem Cert.Norm

set_option smartUnfolding false in
/-- The frames of kernel and reference; the kernel's in floating point is that of its ideal text, proved for every float model. -/
theorem kernel10_frame : Cert.quiescent_Kernel10 := fun m ρ _ => Cert.Kernel10Ideal.Gen.frame (F := Bits) m ρ

theorem kernel10Ideal_frame : Cert.quiescent_Kernel10Ideal := fun m ρ _ => Cert.Kernel10Ideal.Gen.frame m ρ

theorem reference10_frame : Cert.quiescent_Reference10Ideal := fun m ρ _ =>
  (θ_run (Cert.Reference10Ideal.defs (F := Ideal)) _ _).mono
    (fun r h => ⟨fun c => (h c).2.2, sem_eq_zero_of_no_sems rfl r.2⟩) (Cert.Reference10Ideal.Value.run m ρ)

/-- Kernel and reference give the same gradients. -/
theorem algebraic10 : Cert.algebraic_Kernel10Ideal_Reference10Ideal := by
  intro m g m' g' _ hargs
  refine ⟨_, _, Cert.Kernel10Ideal.Value.run_grads m g, ?_⟩
  refine (θ_run (Cert.Reference10Ideal.defs (F := Ideal)) _ _).mono (fun r h c => ⟨?_, ?_, (h c).2.2⟩) (Cert.Reference10Ideal.Value.run m' g')
  all_goals obtain ⟨e0, e1, e2⟩ := hargs c
  · refine (h c).1.trans ((Cert.Reference10Ideal.Value.dX_eq _ _ _).trans ?_)
    rw [e0, e1, e2]
  · refine (h c).2.1.trans ((Cert.Reference10Ideal.Value.dG_eq _ _).trans ?_)
    rw [e0, e2]

end Cert.Proof

end
-- ==== Proof.NormPre.lean ====
/- The call `norm_pre_b`: the gradients of the norm of the layer's argument, which joins the one that skips the layer, and of the
   gain's, eight runs of 512 rows. -/
module

public import proofs.«01_k».proof.Defs
public import proofs.«01_k».proof.Proof.NormPost
public import proofs.«01_k».proof.Proof.Gen.Kernel11
public import proofs.«01_k».proof.Proof.Gen.Kernel11Ideal.Value
public import proofs.«01_k».proof.Proof.Gen.Reference11Ideal.Run
public import Idealize.ShloMosaic.Lib.Tactic
public import Idealize.ShloMosaic.Lib.Pointwise
public import Idealize.ShloMosaic.Lib.Quiescent

@[expose] public section

noncomputable section

namespace Cert.Kernel11Ideal.Value

open Cert.Kernel11Ideal Cert.Kernel11Ideal.Gen Cert.Prod Cert.Norm Idealize.ShloMosaic Idealize.ShloMosaic.TcCoe Idealize.SL.Sem
open Idealize.ShloMosaic.Tactic

theorem hz : (![0, 0] : Fin 2 → Nat) = fun _ => 0 := funext fun a => by fin_cases a <;> rfl

section
variable {F : FTy → Type} [FloatOps F] (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S1x1024 .f32) (h6 : a6.IsWhole)
  (x0 : Vec F S512x1024 .f32) (x1 : Vec F S1x1024 .f32) (x2 x3 : Vec F S512x1024 .f32)

theorem out_A_4 (hc0 : cond0_0 i) (hc1 : ¬cond0_1 i) :
    out0_A_4 c i a1 h1 a2 h2 a3 h3 a4 h4 a5 h5 a6 h6 hc0 hc1 x0 x1 x2 x3 = k0_pay5 x0 x2 x1 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  rw [View.canon_unit_zero hz]
  unfold kernelRun0_A.sl.r
  simp only [View.readAt_eq_ld, h1.read_unread, h2.read_unread, h3.read_unread, h4.read_unread, View.ld_unit_zero (S := S512x1024) hz, View.ld_unit_zero (S := S1x1024) hz]

theorem out_B_4 (hc0 : ¬cond0_0 i) (hc1 : cond0_1 i) (xo : Vec F S1x1024 .f32) :
    out0_B_4 c i a1 h1 a2 h2 a3 h3 a4 h4 a5 h5 a6 h6 hc0 hc1 x0 x1 x2 x3 xo = k0_pay5 x0 x2 x1 x3 := by
  unfold out0_B_4
  rw [View.read_writes_eq_canon _ _ _ (cover0_B_4 c i a1 h1 a2 h2 a3 h3 a4 h4 a5 h5 a6 h6 hc0 hc1 x0 x1 x2 x3 xo)]
  unfold kernelRun0_B
  dsimp only
  rw [View.canon_unit_zero hz]
  unfold kernelRun0_B.sl.r
  simp only [View.readAt_eq_ld, h1.read_unread, h2.read_unread, h3.read_unread, h4.read_unread, View.ld_unit_zero (S := S512x1024) hz, View.ld_unit_zero (S := S1x1024) hz]

theorem out_A_5 (hc0 : cond0_0 i) (hc1 : ¬cond0_1 i) :
    out0_A_5 c i a1 h1 a2 h2 a3 h3 a4 h4 a5 h5 a6 h6 hc0 hc1 x0 x1 x2 x3 = k0_pay3 x0 x2 := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  rw [View.canon_unit_zero hz]
  simp only [View.readAt_eq_ld, h1.read_unread, h3.read_unread, View.ld_unit_zero (S := S512x1024) hz]

theorem out_B_5 (hc0 : ¬cond0_0 i) (hc1 : cond0_1 i) (xo : Vec F S1x1024 .f32) :
    out0_B_5 c i a1 h1 a2 h2 a3 h3 a4 h4 a5 h5 a6 h6 hc0 hc1 x0 x1 x2 x3 xo = k0_pay4 x0 x2 xo := by
  unfold out0_B_5
  rw [View.read_writes_eq_canon _ _ _ (cover0_B_5 c i a1 h1 a2 h2 a3 h3 a4 h4 a5 h5 a6 h6 hc0 hc1 x0 x1 x2 x3 xo)]
  unfold kernelRun0_B
  dsimp only
  rw [View.canon_unit_zero hz]
  simp only [View.readAt_eq_ld, h1.read_unread, h3.read_unread, h6.read_unread, View.ld_unit_zero (S := S512x1024) hz, View.ld_unit_zero (S := S1x1024) hz]

end

/-- The norm's own values are those of the call `norm_post_b`. -/
theorem pay3_at (x0 x2 : Vec Ideal S512x1024 .f32) (q : Fin 1024) :
    k0_pay3 x0 x2 (ix2 0 q) = (∑ p : Fin 512, x2 (ix2 p q) * (x0 (ix2 p q) * rs width (fun k : Fin 1024 => x0 (ix2 p k))) : EReal) :=
  Cert.Kernel10Ideal.Value.pay3_at x0 x2 q

theorem pay4_at (x0 x2 : Vec Ideal S512x1024 .f32) (a : Vec Ideal S1x1024 .f32) (q : Fin 1024) :
    k0_pay4 x0 x2 a (ix2 0 q) = (a (ix2 0 q) + k0_pay3 x0 x2 (ix2 0 q) : EReal) :=
  Cert.Kernel10Ideal.Value.pay4_at x0 x2 a q

theorem pay5_at (x0 x2 x3 : Vec Ideal S512x1024 .f32) (x1 : Vec Ideal S1x1024 .f32) (p : Fin 512) (q : Fin 1024) :
    k0_pay5 x0 x2 x1 x3 (ix2 p q)
      = (x3 (ix2 p q) + grad width (fun k : Fin 1024 => x0 (ix2 p k)) (fun k => (x2 (ix2 p k) * x1 (ix2 0 k) : EReal)) q : EReal) :=
  congrArg (fun z : EReal => (x3 (ix2 p q) + z : EReal)) (Cert.Kernel10Ideal.Value.pay5_at x0 x2 x1 p q)

variable (m : (ℓ : Loc nD τ sig) → Buf (Elt Ideal) ℓ) (ρ : Dev nD → PrngReg)

/-- The layer's argument, the gain, the gradient of the normed rows, and the gradient that skips the layer. -/
abbrev argX (c : Dev nD) : S4096x1024.Idx → EReal := m ((c : Thread nD τ).loc main_arg0)
abbrev argG (c : Dev nD) : S1x1024.Idx → EReal := m ((c : Thread nD τ).loc main_arg1)
abbrev argY (c : Dev nD) : S4096x1024.Idx → EReal := m ((c : Thread nD τ).loc main_arg2)
abbrev argR (c : Dev nD) : S4096x1024.Idx → EReal := m ((c : Thread nD τ).loc main_arg3)

/-- Where the windows stand at a grid point. -/
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = 0 ∧ win0_5.index t 1 = 0 := by decide +kernel

theorem iblk_0 (c : Dev nD) (t : Fin cfg0.N) (p : Fin 512) (k : Fin 1024) :
    (iblk m c 0 t : Vec Ideal S512x1024 .f32) (ix2 p k) = at2 (argX m c) (t.val * 512 + p.val) k.val := by
  obtain ⟨e0, e1⟩ := index_0 t
  unfold iblk
  rw [View.read_apply]
  refine at2_idx (argX m c) _ _ _ ?_ ?_
  · show win0_0.index t 0 * 512 + 1 * p.val = _; rw [e0, one_mul]
  · show win0_0.index t 1 * 1024 + 1 * k.val = _; rw [e1, one_mul, zero_mul, zero_add]

theorem iblk_1 (c : Dev nD) (t : Fin cfg0.N) (k : Fin 1024) :
    (iblk m c 1 t : Vec Ideal S1x1024 .f32) (ix2 0 k) = at2 (argG m c) 0 k.val := by
  obtain ⟨e0, e1⟩ := index_1 t
  unfold iblk
  rw [View.read_apply]
  refine at2_idx (argG m c) _ _ _ ?_ ?_
  · show win0_1.index t 0 * 1 + 1 * 0 = _; rw [e0]
  · show win0_1.index t 1 * 1024 + 1 * k.val = _; rw [e1, one_mul, zero_mul, zero_add]

theorem iblk_2 (c : Dev nD) (t : Fin cfg0.N) (p : Fin 512) (k : Fin 1024) :
    (iblk m c 2 t : Vec Ideal S512x1024 .f32) (ix2 p k) = at2 (argY m c) (t.val * 512 + p.val) k.val := by
  obtain ⟨e0, e1⟩ := index_2 t
  unfold iblk
  rw [View.read_apply]
  refine at2_idx (argY m c) _ _ _ ?_ ?_
  · show win0_2.index t 0 * 512 + 1 * p.val = _; rw [e0, one_mul]
  · show win0_2.index t 1 * 1024 + 1 * k.val = _; rw [e1, one_mul, zero_mul, zero_add]

theorem iblk_3 (c : Dev nD) (t : Fin cfg0.N) (p : Fin 512) (k : Fin 1024) :
    (iblk m c 3 t : Vec Ideal S512x1024 .f32) (ix2 p k) = at2 (argR m c) (t.val * 512 + p.val) k.val := by
  obtain ⟨e0, e1⟩ := index_3 t
  unfold iblk
  rw [View.read_apply]
  refine at2_idx (argR m c) _ _ _ ?_ ?_
  · show win0_3.index t 0 * 512 + 1 * p.val = _; rw [e0, one_mul]
  · show win0_3.index t 1 * 1024 + 1 * k.val = _; rw [e1, one_mul, zero_mul, zero_add]

/-- What a point computes, from the whole arrays: 512 rows of the argument's gradient, and the gain's from these rows. -/
theorem pay5_blk (c : Dev nD) (t : Fin cfg0.N) (p : Fin 512) (q : Fin 1024) :
    k0_pay5 (iblk m c 0 t) (iblk m c 2 t) (iblk m c 1 t) (iblk m c 3 t) (ix2 p q)
      = (at2 (argR m c) (t.val * 512 + p.val) q.val + grad width (row (argX m c) (t.val * 512 + p.val))
          (fun k => at2 (argY m c) (t.val * 512 + p.val) k.val * at2 (argG m c) 0 k.val) q : EReal) := by
  refine (pay5_at _ _ _ _ p q).trans (congrArg₂ (· + · : EReal → EReal → EReal) (iblk_3 m c t p q) ?_)
  refine congrArg₂ (fun a b => grad width a b q) (funext fun k => iblk_0 m c t p k) (funext fun k => ?_)
  exact congrArg₂ (· * · : EReal → EReal → EReal) (iblk_2 m c t p k) (iblk_1 m c t k)

def term (c : Dev nD) (s l : ℕ) : EReal := ∑ j ∈ Finset.range 512,
  at2 (argY m c) (l * 512 + j) s * (at2 (argX m c) (l * 512 + j) s * rs width (row (argX m c) (l * 512 + j)))

theorem pay3_blk (c : Dev nD) (t : Fin cfg0.N) (q : Fin 1024) :
    k0_pay3 (iblk m c 0 t) (iblk m c 2 t) (ix2 0 q) = term m c q.val t.val := by
  refine (pay3_at _ _ q).trans ?_
  unfold term
  rw [Finset.sum_range]
  refine Finset.sum_congr rfl fun p _ => congrArg₂ (· * · : EReal → EReal → EReal) (iblk_2 m c t p q)
    (congrArg₂ (· * · : EReal → EReal → EReal) (iblk_0 m c t p q) (congrArg (rs width) (funext fun k => iblk_0 m c t p k)))

/-- What the gain's block holds after a point: the sum over the rows so far. -/
theorem acc_at (c : Dev nD) : ∀ (n : ℕ) (h : n < cfg0.N) (q : Fin 1024),
    (outsAt0 m c n h).2 (ix2 0 q) = (∑ l ∈ Finset.range (n + 1), term m c q.val l : EReal) := by
  intro n
  induction n with
  | zero =>
    intro h q
    rw [outsAt0_A m c ⟨0, h⟩ rfl (by dsimp only; omega)]
    dsimp only
    rw [out_A_5, pay3_blk]
    simp
  | succ n ih =>
    intro h q
    have hN : n + 1 < 8 := lt_of_lt_of_eq h (show cfg0.N = 8 from N_0)
    rw [outsAt0_B m c ⟨n + 1, h⟩ (by dsimp only; omega) (by dsimp only; omega)]
    dsimp only
    rw [out_B_5, pay4_at, pay3_blk]
    show ((outsAt0 m c n _).2 (ix2 0 q) + _ : EReal) = _
    rw [ih, Finset.sum_range_succ _ (n + 1)]

theorem flushed_4 (c : Dev nD) (t : Fin cfg0.N) (hf : (cfg0.win 4).flush t = true) :
    (dats m 0 c).flushed 4 t = ((cfg0.win 4).blk t).view.read (Elt Ideal) (dArgSkip width (argR m c) (argX m c) (argG m c) (argY m c)) := by
  have e : (dats m 0 c).flushed 4 t = (cfg0.win 4).cut (grid0.coords t) (k0_pay5 (iblk m c 0 t) (iblk m c 2 t) (iblk m c 1 t) (iblk m c 3 t)) := by
    by_cases h : t.val = 0
    · rw [flushed4_A m c t (by omega) (by omega), out_A_4]
    · have hN : t.val < 8 := lt_of_lt_of_eq t.isLt (show cfg0.N = 8 from N_0)
      rw [flushed4_B m c t (by omega) (by omega), out_B_4]
  rw [e]
  obtain ⟨e0, e1⟩ := index_4 t
  funext y
  obtain ⟨p, q, hy⟩ : ∃ (p : Fin 512) (q : Fin 1024), (cfg0.win 4).xinj (grid0.coords t) y = ix2 p q :=
    ⟨_, _, (ix2_eta (n0 := 512) (n1 := 1024) _).symm⟩
  rw [View.read_apply]
  show k0_pay5 _ _ _ _ ((cfg0.win 4).xinj (grid0.coords t) y) = _
  have h0 : (((cfg0.win 4).blk t).view.emb y 0).val = t.val * 512 + p.val := by
    have : (y 0).val = p.val := congrArg (fun j : S512x1024.Idx => (j 0).val) hy
    show win0_4.index t 0 * 512 + 1 * (y 0).val = _; rw [e0, this, one_mul]
  have h1 : ((cfg0.win 4).blk t).view.emb y 1 = q := by
    have : (y 1).val = q.val := congrArg (fun j : S512x1024.Idx => (j 1).val) hy
    refine Fin.ext ?_
    show win0_4.index t 1 * 1024 + 1 * (y 1).val = _; rw [e1, this, one_mul, zero_mul, zero_add]
  rw [hy, pay5_blk]
  unfold dArgSkip dArg
  rw [h0, h1]
  rfl

/-- The point that writes an index of the argument's gradient back. -/
def pointOf (i : S4096x1024.Idx) : Fin cfg0.N := ⟨(i 0).val / 512, lt_of_lt_of_eq (by
  have h0 : (i 0).val < 4096 := (i 0).isLt
  omega) N_0.symm⟩

theorem covered_4 (i : S4096x1024.Idx) : i ∈ ((cfg0.win 4).blk (pointOf i)).view.set := by
  show i ∈ ((View.whole main_v0_0).slice (win0_4.rect (pointOf i))).set
  rw [View.set_slice_whole, Rect.mem_set_unit]
  obtain ⟨e0, e1⟩ := index_4 (pointOf i)
  have h0 : (i 0).val < 4096 := (i 0).isLt
  have h1 : (i 1).val < 1024 := (i 1).isLt
  have hv : (pointOf i).val = (i 0).val / 512 := rfl
  intro a
  match a with
  | ⟨0, _⟩ =>
    show win0_4.index (pointOf i) 0 * 512 ≤ (i 0).val ∧ (i 0).val < win0_4.index (pointOf i) 0 * 512 + 512
    rw [e0, hv]; omega
  | ⟨1, _⟩ =>
    show win0_4.index (pointOf i) 1 * 1024 ≤ (i 1).val ∧ (i 1).val < win0_4.index (pointOf i) 1 * 1024 + 1024
    rw [e1]; omega

theorem final_4 (c : Dev nD) : (dats m 0 c).arrAt 4 cfg0.N = dArgSkip width (argR m c) (argX m c) (argG m c) (argY m c) :=
  (dats m 0 c).arrAt_eq_of_cover 4 _ (flushed_4 m c) fun i => ⟨pointOf i, flush0_4 _, covered_4 i⟩

theorem flushed_5 (c : Dev nD) (t : Fin cfg0.N) (hf : (cfg0.win 5).flush t = true) :
    (dats m 0 c).flushed 5 t = ((cfg0.win 5).blk t).view.read (Elt Ideal) (dGain width (argX m c) (argY m c)) := by
  have hN : t.val < 8 := lt_of_lt_of_eq t.isLt (show cfg0.N = 8 from N_0)
  have hm : t.val % 8 = 7 := (flush0_5 t).mp hf
  rw [flushed5]
  obtain ⟨e0, e1⟩ := index_5 t
  funext y
  obtain ⟨q, hy⟩ : ∃ q : Fin 1024, (cfg0.win 5).xinj (grid0.coords t) y = ix2 0 q :=
    ⟨_, (ix2_eta (n0 := 1) (n1 := 1024) _).symm.trans (congrArg (fun p : Fin 1 => ix2 p _) (Subsingleton.elim _ _))⟩
  rw [View.read_apply]
  show (outsAt0 m c t.val t.isLt).2 ((cfg0.win 5).xinj (grid0.coords t) y) = _
  have h1 : (((cfg0.win 5).blk t).view.emb y 1).val = q.val := by
    have : (y 1).val = q.val := congrArg (fun j : S1x1024.Idx => (j 1).val) hy
    show win0_5.index t 1 * 1024 + 1 * (y 1).val = _; rw [e1, this, one_mul, zero_mul, zero_add]
  rw [hy, acc_at, show t.val + 1 = 8 by omega]
  refine Eq.trans ?_ (Eq.symm (b := dGain width (argX m c) (argY m c) _) rfl)
  unfold dGain
  rw [h1]
  exact (sum_runs (fun r => at2 (argY m c) r q.val * (at2 (argX m c) r q.val * rs width (row (argX m c) r))) 8 512 (by norm_num)).symm

/-- The point that writes the gain's gradient back. -/
def lastPt : Fin cfg0.N := ⟨7, lt_of_lt_of_eq (by norm_num) N_0.symm⟩

theorem covered_5 (i : S1x1024.Idx) : i ∈ ((cfg0.win 5).blk lastPt).view.set := by
  show i ∈ ((View.whole main_v0_1).slice (win0_5.rect lastPt)).set
  rw [View.set_slice_whole, Rect.mem_set_unit]
  obtain ⟨e0, e1⟩ := index_5 lastPt
  have h0 : (i 0).val < 1 := (i 0).isLt
  have h1 : (i 1).val < 1024 := (i 1).isLt
  intro a
  match a with
  | ⟨0, _⟩ =>
    show win0_5.index lastPt 0 * 1 ≤ (i 0).val ∧ (i 0).val < win0_5.index lastPt 0 * 1 + 1
    rw [e0]; omega
  | ⟨1, _⟩ =>
    show win0_5.index lastPt 1 * 1024 ≤ (i 1).val ∧ (i 1).val < win0_5.index lastPt 1 * 1024 + 1024
    rw [e1]; omega

theorem final_5 (c : Dev nD) : (dats m 0 c).arrAt 5 cfg0.N = dGain width (argX m c) (argY m c) :=
  (dats m 0 c).arrAt_eq_of_cover 5 _ (flushed_5 m c) fun i => ⟨lastPt, (flush0_5 lastPt).mpr rfl, covered_5 i⟩

/-- The kernel's results are the two gradients. -/
theorem run_grads : θ_run defs (onTc (τ := τ) (main (F := Ideal))) ⟨m, fun _ => 0, ρ⟩ fun r => ∀ c : Dev nD,
      r.2.mem ((c : Thread nD τ).loc main_v0_0) = dArgSkip width (argR m c) (argX m c) (argG m c) (argY m c)
      ∧ r.2.mem ((c : Thread nD τ).loc main_v0_1) = dGain width (argX m c) (argY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_4 m c), (h c).2.1.trans (final_5 m c), (h c).2.2⟩) (run_blocks m ρ)

end Cert.Kernel11Ideal.Value

namespace Cert.Reference11Ideal.Value

open Cert.Reference11Ideal Cert.Reference11Ideal.Gen Cert.Prod Cert.Norm Idealize.ShloMosaic Idealize.ShloMosaic.TcCoe
open Cert.Reference10Ideal.Value (root inc dMean dX dG dX_eq dG_eq)

variable (r x : FVec Ideal S4096x1024 .f32) (g : FVec Ideal S1x1024 .f32) (y : FVec Ideal S4096x1024 .f32)

/-- The reference's gradient: the norm's three parts, added one by one to the gradient that skips the layer. -/
def dSkip : FVec Ideal S4096x1024 .f32 :=
  addf (addf (addf r (mulf (inc g y) (broadcastInDim S4096x1024 ![0, 1] bcast_S4096x1_S4096x1024_0_1 (root x))))
      (mulf x (broadcastInDim S4096x1024 ![0] bcast_S4096_S4096x1024_0 (dMean x g y))))
    (mulf (broadcastInDim S4096x1024 ![0] bcast_S4096_S4096x1024_0 (dMean x g y)) x)

theorem dSkip_eq : dSkip r x g y = dArgSkip width r x g y := by
  have h : dSkip r x g y = addf r (dX x g y) := by
    funext i
    exact (congrArg (fun z : EReal => (z + _ : EReal)) (add_assoc (r i : EReal) _ _)).trans (add_assoc (r i : EReal) _ _)
  rw [h, dX_eq]
  refine mat_ext fun p q => ?_
  exact congrArg (fun z : EReal => (z + dArg width x g y (ix2 p q) : EReal)) (at2_fin r p q).symm

end Cert.Reference11Ideal.Value

namespace Cert.Proof

open Idealize.ShloMosaic Idealize.SL.Sem Cert.Norm

set_option smartUnfolding false in
/-- The frames of kernel and reference; the kernel's in floating point is that of its ideal text, proved for every float model. -/
theorem kernel11_frame : Cert.quiescent_Kernel11 := fun m ρ _ => Cert.Kernel11Ideal.Gen.frame (F := Bits) m ρ

theorem kernel11Ideal_frame : Cert.quiescent_Kernel11Ideal := fun m ρ _ => Cert.Kernel11Ideal.Gen.frame m ρ

theorem reference11_frame : Cert.quiescent_Reference11Ideal := fun m ρ _ =>
  (θ_run (Cert.Reference11Ideal.defs (F := Ideal)) _ _).mono
    (fun r h => ⟨fun c => (h c).2.2, sem_eq_zero_of_no_sems rfl r.2⟩) (Cert.Reference11Ideal.Value.run m ρ)

/-- Kernel and reference give the same gradients. -/
theorem algebraic11 : Cert.algebraic_Kernel11Ideal_Reference11Ideal := by
  intro m g m' g' _ hargs
  refine ⟨_, _, Cert.Kernel11Ideal.Value.run_grads m g, ?_⟩
  refine (θ_run (Cert.Reference11Ideal.defs (F := Ideal)) _ _).mono (fun r h c => ⟨?_, ?_, (h c).2.2⟩) (Cert.Reference11Ideal.Value.run m' g')
  all_goals obtain ⟨e0, e1, e2, e3⟩ := hargs c
  · refine (h c).1.trans ((Cert.Reference11Ideal.Value.dSkip_eq _ _ _ _).trans ?_)
    rw [e0, e1, e2, e3]
  · refine (h c).2.1.trans ((Cert.Reference10Ideal.Value.dG_eq _ _).trans ?_)
    rw [e0, e2]

end Cert.Proof

end
-- ==== Proof.MergeS.lean ====
/- The gradients of the gates and the merge, row by row and column by column, as formulas over the extended reals. -/
module

public import Idealize.ShloMosaic.Lib.Pointwise
public import proofs.«01_k».proof.Proof.NormPre

@[expose] public section

noncomputable section

namespace Cert.Merge

open Idealize.ShloMosaic Idealize.ShloMosaic.Tactic Cert.Prod Cert.Norm

/-- The number of a head's columns. -/
abbrev wide : EReal := Ideal.ofBits .f32 0x43000000#32

theorem wide_eq : wide = ((128 : ℝ) : EReal) := by
  simp [wide, Ideal.ofBits, Ideal.ieee]
  rw [← EReal.coe_mul]; norm_num

/-- The logistic function. -/
def lg (z : EReal) : EReal := Ideal.div 1 (1 + Ideal.exp (-z))

/-- The gradient of `z * lg z`, as the kernel writes it, and as the two factors' derivatives give it. -/
def gateK (u z : EReal) : EReal := u * (lg z * (1 + z * (1 - lg z)))
def gateR (u z : EReal) : EReal := u * lg z + z * u * (lg z * (1 - lg z))

theorem lg_real (z : ℝ) : ∃ s : ℝ, lg z = (s : EReal) := by
  refine ⟨1 * (1 / (1 + _root_.Real.exp (-z))), ?_⟩
  have h : (1 : ℝ) + _root_.Real.exp (-z) ≠ 0 := by positivity
  unfold lg
  rw [show (1 : EReal) = ((1 : ℝ) : EReal) from rfl, Real.neg, Real.exp, Real.add, Ideal.div_coe h, Real.mul]

theorem gate_eq (u z : ℝ) : gateK u z = gateR u z := by
  obtain ⟨s, hs⟩ := lg_real z
  unfold gateK gateR
  rw [hs, show (1 : EReal) = ((1 : ℝ) : EReal) from rfl]
  simp only [Real.add, Real.sub, Real.mul]
  congr 1
  ring

/-- The call's arguments: the projections, the recurrence's output, the scan's output, the other gate's projection, the two
    parameters and the incoming gradient. -/
structure Args where
  p : Mat 4096 8448
  o : Mat 4096 1024
  y : Mat 4096 1024
  l : Mat 4096 1024
  g : Mat 1 128
  b : Mat 1 1024
  d : Mat 4096 1024

namespace Args
variable (A : Args)

/-- The four gates' projections are columns of one matrix. -/
def za (r c : ℕ) : EReal := at2 A.p r (3072 + c)
def zb (r c : ℕ) : EReal := at2 A.p r (5120 + c)
def ra (r c : ℕ) : EReal := at2 A.p r (6144 + c)
def rb (r c : ℕ) : EReal := at2 A.p r (7168 + c)

/-- A head's row, its normed row, and that times the gain; column `c` is column `c % 128` of head `c / 128`. -/
def hrow (r h : ℕ) : Fin 128 → EReal := fun k => at2 A.o r (h * 128 + k.val)
def nrm (r h k : ℕ) : EReal := at2 A.o r (h * 128 + k) * rs wide (A.hrow r h)
def on (r c : ℕ) : EReal := A.nrm r (c / 128) (c % 128) * at2 A.g 0 (c % 128)

/-- The other branch: its gate, and the gated rows. -/
def gt (r c : ℕ) : EReal := lg (at2 A.l r c + at2 A.b 0 c)
def yg (r c : ℕ) : EReal := at2 A.y r c * A.gt r c

/-- What the merge multiplies, and the gradients that reach the two branches and the normed rows. -/
def ya (r c : ℕ) : EReal := A.on r c * (A.za r c * lg (A.za r c))
def yb (r c : ℕ) : EReal := A.yg r c * (A.zb r c * lg (A.zb r c))
def da (r c : ℕ) : EReal := at2 A.d r c * lg (A.ra r c)
def db (r c : ℕ) : EReal := at2 A.d r c * lg (A.rb r c)
def dn (r c : ℕ) : EReal := A.da r c * (A.za r c * lg (A.za r c))
def dy (r c : ℕ) : EReal := A.db r c * (A.zb r c * lg (A.zb r c))
def dl (r c : ℕ) : EReal := A.dy r c * at2 A.y r c * A.gt r c * (1 - A.gt r c)

/-- A head's incoming gradient times the gain. -/
def inc (r h : ℕ) : Fin 128 → EReal := fun k => A.dn r (h * 128 + k.val) * at2 A.g 0 k.val

/-- The nine gradients. -/
def dZa : Mat 4096 1024 := fun i => gateK (A.da (i 0).val (i 1).val * A.on (i 0).val (i 1).val) (A.za (i 0).val (i 1).val)
def dZb : Mat 4096 1024 := fun i => gateK (A.db (i 0).val (i 1).val * A.yg (i 0).val (i 1).val) (A.zb (i 0).val (i 1).val)
def dRa : Mat 4096 1024 := fun i =>
  at2 A.d (i 0).val (i 1).val * A.ya (i 0).val (i 1).val * lg (A.ra (i 0).val (i 1).val) * (1 - lg (A.ra (i 0).val (i 1).val))
def dRb : Mat 4096 1024 := fun i =>
  at2 A.d (i 0).val (i 1).val * A.yb (i 0).val (i 1).val * lg (A.rb (i 0).val (i 1).val) * (1 - lg (A.rb (i 0).val (i 1).val))
def dO : Mat 4096 1024 := fun i => grad wide (A.hrow (i 0).val ((i 1).val / 128)) (A.inc (i 0).val ((i 1).val / 128))
  ⟨(i 1).val % 128, Nat.mod_lt _ (by norm_num)⟩
def dL : Mat 4096 1024 := fun i => A.dl (i 0).val (i 1).val
def dY : Mat 4096 1024 := fun i => A.dy (i 0).val (i 1).val * A.gt (i 0).val (i 1).val
def dG : Mat 1 128 := fun i => ∑ r ∈ Finset.range 4096, ∑ h ∈ Finset.range 8,
  A.dn r (h * 128 + (i 1).val) * A.nrm r h (i 1).val
def dB : Mat 1 1024 := fun i => ∑ r ∈ Finset.range 4096, A.dl r (i 1).val

end Args

end Cert.Merge

end
-- ==== Proof.MergeK.lean ====
/- The call `merge_b`: the gradients of the gates and of the merge, sixteen runs of 256 rows. -/
module

public import proofs.«01_k».proof.Defs
public import proofs.«01_k».proof.Proof.MergeS
public import proofs.«01_k».proof.Proof.Gen.Kernel12
public import proofs.«01_k».proof.Proof.Gen.Kernel12Ideal.Value
public import proofs.«01_k».proof.Proof.Gen.Reference12Ideal.Run
public import Idealize.ShloMosaic.Lib.Tactic
public import Idealize.ShloMosaic.Lib.Pointwise
public import Idealize.ShloMosaic.Lib.Quiescent

@[expose] public section

noncomputable section

namespace Cert.Kernel12Ideal.Value

open Cert.Kernel12Ideal Cert.Kernel12Ideal.Gen Cert.Prod Cert.Norm Idealize.ShloMosaic Idealize.ShloMosaic.TcCoe Idealize.SL.Sem
open Idealize.ShloMosaic.Tactic

theorem hz : (![0, 0] : Fin 2 → Nat) = fun _ => 0 := funext fun a => by fin_cases a <;> rfl

section
variable {F : FTy → Type} [FloatOps F]

/-- The logistic function of a block, as the kernel writes it. -/
def lgs (z : FVec F S256x1024 .f32) : FVec F S256x1024 .f32 := k0_pay36 z

/-- A head's columns of a block. -/
def head (h : Fin 8) (x : FVec F S256x1024 .f32) : FVec F S256x128 .f32 :=
  match h with
  | 0 => k0_pay3 x | 1 => k0_pay7 x | 2 => k0_pay11 x | 3 => k0_pay16 x
  | 4 => k0_pay20 x | 5 => k0_pay24 x | 6 => k0_pay28 x | 7 => k0_pay32 x

/-- The reciprocal root of a head's rows, the normed rows, and these times the gain. -/
def headR (s : FVec F S256x128 .f32) : FVec F S256x1 .f32 :=
  rsqrt (addf (divf (shapeCast S256x1 (multiReduction .add [1] S256 (mulf s s) 0x00000000#32 reduces_S256x128_S256 (.inl rfl) rfl)
    shapeCasts_S256_S256x1) (broadcast S256x1 (Scalar.ofBits .f32 0x43000000#32))) (broadcast S256x1 (Scalar.ofBits .f32 0x358637BD#32)))

def headN (s : FVec F S256x128 .f32) : FVec F S256x128 .f32 := mulf s (broadcastTo S256x128 (headR s) broadcasts_S256x1_S256x128)

def headO (g : FVec F S1x128 .f32) (s : FVec F S256x128 .f32) : FVec F S256x128 .f32 :=
  mulf (headN s) (broadcastTo S256x128 g broadcasts_S1x128_S256x128)

/-- The normed block. -/
def onc (g : FVec F S1x128 .f32) (x : FVec F S256x1024 .f32) : FVec F S256x1024 .f32 :=
  concatenate S256x1024 1 [⟨S256x128, headO g (head 0 x)⟩, ⟨S256x128, headO g (head 1 x)⟩, ⟨S256x128, headO g (head 2 x)⟩,
    ⟨S256x128, headO g (head 3 x)⟩, ⟨S256x128, headO g (head 4 x)⟩, ⟨S256x128, headO g (head 5 x)⟩, ⟨S256x128, headO g (head 6 x)⟩,
    ⟨S256x128, headO g (head 7 x)⟩] concatenates_S256x128_S256x128_S256x128_S256x128_S256x128_S256x128_S256x128_S256x128_S256x1024_d1

/-- The gradient of the normed block, and a head's share of the gradients of its argument and of its gain. -/
def dOn (za ra dm : FVec F S256x1024 .f32) : FVec F S256x1024 .f32 := mulf (mulf dm (lgs ra)) (mulf za (lgs za))

def headD (g : FVec F S1x128 .f32) (s d : FVec F S256x128 .f32) : FVec F S256x128 .f32 := k0_pay1 g (headR s) (headN s) d

def headG (s d : FVec F S256x128 .f32) : FVec F S1x128 .f32 :=
  shapeCast S1x128 (multiReduction .add [0] S128 (mulf d (headN s)) 0x00000000#32 reduces_S256x128_S128 (.inl rfl) rfl) shapeCasts_S128_S1x128

def gains (x d : FVec F S256x1024 .f32) : FVec F S1x128 .f32 :=
  addf (addf (addf (addf (addf (addf (addf (addf (broadcast S1x128 (Scalar.ofBits .f32 0x00000000#32)) (headG (head 0 x) (head 0 d)))
    (headG (head 1 x) (head 1 d))) (headG (head 2 x) (head 2 d))) (headG (head 3 x) (head 3 d))) (headG (head 4 x) (head 4 d)))
    (headG (head 5 x) (head 5 d))) (headG (head 6 x) (head 6 d))) (headG (head 7 x) (head 7 d))

/-- The other branch's gate. -/
def gate (l : FVec F S256x1024 .f32) (b : FVec F S1x1024 .f32) : FVec F S256x1024 .f32 :=
  lgs (addf l (broadcastTo S256x1024 b broadcasts_S1x1024_S256x1024))

/-- What a point leaves in the block of the recurrence's gradient, head by head. -/
def dHeads (g : FVec F S1x128 .f32) (x d : FVec F S256x1024 .f32) : List (View.Piece (Elt F) S256x1024 .f32) :=
  [⟨Rect.unit ![0, 896] ![256, 128] inb_S256x1024_S256x128_0_896, headD g (head 7 x) (head 7 d)⟩,
    ⟨Rect.unit ![0, 768] ![256, 128] inb_S256x1024_S256x128_0_768, headD g (head 6 x) (head 6 d)⟩,
    ⟨Rect.unit ![0, 640] ![256, 128] inb_S256x1024_S256x128_0_640, headD g (head 5 x) (head 5 d)⟩,
    ⟨Rect.unit ![0, 512] ![256, 128] inb_S256x1024_S256x128_0_512, headD g (head 4 x) (head 4 d)⟩,
    ⟨Rect.unit ![0, 384] ![256, 128] inb_S256x1024_S256x128_0_384, headD g (head 3 x) (head 3 d)⟩,
    ⟨Rect.unit ![0, 256] ![256, 128] inb_S256x1024_S256x128_0_256, headD g (head 2 x) (head 2 d)⟩,
    ⟨Rect.unit ![0, 128] ![256, 128] inb_S256x1024_S256x128_0_128, headD g (head 1 x) (head 1 d)⟩,
    ⟨Rect.unit ![0, 0] ![256, 128] inb_S256x1024_S256x128_0_0, headD g (head 0 x) (head 0 d)⟩]

/-- What a point leaves in the nine blocks, from its ten input blocks and what the two sums then hold. -/
def blocks (x0 x1 x2 x3 x4 x5 x6 : FVec F S256x1024 .f32) (x7 : FVec F S1x128 .f32) (x8 : FVec F S1x1024 .f32) (x9 : FVec F S256x1024 .f32)
    (g : FVec F S1x128 .f32) (b : FVec F S1x1024 .f32) : Vec F S256x1024 .bf16 × Vec F S256x1024 .bf16 × Vec F S256x1024 .bf16
      × Vec F S256x1024 .bf16 × Vec F S256x1024 .f32 × Vec F S256x1024 .bf16 × Vec F S256x1024 .f32 × Vec F S1x128 .f32 × Vec F S1x1024 .f32 :=
  (k0_pay50 x0 (onc x7 x4) (lgs x0) (mulf x9 (lgs x2)), k0_pay51 x1 (lgs x1) (mulf x5 (gate x6 x8)) (lgs x3) x9,
    k0_pay46 x2 (mulf (onc x7 x4) (mulf x0 (lgs x0))) x9,
    k0_pay47 x1 x3 (lgs x1) x5 x6 (broadcastTo S256x1024 x8 broadcasts_S1x1024_S256x1024) x9,
    View.canon (dHeads x7 x4 (dOn x0 x2 x9)), k0_pay56 x5 (gate x6 x8) (mulf x1 (lgs x1)) (lgs x3) x9,
    k0_pay54 (gate x6 x8) (mulf x1 (lgs x1)) (lgs x3) x9, g, b)

/-- A run's sum over its rows of the other gate's gradient. -/
def biases (x1 x3 x5 x6 : FVec F S256x1024 .f32) (x8 : FVec F S1x1024 .f32) (x9 : FVec F S256x1024 .f32) : FVec F S1x1024 .f32 :=
  k0_pay57 x5 (gate x6 x8) (mulf x1 (lgs x1)) (lgs x3) x9

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .f32) (harg17 : arg17.IsWhole) (arg18 : Memref sig .tc .vmem S1x128 .f32) (harg18 : arg18.IsWhole) (arg19 : Memref sig .tc .vmem S1x1024 .f32) (harg19 : arg19.IsWhole)
    (x0 : Vec F S256x1024 .f32) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S1x128 .f32) (x8 : Vec F S1x1024 .f32) (x9 : Vec F S256x1024 .f32)

/-- The pieces that a point stores, where the sums begin. -/
theorem run_A (hc0 : cond0_0 i) (hc1 : ¬cond0_1 i) (hc2 : cond0_2 i) (hc3 : ¬cond0_3 i) :
    let R := kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9
    let B := blocks x0 x1 x2 x3 x4 x5 x6 x7 x8 x9 (gains x4 (dOn x0 x2 x9)) (biases x1 x3 x5 x6 x8 x9)
    R.1 = [⟨Rect.unit ![0, 0] ![256, 1024] inb_S256x1024_S256x1024_0_0, B.1⟩]
    ∧ R.2.1 = [⟨Rect.unit ![0, 0] ![256, 1024] inb_S256x1024_S256x1024_0_0, B.2.1⟩]
    ∧ R.2.2.1 = [⟨Rect.unit ![0, 0] ![256, 1024] inb_S256x1024_S256x1024_0_0, B.2.2.1⟩]
    ∧ R.2.2.2.1 = [⟨Rect.unit ![0, 0] ![256, 1024] inb_S256x1024_S256x1024_0_0, B.2.2.2.1⟩]
    ∧ R.2.2.2.2.1 = dHeads x7 x4 (dOn x0 x2 x9)
    ∧ R.2.2.2.2.2.1 = [⟨Rect.unit ![0, 0] ![256, 1024] inb_S256x1024_S256x1024_0_0, B.2.2.2.2.2.1⟩]
    ∧ R.2.2.2.2.2.2.1 = [⟨Rect.unit ![0, 0] ![256, 1024] inb_S256x1024_S256x1024_0_0, B.2.2.2.2.2.2.1⟩]
    ∧ R.2.2.2.2.2.2.2.1 = [⟨Rect.unit ![0, 0] ![1, 128] inb_S1x128_S1x128_0_0, B.2.2.2.2.2.2.2.1⟩]
    ∧ R.2.2.2.2.2.2.2.2.1 = [⟨Rect.unit ![0, 0] ![1, 1024] inb_S1x1024_S1x1024_0_0, B.2.2.2.2.2.2.2.2⟩] := by
  intro R B
  simp only [R, kernelRun0_A, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, View.readAt_eq_ld, harg1.read_unread, harg2.read_unread, harg3.read_unread, harg4.read_unread, harg5.read_unread, harg6.read_unread, harg7.read_unread, harg8.read_unread, harg9.read_unread, harg10.read_unread, View.ld_unit_zero (S := S256x1024) hz, View.ld_unit_zero (S := S1x1024) hz, View.ld_unit_zero (S := S1x128) hz]
  exact ⟨rfl, rfl, rfl, rfl, rfl, rfl, rfl, rfl, rfl⟩

theorem outs_A (hc0 : cond0_0 i) (hc1 : ¬cond0_1 i) (hc2 : cond0_2 i) (hc3 : ¬cond0_3 i) :
    (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9, out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9, out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9, out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9, out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9, out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9, out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9, out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9, out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9)
      = blocks x0 x1 x2 x3 x4 x5 x6 x7 x8 x9 (gains x4 (dOn x0 x2 x9)) (biases x1 x3 x5 x6 x8 x9) := by
  have h := run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1 hc2 hc3
  obtain ⟨h0, h1, h2, h3, h4, h5, h6, h7, h8⟩ := h
  unfold blocks
  refine congrArg₂ Prod.mk ?_ (congrArg₂ Prod.mk ?_ (congrArg₂ Prod.mk ?_ (congrArg₂ Prod.mk ?_ (congrArg₂ Prod.mk ?_
    (congrArg₂ Prod.mk ?_ (congrArg₂ Prod.mk ?_ (congrArg₂ Prod.mk ?_ ?_)))))))
  · exact (View.read_writes_eq_canon _ _ _ fun y => by apply cover0_A_10).trans ((congrArg View.canon h0).trans (View.canon_unit_zero hz _ _))
  · exact (View.read_writes_eq_canon _ _ _ fun y => by apply cover0_A_11).trans ((congrArg View.canon h1).trans (View.canon_unit_zero hz _ _))
  · exact (View.read_writes_eq_canon _ _ _ fun y => by apply cover0_A_12).trans ((congrArg View.canon h2).trans (View.canon_unit_zero hz _ _))
  · exact (View.read_writes_eq_canon _ _ _ fun y => by apply cover0_A_13).trans ((congrArg View.canon h3).trans (View.canon_unit_zero hz _ _))
  · exact (View.read_writes_eq_canon _ _ _ fun y => by apply cover0_A_14).trans (congrArg View.canon h4)
  · exact (View.read_writes_eq_canon _ _ _ fun y => by apply cover0_A_15).trans ((congrArg View.canon h5).trans (View.canon_unit_zero hz _ _))
  · exact (View.read_writes_eq_canon _ _ _ fun y => by apply cover0_A_16).trans ((congrArg View.canon h6).trans (View.canon_unit_zero hz _ _))
  · exact (View.read_writes_eq_canon _ _ _ fun y => by apply cover0_A_17).trans ((congrArg View.canon h7).trans (View.canon_unit_zero hz _ _))
  · exact (View.read_writes_eq_canon _ _ _ fun y => by apply cover0_A_18).trans ((congrArg View.canon h8).trans (View.canon_unit_zero hz _ _))

/-- The pieces that a point stores, where the sums go on. -/
theorem run_B (hc0 : ¬cond0_0 i) (hc1 : cond0_1 i) (hc2 : ¬cond0_2 i) (hc3 : cond0_3 i)
    (xo17 : Vec F S1x128 .f32) (xo18 : Vec F S1x1024 .f32) :
    let R := kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18
    let B := blocks x0 x1 x2 x3 x4 x5 x6 x7 x8 x9 (k0_pay2 (gains x4 (dOn x0 x2 x9)) xo17) (k0_pay58 (biases x1 x3 x5 x6 x8 x9) xo18)
    R.1 = [⟨Rect.unit ![0, 0] ![256, 1024] inb_S256x1024_S256x1024_0_0, B.1⟩]
    ∧ R.2.1 = [⟨Rect.unit ![0, 0] ![256, 1024] inb_S256x1024_S256x1024_0_0, B.2.1⟩]
    ∧ R.2.2.1 = [⟨Rect.unit ![0, 0] ![256, 1024] inb_S256x1024_S256x1024_0_0, B.2.2.1⟩]
    ∧ R.2.2.2.1 = [⟨Rect.unit ![0, 0] ![256, 1024] inb_S256x1024_S256x1024_0_0, B.2.2.2.1⟩]
    ∧ R.2.2.2.2.1 = dHeads x7 x4 (dOn x0 x2 x9)
    ∧ R.2.2.2.2.2.1 = [⟨Rect.unit ![0, 0] ![256, 1024] inb_S256x1024_S256x1024_0_0, B.2.2.2.2.2.1⟩]
    ∧ R.2.2.2.2.2.2.1 = [⟨Rect.unit ![0, 0] ![256, 1024] inb_S256x1024_S256x1024_0_0, B.2.2.2.2.2.2.1⟩]
    ∧ R.2.2.2.2.2.2.2.1 = [⟨Rect.unit ![0, 0] ![1, 128] inb_S1x128_S1x128_0_0, B.2.2.2.2.2.2.2.1⟩]
    ∧ R.2.2.2.2.2.2.2.2.1 = [⟨Rect.unit ![0, 0] ![1, 1024] inb_S1x1024_S1x1024_0_0, B.2.2.2.2.2.2.2.2⟩] := by
  intro R B
  simp only [R, kernelRun0_B, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, View.readAt_eq_ld, harg1.read_unread, harg2.read_unread, harg3.read_unread, harg4.read_unread, harg5.read_unread, harg6.read_unread, harg7.read_unread, harg8.read_unread, harg9.read_unread, harg10.read_unread, harg18.read_unread, harg19.read_unread, View.ld_unit_zero (S := S256x1024) hz, View.ld_unit_zero (S := S1x1024) hz, View.ld_unit_zero (S := S1x128) hz]
  exact ⟨rfl, rfl, rfl, rfl, rfl, rfl, rfl, rfl, rfl⟩

theorem outs_B (hc0 : ¬cond0_0 i) (hc1 : cond0_1 i) (hc2 : ¬cond0_2 i) (hc3 : cond0_3 i)
    (xo17 : Vec F S1x128 .f32) (xo18 : Vec F S1x1024 .f32) :
    (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18, out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18, out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18, out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18, out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18, out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18, out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18, out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18, out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 x0 x1 x2 x3 x4 x5 x6 x7 x8 x9 xo17 xo18)
      = blocks x0 x1 x2 x3 x4 x5 x6 x7 x8 x9 (k0_pay2 (gains x4 (dOn x0 x2 x9)) xo17) (k0_pay58 (biases x1 x3 x5 x6 x8 x9) xo18) := by
  have h := run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 hc0 hc1 hc2 hc3 xo17 xo18
  obtain ⟨h0, h1, h2, h3, h4, h5, h6, h7, h8⟩ := h
  unfold blocks
  refine congrArg₂ Prod.mk ?_ (congrArg₂ Prod.mk ?_ (congrArg₂ Prod.mk ?_ (congrArg₂ Prod.mk ?_ (congrArg₂ Prod.mk ?_
    (congrArg₂ Prod.mk ?_ (congrArg₂ Prod.mk ?_ (congrArg₂ Prod.mk ?_ ?_)))))))
  · exact (View.read_writes_eq_canon _ _ _ fun y => by apply cover0_B_10).trans ((congrArg View.canon h0).trans (View.canon_unit_zero hz _ _))
  · exact (View.read_writes_eq_canon _ _ _ fun y => by apply cover0_B_11).trans ((congrArg View.canon h1).trans (View.canon_unit_zero hz _ _))
  · exact (View.read_writes_eq_canon _ _ _ fun y => by apply cover0_B_12).trans ((congrArg View.canon h2).trans (View.canon_unit_zero hz _ _))
  · exact (View.read_writes_eq_canon _ _ _ fun y => by apply cover0_B_13).trans ((congrArg View.canon h3).trans (View.canon_unit_zero hz _ _))
  · exact (View.read_writes_eq_canon _ _ _ fun y => by apply cover0_B_14).trans (congrArg View.canon h4)
  · exact (View.read_writes_eq_canon _ _ _ fun y => by apply cover0_B_15).trans ((congrArg View.canon h5).trans (View.canon_unit_zero hz _ _))
  · exact (View.read_writes_eq_canon _ _ _ fun y => by apply cover0_B_16).trans ((congrArg View.canon h6).trans (View.canon_unit_zero hz _ _))
  · exact (View.read_writes_eq_canon _ _ _ fun y => by apply cover0_B_17).trans ((congrArg View.canon h7).trans (View.canon_unit_zero hz _ _))
  · exact (View.read_writes_eq_canon _ _ _ fun y => by apply cover0_B_18).trans ((congrArg View.canon h8).trans (View.canon_unit_zero hz _ _))

end
end Cert.Kernel12Ideal.Value
end
-- ==== Proof.MergeE.lean ====
/- The blocks of `merge_b` element by element: each is the formula of its gradient, at the rows of its run. -/
module

public import proofs.«01_k».proof.Proof.MergeK
public import Idealize.ShloMosaic.Lib.Pipeline.ValueKit.Tiles

@[expose] public section

noncomputable section

namespace Cert.Kernel12Ideal.Value

open Cert.Kernel12Ideal Cert.Kernel12Ideal.Gen Cert.Prod Cert.Norm Cert.Merge Idealize.ShloMosaic Idealize.ShloMosaic.TcCoe
open Idealize.ShloMosaic.Tactic

theorem lgs_at (z : FVec Ideal S256x1024 .f32) (p : Fin 256) (q : Fin 1024) : lgs z (ix2 p q) = lg (z (ix2 p q)) := by
  unfold lg
  rw [← zero_sub]
  pointwise [lgs, k0_pay36]

theorem gate_at (l : FVec Ideal S256x1024 .f32) (b : FVec Ideal S1x1024 .f32) (p : Fin 256) (q : Fin 1024) :
    gate l b (ix2 p q) = lg (l (ix2 p q) + b (ix2 0 q) : EReal) := by
  unfold gate
  rw [lgs_at]
  congr 1
  pointwise []

/-- The column of a block that is column `k` of head `h`. -/
def col (h : Fin 8) (k : Fin 128) : Fin 1024 := ⟨h.val * 128 + k.val, by omega⟩

theorem head_at (h : Fin 8) (x : FVec Ideal S256x1024 .f32) (p : Fin 256) (k : Fin 128) : head h x (ix2 p k) = x (ix2 p (col h k)) := by
  have e : ∀ n (hs : S256x1024.Slices ![0, n] S256x128) (hn : n = h.val * 128),
      extractStridedSlice S256x128 ![0, n] x hs (ix2 p k) = x (ix2 p (col h k)) := by
    intro n hs hn
    subst hn
    refine (at2_idx x _ p.val (h.val * 128 + k.val) ?_ ?_).trans (at2_fin x p (col h k))
    · exact Nat.zero_add _
    · rfl
  match h with
  | 0 => exact e _ slices_S256x1024_o0_0_S256x128 rfl
  | 1 => exact e _ slices_S256x1024_o0_128_S256x128 rfl
  | 2 => exact e _ slices_S256x1024_o0_256_S256x128 rfl
  | 3 => exact e _ slices_S256x1024_o0_384_S256x128 rfl
  | 4 => exact e _ slices_S256x1024_o0_512_S256x128 rfl
  | 5 => exact e _ slices_S256x1024_o0_640_S256x128 rfl
  | 6 => exact e _ slices_S256x1024_o0_768_S256x128 rfl
  | 7 => exact e _ slices_S256x1024_o0_896_S256x128 rfl

variable (g : FVec Ideal S1x128 .f32) (s d : FVec Ideal S256x128 .f32)

theorem headR_at (p : Fin 256) : headR s (ix2 p 0) = rs wide (fun k : Fin 128 => s (ix2 p k)) := by
  unfold rs ms
  pointwise [headR]

theorem headN_at (p : Fin 256) (k : Fin 128) : headN s (ix2 p k) = (s (ix2 p k) * rs wide (fun k : Fin 128 => s (ix2 p k)) : EReal) := by
  rw [← headR_at]
  pointwise [headN]

theorem headO_at (p : Fin 256) (k : Fin 128) :
    headO g s (ix2 p k) = (s (ix2 p k) * rs wide (fun k : Fin 128 => s (ix2 p k)) * g (ix2 0 k) : EReal) := by
  rw [← headN_at]
  pointwise [headO]

theorem headD_at (p : Fin 256) (k : Fin 128) :
    headD g s d (ix2 p k) = grad wide (fun k : Fin 128 => s (ix2 p k)) (fun k => (d (ix2 p k) * g (ix2 0 k) : EReal)) k := by
  unfold grad
  pointwise [headD, k0_pay1]
  simp only [headN_at, headR_at]

theorem headG_at (k : Fin 128) :
    headG s d (ix2 0 k) = (∑ p : Fin 256, d (ix2 p k) * (s (ix2 p k) * rs wide (fun k : Fin 128 => s (ix2 p k))) : EReal) := by
  simp only [← headN_at]
  pointwise [headG]

variable (x y : FVec Ideal S256x1024 .f32)

theorem gains_at (k : Fin 128) : gains x y (ix2 0 k) = (∑ h : Fin 8, headG (head h x) (head h y) (ix2 0 k) : EReal) := by
  rw [Fin.sum_univ_eight]
  unfold gains
  pointwise []

/-- The head and the column in it of a block's column. -/
theorem col_split (q : Fin 1024) : ∃ (h : Fin 8) (k : Fin 128), q = col h k :=
  ⟨⟨q.val / 128, by omega⟩, ⟨q.val % 128, by omega⟩, Fin.ext (by show q.val = q.val / 128 * 128 + q.val % 128; omega)⟩

theorem onc_at (p : Fin 256) (h : Fin 8) (k : Fin 128) : onc g x (ix2 p (col h k)) = headO g (head h x) (ix2 p k) := by
  refine concatenate_ofFn_apply (t := S256x1024) (s₁ := S256x128) 1 (fun h : Fin 8 => headO g (head h x)) _ rfl 128 rfl _ h ?_ _ ?_ ?_
  · show (h.val * 128 + k.val) / 128 = h.val; omega
  · show k.val = (h.val * 128 + k.val) % 128; omega
  · intro b hb
    match b with
    | ⟨0, _⟩ => rfl
    | ⟨1, _⟩ => exact absurd rfl hb

theorem dHeads_at (p : Fin 256) (h : Fin 8) (k : Fin 128) :
    View.canon (dHeads g x y) (ix2 p (col h k)) = headD g (head h x) (head h y) (ix2 p k) := by
  have e : ∀ (n : Fin 8) (x' : S256x128.Idx) (h0 : p.val = 0 + (x' 0).val) (h1 : h.val * 128 + k.val = n.val * 128 + (x' 1).val),
      headD g (head n x) (head n y) x' = headD g (head h x) (head h y) (ix2 p k) := by
    intro n x' h0 h1
    have hk : (x' 1).val < 128 := (x' 1).isLt
    have en : n = h := Fin.ext (by omega)
    subst en
    congr 1
    rw [← ix2_eta (n0 := 256) (n1 := 128) x']
    exact congrArg₂ ix2 (Fin.ext (by omega)) (Fin.ext (by omega))
  refine View.canon_eq_of_allAt _ _ _ (View.cover_of_tiledL (dHeads g x y) ![256, 128] (by sl_kernel_rfl) _) ?_
  refine View.allAt_cons_unit _ _ _ _ _ (fun x' hx => e 7 x' (hx 0) (hx 1)) (View.allAt_cons_unit _ _ _ _ _ (fun x' hx => e 6 x' (hx 0) (hx 1)) (
    View.allAt_cons_unit _ _ _ _ _ (fun x' hx => e 5 x' (hx 0) (hx 1)) (View.allAt_cons_unit _ _ _ _ _ (fun x' hx => e 4 x' (hx 0) (hx 1)) (
    View.allAt_cons_unit _ _ _ _ _ (fun x' hx => e 3 x' (hx 0) (hx 1)) (View.allAt_cons_unit _ _ _ _ _ (fun x' hx => e 2 x' (hx 0) (hx 1)) (
    View.allAt_cons_unit _ _ _ _ _ (fun x' hx => e 1 x' (hx 0) (hx 1)) (View.allAt_cons_unit _ _ _ _ _ (fun x' hx => e 0 x' (hx 0) (hx 1)) (
    View.allAt_nil _ _))))))))

/-- A run's input blocks hold the arguments' rows `t * 256 …`. -/
structure Holds (A : Args) (t : ℕ) (x0 x1 x2 x3 x4 x5 x6 : FVec Ideal S256x1024 .f32) (x7 : FVec Ideal S1x128 .f32)
    (x8 : FVec Ideal S1x1024 .f32) (x9 : FVec Ideal S256x1024 .f32) : Prop where
  h0 : ∀ (p : Fin 256) (q : Fin 1024), x0 (ix2 p q) = A.za (t * 256 + p.val) q.val
  h1 : ∀ (p : Fin 256) (q : Fin 1024), x1 (ix2 p q) = A.zb (t * 256 + p.val) q.val
  h2 : ∀ (p : Fin 256) (q : Fin 1024), x2 (ix2 p q) = A.ra (t * 256 + p.val) q.val
  h3 : ∀ (p : Fin 256) (q : Fin 1024), x3 (ix2 p q) = A.rb (t * 256 + p.val) q.val
  h4 : ∀ (p : Fin 256) (q : Fin 1024), x4 (ix2 p q) = at2 A.o (t * 256 + p.val) q.val
  h5 : ∀ (p : Fin 256) (q : Fin 1024), x5 (ix2 p q) = at2 A.y (t * 256 + p.val) q.val
  h6 : ∀ (p : Fin 256) (q : Fin 1024), x6 (ix2 p q) = at2 A.l (t * 256 + p.val) q.val
  h7 : ∀ k : Fin 128, x7 (ix2 0 k) = at2 A.g 0 k.val
  h8 : ∀ q : Fin 1024, x8 (ix2 0 q) = at2 A.b 0 q.val
  h9 : ∀ (p : Fin 256) (q : Fin 1024), x9 (ix2 p q) = at2 A.d (t * 256 + p.val) q.val

section
variable {A : Args} {t : ℕ} {x0 x1 x2 x3 x4 x5 x6 : FVec Ideal S256x1024 .f32} {x7 : FVec Ideal S1x128 .f32}
  {x8 : FVec Ideal S1x1024 .f32} {x9 : FVec Ideal S256x1024 .f32} (H : Holds A t x0 x1 x2 x3 x4 x5 x6 x7 x8 x9)
include H

theorem on_blk (p : Fin 256) (q : Fin 1024) : onc x7 x4 (ix2 p q) = A.on (t * 256 + p.val) q.val := by
  obtain ⟨h, k, rfl⟩ := col_split q
  have e0 : (col h k).val / 128 = h.val := by show (h.val * 128 + k.val) / 128 = _; omega
  have e1 : (col h k).val % 128 = k.val := by show (h.val * 128 + k.val) % 128 = _; omega
  rw [onc_at, headO_at]
  simp only [head_at, H.h4, H.h7]
  unfold Args.on
  rw [e0, e1]
  rfl

theorem dn_blk (p : Fin 256) (q : Fin 1024) : dOn x0 x2 x9 (ix2 p q) = A.dn (t * 256 + p.val) q.val := by
  unfold dOn Args.dn Args.da
  pointwise []
  rw [lgs_at, lgs_at, H.h0, H.h2, H.h9]

theorem gt_blk (p : Fin 256) (q : Fin 1024) : gate x6 x8 (ix2 p q) = A.gt (t * 256 + p.val) q.val := by
  rw [gate_at, H.h6, H.h8]
  rfl

theorem za_blk (p : Fin 256) (q : Fin 1024) : k0_pay50 x0 (onc x7 x4) (lgs x0) (mulf x9 (lgs x2)) (ix2 p q)
    = gateK (A.da (t * 256 + p.val) q.val * A.on (t * 256 + p.val) q.val) (A.za (t * 256 + p.val) q.val) := by
  pointwise [k0_pay50]
  rw [lgs_at, lgs_at, on_blk H, H.h0, H.h2, H.h9]
  rfl

theorem zb_blk (p : Fin 256) (q : Fin 1024) : k0_pay51 x1 (lgs x1) (mulf x5 (gate x6 x8)) (lgs x3) x9 (ix2 p q)
    = gateK (A.db (t * 256 + p.val) q.val * A.yg (t * 256 + p.val) q.val) (A.zb (t * 256 + p.val) q.val) := by
  pointwise [k0_pay51, k0_pay49]
  rw [lgs_at, lgs_at, gt_blk H, H.h1, H.h3, H.h5, H.h9]
  rfl

theorem ra_blk (p : Fin 256) (q : Fin 1024) : k0_pay46 x2 (mulf (onc x7 x4) (mulf x0 (lgs x0))) x9 (ix2 p q)
    = at2 A.d (t * 256 + p.val) q.val * A.ya (t * 256 + p.val) q.val * lg (A.ra (t * 256 + p.val) q.val)
        * (1 - lg (A.ra (t * 256 + p.val) q.val)) := by
  pointwise [k0_pay46]
  rw [show k0_pay44 x2 = lgs x2 from rfl, lgs_at x2, lgs_at, H.h2, on_blk H, H.h0, H.h9]
  rfl

theorem rb_blk (p : Fin 256) (q : Fin 1024) :
    k0_pay47 x1 x3 (lgs x1) x5 x6 (broadcastTo S256x1024 x8 broadcasts_S1x1024_S256x1024) x9 (ix2 p q)
    = at2 A.d (t * 256 + p.val) q.val * A.yb (t * 256 + p.val) q.val * lg (A.rb (t * 256 + p.val) q.val)
        * (1 - lg (A.rb (t * 256 + p.val) q.val)) := by
  pointwise [k0_pay47, k0_pay42, k0_pay43]
  rw [show k0_pay45 x3 = lgs x3 from rfl, lgs_at x3, H.h3, show k0_pay41 x6 (broadcastTo S256x1024 x8 broadcasts_S1x1024_S256x1024) = gate x6 x8 from rfl, lgs_at, gt_blk H, H.h1, H.h5, H.h9]
  rfl

theorem dy_blk (p : Fin 256) (q : Fin 1024) : k0_pay53 (mulf x1 (lgs x1)) (lgs x3) x9 (ix2 p q) = A.dy (t * 256 + p.val) q.val := by
  pointwise [k0_pay53, k0_pay49]
  rw [lgs_at, lgs_at, H.h1, H.h3, H.h9]
  rfl

theorem y_blk (p : Fin 256) (q : Fin 1024) : k0_pay54 (gate x6 x8) (mulf x1 (lgs x1)) (lgs x3) x9 (ix2 p q)
    = A.dy (t * 256 + p.val) q.val * A.gt (t * 256 + p.val) q.val := by
  rw [← dy_blk H, ← gt_blk H]
  pointwise [k0_pay54]

theorem l_blk (p : Fin 256) (q : Fin 1024) :
    k0_pay55 x5 (gate x6 x8) (mulf x1 (lgs x1)) (lgs x3) x9 (ix2 p q) = A.dl (t * 256 + p.val) q.val := by
  unfold Args.dl
  rw [← dy_blk H, ← gt_blk H, ← H.h5]
  pointwise [k0_pay55]

theorem l_blk' (p : Fin 256) (q : Fin 1024) :
    k0_pay56 x5 (gate x6 x8) (mulf x1 (lgs x1)) (lgs x3) x9 (ix2 p q) = A.dl (t * 256 + p.val) q.val := by
  rw [← l_blk H]
  pointwise [k0_pay56]

theorem o_blk (p : Fin 256) (q : Fin 1024) : View.canon (dHeads x7 x4 (dOn x0 x2 x9)) (ix2 p q)
    = grad wide (A.hrow (t * 256 + p.val) (q.val / 128)) (A.inc (t * 256 + p.val) (q.val / 128)) ⟨q.val % 128, Nat.mod_lt _ (by norm_num)⟩ := by
  obtain ⟨h, k, rfl⟩ := col_split q
  have e0 : (col h k).val / 128 = h.val := by show (h.val * 128 + k.val) / 128 = _; omega
  have e1 : (⟨(col h k).val % 128, Nat.mod_lt _ (by norm_num)⟩ : Fin 128) = k := Fin.ext (by show (h.val * 128 + k.val) % 128 = _; omega)
  rw [dHeads_at, headD_at, e0, e1]
  simp only [head_at, H.h4, H.h7, dn_blk H]
  rfl

/-- A run's terms of the two sums. -/
def termG (A : Args) (s l : ℕ) : EReal := ∑ j ∈ Finset.range 256, ∑ h ∈ Finset.range 8, A.dn (l * 256 + j) (h * 128 + s) * A.nrm (l * 256 + j) h s
def termB (A : Args) (s l : ℕ) : EReal := ∑ j ∈ Finset.range 256, A.dl (l * 256 + j) s

theorem g_blk (k : Fin 128) : gains x4 (dOn x0 x2 x9) (ix2 0 k) = termG A k.val t := by
  rw [gains_at]
  simp only [headG_at, head_at, H.h4, dn_blk H]
  unfold termG
  rw [Finset.sum_comm, Finset.sum_range]
  refine Finset.sum_congr rfl fun p _ => ?_
  rw [Finset.sum_range]
  rfl

theorem b_blk (q : Fin 1024) : biases x1 x3 x5 x6 x8 x9 (ix2 0 q) = termB A q.val t := by
  unfold termB
  rw [Finset.sum_range]
  simp only [← l_blk H]
  pointwise [biases, k0_pay57]

end

end Cert.Kernel12Ideal.Value

end
-- ==== Proof.MergeB.lean ====
/- The windows of `merge_b`: what the grid's points read and write back, and the nine arrays they leave. -/
module

public import proofs.«01_k».proof.Proof.MergeE

@[expose] public section

noncomputable section

namespace Cert.Kernel12Ideal.Value

open Cert.Kernel12Ideal Cert.Kernel12Ideal.Gen Cert.Prod Cert.Norm Cert.Merge Idealize.ShloMosaic Idealize.ShloMosaic.TcCoe Idealize.SL.Sem
open Idealize.ShloMosaic.Tactic

variable (m : (ℓ : Loc nD τ sig) → Buf (Elt Ideal) ℓ) (ρ : Dev nD → PrngReg)

/-- The kernel's arguments. -/
def args (c : Dev nD) : Args where
  p := m ((c : Thread nD τ).loc main_arg0)
  o := m ((c : Thread nD τ).loc main_arg1)
  y := m ((c : Thread nD τ).loc main_arg2)
  l := m ((c : Thread nD τ).loc main_arg3)
  g := m ((c : Thread nD τ).loc main_arg4)
  b := m ((c : Thread nD τ).loc main_arg5)
  d := m ((c : Thread nD τ).loc main_arg6)

/-- Where the windows stand at a grid point. -/
theorem index_0 : ∀ t : Fin grid0.N, win0_0.index t 0 = t.val ∧ win0_0.index t 1 = 3 := by decide +kernel
theorem index_1 : ∀ t : Fin grid0.N, win0_1.index t 0 = t.val ∧ win0_1.index t 1 = 5 := by decide +kernel
theorem index_2 : ∀ t : Fin grid0.N, win0_2.index t 0 = t.val ∧ win0_2.index t 1 = 6 := by decide +kernel
theorem index_3 : ∀ t : Fin grid0.N, win0_3.index t 0 = t.val ∧ win0_3.index t 1 = 7 := by decide +kernel
theorem index_4 : ∀ t : Fin grid0.N, win0_4.index t 0 = t.val ∧ win0_4.index t 1 = 0 := by decide +kernel
theorem index_5 : ∀ t : Fin grid0.N, win0_5.index t 0 = t.val ∧ win0_5.index t 1 = 0 := by decide +kernel
theorem index_6 : ∀ t : Fin grid0.N, win0_6.index t 0 = t.val ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = t.val ∧ win0_9.index t 1 = 0 := by decide +kernel
theorem index_10 : ∀ t : Fin grid0.N, win0_10.index t 0 = t.val ∧ win0_10.index t 1 = 0 := by decide +kernel
theorem index_11 : ∀ t : Fin grid0.N, win0_11.index t 0 = t.val ∧ win0_11.index t 1 = 0 := by decide +kernel
theorem index_12 : ∀ t : Fin grid0.N, win0_12.index t 0 = t.val ∧ win0_12.index t 1 = 0 := by decide +kernel
theorem index_13 : ∀ t : Fin grid0.N, win0_13.index t 0 = t.val ∧ win0_13.index t 1 = 0 := by decide +kernel
theorem index_14 : ∀ t : Fin grid0.N, win0_14.index t 0 = t.val ∧ win0_14.index t 1 = 0 := by decide +kernel
theorem index_15 : ∀ t : Fin grid0.N, win0_15.index t 0 = t.val ∧ win0_15.index t 1 = 0 := by decide +kernel
theorem index_16 : ∀ t : Fin grid0.N, win0_16.index t 0 = t.val ∧ win0_16.index t 1 = 0 := by decide +kernel
theorem index_17 : ∀ t : Fin grid0.N, win0_17.index t 0 = 0 ∧ win0_17.index t 1 = 0 := by decide +kernel
theorem index_18 : ∀ t : Fin grid0.N, win0_18.index t 0 = 0 ∧ win0_18.index t 1 = 0 := by decide +kernel

/-- The input blocks hold the arguments' rows. -/
theorem holds (c : Dev nD) (t : Fin cfg0.N) : Holds (args m c) t.val (X0_0 m c t) (X0_1 m c t) (X0_2 m c t) (X0_3 m c t)
    (iblk m c 4 t) (iblk m c 5 t) (iblk m c 6 t) (iblk m c 7 t) (iblk m c 8 t) (iblk m c 9 t) where
  h0 p q := by
    unfold X0_0 Pipeline.Window.fill iblk
    rw [dif_pos (moved0_0 t _), View.read_apply]
    refine at2_idx (args m c).p _ _ _ ?_ ?_
    · show win0_0.index t 0 * 256 + 1 * p.val = _; rw [(index_0 t).1, one_mul]
    · show win0_0.index t 1 * 1024 + 1 * q.val = _; rw [(index_0 t).2, one_mul]
  h1 p q := by
    unfold X0_1 Pipeline.Window.fill iblk
    rw [dif_pos (moved0_1 t _), View.read_apply]
    refine at2_idx (args m c).p _ _ _ ?_ ?_
    · show win0_1.index t 0 * 256 + 1 * p.val = _; rw [(index_1 t).1, one_mul]
    · show win0_1.index t 1 * 1024 + 1 * q.val = _; rw [(index_1 t).2, one_mul]
  h2 p q := by
    unfold X0_2 Pipeline.Window.fill iblk
    rw [dif_pos (moved0_2 t _), View.read_apply]
    refine at2_idx (args m c).p _ _ _ ?_ ?_
    · show win0_2.index t 0 * 256 + 1 * p.val = _; rw [(index_2 t).1, one_mul]
    · show win0_2.index t 1 * 1024 + 1 * q.val = _; rw [(index_2 t).2, one_mul]
  h3 p q := by
    unfold X0_3 Pipeline.Window.fill iblk
    rw [dif_pos (moved0_3 t _), View.read_apply]
    refine at2_idx (args m c).p _ _ _ ?_ ?_
    · show win0_3.index t 0 * 256 + 1 * p.val = _; rw [(index_3 t).1, one_mul]
    · show win0_3.index t 1 * 1024 + 1 * q.val = _; rw [(index_3 t).2, one_mul]
  h4 p q := by
    unfold iblk
    rw [View.read_apply]
    refine at2_idx (args m c).o _ _ _ ?_ ?_
    · show win0_4.index t 0 * 256 + 1 * p.val = _; rw [(index_4 t).1, one_mul]
    · show win0_4.index t 1 * 1024 + 1 * q.val = _; rw [(index_4 t).2, one_mul, zero_mul, zero_add]
  h5 p q := by
    unfold iblk
    rw [View.read_apply]
    refine at2_idx (args m c).y _ _ _ ?_ ?_
    · show win0_5.index t 0 * 256 + 1 * p.val = _; rw [(index_5 t).1, one_mul]
    · show win0_5.index t 1 * 1024 + 1 * q.val = _; rw [(index_5 t).2, one_mul, zero_mul, zero_add]
  h6 p q := by
    unfold iblk
    rw [View.read_apply]
    refine at2_idx (args m c).l _ _ _ ?_ ?_
    · show win0_6.index t 0 * 256 + 1 * p.val = _; rw [(index_6 t).1, one_mul]
    · show win0_6.index t 1 * 1024 + 1 * q.val = _; rw [(index_6 t).2, one_mul, zero_mul, zero_add]
  h9 p q := by
    unfold iblk
    rw [View.read_apply]
    refine at2_idx (args m c).d _ _ _ ?_ ?_
    · show win0_9.index t 0 * 256 + 1 * p.val = _; rw [(index_9 t).1, one_mul]
    · show win0_9.index t 1 * 1024 + 1 * q.val = _; rw [(index_9 t).2, one_mul, zero_mul, zero_add]
  h7 q := by
    unfold iblk
    rw [View.read_apply]
    refine at2_idx (args m c).g _ _ _ ?_ ?_
    · show win0_7.index t 0 * 1 + 1 * 0 = _; rw [(index_7 t).1]
    · show win0_7.index t 1 * 128 + 1 * q.val = _; rw [(index_7 t).2, one_mul, zero_mul, zero_add]
  h8 q := by
    unfold iblk
    rw [View.read_apply]
    refine at2_idx (args m c).b _ _ _ ?_ ?_
    · show win0_8.index t 0 * 1 + 1 * 0 = _; rw [(index_8 t).1]
    · show win0_8.index t 1 * 1024 + 1 * q.val = _; rw [(index_8 t).2, one_mul, zero_mul, zero_add]

/-- What a point computes, from the arguments. -/
abbrev blocksAt (c : Dev nD) (t : Fin cfg0.N) := blocks (F := Ideal) (X0_0 m c t) (X0_1 m c t) (X0_2 m c t) (X0_3 m c t)
  (iblk m c 4 t) (iblk m c 5 t) (iblk m c 6 t) (iblk m c 7 t) (iblk m c 8 t) (iblk m c 9 t)
abbrev gainsAt (c : Dev nD) (t : Fin cfg0.N) : FVec Ideal S1x128 .f32 :=
  gains (iblk m c 4 t) (dOn (X0_0 m c t) (X0_2 m c t) (iblk m c 9 t))
abbrev biasesAt (c : Dev nD) (t : Fin cfg0.N) : FVec Ideal S1x1024 .f32 :=
  biases (X0_1 m c t) (X0_3 m c t) (iblk m c 5 t) (iblk m c 6 t) (iblk m c 8 t) (iblk m c 9 t)

theorem outs_first (c : Dev nD) (t : Fin cfg0.N) (h : t.val = 0) :
    outsAt0 m c t.val t.isLt = blocksAt m c t (gainsAt m c t) (biasesAt m c t) := by
  rw [outsAt0_A m c t (by omega) (by omega) (by omega) (by omega)]
  exact outs_A ..

theorem outs_next (c : Dev nD) (t : Fin cfg0.N) (h : t.val ≠ 0) :
    outsAt0 m c t.val t.isLt = blocksAt m c t
      (k0_pay2 (gainsAt m c t) (outsAt0 m c (t.val - 1) (Nat.lt_of_le_of_lt (Nat.sub_le _ _) t.isLt)).2.2.2.2.2.2.2.1)
      (k0_pay58 (biasesAt m c t) (outsAt0 m c (t.val - 1) (Nat.lt_of_le_of_lt (Nat.sub_le _ _) t.isLt)).2.2.2.2.2.2.2.2) := by
  have hN : t.val < 16 := lt_of_lt_of_eq t.isLt (show cfg0.N = 16 from N_0)
  rw [outsAt0_B m c t (by omega) (by omega) (by omega) (by omega)]
  exact outs_B ..

theorem outs_any (c : Dev nD) (t : Fin cfg0.N) : ∃ g b, outsAt0 m c t.val t.isLt = blocksAt m c t g b := by
  by_cases h : t.val = 0
  · exact ⟨_, _, outs_first m c t h⟩
  · exact ⟨_, _, outs_next m c t h⟩

/-- What the two sums hold after a point. -/
theorem acc_at (c : Dev nD) : ∀ (n : ℕ) (h : n < cfg0.N),
    (∀ k : Fin 128, (outsAt0 m c n h).2.2.2.2.2.2.2.1 (ix2 0 k) = (∑ l ∈ Finset.range (n + 1), termG (args m c) k.val l : EReal))
    ∧ ∀ q : Fin 1024, (outsAt0 m c n h).2.2.2.2.2.2.2.2 (ix2 0 q) = (∑ l ∈ Finset.range (n + 1), termB (args m c) q.val l : EReal) := by
  intro n
  induction n with
  | zero =>
    intro h
    rw [outs_first m c ⟨0, h⟩ rfl]
    refine ⟨fun k => ?_, fun q => ?_⟩
    · refine (g_blk (holds m c ⟨0, h⟩) k).trans ?_
      simp
    · refine (b_blk (holds m c ⟨0, h⟩) q).trans ?_
      simp
  | succ n ih =>
    intro h
    have hn := ih (by omega)
    rw [outs_next m c ⟨n + 1, h⟩ (Nat.succ_ne_zero n)]
    refine ⟨fun k => ?_, fun q => ?_⟩
    · rw [Finset.sum_range_succ _ (n + 1), ← hn.1 k]
      refine Eq.trans ?_ (congrArg _ (g_blk (holds m c ⟨n + 1, h⟩) k))
      show k0_pay2 (gainsAt m c _) _ (ix2 0 k) = _
      pointwise [k0_pay2]
      rfl
    · rw [Finset.sum_range_succ _ (n + 1), ← hn.2 q]
      refine Eq.trans ?_ (congrArg _ (b_blk (holds m c ⟨n + 1, h⟩) q))
      show k0_pay58 (biasesAt m c _) _ (ix2 0 q) = _
      pointwise [k0_pay58]
      rfl

/-- A block that holds a matrix's rows `t * 256 …` agrees with it at every index. -/
theorem tile {B : S256x1024.Idx → EReal} {Y : Mat 4096 1024} (t : ℕ)
    (hB : ∀ (p : Fin 256) (q : Fin 1024) (i : S4096x1024.Idx), (i 0).val = t * 256 + p.val → (i 1).val = q.val → B (ix2 p q) = Y i)
    (y : S256x1024.Idx) (i : S4096x1024.Idx) (h0 : (i 0).val = t * 256 + (y 0).val) (h1 : (i 1).val = (y 1).val) : B y = Y i := by
  rw [← ix2_eta (n0 := 256) (n1 := 1024) y]
  exact hB _ _ i h0 h1

/-- The point that writes a row back, and the rows of its block. -/
def pointOf (i : S4096x1024.Idx) : Fin cfg0.N := ⟨(i 0).val / 256, lt_of_lt_of_eq (by
  have h0 : (i 0).val < 4096 := (i 0).isLt
  omega) N_0.symm⟩

theorem mem_rows (i : S4096x1024.Idx) (w : Fin 2 → ℕ) (h0 : w 0 = (i 0).val / 256) (h1 : w 1 = 0) :
    ∀ a : Fin 2, w a * S256x1024.size a ≤ (i a).val ∧ (i a).val < w a * S256x1024.size a + S256x1024.size a := by
  have e0 : (i 0).val < 4096 := (i 0).isLt
  have e1 : (i 1).val < 1024 := (i 1).isLt
  intro a
  match a with
  | ⟨0, _⟩ => show w 0 * 256 ≤ (i 0).val ∧ (i 0).val < w 0 * 256 + 256; rw [h0]; omega
  | ⟨1, _⟩ => show w 1 * 1024 ≤ (i 1).val ∧ (i 1).val < w 1 * 1024 + 1024; rw [h1]; omega

theorem final_10 (c : Dev nD) : (dats m 0 c).arrAt 10 cfg0.N = (args m c).dZa := by
  refine (dats m 0 c).arrAt_eq_of_cover 10 _ (fun t _ => ?_) fun i => ⟨pointOf i, flush0_10 _, ?_⟩
  · obtain ⟨g, b, e⟩ := outs_any m c t
    rw [flushed10, e]
    funext y
    rw [View.read_apply]
    refine tile (Y := (args m c).dZa) t.val (fun p q i h0 h1 => (za_blk (holds m c t) p q).trans ?_) ((cfg0.win 10).xinj (grid0.coords t) y)
      (((cfg0.win 10).blk t).view.emb y) ?_ ?_
    · unfold Args.dZa; rw [h0, h1]
    · show win0_10.index t 0 * 256 + 1 * (y 0).val = t.val * 256 + (y 0).val; rw [(index_10 t).1, one_mul]
    · show win0_10.index t 1 * 1024 + 1 * (y 1).val = (y 1).val; rw [(index_10 t).2, one_mul, zero_mul, zero_add]
  · show i ∈ ((View.whole main_v0_0).slice (win0_10.rect (pointOf i))).set
    rw [View.set_slice_whole, Rect.mem_set_unit]
    exact mem_rows i (win0_10.index (pointOf i)) (index_10 _).1 (index_10 _).2

theorem final_11 (c : Dev nD) : (dats m 0 c).arrAt 11 cfg0.N = (args m c).dZb := by
  refine (dats m 0 c).arrAt_eq_of_cover 11 _ (fun t _ => ?_) fun i => ⟨pointOf i, flush0_11 _, ?_⟩
  · obtain ⟨g, b, e⟩ := outs_any m c t
    rw [flushed11, e]
    funext y
    rw [View.read_apply]
    refine tile (Y := (args m c).dZb) t.val (fun p q i h0 h1 => (zb_blk (holds m c t) p q).trans ?_) ((cfg0.win 11).xinj (grid0.coords t) y)
      (((cfg0.win 11).blk t).view.emb y) ?_ ?_
    · unfold Args.dZb; rw [h0, h1]
    · show win0_11.index t 0 * 256 + 1 * (y 0).val = t.val * 256 + (y 0).val; rw [(index_11 t).1, one_mul]
    · show win0_11.index t 1 * 1024 + 1 * (y 1).val = (y 1).val; rw [(index_11 t).2, one_mul, zero_mul, zero_add]
  · show i ∈ ((View.whole main_v0_1).slice (win0_11.rect (pointOf i))).set
    rw [View.set_slice_whole, Rect.mem_set_unit]
    exact mem_rows i (win0_11.index (pointOf i)) (index_11 _).1 (index_11 _).2

theorem final_12 (c : Dev nD) : (dats m 0 c).arrAt 12 cfg0.N = (args m c).dRa := by
  refine (dats m 0 c).arrAt_eq_of_cover 12 _ (fun t _ => ?_) fun i => ⟨pointOf i, flush0_12 _, ?_⟩
  · obtain ⟨g, b, e⟩ := outs_any m c t
    rw [flushed12, e]
    funext y
    rw [View.read_apply]
    refine tile (Y := (args m c).dRa) t.val (fun p q i h0 h1 => (ra_blk (holds m c t) p q).trans ?_) ((cfg0.win 12).xinj (grid0.coords t) y)
      (((cfg0.win 12).blk t).view.emb y) ?_ ?_
    · unfold Args.dRa; rw [h0, h1]
    · show win0_12.index t 0 * 256 + 1 * (y 0).val = t.val * 256 + (y 0).val; rw [(index_12 t).1, one_mul]
    · show win0_12.index t 1 * 1024 + 1 * (y 1).val = (y 1).val; rw [(index_12 t).2, one_mul, zero_mul, zero_add]
  · show i ∈ ((View.whole main_v0_2).slice (win0_12.rect (pointOf i))).set
    rw [View.set_slice_whole, Rect.mem_set_unit]
    exact mem_rows i (win0_12.index (pointOf i)) (index_12 _).1 (index_12 _).2

theorem final_13 (c : Dev nD) : (dats m 0 c).arrAt 13 cfg0.N = (args m c).dRb := by
  refine (dats m 0 c).arrAt_eq_of_cover 13 _ (fun t _ => ?_) fun i => ⟨pointOf i, flush0_13 _, ?_⟩
  · obtain ⟨g, b, e⟩ := outs_any m c t
    rw [flushed13, e]
    funext y
    rw [View.read_apply]
    refine tile (Y := (args m c).dRb) t.val (fun p q i h0 h1 => (rb_blk (holds m c t) p q).trans ?_) ((cfg0.win 13).xinj (grid0.coords t) y)
      (((cfg0.win 13).blk t).view.emb y) ?_ ?_
    · unfold Args.dRb; rw [h0, h1]
    · show win0_13.index t 0 * 256 + 1 * (y 0).val = t.val * 256 + (y 0).val; rw [(index_13 t).1, one_mul]
    · show win0_13.index t 1 * 1024 + 1 * (y 1).val = (y 1).val; rw [(index_13 t).2, one_mul, zero_mul, zero_add]
  · show i ∈ ((View.whole main_v0_3).slice (win0_13.rect (pointOf i))).set
    rw [View.set_slice_whole, Rect.mem_set_unit]
    exact mem_rows i (win0_13.index (pointOf i)) (index_13 _).1 (index_13 _).2

theorem final_14 (c : Dev nD) : (dats m 0 c).arrAt 14 cfg0.N = (args m c).dO := by
  refine (dats m 0 c).arrAt_eq_of_cover 14 _ (fun t _ => ?_) fun i => ⟨pointOf i, flush0_14 _, ?_⟩
  · obtain ⟨g, b, e⟩ := outs_any m c t
    rw [flushed14, e]
    funext y
    rw [View.read_apply]
    refine tile (Y := (args m c).dO) t.val (fun p q i h0 h1 => (o_blk (holds m c t) p q).trans ?_) ((cfg0.win 14).xinj (grid0.coords t) y)
      (((cfg0.win 14).blk t).view.emb y) ?_ ?_
    · unfold Args.dO; simp only [h0, h1]
    · show win0_14.index t 0 * 256 + 1 * (y 0).val = t.val * 256 + (y 0).val; rw [(index_14 t).1, one_mul]
    · show win0_14.index t 1 * 1024 + 1 * (y 1).val = (y 1).val; rw [(index_14 t).2, one_mul, zero_mul, zero_add]
  · show i ∈ ((View.whole main_v0_4).slice (win0_14.rect (pointOf i))).set
    rw [View.set_slice_whole, Rect.mem_set_unit]
    exact mem_rows i (win0_14.index (pointOf i)) (index_14 _).1 (index_14 _).2

theorem final_15 (c : Dev nD) : (dats m 0 c).arrAt 15 cfg0.N = (args m c).dL := by
  refine (dats m 0 c).arrAt_eq_of_cover 15 _ (fun t _ => ?_) fun i => ⟨pointOf i, flush0_15 _, ?_⟩
  · obtain ⟨g, b, e⟩ := outs_any m c t
    rw [flushed15, e]
    funext y
    rw [View.read_apply]
    refine tile (Y := (args m c).dL) t.val (fun p q i h0 h1 => (l_blk' (holds m c t) p q).trans ?_) ((cfg0.win 15).xinj (grid0.coords t) y)
      (((cfg0.win 15).blk t).view.emb y) ?_ ?_
    · unfold Args.dL; rw [h0, h1]
    · show win0_15.index t 0 * 256 + 1 * (y 0).val = t.val * 256 + (y 0).val; rw [(index_15 t).1, one_mul]
    · show win0_15.index t 1 * 1024 + 1 * (y 1).val = (y 1).val; rw [(index_15 t).2, one_mul, zero_mul, zero_add]
  · show i ∈ ((View.whole main_v0_5).slice (win0_15.rect (pointOf i))).set
    rw [View.set_slice_whole, Rect.mem_set_unit]
    exact mem_rows i (win0_15.index (pointOf i)) (index_15 _).1 (index_15 _).2

theorem final_16 (c : Dev nD) : (dats m 0 c).arrAt 16 cfg0.N = (args m c).dY := by
  refine (dats m 0 c).arrAt_eq_of_cover 16 _ (fun t _ => ?_) fun i => ⟨pointOf i, flush0_16 _, ?_⟩
  · obtain ⟨g, b, e⟩ := outs_any m c t
    rw [flushed16, e]
    funext y
    rw [View.read_apply]
    refine tile (Y := (args m c).dY) t.val (fun p q i h0 h1 => (y_blk (holds m c t) p q).trans ?_) ((cfg0.win 16).xinj (grid0.coords t) y)
      (((cfg0.win 16).blk t).view.emb y) ?_ ?_
    · unfold Args.dY; rw [h0, h1]
    · show win0_16.index t 0 * 256 + 1 * (y 0).val = t.val * 256 + (y 0).val; rw [(index_16 t).1, one_mul]
    · show win0_16.index t 1 * 1024 + 1 * (y 1).val = (y 1).val; rw [(index_16 t).2, one_mul, zero_mul, zero_add]
  · show i ∈ ((View.whole main_v0_6).slice (win0_16.rect (pointOf i))).set
    rw [View.set_slice_whole, Rect.mem_set_unit]
    exact mem_rows i (win0_16.index (pointOf i)) (index_16 _).1 (index_16 _).2

/-- The point that writes the two sums back. -/
def lastPt : Fin cfg0.N := ⟨15, lt_of_lt_of_eq (by norm_num) N_0.symm⟩

theorem final_17 (c : Dev nD) : (dats m 0 c).arrAt 17 cfg0.N = (args m c).dG := by
  refine (dats m 0 c).arrAt_eq_of_cover 17 _ (fun t hf => ?_) fun i => ⟨lastPt, (flush0_17 lastPt).mpr rfl, ?_⟩
  · have hN : t.val < 16 := lt_of_lt_of_eq t.isLt (show cfg0.N = 16 from N_0)
    have hm : t.val % 16 = 15 := (flush0_17 t).mp hf
    rw [flushed17]
    funext y
    obtain ⟨q, hy⟩ : ∃ q : Fin 128, (cfg0.win 17).xinj (grid0.coords t) y = ix2 0 q :=
      ⟨_, (ix2_eta (n0 := 1) (n1 := 128) _).symm.trans (congrArg (fun p : Fin 1 => ix2 p _) (Subsingleton.elim _ _))⟩
    rw [View.read_apply]
    show (outsAt0 m c t.val t.isLt).2.2.2.2.2.2.2.1 ((cfg0.win 17).xinj (grid0.coords t) y) = _
    have h1 : (((cfg0.win 17).blk t).view.emb y 1).val = q.val := by
      have : (y 1).val = q.val := congrArg (fun j : S1x128.Idx => (j 1).val) hy
      show win0_17.index t 1 * 128 + 1 * (y 1).val = _; rw [(index_17 t).2, this, one_mul, zero_mul, zero_add]
    rw [hy, (acc_at m c _ _).1 q, show t.val + 1 = 16 by omega]
    refine Eq.trans ?_ (Eq.symm (b := (args m c).dG _) rfl)
    unfold Args.dG
    rw [h1]
    exact (sum_runs (fun r => ∑ h ∈ Finset.range 8, (args m c).dn r (h * 128 + q.val) * (args m c).nrm r h q.val) 16 256 (by norm_num)).symm
  · show i ∈ ((View.whole main_v0_7).slice (win0_17.rect lastPt)).set
    rw [View.set_slice_whole, Rect.mem_set_unit]
    have h0 : (i 0).val < 1 := (i 0).isLt
    have h1 : (i 1).val < 128 := (i 1).isLt
    intro a
    match a with
    | ⟨0, _⟩ =>
      show win0_17.index lastPt 0 * 1 ≤ (i 0).val ∧ (i 0).val < win0_17.index lastPt 0 * 1 + 1
      rw [(index_17 lastPt).1]; omega
    | ⟨1, _⟩ =>
      show win0_17.index lastPt 1 * 128 ≤ (i 1).val ∧ (i 1).val < win0_17.index lastPt 1 * 128 + 128
      rw [(index_17 lastPt).2]; omega

theorem final_18 (c : Dev nD) : (dats m 0 c).arrAt 18 cfg0.N = (args m c).dB := by
  refine (dats m 0 c).arrAt_eq_of_cover 18 _ (fun t hf => ?_) fun i => ⟨lastPt, (flush0_18 lastPt).mpr rfl, ?_⟩
  · have hN : t.val < 16 := lt_of_lt_of_eq t.isLt (show cfg0.N = 16 from N_0)
    have hm : t.val % 16 = 15 := (flush0_18 t).mp hf
    rw [flushed18]
    funext y
    obtain ⟨q, hy⟩ : ∃ q : Fin 1024, (cfg0.win 18).xinj (grid0.coords t) y = ix2 0 q :=
      ⟨_, (ix2_eta (n0 := 1) (n1 := 1024) _).symm.trans (congrArg (fun p : Fin 1 => ix2 p _) (Subsingleton.elim _ _))⟩
    rw [View.read_apply]
    show (outsAt0 m c t.val t.isLt).2.2.2.2.2.2.2.2 ((cfg0.win 18).xinj (grid0.coords t) y) = _
    have h1 : (((cfg0.win 18).blk t).view.emb y 1).val = q.val := by
      have : (y 1).val = q.val := congrArg (fun j : S1x1024.Idx => (j 1).val) hy
      show win0_18.index t 1 * 1024 + 1 * (y 1).val = _; rw [(index_18 t).2, this, one_mul, zero_mul, zero_add]
    rw [hy, (acc_at m c _ _).2 q, show t.val + 1 = 16 by omega]
    refine Eq.trans ?_ (Eq.symm (b := (args m c).dB _) rfl)
    unfold Args.dB
    rw [h1]
    exact (sum_runs (fun r => (args m c).dl r q.val) 16 256 (by norm_num)).symm
  · show i ∈ ((View.whole main_v0_8).slice (win0_18.rect lastPt)).set
    rw [View.set_slice_whole, Rect.mem_set_unit]
    have h0 : (i 0).val < 1 := (i 0).isLt
    have h1 : (i 1).val < 1024 := (i 1).isLt
    intro a
    match a with
    | ⟨0, _⟩ =>
      show win0_18.index lastPt 0 * 1 ≤ (i 0).val ∧ (i 0).val < win0_18.index lastPt 0 * 1 + 1
      rw [(index_18 lastPt).1]; omega
    | ⟨1, _⟩ =>
      show win0_18.index lastPt 1 * 1024 ≤ (i 1).val ∧ (i 1).val < win0_18.index lastPt 1 * 1024 + 1024
      rw [(index_18 lastPt).2]; omega

/-- The kernel's results are the nine gradients. -/
theorem run_grads : θ_run defs (onTc (τ := τ) (main (F := Ideal))) ⟨m, fun _ => 0, ρ⟩ fun r => ∀ c : Dev nD,
      r.2.mem ((c : Thread nD τ).loc main_v0_0) = (args m c).dZa
      ∧ r.2.mem ((c : Thread nD τ).loc main_v0_1) = (args m c).dZb
      ∧ r.2.mem ((c : Thread nD τ).loc main_v0_2) = (args m c).dRa
      ∧ r.2.mem ((c : Thread nD τ).loc main_v0_3) = (args m c).dRb
      ∧ r.2.mem ((c : Thread nD τ).loc main_v0_4) = (args m c).dO
      ∧ r.2.mem ((c : Thread nD τ).loc main_v0_5) = (args m c).dL
      ∧ r.2.mem ((c : Thread nD τ).loc main_v0_6) = (args m c).dY
      ∧ r.2.mem ((c : Thread nD τ).loc main_v0_7) = (args m c).dG
      ∧ r.2.mem ((c : Thread nD τ).loc main_v0_8) = (args m c).dB
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run_blocks m ρ)
  obtain ⟨h0, h1, h2, h3, h4, h5, h6, h7, h8, h9⟩ := h c
  exact ⟨h0.trans (final_10 m c), h1.trans (final_11 m c), h2.trans (final_12 m c), h3.trans (final_13 m c), h4.trans (final_14 m c),
    h5.trans (final_15 m c), h6.trans (final_16 m c), h7.trans (final_17 m c), h8.trans (final_18 m c), h9⟩

end Cert.Kernel12Ideal.Value

end
-- ==== Proof.MergeR.lean ====
/- The reference of `merge_b`: its nine results are the formulas of the gradients, two of them where the arguments are real. -/
module

public import proofs.«01_k».proof.Proof.MergeB

@[expose] public section

noncomputable section

namespace Cert.Merge.Args

open Idealize.ShloMosaic Cert.Prod Cert.Norm

/-- Every element of the arguments is a real number. -/
structure AllReal (A : Args) : Prop where
  p : ∀ r c, ∃ v : ℝ, at2 A.p r c = (v : EReal)
  o : ∀ r c, ∃ v : ℝ, at2 A.o r c = (v : EReal)
  y : ∀ r c, ∃ v : ℝ, at2 A.y r c = (v : EReal)
  l : ∀ r c, ∃ v : ℝ, at2 A.l r c = (v : EReal)
  g : ∀ r c, ∃ v : ℝ, at2 A.g r c = (v : EReal)
  b : ∀ r c, ∃ v : ℝ, at2 A.b r c = (v : EReal)
  d : ∀ r c, ∃ v : ℝ, at2 A.d r c = (v : EReal)

variable {A : Args} (H : A.AllReal)
include H

/-- Then so are the gradients that reach the two gates. -/
theorem ua_real (r c : ℕ) : ∃ v : ℝ, A.da r c * A.on r c = (v : EReal) := by
  obtain ⟨d, hd⟩ := H.d r c
  obtain ⟨z, hz⟩ := H.p r (6144 + c)
  obtain ⟨s, hs⟩ := lg_real z
  obtain ⟨o, ho⟩ := H.o r (c / 128 * 128 + c % 128)
  obtain ⟨g, hg⟩ := H.g 0 (c % 128)
  obtain ⟨q, -, hq, -⟩ := root (ms_pos (d := 128) (by norm_num) (A.hrow r (c / 128)))
  refine ⟨d * s * (o * q * g), ?_⟩
  unfold da on nrm ra
  rw [hd, hz, hs, ho, hg, show rs wide (A.hrow r (c / 128)) = q from by unfold rs; rw [wide_eq]; exact hq]
  simp only [Real.mul]

theorem ub_real (r c : ℕ) : ∃ v : ℝ, A.db r c * A.yg r c = (v : EReal) := by
  obtain ⟨d, hd⟩ := H.d r c
  obtain ⟨z, hz⟩ := H.p r (7168 + c)
  obtain ⟨s, hs⟩ := lg_real z
  obtain ⟨y, hy⟩ := H.y r c
  obtain ⟨l, hl⟩ := H.l r c
  obtain ⟨b, hb⟩ := H.b 0 c
  obtain ⟨t, ht⟩ := lg_real (l + b)
  refine ⟨d * s * (y * t), ?_⟩
  unfold db yg gt rb
  rw [hd, hz, hs, hy, hl, hb, Real.add, ht]
  simp only [Real.mul]

theorem gate_a (r c : ℕ) : gateR (A.da r c * A.on r c) (A.za r c) = gateK (A.da r c * A.on r c) (A.za r c) := by
  obtain ⟨u, hu⟩ := ua_real H r c
  obtain ⟨z, hz⟩ := H.p r (3072 + c)
  unfold za
  rw [hu, hz, gate_eq]

theorem gate_b (r c : ℕ) : gateR (A.db r c * A.yg r c) (A.zb r c) = gateK (A.db r c * A.yg r c) (A.zb r c) := by
  obtain ⟨u, hu⟩ := ub_real H r c
  obtain ⟨z, hz⟩ := H.p r (5120 + c)
  unfold zb
  rw [hu, hz, gate_eq]

end Cert.Merge.Args

namespace Cert.Reference12Ideal.Value

open Cert.Reference12Ideal Cert.Reference12Ideal.Gen Cert.Prod Cert.Norm Cert.Merge Idealize.ShloMosaic Idealize.ShloMosaic.TcCoe
open Idealize.ShloMosaic.Tactic
open Cert.Kernel12Ideal.Value (col col_split)

/-- The reference's values, named: the logistic function and its derivative, the four gates' projections, the normed rows, the
    other branch's gate, and the gradients that reach the two branches and the normed rows. -/
def ones : FVec Ideal S4096x1024 .f32 := broadcastInDim S4096x1024 ![] bcast_S_S4096x1024 (constant S_ .f32 0x3F800000#32)
def sg (z : FVec Ideal S4096x1024 .f32) : FVec Ideal S4096x1024 .f32 := Host.divf ones (addf ones (Host.exp (Host.negf z)))
def sg' (z : FVec Ideal S4096x1024 .f32) : FVec Ideal S4096x1024 .f32 := mulf (sg z) (subf ones (sg z))
def pa (p : FVec Ideal S4096x8448 .f32) : FVec Ideal S4096x1024 .f32 :=
  extractStridedSlice S4096x1024 ![0, 3072] p slices_S4096x8448_S4096x1024_0_3072
def pb (p : FVec Ideal S4096x8448 .f32) : FVec Ideal S4096x1024 .f32 :=
  extractStridedSlice S4096x1024 ![0, 5120] p slices_S4096x8448_S4096x1024_0_5120
def qa (p : FVec Ideal S4096x8448 .f32) : FVec Ideal S4096x1024 .f32 :=
  extractStridedSlice S4096x1024 ![0, 6144] p slices_S4096x8448_S4096x1024_0_6144
def qb (p : FVec Ideal S4096x8448 .f32) : FVec Ideal S4096x1024 .f32 :=
  extractStridedSlice S4096x1024 ![0, 7168] p slices_S4096x8448_S4096x1024_0_7168
def heads (o : FVec Ideal S4096x1024 .f32) : FVec Ideal S4096x8x128 .f32 := shapeCast _ o shapeCasts_S4096x1024_S4096x8x128
def meanSq (o : FVec Ideal S4096x1024 .f32) : FVec Ideal S4096x8x1 .f32 :=
  addf (Host.divf (broadcastInDim S4096x8x1 ![0, 1] bcast_S4096x8_S4096x8x1_0_1 (Host.reduceAdd (mulf (heads o) (heads o))
    (constant S_ .f32 0x00000000#32) reducesTo_S4096x8x128_S4096x8_d2 h_S_))
    (broadcastInDim S4096x8x1 ![] bcast_S_S4096x8x1 (constant S_ .f32 0x43000000#32)))
    (broadcastInDim S4096x8x1 ![] bcast_S_S4096x8x1 (constant S_ .f32 0x358637BD#32))
def root (o : FVec Ideal S4096x1024 .f32) : FVec Ideal S4096x8x1 .f32 := Host.rsqrt (meanSq o)
def normed (o : FVec Ideal S4096x1024 .f32) : FVec Ideal S4096x8x128 .f32 :=
  mulf (heads o) (broadcastInDim S4096x8x128 ![0, 1, 2] bcast_S4096x8x1_S4096x8x128_0_1_2 (root o))
def gain (g : FVec Ideal S1x128 .f32) : FVec Ideal S4096x8x128 .f32 :=
  broadcastInDim S4096x8x128 ![0, 1, 2] bcast_S1x1x128_S4096x8x128_0_1_2 (broadcastInDim S1x1x128 ![1, 2] bcast_S1x128_S1x1x128_1_2 g)
def onV (o : FVec Ideal S4096x1024 .f32) (g : FVec Ideal S1x128 .f32) : FVec Ideal S4096x1024 .f32 :=
  shapeCast _ (mulf (normed o) (gain g)) shapeCasts_S4096x8x128_S4096x1024
def pre (l : FVec Ideal S4096x1024 .f32) (b : FVec Ideal S1x1024 .f32) : FVec Ideal S4096x1024 .f32 :=
  addf l (broadcastInDim S4096x1024 ![0, 1] bcast_S1x1024_S4096x1024_0_1 b)
def ygV (y l : FVec Ideal S4096x1024 .f32) (b : FVec Ideal S1x1024 .f32) : FVec Ideal S4096x1024 .f32 := mulf y (sg (pre l b))
def dIn (d : FVec Ideal S4096x1024 .f32) : FVec Ideal S4096x1024 .f32 := shapeCast _ d shapeCasts_S4096x1024_S4096x1024
def daV (p : FVec Ideal S4096x8448 .f32) (d : FVec Ideal S4096x1024 .f32) : FVec Ideal S4096x1024 .f32 := mulf (sg (qa p)) (dIn d)
def dbV (p : FVec Ideal S4096x8448 .f32) (d : FVec Ideal S4096x1024 .f32) : FVec Ideal S4096x1024 .f32 := mulf (sg (qb p)) (dIn d)
def dnV (p : FVec Ideal S4096x8448 .f32) (d : FVec Ideal S4096x1024 .f32) : FVec Ideal S4096x1024 .f32 :=
  mulf (daV p d) (mulf (pa p) (sg (pa p)))
def dyV (p : FVec Ideal S4096x8448 .f32) (d : FVec Ideal S4096x1024 .f32) : FVec Ideal S4096x1024 .f32 :=
  mulf (dbV p d) (mulf (pb p) (sg (pb p)))
def silu' (z u : FVec Ideal S4096x1024 .f32) : FVec Ideal S4096x1024 .f32 := addf (mulf u (sg z)) (mulf (mulf z u) (sg' z))
def dlV (p : FVec Ideal S4096x8448 .f32) (y l : FVec Ideal S4096x1024 .f32) (b : FVec Ideal S1x1024 .f32)
    (d : FVec Ideal S4096x1024 .f32) : FVec Ideal S4096x1024 .f32 := mulf (mulf y (dyV p d)) (sg' (pre l b))
def incV (p : FVec Ideal S4096x8448 .f32) (g : FVec Ideal S1x128 .f32) (d : FVec Ideal S4096x1024 .f32) : FVec Ideal S4096x8x128 .f32 :=
  mulf (heads (dnV p d)) (gain g)
def dMean (p : FVec Ideal S4096x8448 .f32) (o : FVec Ideal S4096x1024 .f32) (g : FVec Ideal S1x128 .f32)
    (d : FVec Ideal S4096x1024 .f32) : FVec Ideal S4096x8 .f32 :=
  Host.reduceAdd (Host.divf (mulf (shapeCast _ (Host.reduceAdd (mulf (heads o) (incV p g d)) (constant S_ .f32 0x00000000#32)
      reducesTo_S4096x8x128_S4096x8_d2 h_S_) shapeCasts_S4096x8_S4096x8x1)
    (mulf (broadcastInDim S4096x8x1 ![] bcast_S_S4096x8x1 (constant S_ .f32 0xBF000000#32)) (Host.divf (root o) (meanSq o))))
    (broadcastInDim S4096x8x1 ![] bcast_S_S4096x8x1 (constant S_ .f32 0x43000000#32))) (constant S_ .f32 0x00000000#32)
    reducesTo_S4096x8x1_S4096x8_d2 h_S_
def dO3 (p : FVec Ideal S4096x8448 .f32) (o : FVec Ideal S4096x1024 .f32) (g : FVec Ideal S1x128 .f32)
    (d : FVec Ideal S4096x1024 .f32) : FVec Ideal S4096x8x128 .f32 :=
  addf (addf (mulf (incV p g d) (broadcastInDim S4096x8x128 ![0, 1, 2] bcast_S4096x8x1_S4096x8x128_0_1_2 (root o)))
      (mulf (heads o) (broadcastInDim S4096x8x128 ![0, 1] bcast_S4096x8_S4096x8x128_0_1 (dMean p o g d))))
    (mulf (broadcastInDim S4096x8x128 ![0, 1] bcast_S4096x8_S4096x8x128_0_1 (dMean p o g d)) (heads o))

/-- The nine results. -/
def rZa (A : Args) : FVec Ideal S4096x1024 .bf16 := truncf .bf16 (silu' (pa A.p) (mulf (onV A.o A.g) (daV A.p A.d))) bitsLt_bf16_f32
def rZb (A : Args) : FVec Ideal S4096x1024 .bf16 := truncf .bf16 (silu' (pb A.p) (mulf (ygV A.y A.l A.b) (dbV A.p A.d))) bitsLt_bf16_f32
def rRa (A : Args) : FVec Ideal S4096x1024 .bf16 :=
  truncf .bf16 (mulf (mulf (dIn A.d) (mulf (onV A.o A.g) (mulf (pa A.p) (sg (pa A.p))))) (sg' (qa A.p))) bitsLt_bf16_f32
def rRb (A : Args) : FVec Ideal S4096x1024 .bf16 :=
  truncf .bf16 (mulf (mulf (dIn A.d) (mulf (ygV A.y A.l A.b) (mulf (pb A.p) (sg (pb A.p))))) (sg' (qb A.p))) bitsLt_bf16_f32
def rO (A : Args) : FVec Ideal S4096x1024 .f32 := shapeCast _ (dO3 A.p A.o A.g A.d) shapeCasts_S4096x8x128_S4096x1024
def rL (A : Args) : FVec Ideal S4096x1024 .bf16 := truncf .bf16 (dlV A.p A.y A.l A.b A.d) bitsLt_bf16_f32
def rY (A : Args) : FVec Ideal S4096x1024 .f32 := mulf (dyV A.p A.d) (sg (pre A.l A.b))
def rG (A : Args) : FVec Ideal S1x128 .f32 := broadcastInDim S1x128 ![1] bcast_S128_S1x128_1 (Host.reduceAdd (shapeCast _
  (Host.reduceAdd (mulf (normed A.o) (heads (dnV A.p A.d))) (constant S_ .f32 0x00000000#32) reducesTo_S4096x8x128_S128_d0_1 h_S_)
  shapeCasts_S128_S1x1x128) (constant S_ .f32 0x00000000#32) reducesTo_S1x1x128_S128_d0_1 h_S_)
def rB (A : Args) : FVec Ideal S1x1024 .f32 := shapeCast _ (Host.reduceAdd (dlV A.p A.y A.l A.b A.d)
  (constant S_ .f32 0x00000000#32) reducesTo_S4096x1024_S1024_d0 h_S_) shapeCasts_S1024_S1x1024

variable (A : Args) (p : Fin 4096) (q : Fin 1024) (h : Fin 8) (k : Fin 128)

theorem sg_at (z : FVec Ideal S4096x1024 .f32) : sg z (ix2 p q) = lg (z (ix2 p q)) := by
  unfold lg
  pointwise [sg, ones]

theorem sg'_at (z : FVec Ideal S4096x1024 .f32) : sg' z (ix2 p q) = (lg (z (ix2 p q)) * (1 - lg (z (ix2 p q))) : EReal) := by
  rw [← sg_at]
  pointwise [sg', ones]

theorem pa_at : pa A.p (ix2 p q) = A.za p.val q.val := at2_idx A.p _ p.val (3072 + q.val) (Nat.zero_add _) rfl
theorem pb_at : pb A.p (ix2 p q) = A.zb p.val q.val := at2_idx A.p _ p.val (5120 + q.val) (Nat.zero_add _) rfl
theorem qa_at : qa A.p (ix2 p q) = A.ra p.val q.val := at2_idx A.p _ p.val (6144 + q.val) (Nat.zero_add _) rfl
theorem qb_at : qb A.p (ix2 p q) = A.rb p.val q.val := at2_idx A.p _ p.val (7168 + q.val) (Nat.zero_add _) rfl

theorem heads_at (x : FVec Ideal S4096x1024 .f32) : heads x (ix3 p h k) = x (ix2 p (col h k)) := by
  pointwise [heads]
  rfl

theorem row_at : (fun k : Fin 128 => (heads A.o (ix3 p h k) : EReal)) = A.hrow p.val h.val :=
  funext fun k => (heads_at p h k A.o).trans (at2_fin A.o p (col h k)).symm

theorem meanSq_at : meanSq A.o (ix3 p h 0) = ms wide (A.hrow p.val h.val) := by
  rw [← row_at]
  unfold ms
  pointwise [meanSq]

theorem root_at : root A.o (ix3 p h 0) = rs wide (A.hrow p.val h.val) := by
  unfold rs
  rw [← meanSq_at]
  pointwise [root]

theorem normed_at : normed A.o (ix3 p h k) = A.nrm p.val h.val k.val := by
  unfold Args.nrm
  rw [← root_at]
  refine Eq.trans (b := (heads A.o (ix3 p h k) * root A.o (ix3 p h 0) : EReal)) (by pointwise [normed]) ?_
  rw [heads_at]
  exact congrArg (· * (root A.o (ix3 p h 0) : EReal)) (at2_fin A.o p (col h k)).symm

theorem gain_at (g : FVec Ideal S1x128 .f32) : gain g (ix3 p h k) = g (ix2 0 k) := by
  pointwise [gain]

theorem merged_at (x : FVec Ideal S4096x8x128 .f32) :
    shapeCast S4096x1024 x shapeCasts_S4096x8x128_S4096x1024 (ix2 p (col h k)) = x (ix3 p h k) := by
  have e0 : (⟨(col h k).val / 128, by omega⟩ : Fin 8) = h := Fin.ext (by show (h.val * 128 + k.val) / 128 = _; omega)
  have e1 : (⟨(col h k).val % 128, by omega⟩ : Fin 128) = k := Fin.ext (by show (h.val * 128 + k.val) % 128 = _; omega)
  refine Eq.trans (b := x (ix3 p ⟨(col h k).val / 128, by omega⟩ ⟨(col h k).val % 128, by omega⟩)) (by pointwise []) ?_
  rw [e0, e1]

theorem on_at : onV A.o A.g (ix2 p q) = A.on p.val q.val := by
  obtain ⟨h, k, rfl⟩ := col_split q
  have e0 : (col h k).val / 128 = h.val := by show (h.val * 128 + k.val) / 128 = _; omega
  have e1 : (col h k).val % 128 = k.val := by show (h.val * 128 + k.val) % 128 = _; omega
  unfold onV Args.on
  rw [merged_at, e0, e1, ← normed_at]
  refine Eq.trans (b := (normed A.o (ix3 p h k) * gain A.g (ix3 p h k) : EReal)) (by pointwise []) ?_
  rw [gain_at]
  exact congrArg ((normed A.o (ix3 p h k) : EReal) * ·) (at2_fin A.g 0 k).symm

theorem pre_at : pre A.l A.b (ix2 p q) = (at2 A.l p.val q.val + at2 A.b 0 q.val : EReal) := by
  rw [at2_fin A.l p q, show at2 A.b 0 q.val = A.b (ix2 0 q) from at2_fin A.b 0 q]
  pointwise [pre]

theorem gt_at : sg (pre A.l A.b) (ix2 p q) = A.gt p.val q.val := by
  rw [sg_at, pre_at]
  rfl

theorem yg_at : ygV A.y A.l A.b (ix2 p q) = A.yg p.val q.val := by
  unfold Args.yg
  rw [← gt_at, at2_fin A.y p q]
  pointwise [ygV]

theorem din_at : dIn A.d (ix2 p q) = at2 A.d p.val q.val := by
  rw [at2_fin A.d p q]
  pointwise [dIn]

theorem da_at : daV A.p A.d (ix2 p q) = A.da p.val q.val := by
  unfold Args.da
  rw [← din_at, ← qa_at, ← sg_at, mul_comm]
  pointwise [daV]

theorem db_at : dbV A.p A.d (ix2 p q) = A.db p.val q.val := by
  unfold Args.db
  rw [← din_at, ← qb_at, ← sg_at, mul_comm]
  pointwise [dbV]

theorem dn_at : dnV A.p A.d (ix2 p q) = A.dn p.val q.val := by
  unfold Args.dn
  rw [← da_at, ← pa_at, ← sg_at]
  pointwise [dnV]

theorem dy_at : dyV A.p A.d (ix2 p q) = A.dy p.val q.val := by
  unfold Args.dy
  rw [← db_at, ← pb_at, ← sg_at]
  pointwise [dyV]

theorem silu'_at (z u : FVec Ideal S4096x1024 .f32) : silu' z u (ix2 p q) = gateR (u (ix2 p q)) (z (ix2 p q)) := by
  unfold gateR
  rw [← sg'_at, ← sg_at]
  pointwise [silu']

theorem dl_at : dlV A.p A.y A.l A.b A.d (ix2 p q) = A.dl p.val q.val := by
  refine Eq.trans (b := (A.y (ix2 p q) * dyV A.p A.d (ix2 p q) * sg' (pre A.l A.b) (ix2 p q) : EReal)) (by pointwise [dlV]) ?_
  rw [sg'_at, ← sg_at, gt_at, dy_at, ← at2_fin A.y p q, mul_comm (at2 A.y p.val q.val), ← mul_assoc]
  rfl

variable {A}

theorem za_eq (H : A.AllReal) : rZa A = A.dZa := by
  refine mat_ext fun p q => ?_
  refine Eq.trans (b := silu' (pa A.p) (mulf (onV A.o A.g) (daV A.p A.d)) (ix2 p q)) (by pointwise [rZa]) ?_
  rw [silu'_at, pa_at, show mulf (onV A.o A.g) (daV A.p A.d) (ix2 p q) = (A.da p.val q.val * A.on p.val q.val : EReal) from by
    rw [← da_at, ← on_at, mul_comm]; pointwise []]
  exact Args.gate_a H p.val q.val

theorem zb_eq (H : A.AllReal) : rZb A = A.dZb := by
  refine mat_ext fun p q => ?_
  refine Eq.trans (b := silu' (pb A.p) (mulf (ygV A.y A.l A.b) (dbV A.p A.d)) (ix2 p q)) (by pointwise [rZb]) ?_
  rw [silu'_at, pb_at, show mulf (ygV A.y A.l A.b) (dbV A.p A.d) (ix2 p q) = (A.db p.val q.val * A.yg p.val q.val : EReal) from by
    rw [← db_at, ← yg_at, mul_comm]; pointwise []]
  exact Args.gate_b H p.val q.val

theorem ra_eq : rRa A = A.dRa := by
  refine mat_ext fun p q => ?_
  refine Eq.trans (b := (dIn A.d (ix2 p q) * (onV A.o A.g (ix2 p q) * (pa A.p (ix2 p q) * sg (pa A.p) (ix2 p q)))
    * sg' (qa A.p) (ix2 p q) : EReal)) (by pointwise [rRa]) ?_
  rw [sg'_at, sg_at, qa_at, pa_at, on_at, din_at, ← mul_assoc]
  rfl

theorem rb_eq : rRb A = A.dRb := by
  refine mat_ext fun p q => ?_
  refine Eq.trans (b := (dIn A.d (ix2 p q) * (ygV A.y A.l A.b (ix2 p q) * (pb A.p (ix2 p q) * sg (pb A.p) (ix2 p q)))
    * sg' (qb A.p) (ix2 p q) : EReal)) (by pointwise [rRb]) ?_
  rw [sg'_at, sg_at, qb_at, pb_at, yg_at, din_at, ← mul_assoc]
  rfl

theorem l_eq : rL A = A.dL := by
  refine mat_ext fun p q => ?_
  refine Eq.trans (b := dlV A.p A.y A.l A.b A.d (ix2 p q)) (by pointwise [rL]) ?_
  rw [dl_at]
  rfl

theorem y_eq : rY A = A.dY := by
  refine mat_ext fun p q => ?_
  refine Eq.trans (b := (dyV A.p A.d (ix2 p q) * sg (pre A.l A.b) (ix2 p q) : EReal)) (by pointwise [rY]) ?_
  rw [dy_at, gt_at]
  rfl

theorem b_eq : rB A = A.dB := by
  refine mat_ext fun z q => ?_
  rw [Subsingleton.elim z 0]
  refine Eq.trans (b := (∑ p : Fin 4096, dlV A.p A.y A.l A.b A.d (ix2 p q) : EReal)) (by pointwise [rB]) ?_
  unfold Args.dB
  rw [Finset.sum_range]
  exact Finset.sum_congr rfl fun p _ => dl_at A p q

/-- A sum over the first two axes of three, at an index of the third. -/
theorem sum_rows {n0 n1 n2 : ℕ} (h : (⟨3, ![n0, n1, n2]⟩ : Shape).ReducesTo [0, 1] ⟨1, ![n2]⟩)
    (v : (⟨3, ![n0, n1, n2]⟩ : Shape).Idx → EReal) (k : Fin n2) :
    Ideal.hostReduceAdd h v 0 (ix1 k) = ∑ a : Fin n0, ∑ b : Fin n1, v (ix3 a b k) := by
  have hd : ∀ i : (⟨3, ![n0, n1, n2]⟩ : Shape).Idx, (h.drop i (0 : Fin 1)).val = (i 2).val := fun i => h.drop_apply_val i (0 : Fin 1)
  unfold Ideal.hostReduceAdd
  rw [zero_add, ← Fintype.sum_prod_type' (f := fun (a : Fin n0) (b : Fin n1) => v (ix3 a b k))]
  refine Finset.sum_filter_eq_sum_of_fiber _ (fun ab : Fin n0 × Fin n1 => ix3 ab.1 ab.2 k)
    (fun _ _ e => Prod.ext (congrFun e 0) (congrFun e 1)) (fun i => ⟨fun e => ⟨(i 0, i 1), ?_⟩, ?_⟩) v
  · have e2 : k = i 2 := Fin.ext (by rw [← hd i, e]; rfl)
    subst e2
    exact ix3_eta (n0 := n0) (n1 := n1) (n2 := n2) i
  · rintro ⟨ab, rfl⟩
    funext b
    match b with
    | ⟨0, _⟩ => exact Fin.ext (hd _)

theorem g_eq : rG A = A.dG := by
  refine mat_ext fun z k => ?_
  rw [Subsingleton.elim z 0]
  refine Eq.trans (b := (∑ p : Fin 4096, ∑ h : Fin 8, normed A.o (ix3 p h k) * dnV A.p A.d (ix2 p (col h k)) : EReal)) ?_ ?_
  · simp only [← heads_at]
    pointwise [rG]
    refine (sum_rows _ _ k).trans ((Fin.sum_univ_one _).trans ((Fin.sum_univ_one _).trans ?_))
    pointwise []
    refine (sum_rows _ _ k).trans ?_
    pointwise []
  · unfold Args.dG
    rw [Finset.sum_range]
    refine Finset.sum_congr rfl fun p _ => ?_
    rw [Finset.sum_range]
    refine Finset.sum_congr rfl fun h _ => ?_
    rw [normed_at, dn_at, mul_comm]
    rfl

variable (A)

theorem inc_at : incV A.p A.g A.d (ix3 p h k) = A.inc p.val h.val k := by
  unfold Args.inc
  refine Eq.trans (b := (heads (dnV A.p A.d) (ix3 p h k) * gain A.g (ix3 p h k) : EReal)) (by pointwise [incV]) ?_
  rw [heads_at, dn_at, gain_at]
  exact congrArg (A.dn p.val (h.val * 128 + k.val) * ·) (at2_fin A.g 0 k).symm

theorem dMean_at : dMean A.p A.o A.g A.d (ix2 p h) = Ideal.div ((∑ k, A.hrow p.val h.val k * A.inc p.val h.val k)
    * (negHalf * Ideal.div (rs wide (A.hrow p.val h.val)) (ms wide (A.hrow p.val h.val)))) wide := by
  rw [← root_at, ← meanSq_at, ← row_at]
  simp only [← inc_at]
  pointwise [dMean]
  exact Fin.sum_univ_one _

theorem o_eq : rO A = A.dO := by
  refine mat_ext fun p q => ?_
  obtain ⟨h, k, rfl⟩ := col_split q
  have e0 : (col h k).val / 128 = h.val := by show (h.val * 128 + k.val) / 128 = _; omega
  have e1 : (⟨(col h k).val % 128, Nat.mod_lt _ (by norm_num)⟩ : Fin 128) = k := Fin.ext (by show (h.val * 128 + k.val) % 128 = _; omega)
  refine (merged_at p h k (dO3 A.p A.o A.g A.d)).trans ?_
  refine Eq.trans (b := (incV A.p A.g A.d (ix3 p h k) * root A.o (ix3 p h 0) + heads A.o (ix3 p h k) * dMean A.p A.o A.g A.d (ix2 p h)
    + dMean A.p A.o A.g A.d (ix2 p h) * heads A.o (ix3 p h k) : EReal)) (by pointwise [dO3]) ?_
  rw [inc_at, root_at, dMean_at, show (heads A.o (ix3 p h k) : EReal) = A.hrow p.val h.val k from congrFun (row_at A p h) k, wide_eq]
  refine (grad_eq (by norm_num) (A.hrow p.val h.val) (A.inc p.val h.val) k).symm.trans ?_
  rw [← wide_eq]
  show _ = grad wide (A.hrow p.val ((col h k).val / 128)) (A.inc p.val ((col h k).val / 128)) ⟨(col h k).val % 128, _⟩
  rw [e0, e1]

end Cert.Reference12Ideal.Value

end
-- ==== Proof.MergeF.lean ====
/- The claims of `merge_b`: its precondition in words, the frames, and the equality of the nine gradients. -/
module

public import proofs.«01_k».proof.Defs
public import proofs.«01_k».proof.Pre_finite_gates
public import proofs.«01_k».proof.Proof.Finite
public import proofs.«01_k».proof.Proof.MergeR

@[expose] public section

set_option maxRecDepth 16384

noncomputable section

namespace Cert.FiniteGates

open Idealize.ShloMosaic Idealize.ShloMosaic.Tactic Cert.Prod Cert.Merge
open Cert.Pre_finite_gates
open Cert.Finite (of_and entry)

/-- The shape relations that the precondition's operations take. -/
instance facts : Cert.Pre_finite_gates.Facts where
  bcast_S_S4096x8448 := by decide
  reducesTo_S4096x8448_S_d0_1 := by decide
  h_S_ := by decide
  bcast_S_S4096x1024 := by decide
  reducesTo_S4096x1024_S_d0_1 := by decide
  bcast_S_S1x128 := by decide
  reducesTo_S1x128_S_d0_1 := by decide
  bcast_S_S1x1024 := by decide
  reducesTo_S1x1024_S_d0_1 := by decide

/-- A matrix of reals is real at any row and column. -/
theorem at2_real {M N : ℕ} {x : Mat M N} (h : ∀ i, x i = (((x i : EReal).toReal : ℝ) : EReal)) (r c : ℕ) :
    ∃ v : ℝ, at2 x r c = (v : EReal) := by
  unfold at2
  split
  · exact ⟨_, h _⟩
  · exact ⟨0, rfl⟩

theorem all (A : Args) (h : fn (F := Ideal) A.p A.o A.y A.l A.g A.b A.d = fun _ => 1#1) : A.AllReal := by
  have e : fn (F := Ideal) A.p A.o A.y A.l A.g A.b A.d (fun i => i.elim0) = 1#1 := by rw [h]
  unfold fn fn_part1 at e
  obtain ⟨e, h6⟩ := of_and e
  obtain ⟨e, h5⟩ := of_and e
  obtain ⟨e, h4⟩ := of_and e
  obtain ⟨e, h3⟩ := of_and e
  obtain ⟨e, h2⟩ := of_and e
  obtain ⟨h0, h1⟩ := of_and e
  exact ⟨at2_real (entry A.p _ _ _ _ h0), at2_real (entry A.o _ _ _ _ h1), at2_real (entry A.y _ _ _ _ h2),
    at2_real (entry A.l _ _ _ _ h3), at2_real (entry A.g _ _ _ _ h4), at2_real (entry A.b _ _ _ _ h5), at2_real (entry A.d _ _ _ _ h6)⟩

end Cert.FiniteGates

namespace Cert.Reference12Ideal.Value

open Cert.Reference12Ideal Cert.Reference12Ideal.Gen Cert.Merge Idealize.ShloMosaic Idealize.ShloMosaic.TcCoe Idealize.SL.Sem

variable (m : (ℓ : Loc nD τ sig) → Buf (Elt Ideal) ℓ) (ρ : Dev nD → PrngReg)

/-- The reference's arguments. -/
def args (c : Dev nD) : Args where
  p := m ((c : Thread nD τ).loc main_arg0)
  o := m ((c : Thread nD τ).loc main_arg1)
  y := m ((c : Thread nD τ).loc main_arg2)
  l := m ((c : Thread nD τ).loc main_arg3)
  g := m ((c : Thread nD τ).loc main_arg4)
  b := m ((c : Thread nD τ).loc main_arg5)
  d := m ((c : Thread nD τ).loc main_arg6)

/-- The reference's results by name. -/
theorem run_named : θ_run defs (onTc (τ := τ) (main (F := Ideal))) ⟨m, fun _ => 0, ρ⟩ fun r => ∀ c : Dev nD,
      r.2.mem ((c : Thread nD τ).loc main_v101) = rZa (args m c)
      ∧ r.2.mem ((c : Thread nD τ).loc main_v102) = rZb (args m c)
      ∧ r.2.mem ((c : Thread nD τ).loc main_v103) = rRa (args m c)
      ∧ r.2.mem ((c : Thread nD τ).loc main_v104) = rRb (args m c)
      ∧ r.2.mem ((c : Thread nD τ).loc main_v100) = rO (args m c)
      ∧ r.2.mem ((c : Thread nD τ).loc main_v105) = rL (args m c)
      ∧ r.2.mem ((c : Thread nD τ).loc main_v71) = rY (args m c)
      ∧ r.2.mem ((c : Thread nD τ).loc main_v85) = rG (args m c)
      ∧ r.2.mem ((c : Thread nD τ).loc main_v74) = rB (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run m ρ)
  obtain ⟨h0, h1, h2, h3, h4, h5, h6, h7, h8, h9⟩ := h c
  exact ⟨h0, h1, h2, h3, h4, h5, h6, h7, h8, h9⟩

end Cert.Reference12Ideal.Value

namespace Cert.Proof

open Idealize.ShloMosaic Idealize.SL.Sem Cert.Merge

set_option smartUnfolding false in
/-- The frames of kernel and reference; the kernel's in floating point is that of its ideal text, proved for every float model. -/
theorem kernel12_frame : Cert.quiescent_Kernel12 := fun m ρ _ => Cert.Kernel12Ideal.Gen.frame (F := Bits) m ρ

theorem kernel12Ideal_frame : Cert.quiescent_Kernel12Ideal := fun m ρ _ => Cert.Kernel12Ideal.Gen.frame m ρ

theorem reference12_frame : Cert.quiescent_Reference12Ideal := fun m ρ _ =>
  (θ_run (Cert.Reference12Ideal.defs (F := Ideal)) _ _).mono
    (fun r h => ⟨fun c => (h c).2.2.2.2.2.2.2.2.2, sem_eq_zero_of_no_sems rfl r.2⟩) (Cert.Reference12Ideal.Value.run m ρ)

/-- Kernel and reference give the same gradients. -/
theorem algebraic12 : Cert.algebraic_Kernel12Ideal_Reference12Ideal_pre_finite_gates := by
  intro m g m' g' hpre hargs
  refine ⟨_, _, _, _, _, _, _, _, _, Cert.Kernel12Ideal.Value.run_grads m g, ?_⟩
  refine (θ_run (Cert.Reference12Ideal.defs (F := Ideal)) _ _).mono (fun r h c => ?_) (Cert.Reference12Ideal.Value.run_named m' g')
  have H : (Cert.Kernel12Ideal.Value.args m c).AllReal := Cert.FiniteGates.all _ (hpre c)
  have e : Cert.Reference12Ideal.Value.args m' c = Cert.Kernel12Ideal.Value.args m c := by
    obtain ⟨e0, e1, e2, e3, e4, e5, e6⟩ := hargs c
    unfold Cert.Reference12Ideal.Value.args Cert.Kernel12Ideal.Value.args
    rw [e0, e1, e2, e3, e4, e5, e6]
  obtain ⟨h0, h1, h2, h3, h4, h5, h6, h7, h8, h9⟩ := h c
  rw [e] at h0 h1 h2 h3 h4 h5 h6 h7 h8
  exact ⟨h0.trans (Cert.Reference12Ideal.Value.za_eq H), h1.trans (Cert.Reference12Ideal.Value.zb_eq H),
    h2.trans Cert.Reference12Ideal.Value.ra_eq, h3.trans Cert.Reference12Ideal.Value.rb_eq, h4.trans (Cert.Reference12Ideal.Value.o_eq _),
    h5.trans Cert.Reference12Ideal.Value.l_eq, h6.trans Cert.Reference12Ideal.Value.y_eq, h7.trans Cert.Reference12Ideal.Value.g_eq,
    h8.trans Cert.Reference12Ideal.Value.b_eq, h9⟩

end Cert.Proof

end
-- ==== Proof.NormFwd.lean ====
/- The call `norm_pre`: the norm of the rows of the layer's argument, eight runs of 512 rows. -/
module

public import proofs.«01_k».proof.Defs
public import proofs.«01_k».proof.Proof.NormPost
public import proofs.«01_k».proof.Proof.Gen.Kernel13
public import proofs.«01_k».proof.Proof.Gen.Kernel13Ideal.Value
public import proofs.«01_k».proof.Proof.Gen.Reference13Ideal.Run
public import Idealize.ShloMosaic.Lib.Tactic
public import Idealize.ShloMosaic.Lib.Pointwise
public import Idealize.ShloMosaic.Lib.Quiescent

@[expose] public section

noncomputable section

namespace Cert.Kernel13Ideal.Value

open Cert.Kernel13Ideal Cert.Kernel13Ideal.Gen Cert.Prod Cert.Norm Idealize.ShloMosaic Idealize.ShloMosaic.TcCoe Idealize.SL.Sem
open Idealize.ShloMosaic.Tactic

theorem hz : (![0, 0] : Fin 2 → Nat) = fun _ => 0 := funext fun a => by fin_cases a <;> rfl

/-- The norm of the rows, with the gain. -/
def normed (x : Mat 4096 1024) (g : Mat 1 1024) : Mat 4096 1024 := fun i =>
  at2 x (i 0).val (i 1).val * rs width (row x (i 0).val) * at2 g 0 (i 1).val

theorem out_at {F : FTy → Type} [FloatOps F] (x0 : Vec F S512x1024 .f32) (x1 : Vec F S1x1024 .f32) : out0_2 x0 x1 = k0_pay1 x0 x1 := by
  unfold out0_2
  rw [View.canon_unit_zero hz, View.ld_unit_zero (S := S512x1024) hz, View.ld_unit_zero (S := S1x1024) hz]

theorem pay_at (x0 : Vec Ideal S512x1024 .f32) (x1 : Vec Ideal S1x1024 .f32) (p : Fin 512) (q : Fin 1024) :
    k0_pay1 x0 x1 (ix2 p q) = (x0 (ix2 p q) * rs width (fun k : Fin 1024 => x0 (ix2 p k)) * x1 (ix2 0 q) : EReal) := by
  unfold rs ms
  pointwise [k0_pay1]

variable (m : (ℓ : Loc nD τ sig) → Buf (Elt Ideal) ℓ) (ρ : Dev nD → PrngReg)

/-- The rows and the gain. -/
abbrev argX (c : Dev nD) : S4096x1024.Idx → EReal := m ((c : Thread nD τ).loc main_arg0)
abbrev argG (c : Dev nD) : S1x1024.Idx → EReal := m ((c : Thread nD τ).loc main_arg1)

def result (c : Dev nD) : S4096x1024.Idx → EReal := normed (argX m c) (argG m c)

/-- Where the windows stand at a grid point. -/
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

theorem iblk_0 (c : Dev nD) (t : Fin cfg0.N) (p : Fin 512) (k : Fin 1024) :
    (iblk m c 0 t : Vec Ideal S512x1024 .f32) (ix2 p k) = at2 (argX m c) (t.val * 512 + p.val) k.val := by
  obtain ⟨e0, e1⟩ := index_0 t
  unfold iblk
  rw [View.read_apply]
  refine at2_idx (argX m c) _ _ _ ?_ ?_
  · show win0_0.index t 0 * 512 + 1 * p.val = _; rw [e0, one_mul]
  · show win0_0.index t 1 * 1024 + 1 * k.val = _; rw [e1, one_mul, zero_mul, zero_add]

theorem iblk_1 (c : Dev nD) (t : Fin cfg0.N) (k : Fin 1024) :
    (iblk m c 1 t : Vec Ideal S1x1024 .f32) (ix2 0 k) = at2 (argG m c) 0 k.val := by
  obtain ⟨e0, e1⟩ := index_1 t
  unfold iblk
  rw [View.read_apply]
  refine at2_idx (argG m c) _ _ _ ?_ ?_
  · show win0_1.index t 0 * 1 + 1 * 0 = _; rw [e0]
  · show win0_1.index t 1 * 1024 + 1 * k.val = _; rw [e1, one_mul, zero_mul, zero_add]

/-- What a point computes, from the whole arrays. -/
theorem pay_blk (c : Dev nD) (t : Fin cfg0.N) (p : Fin 512) (q : Fin 1024) :
    k0_pay1 (iblk m c 0 t) (iblk m c 1 t) (ix2 p q)
      = (at2 (argX m c) (t.val * 512 + p.val) q.val * rs width (row (argX m c) (t.val * 512 + p.val)) * at2 (argG m c) 0 q.val : EReal) := by
  refine (pay_at _ _ p q).trans ?_
  exact congrArg₂ (· * · : EReal → EReal → EReal) (congrArg₂ (· * · : EReal → EReal → EReal) (iblk_0 m c t p q)
    (congrArg (rs width) (funext fun k => iblk_0 m c t p k))) (iblk_1 m c t q)

theorem flushed_2 (c : Dev nD) (t : Fin cfg0.N) (hf : (cfg0.win 2).flush t = true) :
    (dats m 0 c).flushed 2 t = ((cfg0.win 2).blk t).view.read (Elt Ideal) (result m c) := by
  rw [flushed2, out_at]
  obtain ⟨e0, e1⟩ := index_2 t
  funext y
  obtain ⟨p, q, hy⟩ : ∃ (p : Fin 512) (q : Fin 1024), (cfg0.win 2).xinj (grid0.coords t) y = ix2 p q :=
    ⟨_, _, (ix2_eta (n0 := 512) (n1 := 1024) _).symm⟩
  rw [View.read_apply]
  show k0_pay1 _ _ ((cfg0.win 2).xinj (grid0.coords t) y) = _
  have h0 : (((cfg0.win 2).blk t).view.emb y 0).val = t.val * 512 + p.val := by
    have : (y 0).val = p.val := congrArg (fun j : S512x1024.Idx => (j 0).val) hy
    show win0_2.index t 0 * 512 + 1 * (y 0).val = _; rw [e0, this, one_mul]
  have h1 : (((cfg0.win 2).blk t).view.emb y 1).val = q.val := by
    have : (y 1).val = q.val := congrArg (fun j : S512x1024.Idx => (j 1).val) hy
    show win0_2.index t 1 * 1024 + 1 * (y 1).val = _; rw [e1, this, one_mul, zero_mul, zero_add]
  rw [hy, pay_blk]
  unfold result normed
  rw [h0, h1]
  rfl

/-- The point that writes an index of the result back. -/
def pointOf (i : S4096x1024.Idx) : Fin cfg0.N := ⟨(i 0).val / 512, lt_of_lt_of_eq (by
  have h0 : (i 0).val < 4096 := (i 0).isLt
  omega) N_0.symm⟩

theorem covered_2 (i : S4096x1024.Idx) : i ∈ ((cfg0.win 2).blk (pointOf i)).view.set := by
  show i ∈ ((View.whole main_v0).slice (win0_2.rect (pointOf i))).set
  rw [View.set_slice_whole, Rect.mem_set_unit]
  obtain ⟨e0, e1⟩ := index_2 (pointOf i)
  have h0 : (i 0).val < 4096 := (i 0).isLt
  have h1 : (i 1).val < 1024 := (i 1).isLt
  have hv : (pointOf i).val = (i 0).val / 512 := rfl
  intro a
  match a with
  | ⟨0, _⟩ =>
    show win0_2.index (pointOf i) 0 * 512 ≤ (i 0).val ∧ (i 0).val < win0_2.index (pointOf i) 0 * 512 + 512
    rw [e0, hv]; omega
  | ⟨1, _⟩ =>
    show win0_2.index (pointOf i) 1 * 1024 ≤ (i 1).val ∧ (i 1).val < win0_2.index (pointOf i) 1 * 1024 + 1024
    rw [e1]; omega

/-- The kernel's result. -/
theorem run_result : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (flushed_2 m c) fun i =>
    ⟨pointOf i, flush0_2 _, covered_2 i⟩), (h c).2⟩) (run_blocks m ρ)

end Cert.Kernel13Ideal.Value

namespace Cert.Reference13Ideal.Value

open Cert.Reference13Ideal Cert.Reference13Ideal.Gen Cert.Prod Cert.Norm Idealize.ShloMosaic Idealize.ShloMosaic.TcCoe
open Idealize.ShloMosaic.Tactic
open Cert.Reference10Ideal.Value (root root_at)

def out (x : FVec Ideal S4096x1024 .f32) (g : FVec Ideal S1x1024 .f32) : FVec Ideal S4096x1024 .bf16 :=
  truncf .bf16 (mulf (mulf x (broadcastInDim S4096x1024 ![0, 1] bcast_S4096x1_S4096x1024_0_1 (root x)))
    (broadcastInDim S4096x1024 ![0, 1] bcast_S1x1024_S4096x1024_0_1 g)) bitsLt_bf16_f32

theorem out_at (x : FVec Ideal S4096x1024 .f32) (g : FVec Ideal S1x1024 .f32) (p : Fin 4096) (q : Fin 1024) :
    out x g (ix2 p q) = (x (ix2 p q) * root x (ix2 p 0) * g (ix2 0 q) : EReal) := by
  pointwise [out]

/-- So is the reference's. -/
theorem out_eq (x : FVec Ideal S4096x1024 .f32) (g : FVec Ideal S1x1024 .f32) : out x g = Cert.Kernel13Ideal.Value.normed x g := by
  refine mat_ext fun p q => (out_at x g p q).trans ?_
  rw [root_at]
  unfold Cert.Kernel13Ideal.Value.normed row
  exact congrArg₂ (· * · : EReal → EReal → EReal) (congrArg₂ (· * · : EReal → EReal → EReal) (at2_fin x p q).symm
    (congrArg (rs width) (funext fun k => (at2_fin x p k).symm))) (at2_fin g 0 q).symm

end Cert.Reference13Ideal.Value

namespace Cert.Proof

open Idealize.ShloMosaic Idealize.SL.Sem Cert.Norm

set_option smartUnfolding false in
/-- The frames of kernel and reference; the kernel's in floating point is that of its ideal text, proved for every float model. -/
theorem kernel13_frame : Cert.quiescent_Kernel13 := fun m ρ _ => Cert.Kernel13Ideal.Gen.frame (F := Bits) m ρ

theorem kernel13Ideal_frame : Cert.quiescent_Kernel13Ideal := fun m ρ _ => Cert.Kernel13Ideal.Gen.frame m ρ

theorem reference13_frame : Cert.quiescent_Reference13Ideal := fun m ρ _ =>
  (θ_run (Cert.Reference13Ideal.defs (F := Ideal)) _ _).mono
    (fun r h => ⟨fun c => (h c).2, sem_eq_zero_of_no_sems rfl r.2⟩) (Cert.Reference13Ideal.Value.run m ρ)

/-- Kernel and reference give the same result. -/
theorem algebraic13 : Cert.algebraic_Kernel13Ideal_Reference13Ideal := by
  intro m g m' g' _ hargs
  refine ⟨_, Cert.Kernel13Ideal.Value.run_result m g, ?_⟩
  refine (θ_run (Cert.Reference13Ideal.defs (F := Ideal)) _ _).mono (fun r h c => ⟨?_, (h c).2⟩) (Cert.Reference13Ideal.Value.run m' g')
  obtain ⟨e0, e1⟩ := hargs c
  refine (h c).1.trans ((Cert.Reference13Ideal.Value.out_eq _ _).trans ?_)
  rw [e0, e1]
  rfl

end Cert.Proof

end
-- ==== Proof.NormSkip.lean ====
/- The call `norm_post`: the layer's argument plus the norm of the rows of the layer's output, eight runs of 512 rows. -/
module

public import proofs.«01_k».proof.Defs
public import proofs.«01_k».proof.Proof.NormPost
public import proofs.«01_k».proof.Proof.Gen.Kernel14
public import proofs.«01_k».proof.Proof.Gen.Kernel14Ideal.Value
public import proofs.«01_k».proof.Proof.Gen.Reference14Ideal.Run
public import Idealize.ShloMosaic.Lib.Tactic
public import Idealize.ShloMosaic.Lib.Pointwise
public import Idealize.ShloMosaic.Lib.Quiescent

@[expose] public section

noncomputable section

namespace Cert.Kernel14Ideal.Value

open Cert.Kernel14Ideal Cert.Kernel14Ideal.Gen Cert.Prod Cert.Norm Idealize.ShloMosaic Idealize.ShloMosaic.TcCoe Idealize.SL.Sem
open Idealize.ShloMosaic.Tactic

theorem hz : (![0, 0] : Fin 2 → Nat) = fun _ => 0 := funext fun a => by fin_cases a <;> rfl

/-- The skipping rows `r` plus the norm of the rows `x`, with the gain. -/
def skipped (r x : Mat 4096 1024) (g : Mat 1 1024) : Mat 4096 1024 := fun i =>
  at2 r (i 0).val (i 1).val + at2 x (i 0).val (i 1).val * rs width (row x (i 0).val) * at2 g 0 (i 1).val

theorem out_at {F : FTy → Type} [FloatOps F] (x0 x1 : Vec F S512x1024 .f32) (x2 : Vec F S1x1024 .f32) : out0_3 x0 x1 x2 = k0_pay1 x1 x0 x2 := by
  unfold out0_3
  rw [View.canon_unit_zero hz, View.ld_unit_zero (S := S512x1024) hz, View.ld_unit_zero (S := S512x1024) hz, View.ld_unit_zero (S := S1x1024) hz]

theorem pay_at (x0 x1 : Vec Ideal S512x1024 .f32) (x2 : Vec Ideal S1x1024 .f32) (p : Fin 512) (q : Fin 1024) :
    k0_pay1 x1 x0 x2 (ix2 p q)
      = (x0 (ix2 p q) + x1 (ix2 p q) * rs width (fun k : Fin 1024 => x1 (ix2 p k)) * x2 (ix2 0 q) : EReal) := by
  unfold rs ms
  pointwise [k0_pay1]

variable (m : (ℓ : Loc nD τ sig) → Buf (Elt Ideal) ℓ) (ρ : Dev nD → PrngReg)

/-- The skipping rows, the layer's output and the gain. -/
abbrev argR (c : Dev nD) : S4096x1024.Idx → EReal := m ((c : Thread nD τ).loc main_arg0)
abbrev argX (c : Dev nD) : S4096x1024.Idx → EReal := m ((c : Thread nD τ).loc main_arg1)
abbrev argG (c : Dev nD) : S1x1024.Idx → EReal := m ((c : Thread nD τ).loc main_arg2)

def result (c : Dev nD) : S4096x1024.Idx → EReal := skipped (argR m c) (argX m c) (argG m c)

/-- Where the windows stand at a grid point. -/
theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = t.val ∧ win0_3.index t 1 = 0 := by decide +kernel

theorem iblk_0 (c : Dev nD) (t : Fin cfg0.N) (p : Fin 512) (k : Fin 1024) :
    (iblk m c 0 t : Vec Ideal S512x1024 .f32) (ix2 p k) = at2 (argR m c) (t.val * 512 + p.val) k.val := by
  obtain ⟨e0, e1⟩ := index_0 t
  unfold iblk
  rw [View.read_apply]
  refine at2_idx (argR m c) _ _ _ ?_ ?_
  · show win0_0.index t 0 * 512 + 1 * p.val = _; rw [e0, one_mul]
  · show win0_0.index t 1 * 1024 + 1 * k.val = _; rw [e1, one_mul, zero_mul, zero_add]

theorem iblk_1 (c : Dev nD) (t : Fin cfg0.N) (p : Fin 512) (k : Fin 1024) :
    (iblk m c 1 t : Vec Ideal S512x1024 .f32) (ix2 p k) = at2 (argX m c) (t.val * 512 + p.val) k.val := by
  obtain ⟨e0, e1⟩ := index_1 t
  unfold iblk
  rw [View.read_apply]
  refine at2_idx (argX m c) _ _ _ ?_ ?_
  · show win0_1.index t 0 * 512 + 1 * p.val = _; rw [e0, one_mul]
  · show win0_1.index t 1 * 1024 + 1 * k.val = _; rw [e1, one_mul, zero_mul, zero_add]

theorem iblk_2 (c : Dev nD) (t : Fin cfg0.N) (k : Fin 1024) :
    (iblk m c 2 t : Vec Ideal S1x1024 .f32) (ix2 0 k) = at2 (argG m c) 0 k.val := by
  obtain ⟨e0, e1⟩ := index_2 t
  unfold iblk
  rw [View.read_apply]
  refine at2_idx (argG m c) _ _ _ ?_ ?_
  · show win0_2.index t 0 * 1 + 1 * 0 = _; rw [e0]
  · show win0_2.index t 1 * 1024 + 1 * k.val = _; rw [e1, one_mul, zero_mul, zero_add]

/-- What a point computes, from the whole arrays. -/
theorem pay_blk (c : Dev nD) (t : Fin cfg0.N) (p : Fin 512) (q : Fin 1024) :
    k0_pay1 (iblk m c 1 t) (iblk m c 0 t) (iblk m c 2 t) (ix2 p q)
      = (at2 (argR m c) (t.val * 512 + p.val) q.val + at2 (argX m c) (t.val * 512 + p.val) q.val
          * rs width (row (argX m c) (t.val * 512 + p.val)) * at2 (argG m c) 0 q.val : EReal) := by
  refine (pay_at _ _ _ p q).trans ?_
  exact congrArg₂ (· + · : EReal → EReal → EReal) (iblk_0 m c t p q) (congrArg₂ (· * · : EReal → EReal → EReal)
    (congrArg₂ (· * · : EReal → EReal → EReal) (iblk_1 m c t p q) (congrArg (rs width) (funext fun k => iblk_1 m c t p k))) (iblk_2 m c t q))

theorem flushed_3 (c : Dev nD) (t : Fin cfg0.N) (hf : (cfg0.win 3).flush t = true) :
    (dats m 0 c).flushed 3 t = ((cfg0.win 3).blk t).view.read (Elt Ideal) (result m c) := by
  rw [flushed3, out_at]
  obtain ⟨e0, e1⟩ := index_3 t
  funext y
  obtain ⟨p, q, hy⟩ : ∃ (p : Fin 512) (q : Fin 1024), (cfg0.win 3).xinj (grid0.coords t) y = ix2 p q :=
    ⟨_, _, (ix2_eta (n0 := 512) (n1 := 1024) _).symm⟩
  rw [View.read_apply]
  show k0_pay1 _ _ _ ((cfg0.win 3).xinj (grid0.coords t) y) = _
  have h0 : (((cfg0.win 3).blk t).view.emb y 0).val = t.val * 512 + p.val := by
    have : (y 0).val = p.val := congrArg (fun j : S512x1024.Idx => (j 0).val) hy
    show win0_3.index t 0 * 512 + 1 * (y 0).val = _; rw [e0, this, one_mul]
  have h1 : (((cfg0.win 3).blk t).view.emb y 1).val = q.val := by
    have : (y 1).val = q.val := congrArg (fun j : S512x1024.Idx => (j 1).val) hy
    show win0_3.index t 1 * 1024 + 1 * (y 1).val = _; rw [e1, this, one_mul, zero_mul, zero_add]
  rw [hy, pay_blk]
  unfold result skipped
  rw [h0, h1]
  rfl

/-- The point that writes an index of the result back. -/
def pointOf (i : S4096x1024.Idx) : Fin cfg0.N := ⟨(i 0).val / 512, lt_of_lt_of_eq (by
  have h0 : (i 0).val < 4096 := (i 0).isLt
  omega) N_0.symm⟩

theorem covered_3 (i : S4096x1024.Idx) : i ∈ ((cfg0.win 3).blk (pointOf i)).view.set := by
  show i ∈ ((View.whole main_v0).slice (win0_3.rect (pointOf i))).set
  rw [View.set_slice_whole, Rect.mem_set_unit]
  obtain ⟨e0, e1⟩ := index_3 (pointOf i)
  have h0 : (i 0).val < 4096 := (i 0).isLt
  have h1 : (i 1).val < 1024 := (i 1).isLt
  have hv : (pointOf i).val = (i 0).val / 512 := rfl
  intro a
  match a with
  | ⟨0, _⟩ =>
    show win0_3.index (pointOf i) 0 * 512 ≤ (i 0).val ∧ (i 0).val < win0_3.index (pointOf i) 0 * 512 + 512
    rw [e0, hv]; omega
  | ⟨1, _⟩ =>
    show win0_3.index (pointOf i) 1 * 1024 ≤ (i 1).val ∧ (i 1).val < win0_3.index (pointOf i) 1 * 1024 + 1024
    rw [e1]; omega

/-- The kernel's result. -/
theorem run_result : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (flushed_3 m c) fun i =>
    ⟨pointOf i, flush0_3 _, covered_3 i⟩), (h c).2⟩) (run_blocks m ρ)

end Cert.Kernel14Ideal.Value

namespace Cert.Reference14Ideal.Value

open Cert.Reference14Ideal Cert.Reference14Ideal.Gen Cert.Prod Cert.Norm Idealize.ShloMosaic Idealize.ShloMosaic.TcCoe
open Idealize.ShloMosaic.Tactic
open Cert.Reference10Ideal.Value (root root_at)

def out (r x : FVec Ideal S4096x1024 .f32) (g : FVec Ideal S1x1024 .f32) : FVec Ideal S4096x1024 .f32 :=
  addf r (mulf (mulf x (broadcastInDim S4096x1024 ![0, 1] bcast_S4096x1_S4096x1024_0_1 (root x)))
    (broadcastInDim S4096x1024 ![0, 1] bcast_S1x1024_S4096x1024_0_1 g))

theorem out_at (r x : FVec Ideal S4096x1024 .f32) (g : FVec Ideal S1x1024 .f32) (p : Fin 4096) (q : Fin 1024) :
    out r x g (ix2 p q) = (r (ix2 p q) + x (ix2 p q) * root x (ix2 p 0) * g (ix2 0 q) : EReal) := by
  pointwise [out]

/-- So is the reference's. -/
theorem out_eq (r x : FVec Ideal S4096x1024 .f32) (g : FVec Ideal S1x1024 .f32) : out r x g = Cert.Kernel14Ideal.Value.skipped r x g := by
  refine mat_ext fun p q => (out_at r x g p q).trans ?_
  rw [root_at]
  unfold Cert.Kernel14Ideal.Value.skipped row
  exact congrArg₂ (· + · : EReal → EReal → EReal) (at2_fin r p q).symm (congrArg₂ (· * · : EReal → EReal → EReal)
    (congrArg₂ (· * · : EReal → EReal → EReal) (at2_fin x p q).symm (congrArg (rs width) (funext fun k => (at2_fin x p k).symm))) (at2_fin g 0 q).symm)

end Cert.Reference14Ideal.Value

namespace Cert.Proof

open Idealize.ShloMosaic Idealize.SL.Sem Cert.Norm

set_option smartUnfolding false in
/-- The frames of kernel and reference; the kernel's in floating point is that of its ideal text, proved for every float model. -/
theorem kernel14_frame : Cert.quiescent_Kernel14 := fun m ρ _ => Cert.Kernel14Ideal.Gen.frame (F := Bits) m ρ

theorem kernel14Ideal_frame : Cert.quiescent_Kernel14Ideal := fun m ρ _ => Cert.Kernel14Ideal.Gen.frame m ρ

theorem reference14_frame : Cert.quiescent_Reference14Ideal := fun m ρ _ =>
  (θ_run (Cert.Reference14Ideal.defs (F := Ideal)) _ _).mono
    (fun r h => ⟨fun c => (h c).2, sem_eq_zero_of_no_sems rfl r.2⟩) (Cert.Reference14Ideal.Value.run m ρ)

/-- Kernel and reference give the same result. -/
theorem algebraic14 : Cert.algebraic_Kernel14Ideal_Reference14Ideal := by
  intro m g m' g' _ hargs
  refine ⟨_, Cert.Kernel14Ideal.Value.run_result m g, ?_⟩
  refine (θ_run (Cert.Reference14Ideal.defs (F := Ideal)) _ _).mono (fun r h c => ⟨?_, (h c).2⟩) (Cert.Reference14Ideal.Value.run m' g')
  obtain ⟨e0, e1, e2⟩ := hargs c
  refine (h c).1.trans ((Cert.Reference14Ideal.Value.out_eq _ _ _).trans ?_)
  rw [e0, e1, e2]
  rfl

end Cert.Proof

end
-- ==== Proof.MergeFwd.lean ====
/- The call `merge`: the two gated branches put together, sixteen runs of 256 rows. Its blocks are those that `merge_b` computes again. -/
module

public import proofs.«01_k».proof.Defs
public import proofs.«01_k».proof.Proof.MergeR
public import proofs.«01_k».proof.Proof.Gen.Kernel15
public import proofs.«01_k».proof.Proof.Gen.Kernel15Ideal.Value
public import proofs.«01_k».proof.Proof.Gen.Reference15Ideal.Run
public import Idealize.ShloMosaic.Lib.Tactic
public import Idealize.ShloMosaic.Lib.Pointwise
public import Idealize.ShloMosaic.Lib.Quiescent

@[expose] public section

noncomputable section

namespace Cert.Kernel15Ideal.Value

open Cert.Kernel15Ideal Cert.Kernel15Ideal.Gen Cert.Prod Cert.Norm Cert.Merge Idealize.ShloMosaic Idealize.ShloMosaic.TcCoe Idealize.SL.Sem
open Idealize.ShloMosaic.Tactic
open Cert.Kernel12Ideal.Value (lgs gate onc lgs_at Holds on_blk gt_blk)

theorem hz : (![0, 0] : Fin 2 → Nat) = fun _ => 0 := funext fun a => by fin_cases a <;> rfl

/-- The merge of the two branches. -/
def merged (A : Args) : Mat 4096 1024 := fun i =>
  lg (A.ra (i 0).val (i 1).val) * A.ya (i 0).val (i 1).val + lg (A.rb (i 0).val (i 1).val) * A.yb (i 0).val (i 1).val

section
variable {F : FTy → Type} [FloatOps F]

/-- What a point leaves in its block. -/
def block (x0 x1 x2 x3 x4 x5 x6 : FVec F S256x1024 .f32) (x7 : FVec F S1x128 .f32) (x8 : FVec F S1x1024 .f32) : FVec F S256x1024 .bf16 :=
  truncf .bf16 (addf (mulf (lgs x2) (mulf (onc x7 x4) (mulf x0 (lgs x0))))
    (mulf (lgs x3) (mulf (mulf x5 (gate x6 x8)) (mulf x1 (lgs x1))))) bitsLt_bf16_f32

theorem out_A (c : Dev nD) (i : grid0.Coords) (a1 : Memref sig .tc .vmem S256x1024 .f32) (h1 : a1.IsWhole) (a2 : Memref sig .tc .vmem S256x1024 .f32) (h2 : a2.IsWhole)
     (a3 : Memref sig .tc .vmem S256x1024 .f32) (h3 : a3.IsWhole) (a4 : Memref sig .tc .vmem S256x1024 .f32) (h4 : a4.IsWhole)
     (a5 : Memref sig .tc .vmem S256x1024 .f32) (h5 : a5.IsWhole) (a6 : Memref sig .tc .vmem S256x1024 .f32) (h6 : a6.IsWhole)
     (a7 : Memref sig .tc .vmem S256x1024 .f32) (h7 : a7.IsWhole) (a8 : Memref sig .tc .vmem S1x128 .f32) (h8 : a8.IsWhole)
     (a9 : Memref sig .tc .vmem S1x1024 .f32) (h9 : a9.IsWhole) (a10 : Memref sig .tc .vmem S256x1024 .bf16) (h10 : a10.IsWhole)
    (x0 x1 x2 x3 x4 x5 x6 : Vec F S256x1024 .f32) (x7 : Vec F S1x128 .f32) (x8 : Vec F S1x1024 .f32) :
    out0_A_9 c i a1 h1 a2 h2 a3 h3 a4 h4 a5 h5 a6 h6 a7 h7 a8 h8 a9 h9 a10 h10 x0 x1 x2 x3 x4 x5 x6 x7 x8
      = block x0 x1 x2 x3 x4 x5 x6 x7 x8 := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6 x7 x8)]
  unfold kernelRun0_A
  dsimp only
  rw [View.canon_unit_zero hz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    View.readAt_eq_ld, h1.read_unread, h2.read_unread, h3.read_unread, h4.read_unread, h5.read_unread, h6.read_unread,
    h7.read_unread, h8.read_unread, h9.read_unread, View.ld_unit_zero (S := S256x1024) hz, View.ld_unit_zero (S := S1x1024) hz,
    View.ld_unit_zero (S := S1x128) hz]
  rfl

end

theorem block_at {A : Args} {t : ℕ} {x0 x1 x2 x3 x4 x5 x6 : FVec Ideal S256x1024 .f32} {x7 : FVec Ideal S1x128 .f32}
    {x8 : FVec Ideal S1x1024 .f32} {x9 : FVec Ideal S256x1024 .f32} (H : Holds A t x0 x1 x2 x3 x4 x5 x6 x7 x8 x9) (p : Fin 256) (q : Fin 1024) :
    block x0 x1 x2 x3 x4 x5 x6 x7 x8 (ix2 p q)
      = (lg (A.ra (t * 256 + p.val) q.val) * A.ya (t * 256 + p.val) q.val
          + lg (A.rb (t * 256 + p.val) q.val) * A.yb (t * 256 + p.val) q.val : EReal) := by
  unfold Args.ya Args.yb Args.yg
  rw [← on_blk H, ← gt_blk H, ← H.h0, ← H.h1, ← H.h2, ← H.h3, ← H.h5, ← lgs_at, ← lgs_at, ← lgs_at, ← lgs_at]
  pointwise [block]

variable (m : (ℓ : Loc nD τ sig) → Buf (Elt Ideal) ℓ) (ρ : Dev nD → PrngReg)

/-- The kernel's arguments; there is no incoming gradient here. -/
def args (c : Dev nD) : Args where
  p := m ((c : Thread nD τ).loc main_arg0)
  o := m ((c : Thread nD τ).loc main_arg1)
  y := m ((c : Thread nD τ).loc main_arg2)
  l := m ((c : Thread nD τ).loc main_arg3)
  g := m ((c : Thread nD τ).loc main_arg4)
  b := m ((c : Thread nD τ).loc main_arg5)
  d := fun _ => 0

def result (c : Dev nD) : S4096x1024.Idx → EReal := merged (args m c)

/-- Where the windows stand at a grid point. -/
theorem index_0 : ∀ t : Fin grid0.N, win0_0.index t 0 = t.val ∧ win0_0.index t 1 = 3 := by decide +kernel
theorem index_1 : ∀ t : Fin grid0.N, win0_1.index t 0 = t.val ∧ win0_1.index t 1 = 5 := by decide +kernel
theorem index_2 : ∀ t : Fin grid0.N, win0_2.index t 0 = t.val ∧ win0_2.index t 1 = 6 := by decide +kernel
theorem index_3 : ∀ t : Fin grid0.N, win0_3.index t 0 = t.val ∧ win0_3.index t 1 = 7 := by decide +kernel
theorem index_4 : ∀ t : Fin grid0.N, win0_4.index t 0 = t.val ∧ win0_4.index t 1 = 0 := by decide +kernel
theorem index_5 : ∀ t : Fin grid0.N, win0_5.index t 0 = t.val ∧ win0_5.index t 1 = 0 := by decide +kernel
theorem index_6 : ∀ t : Fin grid0.N, win0_6.index t 0 = t.val ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = t.val ∧ win0_9.index t 1 = 0 := by decide +kernel

/-- The input blocks hold the arguments' rows. -/
theorem holds (c : Dev nD) (t : Fin cfg0.N) : Holds (args m c) t.val (X0_0 m c t) (X0_1 m c t) (X0_2 m c t) (X0_3 m c t)
    (iblk m c 4 t) (iblk m c 5 t) (iblk m c 6 t) (iblk m c 7 t) (iblk m c 8 t) (fun _ => (0 : EReal)) where
  h0 p q := by
    unfold X0_0 Pipeline.Window.fill iblk
    rw [dif_pos (moved0_0 t _), View.read_apply]
    refine at2_idx (args m c).p _ _ _ ?_ ?_
    · show win0_0.index t 0 * 256 + 1 * p.val = _; rw [(index_0 t).1, one_mul]
    · show win0_0.index t 1 * 1024 + 1 * q.val = _; rw [(index_0 t).2, one_mul]
  h1 p q := by
    unfold X0_1 Pipeline.Window.fill iblk
    rw [dif_pos (moved0_1 t _), View.read_apply]
    refine at2_idx (args m c).p _ _ _ ?_ ?_
    · show win0_1.index t 0 * 256 + 1 * p.val = _; rw [(index_1 t).1, one_mul]
    · show win0_1.index t 1 * 1024 + 1 * q.val = _; rw [(index_1 t).2, one_mul]
  h2 p q := by
    unfold X0_2 Pipeline.Window.fill iblk
    rw [dif_pos (moved0_2 t _), View.read_apply]
    refine at2_idx (args m c).p _ _ _ ?_ ?_
    · show win0_2.index t 0 * 256 + 1 * p.val = _; rw [(index_2 t).1, one_mul]
    · show win0_2.index t 1 * 1024 + 1 * q.val = _; rw [(index_2 t).2, one_mul]
  h3 p q := by
    unfold X0_3 Pipeline.Window.fill iblk
    rw [dif_pos (moved0_3 t _), View.read_apply]
    refine at2_idx (args m c).p _ _ _ ?_ ?_
    · show win0_3.index t 0 * 256 + 1 * p.val = _; rw [(index_3 t).1, one_mul]
    · show win0_3.index t 1 * 1024 + 1 * q.val = _; rw [(index_3 t).2, one_mul]
  h4 p q := by
    unfold iblk
    rw [View.read_apply]
    refine at2_idx (args m c).o _ _ _ ?_ ?_
    · show win0_4.index t 0 * 256 + 1 * p.val = _; rw [(index_4 t).1, one_mul]
    · show win0_4.index t 1 * 1024 + 1 * q.val = _; rw [(index_4 t).2, one_mul, zero_mul, zero_add]
  h5 p q := by
    unfold iblk
    rw [View.read_apply]
    refine at2_idx (args m c).y _ _ _ ?_ ?_
    · show win0_5.index t 0 * 256 + 1 * p.val = _; rw [(index_5 t).1, one_mul]
    · show win0_5.index t 1 * 1024 + 1 * q.val = _; rw [(index_5 t).2, one_mul, zero_mul, zero_add]
  h6 p q := by
    unfold iblk
    rw [View.read_apply]
    refine at2_idx (args m c).l _ _ _ ?_ ?_
    · show win0_6.index t 0 * 256 + 1 * p.val = _; rw [(index_6 t).1, one_mul]
    · show win0_6.index t 1 * 1024 + 1 * q.val = _; rw [(index_6 t).2, one_mul, zero_mul, zero_add]
  h7 q := by
    unfold iblk
    rw [View.read_apply]
    refine at2_idx (args m c).g _ _ _ ?_ ?_
    · show win0_7.index t 0 * 1 + 1 * 0 = _; rw [(index_7 t).1]
    · show win0_7.index t 1 * 128 + 1 * q.val = _; rw [(index_7 t).2, one_mul, zero_mul, zero_add]
  h8 q := by
    unfold iblk
    rw [View.read_apply]
    refine at2_idx (args m c).b _ _ _ ?_ ?_
    · show win0_8.index t 0 * 1 + 1 * 0 = _; rw [(index_8 t).1]
    · show win0_8.index t 1 * 1024 + 1 * q.val = _; rw [(index_8 t).2, one_mul, zero_mul, zero_add]
  h9 p q := by
    unfold at2
    split <;> rfl

theorem flushed_9 (c : Dev nD) (t : Fin cfg0.N) (hf : (cfg0.win 9).flush t = true) :
    (dats m 0 c).flushed 9 t = ((cfg0.win 9).blk t).view.read (Elt Ideal) (result m c) := by
  rw [flushed9_A, out_A]
  obtain ⟨e0, e1⟩ := index_9 t
  funext y
  obtain ⟨p, q, hy⟩ : ∃ (p : Fin 256) (q : Fin 1024), (cfg0.win 9).xinj (grid0.coords t) y = ix2 p q :=
    ⟨_, _, (ix2_eta (n0 := 256) (n1 := 1024) _).symm⟩
  rw [View.read_apply]
  show block _ _ _ _ _ _ _ _ _ ((cfg0.win 9).xinj (grid0.coords t) y) = _
  have h0 : (((cfg0.win 9).blk t).view.emb y 0).val = t.val * 256 + p.val := by
    have : (y 0).val = p.val := congrArg (fun j : S256x1024.Idx => (j 0).val) hy
    show win0_9.index t 0 * 256 + 1 * (y 0).val = _; rw [e0, this, one_mul]
  have h1 : (((cfg0.win 9).blk t).view.emb y 1).val = q.val := by
    have : (y 1).val = q.val := congrArg (fun j : S256x1024.Idx => (j 1).val) hy
    show win0_9.index t 1 * 1024 + 1 * (y 1).val = _; rw [e1, this, one_mul, zero_mul, zero_add]
  rw [hy]
  refine (block_at (holds m c t) p q).trans ?_
  unfold result merged
  rw [h0, h1]
  rfl

/-- The point that writes an index of the result back. -/
def pointOf (i : S4096x1024.Idx) : Fin cfg0.N := ⟨(i 0).val / 256, lt_of_lt_of_eq (by
  have h0 : (i 0).val < 4096 := (i 0).isLt
  omega) N_0.symm⟩

theorem covered_9 (i : S4096x1024.Idx) : i ∈ ((cfg0.win 9).blk (pointOf i)).view.set := by
  show i ∈ ((View.whole main_v0).slice (win0_9.rect (pointOf i))).set
  rw [View.set_slice_whole, Rect.mem_set_unit]
  obtain ⟨e0, e1⟩ := index_9 (pointOf i)
  have h0 : (i 0).val < 4096 := (i 0).isLt
  have h1 : (i 1).val < 1024 := (i 1).isLt
  have hv : (pointOf i).val = (i 0).val / 256 := rfl
  intro a
  match a with
  | ⟨0, _⟩ =>
    show win0_9.index (pointOf i) 0 * 256 ≤ (i 0).val ∧ (i 0).val < win0_9.index (pointOf i) 0 * 256 + 256
    rw [e0, hv]; omega
  | ⟨1, _⟩ =>
    show win0_9.index (pointOf i) 1 * 1024 ≤ (i 1).val ∧ (i 1).val < win0_9.index (pointOf i) 1 * 1024 + 1024
    rw [e1]; omega

/-- The kernel's result. -/
theorem run_result : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((dats m 0 c).arrAt_eq_of_cover 9 _ (flushed_9 m c) fun i =>
    ⟨pointOf i, flush0_9 _, covered_9 i⟩), (h c).2⟩) (run_blocks m ρ)

end Cert.Kernel15Ideal.Value

namespace Cert.Reference15Ideal.Value

open Cert.Reference15Ideal Cert.Reference15Ideal.Gen Cert.Prod Cert.Norm Cert.Merge Idealize.ShloMosaic Idealize.ShloMosaic.TcCoe Idealize.SL.Sem
open Idealize.ShloMosaic.Tactic
open Cert.Reference12Ideal.Value (sg sg_at pa pb qa qb pa_at pb_at qa_at qb_at onV on_at ygV yg_at)

variable (m : (ℓ : Loc nD τ sig) → Buf (Elt Ideal) ℓ) (ρ : Dev nD → PrngReg)

/-- The reference's arguments; there is no incoming gradient here. -/
def args (c : Dev nD) : Args where
  p := m ((c : Thread nD τ).loc main_arg0)
  o := m ((c : Thread nD τ).loc main_arg1)
  y := m ((c : Thread nD τ).loc main_arg2)
  l := m ((c : Thread nD τ).loc main_arg3)
  g := m ((c : Thread nD τ).loc main_arg4)
  b := m ((c : Thread nD τ).loc main_arg5)
  d := fun _ => 0

/-- The reference's result. -/
def out (A : Args) : FVec Ideal S4096x1024 .bf16 :=
  truncf .bf16 (addf (mulf (sg (qa A.p)) (mulf (onV A.o A.g) (mulf (pa A.p) (sg (pa A.p)))))
    (mulf (sg (qb A.p)) (mulf (ygV A.y A.l A.b) (mulf (pb A.p) (sg (pb A.p)))))) bitsLt_bf16_f32

/-- So is the reference's. -/
theorem out_eq (A : Args) : out A = Cert.Kernel15Ideal.Value.merged A := by
  refine mat_ext fun p q => ?_
  unfold Cert.Kernel15Ideal.Value.merged Args.ya Args.yb
  show _ = (lg (A.ra p.val q.val) * (A.on p.val q.val * (A.za p.val q.val * lg (A.za p.val q.val)))
    + lg (A.rb p.val q.val) * (A.yg p.val q.val * (A.zb p.val q.val * lg (A.zb p.val q.val))) : EReal)
  rw [← on_at, ← yg_at, ← pa_at, ← pb_at, ← qa_at, ← qb_at, ← sg_at, ← sg_at, ← sg_at, ← sg_at]
  pointwise [out]

theorem run_named : θ_run defs (onTc (τ := τ) (main (F := Ideal))) ⟨m, fun _ => 0, ρ⟩ fun r => ∀ c : Dev nD,
      r.2.mem ((c : Thread nD τ).loc main_v47) = out (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1, (h c).2⟩) (run m ρ)

end Cert.Reference15Ideal.Value

namespace Cert.Proof

open Idealize.ShloMosaic Idealize.SL.Sem Cert.Norm

set_option smartUnfolding false in
/-- The frames of kernel and reference; the kernel's in floating point is that of its ideal text, proved for every float model. -/
theorem kernel15_frame : Cert.quiescent_Kernel15 := fun m ρ _ => Cert.Kernel15Ideal.Gen.frame (F := Bits) m ρ

theorem kernel15Ideal_frame : Cert.quiescent_Kernel15Ideal := fun m ρ _ => Cert.Kernel15Ideal.Gen.frame m ρ

theorem reference15_frame : Cert.quiescent_Reference15Ideal := fun m ρ _ =>
  (θ_run (Cert.Reference15Ideal.defs (F := Ideal)) _ _).mono
    (fun r h => ⟨fun c => (h c).2, sem_eq_zero_of_no_sems rfl r.2⟩) (Cert.Reference15Ideal.Value.run m ρ)

/-- Kernel and reference give the same result. -/
theorem algebraic15 : Cert.algebraic_Kernel15Ideal_Reference15Ideal := by
  intro m g m' g' _ hargs
  refine ⟨_, Cert.Kernel15Ideal.Value.run_result m g, ?_⟩
  refine (θ_run (Cert.Reference15Ideal.defs (F := Ideal)) _ _).mono (fun r h c => ⟨?_, (h c).2⟩) (Cert.Reference15Ideal.Value.run_named m' g')
  refine (h c).1.trans ((Cert.Reference15Ideal.Value.out_eq _).trans ?_)
  have e : Cert.Reference15Ideal.Value.args m' c = Cert.Kernel15Ideal.Value.args m c := by
    obtain ⟨e0, e1, e2, e3, e4, e5⟩ := hargs c
    unfold Cert.Reference15Ideal.Value.args Cert.Kernel15Ideal.Value.args
    rw [e0, e1, e2, e3, e4, e5]
  rw [e]
  rfl

end Cert.Proof

end
-- ==== Proof.Gelu.lean ====
/- The call `gelu`: the state-space layer's output with its skip through the gelu, eight runs of 512 rows. -/
module

public import proofs.«01_k».proof.Defs
public import proofs.«01_k».proof.Proof.Norm
public import proofs.«01_k».proof.Proof.Gen.Kernel16
public import proofs.«01_k».proof.Proof.Gen.Kernel16Ideal.Value
public import proofs.«01_k».proof.Proof.Gen.Reference16Ideal.Run
public import Idealize.ShloMosaic.Lib.Tactic
public import Idealize.ShloMosaic.Lib.Pointwise
public import Idealize.ShloMosaic.Lib.Quiescent

@[expose] public section

noncomputable section

namespace Cert.Kernel16Ideal.Value

open Cert.Kernel16Ideal Cert.Kernel16Ideal.Gen Cert.Prod Cert.Norm Idealize.ShloMosaic Idealize.ShloMosaic.TcCoe Idealize.SL.Sem
open Idealize.ShloMosaic.Tactic

theorem hz : (![0, 0] : Fin 2 → Nat) = fun _ => 0 := funext fun a => by fin_cases a <;> rfl

/-- The constants that the programs hold. -/
abbrev half : EReal := Ideal.ofBits .f32 0x3F000000#32
abbrev one : EReal := Ideal.ofBits .f32 0x3F800000#32
abbrev cube : EReal := Ideal.ofBits .f32 0x3D372713#32
abbrev slope : EReal := Ideal.ofBits .f32 0x3F4C422A#32

/-- The gelu in its tanh form. -/
def gelu (x : EReal) : EReal := half * x * (one + Ideal.tanh (slope * (x + cube * x * x * x)))

/-- The gelu of the output `y` plus the skip `d` times the columns of the projection that the layer takes in. -/
def geluOf (y : Mat 4096 1024) (w : Mat 4096 8448) (d : Mat 1 1024) : Mat 4096 1024 := fun i =>
  gelu (at2 y (i 0).val (i 1).val + at2 d 0 (i 1).val * at2 w (i 0).val (4096 + (i 1).val))

theorem out_A {F : FTy → Type} [FloatOps F] (c : Dev nD) (i : grid0.Coords) (a1 : Memref sig .tc .vmem S512x1024 .f32) (h1 : a1.IsWhole)
    (a2 : Memref sig .tc .vmem S512x1024 .f32) (h2 : a2.IsWhole) (a3 : Memref sig .tc .vmem S1x1024 .f32) (h3 : a3.IsWhole)
    (a4 : Memref sig .tc .vmem S512x1024 .f32) (h4 : a4.IsWhole)
    (x0 x1 : Vec F S512x1024 .f32) (x2 : Vec F S1x1024 .f32) :
    out0_A_3 c i a1 h1 a2 h2 a3 h3 a4 h4 x0 x1 x2 = k0_pay1 x0 x2 x1 := by
  unfold out0_A_3
  rw [View.read_writes_eq_canon _ _ _ (cover0_A_3 c i a1 h1 a2 h2 a3 h3 a4 h4 x0 x1 x2)]
  unfold kernelRun0_A
  dsimp only
  rw [View.canon_unit_zero hz]
  simp only [View.readAt_eq_ld, h1.read_unread, h2.read_unread, h3.read_unread, View.ld_unit_zero (S := S512x1024) hz, View.ld_unit_zero (S := S1x1024) hz]

theorem pay_at (x0 x1 : Vec Ideal S512x1024 .f32) (x2 : Vec Ideal S1x1024 .f32) (p : Fin 512) (q : Fin 1024) :
    k0_pay1 x0 x2 x1 (ix2 p q) = gelu (x0 (ix2 p q) + x2 (ix2 0 q) * x1 (ix2 p q) : EReal) := by
  unfold gelu
  pointwise [k0_pay1]

variable (m : (ℓ : Loc nD τ sig) → Buf (Elt Ideal) ℓ) (ρ : Dev nD → PrngReg)

/-- The layer's output, the projection and the skip. -/
abbrev argY (c : Dev nD) : S4096x1024.Idx → EReal := m ((c : Thread nD τ).loc main_arg0)
abbrev argP (c : Dev nD) : S4096x8448.Idx → EReal := m ((c : Thread nD τ).loc main_arg1)
abbrev argD (c : Dev nD) : S1x1024.Idx → EReal := m ((c : Thread nD τ).loc main_arg2)

def result (c : Dev nD) : S4096x1024.Idx → EReal := geluOf (argY m c) (argP m c) (argD m c)

/-- Where the windows stand at a grid point. -/
theorem index_0 : ∀ t : Fin grid0.N, win0_0.index t 0 = t.val ∧ win0_0.index t 1 = 0 := by decide +kernel
theorem index_2 : ∀ t : Fin grid0.N, win0_2.index t 0 = 0 ∧ win0_2.index t 1 = 0 := by decide +kernel
theorem index_1 : ∀ t : Fin grid0.N, win0_1.index t 0 = t.val ∧ win0_1.index t 1 = 4 := by decide +kernel
theorem index_3 : ∀ t : Fin grid0.N, win0_3.index t 0 = t.val ∧ win0_3.index t 1 = 0 := by decide +kernel

theorem iblk_0 (c : Dev nD) (t : Fin cfg0.N) (p : Fin 512) (k : Fin 1024) :
    (iblk m c 0 t : Vec Ideal S512x1024 .f32) (ix2 p k) = at2 (argY m c) (t.val * 512 + p.val) k.val := by
  obtain ⟨e0, e1⟩ := index_0 t
  unfold iblk
  rw [View.read_apply]
  refine at2_idx (argY m c) _ _ _ ?_ ?_
  · show win0_0.index t 0 * 512 + 1 * p.val = _; rw [e0, one_mul]
  · show win0_0.index t 1 * 1024 + 1 * k.val = _; rw [e1, one_mul, zero_mul, zero_add]

theorem iblk_2 (c : Dev nD) (t : Fin cfg0.N) (k : Fin 1024) :
    (iblk m c 2 t : Vec Ideal S1x1024 .f32) (ix2 0 k) = at2 (argD m c) 0 k.val := by
  obtain ⟨e0, e1⟩ := index_2 t
  unfold iblk
  rw [View.read_apply]
  refine at2_idx (argD m c) _ _ _ ?_ ?_
  · show win0_2.index t 0 * 1 + 1 * 0 = _; rw [e0]
  · show win0_2.index t 1 * 1024 + 1 * k.val = _; rw [e1, one_mul, zero_mul, zero_add]

theorem iblk_1 (c : Dev nD) (t : Fin cfg0.N) (p : Fin 512) (k : Fin 1024) :
    (X0_1 m c t : Vec Ideal S512x1024 .f32) (ix2 p k) = at2 (argP m c) (t.val * 512 + p.val) (4096 + k.val) := by
  obtain ⟨e0, e1⟩ := index_1 t
  unfold X0_1 Pipeline.Window.fill iblk
  rw [dif_pos (moved0_1 t _), View.read_apply]
  refine at2_idx (argP m c) _ _ _ ?_ ?_
  · show win0_1.index t 0 * 512 + 1 * p.val = _; rw [e0, one_mul]
  · show win0_1.index t 1 * 1024 + 1 * k.val = _; rw [e1, one_mul]

/-- What a point computes, from the whole arrays. -/
theorem pay_blk (c : Dev nD) (t : Fin cfg0.N) (p : Fin 512) (q : Fin 1024) :
    k0_pay1 (iblk m c 0 t) (iblk m c 2 t) (X0_1 m c t) (ix2 p q)
      = gelu (at2 (argY m c) (t.val * 512 + p.val) q.val + at2 (argD m c) 0 q.val * at2 (argP m c) (t.val * 512 + p.val) (4096 + q.val) : EReal) := by
  refine (pay_at _ _ _ p q).trans (congrArg gelu ?_)
  exact congrArg₂ (· + · : EReal → EReal → EReal) (iblk_0 m c t p q)
    (congrArg₂ (· * · : EReal → EReal → EReal) (iblk_2 m c t q) (iblk_1 m c t p q))

theorem flushed_3 (c : Dev nD) (t : Fin cfg0.N) (hf : (cfg0.win 3).flush t = true) :
    (dats m 0 c).flushed 3 t = ((cfg0.win 3).blk t).view.read (Elt Ideal) (result m c) := by
  rw [flushed3_A, out_A]
  obtain ⟨e0, e1⟩ := index_3 t
  funext y
  obtain ⟨p, q, hy⟩ : ∃ (p : Fin 512) (q : Fin 1024), (cfg0.win 3).xinj (grid0.coords t) y = ix2 p q :=
    ⟨_, _, (ix2_eta (n0 := 512) (n1 := 1024) _).symm⟩
  rw [View.read_apply]
  show k0_pay1 _ _ _ ((cfg0.win 3).xinj (grid0.coords t) y) = _
  have h0 : (((cfg0.win 3).blk t).view.emb y 0).val = t.val * 512 + p.val := by
    have : (y 0).val = p.val := congrArg (fun j : S512x1024.Idx => (j 0).val) hy
    show win0_3.index t 0 * 512 + 1 * (y 0).val = _; rw [e0, this, one_mul]
  have h1 : (((cfg0.win 3).blk t).view.emb y 1).val = q.val := by
    have : (y 1).val = q.val := congrArg (fun j : S512x1024.Idx => (j 1).val) hy
    show win0_3.index t 1 * 1024 + 1 * (y 1).val = _; rw [e1, this, one_mul, zero_mul, zero_add]
  rw [hy, pay_blk]
  unfold result geluOf
  rw [h0, h1]
  rfl

/-- The point that writes an index of the result back. -/
def pointOf (i : S4096x1024.Idx) : Fin cfg0.N := ⟨(i 0).val / 512, lt_of_lt_of_eq (by
  have h0 : (i 0).val < 4096 := (i 0).isLt
  omega) N_0.symm⟩

theorem covered_3 (i : S4096x1024.Idx) : i ∈ ((cfg0.win 3).blk (pointOf i)).view.set := by
  show i ∈ ((View.whole main_v0).slice (win0_3.rect (pointOf i))).set
  rw [View.set_slice_whole, Rect.mem_set_unit]
  obtain ⟨e0, e1⟩ := index_3 (pointOf i)
  have h0 : (i 0).val < 4096 := (i 0).isLt
  have h1 : (i 1).val < 1024 := (i 1).isLt
  have hv : (pointOf i).val = (i 0).val / 512 := rfl
  intro a
  match a with
  | ⟨0, _⟩ =>
    show win0_3.index (pointOf i) 0 * 512 ≤ (i 0).val ∧ (i 0).val < win0_3.index (pointOf i) 0 * 512 + 512
    rw [e0, hv]; omega
  | ⟨1, _⟩ =>
    show win0_3.index (pointOf i) 1 * 1024 ≤ (i 1).val ∧ (i 1).val < win0_3.index (pointOf i) 1 * 1024 + 1024
    rw [e1]; omega

/-- The kernel's result. -/
theorem run_result : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 3 _ (flushed_3 m c) fun i =>
    ⟨pointOf i, flush0_3 _, covered_3 i⟩), (h c).2⟩) (run_blocks m ρ)

end Cert.Kernel16Ideal.Value

namespace Cert.Reference16Ideal.Value

open Cert.Reference16Ideal Cert.Reference16Ideal.Gen Cert.Prod Cert.Norm Idealize.ShloMosaic Idealize.ShloMosaic.TcCoe
open Idealize.ShloMosaic.Tactic

/-- The reference's gelu, and its argument. -/
def arg (y : FVec Ideal S4096x1024 .f32) (w : FVec Ideal S4096x8448 .f32) (d : FVec Ideal S1x1024 .f32) : FVec Ideal S4096x1024 .f32 :=
  addf y (mulf (broadcastInDim S4096x1024 ![0, 1] bcast_S1x1024_S4096x1024_0_1 d)
    (extractStridedSlice S4096x1024 ![0, 4096] w slices_S4096x8448_S4096x1024_0_4096))

def through (x : FVec Ideal S4096x1024 .f32) : FVec Ideal S4096x1024 .f32 :=
  mulf x (mulf (broadcastInDim S4096x1024 ![] bcast_S_S4096x1024 (constant S_ .f32 0x3F000000#32))
    (addf (broadcastInDim S4096x1024 ![] bcast_S_S4096x1024 (constant S_ .f32 0x3F800000#32))
      (Host.tanh (mulf (broadcastInDim S4096x1024 ![] bcast_S_S4096x1024 (constant S_ .f32 0x3F4C422A#32))
        (addf x (mulf (broadcastInDim S4096x1024 ![] bcast_S_S4096x1024 (constant S_ .f32 0x3D372713#32)) (mulf (mulf x x) x)))))))

theorem arg_at (y : FVec Ideal S4096x1024 .f32) (w : FVec Ideal S4096x8448 .f32) (d : FVec Ideal S1x1024 .f32) (p : Fin 4096) (q : Fin 1024) :
    arg y w d (ix2 p q) = (y (ix2 p q) + d (ix2 0 q) * w (ix2 p ⟨4096 + q.val, by omega⟩) : EReal) := by
  pointwise [arg]

theorem through_at (x : FVec Ideal S4096x1024 .f32) (p : Fin 4096) (q : Fin 1024) :
    through x (ix2 p q) = Cert.Kernel16Ideal.Value.gelu (x (ix2 p q)) := by
  have h : through x (ix2 p q) = (x (ix2 p q) * (Cert.Kernel16Ideal.Value.half * (Cert.Kernel16Ideal.Value.one
      + Ideal.tanh (Cert.Kernel16Ideal.Value.slope * (x (ix2 p q) + Cert.Kernel16Ideal.Value.cube * (x (ix2 p q) * x (ix2 p q) * x (ix2 p q)))))) : EReal) := by
    pointwise [through]
  rw [h]
  unfold Cert.Kernel16Ideal.Value.gelu
  rw [mul_left_comm, ← mul_assoc, ← mul_assoc, ← mul_assoc]

/-- So is the reference's. -/
theorem out_eq (y : FVec Ideal S4096x1024 .f32) (w : FVec Ideal S4096x8448 .f32) (d : FVec Ideal S1x1024 .f32) :
    through (arg y w d) = Cert.Kernel16Ideal.Value.geluOf y w d := by
  refine mat_ext fun p q => (through_at _ p q).trans ?_
  rw [arg_at]
  unfold Cert.Kernel16Ideal.Value.geluOf
  refine congrArg Cert.Kernel16Ideal.Value.gelu (congrArg₂ (· + · : EReal → EReal → EReal) (at2_fin y p q).symm ?_)
  exact congrArg₂ (· * · : EReal → EReal → EReal) (at2_fin d 0 q).symm (at2_fin w p ⟨4096 + q.val, by omega⟩).symm

end Cert.Reference16Ideal.Value

namespace Cert.Proof

open Idealize.ShloMosaic Idealize.SL.Sem Cert.Norm

set_option smartUnfolding false in
/-- The frames of kernel and reference; the kernel's in floating point is that of its ideal text, proved for every float model. -/
theorem kernel16_frame : Cert.quiescent_Kernel16 := fun m ρ _ => Cert.Kernel16Ideal.Gen.frame (F := Bits) m ρ

theorem kernel16Ideal_frame : Cert.quiescent_Kernel16Ideal := fun m ρ _ => Cert.Kernel16Ideal.Gen.frame m ρ

theorem reference16_frame : Cert.quiescent_Reference16Ideal := fun m ρ _ =>
  (θ_run (Cert.Reference16Ideal.defs (F := Ideal)) _ _).mono
    (fun r h => ⟨fun c => (h c).2, sem_eq_zero_of_no_sems rfl r.2⟩) (Cert.Reference16Ideal.Value.run m ρ)

/-- Kernel and reference give the same result. -/
theorem algebraic16 : Cert.algebraic_Kernel16Ideal_Reference16Ideal := by
  intro m g m' g' _ hargs
  refine ⟨_, Cert.Kernel16Ideal.Value.run_result m g, ?_⟩
  refine (θ_run (Cert.Reference16Ideal.defs (F := Ideal)) _ _).mono (fun r h c => ⟨?_, (h c).2⟩) (Cert.Reference16Ideal.Value.run m' g')
  obtain ⟨e0, e1, e2⟩ := hargs c
  refine (h c).1.trans ((Cert.Reference16Ideal.Value.out_eq _ _ _).trans ?_)
  rw [e0, e1, e2]
  rfl

end Cert.Proof

end
-- ==== Proof.Disc.lean ====
/- The call `s5_disc`: the poles of the state-space layer and its input matrices, discretised. -/
module

public import proofs.«01_k».proof.Defs
public import proofs.«01_k».proof.Proof.Norm
public import proofs.«01_k».proof.Proof.Gen.Kernel18
public import proofs.«01_k».proof.Proof.Gen.Kernel18Ideal.Value
public import proofs.«01_k».proof.Proof.Gen.Reference18Ideal.Run
public import Idealize.ShloMosaic.Lib.Tactic
public import Idealize.ShloMosaic.Lib.Pointwise
public import Idealize.ShloMosaic.Lib.Quiescent
public import Idealize.ShloMosaic.Lib.KernelVsHost

@[expose] public section

noncomputable section

namespace Cert.Disc

open Idealize.ShloMosaic Idealize.ShloMosaic.TcCoe

/-- The shapes: one number for each group, a row for each, and sixteen rows for each. -/
abbrev S1 : Shape := ⟨3, ![64, 1, 1]⟩
abbrev SR : Shape := ⟨3, ![64, 1, 64]⟩
abbrev SB : Shape := ⟨3, ![64, 16, 64]⟩

/-- What the kernel and the reference call by different names. -/
theorem spread1 (x : S1.Idx → EReal) (h : S1.Broadcasts SR) (h' : S1.BroadcastsInDim SR ![0, 1, 2]) :
    broadcastTo SR x h = broadcastInDim SR ![0, 1, 2] h' x := by
  funext j
  rw [broadcastTo_apply x h j (ix3 (j 0) 0 0) fun a => by fin_cases a <;> rfl,
    broadcastInDim_apply ![0, 1, 2] h' x j (ix3 (j 0) 0 0) fun a => by fin_cases a <;> rfl]

theorem spread (x : SR.Idx → EReal) (h : SR.Broadcasts SB) (h' : SR.BroadcastsInDim SB ![0, 1, 2]) :
    broadcastTo SB x h = broadcastInDim SB ![0, 1, 2] h' x := by
  funext j
  rw [broadcastTo_apply x h j (ix3 (j 0) 0 (j 2)) fun a => by fin_cases a <;> rfl,
    broadcastInDim_apply ![0, 1, 2] h' x j (ix3 (j 0) 0 (j 2)) fun a => by fin_cases a <;> rfl]

theorem const (b : BitVec 32) (h : (⟨0, ![]⟩ : Shape).BroadcastsInDim SR ![]) :
    (broadcast SR (Scalar.ofBits .f32 b : Ideal .f32) : FVec Ideal SR .f32) = broadcastInDim SR ![] h (constant (F := Ideal) ⟨0, ![]⟩ .f32 b) := by
  funext j
  rfl

end Cert.Disc

namespace Cert.Proof

open Idealize.ShloMosaic Idealize.SL.Sem Cert.Disc

set_option smartUnfolding false in
/-- The frames of kernel and reference; the kernel's in floating point is that of its ideal text, proved for every float model. -/
theorem kernel18_frame : Cert.quiescent_Kernel18 := fun m ρ _ => Cert.Kernel18Ideal.Gen.frame (F := Bits) m ρ

theorem kernel18Ideal_frame : Cert.quiescent_Kernel18Ideal := fun m ρ _ => Cert.Kernel18Ideal.Gen.frame m ρ

theorem reference18_frame : Cert.quiescent_Reference18Ideal := fun m ρ _ =>
  (θ_run (Cert.Reference18Ideal.defs (F := Ideal)) _ _).mono
    (fun r h => ⟨fun c => (h c).2.2.2.2, sem_eq_zero_of_no_sems rfl r.2⟩) (Cert.Reference18Ideal.Value.run m ρ)

open Cert.Kernel18Ideal.Gen Cert.Kernel18Ideal.Value in
/-- Kernel and reference give the same results. -/
theorem algebraic18 : Cert.algebraic_Kernel18Ideal_Reference18Ideal := by
  intro m g m' g' _ hargs
  refine ⟨_, _, _, _, Cert.Kernel18Ideal.Value.run m g, ?_⟩
  refine (θ_run (Cert.Reference18Ideal.defs (F := Ideal)) _ _).mono (fun r h c => ?_) (Cert.Reference18Ideal.Value.run m' g')
  obtain ⟨e0, e1, e2, e3, e4⟩ := hargs c
  obtain ⟨h0, h1, h2, h3, hk⟩ := h c
  refine ⟨h0.trans ?_, h1.trans ?_, h2.trans ?_, h3.trans ?_, hk⟩ <;>
  · symm
    simp only [e0, e1, e2, e3, e4, G5, G6, G7, G8, k0_pay1, k0_pay2, k0_pay3, k0_pay4, k0_pay5, k0_pay6, k0_pay7, k0_pay8, k0_pay9]
    simp only [spread1 _ _ Cert.Reference18Ideal.Gen.bcast_S64x1x1_S64x1x64_0_1_2,
      spread _ _ Cert.Reference18Ideal.Gen.bcast_S64x1x64_S64x16x64_0_1_2, const]
    rfl

end Cert.Proof

end
-- ==== Proof.DiscB.lean ====
/- The backward call `s5_disc_b`: the gradients of the poles, of the step and of the input matrices through the discretisation. -/
module

public import proofs.«01_k».proof.Defs
public import proofs.«01_k».proof.Proof.Disc
public import proofs.«01_k».proof.Proof.Gen.Kernel19
public import proofs.«01_k».proof.Proof.Gen.Kernel19Ideal.Frame
public import proofs.«01_k».proof.Proof.Gen.Reference19Ideal.Run
public import Idealize.ShloMosaic.Lib.Pipeline.Value
public import Idealize.ShloMosaic.Lib.Tactic
public import Idealize.ShloMosaic.Lib.Pointwise
public import Idealize.ShloMosaic.Lib.Quiescent
public import Idealize.ShloMosaic.Lib.KernelVsHost

@[expose] public section

noncomputable section

namespace Cert.Disc

open Idealize.ShloMosaic Idealize.ShloMosaic.TcCoe

theorem neg (S : Shape) (x : FVec Ideal S .f32) :
    subf (broadcast S (FloatOps.ofBits (F := Ideal) .f32 0x00000000#32)) x = Host.negf x :=
  subf_zero_eq_hostNegf x

theorem fns (S : Shape) : (exp : FVec Ideal S .f32 → FVec Ideal S .f32) = Host.exp ∧ (cos : FVec Ideal S .f32 → FVec Ideal S .f32) = Host.cos
    ∧ (sin : FVec Ideal S .f32 → FVec Ideal S .f32) = Host.sin
    ∧ (divf : FVec Ideal S .f32 → FVec Ideal S .f32 → FVec Ideal S .f32) = Host.divf := ⟨rfl, rfl, rfl, rfl⟩

theorem one (h : (⟨0, ![]⟩ : Shape).BroadcastsInDim SR ![]) :
    broadcast SR (FloatOps.ofBits (F := Ideal) .f32 0x3F800000#32) = broadcastInDim SR ![] h (constant (F := Ideal) ⟨0, ![]⟩ .f32 0x3F800000#32) := rfl

/-- An index of a block at the origin is the same index of the array. -/
theorem same {s : Shape} (k j : s.Idx) (n : Fin s.rank → ℕ) (h : ∀ a, n a = 0)
    (hk : ∀ a, (k a).val = n a * s.size a + 1 * (j a).val) : k = j := by
  funext a
  refine Fin.ext ?_
  rw [hk a, h a, zero_mul, zero_add, one_mul]

end Cert.Disc

namespace Cert.Kernel19Ideal.Value

open Cert.Kernel19Ideal Cert.Kernel19Ideal.Gen Cert.Disc Idealize.ShloMosaic Idealize.ShloMosaic.TcCoe Idealize.SL.Sem

theorem hz : (![0, 0, 0] : Fin 3 → Nat) = fun _ => 0 := funext fun a => by fin_cases a <;> rfl

/-- The sums over a group's rows and over its states. -/
theorem sum1 (x : FVec Ideal S64x16x64 .f32) :
    multiReduction .add [1] S64x64 x 0x00000000#32 reduces_S64x16x64_S64x64 (.inl rfl) rfl
      = Host.reduceAdd x (constant (F := Ideal) Cert.Reference19Ideal.S_ .f32 0x00000000#32)
          Cert.Reference19Ideal.Gen.reducesTo_S64x16x64_S64x64_d1 Cert.Reference19Ideal.Gen.h_S_ :=
  multiReduction_add_eq_hostReduceAdd x _ _ _ _ _ _ _ Ideal.ofBits_zero_f32

theorem sum2 (x : FVec Ideal S64x1x64 .f32) :
    multiReduction .add [2] S64x1 x 0x00000000#32 reduces_S64x1x64_S64x1 (.inl rfl) rfl
      = Host.reduceAdd x (constant (F := Ideal) Cert.Reference19Ideal.S_ .f32 0x00000000#32)
          Cert.Reference19Ideal.Gen.reducesTo_S64x1x64_S64x1_d2 Cert.Reference19Ideal.Gen.h_S_ :=
  multiReduction_add_eq_hostReduceAdd x _ _ _ _ _ _ _ Ideal.ofBits_zero_f32

/-- The one run's blocks are whole arrays. -/
theorem emb0 (t : Fin cfg0.N) (j : S64x1x64.Idx) : ((cfg0.win 0).blk t).view.emb j = j :=
  same _ _ (win0_0.index t) ((by decide +kernel : ∀ (t : Fin grid0.N) (a : Fin 3), win0_0.index t a = 0) t) fun _ => rfl
theorem emb1 (t : Fin cfg0.N) (j : S64x1x64.Idx) : ((cfg0.win 1).blk t).view.emb j = j :=
  same _ _ (win0_1.index t) ((by decide +kernel : ∀ (t : Fin grid0.N) (a : Fin 3), win0_1.index t a = 0) t) fun _ => rfl
theorem emb2 (t : Fin cfg0.N) (j : S64x1x1.Idx) : ((cfg0.win 2).blk t).view.emb j = j :=
  same _ _ (win0_2.index t) ((by decide +kernel : ∀ (t : Fin grid0.N) (a : Fin 3), win0_2.index t a = 0) t) fun _ => rfl
theorem emb3 (t : Fin cfg0.N) (j : S64x16x64.Idx) : ((cfg0.win 3).blk t).view.emb j = j :=
  same _ _ (win0_3.index t) ((by decide +kernel : ∀ (t : Fin grid0.N) (a : Fin 3), win0_3.index t a = 0) t) fun _ => rfl
theorem emb4 (t : Fin cfg0.N) (j : S64x16x64.Idx) : ((cfg0.win 4).blk t).view.emb j = j :=
  same _ _ (win0_4.index t) ((by decide +kernel : ∀ (t : Fin grid0.N) (a : Fin 3), win0_4.index t a = 0) t) fun _ => rfl
theorem emb5 (t : Fin cfg0.N) (j : S64x1x64.Idx) : ((cfg0.win 5).blk t).view.emb j = j :=
  same _ _ (win0_5.index t) ((by decide +kernel : ∀ (t : Fin grid0.N) (a : Fin 3), win0_5.index t a = 0) t) fun _ => rfl
theorem emb6 (t : Fin cfg0.N) (j : S64x1x64.Idx) : ((cfg0.win 6).blk t).view.emb j = j :=
  same _ _ (win0_6.index t) ((by decide +kernel : ∀ (t : Fin grid0.N) (a : Fin 3), win0_6.index t a = 0) t) fun _ => rfl
theorem emb7 (t : Fin cfg0.N) (j : S64x16x64.Idx) : ((cfg0.win 7).blk t).view.emb j = j :=
  same _ _ (win0_7.index t) ((by decide +kernel : ∀ (t : Fin grid0.N) (a : Fin 3), win0_7.index t a = 0) t) fun _ => rfl
theorem emb8 (t : Fin cfg0.N) (j : S64x16x64.Idx) : ((cfg0.win 8).blk t).view.emb j = j :=
  same _ _ (win0_8.index t) ((by decide +kernel : ∀ (t : Fin grid0.N) (a : Fin 3), win0_8.index t a = 0) t) fun _ => rfl
theorem emb9 (t : Fin cfg0.N) (j : S64x1x64.Idx) : ((cfg0.win 9).blk t).view.emb j = j :=
  same _ _ (win0_9.index t) ((by decide +kernel : ∀ (t : Fin grid0.N) (a : Fin 3), win0_9.index t a = 0) t) fun _ => rfl
theorem emb10 (t : Fin cfg0.N) (j : S64x1x64.Idx) : ((cfg0.win 10).blk t).view.emb j = j :=
  same _ _ (win0_10.index t) ((by decide +kernel : ∀ (t : Fin grid0.N) (a : Fin 3), win0_10.index t a = 0) t) fun _ => rfl
theorem emb11 (t : Fin cfg0.N) (j : S64x1x1.Idx) : ((cfg0.win 11).blk t).view.emb j = j :=
  same _ _ (win0_11.index t) ((by decide +kernel : ∀ (t : Fin grid0.N) (a : Fin 3), win0_11.index t a = 0) t) fun _ => rfl
theorem emb12 (t : Fin cfg0.N) (j : S64x16x64.Idx) : ((cfg0.win 12).blk t).view.emb j = j :=
  same _ _ (win0_12.index t) ((by decide +kernel : ∀ (t : Fin grid0.N) (a : Fin 3), win0_12.index t a = 0) t) fun _ => rfl
theorem emb13 (t : Fin cfg0.N) (j : S64x16x64.Idx) : ((cfg0.win 13).blk t).view.emb j = j :=
  same _ _ (win0_13.index t) ((by decide +kernel : ∀ (t : Fin grid0.N) (a : Fin 3), win0_13.index t a = 0) t) fun _ => rfl

variable (m : (ℓ : Loc nD τ sig) → Buf (Elt Ideal) ℓ) (ρ : Dev nD → PrngReg)

/-- The arguments, and the blocks that the run reads. -/
abbrev arg0 (c : Dev nD) : Vec Ideal S64x1x64 .f32 := m ((c : Thread nD τ).loc main_arg0)
abbrev arg1 (c : Dev nD) : Vec Ideal S64x1x64 .f32 := m ((c : Thread nD τ).loc main_arg1)
abbrev arg2 (c : Dev nD) : Vec Ideal S64x1x1 .f32 := m ((c : Thread nD τ).loc main_arg2)
abbrev arg3 (c : Dev nD) : Vec Ideal S64x16x64 .f32 := m ((c : Thread nD τ).loc main_arg3)
abbrev arg4 (c : Dev nD) : Vec Ideal S64x16x64 .f32 := m ((c : Thread nD τ).loc main_arg4)
abbrev arg5 (c : Dev nD) : Vec Ideal S64x1x64 .f32 := m ((c : Thread nD τ).loc main_arg5)
abbrev arg6 (c : Dev nD) : Vec Ideal S64x1x64 .f32 := m ((c : Thread nD τ).loc main_arg6)
abbrev arg7 (c : Dev nD) : Vec Ideal S64x16x64 .f32 := m ((c : Thread nD τ).loc main_arg7)
abbrev arg8 (c : Dev nD) : Vec Ideal S64x16x64 .f32 := m ((c : Thread nD τ).loc main_arg8)

/-- A function of the nine arguments, at them. -/
abbrev on {α : Type} (f : Vec Ideal S64x1x64 .f32 → Vec Ideal S64x1x64 .f32 → Vec Ideal S64x1x1 .f32 → Vec Ideal S64x16x64 .f32 →
    Vec Ideal S64x16x64 .f32 → Vec Ideal S64x1x64 .f32 → Vec Ideal S64x1x64 .f32 → Vec Ideal S64x16x64 .f32 → Vec Ideal S64x16x64 .f32 → α)
    (c : Dev nD) : α :=
  f (arg0 m c) (arg1 m c) (arg2 m c) (arg3 m c) (arg4 m c) (arg5 m c) (arg6 m c) (arg7 m c) (arg8 m c)

theorem iblk_0 (c : Dev nD) (t : Fin cfg0.N) : iblk m c 0 t = arg0 m c :=
  (funext fun j => congrArg (V m c main_arg0) (emb0 t j)).trans (V_main_arg0 m c)
theorem iblk_1 (c : Dev nD) (t : Fin cfg0.N) : iblk m c 1 t = arg1 m c :=
  (funext fun j => congrArg (V m c main_arg1) (emb1 t j)).trans (V_main_arg1 m c)
theorem iblk_2 (c : Dev nD) (t : Fin cfg0.N) : iblk m c 2 t = arg2 m c :=
  (funext fun j => congrArg (V m c main_arg2) (emb2 t j)).trans (V_main_arg2 m c)
theorem iblk_3 (c : Dev nD) (t : Fin cfg0.N) : iblk m c 3 t = arg3 m c :=
  (funext fun j => congrArg (V m c main_arg3) (emb3 t j)).trans (V_main_arg3 m c)
theorem iblk_4 (c : Dev nD) (t : Fin cfg0.N) : iblk m c 4 t = arg4 m c :=
  (funext fun j => congrArg (V m c main_arg4) (emb4 t j)).trans (V_main_arg4 m c)
theorem iblk_5 (c : Dev nD) (t : Fin cfg0.N) : iblk m c 5 t = arg5 m c :=
  (funext fun j => congrArg (V m c main_arg5) (emb5 t j)).trans (V_main_arg5 m c)
theorem iblk_6 (c : Dev nD) (t : Fin cfg0.N) : iblk m c 6 t = arg6 m c :=
  (funext fun j => congrArg (V m c main_arg6) (emb6 t j)).trans (V_main_arg6 m c)
theorem iblk_7 (c : Dev nD) (t : Fin cfg0.N) : iblk m c 7 t = arg7 m c :=
  (funext fun j => congrArg (V m c main_arg7) (emb7 t j)).trans (V_main_arg7 m c)
theorem iblk_8 (c : Dev nD) (t : Fin cfg0.N) : iblk m c 8 t = arg8 m c :=
  (funext fun j => congrArg (V m c main_arg8) (emb8 t j)).trans (V_main_arg8 m c)

def lastPt : Fin cfg0.N := ⟨0, by decide⟩

/-- What the results hold after the run. -/
theorem final_9 (c : Dev nD) : (dats m 0 c).arrAt 9 cfg0.N = on m out0_9 c :=
  (dats m 0 c).arrAt_eq_of_cover 9 _ (fun t _ => by
    show (cfg0.win 9).cut (grid0.coords t) ((dats m 0 c).after 9 t) = _
    rw [after0_9, iblk_0, iblk_1, iblk_2, iblk_3, iblk_4, iblk_5, iblk_6, iblk_7, iblk_8]
    exact funext fun j => (congrArg (on m out0_9 c) (emb9 t j)).symm)
    fun i => ⟨lastPt, flush0_9 _, by have h := ((cfg0.win 9).blk lastPt).view.emb_mem_set i; rwa [emb9] at h⟩

theorem final_10 (c : Dev nD) : (dats m 0 c).arrAt 10 cfg0.N = on m out0_10 c :=
  (dats m 0 c).arrAt_eq_of_cover 10 _ (fun t _ => by
    show (cfg0.win 10).cut (grid0.coords t) ((dats m 0 c).after 10 t) = _
    rw [after0_10, iblk_0, iblk_1, iblk_2, iblk_3, iblk_4, iblk_5, iblk_6, iblk_7, iblk_8]
    exact funext fun j => (congrArg (on m out0_10 c) (emb10 t j)).symm)
    fun i => ⟨lastPt, flush0_10 _, by have h := ((cfg0.win 10).blk lastPt).view.emb_mem_set i; rwa [emb10] at h⟩

theorem final_11 (c : Dev nD) : (dats m 0 c).arrAt 11 cfg0.N = on m out0_11 c :=
  (dats m 0 c).arrAt_eq_of_cover 11 _ (fun t _ => by
    show (cfg0.win 11).cut (grid0.coords t) ((dats m 0 c).after 11 t) = _
    rw [after0_11, iblk_0, iblk_1, iblk_2, iblk_3, iblk_4, iblk_5, iblk_6, iblk_7, iblk_8]
    exact funext fun j => (congrArg (on m out0_11 c) (emb11 t j)).symm)
    fun i => ⟨lastPt, flush0_11 _, by have h := ((cfg0.win 11).blk lastPt).view.emb_mem_set i; rwa [emb11] at h⟩

theorem final_12 (c : Dev nD) : (dats m 0 c).arrAt 12 cfg0.N = on m out0_12 c :=
  (dats m 0 c).arrAt_eq_of_cover 12 _ (fun t _ => by
    show (cfg0.win 12).cut (grid0.coords t) ((dats m 0 c).after 12 t) = _
    rw [after0_12, iblk_0, iblk_1, iblk_2, iblk_3, iblk_4, iblk_5, iblk_6, iblk_7, iblk_8]
    exact funext fun j => (congrArg (on m out0_12 c) (emb12 t j)).symm)
    fun i => ⟨lastPt, flush0_12 _, by have h := ((cfg0.win 12).blk lastPt).view.emb_mem_set i; rwa [emb12] at h⟩

theorem final_13 (c : Dev nD) : (dats m 0 c).arrAt 13 cfg0.N = on m out0_13 c :=
  (dats m 0 c).arrAt_eq_of_cover 13 _ (fun t _ => by
    show (cfg0.win 13).cut (grid0.coords t) ((dats m 0 c).after 13 t) = _
    rw [after0_13, iblk_0, iblk_1, iblk_2, iblk_3, iblk_4, iblk_5, iblk_6, iblk_7, iblk_8]
    exact funext fun j => (congrArg (on m out0_13 c) (emb13 t j)).symm)
    fun i => ⟨lastPt, flush0_13 _, by have h := ((cfg0.win 13).blk lastPt).view.emb_mem_set i; rwa [emb13] at h⟩

theorem run_grads : θ_run defs (onTc (τ := τ) (main (F := Ideal))) ⟨m, fun _ => 0, ρ⟩ fun r => ∀ c : Dev nD,
      r.2.mem ((c : Thread nD τ).loc main_v0_0) = on m out0_9 c
      ∧ r.2.mem ((c : Thread nD τ).loc main_v0_1) = on m out0_10 c
      ∧ r.2.mem ((c : Thread nD τ).loc main_v0_2) = on m out0_11 c
      ∧ r.2.mem ((c : Thread nD τ).loc main_v0_3) = on m out0_12 c
      ∧ r.2.mem ((c : Thread nD τ).loc main_v0_4) = on m out0_13 c
      ∧ r.2.mem ((c : Thread nD τ).loc main_arg0) = arg0 m c
      ∧ r.2.mem ((c : Thread nD τ).loc main_arg1) = arg1 m c
      ∧ r.2.mem ((c : Thread nD τ).loc main_arg2) = arg2 m c
      ∧ r.2.mem ((c : Thread nD τ).loc main_arg3) = arg3 m c
      ∧ r.2.mem ((c : Thread nD τ).loc main_arg4) = arg4 m c
      ∧ r.2.mem ((c : Thread nD τ).loc main_arg5) = arg5 m c
      ∧ r.2.mem ((c : Thread nD τ).loc main_arg6) = arg6 m c
      ∧ r.2.mem ((c : Thread nD τ).loc main_arg7) = arg7 m c
      ∧ r.2.mem ((c : Thread nD τ).loc main_arg8) = arg8 m c :=
  (θ_run defs _ _).mono (fun r h c => ⟨((h c).1 9).trans (final_9 m c), ((h c).1 10).trans (final_10 m c), ((h c).1 11).trans (final_11 m c), ((h c).1 12).trans (final_12 m c), ((h c).1 13).trans (final_13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.Kernel19Ideal.Value

namespace Cert.Proof

open Idealize.ShloMosaic Idealize.SL.Sem Cert.Disc

set_option smartUnfolding false in
/-- The frames of kernel and reference; the kernel's in floating point is that of its ideal text, proved for every float model. -/
theorem kernel19_frame : Cert.quiescent_Kernel19 := fun m ρ _ => Cert.Kernel19Ideal.Gen.frame (F := Bits) m ρ

theorem kernel19Ideal_frame : Cert.quiescent_Kernel19Ideal := fun m ρ _ => Cert.Kernel19Ideal.Gen.frame m ρ

theorem reference19_frame : Cert.quiescent_Reference19Ideal := fun m ρ _ =>
  (θ_run (Cert.Reference19Ideal.defs (F := Ideal)) _ _).mono
    (fun r h => ⟨fun c => (h c).2.2.2.2.2, sem_eq_zero_of_no_sems rfl r.2⟩) (Cert.Reference19Ideal.Value.run m ρ)

set_option maxHeartbeats 1000000 in
open Cert.Kernel19Ideal.Gen Cert.Kernel19Ideal.Value in
/-- Kernel and reference give the same gradients. -/
theorem algebraic19 : Cert.algebraic_Kernel19Ideal_Reference19Ideal := by
  intro m g m' g' _ hargs
  refine ⟨_, _, _, _, _, Cert.Kernel19Ideal.Value.run_grads m g, ?_⟩
  refine (θ_run (Cert.Reference19Ideal.defs (F := Ideal)) _ _).mono (fun r h c => ?_) (Cert.Reference19Ideal.Value.run m' g')
  obtain ⟨e0, e1, e2, e3, e4, e5, e6, e7, e8⟩ := hargs c
  obtain ⟨h0, h1, h2, h3, h4, hk⟩ := h c
  refine ⟨h0.trans ?_, h1.trans ?_, h2.trans ?_, h3.trans ?_, h4.trans ?_, hk⟩ <;>
  · symm
    simp only [Cert.Reference19Ideal.Value.res_main_v133, Cert.Reference19Ideal.Value.res_main_v125, Cert.Reference19Ideal.Value.res_main_v134,
      e0, e1, e2, e3, e4, e5, e6, e7, e8, on, out0_9, out0_10, out0_11, out0_12, out0_13]
    rw [View.canon_unit_zero hz]
    simp only [View.ld_unit_zero (S := Cert.Kernel19Ideal.S64x1x64) hz, View.ld_unit_zero (S := Cert.Kernel19Ideal.S64x1x1) hz,
      View.ld_unit_zero (S := Cert.Kernel19Ideal.S64x16x64) hz,
      k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
    simp only [spread1 _ _ Cert.Reference19Ideal.Gen.bcast_S64x1x1_S64x1x64_0_1_2,
      spread _ _ Cert.Reference19Ideal.Gen.bcast_S64x1x64_S64x16x64_0_1_2, neg, one Cert.Reference19Ideal.Gen.bcast_S_S64x1x64, (fns _).1, (fns _).2.1, (fns _).2.2.1, (fns _).2.2.2,
      ← sum1, ← sum2]
    all_goals rfl

end Cert.Proof

end
-- ==== Proof.Loss.lean ====
/- The call `loss_head`: the loss of the rows and its gradient, eight runs of 512 rows. -/
module

public import proofs.«01_k».proof.Defs
public import proofs.«01_k».proof.Proof.Norm
public import proofs.«01_k».proof.Proof.Gen.Kernel17
public import proofs.«01_k».proof.Proof.Gen.Kernel17Ideal.Value
public import proofs.«01_k».proof.Proof.Gen.Reference17Ideal.Run
public import Idealize.ShloMosaic.Lib.Tactic
public import Idealize.ShloMosaic.Lib.Pointwise
public import Idealize.ShloMosaic.Lib.Quiescent

@[expose] public section

noncomputable section

namespace Cert.Loss

open Idealize.ShloMosaic Cert.Prod Cert.Norm Idealize.ShloMosaic.Tactic

/-- The constants: one over the number of columns, and a half of it. -/
abbrev inv : EReal := Ideal.ofBits .f32 0x3A800000#32
abbrev inv2 : EReal := Ideal.ofBits .f32 0x3A000000#32

theorem inv_eq : inv = ((1 / 1024 : ℝ) : EReal) := by
  simp [inv, Ideal.ofBits, Ideal.ieee]
  rw [← EReal.coe_mul]; norm_num

theorem inv2_eq : inv2 = ((1 / 2048 : ℝ) : EReal) := by
  simp [inv2, Ideal.ofBits, Ideal.ieee]
  rw [← EReal.coe_mul]; norm_num

theorem half_eq : Ideal.ofBits .f32 0x3F000000#32 = ((1 / 2 : ℝ) : EReal) := by
  simp [Ideal.ofBits, Ideal.ieee]
  rw [← EReal.coe_mul]; norm_num

theorem two_eq : Ideal.ofBits .f32 0x40000000#32 = ((2 : ℝ) : EReal) := by
  simp [Ideal.ofBits, Ideal.ieee]
  rw [← EReal.coe_mul]; norm_num

theorem one_eq : Ideal.ofBits .f32 0x3F800000#32 = ((1 : ℝ) : EReal) := by
  simp [Ideal.ofBits, Ideal.ieee]
  rw [← EReal.coe_mul]; norm_num

/-- The squares of a row, and the two results. -/
def sqRow (y t : Mat 4096 1024) (r : ℕ) : EReal := ∑ k : Fin 1024, (at2 y r k.val - at2 t r k.val) * (at2 y r k.val - at2 t r k.val)

def loss (y t : Mat 4096 1024) : Mat 1 1 := fun _ => (∑ r ∈ Finset.range 4096, sqRow y t r) * inv2

def dLoss (y t : Mat 4096 1024) : Mat 4096 1024 := fun i => (y i - t i) * inv

end Cert.Loss

namespace Cert.Kernel17Ideal.Value

open Cert.Kernel17Ideal Cert.Kernel17Ideal.Gen Cert.Prod Cert.Norm Cert.Loss Idealize.ShloMosaic Idealize.ShloMosaic.TcCoe Idealize.SL.Sem
open Idealize.ShloMosaic.Tactic

theorem hz : (![0, 0] : Fin 2 → Nat) = fun _ => 0 := funext fun a => by fin_cases a <;> rfl

section
variable {F : FTy → Type} [FloatOps F] (c : Dev nD) (i : grid0.Coords) (a1 : Memref sig .tc .vmem S512x1024 .f32) (h1 : a1.IsWhole)
  (a2 : Memref sig .tc .vmem S512x1024 .f32) (h2 : a2.IsWhole) (a3 : Memref sig .tc .vmem S1x1 .f32) (h3 : a3.IsWhole)
  (a4 : Memref sig .tc .vmem S512x1024 .f32) (h4 : a4.IsWhole) (x0 x1 : Vec F S512x1024 .f32) (xo : Vec F S1x1 .f32)

theorem out_A_3 (hc0 : cond0_0 i) (hc1 : ¬cond0_1 i) : out0_A_3 c i a1 h1 a2 h2 a3 h3 a4 h4 hc0 hc1 x0 x1 = k0_pay2 x0 x1 := by
  unfold out0_A_3
  rw [View.read_writes_eq_canon _ _ _ (cover0_A_3 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S512x1024) hz]

theorem out_B_3 (hc0 : ¬cond0_0 i) (hc1 : cond0_1 i) : out0_B_3 c i a1 h1 a2 h2 a3 h3 a4 h4 hc0 hc1 x0 x1 xo = k0_pay2 x0 x1 := by
  unfold out0_B_3
  rw [View.read_writes_eq_canon _ _ _ (cover0_B_3 c i a1 h1 a2 h2 a3 h3 a4 h4 hc0 hc1 x0 x1 xo)]
  unfold kernelRun0_B
  dsimp only
  rw [View.canon_unit_zero hz]
  simp only [View.readAt_eq_ld, h1.read_unread, h2.read_unread, View.ld_unit_zero (S := S512x1024) hz]

theorem out_A_2 (hc0 : cond0_0 i) (hc1 : ¬cond0_1 i) : out0_A_2 c i a1 h1 a2 h2 a3 h3 a4 h4 hc0 hc1 x0 x1 = k0_pay3 x0 x1 := by
  unfold out0_A_2
  rw [View.read_writes_eq_canon _ _ _ (cover0_A_2 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S512x1024) hz]

theorem out_B_2 (hc0 : ¬cond0_0 i) (hc1 : cond0_1 i) : out0_B_2 c i a1 h1 a2 h2 a3 h3 a4 h4 hc0 hc1 x0 x1 xo = k0_pay4 x0 x1 xo := by
  unfold out0_B_2
  rw [View.read_writes_eq_canon _ _ _ (cover0_B_2 c i a1 h1 a2 h2 a3 h3 a4 h4 hc0 hc1 x0 x1 xo)]
  unfold kernelRun0_B
  dsimp only
  rw [View.canon_unit_zero hz]
  simp only [View.readAt_eq_ld, h1.read_unread, h2.read_unread, h3.read_unread, View.ld_unit_zero (S := S512x1024) hz, View.ld_unit_zero (S := S1x1) hz]

end

variable (x0 x1 : Vec Ideal S512x1024 .f32)

theorem pay2_at (p : Fin 512) (q : Fin 1024) : k0_pay2 x0 x1 (ix2 p q) = ((x0 (ix2 p q) - x1 (ix2 p q)) * inv : EReal) := by
  pointwise [k0_pay2, k0_pay1]

theorem pay3_at : k0_pay3 x0 x1 (ix2 0 0)
    = ((∑ p : Fin 512, ∑ k : Fin 1024, (x0 (ix2 p k) - x1 (ix2 p k)) * (x0 (ix2 p k) - x1 (ix2 p k))) * inv2 : EReal) := by
  pointwise [k0_pay3, k0_pay1]

theorem pay4_at (a : Vec Ideal S1x1 .f32) : k0_pay4 x0 x1 a (ix2 0 0) = (a (ix2 0 0) + k0_pay3 x0 x1 (ix2 0 0) : EReal) := by
  pointwise [k0_pay4]

variable (m : (ℓ : Loc nD τ sig) → Buf (Elt Ideal) ℓ) (ρ : Dev nD → PrngReg)

/-- The last layer's output and the target. -/
abbrev argY (c : Dev nD) : S4096x1024.Idx → EReal := m ((c : Thread nD τ).loc main_arg0)
abbrev argT (c : Dev nD) : S4096x1024.Idx → EReal := m ((c : Thread nD τ).loc main_arg1)

/-- Where the windows stand at a grid point. -/
theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = t.val ∧ win0_3.index t 1 = 0 := by decide +kernel

theorem iblk_0 (c : Dev nD) (t : Fin cfg0.N) (p : Fin 512) (k : Fin 1024) :
    (iblk m c 0 t : Vec Ideal S512x1024 .f32) (ix2 p k) = at2 (argY m c) (t.val * 512 + p.val) k.val := by
  obtain ⟨e0, e1⟩ := index_0 t
  unfold iblk
  rw [View.read_apply]
  refine at2_idx (argY m c) _ _ _ ?_ ?_
  · show win0_0.index t 0 * 512 + 1 * p.val = _; rw [e0, one_mul]
  · show win0_0.index t 1 * 1024 + 1 * k.val = _; rw [e1, one_mul, zero_mul, zero_add]

theorem iblk_1 (c : Dev nD) (t : Fin cfg0.N) (p : Fin 512) (k : Fin 1024) :
    (iblk m c 1 t : Vec Ideal S512x1024 .f32) (ix2 p k) = at2 (argT m c) (t.val * 512 + p.val) k.val := by
  obtain ⟨e0, e1⟩ := index_1 t
  unfold iblk
  rw [View.read_apply]
  refine at2_idx (argT m c) _ _ _ ?_ ?_
  · show win0_1.index t 0 * 512 + 1 * p.val = _; rw [e0, one_mul]
  · show win0_1.index t 1 * 1024 + 1 * k.val = _; rw [e1, one_mul, zero_mul, zero_add]

def term (c : Dev nD) (l : ℕ) : EReal := (∑ j ∈ Finset.range 512, sqRow (argY m c) (argT m c) (l * 512 + j)) * inv2

theorem pay3_blk (c : Dev nD) (t : Fin cfg0.N) : k0_pay3 (iblk m c 0 t) (iblk m c 1 t) (ix2 0 0) = term m c t.val := by
  refine (pay3_at _ _).trans (congrArg (fun z : EReal => (z * inv2 : EReal)) ?_)
  rw [Finset.sum_range]
  unfold sqRow
  refine Finset.sum_congr rfl fun p _ => Finset.sum_congr rfl fun k _ => ?_
  rw [iblk_0, iblk_1]

/-- What the loss's block holds after a point: the sum over the rows so far. -/
theorem acc_at (c : Dev nD) : ∀ (n : ℕ) (h : n < cfg0.N), (outsAt0 m c n h).1 (ix2 0 0) = (∑ l ∈ Finset.range (n + 1), term m c l : EReal) := by
  intro n
  induction n with
  | zero =>
    intro h
    rw [outsAt0_A m c ⟨0, h⟩ rfl (by dsimp only; omega)]
    dsimp only
    rw [out_A_2, pay3_blk]
    simp
  | succ n ih =>
    intro h
    have hN : n + 1 < 8 := lt_of_lt_of_eq h (show cfg0.N = 8 from N_0)
    rw [outsAt0_B m c ⟨n + 1, h⟩ (by dsimp only; omega) (by dsimp only; omega)]
    dsimp only
    rw [out_B_2, pay4_at, pay3_blk]
    show ((outsAt0 m c n _).1 (ix2 0 0) + _ : EReal) = _
    rw [ih, Finset.sum_range_succ _ (n + 1)]

theorem mul_sum_inv2 {ι : Type} (s : Finset ι) (f : ι → EReal) : ∑ l ∈ s, f l * inv2 = (∑ l ∈ s, f l) * inv2 := by
  rw [inv2_eq, mul_comm, real_mul_sum s _ (by norm_num)]
  exact Finset.sum_congr rfl fun l _ => mul_comm _ _

theorem flushed_3 (c : Dev nD) (t : Fin cfg0.N) (hf : (cfg0.win 3).flush t = true) :
    (dats m 0 c).flushed 3 t = ((cfg0.win 3).blk t).view.read (Elt Ideal) (dLoss (argY m c) (argT m c)) := by
  have e : (dats m 0 c).flushed 3 t = (cfg0.win 3).cut (grid0.coords t) (k0_pay2 (iblk m c 0 t) (iblk m c 1 t)) := by
    by_cases h : t.val = 0
    · rw [flushed3_A m c t (by omega) (by omega), out_A_3]
    · have hN : t.val < 8 := lt_of_lt_of_eq t.isLt (show cfg0.N = 8 from N_0)
      rw [flushed3_B m c t (by omega) (by omega), out_B_3]
  rw [e]
  obtain ⟨e0, e1⟩ := index_3 t
  funext y
  obtain ⟨p, q, hy⟩ : ∃ (p : Fin 512) (q : Fin 1024), (cfg0.win 3).xinj (grid0.coords t) y = ix2 p q :=
    ⟨_, _, (ix2_eta (n0 := 512) (n1 := 1024) _).symm⟩
  rw [View.read_apply]
  show k0_pay2 _ _ ((cfg0.win 3).xinj (grid0.coords t) y) = _
  have h0 : (((cfg0.win 3).blk t).view.emb y 0).val = t.val * 512 + p.val := by
    have : (y 0).val = p.val := congrArg (fun j : S512x1024.Idx => (j 0).val) hy
    show win0_3.index t 0 * 512 + 1 * (y 0).val = _; rw [e0, this, one_mul]
  have h1 : (((cfg0.win 3).blk t).view.emb y 1).val = q.val := by
    have : (y 1).val = q.val := congrArg (fun j : S512x1024.Idx => (j 1).val) hy
    show win0_3.index t 1 * 1024 + 1 * (y 1).val = _; rw [e1, this, one_mul, zero_mul, zero_add]
  rw [hy, pay2_at, iblk_0, iblk_1]
  exact congrArg₂ (fun a b : EReal => ((a - b) * inv : EReal)) (at2_idx (argY m c) _ _ _ h0 h1).symm (at2_idx (argT m c) _ _ _ h0 h1).symm

/-- The point that writes an index of the gradient back. -/
def pointOf (i : S4096x1024.Idx) : Fin cfg0.N := ⟨(i 0).val / 512, lt_of_lt_of_eq (by
  have h0 : (i 0).val < 4096 := (i 0).isLt
  omega) N_0.symm⟩

theorem covered_3 (i : S4096x1024.Idx) : i ∈ ((cfg0.win 3).blk (pointOf i)).view.set := by
  show i ∈ ((View.whole main_v0_1).slice (win0_3.rect (pointOf i))).set
  rw [View.set_slice_whole, Rect.mem_set_unit]
  obtain ⟨e0, e1⟩ := index_3 (pointOf i)
  have h0 : (i 0).val < 4096 := (i 0).isLt
  have h1 : (i 1).val < 1024 := (i 1).isLt
  have hv : (pointOf i).val = (i 0).val / 512 := rfl
  intro a
  match a with
  | ⟨0, _⟩ =>
    show win0_3.index (pointOf i) 0 * 512 ≤ (i 0).val ∧ (i 0).val < win0_3.index (pointOf i) 0 * 512 + 512
    rw [e0, hv]; omega
  | ⟨1, _⟩ =>
    show win0_3.index (pointOf i) 1 * 1024 ≤ (i 1).val ∧ (i 1).val < win0_3.index (pointOf i) 1 * 1024 + 1024
    rw [e1]; omega

theorem flushed_2 (c : Dev nD) (t : Fin cfg0.N) (hf : (cfg0.win 2).flush t = true) :
    (dats m 0 c).flushed 2 t = ((cfg0.win 2).blk t).view.read (Elt Ideal) (loss (argY m c) (argT m c)) := by
  have hN : t.val < 8 := lt_of_lt_of_eq t.isLt (show cfg0.N = 8 from N_0)
  have hm : t.val % 8 = 7 := (flush0_2 t).mp hf
  rw [flushed2]
  funext y
  rw [View.read_apply]
  show (outsAt0 m c t.val t.isLt).1 ((cfg0.win 2).xinj (grid0.coords t) y) = _
  have hy : (cfg0.win 2).xinj (grid0.coords t) y = ix2 0 0 := (ix2_eta (n0 := 1) (n1 := 1) _).symm.trans
    (congrArg₂ (fun p q : Fin 1 => ix2 p q) (Subsingleton.elim _ _) (Subsingleton.elim _ _))
  rw [hy, acc_at, show t.val + 1 = 8 by omega]
  unfold term loss
  rw [mul_sum_inv2]
  exact congrArg (fun z : EReal => (z * inv2 : EReal)) (sum_runs (sqRow (argY m c) (argT m c)) 8 512 (by norm_num)).symm

/-- The point that writes the loss back. -/
def lastPt : Fin cfg0.N := ⟨7, lt_of_lt_of_eq (by norm_num) N_0.symm⟩

theorem covered_2 (i : S1x1.Idx) : i ∈ ((cfg0.win 2).blk lastPt).view.set := by
  show i ∈ ((View.whole main_v0_0).slice (win0_2.rect lastPt)).set
  rw [View.set_slice_whole, Rect.mem_set_unit]
  obtain ⟨e0, e1⟩ := index_2 lastPt
  have h0 : (i 0).val < 1 := (i 0).isLt
  have h1 : (i 1).val < 1 := (i 1).isLt
  intro a
  match a with
  | ⟨0, _⟩ =>
    show win0_2.index lastPt 0 * 1 ≤ (i 0).val ∧ (i 0).val < win0_2.index lastPt 0 * 1 + 1
    rw [e0]; omega
  | ⟨1, _⟩ =>
    show win0_2.index lastPt 1 * 1 ≤ (i 1).val ∧ (i 1).val < win0_2.index lastPt 1 * 1 + 1
    rw [e1]; omega

/-- The kernel's results are the loss and its gradient. -/
theorem run_loss : θ_run defs (onTc (τ := τ) (main (F := Ideal))) ⟨m, fun _ => 0, ρ⟩ fun r => ∀ c : Dev nD,
      r.2.mem ((c : Thread nD τ).loc main_v0_0) = loss (argY m c) (argT m c)
      ∧ r.2.mem ((c : Thread nD τ).loc main_v0_1) = dLoss (argY m c) (argT m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
    (h c).1.trans ((dats m 0 c).arrAt_eq_of_cover 2 _ (flushed_2 m c) fun i => ⟨lastPt, (flush0_2 lastPt).mpr rfl, covered_2 i⟩),
    (h c).2.1.trans ((dats m 0 c).arrAt_eq_of_cover 3 _ (flushed_3 m c) fun i => ⟨pointOf i, flush0_3 _, covered_3 i⟩),
    (h c).2.2⟩) (run_blocks m ρ)

end Cert.Kernel17Ideal.Value

namespace Cert.Reference17Ideal.Value

open Cert.Reference17Ideal Cert.Reference17Ideal.Gen Cert.Prod Cert.Norm Cert.Loss Idealize.ShloMosaic Idealize.ShloMosaic.TcCoe
open Idealize.ShloMosaic.Tactic

variable (y t : FVec Ideal S4096x1024 .f32)

/-- The reference's results. -/
def L : FVec Ideal S1x1 .f32 :=
  shapeCast _ (mulf (constant S_ .f32 0x3F000000#32) (Host.reduceAdd (Host.divf (Host.reduceAdd (mulf (subf y t) (subf y t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1

def D : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf y t))

theorem D_eq : D y t = dLoss y t := by
  refine mat_ext fun p q => ?_
  have h : D y t (ix2 p q) = (Ideal.div (Ideal.ofBits .f32 0x3F000000#32 * Ideal.ofBits .f32 0x3F800000#32) width
      * (Ideal.ofBits .f32 0x40000000#32 * (y (ix2 p q) - t (ix2 p q))) : EReal) := by
    pointwise [D]
  rw [h, width_eq, Ideal.div_coe (by norm_num), half_eq, one_eq, two_eq, ← mul_assoc, ← EReal.coe_mul, ← EReal.coe_mul, ← EReal.coe_mul, mul_comm]
  unfold dLoss
  rw [inv_eq]
  norm_num

theorem L_eq : L y t = loss y t := by
  refine mat_ext fun p q => ?_
  rw [Subsingleton.elim p 0, Subsingleton.elim q 0]
  have h : L y t (ix2 0 0) = (Ideal.ofBits .f32 0x3F000000#32
      * ∑ r : Fin 4096, Ideal.div (∑ k : Fin 1024, (y (ix2 r k) - t (ix2 r k)) * (y (ix2 r k) - t (ix2 r k))) width : EReal) := by
    pointwise [L]
  rw [h, width_eq, half_eq]
  simp only [Ideal.div_coe (show (1024 : ℝ) ≠ 0 by norm_num)]
  unfold loss
  rw [Finset.sum_range, real_mul_sum _ _ (by norm_num), inv2_eq, mul_comm (∑ _, _), real_mul_sum _ _ (by norm_num)]
  refine Finset.sum_congr rfl fun r _ => ?_
  rw [mul_comm (∑ _, _), ← mul_assoc, ← EReal.coe_mul]
  unfold sqRow
  refine congrArg₂ (· * · : EReal → EReal → EReal) (congrArg _ (by norm_num)) (Finset.sum_congr rfl fun k _ => ?_)
  rw [at2_fin, at2_fin]

end Cert.Reference17Ideal.Value

namespace Cert.Proof

open Idealize.ShloMosaic Idealize.SL.Sem Cert.Loss

set_option smartUnfolding false in
/-- The frames of kernel and reference; the kernel's in floating point is that of its ideal text, proved for every float model. -/
theorem kernel17_frame : Cert.quiescent_Kernel17 := fun m ρ _ => Cert.Kernel17Ideal.Gen.frame (F := Bits) m ρ

theorem kernel17Ideal_frame : Cert.quiescent_Kernel17Ideal := fun m ρ _ => Cert.Kernel17Ideal.Gen.frame m ρ

theorem reference17_frame : Cert.quiescent_Reference17Ideal := fun m ρ _ =>
  (θ_run (Cert.Reference17Ideal.defs (F := Ideal)) _ _).mono
    (fun r h => ⟨fun c => (h c).2.2, sem_eq_zero_of_no_sems rfl r.2⟩) (Cert.Reference17Ideal.Value.run m ρ)

/-- Kernel and reference give the same loss and the same gradient. -/
theorem algebraic17 : Cert.algebraic_Kernel17Ideal_Reference17Ideal := by
  intro m g m' g' _ hargs
  refine ⟨_, _, Cert.Kernel17Ideal.Value.run_loss m g, ?_⟩
  refine (θ_run (Cert.Reference17Ideal.defs (F := Ideal)) _ _).mono (fun r h c => ⟨?_, ?_, (h c).2.2⟩) (Cert.Reference17Ideal.Value.run m' g')
  all_goals obtain ⟨e0, e1⟩ := hargs c
  · refine (h c).1.trans ((Cert.Reference17Ideal.Value.L_eq _ _).trans ?_)
    rw [e0, e1]
  · refine (h c).2.1.trans ((Cert.Reference17Ideal.Value.D_eq _ _).trans ?_)
    rw [e0, e1]

end Cert.Proof

end
-- ==== Proof.lean ====
/- The proof of the certificate's claims. The kernel's loop and the reference's loop both compute, chunk by chunk from the last
   to the first, the gradient that Proof/Spec.lean and Proof/Data.lean write in real numbers; here the two runs are put
   together. The products, the norms, the gates and the gelu are proved each in modules of their own. -/
module

public import proofs.«01_k».proof.Defs
public import proofs.«01_k».proof.Proof.Frames
public import proofs.«01_k».proof.Proof.Finite
public import proofs.«01_k».proof.Proof.KerRun
public import proofs.«01_k».proof.Proof.RefData
public import proofs.«01_k».proof.Proof.OutF
public import proofs.«01_k».proof.Proof.MergeF
public import proofs.«01_k».proof.Proof.NormFwd
public import proofs.«01_k».proof.Proof.NormSkip
public import proofs.«01_k».proof.Proof.MergeFwd
public import proofs.«01_k».proof.Proof.Gelu
public import proofs.«01_k».proof.Proof.DiscB
public import proofs.«01_k».proof.Proof.Disc
public import proofs.«01_k».proof.Proof.Loss

@[expose] public section

set_option maxRecDepth 16384

noncomputable section

namespace Cert.Proof

open Idealize.ShloMosaic Idealize.ShloMosaic.Tactic Idealize.SL.Sem
open Cert.Spec Cert.KernelIdeal

/-- Two arrays of 4096 rows and 1024 columns are equal when they agree at every chunk, head, row and column. -/
theorem rows_ext {x y : Vec Ideal S4096x1024 .f32}
    (h : ∀ (n : Fin 64) (k : Fin 8) (i : Fin 64) (d : Fin 128), x (ix2 (rowOf n i) (colOf k d)) = y (ix2 (rowOf n i) (colOf k d))) : x = y := by
  funext j
  rw [← ix2_eta (n0 := 4096) (n1 := 1024) j]
  generalize (j 0 : Fin 4096) = r, (j 1 : Fin 1024) = s
  obtain ⟨n, i, rfl⟩ := exists_row r
  obtain ⟨k, d, rfl⟩ := exists_col s
  exact h n k i d

theorem scal_ext {x y : Vec Ideal S8x64x64 .f32}
    (h : ∀ (n : Fin 64) (k : Fin 8) (i : Fin 64), x (ix3 k n i) = y (ix3 k n i)) : x = y := by
  funext j
  rw [← ix3_eta (n0 := 8) (n1 := 64) (n2 := 64) j]
  exact h (j 1) (j 0) (j 2)

/-- Arrays that hold the kernel's results and arrays that hold the reference's are the same. -/
theorem same {D : Data} {a b c a' b' c' : Vec Ideal S4096x1024 .f32} {d e d' e' : Vec Ideal S8x64x64 .f32}
    (K : Cert.KernelIdeal.Gen.Hold D a b c d e) (R : Cert.RefValue.Hold D a' b' c' d' e') :
    a = a' ∧ b = b' ∧ c = c' ∧ d = d' ∧ e = e' :=
  ⟨rows_ext fun n h i j => (K.dq n h i j).trans (R.dq n h i j).symm, rows_ext fun n h i j => (K.dk n h i j).trans (R.dk n h i j).symm,
    rows_ext fun n h i j => (K.dv n h i j).trans (R.dv n h i j).symm, scal_ext fun n h i => (K.dg n h i).trans (R.dg n h i).symm,
    scal_ext fun n h i => (K.db n h i).trans (R.db n h i).symm⟩

theorem algebraic : Cert.algebraic_KernelIdeal_ReferenceIdeal_pre_finite := by
  intro m g m' g' hpre hargs
  have hall := fun c => Cert.Finite.all _ _ _ _ _ _ _ _ _ _ (hpre c)
  let D : Dev nD → Data := fun c => Cert.Finite.data
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))
  have hK : ∀ c : Dev nD, (Cert.KernelIdeal.Gen.argsOf m c).Are (D c) := fun c =>
    { q := fun _ _ _ _ => (hall c).a0 _
      k := fun _ _ _ _ => (hall c).a1 _
      v := fun _ _ _ _ => (hall c).a2 _
      g := fun _ _ _ => (hall c).a3 _
      b := fun _ _ _ => (hall c).a4 _
      s := fun _ _ _ _ => (hall c).a5 _
      T := fun _ _ _ _ => (hall c).a6 _
      u := fun _ _ _ _ => (hall c).a7 _
      w := fun _ _ _ _ => (hall c).a8 _
      o := fun _ _ _ _ => (hall c).a9 _ }
  have hR : ∀ c : Dev nD, Cert.RefValue.Hold (D c) (Cert.ReferenceIdeal.Step.R_main_v24 (Cert.RefRun.stateAt m' c 64))
      (Cert.ReferenceIdeal.Step.R_main_v26 (Cert.RefRun.stateAt m' c 64)) (Cert.ReferenceIdeal.Step.R_main_v28 (Cert.RefRun.stateAt m' c 64))
      (Cert.ReferenceIdeal.Step.R_main_v29 (Cert.RefRun.stateAt m' c 64)) (Cert.ReferenceIdeal.Step.R_main_v30 (Cert.RefRun.stateAt m' c 64)) :=
    fun c => by
      obtain ⟨e0, e1, e2, e3, e4, e5, e6, e7, e8, e9⟩ := hargs c
      refine (Cert.RefValue.Args.reached m' c (D := D c) ?_ 64 (le_refl _)).hold
      exact
        { q := fun _ _ _ _ => (congrFun e0 _).trans ((hall c).a0 _)
          k := fun _ _ _ _ => (congrFun e1 _).trans ((hall c).a1 _)
          v := fun _ _ _ _ => (congrFun e2 _).trans ((hall c).a2 _)
          g := fun _ _ _ => (congrFun e3 _).trans ((hall c).a3 _)
          b := fun _ _ _ => (congrFun e4 _).trans ((hall c).a4 _)
          s := fun _ _ _ _ => (congrFun e5 _).trans ((hall c).a5 _)
          T := fun _ _ _ _ => (congrFun e6 _).trans ((hall c).a6 _)
          u := fun _ _ _ _ => (congrFun e7 _).trans ((hall c).a7 _)
          w := fun _ _ _ _ => (congrFun e8 _).trans ((hall c).a8 _)
          o := fun _ _ _ _ => (congrFun e9 _).trans ((hall c).a9 _) }
  refine ⟨fun c => Cert.ReferenceIdeal.Step.R_main_v24 (Cert.RefRun.stateAt m' c 64), fun c => Cert.ReferenceIdeal.Step.R_main_v26 (Cert.RefRun.stateAt m' c 64),
    fun c => Cert.ReferenceIdeal.Step.R_main_v28 (Cert.RefRun.stateAt m' c 64), fun c => Cert.ReferenceIdeal.Step.R_main_v29 (Cert.RefRun.stateAt m' c 64),
    fun c => Cert.ReferenceIdeal.Step.R_main_v30 (Cert.RefRun.stateAt m' c 64), ?_, ?_⟩
  · refine (θ_run (Cert.KernelIdeal.defs (F := Ideal)) _ _).mono (fun r h c => ?_) (Cert.KernelIdeal.Gen.run_results m g)
    obtain ⟨a0, a1, a2, a3, a4, a5, a6, a7, a8, a9, hr⟩ := h.1 c
    obtain ⟨r0, r1, r2, r3, r4⟩ := same (Cert.KernelIdeal.Gen.Results.hold (hK c) hr) (hR c)
    exact ⟨r0, r1, r2, r3, r4, a0, a1, a2, a3, a4, a5, a6, a7, a8, a9⟩
  · exact Cert.RefRun.run m' g'

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Finite.facts, Cert.FiniteGates.facts,
    kernel_frame, kernelIdeal_frame, fun m ρ _ => kernelIdeal_frame m ρ trivial, reference_frame, fun m ρ _ => reference_frame m ρ trivial,
    kernel2_frame, kernel2Ideal_frame, reference2_frame,
    kernel3_frame, kernel3Ideal_frame, reference3_frame,
    kernel4_frame, kernel4Ideal_frame, reference4_frame,
    kernel5_frame, kernel5Ideal_frame, reference5_frame,
    kernel6_frame, kernel6Ideal_frame, reference6_frame,
    kernel7_frame, kernel7Ideal_frame, reference7_frame,
    kernel8_frame, kernel8Ideal_frame, reference8_frame,
    kernel9_frame, kernel9Ideal_frame, reference9_frame,
    kernel10_frame, kernel10Ideal_frame, reference10_frame,
    kernel11_frame, kernel11Ideal_frame, reference11_frame,
    kernel12_frame, kernel12Ideal_frame, fun m ρ _ => kernel12Ideal_frame m ρ trivial, reference12_frame,
    fun m ρ _ => reference12_frame m ρ trivial,
    kernel13_frame, kernel13Ideal_frame, reference13_frame,
    kernel14_frame, kernel14Ideal_frame, reference14_frame,
    kernel15_frame, kernel15Ideal_frame, reference15_frame,
    kernel16_frame, kernel16Ideal_frame, reference16_frame,
    kernel17_frame, kernel17Ideal_frame, reference17_frame,
    kernel18_frame, kernel18Ideal_frame, reference18_frame,
    kernel19_frame, kernel19Ideal_frame, reference19_frame,
    trivial, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19⟩

end Cert.Proof

end
